-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_GwDownRefIdeal (m : (ℓ : Loc Cert.GwDownRefIdeal.nD Cert.GwDownRefIdeal.τ Cert.GwDownRefIdeal.sig) → Buf (Elt Ideal) ℓ) : Prop :=
  True

def Pre_GwUp (m : (ℓ : Loc Cert.GwUp.nD Cert.GwUp.τ Cert.GwUp.sig) → Buf (Elt Bits) ℓ) : Prop :=
  True

def Pre_GwUpIdeal (m : (ℓ : Loc Cert.GwUpIdeal.nD Cert.GwUpIdeal.τ Cert.GwUpIdeal.sig) → Buf (Elt Ideal) ℓ) : Prop :=
  True

def Pre_GwUpRefIdeal (m : (ℓ : Loc Cert.GwUpRefIdeal.nD Cert.GwUpRefIdeal.τ Cert.GwUpRefIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInRefIdeal (m : (ℓ : Loc Cert.GwInRefIdeal.nD Cert.GwInRefIdeal.τ Cert.GwInRefIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutRefIdeal (m : (ℓ : Loc Cert.GwOutRefIdeal.nD Cert.GwOutRefIdeal.τ Cert.GwOutRefIdeal.sig) → Buf (Elt Ideal) ℓ) : Prop :=
  True

def Pre_GwBna (m : (ℓ : Loc Cert.GwBna.nD Cert.GwBna.τ Cert.GwBna.sig) → Buf (Elt Bits) ℓ) : Prop :=
  True

def Pre_GwBnaIdeal (m : (ℓ : Loc Cert.GwBnaIdeal.nD Cert.GwBnaIdeal.τ Cert.GwBnaIdeal.sig) → Buf (Elt Ideal) ℓ) : Prop :=
  True

def Pre_GwBnaRefIdeal (m : (ℓ : Loc Cert.GwBnaRefIdeal.nD Cert.GwBnaRefIdeal.τ Cert.GwBnaRefIdeal.sig) → Buf (Elt Ideal) ℓ) : Prop :=
  True

def Pre_GwBd (m : (ℓ : Loc Cert.GwBd.nD Cert.GwBd.τ Cert.GwBd.sig) → Buf (Elt Bits) ℓ) : Prop :=
  True

def Pre_GwBdIdeal (m : (ℓ : Loc Cert.GwBdIdeal.nD Cert.GwBdIdeal.τ Cert.GwBdIdeal.sig) → Buf (Elt Ideal) ℓ) : Prop :=
  True

def Pre_GwBdRefIdeal (m : (ℓ : Loc Cert.GwBdRefIdeal.nD Cert.GwBdRefIdeal.τ Cert.GwBdRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Dc (m : (ℓ : Loc Cert.Dc.nD Cert.Dc.τ Cert.Dc.sig) → Buf (Elt Bits) ℓ) : Prop :=
  True

def Pre_DcIdeal (m : (ℓ : Loc Cert.DcIdeal.nD Cert.DcIdeal.τ Cert.DcIdeal.sig) → Buf (Elt Ideal) ℓ) : Prop :=
  True

def Pre_DcRefIdeal (m : (ℓ : Loc Cert.DcRefIdeal.nD Cert.DcRefIdeal.τ Cert.DcRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_GwPg (m : (ℓ : Loc Cert.GwPg.nD Cert.GwPg.τ Cert.GwPg.sig) → Buf (Elt Bits) ℓ) : Prop :=
  True

def Pre_GwPgIdeal (m : (ℓ : Loc Cert.GwPgIdeal.nD Cert.GwPgIdeal.τ Cert.GwPgIdeal.sig) → Buf (Elt Ideal) ℓ) : Prop :=
  True

def Pre_GwPgRefIdeal (m : (ℓ : Loc Cert.GwPgRefIdeal.nD Cert.GwPgRefIdeal.τ Cert.GwPgRefIdeal.sig) → Buf (Elt Ideal) ℓ) : Prop :=
  True

def Pre_GwPp (m : (ℓ : Loc Cert.GwPp.nD Cert.GwPp.τ Cert.GwPp.sig) → Buf (Elt Bits) ℓ) : Prop :=
  True

def Pre_GwPpIdeal (m : (ℓ : Loc Cert.GwPpIdeal.nD Cert.GwPpIdeal.τ Cert.GwPpIdeal.sig) → Buf (Elt Ideal) ℓ) : Prop :=
  True

def Pre_GwPpRefIdeal (m : (ℓ : Loc Cert.GwPpRefIdeal.nD Cert.GwPpRefIdeal.τ Cert.GwPpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_finite_logsums [hPre_finite_logsums : Cert.Pre_finite_logsums.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_finite_logsums.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))) = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_finite_logsums [hPre_finite_logsums : Cert.Pre_finite_logsums.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_finite_logsums.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1)
      ∧ r.2.mem ((c.tc : Thread Cert.DuRefIdeal.nD Cert.DuRefIdeal.τ).loc Cert.DuRefIdeal.main_arg2) = m ((c.tc : Thread Cert.DuRefIdeal.nD Cert.DuRefIdeal.τ).loc Cert.DuRefIdeal.main_arg2))
      ∧ r.2.sem = fun _ => 0)

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_GwDownRefIdeal [hGwDownRefIdeal : Cert.GwDownRefIdeal.Facts] : Prop :=
  ∀ (m : (ℓ : Loc Cert.GwDownRefIdeal.nD Cert.GwDownRefIdeal.τ Cert.GwDownRefIdeal.sig) → Buf (Elt Ideal) ℓ) (g : Dev Cert.GwDownRefIdeal.nD → PrngReg), Pre_GwDownRefIdeal m →
    θ_run (Cert.GwDownRefIdeal.defs (F := Ideal)) (onTc (τ := Cert.GwDownRefIdeal.τ) (Cert.GwDownRefIdeal.main (F := Ideal))) ⟨m, fun _ => 0, g⟩ (fun r => (∀ c : Dev Cert.GwDownRefIdeal.nD,
      r.2.mem ((c.tc : Thread Cert.GwDownRefIdeal.nD Cert.GwDownRefIdeal.τ).loc Cert.GwDownRefIdeal.main_arg0) = m ((c.tc : Thread Cert.GwDownRefIdeal.nD Cert.GwDownRefIdeal.τ).loc Cert.GwDownRefIdeal.main_arg0)
      ∧ r.2.mem ((c.tc : Thread Cert.GwDownRefIdeal.nD Cert.GwDownRefIdeal.τ).loc Cert.GwDownRefIdeal.main_arg1) = m ((c.tc : Thread Cert.GwDownRefIdeal.nD Cert.GwDownRefIdeal.τ).loc Cert.GwDownRefIdeal.main_arg1))
      ∧ r.2.sem = fun _ => 0)

def quiescent_GwUp [hGwUp : Cert.GwUp.Facts] : Prop :=
  ∀ (m : (ℓ : Loc Cert.GwUp.nD Cert.GwUp.τ Cert.GwUp.sig) → Buf (Elt Bits) ℓ) (g : Dev Cert.GwUp.nD → PrngReg), Pre_GwUp m →
    θ_run (Cert.GwUp.defs (F := Bits)) (onTc (τ := Cert.GwUp.τ) (Cert.GwUp.main (F := Bits))) ⟨m, fun _ => 0, g⟩ (fun r => (∀ c : Dev Cert.GwUp.nD,
      r.2.mem ((c.tc : Thread Cert.GwUp.nD Cert.GwUp.τ).loc Cert.GwUp.main_arg0) = m ((c.tc : Thread Cert.GwUp.nD Cert.GwUp.τ).loc Cert.GwUp.main_arg0)
      ∧ r.2.mem ((c.tc : Thread Cert.GwUp.nD Cert.GwUp.τ).loc Cert.GwUp.main_arg1) = m ((c.tc : Thread Cert.GwUp.nD Cert.GwUp.τ).loc Cert.GwUp.main_arg1))
      ∧ r.2.sem = fun _ => 0)

def quiescent_GwUpIdeal [hGwUpIdeal : Cert.GwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg), Pre_GwUpIdeal m →
    θ_run (Cert.GwUpIdeal.defs (F := Ideal)) (onTc (τ := Cert.GwUpIdeal.τ) (Cert.GwUpIdeal.main (F := Ideal))) ⟨m, fun _ => 0, g⟩ (fun r => (∀ c : Dev Cert.GwUpIdeal.nD,
      r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
      ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ r.2.sem = fun _ => 0)

def quiescent_GwUpRefIdeal [hGwUpRefIdeal : Cert.GwUpRefIdeal.Facts] : Prop :=
  ∀ (m : (ℓ : Loc Cert.GwUpRefIdeal.nD Cert.GwUpRefIdeal.τ Cert.GwUpRefIdeal.sig) → Buf (Elt Ideal) ℓ) (g : Dev Cert.GwUpRefIdeal.nD → PrngReg), Pre_GwUpRefIdeal m →
    θ_run (Cert.GwUpRefIdeal.defs (F := Ideal)) (onTc (τ := Cert.GwUpRefIdeal.τ) (Cert.GwUpRefIdeal.main (F := Ideal))) ⟨m, fun _ => 0, g⟩ (fun r => (∀ c : Dev Cert.GwUpRefIdeal.nD,
      r.2.mem ((c.tc : Thread Cert.GwUpRefIdeal.nD Cert.GwUpRefIdeal.τ).loc Cert.GwUpRefIdeal.main_arg0) = m ((c.tc : Thread Cert.GwUpRefIdeal.nD Cert.GwUpRefIdeal.τ).loc Cert.GwUpRefIdeal.main_arg0)
      ∧ r.2.mem ((c.tc : Thread Cert.GwUpRefIdeal.nD Cert.GwUpRefIdeal.τ).loc Cert.GwUpRefIdeal.main_arg1) = m ((c.tc : Thread Cert.GwUpRefIdeal.nD Cert.GwUpRefIdeal.τ).loc Cert.GwUpRefIdeal.main_arg1))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInRefIdeal [hGwInRefIdeal : Cert.GwInRefIdeal.Facts] : Prop :=
  ∀ (m : (ℓ : Loc Cert.GwInRefIdeal.nD Cert.GwInRefIdeal.τ Cert.GwInRefIdeal.sig) → Buf (Elt Ideal) ℓ) (g : Dev Cert.GwInRefIdeal.nD → PrngReg), Pre_GwInRefIdeal m →
    θ_run (Cert.GwInRefIdeal.defs (F := Ideal)) (onTc (τ := Cert.GwInRefIdeal.τ) (Cert.GwInRefIdeal.main (F := Ideal))) ⟨m, fun _ => 0, g⟩ (fun r => (∀ c : Dev Cert.GwInRefIdeal.nD,
      r.2.mem ((c.tc : Thread Cert.GwInRefIdeal.nD Cert.GwInRefIdeal.τ).loc Cert.GwInRefIdeal.main_arg0) = m ((c.tc : Thread Cert.GwInRefIdeal.nD Cert.GwInRefIdeal.τ).loc Cert.GwInRefIdeal.main_arg0)
      ∧ r.2.mem ((c.tc : Thread Cert.GwInRefIdeal.nD Cert.GwInRefIdeal.τ).loc Cert.GwInRefIdeal.main_arg1) = m ((c.tc : Thread Cert.GwInRefIdeal.nD Cert.GwInRefIdeal.τ).loc Cert.GwInRefIdeal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutRefIdeal [hGwOutRefIdeal : Cert.GwOutRefIdeal.Facts] : Prop :=
  ∀ (m : (ℓ : Loc Cert.GwOutRefIdeal.nD Cert.GwOutRefIdeal.τ Cert.GwOutRefIdeal.sig) → Buf (Elt Ideal) ℓ) (g : Dev Cert.GwOutRefIdeal.nD → PrngReg), Pre_GwOutRefIdeal m →
    θ_run (Cert.GwOutRefIdeal.defs (F := Ideal)) (onTc (τ := Cert.GwOutRefIdeal.τ) (Cert.GwOutRefIdeal.main (F := Ideal))) ⟨m, fun _ => 0, g⟩ (fun r => (∀ c : Dev Cert.GwOutRefIdeal.nD,
      r.2.mem ((c.tc : Thread Cert.GwOutRefIdeal.nD Cert.GwOutRefIdeal.τ).loc Cert.GwOutRefIdeal.main_arg0) = m ((c.tc : Thread Cert.GwOutRefIdeal.nD Cert.GwOutRefIdeal.τ).loc Cert.GwOutRefIdeal.main_arg0)
      ∧ r.2.mem ((c.tc : Thread Cert.GwOutRefIdeal.nD Cert.GwOutRefIdeal.τ).loc Cert.GwOutRefIdeal.main_arg1) = m ((c.tc : Thread Cert.GwOutRefIdeal.nD Cert.GwOutRefIdeal.τ).loc Cert.GwOutRefIdeal.main_arg1))
      ∧ r.2.sem = fun _ => 0)

def quiescent_GwBna [hGwBna : Cert.GwBna.Facts] : Prop :=
  ∀ (m : (ℓ : Loc Cert.GwBna.nD Cert.GwBna.τ Cert.GwBna.sig) → Buf (Elt Bits) ℓ) (g : Dev Cert.GwBna.nD → PrngReg), Pre_GwBna m →
    θ_run (Cert.GwBna.defs (F := Bits)) (onTc (τ := Cert.GwBna.τ) (Cert.GwBna.main (F := Bits))) ⟨m, fun _ => 0, g⟩ (fun r => (∀ c : Dev Cert.GwBna.nD,
      r.2.mem ((c.tc : Thread Cert.GwBna.nD Cert.GwBna.τ).loc Cert.GwBna.main_arg0) = m ((c.tc : Thread Cert.GwBna.nD Cert.GwBna.τ).loc Cert.GwBna.main_arg0)
      ∧ r.2.mem ((c.tc : Thread Cert.GwBna.nD Cert.GwBna.τ).loc Cert.GwBna.main_arg1) = m ((c.tc : Thread Cert.GwBna.nD Cert.GwBna.τ).loc Cert.GwBna.main_arg1))
      ∧ r.2.sem = fun _ => 0)

def quiescent_GwBnaIdeal [hGwBnaIdeal : Cert.GwBnaIdeal.Facts] : Prop :=
  ∀ (m : (ℓ : Loc Cert.GwBnaIdeal.nD Cert.GwBnaIdeal.τ Cert.GwBnaIdeal.sig) → Buf (Elt Ideal) ℓ) (g : Dev Cert.GwBnaIdeal.nD → PrngReg), Pre_GwBnaIdeal m →
    θ_run (Cert.GwBnaIdeal.defs (F := Ideal)) (onTc (τ := Cert.GwBnaIdeal.τ) (Cert.GwBnaIdeal.main (F := Ideal))) ⟨m, fun _ => 0, g⟩ (fun r => (∀ c : Dev Cert.GwBnaIdeal.nD,
      r.2.mem ((c.tc : Thread Cert.GwBnaIdeal.nD Cert.GwBnaIdeal.τ).loc Cert.GwBnaIdeal.main_arg0) = m ((c.tc : Thread Cert.GwBnaIdeal.nD Cert.GwBnaIdeal.τ).loc Cert.GwBnaIdeal.main_arg0)
      ∧ r.2.mem ((c.tc : Thread Cert.GwBnaIdeal.nD Cert.GwBnaIdeal.τ).loc Cert.GwBnaIdeal.main_arg1) = m ((c.tc : Thread Cert.GwBnaIdeal.nD Cert.GwBnaIdeal.τ).loc Cert.GwBnaIdeal.main_arg1))
      ∧ r.2.sem = fun _ => 0)

def quiescent_GwBnaRefIdeal [hGwBnaRefIdeal : Cert.GwBnaRefIdeal.Facts] : Prop :=
  ∀ (m : (ℓ : Loc Cert.GwBnaRefIdeal.nD Cert.GwBnaRefIdeal.τ Cert.GwBnaRefIdeal.sig) → Buf (Elt Ideal) ℓ) (g : Dev Cert.GwBnaRefIdeal.nD → PrngReg), Pre_GwBnaRefIdeal m →
    θ_run (Cert.GwBnaRefIdeal.defs (F := Ideal)) (onTc (τ := Cert.GwBnaRefIdeal.τ) (Cert.GwBnaRefIdeal.main (F := Ideal))) ⟨m, fun _ => 0, g⟩ (fun r => (∀ c : Dev Cert.GwBnaRefIdeal.nD,
      r.2.mem ((c.tc : Thread Cert.GwBnaRefIdeal.nD Cert.GwBnaRefIdeal.τ).loc Cert.GwBnaRefIdeal.main_arg0) = m ((c.tc : Thread Cert.GwBnaRefIdeal.nD Cert.GwBnaRefIdeal.τ).loc Cert.GwBnaRefIdeal.main_arg0)
      ∧ r.2.mem ((c.tc : Thread Cert.GwBnaRefIdeal.nD Cert.GwBnaRefIdeal.τ).loc Cert.GwBnaRefIdeal.main_arg1) = m ((c.tc : Thread Cert.GwBnaRefIdeal.nD Cert.GwBnaRefIdeal.τ).loc Cert.GwBnaRefIdeal.main_arg1))
      ∧ r.2.sem = fun _ => 0)

def quiescent_GwBd [hGwBd : Cert.GwBd.Facts] : Prop :=
  ∀ (m : (ℓ : Loc Cert.GwBd.nD Cert.GwBd.τ Cert.GwBd.sig) → Buf (Elt Bits) ℓ) (g : Dev Cert.GwBd.nD → PrngReg), Pre_GwBd m →
    θ_run (Cert.GwBd.defs (F := Bits)) (onTc (τ := Cert.GwBd.τ) (Cert.GwBd.main (F := Bits))) ⟨m, fun _ => 0, g⟩ (fun r => (∀ c : Dev Cert.GwBd.nD,
      r.2.mem ((c.tc : Thread Cert.GwBd.nD Cert.GwBd.τ).loc Cert.GwBd.main_arg0) = m ((c.tc : Thread Cert.GwBd.nD Cert.GwBd.τ).loc Cert.GwBd.main_arg0)
      ∧ r.2.mem ((c.tc : Thread Cert.GwBd.nD Cert.GwBd.τ).loc Cert.GwBd.main_arg1) = m ((c.tc : Thread Cert.GwBd.nD Cert.GwBd.τ).loc Cert.GwBd.main_arg1))
      ∧ r.2.sem = fun _ => 0)

def quiescent_GwBdIdeal [hGwBdIdeal : Cert.GwBdIdeal.Facts] : Prop :=
  ∀ (m : (ℓ : Loc Cert.GwBdIdeal.nD Cert.GwBdIdeal.τ Cert.GwBdIdeal.sig) → Buf (Elt Ideal) ℓ) (g : Dev Cert.GwBdIdeal.nD → PrngReg), Pre_GwBdIdeal m →
    θ_run (Cert.GwBdIdeal.defs (F := Ideal)) (onTc (τ := Cert.GwBdIdeal.τ) (Cert.GwBdIdeal.main (F := Ideal))) ⟨m, fun _ => 0, g⟩ (fun r => (∀ c : Dev Cert.GwBdIdeal.nD,
      r.2.mem ((c.tc : Thread Cert.GwBdIdeal.nD Cert.GwBdIdeal.τ).loc Cert.GwBdIdeal.main_arg0) = m ((c.tc : Thread Cert.GwBdIdeal.nD Cert.GwBdIdeal.τ).loc Cert.GwBdIdeal.main_arg0)
      ∧ r.2.mem ((c.tc : Thread Cert.GwBdIdeal.nD Cert.GwBdIdeal.τ).loc Cert.GwBdIdeal.main_arg1) = m ((c.tc : Thread Cert.GwBdIdeal.nD Cert.GwBdIdeal.τ).loc Cert.GwBdIdeal.main_arg1))
      ∧ r.2.sem = fun _ => 0)

def quiescent_GwBdRefIdeal [hGwBdRefIdeal : Cert.GwBdRefIdeal.Facts] : Prop :=
  ∀ (m : (ℓ : Loc Cert.GwBdRefIdeal.nD Cert.GwBdRefIdeal.τ Cert.GwBdRefIdeal.sig) → Buf (Elt Ideal) ℓ) (g : Dev Cert.GwBdRefIdeal.nD → PrngReg), Pre_GwBdRefIdeal m →
    θ_run (Cert.GwBdRefIdeal.defs (F := Ideal)) (onTc (τ := Cert.GwBdRefIdeal.τ) (Cert.GwBdRefIdeal.main (F := Ideal))) ⟨m, fun _ => 0, g⟩ (fun r => (∀ c : Dev Cert.GwBdRefIdeal.nD,
      r.2.mem ((c.tc : Thread Cert.GwBdRefIdeal.nD Cert.GwBdRefIdeal.τ).loc Cert.GwBdRefIdeal.main_arg0) = m ((c.tc : Thread Cert.GwBdRefIdeal.nD Cert.GwBdRefIdeal.τ).loc Cert.GwBdRefIdeal.main_arg0)
      ∧ r.2.mem ((c.tc : Thread Cert.GwBdRefIdeal.nD Cert.GwBdRefIdeal.τ).loc Cert.GwBdRefIdeal.main_arg1) = m ((c.tc : Thread Cert.GwBdRefIdeal.nD Cert.GwBdRefIdeal.τ).loc Cert.GwBdRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Dc [hDc : Cert.Dc.Facts] : Prop :=
  ∀ (m : (ℓ : Loc Cert.Dc.nD Cert.Dc.τ Cert.Dc.sig) → Buf (Elt Bits) ℓ) (g : Dev Cert.Dc.nD → PrngReg), Pre_Dc m →
    θ_run (Cert.Dc.defs (F := Bits)) (onTc (τ := Cert.Dc.τ) (Cert.Dc.main (F := Bits))) ⟨m, fun _ => 0, g⟩ (fun r => (∀ c : Dev Cert.Dc.nD,
      r.2.mem ((c.tc : Thread Cert.Dc.nD Cert.Dc.τ).loc Cert.Dc.main_arg0) = m ((c.tc : Thread Cert.Dc.nD Cert.Dc.τ).loc Cert.Dc.main_arg0)
      ∧ r.2.mem ((c.tc : Thread Cert.Dc.nD Cert.Dc.τ).loc Cert.Dc.main_arg1) = m ((c.tc : Thread Cert.Dc.nD Cert.Dc.τ).loc Cert.Dc.main_arg1)
      ∧ r.2.mem ((c.tc : Thread Cert.Dc.nD Cert.Dc.τ).loc Cert.Dc.main_arg2) = m ((c.tc : Thread Cert.Dc.nD Cert.Dc.τ).loc Cert.Dc.main_arg2)
      ∧ r.2.mem ((c.tc : Thread Cert.Dc.nD Cert.Dc.τ).loc Cert.Dc.main_arg3) = m ((c.tc : Thread Cert.Dc.nD Cert.Dc.τ).loc Cert.Dc.main_arg3)
      ∧ r.2.mem ((c.tc : Thread Cert.Dc.nD Cert.Dc.τ).loc Cert.Dc.main_arg4) = m ((c.tc : Thread Cert.Dc.nD Cert.Dc.τ).loc Cert.Dc.main_arg4))
      ∧ r.2.sem = fun _ => 0)

def quiescent_DcIdeal [hDcIdeal : Cert.DcIdeal.Facts] : Prop :=
  ∀ (m : (ℓ : Loc Cert.DcIdeal.nD Cert.DcIdeal.τ Cert.DcIdeal.sig) → Buf (Elt Ideal) ℓ) (g : Dev Cert.DcIdeal.nD → PrngReg), Pre_DcIdeal m →
    θ_run (Cert.DcIdeal.defs (F := Ideal)) (onTc (τ := Cert.DcIdeal.τ) (Cert.DcIdeal.main (F := Ideal))) ⟨m, fun _ => 0, g⟩ (fun r => (∀ c : Dev Cert.DcIdeal.nD,
      r.2.mem ((c.tc : Thread Cert.DcIdeal.nD Cert.DcIdeal.τ).loc Cert.DcIdeal.main_arg0) = m ((c.tc : Thread Cert.DcIdeal.nD Cert.DcIdeal.τ).loc Cert.DcIdeal.main_arg0)
      ∧ r.2.mem ((c.tc : Thread Cert.DcIdeal.nD Cert.DcIdeal.τ).loc Cert.DcIdeal.main_arg1) = m ((c.tc : Thread Cert.DcIdeal.nD Cert.DcIdeal.τ).loc Cert.DcIdeal.main_arg1)
      ∧ r.2.mem ((c.tc : Thread Cert.DcIdeal.nD Cert.DcIdeal.τ).loc Cert.DcIdeal.main_arg2) = m ((c.tc : Thread Cert.DcIdeal.nD Cert.DcIdeal.τ).loc Cert.DcIdeal.main_arg2)
      ∧ r.2.mem ((c.tc : Thread Cert.DcIdeal.nD Cert.DcIdeal.τ).loc Cert.DcIdeal.main_arg3) = m ((c.tc : Thread Cert.DcIdeal.nD Cert.DcIdeal.τ).loc Cert.DcIdeal.main_arg3)
      ∧ r.2.mem ((c.tc : Thread Cert.DcIdeal.nD Cert.DcIdeal.τ).loc Cert.DcIdeal.main_arg4) = m ((c.tc : Thread Cert.DcIdeal.nD Cert.DcIdeal.τ).loc Cert.DcIdeal.main_arg4))
      ∧ r.2.sem = fun _ => 0)

def quiescent_DcRefIdeal [hDcRefIdeal : Cert.DcRefIdeal.Facts] : Prop :=
  ∀ (m : (ℓ : Loc Cert.DcRefIdeal.nD Cert.DcRefIdeal.τ Cert.DcRefIdeal.sig) → Buf (Elt Ideal) ℓ) (g : Dev Cert.DcRefIdeal.nD → PrngReg), Pre_DcRefIdeal m →
    θ_run (Cert.DcRefIdeal.defs (F := Ideal)) (onTc (τ := Cert.DcRefIdeal.τ) (Cert.DcRefIdeal.main (F := Ideal))) ⟨m, fun _ => 0, g⟩ (fun r => (∀ c : Dev Cert.DcRefIdeal.nD,
      r.2.mem ((c.tc : Thread Cert.DcRefIdeal.nD Cert.DcRefIdeal.τ).loc Cert.DcRefIdeal.main_arg0) = m ((c.tc : Thread Cert.DcRefIdeal.nD Cert.DcRefIdeal.τ).loc Cert.DcRefIdeal.main_arg0)
      ∧ r.2.mem ((c.tc : Thread Cert.DcRefIdeal.nD Cert.DcRefIdeal.τ).loc Cert.DcRefIdeal.main_arg1) = m ((c.tc : Thread Cert.DcRefIdeal.nD Cert.DcRefIdeal.τ).loc Cert.DcRefIdeal.main_arg1)
      ∧ r.2.mem ((c.tc : Thread Cert.DcRefIdeal.nD Cert.DcRefIdeal.τ).loc Cert.DcRefIdeal.main_arg2) = m ((c.tc : Thread Cert.DcRefIdeal.nD Cert.DcRefIdeal.τ).loc Cert.DcRefIdeal.main_arg2)
      ∧ r.2.mem ((c.tc : Thread Cert.DcRefIdeal.nD Cert.DcRefIdeal.τ).loc Cert.DcRefIdeal.main_arg3) = m ((c.tc : Thread Cert.DcRefIdeal.nD Cert.DcRefIdeal.τ).loc Cert.DcRefIdeal.main_arg3)
      ∧ r.2.mem ((c.tc : Thread Cert.DcRefIdeal.nD Cert.DcRefIdeal.τ).loc Cert.DcRefIdeal.main_arg4) = m ((c.tc : Thread Cert.DcRefIdeal.nD Cert.DcRefIdeal.τ).loc Cert.DcRefIdeal.main_arg4))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3)
      ∧ r.2.mem ((c.tc : Thread Cert.Da.nD Cert.Da.τ).loc Cert.Da.main_arg4) = m ((c.tc : Thread Cert.Da.nD Cert.Da.τ).loc Cert.Da.main_arg4))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3)
      ∧ r.2.mem ((c.tc : Thread Cert.DaRefIdeal.nD Cert.DaRefIdeal.τ).loc Cert.DaRefIdeal.main_arg4) = m ((c.tc : Thread Cert.DaRefIdeal.nD Cert.DaRefIdeal.τ).loc Cert.DaRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_GwPg [hGwPg : Cert.GwPg.Facts] : Prop :=
  ∀ (m : (ℓ : Loc Cert.GwPg.nD Cert.GwPg.τ Cert.GwPg.sig) → Buf (Elt Bits) ℓ) (g : Dev Cert.GwPg.nD → PrngReg), Pre_GwPg m →
    θ_run (Cert.GwPg.defs (F := Bits)) (onTc (τ := Cert.GwPg.τ) (Cert.GwPg.main (F := Bits))) ⟨m, fun _ => 0, g⟩ (fun r => (∀ c : Dev Cert.GwPg.nD,
      r.2.mem ((c.tc : Thread Cert.GwPg.nD Cert.GwPg.τ).loc Cert.GwPg.main_arg0) = m ((c.tc : Thread Cert.GwPg.nD Cert.GwPg.τ).loc Cert.GwPg.main_arg0)
      ∧ r.2.mem ((c.tc : Thread Cert.GwPg.nD Cert.GwPg.τ).loc Cert.GwPg.main_arg1) = m ((c.tc : Thread Cert.GwPg.nD Cert.GwPg.τ).loc Cert.GwPg.main_arg1))
      ∧ r.2.sem = fun _ => 0)

def quiescent_GwPgIdeal [hGwPgIdeal : Cert.GwPgIdeal.Facts] : Prop :=
  ∀ (m : (ℓ : Loc Cert.GwPgIdeal.nD Cert.GwPgIdeal.τ Cert.GwPgIdeal.sig) → Buf (Elt Ideal) ℓ) (g : Dev Cert.GwPgIdeal.nD → PrngReg), Pre_GwPgIdeal m →
    θ_run (Cert.GwPgIdeal.defs (F := Ideal)) (onTc (τ := Cert.GwPgIdeal.τ) (Cert.GwPgIdeal.main (F := Ideal))) ⟨m, fun _ => 0, g⟩ (fun r => (∀ c : Dev Cert.GwPgIdeal.nD,
      r.2.mem ((c.tc : Thread Cert.GwPgIdeal.nD Cert.GwPgIdeal.τ).loc Cert.GwPgIdeal.main_arg0) = m ((c.tc : Thread Cert.GwPgIdeal.nD Cert.GwPgIdeal.τ).loc Cert.GwPgIdeal.main_arg0)
      ∧ r.2.mem ((c.tc : Thread Cert.GwPgIdeal.nD Cert.GwPgIdeal.τ).loc Cert.GwPgIdeal.main_arg1) = m ((c.tc : Thread Cert.GwPgIdeal.nD Cert.GwPgIdeal.τ).loc Cert.GwPgIdeal.main_arg1))
      ∧ r.2.sem = fun _ => 0)

def quiescent_GwPgRefIdeal [hGwPgRefIdeal : Cert.GwPgRefIdeal.Facts] : Prop :=
  ∀ (m : (ℓ : Loc Cert.GwPgRefIdeal.nD Cert.GwPgRefIdeal.τ Cert.GwPgRefIdeal.sig) → Buf (Elt Ideal) ℓ) (g : Dev Cert.GwPgRefIdeal.nD → PrngReg), Pre_GwPgRefIdeal m →
    θ_run (Cert.GwPgRefIdeal.defs (F := Ideal)) (onTc (τ := Cert.GwPgRefIdeal.τ) (Cert.GwPgRefIdeal.main (F := Ideal))) ⟨m, fun _ => 0, g⟩ (fun r => (∀ c : Dev Cert.GwPgRefIdeal.nD,
      r.2.mem ((c.tc : Thread Cert.GwPgRefIdeal.nD Cert.GwPgRefIdeal.τ).loc Cert.GwPgRefIdeal.main_arg0) = m ((c.tc : Thread Cert.GwPgRefIdeal.nD Cert.GwPgRefIdeal.τ).loc Cert.GwPgRefIdeal.main_arg0)
      ∧ r.2.mem ((c.tc : Thread Cert.GwPgRefIdeal.nD Cert.GwPgRefIdeal.τ).loc Cert.GwPgRefIdeal.main_arg1) = m ((c.tc : Thread Cert.GwPgRefIdeal.nD Cert.GwPgRefIdeal.τ).loc Cert.GwPgRefIdeal.main_arg1))
      ∧ r.2.sem = fun _ => 0)

def quiescent_GwPp [hGwPp : Cert.GwPp.Facts] : Prop :=
  ∀ (m : (ℓ : Loc Cert.GwPp.nD Cert.GwPp.τ Cert.GwPp.sig) → Buf (Elt Bits) ℓ) (g : Dev Cert.GwPp.nD → PrngReg), Pre_GwPp m →
    θ_run (Cert.GwPp.defs (F := Bits)) (onTc (τ := Cert.GwPp.τ) (Cert.GwPp.main (F := Bits))) ⟨m, fun _ => 0, g⟩ (fun r => (∀ c : Dev Cert.GwPp.nD,
      r.2.mem ((c.tc : Thread Cert.GwPp.nD Cert.GwPp.τ).loc Cert.GwPp.main_arg0) = m ((c.tc : Thread Cert.GwPp.nD Cert.GwPp.τ).loc Cert.GwPp.main_arg0)
      ∧ r.2.mem ((c.tc : Thread Cert.GwPp.nD Cert.GwPp.τ).loc Cert.GwPp.main_arg1) = m ((c.tc : Thread Cert.GwPp.nD Cert.GwPp.τ).loc Cert.GwPp.main_arg1))
      ∧ r.2.sem = fun _ => 0)

def quiescent_GwPpIdeal [hGwPpIdeal : Cert.GwPpIdeal.Facts] : Prop :=
  ∀ (m : (ℓ : Loc Cert.GwPpIdeal.nD Cert.GwPpIdeal.τ Cert.GwPpIdeal.sig) → Buf (Elt Ideal) ℓ) (g : Dev Cert.GwPpIdeal.nD → PrngReg), Pre_GwPpIdeal m →
    θ_run (Cert.GwPpIdeal.defs (F := Ideal)) (onTc (τ := Cert.GwPpIdeal.τ) (Cert.GwPpIdeal.main (F := Ideal))) ⟨m, fun _ => 0, g⟩ (fun r => (∀ c : Dev Cert.GwPpIdeal.nD,
      r.2.mem ((c.tc : Thread Cert.GwPpIdeal.nD Cert.GwPpIdeal.τ).loc Cert.GwPpIdeal.main_arg0) = m ((c.tc : Thread Cert.GwPpIdeal.nD Cert.GwPpIdeal.τ).loc Cert.GwPpIdeal.main_arg0)
      ∧ r.2.mem ((c.tc : Thread Cert.GwPpIdeal.nD Cert.GwPpIdeal.τ).loc Cert.GwPpIdeal.main_arg1) = m ((c.tc : Thread Cert.GwPpIdeal.nD Cert.GwPpIdeal.τ).loc Cert.GwPpIdeal.main_arg1))
      ∧ r.2.sem = fun _ => 0)

def quiescent_GwPpRefIdeal [hGwPpRefIdeal : Cert.GwPpRefIdeal.Facts] : Prop :=
  ∀ (m : (ℓ : Loc Cert.GwPpRefIdeal.nD Cert.GwPpRefIdeal.τ Cert.GwPpRefIdeal.sig) → Buf (Elt Ideal) ℓ) (g : Dev Cert.GwPpRefIdeal.nD → PrngReg), Pre_GwPpRefIdeal m →
    θ_run (Cert.GwPpRefIdeal.defs (F := Ideal)) (onTc (τ := Cert.GwPpRefIdeal.τ) (Cert.GwPpRefIdeal.main (F := Ideal))) ⟨m, fun _ => 0, g⟩ (fun r => (∀ c : Dev Cert.GwPpRefIdeal.nD,
      r.2.mem ((c.tc : Thread Cert.GwPpRefIdeal.nD Cert.GwPpRefIdeal.τ).loc Cert.GwPpRefIdeal.main_arg0) = m ((c.tc : Thread Cert.GwPpRefIdeal.nD Cert.GwPpRefIdeal.τ).loc Cert.GwPpRefIdeal.main_arg0)
      ∧ r.2.mem ((c.tc : Thread Cert.GwPpRefIdeal.nD Cert.GwPpRefIdeal.τ).loc Cert.GwPpRefIdeal.main_arg1) = m ((c.tc : Thread Cert.GwPpRefIdeal.nD Cert.GwPpRefIdeal.τ).loc Cert.GwPpRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10))
      ∧ r.2.sem = fun _ => 0)

def quiescent_MixBwdIdeal_pre_finite_logsums [hMixBwdIdeal : Cert.MixBwdIdeal.Facts] [hPre_finite_logsums : Cert.Pre_finite_logsums.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_finite_logsums m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10))
      ∧ r.2.sem = fun _ => 0)

def quiescent_MixBwdRefIdeal_pre_finite_logsums [hMixBwdRefIdeal : Cert.MixBwdRefIdeal.Facts] [hPre_finite_logsums : Cert.Pre_finite_logsums.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_finite_logsums m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v90_0)) (v1 : (c : Dev Cert.KernelIdeal.nD) → Buf (Elt Ideal) ((c.tc : Thread Cert.KernelIdeal.nD Cert.KernelIdeal.τ).loc Cert.KernelIdeal.main_v90_1)) (v2 : (c : Dev Cert.KernelIdeal.nD) → Buf (Elt Ideal) ((c.tc : Thread Cert.KernelIdeal.nD Cert.KernelIdeal.τ).loc Cert.KernelIdeal.main_v90_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90_0) = v0 c
          ∧ r.2.mem ((c.tc : Thread Cert.KernelIdeal.nD Cert.KernelIdeal.τ).loc Cert.KernelIdeal.main_v90_1) = v1 c
          ∧ r.2.mem ((c.tc : Thread Cert.KernelIdeal.nD Cert.KernelIdeal.τ).loc Cert.KernelIdeal.main_v90_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_v7) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)
      ∧ m' ((c.tc : Thread Cert.DuRefIdeal.nD Cert.DuRefIdeal.τ).loc Cert.DuRefIdeal.main_arg2) = m ((c.tc : Thread Cert.DuIdeal.nD Cert.DuIdeal.τ).loc Cert.DuIdeal.main_arg2)) →
    ∃ (v0 : (c : Dev Cert.DuIdeal.nD) → Buf (Elt Ideal) ((c.tc : Thread Cert.DuIdeal.nD Cert.DuIdeal.τ).loc Cert.DuIdeal.main_v0)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v0) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v15) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1)
          ∧ r.2.mem ((c.tc : Thread Cert.DuRefIdeal.nD Cert.DuRefIdeal.τ).loc Cert.DuRefIdeal.main_arg2) = m' ((c.tc : Thread Cert.DuRefIdeal.nD Cert.DuRefIdeal.τ).loc Cert.DuRefIdeal.main_arg2))

def preserves_GwDown_GwDownIdeal : Prop :=
  True

def algebraic_GwDownIdeal_GwDownRefIdeal [hGwDownIdeal : Cert.GwDownIdeal.Facts] [hGwDownRefIdeal : Cert.GwDownRefIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.GwDownRefIdeal.nD Cert.GwDownRefIdeal.τ Cert.GwDownRefIdeal.sig) → Buf (Elt Ideal) ℓ) (g' : Dev Cert.GwDownRefIdeal.nD → PrngReg), Pre_GwDownIdeal m →
    (∀ c : Dev Cert.GwDownIdeal.nD,
      m' ((c.tc : Thread Cert.GwDownRefIdeal.nD Cert.GwDownRefIdeal.τ).loc Cert.GwDownRefIdeal.main_arg0) = m ((c.tc : Thread Cert.GwDownIdeal.nD Cert.GwDownIdeal.τ).loc Cert.GwDownIdeal.main_arg0)
      ∧ m' ((c.tc : Thread Cert.GwDownRefIdeal.nD Cert.GwDownRefIdeal.τ).loc Cert.GwDownRefIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v0)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v0) = v0 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.GwDownRefIdeal.defs (F := Ideal)) (onTc (τ := Cert.GwDownRefIdeal.τ) (Cert.GwDownRefIdeal.main (F := Ideal))) ⟨m', fun _ => 0, g'⟩ (fun r => ∀ c : Dev Cert.GwDownRefIdeal.nD,
          r.2.mem ((c.tc : Thread Cert.GwDownRefIdeal.nD Cert.GwDownRefIdeal.τ).loc Cert.GwDownRefIdeal.main_v6) = v0 c
          ∧ r.2.mem ((c.tc : Thread Cert.GwDownRefIdeal.nD Cert.GwDownRefIdeal.τ).loc Cert.GwDownRefIdeal.main_arg0) = m' ((c.tc : Thread Cert.GwDownRefIdeal.nD Cert.GwDownRefIdeal.τ).loc Cert.GwDownRefIdeal.main_arg0)
          ∧ r.2.mem ((c.tc : Thread Cert.GwDownRefIdeal.nD Cert.GwDownRefIdeal.τ).loc Cert.GwDownRefIdeal.main_arg1) = m' ((c.tc : Thread Cert.GwDownRefIdeal.nD Cert.GwDownRefIdeal.τ).loc Cert.GwDownRefIdeal.main_arg1))

def preserves_GwUp_GwUpIdeal : Prop :=
  True

def algebraic_GwUpIdeal_GwUpRefIdeal [hGwUpIdeal : Cert.GwUpIdeal.Facts] [hGwUpRefIdeal : Cert.GwUpRefIdeal.Facts] : Prop :=
  ∀ (m : (ℓ : Loc Cert.GwUpIdeal.nD Cert.GwUpIdeal.τ Cert.GwUpIdeal.sig) → Buf (Elt Ideal) ℓ) (g : Dev Cert.GwUpIdeal.nD → PrngReg)
    (m' : (ℓ : Loc Cert.GwUpRefIdeal.nD Cert.GwUpRefIdeal.τ Cert.GwUpRefIdeal.sig) → Buf (Elt Ideal) ℓ) (g' : Dev Cert.GwUpRefIdeal.nD → PrngReg), Pre_GwUpIdeal m →
    (∀ c : Dev Cert.GwUpIdeal.nD,
      m' ((c.tc : Thread Cert.GwUpRefIdeal.nD Cert.GwUpRefIdeal.τ).loc Cert.GwUpRefIdeal.main_arg0) = m ((c.tc : Thread Cert.GwUpIdeal.nD Cert.GwUpIdeal.τ).loc Cert.GwUpIdeal.main_arg0)
      ∧ m' ((c.tc : Thread Cert.GwUpRefIdeal.nD Cert.GwUpRefIdeal.τ).loc Cert.GwUpRefIdeal.main_arg1) = m ((c.tc : Thread Cert.GwUpIdeal.nD Cert.GwUpIdeal.τ).loc Cert.GwUpIdeal.main_arg1)) →
    ∃ (v0 : (c : Dev Cert.GwUpIdeal.nD) → Buf (Elt Ideal) ((c.tc : Thread Cert.GwUpIdeal.nD Cert.GwUpIdeal.τ).loc Cert.GwUpIdeal.main_v0)),
      θ_run (Cert.GwUpIdeal.defs (F := Ideal)) (onTc (τ := Cert.GwUpIdeal.τ) (Cert.GwUpIdeal.main (F := Ideal))) ⟨m, fun _ => 0, g⟩ (fun r => ∀ c : Dev Cert.GwUpIdeal.nD,
          r.2.mem ((c.tc : Thread Cert.GwUpIdeal.nD Cert.GwUpIdeal.τ).loc Cert.GwUpIdeal.main_v0) = v0 c
          ∧ r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
          ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ θ_run (Cert.GwUpRefIdeal.defs (F := Ideal)) (onTc (τ := Cert.GwUpRefIdeal.τ) (Cert.GwUpRefIdeal.main (F := Ideal))) ⟨m', fun _ => 0, g'⟩ (fun r => ∀ c : Dev Cert.GwUpRefIdeal.nD,
          r.2.mem ((c.tc : Thread Cert.GwUpRefIdeal.nD Cert.GwUpRefIdeal.τ).loc Cert.GwUpRefIdeal.main_v7) = v0 c
          ∧ r.2.mem ((c.tc : Thread Cert.GwUpRefIdeal.nD Cert.GwUpRefIdeal.τ).loc Cert.GwUpRefIdeal.main_arg0) = m' ((c.tc : Thread Cert.GwUpRefIdeal.nD Cert.GwUpRefIdeal.τ).loc Cert.GwUpRefIdeal.main_arg0)
          ∧ r.2.mem ((c.tc : Thread Cert.GwUpRefIdeal.nD Cert.GwUpRefIdeal.τ).loc Cert.GwUpRefIdeal.main_arg1) = m' ((c.tc : Thread Cert.GwUpRefIdeal.nD Cert.GwUpRefIdeal.τ).loc Cert.GwUpRefIdeal.main_arg1))

def preserves_GwIn_GwInIdeal : Prop :=
  True

def algebraic_GwInIdeal_GwInRefIdeal [hGwInIdeal : Cert.GwInIdeal.Facts] [hGwInRefIdeal : Cert.GwInRefIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInRefIdeal.nD Cert.GwInRefIdeal.τ Cert.GwInRefIdeal.sig) → Buf (Elt Ideal) ℓ) (g' : Dev Cert.GwInRefIdeal.nD → PrngReg), Pre_GwInIdeal m →
    (∀ c : Dev Cert.GwInIdeal.nD,
      m' ((c.tc : Thread Cert.GwInRefIdeal.nD Cert.GwInRefIdeal.τ).loc Cert.GwInRefIdeal.main_arg0) = m ((c.tc : Thread Cert.GwInIdeal.nD Cert.GwInIdeal.τ).loc Cert.GwInIdeal.main_arg0)
      ∧ m' ((c.tc : Thread Cert.GwInRefIdeal.nD Cert.GwInRefIdeal.τ).loc Cert.GwInRefIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v0)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v0) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInRefIdeal.defs (F := Ideal)) (onTc (τ := Cert.GwInRefIdeal.τ) (Cert.GwInRefIdeal.main (F := Ideal))) ⟨m', fun _ => 0, g'⟩ (fun r => ∀ c : Dev Cert.GwInRefIdeal.nD,
          r.2.mem ((c.tc : Thread Cert.GwInRefIdeal.nD Cert.GwInRefIdeal.τ).loc Cert.GwInRefIdeal.main_v7) = v0 c
          ∧ r.2.mem ((c.tc : Thread Cert.GwInRefIdeal.nD Cert.GwInRefIdeal.τ).loc Cert.GwInRefIdeal.main_arg0) = m' ((c.tc : Thread Cert.GwInRefIdeal.nD Cert.GwInRefIdeal.τ).loc Cert.GwInRefIdeal.main_arg0)
          ∧ r.2.mem ((c.tc : Thread Cert.GwInRefIdeal.nD Cert.GwInRefIdeal.τ).loc Cert.GwInRefIdeal.main_arg1) = m' ((c.tc : Thread Cert.GwInRefIdeal.nD Cert.GwInRefIdeal.τ).loc Cert.GwInRefIdeal.main_arg1))

def preserves_GwOut_GwOutIdeal : Prop :=
  True

def algebraic_GwOutIdeal_GwOutRefIdeal [hGwOutIdeal : Cert.GwOutIdeal.Facts] [hGwOutRefIdeal : Cert.GwOutRefIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutRefIdeal.nD Cert.GwOutRefIdeal.τ Cert.GwOutRefIdeal.sig) → Buf (Elt Ideal) ℓ) (g' : Dev Cert.GwOutRefIdeal.nD → PrngReg), Pre_GwOutIdeal m →
    (∀ c : Dev Cert.GwOutIdeal.nD,
      m' ((c.tc : Thread Cert.GwOutRefIdeal.nD Cert.GwOutRefIdeal.τ).loc Cert.GwOutRefIdeal.main_arg0) = m ((c.tc : Thread Cert.GwOutIdeal.nD Cert.GwOutIdeal.τ).loc Cert.GwOutIdeal.main_arg0)
      ∧ m' ((c.tc : Thread Cert.GwOutRefIdeal.nD Cert.GwOutRefIdeal.τ).loc Cert.GwOutRefIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutRefIdeal.defs (F := Ideal)) (onTc (τ := Cert.GwOutRefIdeal.τ) (Cert.GwOutRefIdeal.main (F := Ideal))) ⟨m', fun _ => 0, g'⟩ (fun r => ∀ c : Dev Cert.GwOutRefIdeal.nD,
          r.2.mem ((c.tc : Thread Cert.GwOutRefIdeal.nD Cert.GwOutRefIdeal.τ).loc Cert.GwOutRefIdeal.main_v6) = v0 c
          ∧ r.2.mem ((c.tc : Thread Cert.GwOutRefIdeal.nD Cert.GwOutRefIdeal.τ).loc Cert.GwOutRefIdeal.main_arg0) = m' ((c.tc : Thread Cert.GwOutRefIdeal.nD Cert.GwOutRefIdeal.τ).loc Cert.GwOutRefIdeal.main_arg0)
          ∧ r.2.mem ((c.tc : Thread Cert.GwOutRefIdeal.nD Cert.GwOutRefIdeal.τ).loc Cert.GwOutRefIdeal.main_arg1) = m' ((c.tc : Thread Cert.GwOutRefIdeal.nD Cert.GwOutRefIdeal.τ).loc Cert.GwOutRefIdeal.main_arg1))

def preserves_GwBna_GwBnaIdeal : Prop :=
  True

def algebraic_GwBnaIdeal_GwBnaRefIdeal [hGwBnaIdeal : Cert.GwBnaIdeal.Facts] [hGwBnaRefIdeal : Cert.GwBnaRefIdeal.Facts] : Prop :=
  ∀ (m : (ℓ : Loc Cert.GwBnaIdeal.nD Cert.GwBnaIdeal.τ Cert.GwBnaIdeal.sig) → Buf (Elt Ideal) ℓ) (g : Dev Cert.GwBnaIdeal.nD → PrngReg)
    (m' : (ℓ : Loc Cert.GwBnaRefIdeal.nD Cert.GwBnaRefIdeal.τ Cert.GwBnaRefIdeal.sig) → Buf (Elt Ideal) ℓ) (g' : Dev Cert.GwBnaRefIdeal.nD → PrngReg), Pre_GwBnaIdeal m →
    (∀ c : Dev Cert.GwBnaIdeal.nD,
      m' ((c.tc : Thread Cert.GwBnaRefIdeal.nD Cert.GwBnaRefIdeal.τ).loc Cert.GwBnaRefIdeal.main_arg0) = m ((c.tc : Thread Cert.GwBnaIdeal.nD Cert.GwBnaIdeal.τ).loc Cert.GwBnaIdeal.main_arg0)
      ∧ m' ((c.tc : Thread Cert.GwBnaRefIdeal.nD Cert.GwBnaRefIdeal.τ).loc Cert.GwBnaRefIdeal.main_arg1) = m ((c.tc : Thread Cert.GwBnaIdeal.nD Cert.GwBnaIdeal.τ).loc Cert.GwBnaIdeal.main_arg1)) →
    ∃ (v0 : (c : Dev Cert.GwBnaIdeal.nD) → Buf (Elt Ideal) ((c.tc : Thread Cert.GwBnaIdeal.nD Cert.GwBnaIdeal.τ).loc Cert.GwBnaIdeal.main_v0)),
      θ_run (Cert.GwBnaIdeal.defs (F := Ideal)) (onTc (τ := Cert.GwBnaIdeal.τ) (Cert.GwBnaIdeal.main (F := Ideal))) ⟨m, fun _ => 0, g⟩ (fun r => ∀ c : Dev Cert.GwBnaIdeal.nD,
          r.2.mem ((c.tc : Thread Cert.GwBnaIdeal.nD Cert.GwBnaIdeal.τ).loc Cert.GwBnaIdeal.main_v0) = v0 c
          ∧ r.2.mem ((c.tc : Thread Cert.GwBnaIdeal.nD Cert.GwBnaIdeal.τ).loc Cert.GwBnaIdeal.main_arg0) = m ((c.tc : Thread Cert.GwBnaIdeal.nD Cert.GwBnaIdeal.τ).loc Cert.GwBnaIdeal.main_arg0)
          ∧ r.2.mem ((c.tc : Thread Cert.GwBnaIdeal.nD Cert.GwBnaIdeal.τ).loc Cert.GwBnaIdeal.main_arg1) = m ((c.tc : Thread Cert.GwBnaIdeal.nD Cert.GwBnaIdeal.τ).loc Cert.GwBnaIdeal.main_arg1))
      ∧ θ_run (Cert.GwBnaRefIdeal.defs (F := Ideal)) (onTc (τ := Cert.GwBnaRefIdeal.τ) (Cert.GwBnaRefIdeal.main (F := Ideal))) ⟨m', fun _ => 0, g'⟩ (fun r => ∀ c : Dev Cert.GwBnaRefIdeal.nD,
          r.2.mem ((c.tc : Thread Cert.GwBnaRefIdeal.nD Cert.GwBnaRefIdeal.τ).loc Cert.GwBnaRefIdeal.main_v7) = v0 c
          ∧ r.2.mem ((c.tc : Thread Cert.GwBnaRefIdeal.nD Cert.GwBnaRefIdeal.τ).loc Cert.GwBnaRefIdeal.main_arg0) = m' ((c.tc : Thread Cert.GwBnaRefIdeal.nD Cert.GwBnaRefIdeal.τ).loc Cert.GwBnaRefIdeal.main_arg0)
          ∧ r.2.mem ((c.tc : Thread Cert.GwBnaRefIdeal.nD Cert.GwBnaRefIdeal.τ).loc Cert.GwBnaRefIdeal.main_arg1) = m' ((c.tc : Thread Cert.GwBnaRefIdeal.nD Cert.GwBnaRefIdeal.τ).loc Cert.GwBnaRefIdeal.main_arg1))

def preserves_GwBd_GwBdIdeal : Prop :=
  True

def algebraic_GwBdIdeal_GwBdRefIdeal [hGwBdIdeal : Cert.GwBdIdeal.Facts] [hGwBdRefIdeal : Cert.GwBdRefIdeal.Facts] : Prop :=
  ∀ (m : (ℓ : Loc Cert.GwBdIdeal.nD Cert.GwBdIdeal.τ Cert.GwBdIdeal.sig) → Buf (Elt Ideal) ℓ) (g : Dev Cert.GwBdIdeal.nD → PrngReg)
    (m' : (ℓ : Loc Cert.GwBdRefIdeal.nD Cert.GwBdRefIdeal.τ Cert.GwBdRefIdeal.sig) → Buf (Elt Ideal) ℓ) (g' : Dev Cert.GwBdRefIdeal.nD → PrngReg), Pre_GwBdIdeal m →
    (∀ c : Dev Cert.GwBdIdeal.nD,
      m' ((c.tc : Thread Cert.GwBdRefIdeal.nD Cert.GwBdRefIdeal.τ).loc Cert.GwBdRefIdeal.main_arg0) = m ((c.tc : Thread Cert.GwBdIdeal.nD Cert.GwBdIdeal.τ).loc Cert.GwBdIdeal.main_arg0)
      ∧ m' ((c.tc : Thread Cert.GwBdRefIdeal.nD Cert.GwBdRefIdeal.τ).loc Cert.GwBdRefIdeal.main_arg1) = m ((c.tc : Thread Cert.GwBdIdeal.nD Cert.GwBdIdeal.τ).loc Cert.GwBdIdeal.main_arg1)) →
    ∃ (v0 : (c : Dev Cert.GwBdIdeal.nD) → Buf (Elt Ideal) ((c.tc : Thread Cert.GwBdIdeal.nD Cert.GwBdIdeal.τ).loc Cert.GwBdIdeal.main_v0)),
      θ_run (Cert.GwBdIdeal.defs (F := Ideal)) (onTc (τ := Cert.GwBdIdeal.τ) (Cert.GwBdIdeal.main (F := Ideal))) ⟨m, fun _ => 0, g⟩ (fun r => ∀ c : Dev Cert.GwBdIdeal.nD,
          r.2.mem ((c.tc : Thread Cert.GwBdIdeal.nD Cert.GwBdIdeal.τ).loc Cert.GwBdIdeal.main_v0) = v0 c
          ∧ r.2.mem ((c.tc : Thread Cert.GwBdIdeal.nD Cert.GwBdIdeal.τ).loc Cert.GwBdIdeal.main_arg0) = m ((c.tc : Thread Cert.GwBdIdeal.nD Cert.GwBdIdeal.τ).loc Cert.GwBdIdeal.main_arg0)
          ∧ r.2.mem ((c.tc : Thread Cert.GwBdIdeal.nD Cert.GwBdIdeal.τ).loc Cert.GwBdIdeal.main_arg1) = m ((c.tc : Thread Cert.GwBdIdeal.nD Cert.GwBdIdeal.τ).loc Cert.GwBdIdeal.main_arg1))
      ∧ θ_run (Cert.GwBdRefIdeal.defs (F := Ideal)) (onTc (τ := Cert.GwBdRefIdeal.τ) (Cert.GwBdRefIdeal.main (F := Ideal))) ⟨m', fun _ => 0, g'⟩ (fun r => ∀ c : Dev Cert.GwBdRefIdeal.nD,
          r.2.mem ((c.tc : Thread Cert.GwBdRefIdeal.nD Cert.GwBdRefIdeal.τ).loc Cert.GwBdRefIdeal.main_v7) = v0 c
          ∧ r.2.mem ((c.tc : Thread Cert.GwBdRefIdeal.nD Cert.GwBdRefIdeal.τ).loc Cert.GwBdRefIdeal.main_arg0) = m' ((c.tc : Thread Cert.GwBdRefIdeal.nD Cert.GwBdRefIdeal.τ).loc Cert.GwBdRefIdeal.main_arg0)
          ∧ r.2.mem ((c.tc : Thread Cert.GwBdRefIdeal.nD Cert.GwBdRefIdeal.τ).loc Cert.GwBdRefIdeal.main_arg1) = m' ((c.tc : Thread Cert.GwBdRefIdeal.nD Cert.GwBdRefIdeal.τ).loc Cert.GwBdRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v16) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Dc_DcIdeal : Prop :=
  True

def algebraic_DcIdeal_DcRefIdeal [hDcIdeal : Cert.DcIdeal.Facts] [hDcRefIdeal : Cert.DcRefIdeal.Facts] : Prop :=
  ∀ (m : (ℓ : Loc Cert.DcIdeal.nD Cert.DcIdeal.τ Cert.DcIdeal.sig) → Buf (Elt Ideal) ℓ) (g : Dev Cert.DcIdeal.nD → PrngReg)
    (m' : (ℓ : Loc Cert.DcRefIdeal.nD Cert.DcRefIdeal.τ Cert.DcRefIdeal.sig) → Buf (Elt Ideal) ℓ) (g' : Dev Cert.DcRefIdeal.nD → PrngReg), Pre_DcIdeal m →
    (∀ c : Dev Cert.DcIdeal.nD,
      m' ((c.tc : Thread Cert.DcRefIdeal.nD Cert.DcRefIdeal.τ).loc Cert.DcRefIdeal.main_arg0) = m ((c.tc : Thread Cert.DcIdeal.nD Cert.DcIdeal.τ).loc Cert.DcIdeal.main_arg0)
      ∧ m' ((c.tc : Thread Cert.DcRefIdeal.nD Cert.DcRefIdeal.τ).loc Cert.DcRefIdeal.main_arg1) = m ((c.tc : Thread Cert.DcIdeal.nD Cert.DcIdeal.τ).loc Cert.DcIdeal.main_arg1)
      ∧ m' ((c.tc : Thread Cert.DcRefIdeal.nD Cert.DcRefIdeal.τ).loc Cert.DcRefIdeal.main_arg2) = m ((c.tc : Thread Cert.DcIdeal.nD Cert.DcIdeal.τ).loc Cert.DcIdeal.main_arg2)
      ∧ m' ((c.tc : Thread Cert.DcRefIdeal.nD Cert.DcRefIdeal.τ).loc Cert.DcRefIdeal.main_arg3) = m ((c.tc : Thread Cert.DcIdeal.nD Cert.DcIdeal.τ).loc Cert.DcIdeal.main_arg3)
      ∧ m' ((c.tc : Thread Cert.DcRefIdeal.nD Cert.DcRefIdeal.τ).loc Cert.DcRefIdeal.main_arg4) = m ((c.tc : Thread Cert.DcIdeal.nD Cert.DcIdeal.τ).loc Cert.DcIdeal.main_arg4)) →
    ∃ (v0 : (c : Dev Cert.DcIdeal.nD) → Buf (Elt Ideal) ((c.tc : Thread Cert.DcIdeal.nD Cert.DcIdeal.τ).loc Cert.DcIdeal.main_v0_0)) (v1 : (c : Dev Cert.DcIdeal.nD) → Buf (Elt Ideal) ((c.tc : Thread Cert.DcIdeal.nD Cert.DcIdeal.τ).loc Cert.DcIdeal.main_v0_1)) (v2 : (c : Dev Cert.DcIdeal.nD) → Buf (Elt Ideal) ((c.tc : Thread Cert.DcIdeal.nD Cert.DcIdeal.τ).loc Cert.DcIdeal.main_v0_2)),
      θ_run (Cert.DcIdeal.defs (F := Ideal)) (onTc (τ := Cert.DcIdeal.τ) (Cert.DcIdeal.main (F := Ideal))) ⟨m, fun _ => 0, g⟩ (fun r => ∀ c : Dev Cert.DcIdeal.nD,
          r.2.mem ((c.tc : Thread Cert.DcIdeal.nD Cert.DcIdeal.τ).loc Cert.DcIdeal.main_v0_0) = v0 c
          ∧ r.2.mem ((c.tc : Thread Cert.DcIdeal.nD Cert.DcIdeal.τ).loc Cert.DcIdeal.main_v0_1) = v1 c
          ∧ r.2.mem ((c.tc : Thread Cert.DcIdeal.nD Cert.DcIdeal.τ).loc Cert.DcIdeal.main_v0_2) = v2 c
          ∧ r.2.mem ((c.tc : Thread Cert.DcIdeal.nD Cert.DcIdeal.τ).loc Cert.DcIdeal.main_arg0) = m ((c.tc : Thread Cert.DcIdeal.nD Cert.DcIdeal.τ).loc Cert.DcIdeal.main_arg0)
          ∧ r.2.mem ((c.tc : Thread Cert.DcIdeal.nD Cert.DcIdeal.τ).loc Cert.DcIdeal.main_arg1) = m ((c.tc : Thread Cert.DcIdeal.nD Cert.DcIdeal.τ).loc Cert.DcIdeal.main_arg1)
          ∧ r.2.mem ((c.tc : Thread Cert.DcIdeal.nD Cert.DcIdeal.τ).loc Cert.DcIdeal.main_arg2) = m ((c.tc : Thread Cert.DcIdeal.nD Cert.DcIdeal.τ).loc Cert.DcIdeal.main_arg2)
          ∧ r.2.mem ((c.tc : Thread Cert.DcIdeal.nD Cert.DcIdeal.τ).loc Cert.DcIdeal.main_arg3) = m ((c.tc : Thread Cert.DcIdeal.nD Cert.DcIdeal.τ).loc Cert.DcIdeal.main_arg3)
          ∧ r.2.mem ((c.tc : Thread Cert.DcIdeal.nD Cert.DcIdeal.τ).loc Cert.DcIdeal.main_arg4) = m ((c.tc : Thread Cert.DcIdeal.nD Cert.DcIdeal.τ).loc Cert.DcIdeal.main_arg4))
      ∧ θ_run (Cert.DcRefIdeal.defs (F := Ideal)) (onTc (τ := Cert.DcRefIdeal.τ) (Cert.DcRefIdeal.main (F := Ideal))) ⟨m', fun _ => 0, g'⟩ (fun r => ∀ c : Dev Cert.DcRefIdeal.nD,
          r.2.mem ((c.tc : Thread Cert.DcRefIdeal.nD Cert.DcRefIdeal.τ).loc Cert.DcRefIdeal.main_v39) = v0 c
          ∧ r.2.mem ((c.tc : Thread Cert.DcRefIdeal.nD Cert.DcRefIdeal.τ).loc Cert.DcRefIdeal.main_v40) = v1 c
          ∧ r.2.mem ((c.tc : Thread Cert.DcRefIdeal.nD Cert.DcRefIdeal.τ).loc Cert.DcRefIdeal.main_v22) = v2 c
          ∧ r.2.mem ((c.tc : Thread Cert.DcRefIdeal.nD Cert.DcRefIdeal.τ).loc Cert.DcRefIdeal.main_arg0) = m' ((c.tc : Thread Cert.DcRefIdeal.nD Cert.DcRefIdeal.τ).loc Cert.DcRefIdeal.main_arg0)
          ∧ r.2.mem ((c.tc : Thread Cert.DcRefIdeal.nD Cert.DcRefIdeal.τ).loc Cert.DcRefIdeal.main_arg1) = m' ((c.tc : Thread Cert.DcRefIdeal.nD Cert.DcRefIdeal.τ).loc Cert.DcRefIdeal.main_arg1)
          ∧ r.2.mem ((c.tc : Thread Cert.DcRefIdeal.nD Cert.DcRefIdeal.τ).loc Cert.DcRefIdeal.main_arg2) = m' ((c.tc : Thread Cert.DcRefIdeal.nD Cert.DcRefIdeal.τ).loc Cert.DcRefIdeal.main_arg2)
          ∧ r.2.mem ((c.tc : Thread Cert.DcRefIdeal.nD Cert.DcRefIdeal.τ).loc Cert.DcRefIdeal.main_arg3) = m' ((c.tc : Thread Cert.DcRefIdeal.nD Cert.DcRefIdeal.τ).loc Cert.DcRefIdeal.main_arg3)
          ∧ r.2.mem ((c.tc : Thread Cert.DcRefIdeal.nD Cert.DcRefIdeal.τ).loc Cert.DcRefIdeal.main_arg4) = m' ((c.tc : Thread Cert.DcRefIdeal.nD Cert.DcRefIdeal.τ).loc Cert.DcRefIdeal.main_arg4))

def preserves_Da_DaIdeal : Prop :=
  True

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)
      ∧ m' ((c.tc : Thread Cert.DaRefIdeal.nD Cert.DaRefIdeal.τ).loc Cert.DaRefIdeal.main_arg3) = m ((c.tc : Thread Cert.DaIdeal.nD Cert.DaIdeal.τ).loc Cert.DaIdeal.main_arg3)
      ∧ m' ((c.tc : Thread Cert.DaRefIdeal.nD Cert.DaRefIdeal.τ).loc Cert.DaRefIdeal.main_arg4) = m ((c.tc : Thread Cert.DaIdeal.nD Cert.DaIdeal.τ).loc Cert.DaIdeal.main_arg4)) →
    ∃ (v0 : (c : Dev Cert.DaIdeal.nD) → Buf (Elt Ideal) ((c.tc : Thread Cert.DaIdeal.nD Cert.DaIdeal.τ).loc Cert.DaIdeal.main_v0_0)) (v1 : (c : Dev Cert.DaIdeal.nD) → Buf (Elt Ideal) ((c.tc : Thread Cert.DaIdeal.nD Cert.DaIdeal.τ).loc Cert.DaIdeal.main_v0_1)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v0_0) = v0 c
          ∧ r.2.mem ((c.tc : Thread Cert.DaIdeal.nD Cert.DaIdeal.τ).loc Cert.DaIdeal.main_v0_1) = v1 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
          ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
          ∧ r.2.mem ((c.tc : Thread Cert.DaIdeal.nD Cert.DaIdeal.τ).loc Cert.DaIdeal.main_arg4) = m ((c.tc : Thread Cert.DaIdeal.nD Cert.DaIdeal.τ).loc Cert.DaIdeal.main_arg4))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v39) = v0 c
          ∧ r.2.mem ((c.tc : Thread Cert.DaRefIdeal.nD Cert.DaRefIdeal.τ).loc Cert.DaRefIdeal.main_v22) = v1 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2)
          ∧ r.2.mem ((c.tc : Thread Cert.DaRefIdeal.nD Cert.DaRefIdeal.τ).loc Cert.DaRefIdeal.main_arg3) = m' ((c.tc : Thread Cert.DaRefIdeal.nD Cert.DaRefIdeal.τ).loc Cert.DaRefIdeal.main_arg3)
          ∧ r.2.mem ((c.tc : Thread Cert.DaRefIdeal.nD Cert.DaRefIdeal.τ).loc Cert.DaRefIdeal.main_arg4) = m' ((c.tc : Thread Cert.DaRefIdeal.nD Cert.DaRefIdeal.τ).loc Cert.DaRefIdeal.main_arg4))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)) (v2 : (c : Dev Cert.TailIdeal.nD) → Buf (Elt Ideal) ((c.tc : Thread Cert.TailIdeal.nD Cert.TailIdeal.τ).loc Cert.TailIdeal.main_v0_2)) (v3 : (c : Dev Cert.TailIdeal.nD) → Buf (Elt Ideal) ((c.tc : Thread Cert.TailIdeal.nD Cert.TailIdeal.τ).loc Cert.TailIdeal.main_v0_3)) (v4 : (c : Dev Cert.TailIdeal.nD) → Buf (Elt Ideal) ((c.tc : Thread Cert.TailIdeal.nD Cert.TailIdeal.τ).loc Cert.TailIdeal.main_v0_4)) (v5 : (c : Dev Cert.TailIdeal.nD) → Buf (Elt Ideal) ((c.tc : Thread Cert.TailIdeal.nD Cert.TailIdeal.τ).loc Cert.TailIdeal.main_v0_5)) (v6 : (c : Dev Cert.TailIdeal.nD) → Buf (Elt Ideal) ((c.tc : Thread Cert.TailIdeal.nD Cert.TailIdeal.τ).loc Cert.TailIdeal.main_v0_6)) (v7 : (c : Dev Cert.TailIdeal.nD) → Buf (Elt Ideal) ((c.tc : Thread Cert.TailIdeal.nD Cert.TailIdeal.τ).loc Cert.TailIdeal.main_v0_7)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_v0_2) = v2 c
          ∧ r.2.mem ((c.tc : Thread Cert.TailIdeal.nD Cert.TailIdeal.τ).loc Cert.TailIdeal.main_v0_3) = v3 c
          ∧ r.2.mem ((c.tc : Thread Cert.TailIdeal.nD Cert.TailIdeal.τ).loc Cert.TailIdeal.main_v0_4) = v4 c
          ∧ r.2.mem ((c.tc : Thread Cert.TailIdeal.nD Cert.TailIdeal.τ).loc Cert.TailIdeal.main_v0_5) = v5 c
          ∧ r.2.mem ((c.tc : Thread Cert.TailIdeal.nD Cert.TailIdeal.τ).loc Cert.TailIdeal.main_v0_6) = v6 c
          ∧ r.2.mem ((c.tc : Thread Cert.TailIdeal.nD Cert.TailIdeal.τ).loc Cert.TailIdeal.main_v0_7) = v7 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v122) = v0 c
          ∧ r.2.mem ((c.tc : Thread Cert.TailRefIdeal.nD Cert.TailRefIdeal.τ).loc Cert.TailRefIdeal.main_v123) = v1 c
          ∧ r.2.mem ((c.tc : Thread Cert.TailRefIdeal.nD Cert.TailRefIdeal.τ).loc Cert.TailRefIdeal.main_v124) = v2 c
          ∧ r.2.mem ((c.tc : Thread Cert.TailRefIdeal.nD Cert.TailRefIdeal.τ).loc Cert.TailRefIdeal.main_v121) = v3 c
          ∧ r.2.mem ((c.tc : Thread Cert.TailRefIdeal.nD Cert.TailRefIdeal.τ).loc Cert.TailRefIdeal.main_v125) = v4 c
          ∧ r.2.mem ((c.tc : Thread Cert.TailRefIdeal.nD Cert.TailRefIdeal.τ).loc Cert.TailRefIdeal.main_v65) = v5 c
          ∧ r.2.mem ((c.tc : Thread Cert.TailRefIdeal.nD Cert.TailRefIdeal.τ).loc Cert.TailRefIdeal.main_v126) = v6 c
          ∧ r.2.mem ((c.tc : Thread Cert.TailRefIdeal.nD Cert.TailRefIdeal.τ).loc Cert.TailRefIdeal.main_v104) = v7 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def preserves_GwPg_GwPgIdeal : Prop :=
  True

def algebraic_GwPgIdeal_GwPgRefIdeal [hGwPgIdeal : Cert.GwPgIdeal.Facts] [hGwPgRefIdeal : Cert.GwPgRefIdeal.Facts] : Prop :=
  ∀ (m : (ℓ : Loc Cert.GwPgIdeal.nD Cert.GwPgIdeal.τ Cert.GwPgIdeal.sig) → Buf (Elt Ideal) ℓ) (g : Dev Cert.GwPgIdeal.nD → PrngReg)
    (m' : (ℓ : Loc Cert.GwPgRefIdeal.nD Cert.GwPgRefIdeal.τ Cert.GwPgRefIdeal.sig) → Buf (Elt Ideal) ℓ) (g' : Dev Cert.GwPgRefIdeal.nD → PrngReg), Pre_GwPgIdeal m →
    (∀ c : Dev Cert.GwPgIdeal.nD,
      m' ((c.tc : Thread Cert.GwPgRefIdeal.nD Cert.GwPgRefIdeal.τ).loc Cert.GwPgRefIdeal.main_arg0) = m ((c.tc : Thread Cert.GwPgIdeal.nD Cert.GwPgIdeal.τ).loc Cert.GwPgIdeal.main_arg0)
      ∧ m' ((c.tc : Thread Cert.GwPgRefIdeal.nD Cert.GwPgRefIdeal.τ).loc Cert.GwPgRefIdeal.main_arg1) = m ((c.tc : Thread Cert.GwPgIdeal.nD Cert.GwPgIdeal.τ).loc Cert.GwPgIdeal.main_arg1)) →
    ∃ (v0 : (c : Dev Cert.GwPgIdeal.nD) → Buf (Elt Ideal) ((c.tc : Thread Cert.GwPgIdeal.nD Cert.GwPgIdeal.τ).loc Cert.GwPgIdeal.main_v0)),
      θ_run (Cert.GwPgIdeal.defs (F := Ideal)) (onTc (τ := Cert.GwPgIdeal.τ) (Cert.GwPgIdeal.main (F := Ideal))) ⟨m, fun _ => 0, g⟩ (fun r => ∀ c : Dev Cert.GwPgIdeal.nD,
          r.2.mem ((c.tc : Thread Cert.GwPgIdeal.nD Cert.GwPgIdeal.τ).loc Cert.GwPgIdeal.main_v0) = v0 c
          ∧ r.2.mem ((c.tc : Thread Cert.GwPgIdeal.nD Cert.GwPgIdeal.τ).loc Cert.GwPgIdeal.main_arg0) = m ((c.tc : Thread Cert.GwPgIdeal.nD Cert.GwPgIdeal.τ).loc Cert.GwPgIdeal.main_arg0)
          ∧ r.2.mem ((c.tc : Thread Cert.GwPgIdeal.nD Cert.GwPgIdeal.τ).loc Cert.GwPgIdeal.main_arg1) = m ((c.tc : Thread Cert.GwPgIdeal.nD Cert.GwPgIdeal.τ).loc Cert.GwPgIdeal.main_arg1))
      ∧ θ_run (Cert.GwPgRefIdeal.defs (F := Ideal)) (onTc (τ := Cert.GwPgRefIdeal.τ) (Cert.GwPgRefIdeal.main (F := Ideal))) ⟨m', fun _ => 0, g'⟩ (fun r => ∀ c : Dev Cert.GwPgRefIdeal.nD,
          r.2.mem ((c.tc : Thread Cert.GwPgRefIdeal.nD Cert.GwPgRefIdeal.τ).loc Cert.GwPgRefIdeal.main_v6) = v0 c
          ∧ r.2.mem ((c.tc : Thread Cert.GwPgRefIdeal.nD Cert.GwPgRefIdeal.τ).loc Cert.GwPgRefIdeal.main_arg0) = m' ((c.tc : Thread Cert.GwPgRefIdeal.nD Cert.GwPgRefIdeal.τ).loc Cert.GwPgRefIdeal.main_arg0)
          ∧ r.2.mem ((c.tc : Thread Cert.GwPgRefIdeal.nD Cert.GwPgRefIdeal.τ).loc Cert.GwPgRefIdeal.main_arg1) = m' ((c.tc : Thread Cert.GwPgRefIdeal.nD Cert.GwPgRefIdeal.τ).loc Cert.GwPgRefIdeal.main_arg1))

def preserves_GwPp_GwPpIdeal : Prop :=
  True

def algebraic_GwPpIdeal_GwPpRefIdeal [hGwPpIdeal : Cert.GwPpIdeal.Facts] [hGwPpRefIdeal : Cert.GwPpRefIdeal.Facts] : Prop :=
  ∀ (m : (ℓ : Loc Cert.GwPpIdeal.nD Cert.GwPpIdeal.τ Cert.GwPpIdeal.sig) → Buf (Elt Ideal) ℓ) (g : Dev Cert.GwPpIdeal.nD → PrngReg)
    (m' : (ℓ : Loc Cert.GwPpRefIdeal.nD Cert.GwPpRefIdeal.τ Cert.GwPpRefIdeal.sig) → Buf (Elt Ideal) ℓ) (g' : Dev Cert.GwPpRefIdeal.nD → PrngReg), Pre_GwPpIdeal m →
    (∀ c : Dev Cert.GwPpIdeal.nD,
      m' ((c.tc : Thread Cert.GwPpRefIdeal.nD Cert.GwPpRefIdeal.τ).loc Cert.GwPpRefIdeal.main_arg0) = m ((c.tc : Thread Cert.GwPpIdeal.nD Cert.GwPpIdeal.τ).loc Cert.GwPpIdeal.main_arg0)
      ∧ m' ((c.tc : Thread Cert.GwPpRefIdeal.nD Cert.GwPpRefIdeal.τ).loc Cert.GwPpRefIdeal.main_arg1) = m ((c.tc : Thread Cert.GwPpIdeal.nD Cert.GwPpIdeal.τ).loc Cert.GwPpIdeal.main_arg1)) →
    ∃ (v0 : (c : Dev Cert.GwPpIdeal.nD) → Buf (Elt Ideal) ((c.tc : Thread Cert.GwPpIdeal.nD Cert.GwPpIdeal.τ).loc Cert.GwPpIdeal.main_v0)),
      θ_run (Cert.GwPpIdeal.defs (F := Ideal)) (onTc (τ := Cert.GwPpIdeal.τ) (Cert.GwPpIdeal.main (F := Ideal))) ⟨m, fun _ => 0, g⟩ (fun r => ∀ c : Dev Cert.GwPpIdeal.nD,
          r.2.mem ((c.tc : Thread Cert.GwPpIdeal.nD Cert.GwPpIdeal.τ).loc Cert.GwPpIdeal.main_v0) = v0 c
          ∧ r.2.mem ((c.tc : Thread Cert.GwPpIdeal.nD Cert.GwPpIdeal.τ).loc Cert.GwPpIdeal.main_arg0) = m ((c.tc : Thread Cert.GwPpIdeal.nD Cert.GwPpIdeal.τ).loc Cert.GwPpIdeal.main_arg0)
          ∧ r.2.mem ((c.tc : Thread Cert.GwPpIdeal.nD Cert.GwPpIdeal.τ).loc Cert.GwPpIdeal.main_arg1) = m ((c.tc : Thread Cert.GwPpIdeal.nD Cert.GwPpIdeal.τ).loc Cert.GwPpIdeal.main_arg1))
      ∧ θ_run (Cert.GwPpRefIdeal.defs (F := Ideal)) (onTc (τ := Cert.GwPpRefIdeal.τ) (Cert.GwPpRefIdeal.main (F := Ideal))) ⟨m', fun _ => 0, g'⟩ (fun r => ∀ c : Dev Cert.GwPpRefIdeal.nD,
          r.2.mem ((c.tc : Thread Cert.GwPpRefIdeal.nD Cert.GwPpRefIdeal.τ).loc Cert.GwPpRefIdeal.main_v7) = v0 c
          ∧ r.2.mem ((c.tc : Thread Cert.GwPpRefIdeal.nD Cert.GwPpRefIdeal.τ).loc Cert.GwPpRefIdeal.main_arg0) = m' ((c.tc : Thread Cert.GwPpRefIdeal.nD Cert.GwPpRefIdeal.τ).loc Cert.GwPpRefIdeal.main_arg0)
          ∧ r.2.mem ((c.tc : Thread Cert.GwPpRefIdeal.nD Cert.GwPpRefIdeal.τ).loc Cert.GwPpRefIdeal.main_arg1) = m' ((c.tc : Thread Cert.GwPpRefIdeal.nD Cert.GwPpRefIdeal.τ).loc Cert.GwPpRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v23_0)) (v1 : (c : Dev Cert.InIdeal.nD) → Buf (Elt Ideal) ((c.tc : Thread Cert.InIdeal.nD Cert.InIdeal.τ).loc Cert.InIdeal.main_v23_1)) (v2 : (c : Dev Cert.InIdeal.nD) → Buf (Elt Ideal) ((c.tc : Thread Cert.InIdeal.nD Cert.InIdeal.τ).loc Cert.InIdeal.main_v23_2)) (v3 : (c : Dev Cert.InIdeal.nD) → Buf (Elt Ideal) ((c.tc : Thread Cert.InIdeal.nD Cert.InIdeal.τ).loc Cert.InIdeal.main_v23_3)) (v4 : (c : Dev Cert.InIdeal.nD) → Buf (Elt Ideal) ((c.tc : Thread Cert.InIdeal.nD Cert.InIdeal.τ).loc Cert.InIdeal.main_v23_4)) (v5 : (c : Dev Cert.InIdeal.nD) → Buf (Elt Ideal) ((c.tc : Thread Cert.InIdeal.nD Cert.InIdeal.τ).loc Cert.InIdeal.main_v23_5)) (v6 : (c : Dev Cert.InIdeal.nD) → Buf (Elt Ideal) ((c.tc : Thread Cert.InIdeal.nD Cert.InIdeal.τ).loc Cert.InIdeal.main_v23_6)) (v7 : (c : Dev Cert.InIdeal.nD) → Buf (Elt Ideal) ((c.tc : Thread Cert.InIdeal.nD Cert.InIdeal.τ).loc Cert.InIdeal.main_v23_7)) (v8 : (c : Dev Cert.InIdeal.nD) → Buf (Elt Ideal) ((c.tc : Thread Cert.InIdeal.nD Cert.InIdeal.τ).loc Cert.InIdeal.main_v23_8)) (v9 : (c : Dev Cert.InIdeal.nD) → Buf (Elt Ideal) ((c.tc : Thread Cert.InIdeal.nD Cert.InIdeal.τ).loc Cert.InIdeal.main_v23_9)) (v10 : (c : Dev Cert.InIdeal.nD) → Buf (Elt Ideal) ((c.tc : Thread Cert.InIdeal.nD Cert.InIdeal.τ).loc Cert.InIdeal.main_v23_10)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v23_0) = v0 c
          ∧ r.2.mem ((c.tc : Thread Cert.InIdeal.nD Cert.InIdeal.τ).loc Cert.InIdeal.main_v23_1) = v1 c
          ∧ r.2.mem ((c.tc : Thread Cert.InIdeal.nD Cert.InIdeal.τ).loc Cert.InIdeal.main_v23_2) = v2 c
          ∧ r.2.mem ((c.tc : Thread Cert.InIdeal.nD Cert.InIdeal.τ).loc Cert.InIdeal.main_v23_3) = v3 c
          ∧ r.2.mem ((c.tc : Thread Cert.InIdeal.nD Cert.InIdeal.τ).loc Cert.InIdeal.main_v23_4) = v4 c
          ∧ r.2.mem ((c.tc : Thread Cert.InIdeal.nD Cert.InIdeal.τ).loc Cert.InIdeal.main_v23_5) = v5 c
          ∧ r.2.mem ((c.tc : Thread Cert.InIdeal.nD Cert.InIdeal.τ).loc Cert.InIdeal.main_v23_6) = v6 c
          ∧ r.2.mem ((c.tc : Thread Cert.InIdeal.nD Cert.InIdeal.τ).loc Cert.InIdeal.main_v23_7) = v7 c
          ∧ r.2.mem ((c.tc : Thread Cert.InIdeal.nD Cert.InIdeal.τ).loc Cert.InIdeal.main_v23_8) = v8 c
          ∧ r.2.mem ((c.tc : Thread Cert.InIdeal.nD Cert.InIdeal.τ).loc Cert.InIdeal.main_v23_9) = v9 c
          ∧ r.2.mem ((c.tc : Thread Cert.InIdeal.nD Cert.InIdeal.τ).loc Cert.InIdeal.main_v23_10) = v10 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v99) = v0 c
          ∧ r.2.mem ((c.tc : Thread Cert.InRefIdeal.nD Cert.InRefIdeal.τ).loc Cert.InRefIdeal.main_v100) = v1 c
          ∧ r.2.mem ((c.tc : Thread Cert.InRefIdeal.nD Cert.InRefIdeal.τ).loc Cert.InRefIdeal.main_v101) = v2 c
          ∧ r.2.mem ((c.tc : Thread Cert.InRefIdeal.nD Cert.InRefIdeal.τ).loc Cert.InRefIdeal.main_v102) = v3 c
          ∧ r.2.mem ((c.tc : Thread Cert.InRefIdeal.nD Cert.InRefIdeal.τ).loc Cert.InRefIdeal.main_v103) = v4 c
          ∧ r.2.mem ((c.tc : Thread Cert.InRefIdeal.nD Cert.InRefIdeal.τ).loc Cert.InRefIdeal.main_v104) = v5 c
          ∧ r.2.mem ((c.tc : Thread Cert.InRefIdeal.nD Cert.InRefIdeal.τ).loc Cert.InRefIdeal.main_v105) = v6 c
          ∧ r.2.mem ((c.tc : Thread Cert.InRefIdeal.nD Cert.InRefIdeal.τ).loc Cert.InRefIdeal.main_v106) = v7 c
          ∧ r.2.mem ((c.tc : Thread Cert.InRefIdeal.nD Cert.InRefIdeal.τ).loc Cert.InRefIdeal.main_v107) = v8 c
          ∧ r.2.mem ((c.tc : Thread Cert.InRefIdeal.nD Cert.InRefIdeal.τ).loc Cert.InRefIdeal.main_v108) = v9 c
          ∧ r.2.mem ((c.tc : Thread Cert.InRefIdeal.nD Cert.InRefIdeal.τ).loc Cert.InRefIdeal.main_v109) = v10 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_MixBwd_MixBwdIdeal : Prop :=
  True

def algebraic_MixBwdIdeal_MixBwdRefIdeal_pre_finite_logsums [hMixBwdIdeal : Cert.MixBwdIdeal.Facts] [hMixBwdRefIdeal : Cert.MixBwdRefIdeal.Facts] [hPre_finite_logsums : Cert.Pre_finite_logsums.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_finite_logsums m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)
      ∧ m' ((c.tc : Thread Cert.MixBwdRefIdeal.nD Cert.MixBwdRefIdeal.τ).loc Cert.MixBwdRefIdeal.main_arg7) = m ((c.tc : Thread Cert.MixBwdIdeal.nD Cert.MixBwdIdeal.τ).loc Cert.MixBwdIdeal.main_arg7)
      ∧ m' ((c.tc : Thread Cert.MixBwdRefIdeal.nD Cert.MixBwdRefIdeal.τ).loc Cert.MixBwdRefIdeal.main_arg8) = m ((c.tc : Thread Cert.MixBwdIdeal.nD Cert.MixBwdIdeal.τ).loc Cert.MixBwdIdeal.main_arg8)
      ∧ m' ((c.tc : Thread Cert.MixBwdRefIdeal.nD Cert.MixBwdRefIdeal.τ).loc Cert.MixBwdRefIdeal.main_arg9) = m ((c.tc : Thread Cert.MixBwdIdeal.nD Cert.MixBwdIdeal.τ).loc Cert.MixBwdIdeal.main_arg9)
      ∧ m' ((c.tc : Thread Cert.MixBwdRefIdeal.nD Cert.MixBwdRefIdeal.τ).loc Cert.MixBwdRefIdeal.main_arg10) = m ((c.tc : Thread Cert.MixBwdIdeal.nD Cert.MixBwdIdeal.τ).loc Cert.MixBwdIdeal.main_arg10)) →
    ∃ (v0 : (c : Dev Cert.MixBwdIdeal.nD) → Buf (Elt Ideal) ((c.tc : Thread Cert.MixBwdIdeal.nD Cert.MixBwdIdeal.τ).loc Cert.MixBwdIdeal.main_v8_0)) (v1 : (c : Dev Cert.MixBwdIdeal.nD) → Buf (Elt Ideal) ((c.tc : Thread Cert.MixBwdIdeal.nD Cert.MixBwdIdeal.τ).loc Cert.MixBwdIdeal.main_v8_1)) (v2 : (c : Dev Cert.MixBwdIdeal.nD) → Buf (Elt Ideal) ((c.tc : Thread Cert.MixBwdIdeal.nD Cert.MixBwdIdeal.τ).loc Cert.MixBwdIdeal.main_v8_2)) (v3 : (c : Dev Cert.MixBwdIdeal.nD) → Buf (Elt Ideal) ((c.tc : Thread Cert.MixBwdIdeal.nD Cert.MixBwdIdeal.τ).loc Cert.MixBwdIdeal.main_v8_3)) (v4 : (c : Dev Cert.MixBwdIdeal.nD) → Buf (Elt Ideal) ((c.tc : Thread Cert.MixBwdIdeal.nD Cert.MixBwdIdeal.τ).loc Cert.MixBwdIdeal.main_v8_4)) (v5 : (c : Dev Cert.MixBwdIdeal.nD) → Buf (Elt Ideal) ((c.tc : Thread Cert.MixBwdIdeal.nD Cert.MixBwdIdeal.τ).loc Cert.MixBwdIdeal.main_v8_5)) (v6 : (c : Dev Cert.MixBwdIdeal.nD) → Buf (Elt Ideal) ((c.tc : Thread Cert.MixBwdIdeal.nD Cert.MixBwdIdeal.τ).loc Cert.MixBwdIdeal.main_v8_6)) (v7 : (c : Dev Cert.MixBwdIdeal.nD) → Buf (Elt Ideal) ((c.tc : Thread Cert.MixBwdIdeal.nD Cert.MixBwdIdeal.τ).loc Cert.MixBwdIdeal.main_v8_7)) (v8 : (c : Dev Cert.MixBwdIdeal.nD) → Buf (Elt Ideal) ((c.tc : Thread Cert.MixBwdIdeal.nD Cert.MixBwdIdeal.τ).loc Cert.MixBwdIdeal.main_v8_8)) (v9 : (c : Dev Cert.MixBwdIdeal.nD) → Buf (Elt Ideal) ((c.tc : Thread Cert.MixBwdIdeal.nD Cert.MixBwdIdeal.τ).loc Cert.MixBwdIdeal.main_v8_9)) (v10 : (c : Dev Cert.MixBwdIdeal.nD) → Buf (Elt Ideal) ((c.tc : Thread Cert.MixBwdIdeal.nD Cert.MixBwdIdeal.τ).loc Cert.MixBwdIdeal.main_v8_10)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v8_0) = v0 c
          ∧ r.2.mem ((c.tc : Thread Cert.MixBwdIdeal.nD Cert.MixBwdIdeal.τ).loc Cert.MixBwdIdeal.main_v8_1) = v1 c
          ∧ r.2.mem ((c.tc : Thread Cert.MixBwdIdeal.nD Cert.MixBwdIdeal.τ).loc Cert.MixBwdIdeal.main_v8_2) = v2 c
          ∧ r.2.mem ((c.tc : Thread Cert.MixBwdIdeal.nD Cert.MixBwdIdeal.τ).loc Cert.MixBwdIdeal.main_v8_3) = v3 c
          ∧ r.2.mem ((c.tc : Thread Cert.MixBwdIdeal.nD Cert.MixBwdIdeal.τ).loc Cert.MixBwdIdeal.main_v8_4) = v4 c
          ∧ r.2.mem ((c.tc : Thread Cert.MixBwdIdeal.nD Cert.MixBwdIdeal.τ).loc Cert.MixBwdIdeal.main_v8_5) = v5 c
          ∧ r.2.mem ((c.tc : Thread Cert.MixBwdIdeal.nD Cert.MixBwdIdeal.τ).loc Cert.MixBwdIdeal.main_v8_6) = v6 c
          ∧ r.2.mem ((c.tc : Thread Cert.MixBwdIdeal.nD Cert.MixBwdIdeal.τ).loc Cert.MixBwdIdeal.main_v8_7) = v7 c
          ∧ r.2.mem ((c.tc : Thread Cert.MixBwdIdeal.nD Cert.MixBwdIdeal.τ).loc Cert.MixBwdIdeal.main_v8_8) = v8 c
          ∧ r.2.mem ((c.tc : Thread Cert.MixBwdIdeal.nD Cert.MixBwdIdeal.τ).loc Cert.MixBwdIdeal.main_v8_9) = v9 c
          ∧ r.2.mem ((c.tc : Thread Cert.MixBwdIdeal.nD Cert.MixBwdIdeal.τ).loc Cert.MixBwdIdeal.main_v8_10) = v10 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
          ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v71) = v0 c
          ∧ r.2.mem ((c.tc : Thread Cert.MixBwdRefIdeal.nD Cert.MixBwdRefIdeal.τ).loc Cert.MixBwdRefIdeal.main_v72) = v1 c
          ∧ r.2.mem ((c.tc : Thread Cert.MixBwdRefIdeal.nD Cert.MixBwdRefIdeal.τ).loc Cert.MixBwdRefIdeal.main_v73) = v2 c
          ∧ r.2.mem ((c.tc : Thread Cert.MixBwdRefIdeal.nD Cert.MixBwdRefIdeal.τ).loc Cert.MixBwdRefIdeal.main_v74) = v3 c
          ∧ r.2.mem ((c.tc : Thread Cert.MixBwdRefIdeal.nD Cert.MixBwdRefIdeal.τ).loc Cert.MixBwdRefIdeal.main_v75) = v4 c
          ∧ r.2.mem ((c.tc : Thread Cert.MixBwdRefIdeal.nD Cert.MixBwdRefIdeal.τ).loc Cert.MixBwdRefIdeal.main_v81) = v5 c
          ∧ r.2.mem ((c.tc : Thread Cert.MixBwdRefIdeal.nD Cert.MixBwdRefIdeal.τ).loc Cert.MixBwdRefIdeal.main_v87) = v6 c
          ∧ r.2.mem ((c.tc : Thread Cert.MixBwdRefIdeal.nD Cert.MixBwdRefIdeal.τ).loc Cert.MixBwdRefIdeal.main_v93) = v7 c
          ∧ r.2.mem ((c.tc : Thread Cert.MixBwdRefIdeal.nD Cert.MixBwdRefIdeal.τ).loc Cert.MixBwdRefIdeal.main_v99) = v8 c
          ∧ r.2.mem ((c.tc : Thread Cert.MixBwdRefIdeal.nD Cert.MixBwdRefIdeal.τ).loc Cert.MixBwdRefIdeal.main_v105) = v9 c
          ∧ r.2.mem ((c.tc : Thread Cert.MixBwdRefIdeal.nD Cert.MixBwdRefIdeal.τ).loc Cert.MixBwdRefIdeal.main_v111) = v10 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6)
          ∧ r.2.mem ((c.tc : Thread Cert.MixBwdRefIdeal.nD Cert.MixBwdRefIdeal.τ).loc Cert.MixBwdRefIdeal.main_arg7) = m' ((c.tc : Thread Cert.MixBwdRefIdeal.nD Cert.MixBwdRefIdeal.τ).loc Cert.MixBwdRefIdeal.main_arg7)
          ∧ r.2.mem ((c.tc : Thread Cert.MixBwdRefIdeal.nD Cert.MixBwdRefIdeal.τ).loc Cert.MixBwdRefIdeal.main_arg8) = m' ((c.tc : Thread Cert.MixBwdRefIdeal.nD Cert.MixBwdRefIdeal.τ).loc Cert.MixBwdRefIdeal.main_arg8)
          ∧ r.2.mem ((c.tc : Thread Cert.MixBwdRefIdeal.nD Cert.MixBwdRefIdeal.τ).loc Cert.MixBwdRefIdeal.main_arg9) = m' ((c.tc : Thread Cert.MixBwdRefIdeal.nD Cert.MixBwdRefIdeal.τ).loc Cert.MixBwdRefIdeal.main_arg9)
          ∧ r.2.mem ((c.tc : Thread Cert.MixBwdRefIdeal.nD Cert.MixBwdRefIdeal.τ).loc Cert.MixBwdRefIdeal.main_arg10) = m' ((c.tc : Thread Cert.MixBwdRefIdeal.nD Cert.MixBwdRefIdeal.τ).loc Cert.MixBwdRefIdeal.main_arg10))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDu : Cert.Du.Facts) (hDuIdeal : Cert.DuIdeal.Facts) (hDuRefIdeal : Cert.DuRefIdeal.Facts) (hGwDown : Cert.GwDown.Facts) (hGwDownIdeal : Cert.GwDownIdeal.Facts) (hGwDownRefIdeal : Cert.GwDownRefIdeal.Facts) (hGwUp : Cert.GwUp.Facts) (hGwUpIdeal : Cert.GwUpIdeal.Facts) (hGwUpRefIdeal : Cert.GwUpRefIdeal.Facts) (hGwIn : Cert.GwIn.Facts) (hGwInIdeal : Cert.GwInIdeal.Facts) (hGwInRefIdeal : Cert.GwInRefIdeal.Facts) (hGwOut : Cert.GwOut.Facts) (hGwOutIdeal : Cert.GwOutIdeal.Facts) (hGwOutRefIdeal : Cert.GwOutRefIdeal.Facts) (hGwBna : Cert.GwBna.Facts) (hGwBnaIdeal : Cert.GwBnaIdeal.Facts) (hGwBnaRefIdeal : Cert.GwBnaRefIdeal.Facts) (hGwBd : Cert.GwBd.Facts) (hGwBdIdeal : Cert.GwBdIdeal.Facts) (hGwBdRefIdeal : Cert.GwBdRefIdeal.Facts) (hOut : Cert.Out.Facts) (hOutIdeal : Cert.OutIdeal.Facts) (hOutRefIdeal : Cert.OutRefIdeal.Facts) (hDc : Cert.Dc.Facts) (hDcIdeal : Cert.DcIdeal.Facts) (hDcRefIdeal : Cert.DcRefIdeal.Facts) (hDa : Cert.Da.Facts) (hDaIdeal : Cert.DaIdeal.Facts) (hDaRefIdeal : Cert.DaRefIdeal.Facts) (hTail : Cert.Tail.Facts) (hTailIdeal : Cert.TailIdeal.Facts) (hTailRefIdeal : Cert.TailRefIdeal.Facts) (hGwPg : Cert.GwPg.Facts) (hGwPgIdeal : Cert.GwPgIdeal.Facts) (hGwPgRefIdeal : Cert.GwPgRefIdeal.Facts) (hGwPp : Cert.GwPp.Facts) (hGwPpIdeal : Cert.GwPpIdeal.Facts) (hGwPpRefIdeal : Cert.GwPpRefIdeal.Facts) (hIn : Cert.In.Facts) (hInIdeal : Cert.InIdeal.Facts) (hInRefIdeal : Cert.InRefIdeal.Facts) (hMixBwd : Cert.MixBwd.Facts) (hMixBwdIdeal : Cert.MixBwdIdeal.Facts) (hMixBwdRefIdeal : Cert.MixBwdRefIdeal.Facts) (hPre_finite : Cert.Pre_finite.Facts) (hPre_finite_logsums : Cert.Pre_finite_logsums.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Du (hDu := hDu)
    ∧ quiescent_DuIdeal (hDuIdeal := hDuIdeal)
    ∧ quiescent_DuRefIdeal (hDuRefIdeal := hDuRefIdeal)
    ∧ quiescent_GwDown (hGwDown := hGwDown)
    ∧ quiescent_GwDownIdeal (hGwDownIdeal := hGwDownIdeal)
    ∧ quiescent_GwDownRefIdeal (hGwDownRefIdeal := hGwDownRefIdeal)
    ∧ quiescent_GwUp (hGwUp := hGwUp)
    ∧ quiescent_GwUpIdeal (hGwUpIdeal := hGwUpIdeal)
    ∧ quiescent_GwUpRefIdeal (hGwUpRefIdeal := hGwUpRefIdeal)
    ∧ quiescent_GwIn (hGwIn := hGwIn)
    ∧ quiescent_GwInIdeal (hGwInIdeal := hGwInIdeal)
    ∧ quiescent_GwInRefIdeal (hGwInRefIdeal := hGwInRefIdeal)
    ∧ quiescent_GwOut (hGwOut := hGwOut)
    ∧ quiescent_GwOutIdeal (hGwOutIdeal := hGwOutIdeal)
    ∧ quiescent_GwOutRefIdeal (hGwOutRefIdeal := hGwOutRefIdeal)
    ∧ quiescent_GwBna (hGwBna := hGwBna)
    ∧ quiescent_GwBnaIdeal (hGwBnaIdeal := hGwBnaIdeal)
    ∧ quiescent_GwBnaRefIdeal (hGwBnaRefIdeal := hGwBnaRefIdeal)
    ∧ quiescent_GwBd (hGwBd := hGwBd)
    ∧ quiescent_GwBdIdeal (hGwBdIdeal := hGwBdIdeal)
    ∧ quiescent_GwBdRefIdeal (hGwBdRefIdeal := hGwBdRefIdeal)
    ∧ quiescent_Out (hOut := hOut)
    ∧ quiescent_OutIdeal (hOutIdeal := hOutIdeal)
    ∧ quiescent_OutRefIdeal (hOutRefIdeal := hOutRefIdeal)
    ∧ quiescent_Dc (hDc := hDc)
    ∧ quiescent_DcIdeal (hDcIdeal := hDcIdeal)
    ∧ quiescent_DcRefIdeal (hDcRefIdeal := hDcRefIdeal)
    ∧ quiescent_Da (hDa := hDa)
    ∧ quiescent_DaIdeal (hDaIdeal := hDaIdeal)
    ∧ quiescent_DaRefIdeal (hDaRefIdeal := hDaRefIdeal)
    ∧ quiescent_Tail (hTail := hTail)
    ∧ quiescent_TailIdeal (hTailIdeal := hTailIdeal)
    ∧ quiescent_TailRefIdeal (hTailRefIdeal := hTailRefIdeal)
    ∧ quiescent_GwPg (hGwPg := hGwPg)
    ∧ quiescent_GwPgIdeal (hGwPgIdeal := hGwPgIdeal)
    ∧ quiescent_GwPgRefIdeal (hGwPgRefIdeal := hGwPgRefIdeal)
    ∧ quiescent_GwPp (hGwPp := hGwPp)
    ∧ quiescent_GwPpIdeal (hGwPpIdeal := hGwPpIdeal)
    ∧ quiescent_GwPpRefIdeal (hGwPpRefIdeal := hGwPpRefIdeal)
    ∧ quiescent_In (hIn := hIn)
    ∧ quiescent_InIdeal (hInIdeal := hInIdeal)
    ∧ quiescent_InRefIdeal (hInRefIdeal := hInRefIdeal)
    ∧ quiescent_MixBwd (hMixBwd := hMixBwd)
    ∧ quiescent_MixBwdIdeal (hMixBwdIdeal := hMixBwdIdeal)
    ∧ quiescent_MixBwdIdeal_pre_finite_logsums (hMixBwdIdeal := hMixBwdIdeal) (hPre_finite_logsums := hPre_finite_logsums)
    ∧ quiescent_MixBwdRefIdeal (hMixBwdRefIdeal := hMixBwdRefIdeal)
    ∧ quiescent_MixBwdRefIdeal_pre_finite_logsums (hMixBwdRefIdeal := hMixBwdRefIdeal) (hPre_finite_logsums := hPre_finite_logsums)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Du_DuIdeal
    ∧ algebraic_DuIdeal_DuRefIdeal (hDuIdeal := hDuIdeal) (hDuRefIdeal := hDuRefIdeal)
    ∧ preserves_GwDown_GwDownIdeal
    ∧ algebraic_GwDownIdeal_GwDownRefIdeal (hGwDownIdeal := hGwDownIdeal) (hGwDownRefIdeal := hGwDownRefIdeal)
    ∧ preserves_GwUp_GwUpIdeal
    ∧ algebraic_GwUpIdeal_GwUpRefIdeal (hGwUpIdeal := hGwUpIdeal) (hGwUpRefIdeal := hGwUpRefIdeal)
    ∧ preserves_GwIn_GwInIdeal
    ∧ algebraic_GwInIdeal_GwInRefIdeal (hGwInIdeal := hGwInIdeal) (hGwInRefIdeal := hGwInRefIdeal)
    ∧ preserves_GwOut_GwOutIdeal
    ∧ algebraic_GwOutIdeal_GwOutRefIdeal (hGwOutIdeal := hGwOutIdeal) (hGwOutRefIdeal := hGwOutRefIdeal)
    ∧ preserves_GwBna_GwBnaIdeal
    ∧ algebraic_GwBnaIdeal_GwBnaRefIdeal (hGwBnaIdeal := hGwBnaIdeal) (hGwBnaRefIdeal := hGwBnaRefIdeal)
    ∧ preserves_GwBd_GwBdIdeal
    ∧ algebraic_GwBdIdeal_GwBdRefIdeal (hGwBdIdeal := hGwBdIdeal) (hGwBdRefIdeal := hGwBdRefIdeal)
    ∧ preserves_Out_OutIdeal
    ∧ algebraic_OutIdeal_OutRefIdeal (hOutIdeal := hOutIdeal) (hOutRefIdeal := hOutRefIdeal)
    ∧ preserves_Dc_DcIdeal
    ∧ algebraic_DcIdeal_DcRefIdeal (hDcIdeal := hDcIdeal) (hDcRefIdeal := hDcRefIdeal)
    ∧ preserves_Da_DaIdeal
    ∧ algebraic_DaIdeal_DaRefIdeal (hDaIdeal := hDaIdeal) (hDaRefIdeal := hDaRefIdeal)
    ∧ preserves_Tail_TailIdeal
    ∧ algebraic_TailIdeal_TailRefIdeal (hTailIdeal := hTailIdeal) (hTailRefIdeal := hTailRefIdeal)
    ∧ preserves_GwPg_GwPgIdeal
    ∧ algebraic_GwPgIdeal_GwPgRefIdeal (hGwPgIdeal := hGwPgIdeal) (hGwPgRefIdeal := hGwPgRefIdeal)
    ∧ preserves_GwPp_GwPpIdeal
    ∧ algebraic_GwPpIdeal_GwPpRefIdeal (hGwPpIdeal := hGwPpIdeal) (hGwPpRefIdeal := hGwPpRefIdeal)
    ∧ preserves_In_InIdeal
    ∧ algebraic_InIdeal_InRefIdeal (hInIdeal := hInIdeal) (hInRefIdeal := hInRefIdeal)
    ∧ preserves_MixBwd_MixBwdIdeal
    ∧ algebraic_MixBwdIdeal_MixBwdRefIdeal_pre_finite_logsums (hMixBwdIdeal := hMixBwdIdeal) (hMixBwdRefIdeal := hMixBwdRefIdeal) (hPre_finite_logsums := hPre_finite_logsums)
-- ==== Pre_finite.lean ====
abbrev S4x1024x256 : Shape := ⟨3, ![4, 1024, 256]⟩
abbrev S4x4x1024 : Shape := ⟨3, ![4, 4, 1024]⟩
abbrev S_ : Shape := ⟨0, ![]⟩

class Facts : Prop where
  bitsLt_bf16_f32 : FTy.bits .bf16 < FTy.bits .f32
  bcast_S_S4x1024x256 : S_.BroadcastsInDim S4x1024x256 (![] : Fin 0 → Fin S4x1024x256.rank)
  reducesTo_S4x1024x256_S_d0_1_2 : S4x1024x256.ReducesTo [0, 1, 2] S_
  h_S_ : 0 < S_.numel

variable [Facts]

def fn {F : FTy → Type} [FloatOps F] (main_arg0 : FVec F S4x1024x256 .bf16) (main_arg1 : FVec F S4x1024x256 .bf16) (main_arg2 : FVec F S4x1024x256 .bf16) (main_arg3 : FVec F S4x1024x256 .bf16) (main_arg4 : FVec F S4x4x1024 .f32) : IVec S_ 1 :=
  let main_v0 : FVec F S4x1024x256 .f32 := (extf .f32 · bitsLt_bf16_f32) main_arg2
  let main_v1 : FVec F S4x1024x256 .f32 := (extf .f32 · bitsLt_bf16_f32) main_arg3
  let main_v2 : FVec F S4x1024x256 .f32 := Host.absf main_v0
  let main_cst : FVec F S_ .f32 := constant S_ .f32 0x7F800000#32
  let main_v3 : FVec F S4x1024x256 .f32 := broadcastInDim S4x1024x256 ![] bcast_S_S4x1024x256 main_cst
  let main_v4 : IVec S4x1024x256 1 := cmpf .olt main_v2 main_v3
  let main_c : IVec S_ 1 := constantI S_ 1 1#1
  let main_v5 : IVec S_ 1 := (fun x v => Host.reduce IntOp.andi x v reducesTo_S4x1024x256_S_d0_1_2 h_S_) main_v4 main_c
  let main_v6 : FVec F S4x1024x256 .f32 := Host.absf main_v1
  let main_cst_0 : FVec F S_ .f32 := constant S_ .f32 0x7F800000#32
  let main_v7 : FVec F S4x1024x256 .f32 := broadcastInDim S4x1024x256 ![] bcast_S_S4x1024x256 main_cst_0
  let main_v8 : IVec S4x1024x256 1 := cmpf .olt main_v6 main_v7
  let main_c_1 : IVec S_ 1 := constantI S_ 1 1#1
  let main_v9 : IVec S_ 1 := (fun x v => Host.reduce IntOp.andi x v reducesTo_S4x1024x256_S_d0_1_2 h_S_) main_v8 main_c_1
  let main_v10 : IVec S_ 1 := andi main_v5 main_v9
  main_v10
-- ==== Pre_finite_logsums.lean ====
abbrev S4096x1024 : Shape := ⟨2, ![4096, 1024]⟩
abbrev S1024x1024 : Shape := ⟨2, ![1024, 1024]⟩
abbrev S4096x2048 : Shape := ⟨2, ![4096, 2048]⟩
abbrev S1024x512 : Shape := ⟨2, ![1024, 512]⟩
abbrev S1024x256 : Shape := ⟨2, ![1024, 256]⟩
abbrev S4096x256 : Shape := ⟨2, ![4096, 256]⟩
abbrev S1x4096x256 : Shape := ⟨3, ![1, 4096, 256]⟩
abbrev S4x1024x256 : Shape := ⟨3, ![4, 1024, 256]⟩
abbrev S16x256x256 : Shape := ⟨3, ![16, 256, 256]⟩
abbrev S_ : Shape := ⟨0, ![]⟩

class Facts : Prop where
  bcast_S_S1x4096x256 : S_.BroadcastsInDim S1x4096x256 (![] : Fin 0 → Fin S1x4096x256.rank)
  reducesTo_S1x4096x256_S_d0_1_2 : S1x4096x256.ReducesTo [0, 1, 2] S_
  h_S_ : 0 < S_.numel
  bcast_S_S4x1024x256 : S_.BroadcastsInDim S4x1024x256 (![] : Fin 0 → Fin S4x1024x256.rank)
  reducesTo_S4x1024x256_S_d0_1_2 : S4x1024x256.ReducesTo [0, 1, 2] S_
  bcast_S_S16x256x256 : S_.BroadcastsInDim S16x256x256 (![] : Fin 0 → Fin S16x256x256.rank)
  reducesTo_S16x256x256_S_d0_1_2 : S16x256x256.ReducesTo [0, 1, 2] S_

variable [Facts]

def fn {F : FTy → Type} [FloatOps F] (main_arg0 : FVec F S4096x1024 .bf16) (main_arg1 : FVec F S1024x1024 .bf16) (main_arg2 : FVec F S4096x2048 .bf16) (main_arg3 : FVec F S4096x1024 .bf16) (main_arg4 : FVec F S4096x1024 .bf16) (main_arg5 : FVec F S1024x512 .bf16) (main_arg6 : FVec F S1024x256 .bf16) (main_arg7 : FVec F S4096x256 .f32) (main_arg8 : FVec F S1x4096x256 .f32) (main_arg9 : FVec F S4x1024x256 .f32) (main_arg10 : FVec F S16x256x256 .f32) : IVec S_ 1 :=
  let main_v0 : FVec F S1x4096x256 .f32 := Host.absf main_arg8
  let main_cst : FVec F S_ .f32 := constant S_ .f32 0x7F800000#32
  let main_v1 : FVec F S1x4096x256 .f32 := broadcastInDim S1x4096x256 ![] bcast_S_S1x4096x256 main_cst
  let main_v2 : IVec S1x4096x256 1 := cmpf .olt main_v0 main_v1
  let main_c : IVec S_ 1 := constantI S_ 1 1#1
  let main_v3 : IVec S_ 1 := (fun x v => Host.reduce IntOp.andi x v reducesTo_S1x4096x256_S_d0_1_2 h_S_) main_v2 main_c
  let main_v4 : FVec F S4x1024x256 .f32 := Host.absf main_arg9
  let main_cst_0 : FVec F S_ .f32 := constant S_ .f32 0x7F800000#32
  let main_v5 : FVec F S4x1024x256 .f32 := broadcastInDim S4x1024x256 ![] bcast_S_S4x1024x256 main_cst_0
  let main_v6 : IVec S4x1024x256 1 := cmpf .olt main_v4 main_v5
  let main_c_1 : IVec S_ 1 := constantI S_ 1 1#1
  let main_v7 : IVec S_ 1 := (fun x v => Host.reduce IntOp.andi x v reducesTo_S4x1024x256_S_d0_1_2 h_S_) main_v6 main_c_1
  let main_v8 : IVec S_ 1 := andi main_v3 main_v7
  let main_v9 : FVec F S16x256x256 .f32 := Host.absf main_arg10
  let main_cst_2 : FVec F S_ .f32 := constant S_ .f32 0x7F800000#32
  let main_v10 : FVec F S16x256x256 .f32 := broadcastInDim S16x256x256 ![] bcast_S_S16x256x256 main_cst_2
  let main_v11 : IVec S16x256x256 1 := cmpf .olt main_v9 main_v10
  let main_c_3 : IVec S_ 1 := constantI S_ 1 1#1
  let main_v12 : IVec S_ 1 := (fun x v => Host.reduce IntOp.andi x v reducesTo_S16x256x256_S_d0_1_2 h_S_) main_v11 main_c_3
  let main_v13 : IVec S_ 1 := andi main_v8 main_v12
  main_v13
-- ==== Kernel.lean ====
abbrev S4x1024x256 : Shape := ⟨3, ![4, 1024, 256]⟩
abbrev S4x4x1024 : Shape := ⟨3, ![4, 4, 1024]⟩
abbrev S4x1024x4x64 : Shape := ⟨4, ![4, 1024, 4, 64]⟩
abbrev S4x4x1024x64 : Shape := ⟨4, ![4, 4, 1024, 64]⟩
abbrev S4x4x16x64x64 : Shape := ⟨5, ![4, 4, 16, 64, 64]⟩
abbrev S_ : Shape := ⟨0, ![]⟩
abbrev S4x4x64x64 : Shape := ⟨4, ![4, 4, 64, 64]⟩
abbrev S4x4x1152x64 : Shape := ⟨4, ![4, 4, 1152, 64]⟩
abbrev S4x4x18x64x64 : Shape := ⟨5, ![4, 4, 18, 64, 64]⟩
abbrev S4x4x16x192x64 : Shape := ⟨5, ![4, 4, 16, 192, 64]⟩
abbrev S4x4x16x64x192 : Shape := ⟨5, ![4, 4, 16, 64, 192]⟩
abbrev S1024 : Shape := ⟨1, ![1024]⟩
abbrev S16x64 : Shape := ⟨2, ![16, 64]⟩
abbrev S16x64x1 : Shape := ⟨3, ![16, 64, 1]⟩
abbrev S16 : Shape := ⟨1, ![16]⟩
abbrev S16x1x1 : Shape := ⟨3, ![16, 1, 1]⟩
abbrev S192 : Shape := ⟨1, ![192]⟩
abbrev S1x1x192 : Shape := ⟨3, ![1, 1, 192]⟩
abbrev S16x1x192 : Shape := ⟨3, ![16, 1, 192]⟩
abbrev S16x64x192 : Shape := ⟨3, ![16, 64, 192]⟩
abbrev S4x4x16x64 : Shape := ⟨4, ![4, 4, 16, 64]⟩
abbrev S4x4x16x64x1 : Shape := ⟨5, ![4, 4, 16, 64, 1]⟩
abbrev S4x4x1024x1 : Shape := ⟨4, ![4, 4, 1024, 1]⟩
abbrev S1x512x256 : Shape := ⟨3, ![1, 512, 256]⟩
abbrev S1x1024x256 : Shape := ⟨3, ![1, 1024, 256]⟩
abbrev S3x512x256 : Shape := ⟨3, ![3, 512, 256]⟩
abbrev S512x256 : Shape := ⟨2, ![512, 256]⟩
abbrev S1x256x256 : Shape := ⟨3, ![1, 256, 256]⟩
abbrev S256x256 : Shape := ⟨2, ![256, 256]⟩
abbrev S128x256 : Shape := ⟨2, ![128, 256]⟩
abbrev S1x128x256 : Shape := ⟨3, ![1, 128, 256]⟩
abbrev S1x128x1 : Shape := ⟨3, ![1, 128, 1]⟩
abbrev S128x1 : Shape := ⟨2, ![128, 1]⟩
abbrev S512x1 : Shape := ⟨2, ![512, 1]⟩

abbrev nBuf : Space → Nat
  | .hbm => 117
  | .vmem => 19
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .bf16⟩
  | .hbm, ⟨2, _⟩ => ⟨S4x1024x256, .bf16⟩
  | .hbm, ⟨3, _⟩ => ⟨S4x1024x256, .bf16⟩
  | .hbm, ⟨4, _⟩ => ⟨S4x4x1024, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x4x64, .f32⟩
  | .hbm, ⟨10, _⟩ => ⟨S4x4x1024x64, .f32⟩
  | .hbm, ⟨11, _⟩ => ⟨S4x1024x4x64, .f32⟩
  | .hbm, ⟨12, _⟩ => ⟨S4x4x1024x64, .f32⟩
  | .hbm, ⟨13, _⟩ => ⟨S4x1024x4x64, .f32⟩
  | .hbm, ⟨14, _⟩ => ⟨S4x4x1024x64, .f32⟩
  | .hbm, ⟨15, _⟩ => ⟨S4x4x16x64x64, .f32⟩
  | .hbm, ⟨16, _⟩ => ⟨S_, .f32⟩
  | .hbm, ⟨17, _⟩ => ⟨S4x4x64x64, .f32⟩
  | .hbm, ⟨18, _⟩ => ⟨S4x4x1152x64, .f32⟩
  | .hbm, ⟨19, _⟩ => ⟨S4x4x18x64x64, .f32⟩
  | .hbm, ⟨20, _⟩ => ⟨S4x4x16x64x64, .f32⟩
  | .hbm, ⟨21, _⟩ => ⟨S4x4x16x64x64, .f32⟩
  | .hbm, ⟨22, _⟩ => ⟨S4x4x16x64x64, .f32⟩
  | .hbm, ⟨23, _⟩ => ⟨S4x4x16x192x64, .f32⟩
  | .hbm, ⟨24, _⟩ => ⟨S_, .f32⟩
  | .hbm, ⟨25, _⟩ => ⟨S4x4x64x64, .f32⟩
  | .hbm, ⟨26, _⟩ => ⟨S4x4x1152x64, .f32⟩
  | .hbm, ⟨27, _⟩ => ⟨S4x4x18x64x64, .f32⟩
  | .hbm, ⟨28, _⟩ => ⟨S4x4x16x64x64, .f32⟩
  | .hbm, ⟨29, _⟩ => ⟨S4x4x16x64x64, .f32⟩
  | .hbm, ⟨30, _⟩ => ⟨S4x4x16x64x64, .f32⟩
  | .hbm, ⟨31, _⟩ => ⟨S4x4x16x192x64, .f32⟩
  | .hbm, ⟨32, _⟩ => ⟨S4x4x16x64x192, .f32⟩
  | .hbm, ⟨33, _⟩ => ⟨S_, .f32⟩
  | .hbm, ⟨34, _⟩ => ⟨S4x4x16x64x192, .f32⟩
  | .hbm, ⟨35, _⟩ => ⟨S4x4x16x64x192, .f32⟩
  | .hbm, ⟨36, _⟩ => ⟨S1024, .i32⟩
  | .hbm, ⟨37, _⟩ => ⟨S16x64, .i32⟩
  | .hbm, ⟨38, _⟩ => ⟨S16x64x1, .i32⟩
  | .hbm, ⟨39, _⟩ => ⟨S16, .i32⟩
  | .hbm, ⟨40, _⟩ => ⟨S16x1x1, .i32⟩
  | .hbm, ⟨41, _⟩ => ⟨S_, .i32⟩
  | .hbm, ⟨42, _⟩ => ⟨S16x1x1, .i32⟩
  | .hbm, ⟨43, _⟩ => ⟨S16x1x1, .i32⟩
  | .hbm, ⟨44, _⟩ => ⟨S_, .i32⟩
  | .hbm, ⟨45, _⟩ => ⟨S16x1x1, .i32⟩
  | .hbm, ⟨46, _⟩ => ⟨S16x1x1, .i32⟩
  | .hbm, ⟨47, _⟩ => ⟨S192, .i32⟩
  | .hbm, ⟨48, _⟩ => ⟨S1x1x192, .i32⟩
  | .hbm, ⟨49, _⟩ => ⟨S16x1x192, .i32⟩
  | .hbm, ⟨50, _⟩ => ⟨S16x1x192, .i32⟩
  | .hbm, ⟨51, _⟩ => ⟨S16x1x192, .i32⟩
  | .hbm, ⟨52, _⟩ => ⟨S_, .i32⟩
  | .hbm, ⟨53, _⟩ => ⟨S16x1x192, .i32⟩
  | .hbm, ⟨54, _⟩ => ⟨S16x1x192, .i1⟩
  | .hbm, ⟨55, _⟩ => ⟨S_, .i32⟩
  | .hbm, ⟨56, _⟩ => ⟨S16x1x192, .i32⟩
  | .hbm, ⟨57, _⟩ => ⟨S16x1x192, .i1⟩
  | .hbm, ⟨58, _⟩ => ⟨S16x1x192, .i1⟩
  | .hbm, ⟨59, _⟩ => ⟨S16x64x192, .i32⟩
  | .hbm, ⟨60, _⟩ => ⟨S16x64x192, .i32⟩
  | .hbm, ⟨61, _⟩ => ⟨S16x64x192, .i32⟩
  | .hbm, ⟨62, _⟩ => ⟨S16x64x192, .i32⟩
  | .hbm, ⟨63, _⟩ => ⟨S_, .i32⟩
  | .hbm, ⟨64, _⟩ => ⟨S16x64x192, .i32⟩
  | .hbm, ⟨65, _⟩ => ⟨S16x64x192, .i1⟩
  | .hbm, ⟨66, _⟩ => ⟨S16x64x192, .i1⟩
  | .hbm, ⟨67, _⟩ => ⟨S16x64x192, .i1⟩
  | .hbm, ⟨68, _⟩ => ⟨S_, .f32⟩
  | .hbm, ⟨69, _⟩ => ⟨S_, .f32⟩
  | .hbm, ⟨70, _⟩ => ⟨S4x4x16x64x192, .i1⟩
  | .hbm, ⟨71, _⟩ => ⟨S4x4x16x64x192, .f32⟩
  | .hbm, ⟨72, _⟩ => ⟨S4x4x16x64x192, .f32⟩
  | .hbm, ⟨73, _⟩ => ⟨S_, .f32⟩
  | .hbm, ⟨74, _⟩ => ⟨S4x4x16x64, .f32⟩
  | .hbm, ⟨75, _⟩ => ⟨S4x4x16x64, .f32⟩
  | .hbm, ⟨76, _⟩ => ⟨S_, .f32⟩
  | .hbm, ⟨77, _⟩ => ⟨S4x4x16x64, .f32⟩
  | .hbm, ⟨78, _⟩ => ⟨S4x4x16x64, .i1⟩
  | .hbm, ⟨79, _⟩ => ⟨S_, .f32⟩
  | .hbm, ⟨80, _⟩ => ⟨S_, .f32⟩
  | .hbm, ⟨81, _⟩ => ⟨S4x4x16x64, .f32⟩
  | .hbm, ⟨82, _⟩ => ⟨S4x4x16x64, .f32⟩
  | .hbm, ⟨83, _⟩ => ⟨S4x4x16x64x1, .f32⟩
  | .hbm, ⟨84, _⟩ => ⟨S4x4x16x64x192, .f32⟩
  | .hbm, ⟨85, _⟩ => ⟨S4x4x16x64x192, .f32⟩
  | .hbm, ⟨86, _⟩ => ⟨S4x4x16x64x192, .f32⟩
  | .hbm, ⟨87, _⟩ => ⟨S_, .f32⟩
  | .hbm, ⟨88, _⟩ => ⟨S4x4x16x64, .f32⟩
  | .hbm, ⟨89, _⟩ => ⟨S4x4x16x64, .f32⟩
  | .hbm, ⟨90, _⟩ => ⟨S4x4x16x64, .f32⟩
  | .hbm, ⟨91, _⟩ => ⟨S4x4x16x64x1, .f32⟩
  | .hbm, ⟨92, _⟩ => ⟨S4x4x16x64x192, .f32⟩
  | .hbm, ⟨93, _⟩ => ⟨S4x4x16x64x192, .f32⟩
  | .hbm, ⟨94, _⟩ => ⟨S4x4x16x64x192, .f32⟩
  | .hbm, ⟨95, _⟩ => ⟨S4x4x16x64x64, .f32⟩
  | .hbm, ⟨96, _⟩ => ⟨S4x4x1024x64, .f32⟩
  | .hbm, ⟨97, _⟩ => ⟨S4x4x1024, .f32⟩
  | .hbm, ⟨98, _⟩ => ⟨S4x1024x4x64, .f32⟩
  | .hbm, ⟨99, _⟩ => ⟨S4x1024x256, .f32⟩
  | .hbm, ⟨100, _⟩ => ⟨S4x1024x256, .f32⟩
  | .hbm, ⟨101, _⟩ => ⟨S4x1024x4x64, .f32⟩
  | .hbm, ⟨102, _⟩ => ⟨S4x4x1024x64, .f32⟩
  | .hbm, ⟨103, _⟩ => ⟨S_, .f32⟩
  | .hbm, ⟨104, _⟩ => ⟨S4x4x1024, .f32⟩
  | .hbm, ⟨105, _⟩ => ⟨S4x4x1024, .f32⟩
  | .hbm, ⟨106, _⟩ => ⟨S4x4x1024x1, .f32⟩
  | .hbm, ⟨107, _⟩ => ⟨S4x4x1024x64, .f32⟩
  | .hbm, ⟨108, _⟩ => ⟨S4x1024x4x64, .f32⟩
  | .hbm, ⟨109, _⟩ => ⟨S4x1024x256, .f32⟩
  | .hbm, ⟨110, _⟩ => ⟨S4x4x1024x1, .f32⟩
  | .hbm, ⟨111, _⟩ => ⟨S4x4x1024x64, .f32⟩
  | .hbm, ⟨112, _⟩ => ⟨S4x1024x4x64, .f32⟩
  | .hbm, ⟨113, _⟩ => ⟨S4x1024x256, .f32⟩
  | .hbm, ⟨114, _⟩ => ⟨S4x1024x256, .f32⟩
  | .hbm, ⟨115, _⟩ => ⟨S4x1024x256, .f32⟩
  | .hbm, ⟨116, _⟩ => ⟨S4x1024x256, .f32⟩
  | .local _ .vmem, ⟨0, _⟩ => ⟨S1x512x256, .bf16⟩
  | .local _ .vmem, ⟨1, _⟩ => ⟨S1x512x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x1024x256, .f32⟩
  | .local _ .vmem, ⟨15, _⟩ => ⟨S1x1024x256, .f32⟩
  | .local _ .vmem, ⟨16, _⟩ => ⟨S1x1024x256, .f32⟩
  | .local _ .vmem, ⟨17, _⟩ => ⟨S1x1024x256, .f32⟩
  | .local _ .vmem, ⟨18, _⟩ => ⟨S3x512x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c : Ref sig .tc := ⟨.hbm, 41, rfl⟩
abbrev main_v33 : Ref sig .tc := ⟨.hbm, 42, rfl⟩
abbrev main_v34 : Ref sig .tc := ⟨.hbm, 43, rfl⟩
abbrev main_c_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_3 : Ref sig .tc := ⟨.hbm, 52, rfl⟩
abbrev main_v42 : Ref sig .tc := ⟨.hbm, 53, rfl⟩
abbrev main_v43 : Ref sig .tc := ⟨.hbm, 54, rfl⟩
abbrev main_c_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c_5 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_call1_v0 : Ref sig .tc := ⟨.hbm, 80, rfl⟩
abbrev main_call1_v1 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_11 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90_0 : Ref sig .tc := ⟨.hbm, 114, rfl⟩
abbrev main_v90_1 : Ref sig .tc := ⟨.hbm, 115, rfl⟩
abbrev main_v90_2 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let c768_i32 : BitVec 32 := 768#32
  let c0_i32_8 : BitVec 32 := 0#32
  let arg1 : BitVec 32 := BitVec.ofNat 32 (i 1).val
  let c4_i32 : BitVec 32 := 4#32
  let v8 : BitVec 32 := Scalar.muli arg1 c4_i32
  let c0_i32_4 : BitVec 32 := 0#32
  let v9 : BitVec 32 := Scalar.addi v8 c0_i32_4
  let c128_i32 : BitVec 32 := 128#32
  let v16 : BitVec 32 := Scalar.muli v9 c128_i32
  let c64_i32 : BitVec 32 := 64#32
  let v17 : BitVec 32 := Scalar.subi v16 c64_i32
  let v18 : BitVec 32 := Scalar.maxsi c0_i32_8 v17
  let v19 : BitVec 32 := Scalar.minsi c768_i32 v18
  v19
def k0_off1 (i : grid0.Coords) (c0_i32_4 : BitVec 32) : Fin 3 → Nat :=
  let c0 : Index := 0#32
  let c768_i32 : BitVec 32 := 768#32
  let c0_i32_8 : BitVec 32 := 0#32
  let arg1 : BitVec 32 := BitVec.ofNat 32 (i 1).val
  let c4_i32 : BitVec 32 := 4#32
  let v8 : BitVec 32 := Scalar.muli arg1 c4_i32
  let v9 : BitVec 32 := Scalar.addi v8 c0_i32_4
  let c128_i32 : BitVec 32 := 128#32
  let v16 : BitVec 32 := Scalar.muli v9 c128_i32
  let c64_i32 : BitVec 32 := 64#32
  let v17 : BitVec 32 := Scalar.subi v16 c64_i32
  let v18 : BitVec 32 := Scalar.maxsi c0_i32_8 v17
  let v19 : BitVec 32 := Scalar.minsi c768_i32 v18
  let v20 : BitVec 32 := v19
  let v21 : Index := Scalar.indexCast v20
  let c0_9 : Index := 0#32
  ![0, v21.toNat, 0]
def k0_mult2 (i : grid0.Coords) : BitVec 32 :=
  let c768_i32_15 : BitVec 32 := 768#32
  let c0_i32_14 : BitVec 32 := 0#32
  let arg1 : BitVec 32 := BitVec.ofNat 32 (i 1).val
  let c4_i32_5 : BitVec 32 := 4#32
  let v10 : BitVec 32 := Scalar.muli arg1 c4_i32_5
  let c1_i32 : BitVec 32 := 1#32
  let v11 : BitVec 32 := Scalar.addi v10 c1_i32
  let c128_i32_12 : BitVec 32 := 128#32
  let v27 : BitVec 32 := Scalar.muli v11 c128_i32_12
  let c64_i32_13 : BitVec 32 := 64#32
  let v28 : BitVec 32 := Scalar.subi v27 c64_i32_13
  let v29 : BitVec 32 := Scalar.maxsi c0_i32_14 v28
  let v30 : BitVec 32 := Scalar.minsi c768_i32_15 v29
  v30
def k0_mult3 (i : grid0.Coords) : BitVec 32 :=
  let c768_i32_23 : BitVec 32 := 768#32
  let c0_i32_22 : BitVec 32 := 0#32
  let arg1 : BitVec 32 := BitVec.ofNat 32 (i 1).val
  let c4_i32_6 : BitVec 32 := 4#32
  let v12 : BitVec 32 := Scalar.muli arg1 c4_i32_6
  let c2_i32 : BitVec 32 := 2#32
  let v13 : BitVec 32 := Scalar.addi v12 c2_i32
  let c128_i32_20 : BitVec 32 := 128#32
  let v38 : BitVec 32 := Scalar.muli v13 c128_i32_20
  let c64_i32_21 : BitVec 32 := 64#32
  let v39 : BitVec 32 := Scalar.subi v38 c64_i32_21
  let v40 : BitVec 32 := Scalar.maxsi c0_i32_22 v39
  let v41 : BitVec 32 := Scalar.minsi c768_i32_23 v40
  v41
def k0_mult4 (i : grid0.Coords) : BitVec 32 :=
  let c768_i32_31 : BitVec 32 := 768#32
  let c0_i32_30 : BitVec 32 := 0#32
  let arg1 : BitVec 32 := BitVec.ofNat 32 (i 1).val
  let c4_i32_7 : BitVec 32 := 4#32
  let v14 : BitVec 32 := Scalar.muli arg1 c4_i32_7
  let c3_i32 : BitVec 32 := 3#32
  let v15 : BitVec 32 := Scalar.addi v14 c3_i32
  let c128_i32_28 : BitVec 32 := 128#32
  let v49 : BitVec 32 := Scalar.muli v15 c128_i32_28
  let c64_i32_29 : BitVec 32 := 64#32
  let v50 : BitVec 32 := Scalar.subi v49 c64_i32_29
  let v51 : BitVec 32 := Scalar.maxsi c0_i32_30 v50
  let v52 : BitVec 32 := Scalar.minsi c768_i32_31 v51
  v52
def k0_off2 (i : grid0.Coords) (c0_i32_4 : BitVec 32) : Fin 3 → Nat :=
  let arg1 : BitVec 32 := BitVec.ofNat 32 (i 1).val
  let c4_i32 : BitVec 32 := 4#32
  let v8 : BitVec 32 := Scalar.muli arg1 c4_i32
  let v9 : BitVec 32 := Scalar.addi v8 c0_i32_4
  let c128_i32_167 : BitVec 32 := 128#32
  let v324 : BitVec 32 := Scalar.muli v9 c128_i32_167
  let c768_i32 : BitVec 32 := 768#32
  let c0_i32_8 : BitVec 32 := 0#32
  let c128_i32 : BitVec 32 := 128#32
  let v16 : BitVec 32 := Scalar.muli v9 c128_i32
  let c64_i32 : BitVec 32 := 64#32
  let v17 : BitVec 32 := Scalar.subi v16 c64_i32
  let v18 : BitVec 32 := Scalar.maxsi c0_i32_8 v17
  let v19 : BitVec 32 := Scalar.minsi c768_i32 v18
  let v20 : BitVec 32 := v19
  let v325 : BitVec 32 := Scalar.subi v324 v20
  let c0_i32_169 : BitVec 32 := 0#32
  let v327 : BitVec 1 := Scalar.cmpi .sgt v325 c0_i32_169
  let v328 : BitVec 32 := Scalar.extui v327
  let c0_i32_170 : BitVec 32 := 0#32
  let v329 : BitVec 1 := Scalar.cmpi .slt v325 c0_i32_170
  let v330 : BitVec 32 := Scalar.extui v329
  let v331 : BitVec 32 := Scalar.subi v328 v330
  let c64_i32_168 : BitVec 32 := 64#32
  let c0_i32_171 : BitVec 32 := 0#32
  let v332 : BitVec 1 := Scalar.cmpi .sgt c64_i32_168 c0_i32_171
  let v333 : BitVec 32 := Scalar.extui v332
  let c0_i32_172 : BitVec 32 := 0#32
  let v334 : BitVec 1 := Scalar.cmpi .slt c64_i32_168 c0_i32_172
  let v335 : BitVec 32 := Scalar.extui v334
  let v336 : BitVec 32 := Scalar.subi v333 v335
  let v337 : BitVec 1 := Scalar.cmpi .ne v331 v336
  let v338 : BitVec 32 := Scalar.remsi v325 c64_i32_168
  let c0_i32_173 : BitVec 32 := 0#32
  let v339 : BitVec 1 := Scalar.cmpi .ne v338 c0_i32_173
  let v340 : BitVec 1 := Scalar.andi v337 v339
  let v326 : BitVec 32 := Scalar.divsi v325 c64_i32_168
  let c1_i32_174 : BitVec 32 := 1#32
  let v341 : BitVec 32 := Scalar.subi v326 c1_i32_174
  let v342 : BitVec 32 := Scalar.select v340 v341 v326
  let v343 : Index := Scalar.indexCast v342
  let c0_175 : Index := 0#32
  let c0_176 : Index := 0#32
  ![v343.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4x1024x256 : Shape := ⟨3, ![4, 1024, 256]⟩
abbrev S4x4x1024 : Shape := ⟨3, ![4, 4, 1024]⟩
abbrev S4x1024x4x64 : Shape := ⟨4, ![4, 1024, 4, 64]⟩
abbrev S4x4x1024x64 : Shape := ⟨4, ![4, 4, 1024, 64]⟩
abbrev S4x4x16x64x64 : Shape := ⟨5, ![4, 4, 16, 64, 64]⟩
abbrev S_ : Shape := ⟨0, ![]⟩
abbrev S4x4x64x64 : Shape := ⟨4, ![4, 4, 64, 64]⟩
abbrev S4x4x1152x64 : Shape := ⟨4, ![4, 4, 1152, 64]⟩
abbrev S4x4x18x64x64 : Shape := ⟨5, ![4, 4, 18, 64, 64]⟩
abbrev S4x4x16x192x64 : Shape := ⟨5, ![4, 4, 16, 192, 64]⟩
abbrev S4x4x16x64x192 : Shape := ⟨5, ![4, 4, 16, 64, 192]⟩
abbrev S1024 : Shape := ⟨1, ![1024]⟩
abbrev S16x64 : Shape := ⟨2, ![16, 64]⟩
abbrev S16x64x1 : Shape := ⟨3, ![16, 64, 1]⟩
abbrev S16 : Shape := ⟨1, ![16]⟩
abbrev S16x1x1 : Shape := ⟨3, ![16, 1, 1]⟩
abbrev S192 : Shape := ⟨1, ![192]⟩
abbrev S1x1x192 : Shape := ⟨3, ![1, 1, 192]⟩
abbrev S16x1x192 : Shape := ⟨3, ![16, 1, 192]⟩
abbrev S16x64x192 : Shape := ⟨3, ![16, 64, 192]⟩
abbrev S4x4x16x64 : Shape := ⟨4, ![4, 4, 16, 64]⟩
abbrev S4x4x16x64x1 : Shape := ⟨5, ![4, 4, 16, 64, 1]⟩

abbrev nBuf : Space → Nat
  | .hbm => 174
  | .vmem => 0
  | .smem => 0
  | _ => 0

abbrev hbmTy0_0 (i : Nat) : BufTy := match i % 128 with
  | 0 => ⟨S4x1024x256, .bf16⟩
  | 1 => ⟨S4x1024x256, .bf16⟩
  | 2 => ⟨S4x1024x256, .bf16⟩
  | 3 => ⟨S4x1024x256, .bf16⟩
  | 4 => ⟨S4x4x1024, .f32⟩
  | 5 => ⟨S4x1024x256, .f32⟩
  | 6 => ⟨S4x1024x256, .f32⟩
  | 7 => ⟨S4x1024x256, .f32⟩
  | 8 => ⟨S4x1024x256, .f32⟩
  | 9 => ⟨S4x1024x4x64, .f32⟩
  | 10 => ⟨S4x4x1024x64, .f32⟩
  | 11 => ⟨S4x1024x4x64, .f32⟩
  | 12 => ⟨S4x4x1024x64, .f32⟩
  | 13 => ⟨S4x1024x4x64, .f32⟩
  | 14 => ⟨S4x4x1024x64, .f32⟩
  | 15 => ⟨S4x4x16x64x64, .f32⟩
  | 16 => ⟨S_, .f32⟩
  | 17 => ⟨S4x4x64x64, .f32⟩
  | 18 => ⟨S4x4x1152x64, .f32⟩
  | 19 => ⟨S_, .f32⟩
  | 20 => ⟨S4x4x64x64, .f32⟩
  | 21 => ⟨S_, .f32⟩
  | 22 => ⟨S4x4x64x64, .f32⟩
  | 23 => ⟨S4x4x18x64x64, .f32⟩
  | 24 => ⟨S4x4x16x64x64, .f32⟩
  | 25 => ⟨S4x4x16x64x64, .f32⟩
  | 26 => ⟨S4x4x16x64x64, .f32⟩
  | 27 => ⟨S4x4x16x192x64, .f32⟩
  | 28 => ⟨S_, .f32⟩
  | 29 => ⟨S4x4x64x64, .f32⟩
  | 30 => ⟨S4x4x1152x64, .f32⟩
  | 31 => ⟨S_, .f32⟩
  | 32 => ⟨S4x4x64x64, .f32⟩
  | 33 => ⟨S_, .f32⟩
  | 34 => ⟨S4x4x64x64, .f32⟩
  | 35 => ⟨S4x4x18x64x64, .f32⟩
  | 36 => ⟨S4x4x16x64x64, .f32⟩
  | 37 => ⟨S4x4x16x64x64, .f32⟩
  | 38 => ⟨S4x4x16x64x64, .f32⟩
  | 39 => ⟨S4x4x16x192x64, .f32⟩
  | 40 => ⟨S4x4x16x64x192, .f32⟩
  | 41 => ⟨S_, .f32⟩
  | 42 => ⟨S4x4x16x64x192, .f32⟩
  | 43 => ⟨S4x4x16x64x192, .f32⟩
  | 44 => ⟨S1024, .i32⟩
  | 45 => ⟨S16x64, .i32⟩
  | 46 => ⟨S16x64x1, .i32⟩
  | 47 => ⟨S16, .i32⟩
  | 48 => ⟨S16x1x1, .i32⟩
  | 49 => ⟨S_, .i32⟩
  | 50 => ⟨S16x1x1, .i32⟩
  | 51 => ⟨S16x1x1, .i32⟩
  | 52 => ⟨S_, .i32⟩
  | 53 => ⟨S16x1x1, .i32⟩
  | 54 => ⟨S16x1x1, .i32⟩
  | 55 => ⟨S192, .i32⟩
  | 56 => ⟨S1x1x192, .i32⟩
  | 57 => ⟨S16x1x192, .i32⟩
  | 58 => ⟨S16x1x192, .i32⟩
  | 59 => ⟨S16x1x192, .i32⟩
  | 60 => ⟨S_, .i32⟩
  | 61 => ⟨S16x1x192, .i32⟩
  | 62 => ⟨S16x1x192, .i1⟩
  | 63 => ⟨S_, .i32⟩
  | 64 => ⟨S16x1x192, .i32⟩
  | 65 => ⟨S16x1x192, .i1⟩
  | 66 => ⟨S16x1x192, .i1⟩
  | 67 => ⟨S16x64x192, .i32⟩
  | 68 => ⟨S16x64x192, .i32⟩
  | 69 => ⟨S16x64x192, .i32⟩
  | 70 => ⟨S16x64x192, .i32⟩
  | 71 => ⟨S_, .i32⟩
  | 72 => ⟨S16x64x192, .i32⟩
  | 73 => ⟨S16x64x192, .i1⟩
  | 74 => ⟨S16x64x192, .i1⟩
  | 75 => ⟨S16x64x192, .i1⟩
  | 76 => ⟨S_, .f32⟩
  | 77 => ⟨S_, .f32⟩
  | 78 => ⟨S4x4x16x64x192, .i1⟩
  | 79 => ⟨S4x4x16x64x192, .f32⟩
  | 80 => ⟨S4x4x16x64x192, .f32⟩
  | 81 => ⟨S_, .f32⟩
  | 82 => ⟨S4x4x16x64x192, .f32⟩
  | 83 => ⟨S_, .f32⟩
  | 84 => ⟨S4x4x16x64, .f32⟩
  | 85 => ⟨S4x4x16x64, .f32⟩
  | 86 => ⟨S_, .f32⟩
  | 87 => ⟨S4x4x16x64, .f32⟩
  | 88 => ⟨S4x4x16x64, .i1⟩
  | 89 => ⟨S_, .f32⟩
  | 90 => ⟨S_, .f32⟩
  | 91 => ⟨S4x4x16x64, .f32⟩
  | 92 => ⟨S4x4x16x64, .f32⟩
  | 93 => ⟨S4x4x16x64x1, .f32⟩
  | 94 => ⟨S4x4x16x64x192, .f32⟩
  | 95 => ⟨S4x4x16x64x192, .f32⟩
  | 96 => ⟨S4x4x16x64x192, .f32⟩
  | 97 => ⟨S_, .f32⟩
  | 98 => ⟨S4x4x16x64, .f32⟩
  | 99 => ⟨S4x4x16x64, .f32⟩
  | 100 => ⟨S4x4x16x64, .f32⟩
  | 101 => ⟨S4x4x16x64x1, .f32⟩
  | 102 => ⟨S4x4x16x64x192, .f32⟩
  | 103 => ⟨S4x4x16x64x192, .f32⟩
  | 104 => ⟨S4x4x16x64x192, .f32⟩
  | 105 => ⟨S4x4x16x64x64, .f32⟩
  | 106 => ⟨S4x4x1024x64, .f32⟩
  | 107 => ⟨S4x4x1024, .f32⟩
  | 108 => ⟨S4x1024x4x64, .f32⟩
  | 109 => ⟨S4x1024x256, .f32⟩
  | 110 => ⟨S4x1024x4x64, .f32⟩
  | 111 => ⟨S4x4x1024x64, .f32⟩
  | 112 => ⟨S4x4x16x64, .f32⟩
  | 113 => ⟨S4x4x16x64x64, .f32⟩
  | 114 => ⟨S4x4x16x64x192, .f32⟩
  | 115 => ⟨S4x4x16x192x64, .f32⟩
  | 116 => ⟨S4x4x16x64x192, .f32⟩
  | 117 => ⟨S4x4x16x64x192, .f32⟩
  | 118 => ⟨S4x4x16x64x192, .f32⟩
  | 119 => ⟨S_, .f32⟩
  | 120 => ⟨S4x4x16x64, .f32⟩
  | 121 => ⟨S4x4x16x64x1, .f32⟩
  | 122 => ⟨S_, .f32⟩
  | 123 => ⟨S4x4x16x64, .f32⟩
  | 124 => ⟨S4x4x16x64, .f32⟩
  | 125 => ⟨S4x4x16x64, .f32⟩
  | 126 => ⟨S4x4x16x64x192, .f32⟩
  | 127 => ⟨S4x4x16x64x192, .f32⟩
  | _ => ⟨S4x1024x256, .bf16⟩

abbrev hbmTy0_1 (i : Nat) : BufTy := match i % 128 with
  | 0 => ⟨S4x4x16x64x192, .f32⟩
  | 1 => ⟨S_, .f32⟩
  | 2 => ⟨S4x4x16x64x192, .f32⟩
  | 3 => ⟨S4x4x16x64x192, .f32⟩
  | 4 => ⟨S_, .f32⟩
  | 5 => ⟨S4x4x16x64x192, .f32⟩
  | 6 => ⟨S4x4x16x64x192, .f32⟩
  | 7 => ⟨S4x4x16x192x64, .f32⟩
  | 8 => ⟨S4x4x16x64x64, .f32⟩
  | 9 => ⟨S4x4x16x64x64, .f32⟩
  | 10 => ⟨S4x4x16x64x64, .f32⟩
  | 11 => ⟨S4x4x16x64x64, .f32⟩
  | 12 => ⟨S_, .f32⟩
  | 13 => ⟨S4x4x18x64x64, .f32⟩
  | 14 => ⟨S_, .f32⟩
  | 15 => ⟨S4x4x18x64x64, .f32⟩
  | 16 => ⟨S4x4x18x64x64, .f32⟩
  | 17 => ⟨S_, .f32⟩
  | 18 => ⟨S4x4x18x64x64, .f32⟩
  | 19 => ⟨S4x4x18x64x64, .f32⟩
  | 20 => ⟨S4x4x1152x64, .f32⟩
  | 21 => ⟨S4x4x64x64, .f32⟩
  | 22 => ⟨S4x4x1024x64, .f32⟩
  | 23 => ⟨S4x4x64x64, .f32⟩
  | 24 => ⟨S4x4x16x64x64, .f32⟩
  | 25 => ⟨S4x4x16x64x64, .f32⟩
  | 26 => ⟨S4x4x16x64x64, .f32⟩
  | 27 => ⟨S_, .f32⟩
  | 28 => ⟨S4x4x18x64x64, .f32⟩
  | 29 => ⟨S_, .f32⟩
  | 30 => ⟨S4x4x18x64x64, .f32⟩
  | 31 => ⟨S4x4x18x64x64, .f32⟩
  | 32 => ⟨S_, .f32⟩
  | 33 => ⟨S4x4x18x64x64, .f32⟩
  | 34 => ⟨S4x4x18x64x64, .f32⟩
  | 35 => ⟨S4x4x1152x64, .f32⟩
  | 36 => ⟨S4x4x64x64, .f32⟩
  | 37 => ⟨S4x4x1024x64, .f32⟩
  | 38 => ⟨S4x4x64x64, .f32⟩
  | 39 => ⟨S4x4x1024x64, .f32⟩
  | 40 => ⟨S4x1024x4x64, .f32⟩
  | 41 => ⟨S4x1024x256, .f32⟩
  | 42 => ⟨S4x1024x4x64, .f32⟩
  | 43 => ⟨S4x1024x256, .f32⟩
  | 44 => ⟨S4x1024x4x64, .f32⟩
  | 45 => ⟨S4x1024x256, .f32⟩
  | _ => ⟨S4x1024x256, .bf16⟩

abbrev hbmTy (i : Nat) : BufTy := match i / 128 with
  | 0 => hbmTy0_0 i
  | 1 => hbmTy0_1 i
  | _ => ⟨S4x1024x256, .bf16⟩

abbrev bufTy : (tb : Table) → Fin (tcTables nBuf tb) → BufTy
  | .hbm, ⟨i, _⟩ => hbmTy i
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_call0_v0 : Ref sig .tc := ⟨.hbm, 77, rfl⟩
abbrev main_v59_1 : Ref sig .tc := ⟨.hbm, 78, rfl⟩
abbrev main_call0_v2 : Ref sig .tc := ⟨.hbm, 79, rfl⟩
abbrev main_v59_0 : Ref sig .tc := ⟨.hbm, 80, rfl⟩
abbrev main_call0_cst : Ref sig .tc := ⟨.hbm, 81, rfl⟩
abbrev main_v59_2 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_call1_v0 : Ref sig .tc := ⟨.hbm, 90, rfl⟩
abbrev main_call1_v1 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_15 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_call2_cst : Ref sig .tc := ⟨.hbm, 129, rfl⟩
abbrev main_call2_v0 : Ref sig .tc := ⟨.hbm, 130, rfl⟩
abbrev main_v98 : Ref sig .tc := ⟨.hbm, 131, rfl⟩
abbrev main_cst_17 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_18 : Ref sig .tc := ⟨.hbm, 140, rfl⟩
abbrev main_v106 : Ref sig .tc := ⟨.hbm, 141, rfl⟩
abbrev main_cst_19 : Ref sig .tc := ⟨.hbm, 142, rfl⟩
abbrev main_v107 : Ref sig .tc := ⟨.hbm, 143, rfl⟩
abbrev main_v108 : Ref sig .tc := ⟨.hbm, 144, rfl⟩
abbrev main_cst_20 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_21 : Ref sig .tc := ⟨.hbm, 155, rfl⟩
abbrev main_v118 : Ref sig .tc := ⟨.hbm, 156, rfl⟩
abbrev main_cst_22 : Ref sig .tc := ⟨.hbm, 157, rfl⟩
abbrev main_v119 : Ref sig .tc := ⟨.hbm, 158, rfl⟩
abbrev main_v120 : Ref sig .tc := ⟨.hbm, 159, rfl⟩
abbrev main_cst_23 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩

abbrev nD : Nat := 1
abbrev τ : Topo := Topo.v7x

variable {F : FTy → Type} [FloatOps F]

def κ : String → Option EReal := fun
  | "mask" => some ⊥
  | _ => none
-- ==== Up.lean ====
abbrev S4096x1024 : Shape := ⟨2, ![4096, 1024]⟩
abbrev S4096x4096 : Shape := ⟨2, ![4096, 4096]⟩
abbrev S512x1024 : Shape := ⟨2, ![512, 1024]⟩
abbrev S512x4096 : Shape := ⟨2, ![512, 4096]⟩
abbrev S256x1024 : Shape := ⟨2, ![256, 1024]⟩
abbrev S256x4096 : Shape := ⟨2, ![256, 4096]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .bf16⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Du.lean ====
abbrev S4096x1024 : Shape := ⟨2, ![4096, 1024]⟩
abbrev S4096x4096 : Shape := ⟨2, ![4096, 4096]⟩
abbrev S512x1024 : Shape := ⟨2, ![512, 1024]⟩
abbrev S512x4096 : Shape := ⟨2, ![512, 4096]⟩
abbrev S256x1024 : Shape := ⟨2, ![256, 1024]⟩
abbrev S256x4096 : Shape := ⟨2, ![256, 4096]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== GwDown.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwDownRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwUp.lean ====
abbrev S4096x1024 : Shape := ⟨2, ![4096, 1024]⟩
abbrev S4096x4096 : Shape := ⟨2, ![4096, 4096]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwUpRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GwIn.lean ====
abbrev S4096x1024 : Shape := ⟨2, ![4096, 1024]⟩
abbrev S4096x5888 : Shape := ⟨2, ![4096, 5888]⟩
abbrev S5888x1024 : Shape := ⟨2, ![5888, 1024]⟩
abbrev S2048x512 : Shape := ⟨2, ![2048, 512]⟩
abbrev S2048x2944 : Shape := ⟨2, ![2048, 2944]⟩
abbrev S2944x512 : Shape := ⟨2, ![2944, 512]⟩
abbrev S512x2944 : Shape := ⟨2, ![512, 2944]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5888, .bf16⟩
  | .hbm, ⟨2, _⟩ => ⟨S5888x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x2944, .bf16⟩
  | .local _ .vmem, ⟨3, _⟩ => ⟨S2048x2944, .bf16⟩
  | .local _ .vmem, ⟨4, _⟩ => ⟨S2944x512, .bf16⟩
  | .local _ .vmem, ⟨5, _⟩ => ⟨S2944x512, .bf16⟩
  | .local _ .vmem, ⟨6, _⟩ => ⟨S512x2944, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2944x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwInRefIdeal.lean ====
abbrev S4096x1024 : Shape := ⟨2, ![4096, 1024]⟩
abbrev S4096x5888 : Shape := ⟨2, ![4096, 5888]⟩
abbrev S_ : Shape := ⟨0, ![]⟩
abbrev S1024x5888 : Shape := ⟨2, ![1024, 5888]⟩
abbrev S5888x1024 : Shape := ⟨2, ![5888, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5888, .bf16⟩
  | .hbm, ⟨2, _⟩ => ⟨S4096x1024, .f32⟩
  | .hbm, ⟨3, _⟩ => ⟨S4096x5888, .f32⟩
  | .hbm, ⟨4, _⟩ => ⟨S_, .f32⟩
  | .hbm, ⟨5, _⟩ => ⟨S1024x5888, .f32⟩
  | .hbm, ⟨6, _⟩ => ⟨S4096x5888, .f32⟩
  | .hbm, ⟨7, _⟩ => ⟨S5888x1024, .f32⟩
  | .hbm, ⟨8, _⟩ => ⟨S1024x5888, .f32⟩
  | .hbm, ⟨9, _⟩ => ⟨S1024x5888, .bf16⟩
  | .hbm, ⟨10, _⟩ => ⟨S5888x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GwOut.lean ====
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwBna.lean ====
abbrev S4096x512 : Shape := ⟨2, ![4096, 512]⟩
abbrev S4096x1024 : Shape := ⟨2, ![4096, 1024]⟩
abbrev S1024x512 : Shape := ⟨2, ![1024, 512]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S1024x512, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1024x512, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwBnaRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S1024x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GwBd.lean ====
abbrev S4096x256 : Shape := ⟨2, ![4096, 256]⟩
abbrev S4096x1024 : Shape := ⟨2, ![4096, 1024]⟩
abbrev S1024x256 : Shape := ⟨2, ![1024, 256]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S1024x256, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1024x256, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwBdRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S4096x256, .f32⟩
  | .hbm, ⟨3, _⟩ => ⟨S4096x1024, .f32⟩
  | .hbm, ⟨4, _⟩ => ⟨S_, .f32⟩
  | .hbm, ⟨5, _⟩ => ⟨S256x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S1024x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Dc.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v71 : BitVec 1 := Scalar.cmpi .eq arg1 c0_i32
  let v72 : BitVec 32 := Scalar.extui v71
  let c0_i32_39 : BitVec 32 := 0#32
  let v73 : BitVec 1 := Scalar.cmpi .ne v72 c0_i32_39
  v73

def k0_cond2 (i : grid0.Coords) : BitVec 1 :=
  let arg1 : BitVec 32 := BitVec.ofNat 32 (i 1).val
  let c0_i32_40 : BitVec 32 := 0#32
  let v74 : BitVec 1 := Scalar.cmpi .sgt arg1 c0_i32_40
  let v75 : BitVec 32 := Scalar.extui v74
  let c0_i32_41 : BitVec 32 := 0#32
  let v76 : BitVec 1 := Scalar.cmpi .ne v75 c0_i32_41
  v76

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]
-- ==== DcRefIdeal.lean ====
abbrev S4096x4096 : Shape := ⟨2, ![4096, 4096]⟩
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Da.lean ====
abbrev S4096x5888 : Shape := ⟨2, ![4096, 5888]⟩
abbrev S5888x1024 : Shape := ⟨2, ![5888, 1024]⟩
abbrev S4096x1024 : Shape := ⟨2, ![4096, 1024]⟩
abbrev S1x1024 : Shape := ⟨2, ![1, 1024]⟩
abbrev S512x5888 : Shape := ⟨2, ![512, 5888]⟩
abbrev S512x1024 : Shape := ⟨2, ![512, 1024]⟩
abbrev S256x5888 : Shape := ⟨2, ![256, 5888]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5888, .bf16⟩
  | .hbm, ⟨1, _⟩ => ⟨S5888x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x5888, .bf16⟩
  | .local _ .vmem, ⟨1, _⟩ => ⟨S512x5888, .bf16⟩
  | .local _ .vmem, ⟨2, _⟩ => ⟨S5888x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v67 : BitVec 1 := Scalar.cmpi .eq arg1 c0_i32
  let v68 : BitVec 32 := Scalar.extui v67
  let c0_i32_35 : BitVec 32 := 0#32
  let v69 : BitVec 1 := Scalar.cmpi .ne v68 c0_i32_35
  v69

def k0_cond2 (i : grid0.Coords) : BitVec 1 :=
  let arg1 : BitVec 32 := BitVec.ofNat 32 (i 1).val
  let c0_i32_36 : BitVec 32 := 0#32
  let v70 : BitVec 1 := Scalar.cmpi .sgt arg1 c0_i32_36
  let v71 : BitVec 32 := Scalar.extui v70
  let c0_i32_37 : BitVec 32 := 0#32
  let v72 : BitVec 1 := Scalar.cmpi .ne v71 c0_i32_37
  v72

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x5888 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S5888x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== DaRefIdeal.lean ====
abbrev S4096x5888 : Shape := ⟨2, ![4096, 5888]⟩
abbrev S5888x1024 : Shape := ⟨2, ![5888, 1024]⟩
abbrev S4096x1024 : Shape := ⟨2, ![4096, 1024]⟩
abbrev S1x1024 : Shape := ⟨2, ![1, 1024]⟩
abbrev S1024x5888 : Shape := ⟨2, ![1024, 5888]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x5888, .bf16⟩
  | .hbm, ⟨1, _⟩ => ⟨S5888x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S5888x1024, .f32⟩
  | .hbm, ⟨6, _⟩ => ⟨S1024x5888, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5888, .f32⟩
  | .hbm, ⟨27, _⟩ => ⟨S4096x5888, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Tail.lean ====
abbrev S4096x4096 : Shape := ⟨2, ![4096, 4096]⟩
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩
abbrev S1x1024 : Shape := ⟨2, ![1, 1024]⟩
abbrev S256x4096 : Shape := ⟨2, ![256, 4096]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 17
  | .vmem => 26
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1024x1024, .bf16⟩
  | .hbm, ⟨4, _⟩ => ⟨S4096x256, .bf16⟩
  | .hbm, ⟨5, _⟩ => ⟨S1024x256, .bf16⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S1024x1024, .bf16⟩
  | .local _ .vmem, ⟨6, _⟩ => ⟨S256x256, .bf16⟩
  | .local _ .vmem, ⟨7, _⟩ => ⟨S256x256, .bf16⟩
  | .local _ .vmem, ⟨8, _⟩ => ⟨S1024x256, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v119 : BitVec 1 := Scalar.cmpi .eq arg0 c0_i32
  let v120 : BitVec 32 := Scalar.extui v119
  let c0_i32_58 : BitVec 32 := 0#32
  let v121 : BitVec 1 := Scalar.cmpi .ne v120 c0_i32_58
  v121

def k0_cond2 (i : grid0.Coords) : BitVec 1 :=
  let arg0 : BitVec 32 := BitVec.ofNat 32 (i 0).val
  let c0_i32_59 : BitVec 32 := 0#32
  let v122 : BitVec 1 := Scalar.cmpi .sgt arg0 c0_i32_59
  let v123 : BitVec 32 := Scalar.extui v122
  let c0_i32_60 : BitVec 32 := 0#32
  let v124 : BitVec 1 := Scalar.cmpi .ne v123 c0_i32_60
  v124

def k0_cond3 (i : grid0.Coords) : BitVec 1 :=
  let arg0 : BitVec 32 := BitVec.ofNat 32 (i 0).val
  let c0_i32_61 : BitVec 32 := 0#32
  let v125 : BitVec 1 := Scalar.cmpi .eq arg0 c0_i32_61
  let v126 : BitVec 32 := Scalar.extui v125
  let c0_i32_62 : BitVec 32 := 0#32
  let v127 : BitVec 1 := Scalar.cmpi .ne v126 c0_i32_62
  v127

def k0_cond4 (i : grid0.Coords) : BitVec 1 :=
  let arg0 : BitVec 32 := BitVec.ofNat 32 (i 0).val
  let c0_i32_63 : BitVec 32 := 0#32
  let v128 : BitVec 1 := Scalar.cmpi .sgt arg0 c0_i32_63
  let v129 : BitVec 32 := Scalar.extui v128
  let c0_i32_64 : BitVec 32 := 0#32
  let v130 : BitVec 1 := Scalar.cmpi .ne v129 c0_i32_64
  v130

def k0_cond5 (i : grid0.Coords) : BitVec 1 :=
  let arg0 : BitVec 32 := BitVec.ofNat 32 (i 0).val
  let c0_i32_65 : BitVec 32 := 0#32
  let v131 : BitVec 1 := Scalar.cmpi .eq arg0 c0_i32_65
  let v132 : BitVec 32 := Scalar.extui v131
  let c0_i32_66 : BitVec 32 := 0#32
  let v133 : BitVec 1 := Scalar.cmpi .ne v132 c0_i32_66
  v133

def k0_cond6 (i : grid0.Coords) : BitVec 1 :=
  let arg0 : BitVec 32 := BitVec.ofNat 32 (i 0).val
  let c0_i32_67 : BitVec 32 := 0#32
  let v134 : BitVec 1 := Scalar.cmpi .sgt arg0 c0_i32_67
  let v135 : BitVec 32 := Scalar.extui v134
  let c0_i32_68 : BitVec 32 := 0#32
  let v136 : BitVec 1 := Scalar.cmpi .ne v135 c0_i32_68
  v136

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== TailRefIdeal.lean ====
abbrev S4096x4096 : Shape := ⟨2, ![4096, 4096]⟩
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩
abbrev S1x1024 : Shape := ⟨2, ![1, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 166
  | .vmem => 0
  | .smem => 0
  | _ => 0

abbrev hbmTy0_0 (i : Nat) : BufTy := match i % 128 with
  | 0 => ⟨S4096x4096, .bf16⟩
  | 1 => ⟨S4096x1024, .bf16⟩
  | 2 => ⟨S4096x1024, .f32⟩
  | 3 => ⟨S1024x1024, .bf16⟩
  | 4 => ⟨S4096x256, .bf16⟩
  | 5 => ⟨S1024x256, .bf16⟩
  | 6 => ⟨S4096x1024, .f32⟩
  | 7 => ⟨S1x1024, .f32⟩
  | 8 => ⟨S1x1024, .f32⟩
  | 9 => ⟨S1024x1024, .f32⟩
  | 10 => ⟨S1024x256, .f32⟩
  | 11 => ⟨S256x1024, .f32⟩
  | 12 => ⟨S4096x4096, .f32⟩
  | 13 => ⟨S4096x1024, .f32⟩
  | 14 => ⟨S4096x1024, .f32⟩
  | 15 => ⟨S4096x1024, .f32⟩
  | 16 => ⟨S4096x1024, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x256, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S_, .f32⟩
  | 50 => ⟨S4096, .f32⟩
  | 51 => ⟨S4096x1, .f32⟩
  | 52 => ⟨S_, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S_, .f32⟩
  | 73 => ⟨S4096, .f32⟩
  | 74 => ⟨S_, .f32⟩
  | 75 => ⟨S4096, .f32⟩
  | 76 => ⟨S4096, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S4096, .f32⟩
  | 85 => ⟨S_, .f32⟩
  | 86 => ⟨S4096, .f32⟩
  | 87 => ⟨S4096, .f32⟩
  | 88 => ⟨S4096x1024, .f32⟩
  | 89 => ⟨S4096x1024, .f32⟩
  | 90 => ⟨S4096x1024, .f32⟩
  | 91 => ⟨S_, .f32⟩
  | 92 => ⟨S1024, .f32⟩
  | 93 => ⟨S1x1024, .f32⟩
  | 94 => ⟨S4096x1024, .f32⟩
  | 95 => ⟨S4096x1024, .f32⟩
  | 96 => ⟨S4096x1024, .f32⟩
  | 97 => ⟨S_, .f32⟩
  | 98 => ⟨S4096, .f32⟩
  | 99 => ⟨S4096x1, .f32⟩
  | 100 => ⟨S4096x1024, .f32⟩
  | 101 => ⟨S4096x1024, .f32⟩
  | 102 => ⟨S4096x1, .f32⟩
  | 103 => ⟨S_, .f32⟩
  | 104 => ⟨S4096x1, .f32⟩
  | 105 => ⟨S4096x1, .f32⟩
  | 106 => ⟨S_, .f32⟩
  | 107 => ⟨S4096, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S_, .f32⟩
  | 118 => ⟨S4096, .f32⟩
  | 119 => ⟨S4096x1, .f32⟩
  | 120 => ⟨S_, .f32⟩
  | 121 => ⟨S4096x1, .f32⟩
  | 122 => ⟨S4096x1, .f32⟩
  | 123 => ⟨S_, .f32⟩
  | 124 => ⟨S4096x1, .f32⟩
  | 125 => ⟨S4096x1, .f32⟩
  | 126 => ⟨S4096x1, .f32⟩
  | 127 => ⟨S4096x1, .f32⟩
  | _ => ⟨S4096x4096, .bf16⟩

abbrev hbmTy0_1 (i : Nat) : BufTy := match i % 128 with
  | 0 => ⟨S_, .f32⟩
  | 1 => ⟨S4096x1, .f32⟩
  | 2 => ⟨S4096x1, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S_, .f32⟩
  | 11 => ⟨S1024, .f32⟩
  | 12 => ⟨S1x1024, .f32⟩
  | 13 => ⟨S4096x1024, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S4096x1024, .f32⟩
  | 20 => ⟨S4096x1024, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .bf16⟩
  | 34 => ⟨S4096x1024, .bf16⟩
  | 35 => ⟨S4096x1024, .bf16⟩
  | 36 => ⟨S4096x1024, .bf16⟩
  | 37 => ⟨S1x1024, .f32⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_cst_14 : Ref sig .tc := ⟨.hbm, 81, rfl⟩
abbrev main_cst_15 : Ref sig .tc := ⟨.hbm, 82, rfl⟩
abbrev main_v57 : Ref sig .tc := ⟨.hbm, 83, rfl⟩
abbrev main_v58 : Ref sig .tc := ⟨.hbm, 84, rfl⟩
abbrev main_cst_16 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_17 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_18 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_19 : Ref sig .tc := ⟨.hbm, 103, rfl⟩
abbrev main_v74 : Ref sig .tc := ⟨.hbm, 104, rfl⟩
abbrev main_v75 : Ref sig .tc := ⟨.hbm, 105, rfl⟩
abbrev main_cst_20 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_21 : Ref sig .tc := ⟨.hbm, 117, rfl⟩
abbrev main_v86 : Ref sig .tc := ⟨.hbm, 118, rfl⟩
abbrev main_v87 : Ref sig .tc := ⟨.hbm, 119, rfl⟩
abbrev main_cst_22 : Ref sig .tc := ⟨.hbm, 120, rfl⟩
abbrev main_v88 : Ref sig .tc := ⟨.hbm, 121, rfl⟩
abbrev main_v89 : Ref sig .tc := ⟨.hbm, 122, rfl⟩
abbrev main_cst_23 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_24 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_25 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_26 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_27 : Ref sig .tc := ⟨.hbm, 150, rfl⟩
abbrev main_v113 : Ref sig .tc := ⟨.hbm, 151, rfl⟩
abbrev main_v114 : Ref sig .tc := ⟨.hbm, 152, rfl⟩
abbrev main_cst_28 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩

abbrev nD : Nat := 1
abbrev τ : Topo := Topo.v7x

variable {F : FTy → Type} [FloatOps F]
-- ==== GwPg.lean ====
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwPgRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwPp.lean ====
abbrev S4096x256 : Shape := ⟨2, ![4096, 256]⟩
abbrev S4096x1024 : Shape := ⟨2, ![4096, 1024]⟩
abbrev S1024x256 : Shape := ⟨2, ![1024, 256]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S1024x256, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1024x256, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwPpRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S4096x256, .f32⟩
  | .hbm, ⟨3, _⟩ => ⟨S4096x1024, .f32⟩
  | .hbm, ⟨4, _⟩ => ⟨S_, .f32⟩
  | .hbm, ⟨5, _⟩ => ⟨S256x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S1024x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== In.lean ====
abbrev S4096x1024 : Shape := ⟨2, ![4096, 1024]⟩
abbrev S5888x1024 : Shape := ⟨2, ![5888, 1024]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S4096x1536 : Shape := ⟨2, ![4096, 1536]⟩
abbrev S4096x2048 : Shape := ⟨2, ![4096, 2048]⟩
abbrev S1x4096x256 : Shape := ⟨3, ![1, 4096, 256]⟩
abbrev S4x1024x256 : Shape := ⟨3, ![4, 1024, 256]⟩
abbrev S16x256x256 : Shape := ⟨3, ![16, 256, 256]⟩
abbrev S512x1024 : Shape := ⟨2, ![512, 1024]⟩
abbrev S512x256 : Shape := ⟨2, ![512, 256]⟩
abbrev S512x1536 : Shape := ⟨2, ![512, 1536]⟩
abbrev S512x2048 : Shape := ⟨2, ![512, 2048]⟩
abbrev S1x512x256 : Shape := ⟨3, ![1, 512, 256]⟩
abbrev S4x128x256 : Shape := ⟨3, ![4, 128, 256]⟩
abbrev S16x32x256 : Shape := ⟨3, ![16, 32, 256]⟩
abbrev S2x256x128 : Shape := ⟨3, ![2, 256, 128]⟩
abbrev S256x1024 : Shape := ⟨2, ![256, 1024]⟩
abbrev S1536x1024 : Shape := ⟨2, ![1536, 1024]⟩
abbrev S256x1536 : Shape := ⟨2, ![256, 1536]⟩
abbrev S2304x1024 : Shape := ⟨2, ![2304, 1024]⟩
abbrev S256x2304 : Shape := ⟨2, ![256, 2304]⟩
abbrev S256x256 : Shape := ⟨2, ![256, 256]⟩
abbrev S256x128 : Shape := ⟨2, ![256, 128]⟩
abbrev S1x256x256 : Shape := ⟨3, ![1, 256, 256]⟩
abbrev S1x256x128 : Shape := ⟨3, ![1, 256, 128]⟩
abbrev S1x64x128 : Shape := ⟨3, ![1, 64, 128]⟩
abbrev S64x128 : Shape := ⟨2, ![64, 128]⟩
abbrev S1x16x128 : Shape := ⟨3, ![1, 16, 128]⟩
abbrev S16x128 : Shape := ⟨2, ![16, 128]⟩
abbrev S2048x1024 : Shape := ⟨2, ![2048, 1024]⟩
abbrev S256x2048 : Shape := ⟨2, ![256, 2048]⟩

abbrev nBuf : Space → Nat
  | .hbm => 39
  | .vmem => 30
  | .smem => 0
  | _ => 0

abbrev bufTy : (tb : Table) → Fin (tcTables nBuf tb) → BufTy
  | .hbm, ⟨0, _⟩ => ⟨S4096x1024, .bf16⟩
  | .hbm, ⟨1, _⟩ => ⟨S5888x1024, .bf16⟩
  | .hbm, ⟨2, _⟩ => ⟨S4096, .i32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S4096, .f32⟩
  | .hbm, ⟨12, _⟩ => ⟨S4096x1, .f32⟩
  | .hbm, ⟨13, _⟩ => ⟨S1x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x64, .f32⟩
  | .hbm, ⟨20, _⟩ => ⟨S1x4096x1x64, .f32⟩
  | .hbm, ⟨21, _⟩ => ⟨S1x4096x4x64, .f32⟩
  | .hbm, ⟨22, _⟩ => ⟨S4096x256, .f32⟩
  | .hbm, ⟨23, _⟩ => ⟨S4096x32, .f32⟩
  | .hbm, ⟨24, _⟩ => ⟨S4096x64, .f32⟩
  | .hbm, ⟨25, _⟩ => ⟨S1x4096x1x64, .f32⟩
  | .hbm, ⟨26, _⟩ => ⟨S1x4096x4x64, .f32⟩
  | .hbm, ⟨27, _⟩ => ⟨S4096x256, .f32⟩
  | .hbm, ⟨28, _⟩ => ⟨S4096x1536, .bf16⟩
  | .hbm, ⟨29, _⟩ => ⟨S4096x2048, .bf16⟩
  | .hbm, ⟨30, _⟩ => ⟨S1x4096x256, .bf16⟩
  | .hbm, ⟨31, _⟩ => ⟨S4x1024x256, .bf16⟩
  | .hbm, ⟨32, _⟩ => ⟨S16x256x256, .bf16⟩
  | .hbm, ⟨33, _⟩ => ⟨S1x4096x256, .bf16⟩
  | .hbm, ⟨34, _⟩ => ⟨S4x1024x256, .bf16⟩
  | .hbm, ⟨35, _⟩ => ⟨S16x256x256, .bf16⟩
  | .hbm, ⟨36, _⟩ => ⟨S1x4096x256, .bf16⟩
  | .hbm, ⟨37, _⟩ => ⟨S4x1024x256, .bf16⟩
  | .hbm, ⟨38, _⟩ => ⟨S16x256x256, .bf16⟩
  | .local _ .vmem, ⟨0, _⟩ => ⟨S512x1024, .bf16⟩
  | .local _ .vmem, ⟨1, _⟩ => ⟨S512x1024, .bf16⟩
  | .local _ .vmem, ⟨2, _⟩ => ⟨S5888x1024, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x1536, .bf16⟩
  | .local _ .vmem, ⟨8, _⟩ => ⟨S512x1536, .bf16⟩
  | .local _ .vmem, ⟨9, _⟩ => ⟨S512x2048, .bf16⟩
  | .local _ .vmem, ⟨10, _⟩ => ⟨S512x2048, .bf16⟩
  | .local _ .vmem, ⟨11, _⟩ => ⟨S1x512x256, .bf16⟩
  | .local _ .vmem, ⟨12, _⟩ => ⟨S1x512x256, .bf16⟩
  | .local _ .vmem, ⟨13, _⟩ => ⟨S4x128x256, .bf16⟩
  | .local _ .vmem, ⟨14, _⟩ => ⟨S4x128x256, .bf16⟩
  | .local _ .vmem, ⟨15, _⟩ => ⟨S16x32x256, .bf16⟩
  | .local _ .vmem, ⟨16, _⟩ => ⟨S16x32x256, .bf16⟩
  | .local _ .vmem, ⟨17, _⟩ => ⟨S1x512x256, .bf16⟩
  | .local _ .vmem, ⟨18, _⟩ => ⟨S1x512x256, .bf16⟩
  | .local _ .vmem, ⟨19, _⟩ => ⟨S4x128x256, .bf16⟩
  | .local _ .vmem, ⟨20, _⟩ => ⟨S4x128x256, .bf16⟩
  | .local _ .vmem, ⟨21, _⟩ => ⟨S16x32x256, .bf16⟩
  | .local _ .vmem, ⟨22, _⟩ => ⟨S16x32x256, .bf16⟩
  | .local _ .vmem, ⟨23, _⟩ => ⟨S1x512x256, .bf16⟩
  | .local _ .vmem, ⟨24, _⟩ => ⟨S1x512x256, .bf16⟩
  | .local _ .vmem, ⟨25, _⟩ => ⟨S4x128x256, .bf16⟩
  | .local _ .vmem, ⟨26, _⟩ => ⟨S4x128x256, .bf16⟩
  | .local _ .vmem, ⟨27, _⟩ => ⟨S16x32x256, .bf16⟩
  | .local _ .vmem, ⟨28, _⟩ => ⟨S16x32x256, .bf16⟩
  | .local _ .vmem, ⟨29, _⟩ => ⟨S2x256x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev main_v23_3 : Ref sig .tc := ⟨.hbm, 31, rfl⟩
abbrev main_v23_4 : Ref sig .tc := ⟨.hbm, 32, rfl⟩
abbrev main_v23_5 : Ref sig .tc := ⟨.hbm, 33, rfl⟩
abbrev main_v23_6 : Ref sig .tc := ⟨.hbm, 34, rfl⟩
abbrev main_v23_7 : Ref sig .tc := ⟨.hbm, 35, rfl⟩
abbrev main_v23_8 : Ref sig .tc := ⟨.hbm, 36, rfl⟩
abbrev main_v23_9 : Ref sig .tc := ⟨.hbm, 37, rfl⟩
abbrev main_v23_10 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5888x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x32x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x32x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InRefIdeal.lean ====
abbrev S4096x1024 : Shape := ⟨2, ![4096, 1024]⟩
abbrev S5888x1024 : Shape := ⟨2, ![5888, 1024]⟩
abbrev S4096 : Shape := ⟨1, ![4096]⟩
abbrev S1024x5888 : Shape := ⟨2, ![1024, 5888]⟩
abbrev S4096x5888 : Shape := ⟨2, ![4096, 5888]⟩
abbrev S4096x768 : Shape := ⟨2, ![4096, 768]⟩
abbrev S4096x12x64 : Shape := ⟨3, ![4096, 12, 64]⟩
abbrev S4096x1x1 : Shape := ⟨3, ![4096, 1, 1]⟩
abbrev S32 : Shape := ⟨1, ![32]⟩
abbrev S_ : Shape := ⟨0, ![]⟩
abbrev S1x1x32 : Shape := ⟨3, ![1, 1, 32]⟩
abbrev S4096x1x32 : Shape := ⟨3, ![4096, 1, 32]⟩
abbrev S4096x12x32 : Shape := ⟨3, ![4096, 12, 32]⟩
abbrev S4096x4x64 : Shape := ⟨3, ![4096, 4, 64]⟩
abbrev S4096x1x256 : Shape := ⟨3, ![4096, 1, 256]⟩
abbrev S1x4096x256 : Shape := ⟨3, ![1, 4096, 256]⟩
abbrev S1024x4x256 : Shape := ⟨3, ![1024, 4, 256]⟩
abbrev S4x1024x256 : Shape := ⟨3, ![4, 1024, 256]⟩
abbrev S256x16x256 : Shape := ⟨3, ![256, 16, 256]⟩
abbrev S16x256x256 : Shape := ⟨3, ![16, 256, 256]⟩
abbrev S4096x1536 : Shape := ⟨2, ![4096, 1536]⟩
abbrev S4096x2048 : Shape := ⟨2, ![4096, 2048]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5888x1024, .bf16⟩
  | .hbm, ⟨2, _⟩ => ⟨S4096, .i32⟩
  | .hbm, ⟨3, _⟩ => ⟨S4096x1024, .f32⟩
  | .hbm, ⟨4, _⟩ => ⟨S5888x1024, .f32⟩
  | .hbm, ⟨5, _⟩ => ⟨S1024x5888, .f32⟩
  | .hbm, ⟨6, _⟩ => ⟨S4096x5888, .f32⟩
  | .hbm, ⟨7, _⟩ => ⟨S4096x768, .f32⟩
  | .hbm, ⟨8, _⟩ => ⟨S4096x12x64, .f32⟩
  | .hbm, ⟨9, _⟩ => ⟨S4096x768, .f32⟩
  | .hbm, ⟨10, _⟩ => ⟨S4096x12x64, .f32⟩
  | .hbm, ⟨11, _⟩ => ⟨S4096x768, .f32⟩
  | .hbm, ⟨12, _⟩ => ⟨S4096x12x64, .f32⟩
  | .hbm, ⟨13, _⟩ => ⟨S4096, .f32⟩
  | .hbm, ⟨14, _⟩ => ⟨S4096x1x1, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S1x1x32, .f32⟩
  | .hbm, ⟨24, _⟩ => ⟨S4096x1x32, .f32⟩
  | .hbm, ⟨25, _⟩ => ⟨S4096x1x32, .f32⟩
  | .hbm, ⟨26, _⟩ => ⟨S4096x1x32, .f32⟩
  | .hbm, ⟨27, _⟩ => ⟨S4096x1x32, .f32⟩
  | .hbm, ⟨28, _⟩ => ⟨S4096x1x32, .f32⟩
  | .hbm, ⟨29, _⟩ => ⟨S4096x12x32, .f32⟩
  | .hbm, ⟨30, _⟩ => ⟨S4096x12x32, .f32⟩
  | .hbm, ⟨31, _⟩ => ⟨S4096x12x32, .f32⟩
  | .hbm, ⟨32, _⟩ => ⟨S4096x12x32, .f32⟩
  | .hbm, ⟨33, _⟩ => ⟨S4096x12x32, .f32⟩
  | .hbm, ⟨34, _⟩ => ⟨S4096x12x32, .f32⟩
  | .hbm, ⟨35, _⟩ => ⟨S4096x12x32, .f32⟩
  | .hbm, ⟨36, _⟩ => ⟨S4096x12x32, .f32⟩
  | .hbm, ⟨37, _⟩ => ⟨S4096x12x32, .f32⟩
  | .hbm, ⟨38, _⟩ => ⟨S4096x12x32, .f32⟩
  | .hbm, ⟨39, _⟩ => ⟨S4096x12x32, .f32⟩
  | .hbm, ⟨40, _⟩ => ⟨S4096x12x32, .f32⟩
  | .hbm, ⟨41, _⟩ => ⟨S4096x12x64, .f32⟩
  | .hbm, ⟨42, _⟩ => ⟨S4096, .f32⟩
  | .hbm, ⟨43, _⟩ => ⟨S4096x1x1, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S1x1x32, .f32⟩
  | .hbm, ⟨53, _⟩ => ⟨S4096x1x32, .f32⟩
  | .hbm, ⟨54, _⟩ => ⟨S4096x1x32, .f32⟩
  | .hbm, ⟨55, _⟩ => ⟨S4096x1x32, .f32⟩
  | .hbm, ⟨56, _⟩ => ⟨S4096x1x32, .f32⟩
  | .hbm, ⟨57, _⟩ => ⟨S4096x1x32, .f32⟩
  | .hbm, ⟨58, _⟩ => ⟨S4096x12x32, .f32⟩
  | .hbm, ⟨59, _⟩ => ⟨S4096x12x32, .f32⟩
  | .hbm, ⟨60, _⟩ => ⟨S4096x12x32, .f32⟩
  | .hbm, ⟨61, _⟩ => ⟨S4096x12x32, .f32⟩
  | .hbm, ⟨62, _⟩ => ⟨S4096x12x32, .f32⟩
  | .hbm, ⟨63, _⟩ => ⟨S4096x12x32, .f32⟩
  | .hbm, ⟨64, _⟩ => ⟨S4096x12x32, .f32⟩
  | .hbm, ⟨65, _⟩ => ⟨S4096x12x32, .f32⟩
  | .hbm, ⟨66, _⟩ => ⟨S4096x12x32, .f32⟩
  | .hbm, ⟨67, _⟩ => ⟨S4096x12x32, .f32⟩
  | .hbm, ⟨68, _⟩ => ⟨S4096x12x32, .f32⟩
  | .hbm, ⟨69, _⟩ => ⟨S4096x12x32, .f32⟩
  | .hbm, ⟨70, _⟩ => ⟨S4096x12x64, .f32⟩
  | .hbm, ⟨71, _⟩ => ⟨S4096x4x64, .f32⟩
  | .hbm, ⟨72, _⟩ => ⟨S4096x1x256, .f32⟩
  | .hbm, ⟨73, _⟩ => ⟨S1x4096x256, .f32⟩
  | .hbm, ⟨74, _⟩ => ⟨S4096x4x64, .f32⟩
  | .hbm, ⟨75, _⟩ => ⟨S1024x4x256, .f32⟩
  | .hbm, ⟨76, _⟩ => ⟨S4x1024x256, .f32⟩
  | .hbm, ⟨77, _⟩ => ⟨S4096x4x64, .f32⟩
  | .hbm, ⟨78, _⟩ => ⟨S256x16x256, .f32⟩
  | .hbm, ⟨79, _⟩ => ⟨S16x256x256, .f32⟩
  | .hbm, ⟨80, _⟩ => ⟨S4096x4x64, .f32⟩
  | .hbm, ⟨81, _⟩ => ⟨S4096x1x256, .f32⟩
  | .hbm, ⟨82, _⟩ => ⟨S1x4096x256, .f32⟩
  | .hbm, ⟨83, _⟩ => ⟨S4096x4x64, .f32⟩
  | .hbm, ⟨84, _⟩ => ⟨S1024x4x256, .f32⟩
  | .hbm, ⟨85, _⟩ => ⟨S4x1024x256, .f32⟩
  | .hbm, ⟨86, _⟩ => ⟨S4096x4x64, .f32⟩
  | .hbm, ⟨87, _⟩ => ⟨S256x16x256, .f32⟩
  | .hbm, ⟨88, _⟩ => ⟨S16x256x256, .f32⟩
  | .hbm, ⟨89, _⟩ => ⟨S4096x4x64, .f32⟩
  | .hbm, ⟨90, _⟩ => ⟨S4096x1x256, .f32⟩
  | .hbm, ⟨91, _⟩ => ⟨S1x4096x256, .f32⟩
  | .hbm, ⟨92, _⟩ => ⟨S4096x4x64, .f32⟩
  | .hbm, ⟨93, _⟩ => ⟨S1024x4x256, .f32⟩
  | .hbm, ⟨94, _⟩ => ⟨S4x1024x256, .f32⟩
  | .hbm, ⟨95, _⟩ => ⟨S4096x4x64, .f32⟩
  | .hbm, ⟨96, _⟩ => ⟨S256x16x256, .f32⟩
  | .hbm, ⟨97, _⟩ => ⟨S16x256x256, .f32⟩
  | .hbm, ⟨98, _⟩ => ⟨S4096x1536, .f32⟩
  | .hbm, ⟨99, _⟩ => ⟨S4096x2048, .f32⟩
  | .hbm, ⟨100, _⟩ => ⟨S4096x2048, .f32⟩
  | .hbm, ⟨101, _⟩ => ⟨S4096x2048, .f32⟩
  | .hbm, ⟨102, _⟩ => ⟨S_, .f32⟩
  | .hbm, ⟨103, _⟩ => ⟨S4096x2048, .f32⟩
  | .hbm, ⟨104, _⟩ => ⟨S4096x2048, .f32⟩
  | .hbm, ⟨105, _⟩ => ⟨S_, .f32⟩
  | .hbm, ⟨106, _⟩ => ⟨S4096x2048, .f32⟩
  | .hbm, ⟨107, _⟩ => ⟨S4096x2048, .f32⟩
  | .hbm, ⟨108, _⟩ => ⟨S4096x1536, .bf16⟩
  | .hbm, ⟨109, _⟩ => ⟨S4096x2048, .bf16⟩
  | .hbm, ⟨110, _⟩ => ⟨S1x4096x256, .bf16⟩
  | .hbm, ⟨111, _⟩ => ⟨S4x1024x256, .bf16⟩
  | .hbm, ⟨112, _⟩ => ⟨S16x256x256, .bf16⟩
  | .hbm, ⟨113, _⟩ => ⟨S1x4096x256, .bf16⟩
  | .hbm, ⟨114, _⟩ => ⟨S4x1024x256, .bf16⟩
  | .hbm, ⟨115, _⟩ => ⟨S16x256x256, .bf16⟩
  | .hbm, ⟨116, _⟩ => ⟨S1x4096x256, .bf16⟩
  | .hbm, ⟨117, _⟩ => ⟨S4x1024x256, .bf16⟩
  | .hbm, ⟨118, _⟩ => ⟨S16x256x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_cst_3 : Ref sig .tc := ⟨.hbm, 102, rfl⟩
abbrev main_v95 : Ref sig .tc := ⟨.hbm, 103, rfl⟩
abbrev main_v96 : Ref sig .tc := ⟨.hbm, 104, rfl⟩
abbrev main_cst_4 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩

abbrev nD : Nat := 1
abbrev τ : Topo := Topo.v7x

variable {F : FTy → Type} [FloatOps F]
-- ==== MixBwd.lean ====
abbrev S4096x1024 : Shape := ⟨2, ![4096, 1024]⟩
abbrev S1024x1024 : Shape := ⟨2, ![1024, 1024]⟩
abbrev S4096x2048 : Shape := ⟨2, ![4096, 2048]⟩
abbrev S1024x512 : Shape := ⟨2, ![1024, 512]⟩
abbrev S1024x256 : Shape := ⟨2, ![1024, 256]⟩
abbrev S4096x256 : Shape := ⟨2, ![4096, 256]⟩
abbrev S1x4096x256 : Shape := ⟨3, ![1, 4096, 256]⟩
abbrev S4x1024x256 : Shape := ⟨3, ![4, 1024, 256]⟩
abbrev S16x256x256 : Shape := ⟨3, ![16, 256, 256]⟩
abbrev S_ : Shape := ⟨0, ![]⟩
abbrev S4096x512 : Shape := ⟨2, ![4096, 512]⟩
abbrev S512x1024 : Shape := ⟨2, ![512, 1024]⟩
abbrev S512x256 : Shape := ⟨2, ![512, 256]⟩
abbrev S1x512x256 : Shape := ⟨3, ![1, 512, 256]⟩
abbrev S4x128x256 : Shape := ⟨3, ![4, 128, 256]⟩
abbrev S16x32x256 : Shape := ⟨3, ![16, 32, 256]⟩
abbrev S512x512 : Shape := ⟨2, ![512, 512]⟩
abbrev S2x256x128 : Shape := ⟨3, ![2, 256, 128]⟩
abbrev S256x256 : Shape := ⟨2, ![256, 256]⟩
abbrev S256x1024 : Shape := ⟨2, ![256, 1024]⟩
abbrev S256x512 : Shape := ⟨2, ![256, 512]⟩
abbrev S1x256x256 : Shape := ⟨3, ![1, 256, 256]⟩
abbrev S1x64x128 : Shape := ⟨3, ![1, 64, 128]⟩
abbrev S64x128 : Shape := ⟨2, ![64, 128]⟩
abbrev S1x256x128 : Shape := ⟨3, ![1, 256, 128]⟩
abbrev S256x128 : Shape := ⟨2, ![256, 128]⟩
abbrev S1x16x128 : Shape := ⟨3, ![1, 16, 128]⟩
abbrev S16x128 : Shape := ⟨2, ![16, 128]⟩

abbrev nBuf : Space → Nat
  | .hbm => 32
  | .vmem => 44
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x2048, .bf16⟩
  | .hbm, ⟨3, _⟩ => ⟨S4096x1024, .bf16⟩
  | .hbm, ⟨4, _⟩ => ⟨S4096x1024, .bf16⟩
  | .hbm, ⟨5, _⟩ => ⟨S1024x512, .bf16⟩
  | .hbm, ⟨6, _⟩ => ⟨S1024x256, .bf16⟩
  | .hbm, ⟨7, _⟩ => ⟨S4096x256, .f32⟩
  | .hbm, ⟨8, _⟩ => ⟨S1x4096x256, .f32⟩
  | .hbm, ⟨9, _⟩ => ⟨S4x1024x256, .f32⟩
  | .hbm, ⟨10, _⟩ => ⟨S16x256x256, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .bf16⟩
  | .hbm, ⟨21, _⟩ => ⟨S4096x1024, .bf16⟩
  | .hbm, ⟨22, _⟩ => ⟨S4096x1024, .bf16⟩
  | .hbm, ⟨23, _⟩ => ⟨S4096x1024, .bf16⟩
  | .hbm, ⟨24, _⟩ => ⟨S4096x1024, .bf16⟩
  | .hbm, ⟨25, _⟩ => ⟨S4096x512, .bf16⟩
  | .hbm, ⟨26, _⟩ => ⟨S1x4096x256, .bf16⟩
  | .hbm, ⟨27, _⟩ => ⟨S4x1024x256, .bf16⟩
  | .hbm, ⟨28, _⟩ => ⟨S16x256x256, .bf16⟩
  | .hbm, ⟨29, _⟩ => ⟨S1x4096x256, .f32⟩
  | .hbm, ⟨30, _⟩ => ⟨S4x1024x256, .f32⟩
  | .hbm, ⟨31, _⟩ => ⟨S16x256x256, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x512, .bf16⟩
  | .local _ .vmem, ⟨12, _⟩ => ⟨S1024x256, .bf16⟩
  | .local _ .vmem, ⟨13, _⟩ => ⟨S512x256, .f32⟩
  | .local _ .vmem, ⟨14, _⟩ => ⟨S512x256, .f32⟩
  | .local _ .vmem, ⟨15, _⟩ => ⟨S1x512x256, .f32⟩
  | .local _ .vmem, ⟨16, _⟩ => ⟨S1x512x256, .f32⟩
  | .local _ .vmem, ⟨17, _⟩ => ⟨S4x128x256, .f32⟩
  | .local _ .vmem, ⟨18, _⟩ => ⟨S4x128x256, .f32⟩
  | .local _ .vmem, ⟨19, _⟩ => ⟨S16x32x256, .f32⟩
  | .local _ .vmem, ⟨20, _⟩ => ⟨S16x32x256, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x512, .bf16⟩
  | .local _ .vmem, ⟨30, _⟩ => ⟨S512x512, .bf16⟩
  | .local _ .vmem, ⟨31, _⟩ => ⟨S1x512x256, .bf16⟩
  | .local _ .vmem, ⟨32, _⟩ => ⟨S1x512x256, .bf16⟩
  | .local _ .vmem, ⟨33, _⟩ => ⟨S4x128x256, .bf16⟩
  | .local _ .vmem, ⟨34, _⟩ => ⟨S4x128x256, .bf16⟩
  | .local _ .vmem, ⟨35, _⟩ => ⟨S16x32x256, .bf16⟩
  | .local _ .vmem, ⟨36, _⟩ => ⟨S16x32x256, .bf16⟩
  | .local _ .vmem, ⟨37, _⟩ => ⟨S1x512x256, .f32⟩
  | .local _ .vmem, ⟨38, _⟩ => ⟨S1x512x256, .f32⟩
  | .local _ .vmem, ⟨39, _⟩ => ⟨S4x128x256, .f32⟩
  | .local _ .vmem, ⟨40, _⟩ => ⟨S4x128x256, .f32⟩
  | .local _ .vmem, ⟨41, _⟩ => ⟨S16x32x256, .f32⟩
  | .local _ .vmem, ⟨42, _⟩ => ⟨S16x32x256, .f32⟩
  | .local _ .vmem, ⟨43, _⟩ => ⟨S2x256x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev main_v8_6 : Ref sig .tc := ⟨.hbm, 27, rfl⟩
abbrev main_v8_7 : Ref sig .tc := ⟨.hbm, 28, rfl⟩
abbrev main_v8_8 : Ref sig .tc := ⟨.hbm, 29, rfl⟩
abbrev main_v8_9 : Ref sig .tc := ⟨.hbm, 30, rfl⟩
abbrev main_v8_10 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg22_1 : Ref sig .tc := ⟨.vmem, 42, rfl⟩
abbrev cc0_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x128x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x32x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4x128x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S16x32x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== MixBwdRefIdeal.lean ====
abbrev S4096x1024 : Shape := ⟨2, ![4096, 1024]⟩
abbrev S1024x1024 : Shape := ⟨2, ![1024, 1024]⟩
abbrev S4096x2048 : Shape := ⟨2, ![4096, 2048]⟩
abbrev S1024x512 : Shape := ⟨2, ![1024, 512]⟩
abbrev S1024x256 : Shape := ⟨2, ![1024, 256]⟩
abbrev S4096x256 : Shape := ⟨2, ![4096, 256]⟩
abbrev S1x4096x256 : Shape := ⟨3, ![1, 4096, 256]⟩
abbrev S4x1024x256 : Shape := ⟨3, ![4, 1024, 256]⟩
abbrev S16x256x256 : Shape := ⟨3, ![16, 256, 256]⟩
abbrev S_ : Shape := ⟨0, ![]⟩
abbrev S4096x512 : Shape := ⟨2, ![4096, 512]⟩
abbrev S512x1024 : Shape := ⟨2, ![512, 1024]⟩
abbrev S256x1024 : Shape := ⟨2, ![256, 1024]⟩
abbrev S4096x1x256 : Shape := ⟨3, ![4096, 1, 256]⟩
abbrev S1024x4x256 : Shape := ⟨3, ![1024, 4, 256]⟩
abbrev S256x16x256 : Shape := ⟨3, ![256, 16, 256]⟩
abbrev S3x4096x256 : Shape := ⟨3, ![3, 4096, 256]⟩
abbrev S4096x4x64 : Shape := ⟨3, ![4096, 4, 64]⟩
abbrev S4096x4 : Shape := ⟨2, ![4096, 4]⟩

abbrev nBuf : Space → Nat
  | .hbm => 134
  | .vmem => 0
  | .smem => 0
  | _ => 0

abbrev hbmTy0_0 (i : Nat) : BufTy := match i % 128 with
  | 0 => ⟨S4096x1024, .bf16⟩
  | 1 => ⟨S1024x1024, .bf16⟩
  | 2 => ⟨S4096x2048, .bf16⟩
  | 3 => ⟨S4096x1024, .bf16⟩
  | 4 => ⟨S4096x1024, .bf16⟩
  | 5 => ⟨S1024x512, .bf16⟩
  | 6 => ⟨S1024x256, .bf16⟩
  | 7 => ⟨S4096x256, .f32⟩
  | 8 => ⟨S1x4096x256, .f32⟩
  | 9 => ⟨S4x1024x256, .f32⟩
  | 10 => ⟨S16x256x256, .f32⟩
  | 11 => ⟨S4096x1024, .f32⟩
  | 12 => ⟨S1024x1024, .f32⟩
  | 13 => ⟨S4096x2048, .f32⟩
  | 14 => ⟨S4096x1024, .f32⟩
  | 15 => ⟨S4096x1024, .f32⟩
  | 16 => ⟨S1024x512, .f32⟩
  | 17 => ⟨S1024x256, .f32⟩
  | 18 => ⟨S4096x1024, .f32⟩
  | 19 => ⟨S4096x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S_, .f32⟩
  | 56 => ⟨S4096x512, .f32⟩
  | 57 => ⟨S512x1024, .f32⟩
  | 58 => ⟨S4096x1024, .f32⟩
  | 59 => ⟨S4096x512, .f32⟩
  | 60 => ⟨S256x1024, .f32⟩
  | 61 => ⟨S4096x1024, .f32⟩
  | 62 => ⟨S4096x256, .f32⟩
  | 63 => ⟨S4096x1x256, .f32⟩
  | 64 => ⟨S4096x256, .f32⟩
  | 65 => ⟨S1024x4x256, .f32⟩
  | 66 => ⟨S4096x256, .f32⟩
  | 67 => ⟨S256x16x256, .f32⟩
  | 68 => ⟨S4096x256, .f32⟩
  | 69 => ⟨S1x4096x256, .f32⟩
  | 70 => ⟨S1x4096x256, .f32⟩
  | 71 => ⟨S1x4096x256, .f32⟩
  | 72 => ⟨S3x4096x256, .f32⟩
  | 73 => ⟨S_, .f32⟩
  | 74 => ⟨S4096x256, .f32⟩
  | 75 => ⟨S_, .f32⟩
  | 76 => ⟨S4096x256, .f32⟩
  | 77 => ⟨S4096x256, .f32⟩
  | 78 => ⟨S1x4096x256, .f32⟩
  | 79 => ⟨S3x4096x256, .f32⟩
  | 80 => ⟨S3x4096x256, .f32⟩
  | 81 => ⟨S3x4096x256, .f32⟩
  | 82 => ⟨S_, .f32⟩
  | 83 => ⟨S4096x256, .f32⟩
  | 84 => ⟨S1x4096x256, .f32⟩
  | 85 => ⟨S3x4096x256, .f32⟩
  | 86 => ⟨S3x4096x256, .f32⟩
  | 87 => ⟨S4096x256, .f32⟩
  | 88 => ⟨S4096x4x64, .f32⟩
  | 89 => ⟨S_, .f32⟩
  | 90 => ⟨S4096x4, .f32⟩
  | 91 => ⟨S4096x4x64, .f32⟩
  | 92 => ⟨S4096x256, .f32⟩
  | 93 => ⟨S4096x1024, .bf16⟩
  | 94 => ⟨S4096x1024, .bf16⟩
  | 95 => ⟨S4096x1024, .bf16⟩
  | 96 => ⟨S4096x1024, .bf16⟩
  | 97 => ⟨S4096x512, .bf16⟩
  | 98 => ⟨S1x4096x256, .f32⟩
  | 99 => ⟨S4096x256, .f32⟩
  | 100 => ⟨S4096x256, .f32⟩
  | 101 => ⟨S4096x1x256, .f32⟩
  | 102 => ⟨S1x4096x256, .f32⟩
  | 103 => ⟨S1x4096x256, .bf16⟩
  | 104 => ⟨S1x4096x256, .f32⟩
  | 105 => ⟨S4096x256, .f32⟩
  | 106 => ⟨S4096x256, .f32⟩
  | 107 => ⟨S1024x4x256, .f32⟩
  | 108 => ⟨S4x1024x256, .f32⟩
  | 109 => ⟨S4x1024x256, .bf16⟩
  | 110 => ⟨S1x4096x256, .f32⟩
  | 111 => ⟨S4096x256, .f32⟩
  | 112 => ⟨S4096x256, .f32⟩
  | 113 => ⟨S256x16x256, .f32⟩
  | 114 => ⟨S16x256x256, .f32⟩
  | 115 => ⟨S16x256x256, .bf16⟩
  | 116 => ⟨S1x4096x256, .f32⟩
  | 117 => ⟨S4096x256, .f32⟩
  | 118 => ⟨S4096x256, .f32⟩
  | 119 => ⟨S4096x256, .f32⟩
  | 120 => ⟨S4096x1x256, .f32⟩
  | 121 => ⟨S1x4096x256, .f32⟩
  | 122 => ⟨S1x4096x256, .f32⟩
  | 123 => ⟨S4096x256, .f32⟩
  | 124 => ⟨S4096x256, .f32⟩
  | 125 => ⟨S4096x256, .f32⟩
  | 126 => ⟨S1024x4x256, .f32⟩
  | 127 => ⟨S4x1024x256, .f32⟩
  | _ => ⟨S4096x1024, .bf16⟩

abbrev hbmTy0_1 (i : Nat) : BufTy := match i % 128 with
  | 0 => ⟨S1x4096x256, .f32⟩
  | 1 => ⟨S4096x256, .f32⟩
  | 2 => ⟨S4096x256, .f32⟩
  | 3 => ⟨S4096x256, .f32⟩
  | 4 => ⟨S256x16x256, .f32⟩
  | 5 => ⟨S16x256x256, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.VecWindow
public import Idealize.ShloMosaic.Lib.ValueIdxCore

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-! ## The conditions and the windows' offsets -/

/-- The first `pl.when`: the first point of the grid. -/
abbrev first (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second `pl.when`: the first point of a sequence. -/
abbrev opens (i : grid0.Coords) : Prop := (Scalar.cmpi .ne (Scalar.extui (Scalar.cmpi .eq (BitVec.ofNat 32 (i 1).val) 0#32)) 0#32) = 1#1

/-- Where the window of block `r` of the point starts: 64 rows before the block, kept inside the sequence. -/
instance (i : grid0.Coords) : ClosedOff (k0_off1 i 0#32) := ⟨![0, 512 * (i 1).val - 64, 0], by revert i; decide +kernel⟩
instance (i : grid0.Coords) : ClosedOff (k0_off1 i 1#32) := ⟨![0, 512 * (i 1).val + 64, 0], by revert i; decide +kernel⟩
instance (i : grid0.Coords) : ClosedOff (k0_off1 i 2#32) := ⟨![0, 512 * (i 1).val + 192, 0], by revert i; decide +kernel⟩
instance (i : grid0.Coords) : ClosedOff (k0_off1 i 3#32) := ⟨![0, 448 * (i 1).val + 320, 0], by revert i; decide +kernel⟩

/-- The three planes of caps that the first point writes into the scratch buffer. -/
def caps : Vec F S3x512x256 .f32 :=
  VecWindow.put (VecWindow.put (fun y => k0_pay3 (F := F) (fun a => ⟨if a = 0 then 0 else (y a).val, by
      fin_cases a <;> first | exact Nat.one_pos | exact (y _).isLt⟩)) ![1, 0, 0] S1x512x256.size (k0_pay4 (F := F)))
    ![2, 0, 0] S1x512x256.size (k0_pay6 (F := F) k0_pay5)

/-- A program run after one that returns a known value. -/
theorem wp_seq {E : Set ℕ} {c : Dev nD} {α β : Type} {p : Prog (TpuEff nD τ sig (Elt F) Λ₀ .tc) β} {k : β → Prog (TpuEff nD τ sig (Elt F) Λ₀ .tc) α}
    {P R : sProp 𝕄} {Q : α → sProp 𝕄} (b : β) (hp : P ⊢ wp frame (wpE (defs₀ (F := F)) Variants.none c none) E p (fun b' => iprop(⌜b' = b⌝ ∗ R)))
    (hk : R ⊢ wp frame (wpE (defs₀ (F := F)) Variants.none c none) E (k b) Q) :
    P ⊢ wp frame (wpE (defs₀ (F := F)) Variants.none c none) E (p >>= k) Q := by
  rw [wp_bind]
  refine hp.trans (wp_mono _ _ _ fun b' => ?_)
  iintro ⟨%hb, HR⟩
  subst hb
  iapply hk $$ HR

/-- What the three stores of the first point leave, whatever was in the scratch buffer. -/
theorem caps_read (v : View sig .tc .vmem S3x512x256 .f32) (f : v.ty.Contents (Elt F)) :
    v.read (Elt F) (v.writes (Elt F) f [⟨Rect.unit ![2, 0, 0] S1x512x256.size inb_S3x512x256_S1x512x256_2_0_0, k0_pay6 (F := F) k0_pay5⟩,
      ⟨Rect.unit ![1, 0, 0] S1x512x256.size inb_S3x512x256_S1x512x256_1_0_0, k0_pay4 (F := F)⟩,
      ⟨Rect.unit ![0, 0, 0] S1x512x256.size inb_S3x512x256_S1x512x256_0_0_0, k0_pay3 (F := F)⟩]) = caps := by
  rw [View.read_writes_cons_put v f _ _ _ rfl, View.read_writes_cons_put v f _ _ _ rfl]
  funext y
  unfold caps VecWindow.put
  by_cases h2 : ∀ a, (![2, 0, 0] : Fin 3 → ℕ) a ≤ (y a).val ∧ (y a).val < (![2, 0, 0] : Fin 3 → ℕ) a + S1x512x256.size a
  · rw [dif_pos h2, dif_pos h2]
  rw [dif_neg h2, dif_neg h2]
  by_cases h1 : ∀ a, (![1, 0, 0] : Fin 3 → ℕ) a ≤ (y a).val ∧ (y a).val < (![1, 0, 0] : Fin 3 → ℕ) a + S1x512x256.size a
  · rw [dif_pos h1, dif_pos h1]
  rw [dif_neg h1, dif_neg h1]
  have hy1 : (y 1).val < 512 := (y 1).isLt
  have hy2 : (y 2).val < 256 := (y 2).isLt
  have hy0 : (y 0).val < 3 := (y 0).isLt
  have h0 : (y 0).val = 0 := by
    by_contra h
    rcases (show (y 0).val = 1 ∨ (y 0).val = 2 by omega) with h | h
    · exact h1 fun a => by
        fin_cases a
        · exact ⟨h.ge, by show (y 0).val < 2; omega⟩
        · exact ⟨Nat.zero_le _, by show (y 1).val < 0 + 512; omega⟩
        · exact ⟨Nat.zero_le _, by show (y 2).val < 0 + 256; omega⟩
    · exact h2 fun a => by
        fin_cases a
        · exact ⟨h.ge, by show (y 0).val < 3; omega⟩
        · exact ⟨Nat.zero_le _, by show (y 1).val < 0 + 512; omega⟩
        · exact ⟨Nat.zero_le _, by show (y 2).val < 0 + 256; omega⟩
  refine View.read_writes_cons_unit_of_mem v f _ _ _ y _ rfl fun a => ?_
  fin_cases a
  · exact h0
  · exact (Nat.zero_add _).symm
  · exact (Nat.zero_add _).symm

/-- Four blocks of 128 rows under one another. -/
def rows4 (w0 w1 w2 w3 : Vec F S1x128x256 .f32) : Vec F S1x512x256 .f32 := fun y =>
  (if (y 1).val < 128 then w0 else if (y 1).val < 256 then w1 else if (y 1).val < 384 then w2 else w3)
    (ix3 0 ⟨(y 1).val % 128, Nat.mod_lt _ (by decide)⟩ (y 2))

/-- What the four stores of a point leave of the gradient of the queries, whatever was there. -/
theorem rows4_read (v : View sig .tc .vmem S1x512x256 .f32) (f : v.ty.Contents (Elt F)) (w0 w1 w2 w3 : Vec F S1x128x256 .f32) :
    v.read (Elt F) (v.writes (Elt F) f [⟨Rect.unit ![0, 384, 0] S1x128x256.size inb_S1x512x256_S1x128x256_0_384_0, w3⟩,
      ⟨Rect.unit ![0, 256, 0] S1x128x256.size inb_S1x512x256_S1x128x256_0_256_0, w2⟩,
      ⟨Rect.unit ![0, 128, 0] S1x128x256.size inb_S1x512x256_S1x128x256_0_128_0, w1⟩,
      ⟨Rect.unit ![0, 0, 0] S1x128x256.size inb_S1x512x256_S1x128x256_0_0_0, w0⟩]) = rows4 w0 w1 w2 w3 := by
  funext y
  have hy0 : (y 0).val < 1 := (y 0).isLt
  have hy1 : (y 1).val < 512 := (y 1).isLt
  unfold rows4
  split_ifs with h0 h1 h2
  all_goals
    repeat refine (View.read_writes_cons_unit_of_not_mem v f _ _ _ y rfl 1 (by show (y 1).val < (_ : ℕ) ∨ (_ : ℕ) + 128 ≤ (y 1).val; dsimp; omega)).trans ?_
    refine View.read_writes_cons_unit_of_mem v f _ _ _ y _ rfl fun a => ?_
    fin_cases a
    · show (y 0).val = 0 + 0
      omega
    · show (y 1).val = (_ : ℕ) + (y 1).val % 128
      dsimp
      omega
    · exact (Nat.zero_add _).symm

/-- What the first part of the body hands on. -/
abbrev Handed (F : FTy → Type) : Type := (Σ' (v9 : BitVec 32) (v11 : BitVec 32) (v13 : BitVec 32) (v15 : BitVec 32) (v20 : BitVec 32) (v23 : FVec F S256x256 .bf16) (v26 : FVec F S256x256 .bf16), BitVec 32)

set_option maxHeartbeats 4000000 in
/-- The first part of the body: it fills the caps at the first point, zeroes the two accumulators where a sequence opens, and
loads the first window. -/
def head (c : Dev nD) (i : grid0.Coords) (arg2 : Memref sig .tc .vmem S1x512x256 .bf16) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x512x256 .bf16) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x1024x256 .f32) (harg9 : arg9.IsWhole) (arg10 : Memref sig .tc .vmem S1x1024x256 .f32) (harg10 : arg10.IsWhole) (arg11 : Memref sig .tc .vmem S3x512x256 .f32) (harg11 : arg11.IsWhole)
    (x0 : Vec F S1x512x256 .bf16) (x1 x2 : Vec F S1x1024x256 .bf16) (x3 : Vec F S1x512x256 .bf16) (x4 x5 : Vec F S1x512x256 .f32) (x7 x8 : Vec F S1x1024x256 .f32) (xs : Vec F S3x512x256 .f32) :
    { b : Handed F //
      ∀ (y7 y8 : Vec F S1x1024x256 .f32) (ys : Vec F S3x512x256 .f32)
        (h7 : x7 = if opens i then k0_pay7 (F := F) else y7) (h8 : x8 = if opens i then k0_pay8 (F := F) else y8) (hs : xs = if first i then caps else ys)
        (E : Set ℕ) (Z : sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare y8 ∗ owns (c : Thread nD τ) arg11 fullShare ys ∗ Z)
          ⊢ wp frame (wpE (defs₀ (F := F)) Variants.none c none) E (k0_part2 i arg2 harg2 arg3 harg3 arg4 harg4 arg5 harg5 arg6 harg6 arg7 harg7 arg8 harg8 arg9 harg9 arg10 harg10 arg11 harg11) (fun b' => iprop(⌜b' = b⌝ ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare x8 ∗ owns (c : Thread nD τ) arg11 fullShare xs ∗ Z)) } := by
  refine ⟨?b, fun y7 y8 ys h7 h8 hs E Z => ?run⟩
  case run =>
    simp only [k0_part2_eq_skeleton, k0_part1_eq_skeleton]
    by_cases hf : first i <;> by_cases ho : opens i
    · simp only [if_pos hf, if_pos ho] at h7 h8 hs
      subst h7 h8 hs
      iintro ⟨H0, H1, H2, H3, H4, H5, H6, H7, H8, HS, HZ⟩
      unfold owns
      icases H1 with ⟨%f1, %hf1, H1⟩; icases H2 with ⟨%f2, %hf2, H2⟩
      icases H7 with ⟨%f7, %hf7, H7⟩; icases H8 with ⟨%f8, %hf8, H8⟩; icases HS with ⟨%fs, %hfs, HS⟩
      obtain rfl := harg3.eq_unread hf1; obtain rfl := harg4.eq_unread hf2
      sl_exec (disch := first | sl_exact hf | sl_exact ho)
      sl_step
      isplitr; · ipureintro; rfl
      isplitl [H0]; · iexact H0
      isplitl [H1]
      · iexists _; isplitr; swap; · iexact H1
        ipureintro; exact harg3.read_unread _
      isplitl [H2]
      · iexists _; isplitr; swap; · iexact H2
        ipureintro; exact harg4.read_unread _
      isplitl [H3]; · iexact H3
      isplitl [H4]; · iexact H4
      isplitl [H5]; · iexact H5
      isplitl [H6]; · iexact H6
      isplitl [H7]
      · iexists _; isplitr; swap; · iexact H7
        ipureintro; exact View.read_writes_full _ _ _ _ _
      isplitl [H8]
      · iexists _; isplitr; swap; · iexact H8
        ipureintro; exact View.read_writes_full _ _ _ _ _
      isplitl [HS]
      · iexists _; isplitr; swap; · iexact HS
        ipureintro; exact caps_read _ _
      iexact HZ
    · simp only [if_pos hf, if_neg ho] at h7 h8 hs
      subst h7 h8 hs
      iintro ⟨H0, H1, H2, H3, H4, H5, H6, H7, H8, HS, HZ⟩
      unfold owns
      icases H1 with ⟨%f1, %hf1, H1⟩; icases H2 with ⟨%f2, %hf2, H2⟩
      icases H7 with ⟨%f7, %hf7, H7⟩; icases H8 with ⟨%f8, %hf8, H8⟩; icases HS with ⟨%fs, %hfs, HS⟩
      obtain rfl := harg3.eq_unread hf1; obtain rfl := harg4.eq_unread hf2
      sl_exec (disch := first | sl_exact hf | sl_exact ho)
      sl_step
      isplitr; · ipureintro; rfl
      isplitl [H0]; · iexact H0
      isplitl [H1]
      · iexists _; isplitr; swap; · iexact H1
        ipureintro; exact harg3.read_unread _
      isplitl [H2]
      · iexists _; isplitr; swap; · iexact H2
        ipureintro; exact harg4.read_unread _
      isplitl [H3]; · iexact H3
      isplitl [H4]; · iexact H4
      isplitl [H5]; · iexact H5
      isplitl [H6]; · iexact H6
      isplitl [H7]
      · iexists _; isplitr; swap; · iexact H7
        ipureintro; exact hf7
      isplitl [H8]
      · iexists _; isplitr; swap; · iexact H8
        ipureintro; exact hf8
      isplitl [HS]
      · iexists _; isplitr; swap; · iexact HS
        ipureintro; exact caps_read _ _
      iexact HZ
    · simp only [if_neg hf, if_pos ho] at h7 h8 hs
      subst h7 h8 hs
      iintro ⟨H0, H1, H2, H3, H4, H5, H6, H7, H8, HS, HZ⟩
      unfold owns
      icases H1 with ⟨%f1, %hf1, H1⟩; icases H2 with ⟨%f2, %hf2, H2⟩
      icases H7 with ⟨%f7, %hf7, H7⟩; icases H8 with ⟨%f8, %hf8, H8⟩; icases HS with ⟨%fs, %hfs, HS⟩
      obtain rfl := harg3.eq_unread hf1; obtain rfl := harg4.eq_unread hf2
      sl_exec (disch := first | sl_exact hf | sl_exact ho)
      sl_step
      isplitr; · ipureintro; rfl
      isplitl [H0]; · iexact H0
      isplitl [H1]
      · iexists _; isplitr; swap; · iexact H1
        ipureintro; exact harg3.read_unread _
      isplitl [H2]
      · iexists _; isplitr; swap; · iexact H2
        ipureintro; exact harg4.read_unread _
      isplitl [H3]; · iexact H3
      isplitl [H4]; · iexact H4
      isplitl [H5]; · iexact H5
      isplitl [H6]; · iexact H6
      isplitl [H7]
      · iexists _; isplitr; swap; · iexact H7
        ipureintro; exact View.read_writes_full _ _ _ _ _
      isplitl [H8]
      · iexists _; isplitr; swap; · iexact H8
        ipureintro; exact View.read_writes_full _ _ _ _ _
      isplitl [HS]
      · iexists _; isplitr; swap; · iexact HS
        ipureintro; exact hfs
      iexact HZ
    · simp only [if_neg hf, if_neg ho] at h7 h8 hs
      subst h7 h8 hs
      iintro ⟨H0, H1, H2, H3, H4, H5, H6, H7, H8, HS, HZ⟩
      unfold owns
      icases H1 with ⟨%f1, %hf1, H1⟩; icases H2 with ⟨%f2, %hf2, H2⟩
      icases H7 with ⟨%f7, %hf7, H7⟩; icases H8 with ⟨%f8, %hf8, H8⟩; icases HS with ⟨%fs, %hfs, HS⟩
      obtain rfl := harg3.eq_unread hf1; obtain rfl := harg4.eq_unread hf2
      sl_exec (disch := first | sl_exact hf | sl_exact ho)
      sl_step
      isplitr; · ipureintro; rfl
      isplitl [H0]; · iexact H0
      isplitl [H1]
      · iexists _; isplitr; swap; · iexact H1
        ipureintro; exact harg3.read_unread _
      isplitl [H2]
      · iexists _; isplitr; swap; · iexact H2
        ipureintro; exact harg4.read_unread _
      isplitl [H3]; · iexact H3
      isplitl [H4]; · iexact H4
      isplitl [H5]; · iexact H5
      isplitl [H6]; · iexact H6
      isplitl [H7]
      · iexists _; isplitr; swap; · iexact H7
        ipureintro; exact hf7
      isplitl [H8]
      · iexists _; isplitr; swap; · iexact H8
        ipureintro; exact hf8
      isplitl [HS]
      · iexists _; isplitr; swap; · iexact HS
        ipureintro; exact hfs
      iexact HZ
set_option maxHeartbeats 4000000 in
/-- The body on whole staging memrefs: what it leaves of the three gradients, of what the accumulators hold once the first part is
past (`x7`, `x8`) and of the caps (`xs`). -/
def run (c : Dev nD) (i : grid0.Coords) (arg2 : Memref sig .tc .vmem S1x512x256 .bf16) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x512x256 .bf16) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x1024x256 .f32) (harg9 : arg9.IsWhole) (arg10 : Memref sig .tc .vmem S1x1024x256 .f32) (harg10 : arg10.IsWhole) (arg11 : Memref sig .tc .vmem S3x512x256 .f32) (harg11 : arg11.IsWhole)
    (x0 : Vec F S1x512x256 .bf16) (x1 x2 : Vec F S1x1024x256 .bf16) (x3 : Vec F S1x512x256 .bf16) (x4 x5 : Vec F S1x512x256 .f32) (x7 x8 : Vec F S1x1024x256 .f32) (xs : Vec F S3x512x256 .f32) :
    { r : Vec F S1x512x256 .f32 × Vec F S1x1024x256 .f32 × Vec F S1x1024x256 .f32 //
      ∀ (y7 y8 : Vec F S1x1024x256 .f32) (ys : Vec F S3x512x256 .f32)
        (h7 : x7 = if opens i then k0_pay7 (F := F) else y7) (h8 : x8 = if opens i then k0_pay8 (F := F) else y8) (hs : xs = if first i then caps else ys)
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare y8 ∗ owns (c : Thread nD τ) arg11 fullShare ys ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare r.1 ∗ owns (c : Thread nD τ) arg9 fullShare r.2.1 ∗ owns (c : Thread nD τ) arg10 fullShare r.2.2 ∗ owns (c : Thread nD τ) arg11 fullShare xs) -∗ K ⟨⟩))
          ⊢ wp frame (wpE (defs₀ (F := F)) Variants.none c none) E (cc0_dil_bwd i arg2 harg2 arg3 harg3 arg4 harg4 arg5 harg5 arg6 harg6 arg7 harg7 arg8 harg8 arg9 harg9 arg10 harg10 arg11 harg11) K } := by
  refine ⟨(?v6, ?v7, ?v8), fun y7 y8 ys h7 h8 hs E K => ?run⟩
  case run =>
    dsimp only
    simp only [cc0_dil_bwd_eq_skeleton]; unfold cc0_dil_bwd_skel
    refine wp_seq _ ((head c i arg2 harg2 arg3 harg3 arg4 harg4 arg5 harg5 arg6 harg6 arg7 harg7 arg8 harg8 arg9 harg9 arg10 harg10 arg11 harg11 x0 x1 x2 x3 x4 x5 x7 x8 xs).2 y7 y8 ys h7 h8 hs E _) ?_
    dsimp only [head]
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs, %hfs, HS⟩, Hk⟩
    obtain rfl := harg2.eq_unread hf0; obtain rfl := harg3.eq_unread hf1
    obtain rfl := harg4.eq_unread hf2; obtain rfl := harg5.eq_unread hf3
    obtain rfl := harg6.eq_unread hf4; obtain rfl := harg7.eq_unread hf5
    obtain rfl := harg9.eq_unread hf7; obtain rfl := harg10.eq_unread hf8
    obtain rfl := harg11.eq_unread hfs
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; exact rows4_read (F := F) _ _ _ _ _ _
    isplitl [H7]
    · iexists _; isplitr; swap; · iexact H7
      ipureintro; rfl
    isplitl [H8]
    · iexists _; isplitr; swap; · iexact H8
      ipureintro; rfl
    iexists _; isplitr; · ipureintro; exact harg11.read_unread _
    iexact HS

end Cert.KernelIdeal.Body

end
-- ==== Proof.Launch.lean ====
module

public import proofs.«01_k».proof.Proof.Body
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions at a point -/

theorem first_iff (t : Fin cfg0.N) : first (grid0.coords t) ↔ t.val = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [first, e0, e1]
    word_cmp
   : ∀ t : Fin grid0.N, first (grid0.coords t) ↔ t.val = 0) t

theorem opens_iff (t : Fin cfg0.N) : opens (grid0.coords t) ↔ t.val % 2 = 0 :=
  (fun t => by
    have ht : t.val < 8 := Nat.lt_of_lt_of_eq t.isLt N_0
    have e1 : (grid0.coords t 1).val = t.val / 1 % 2 := Pipeline.Grid.coords_val t 1 (by decide) rfl
    simp only [opens, e1]
    word_cmp
   : ∀ t : Fin grid0.N, opens (grid0.coords t) ↔ t.val % 2 = 0) t

/-! ## The staging memrefs at a point -/

abbrev ms0 (t : Fin cfg0.N) : Memref sig .tc .vmem S1x512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024x256 .f32 := win0_8.stage (cfg0.slots t 8)
abbrev hs8 (t : Fin cfg0.N) : (ms8 t).IsWhole := hstage0_8 ((cfg0.slots t 8).cast nbuf0_8)
/-- The scratch buffer of the caps. -/
abbrev scM : Memref sig .tc .vmem S3x512x256 .f32 := Memref.whole cc0_scratch0

/-! ## What the body leaves, point by point -/

/-- What the body leaves at point `t`, the accumulators holding `x7` and `x8` once the first part is past. -/
abbrev leaves (c : Dev nD) (t : Fin cfg0.N) (x7 x8 : Vec F S1x1024x256 .f32) :=
  (run (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 4 t) (iblk m c 5 t) x7 x8 caps)

/-- What the three gradients' staging buffers hold after point `n`. -/
def after3 (c : Dev nD) : (n : ℕ) → n < cfg0.N → Vec F S1x512x256 .f32 × Vec F S1x1024x256 .f32 × Vec F S1x1024x256 .f32
  | 0, h => (leaves m c ⟨0, h⟩ (k0_pay7 (F := F)) (k0_pay8 (F := F))).1
  | n + 1, h => (leaves m c ⟨n + 1, h⟩ (if (n + 1) % 2 = 0 then k0_pay7 (F := F) else (after3 c n (Nat.lt_of_succ_lt h)).2.1)
      (if (n + 1) % 2 = 0 then k0_pay8 (F := F) else (after3 c n (Nat.lt_of_succ_lt h)).2.2)).1

/-- The scratch buffer before point `t`: at anything before the first point, at the caps afterwards. -/
def carried (c : Dev nD) : ℕ → sProp 𝕄
  | 0 => iprop(∃ d, owns (c : Thread nD τ) scM fullShare d)
  | _ + 1 => owns (c : Thread nD τ) scM fullShare (caps (F := F))

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (after3 m c t.val t.isLt).1
    | ⟨7, _⟩ => (after3 m c t.val t.isLt).2.1
    | ⟨8, _⟩ => (after3 m c t.val t.isLt).2.2
  Φ t := iprop(carried c t.val ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (after3 m c t.val t.isLt).1 := by dsimp only [dats]
theorem after_7 (c : Dev nD) (t : Fin cfg0.N) : (dats m 0 c).after 7 t = (after3 m c t.val t.isLt).2.1 := by dsimp only [dats]
theorem after_8 (c : Dev nD) (t : Fin cfg0.N) : (dats m 0 c).after 8 t = (after3 m c t.val t.isLt).2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Where no sequence opens, the accumulators hold what the point before left. -/
theorem before_7 (c : Dev nD) (t : Fin cfg0.N) (h : t.val % 2 ≠ 0) (d) :
    (dats m 0 c).before 7 t d = (after3 m c (t.val - 1) (Nat.lt_of_le_of_lt (Nat.sub_le _ _) t.isLt)).2.1 := by
  rw [(dats m 0 c).before_out_kept 7 rfl t (fun h0 => h (by rw [h0])) (by
    rw [Bool.eq_false_iff]; intro hf; have := (flush0_7 _).mp hf; dsimp only at this; omega) (fun _ => rfl) (fun _ _ => rfl) d, after_7]
theorem before_8 (c : Dev nD) (t : Fin cfg0.N) (h : t.val % 2 ≠ 0) (d) :
    (dats m 0 c).before 8 t d = (after3 m c (t.val - 1) (Nat.lt_of_le_of_lt (Nat.sub_le _ _) t.isLt)).2.2 := by
  rw [(dats m 0 c).before_out_kept 8 rfl t (fun h0 => h (by rw [h0])) (by
    rw [Bool.eq_false_iff]; intro hf; have := (flush0_8 _).mp hf; dsimp only at this; omega) (fun _ => rfl) (fun _ _ => rfl) d, after_8]

/-- What a point leaves is what the body leaves there over what the accumulators then hold. -/
theorem after3_eq (c : Dev nD) (t : Fin cfg0.N) (d7 d8) :
    after3 m c t.val t.isLt = (leaves m c t (if opens (grid0.coords t) then k0_pay7 (F := F) else (dats m 0 c).before 7 t d7)
      (if opens (grid0.coords t) then k0_pay8 (F := F) else (dats m 0 c).before 8 t d8)).1 := by
  by_cases h : t.val % 2 = 0
  · rw [if_pos ((opens_iff t).mpr h), if_pos ((opens_iff t).mpr h)]
    obtain ⟨n, hn⟩ := t
    cases n with
    | zero => rfl
    | succ n => show (leaves m c ⟨n + 1, hn⟩ _ _).1 = _; rw [if_pos h, if_pos h]
  · rw [if_neg (fun ho => h ((opens_iff t).mp ho)), if_neg (fun ho => h ((opens_iff t).mp ho)), before_7 m c t h, before_8 m c t h]
    obtain ⟨n, hn⟩ := t
    cases n with
    | zero => exact absurd rfl h
    | succ n => show (leaves m c ⟨n + 1, hn⟩ _ _).1 = _; rw [if_neg h, if_neg h]; rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

theorem carried_open (c : Dev nD) (n : ℕ) :
    carried c n ⊢ (iprop(∃ d, ⌜n ≠ 0 → d = caps (F := F)⌝ ∗ owns (c : Thread nD τ) scM fullShare d) : sProp 𝕄) := by
  cases n with
  | zero =>
    unfold carried
    iintro ⟨%d, H⟩
    iexists d
    isplitr
    · ipureintro; exact fun h => absurd rfl h
    iexact H
  | succ n =>
    unfold carried
    iintro H
    iexists caps
    isplitr
    · ipureintro; exact fun _ => rfl
    iexact H

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6, after_7, after_8]
  rw [show (dats m 0 c).Φ t.castSucc = iprop(carried c t.val ∗ (∃ r, prngReg c r)) from rfl,
    show (dats m 0 c).Φ t.succ = iprop(owns (c : Thread nD τ) scM fullShare (caps (F := F)) ∗ (∃ r, prngReg c r)) from rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HS := (carried_open c t.val) $$ HS
  icases HS with ⟨%ds, %hds, HS⟩
  rw [after3_eq m c t d7 d8]
  iapply ((leaves m c t _ _).2 ((dats m 0 c).before 7 t d7) ((dats m 0 c).before 8 t d8) ds rfl rfl (by
    by_cases h : first (grid0.coords t)
    · rw [if_pos h]
    · rw [if_neg h]; exact (hds fun h0 => h ((first_iff t).mpr h0)).symm) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HS]; · iexact HS
  iintro ⟨H0, H1, H2, H3, H4, H5, H6, H7, H8, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : (Pipeline.ΦA spec0 c : sProp 𝕄) ⊢ (dats (F := F) m 0 c).Φ 0 := by
  rw [PhiA_eq]; exact .rfl

theorem hout (c : Dev nD) : (dats (F := F) m 0 c).Φ (Fin.last cfg0.N) ⊢ (Pipeline.ΦA spec0 c : sProp 𝕄) := by
  rw [PhiA_eq]
  show iprop(carried c 8 ∗ (∃ r, prngReg c r)) ⊢ _
  unfold carried
  iintro ⟨HS, Hg⟩
  isplitl [HS]
  · iexists _; iexact HS
  iexact Hg

set_option backward.isDefEq.respectTransparency.types false in
/-- Every execution ends with the arrays at what the points write back, and with every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Block.lean ====
/- What one point of the grid leaves of the three gradients, as functions of what it loads: the same functions of a block's rows
and window for each of its four blocks. -/
module

public import proofs.«01_k».proof.Proof.Body

@[expose] public section

set_option maxRecDepth 16384
set_option maxHeartbeats 2000000

noncomputable section

namespace Cert.KernelIdeal.Body

open Cert.KernelIdeal.Gen
open Idealize.ShloMosaic Idealize.ShloMosaic.TcCoe

variable {F : FTy → Type} [FloatOps F] [Named F]

/-! ## The functions of one block -/

/-- The scaled queries of a block's 128 rows, head by head under one another. -/
def qsOf (q : Vec F S1x128x256 .bf16) : FVec F S512x256 .bf16 :=
  k0_pay18 (iota .tc S128x256 32 [1] iota_S128x256_d1_w32) (k0_pay17 q) 6#32
/-- The output's gradient of the rows, head by head. -/
def dosOf (d : Vec F S1x128x256 .bf16) : FVec F S512x256 .bf16 :=
  k0_pay32 (iota .tc S128x256 32 [1] iota_S128x256_d1_w32) (k0_pay31 d) 6#32
/-- The probabilities of the rows over the window. -/
def probOf (q : Vec F S1x128x256 .bf16) (k : Vec F S1x256x256 .bf16) (cap : Vec F S1x512x256 .f32) (l0 l1 l2 l3 : Vec F S1x128x1 .f32) :
    FVec F S512x256 .f32 :=
  k0_pay50 (k0_pay42 (k0_pay9 k) (qsOf q)) cap l0 l1 l2 l3
/-- The gradient of the scores: `p` the probabilities. -/
def dsOf (d : Vec F S1x128x256 .bf16) (v : Vec F S1x256x256 .bf16) (p : FVec F S512x256 .f32) (c0 c1 c2 c3 : Vec F S1x128x1 .f32) :
    FVec F S512x256 .bf16 :=
  k0_pay58 (k0_pay46 (k0_pay10 v) (dosOf d)) p c0 c1 c2 c3
/-- The gradient of the block's queries. -/
def dqOf (k : Vec F S1x256x256 .bf16) (ds : FVec F S512x256 .bf16) : Vec F S1x128x256 .f32 :=
  k0_pay78 (k0_pay77 (k0_pay65 (k0_pay9 k) ds))
/-- The block's part of the gradient of the window's keys, -/
def dkOf (q : Vec F S1x128x256 .bf16) (ds : FVec F S512x256 .bf16) : FVec F S256x256 .f32 := k0_pay69 (qsOf q) ds
/-- and of its values. -/
def dvOf (d : Vec F S1x128x256 .bf16) (p : FVec F S512x256 .f32) : FVec F S256x256 .f32 := k0_pay73 (dosOf d) p

/-- An accumulator with `w` added over the window at `off`. -/
def step (x : Vec F S1x1024x256 .f32) (off : Fin 3 → ℕ) (inb : ∀ a, off a + S1x256x256.size a ≤ S1x1024x256.size a) (w : FVec F S256x256 .f32) :
    Vec F S1x1024x256 .f32 :=
  VecWindow.put x off S1x256x256.size (k0_pay79 w (VecWindow.window x off S1x256x256.size inb))

theorem step_read {v : View sig .tc .vmem S1x1024x256 .f32} (f : v.ty.Contents (Elt F)) (L : List (View.Piece (Elt F) S1x1024x256 .f32))
    (off : Fin 3 → ℕ) (inb : ∀ a, off a + S1x256x256.size a ≤ S1x1024x256.size a) (w : FVec F S256x256 .f32)
    {y : Vec F S1x1024x256 .f32} (h : v.read (Elt F) (v.writes (Elt F) f L) = y) :
    v.read (Elt F) (v.writes (Elt F) f (⟨Rect.unit (s := S1x1024x256) off S1x256x256.size inb,
      k0_pay79 w (v.readAt (Elt F) (Rect.unit (s := S1x1024x256) off S1x256x256.size inb).toLoadRect (v.writes (Elt F) f L))⟩ :: L)) = step y off inb w := by
  rw [View.read_writes_cons_put v f inb _ L rfl, View.readAt_unit v _ inb rfl inb, h]
  rfl

/-- A load at a rectangle of a whole memref that holds `x`. -/
abbrev ld {s : Shape} {e : EltTy} (M : Memref sig .tc .vmem s e) (h : M.IsWhole) (x : Vec F s e) (off size : Fin s.rank → ℕ)
    (inb : ∀ a, off a + size a ≤ s.size a) := M.view.readAt (Elt F) (Rect.unit off size inb).toLoadRect (h.unread x)

theorem ld_eq {s : Shape} {e : EltTy} (M : Memref sig .tc .vmem s e) (h : M.IsWhole) (x : Vec F s e) (off size : Fin s.rank → ℕ)
    (inb : ∀ a, off a + size a ≤ s.size a) : ld M h x off size inb = VecWindow.window x off size inb := by
  unfold ld
  rw [View.readAt_unit _ _ inb rfl inb, h.read_unread]

/-! ## A block of a point -/

theorem rows_inb (t : Fin 4) : ∀ a, (![0, 128 * t.val, 0] : Fin 3 → ℕ) a + S1x128x256.size a ≤ S1x512x256.size a := by
  revert t; decide
theorem col_inb (t h : Fin 4) : ∀ a, (![0, 128 * t.val, 64 * h.val] : Fin 3 → ℕ) a + S1x128x1.size a ≤ S1x512x256.size a := by
  revert t h; decide

/-- The 128 rows of block `t`. -/
def rowsAt {e : EltTy} (x : Vec F S1x512x256 e) (t : Fin 4) : Vec F S1x128x256 e := VecWindow.window x ![0, 128 * t.val, 0] S1x128x256.size (rows_inb t)
/-- The column of head `h` of those rows. -/
def colAt {e : EltTy} (x : Vec F S1x512x256 e) (t h : Fin 4) : Vec F S1x128x1 e := VecWindow.window x ![0, 128 * t.val, 64 * h.val] S1x128x1.size (col_inb t h)
/-- The window of block `t`. -/
def winAt {e : EltTy} (i : grid0.Coords) (x : Vec F S1x1024x256 e) (t : Fin 4) : Vec F S1x256x256 e :=
  VecWindow.window x (k0_off1 i (BitVec.ofNat 32 t.val)) S1x256x256.size (k0_off1_inb i t)
/-- The caps of block `t`. -/
def capAt (i : grid0.Coords) (x : Vec F S3x512x256 .f32) (t : Fin 4) : Vec F S1x512x256 .f32 :=
  VecWindow.window x (k0_off2 i (BitVec.ofNat 32 t.val)) S1x512x256.size (k0_off2_inb i t)

section
variable {e : EltTy} (i : grid0.Coords) (t h : Fin 4)
theorem rowsAt_ld (M : Memref sig .tc .vmem S1x512x256 e) (hM : M.IsWhole) (x : Vec F S1x512x256 e) :
    rowsAt x t = ld M hM x ![0, 128 * t.val, 0] S1x128x256.size (rows_inb t) := (ld_eq ..).symm
theorem colAt_ld (M : Memref sig .tc .vmem S1x512x256 e) (hM : M.IsWhole) (x : Vec F S1x512x256 e) :
    colAt x t h = ld M hM x ![0, 128 * t.val, 64 * h.val] S1x128x1.size (col_inb t h) := (ld_eq ..).symm
theorem winAt_ld (M : Memref sig .tc .vmem S1x1024x256 e) (hM : M.IsWhole) (x : Vec F S1x1024x256 e) :
    winAt i x t = ld M hM x (k0_off1 i (BitVec.ofNat 32 t.val)) S1x256x256.size (k0_off1_inb i t) := (ld_eq ..).symm
theorem capAt_ld (M : Memref sig .tc .vmem S3x512x256 .f32) (hM : M.IsWhole) (x : Vec F S3x512x256 .f32) :
    capAt i x t = ld M hM x (k0_off2 i (BitVec.ofNat 32 t.val)) S1x512x256.size (k0_off2_inb i t) := (ld_eq ..).symm
end

variable (c : Dev nD) (i : grid0.Coords) (arg2 : Memref sig .tc .vmem S1x512x256 .bf16) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x512x256 .bf16) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x1024x256 .f32) (harg9 : arg9.IsWhole) (arg10 : Memref sig .tc .vmem S1x1024x256 .f32) (harg10 : arg10.IsWhole) (arg11 : Memref sig .tc .vmem S3x512x256 .f32) (harg11 : arg11.IsWhole)
    (x0 : Vec F S1x512x256 .bf16) (x1 x2 : Vec F S1x1024x256 .bf16) (x3 : Vec F S1x512x256 .bf16) (x4 x5 : Vec F S1x512x256 .f32) (x7 x8 : Vec F S1x1024x256 .f32) (xs : Vec F S3x512x256 .f32)

/-- The probabilities of block `t`, -/
def probAt (t : Fin 4) : FVec F S512x256 .f32 :=
  probOf (rowsAt x0 t) (winAt i x1 t) (capAt i xs t) (colAt x4 t 0) (colAt x4 t 1) (colAt x4 t 2) (colAt x4 t 3)
/-- and its gradient of the scores. -/
def dsAt (t : Fin 4) : FVec F S512x256 .bf16 :=
  dsOf (rowsAt x3 t) (winAt i x2 t) (probAt i x0 x1 x4 xs t) (colAt x5 t 0) (colAt x5 t 1) (colAt x5 t 2) (colAt x5 t 3)

theorem run_dq :
    (run c i arg2 harg2 arg3 harg3 arg4 harg4 arg5 harg5 arg6 harg6 arg7 harg7 arg8 harg8 arg9 harg9 arg10 harg10 arg11 harg11 x0 x1 x2 x3 x4 x5 x7 x8 xs).1.1
      = rows4 (dqOf (winAt i x1 0) (dsAt i x0 x1 x2 x3 x4 x5 xs 0)) (dqOf (winAt i x1 1) (dsAt i x0 x1 x2 x3 x4 x5 xs 1))
        (dqOf (winAt i x1 2) (dsAt i x0 x1 x2 x3 x4 x5 xs 2)) (dqOf (winAt i x1 3) (dsAt i x0 x1 x2 x3 x4 x5 xs 3)) := by
  unfold dsAt probAt
  simp only [rowsAt_ld _ arg2 harg2 x0, winAt_ld _ _ arg3 harg3 x1, winAt_ld _ _ arg4 harg4 x2, rowsAt_ld _ arg5 harg5 x3, colAt_ld _ _ arg6 harg6 x4, colAt_ld _ _ arg7 harg7 x5, capAt_ld _ _ arg11 harg11 xs]
  rfl

theorem run_dk :
    (run c i arg2 harg2 arg3 harg3 arg4 harg4 arg5 harg5 arg6 harg6 arg7 harg7 arg8 harg8 arg9 harg9 arg10 harg10 arg11 harg11 x0 x1 x2 x3 x4 x5 x7 x8 xs).1.2.1
      = step (step (step (step x7 (k0_off1 i 0#32) (k0_off1_inb i 0) (dkOf (rowsAt x0 0) (dsAt i x0 x1 x2 x3 x4 x5 xs 0)))
        (k0_off1 i 1#32) (k0_off1_inb i 1) (dkOf (rowsAt x0 1) (dsAt i x0 x1 x2 x3 x4 x5 xs 1)))
        (k0_off1 i 2#32) (k0_off1_inb i 2) (dkOf (rowsAt x0 2) (dsAt i x0 x1 x2 x3 x4 x5 xs 2)))
        (k0_off1 i 3#32) (k0_off1_inb i 3) (dkOf (rowsAt x0 3) (dsAt i x0 x1 x2 x3 x4 x5 xs 3)) := by
  unfold dsAt probAt
  simp only [rowsAt_ld _ arg2 harg2 x0, winAt_ld _ _ arg3 harg3 x1, winAt_ld _ _ arg4 harg4 x2, rowsAt_ld _ arg5 harg5 x3, colAt_ld _ _ arg6 harg6 x4, colAt_ld _ _ arg7 harg7 x5, capAt_ld _ _ arg11 harg11 xs]
  exact step_read _ _ _ _ _ (step_read _ _ _ _ _ (step_read _ _ _ _ _ (step_read _ [] _ _ _ (harg9.read_unread x7))))

theorem run_dv :
    (run c i arg2 harg2 arg3 harg3 arg4 harg4 arg5 harg5 arg6 harg6 arg7 harg7 arg8 harg8 arg9 harg9 arg10 harg10 arg11 harg11 x0 x1 x2 x3 x4 x5 x7 x8 xs).1.2.2
      = step (step (step (step x8 (k0_off1 i 0#32) (k0_off1_inb i 0) (dvOf (rowsAt x3 0) (probAt i x0 x1 x4 xs 0)))
        (k0_off1 i 1#32) (k0_off1_inb i 1) (dvOf (rowsAt x3 1) (probAt i x0 x1 x4 xs 1)))
        (k0_off1 i 2#32) (k0_off1_inb i 2) (dvOf (rowsAt x3 2) (probAt i x0 x1 x4 xs 2)))
        (k0_off1 i 3#32) (k0_off1_inb i 3) (dvOf (rowsAt x3 3) (probAt i x0 x1 x4 xs 3)) := by
  unfold probAt
  simp only [rowsAt_ld _ arg2 harg2 x0, winAt_ld _ _ arg3 harg3 x1, winAt_ld _ _ arg4 harg4 x2, rowsAt_ld _ arg5 harg5 x3, colAt_ld _ _ arg6 harg6 x4, colAt_ld _ _ arg7 harg7 x5, capAt_ld _ _ arg11 harg11 xs]
  exact step_read _ _ _ _ _ (step_read _ _ _ _ _ (step_read _ _ _ _ _ (step_read _ [] _ _ _ (harg10.read_unread x8))))

end Cert.KernelIdeal.Body

end
-- ==== Proof.BlockVal.lean ====
/- The functions of one block over the reals, at an index: row `r` of head `h` is the stacked row `128 h + r`, and head `h` of a
row of 256 lanes is the lanes `64 h … 64 h + 63`. -/
module

public import proofs.«01_k».proof.Proof.Block
public import Idealize.ShloMosaic.Lib.Pointwise

@[expose] public section

set_option maxRecDepth 16384
set_option maxHeartbeats 2000000

noncomputable section

namespace Cert.KernelIdeal.Body

open Cert.KernelIdeal.Gen
open Idealize.ShloMosaic Idealize.ShloMosaic.TcCoe

/-- The scale of the scores, 1/8. -/
abbrev sc : EReal := Ideal.ofBits .f32 1040187392#32

/-- The stacked row of row `r` of head `h`. -/
def row (h : Fin 4) (r : Fin 128) : Fin 512 := ⟨128 * h.val + r.val, by omega⟩

theorem lane_bit : ∀ (l : Fin 256) (h : Fin 4),
    (IntOp.cmpi .eq (IntOp.shrsi .vector (BitVec.ofNat 32 l.val) 6#32) (BitVec.ofNat 32 h.val)) = if l.val / 64 = h.val then 1#1 else 0#1 := by
  decide +kernel

theorem select_lane {α : Type} (l : Fin 256) (h : Fin 4) (x y : α) :
    Scalar.select (IntOp.cmpi .eq (IntOp.shrsi .vector (BitVec.ofNat 32 l.val) 6#32) (BitVec.ofNat 32 h.val)) x y
      = if l.val / 64 = h.val then x else y := by
  rw [lane_bit]
  split <;> rfl

/-- A stacked row read through the ladder over the four heads. -/
theorem ladder {α : Type} (f : Fin 4 → Fin 128 → α) (h : Fin 4) (r : Fin 128) (n : ℕ) (hn : n = 128 * h.val + r.val) (h3 : n - 128 - 128 - 128 < 128) :
    (if h0 : n < 128 then f 0 ⟨n, h0⟩ else if h1 : n - 128 < 128 then f 1 ⟨n - 128, h1⟩
      else if h2 : n - 128 - 128 < 128 then f 2 ⟨n - 128 - 128, h2⟩ else f 3 ⟨n - 128 - 128 - 128, h3⟩) = f h r := by
  have hr := r.isLt
  split_ifs with h0 h1 h2
  · obtain rfl : h = 0 := Fin.ext (by show h.val = 0; omega)
    congr 1; exact Fin.ext (by show n = r.val; simp at hn; omega)
  · obtain rfl : h = 1 := Fin.ext (by show h.val = 1; omega)
    congr 1; exact Fin.ext (by show n - 128 = r.val; simp at hn; omega)
  · obtain rfl : h = 2 := Fin.ext (by show h.val = 2; omega)
    congr 1; exact Fin.ext (by show n - 128 - 128 = r.val; simp at hn; omega)
  · obtain rfl : h = 3 := Fin.ext (by show h.val = 3; omega)
    congr 1; exact Fin.ext (by show n - 128 - 128 - 128 = r.val; simp at hn; omega)

/-- The same with each head's number a word. -/
theorem ladder_word {α : Type} (f : BitVec 32 → Fin 128 → α) (h : Fin 4) (r : Fin 128) (n : ℕ) (hn : n = 128 * h.val + r.val) (h3 : n - 128 - 128 - 128 < 128) :
    (if h0 : n < 128 then f 0#32 ⟨n, h0⟩ else if h1 : n - 128 < 128 then f 1#32 ⟨n - 128, h1⟩
      else if h2 : n - 128 - 128 < 128 then f 2#32 ⟨n - 128 - 128, h2⟩ else f 3#32 ⟨n - 128 - 128 - 128, h3⟩) = f (BitVec.ofNat 32 h.val) r :=
  ladder (fun h' r' => f (BitVec.ofNat 32 h'.val) r') h r n hn h3

theorem row_sub (h : Fin 4) (r : Fin 128) : (row h r).val - 128 - 128 - 128 < 128 := by
  have := h.isLt
  have := r.isLt
  show 128 * h.val + r.val - 128 - 128 - 128 < 128
  omega

theorem qsOf_at (q : Vec Ideal S1x128x256 .bf16) (h : Fin 4) (r : Fin 128) (l : Fin 256) :
    qsOf q (ix2 (row h r) l) = if l.val / 64 = h.val then q (ix3 0 r l) * sc else 0 := by
  rw [← select_lane l h]
  unfold qsOf k0_pay18 k0_pay17
  pointwise
  exact ladder_word (fun w r' => Scalar.select (IntOp.cmpi .eq (IntOp.shrsi .vector (BitVec.ofNat 32 l.val) 6#32) w) (q (ix3 0 r' l) * sc) 0)
    h r (row h r).val rfl (row_sub h r)

theorem dosOf_at (d : Vec Ideal S1x128x256 .bf16) (h : Fin 4) (r : Fin 128) (l : Fin 256) :
    dosOf d (ix2 (row h r) l) = if l.val / 64 = h.val then d (ix3 0 r l) else 0 := by
  rw [← select_lane l h]
  unfold dosOf k0_pay32 k0_pay31
  pointwise
  exact ladder_word (fun w r' => Scalar.select (IntOp.cmpi .eq (IntOp.shrsi .vector (BitVec.ofNat 32 l.val) 6#32) w) (d (ix3 0 r' l)) 0)
    h r (row h r).val rfl (row_sub h r)

/-- Lane `e` of head `h`. -/
def lane (h : Fin 4) (e : Fin 64) : Fin 256 := ⟨64 * h.val + e.val, by omega⟩

/-- A sum over 256 lanes of which only a head's count is the sum over the head's lanes. -/
theorem sum_head (h : Fin 4) (a b : Fin 256 → EReal) :
    (∑ l : Fin 256, (if l.val / 64 = h.val then a l else 0) * b l) = ∑ e : Fin 64, a (lane h e) * b (lane h e) := by
  symm
  refine Finset.sum_of_injOn (lane h) (fun x _ y _ hxy => ?_) (fun _ _ => Finset.mem_coe.2 (Finset.mem_univ _)) (fun l _ hl => ?_) (fun e _ => ?_)
  · have := congrArg Fin.val hxy
    simp only [lane] at this
    exact Fin.ext (by omega)
  · rw [if_neg, zero_mul]
    intro he
    refine hl ⟨⟨l.val % 64, Nat.mod_lt _ (by norm_num)⟩, Finset.mem_coe.2 (Finset.mem_univ _), Fin.ext ?_⟩
    show 64 * h.val + l.val % 64 = l.val
    omega
  · rw [if_pos]
    show (64 * h.val + e.val) / 64 = h.val
    omega

theorem probOf_at (q : Vec Ideal S1x128x256 .bf16) (k : Vec Ideal S1x256x256 .bf16) (cap : Vec Ideal S1x512x256 .f32)
    (L : Fin 4 → Vec Ideal S1x128x1 .f32) (h : Fin 4) (r : Fin 128) (c : Fin 256) :
    probOf q k cap (L 0) (L 1) (L 2) (L 3) (ix2 (row h r) c)
      = Ideal.exp (min (∑ e : Fin 64, (q (ix3 0 r (lane h e)) * sc) * k (ix3 0 c (lane h e))) (cap (ix3 0 (row h r) c))
          - L h (ix3 0 r 0)) := by
  have e : (∑ l : Fin 256, qsOf q (ix2 (row h r) l) * k (ix3 0 c l)) = ∑ e : Fin 64, (q (ix3 0 r (lane h e)) * sc) * k (ix3 0 c (lane h e)) := by
    simp only [qsOf_at]
    exact sum_head h (fun l => q (ix3 0 r l) * sc) _
  rw [← e]
  unfold probOf
  generalize qsOf q = Q
  unfold k0_pay50 k0_pay42 k0_pay9
  pointwise
  rw [← ladder (fun h' r' => L h' (ix3 0 r' 0)) h r (row h r).val rfl (row_sub h r)]

theorem dsOf_at (d : Vec Ideal S1x128x256 .bf16) (v : Vec Ideal S1x256x256 .bf16) (p : FVec Ideal S512x256 .f32)
    (C : Fin 4 → Vec Ideal S1x128x1 .f32) (h : Fin 4) (r : Fin 128) (c : Fin 256) :
    dsOf d v p (C 0) (C 1) (C 2) (C 3) (ix2 (row h r) c)
      = p (ix2 (row h r) c) * ((∑ e : Fin 64, d (ix3 0 r (lane h e)) * v (ix3 0 c (lane h e))) + C h (ix3 0 r 0)) := by
  have e : (∑ l : Fin 256, dosOf d (ix2 (row h r) l) * v (ix3 0 c l)) = ∑ e : Fin 64, d (ix3 0 r (lane h e)) * v (ix3 0 c (lane h e)) := by
    simp only [dosOf_at]
    exact sum_head h (fun l => d (ix3 0 r l)) _
  rw [← e]
  unfold dsOf
  generalize dosOf d = D
  unfold k0_pay58 k0_pay46 k0_pay10
  pointwise
  rw [← ladder (fun h' r' => C h' (ix3 0 r' 0)) h r (row h r).val rfl (row_sub h r)]

/-- A value picked head by head. -/
theorem pick {α : Type} (f : Fin 4 → α) (z : α) (l : Fin 256) (h : Fin 4) (hl : l.val / 64 = h.val) :
    (if l.val / 64 = (3 : Fin 4).val then f 3 else if l.val / 64 = (2 : Fin 4).val then f 2 else if l.val / 64 = (1 : Fin 4).val then f 1
      else if l.val / 64 = (0 : Fin 4).val then f 0 else z) = f h := by
  rw [hl]
  fin_cases h <;> rfl

theorem dqOf_at (k : Vec Ideal S1x256x256 .bf16) (ds : FVec Ideal S512x256 .bf16) (h : Fin 4) (r : Fin 128) (l : Fin 256) (hl : l.val / 64 = h.val) :
    dqOf k ds (ix3 0 r l) = (∑ c : Fin 256, ds (ix2 (row h r) c) * k (ix3 0 c l)) * sc := by
  rw [← pick (fun h' => ∑ c : Fin 256, ds (ix2 (row h' r) c) * k (ix3 0 c l)) 0 l h hl]
  simp only [← select_lane]
  unfold dqOf k0_pay78 k0_pay77 k0_pay65 k0_pay9
  pointwise
  simp only [row, Fin.val_zero, mul_zero, zero_add]
  rfl

/-- A sum over the stacked rows is one over heads and rows. -/
theorem sum_row (f : Fin 512 → EReal) : (∑ ρ : Fin 512, f ρ) = ∑ h : Fin 4, ∑ r : Fin 128, f (row h r) := by
  rw [← Finset.sum_product']
  refine (Finset.sum_bij' (fun p _ => row p.1 p.2)
    (fun ρ _ => ((⟨ρ.val / 128, by omega⟩ : Fin 4), (⟨ρ.val % 128, Nat.mod_lt _ (by norm_num)⟩ : Fin 128)))
    (fun _ _ => Finset.mem_univ _) (fun _ _ => Finset.mem_univ _) (fun p _ => ?_) (fun ρ _ => ?_) (fun _ _ => rfl)).symm
  · refine Prod.ext (Fin.ext ?_) (Fin.ext ?_)
    · show (128 * p.1.val + p.2.val) / 128 = p.1.val
      omega
    · show (128 * p.1.val + p.2.val) % 128 = p.2.val
      omega
  · refine Fin.ext ?_
    show 128 * (ρ.val / 128) + ρ.val % 128 = ρ.val
    omega

/-- A sum over the stacked rows of which only a head's count. -/
theorem sum_row_head (h : Fin 4) (f : Fin 512 → EReal) (a : Fin 128 → EReal) (l : Fin 256) (hl : l.val / 64 = h.val) :
    (∑ ρ : Fin 512, f ρ * (if l.val / 64 = ρ.val / 128 then a ⟨ρ.val % 128, Nat.mod_lt _ (by norm_num)⟩ else 0)) = ∑ r : Fin 128, f (row h r) * a r := by
  rw [sum_row, Finset.sum_eq_single h (fun h' _ hne => ?_) (fun hn => absurd (Finset.mem_univ _) hn)]
  · refine Finset.sum_congr rfl fun r _ => ?_
    have e1 : (row h r).val / 128 = h.val := by show (128 * h.val + r.val) / 128 = h.val; omega
    have e2 : (⟨(row h r).val % 128, Nat.mod_lt _ (by norm_num)⟩ : Fin 128) = r := Fin.ext (by show (128 * h.val + r.val) % 128 = r.val; omega)
    rw [e1, if_pos hl, e2]
  · refine Finset.sum_eq_zero fun r _ => ?_
    have e1 : (row h' r).val / 128 = h'.val := by show (128 * h'.val + r.val) / 128 = h'.val; omega
    rw [e1, if_neg, mul_zero]
    exact fun e => hne (Fin.ext (e.symm.trans hl))

theorem row_of (ρ : Fin 512) : row ⟨ρ.val / 128, by omega⟩ ⟨ρ.val % 128, Nat.mod_lt _ (by norm_num)⟩ = ρ :=
  Fin.ext (by show 128 * (ρ.val / 128) + ρ.val % 128 = ρ.val; omega)

theorem dkOf_at (q : Vec Ideal S1x128x256 .bf16) (ds : FVec Ideal S512x256 .bf16) (h : Fin 4) (c l : Fin 256) (hl : l.val / 64 = h.val) :
    dkOf q ds (ix2 c l) = ∑ r : Fin 128, ds (ix2 (row h r) c) * (q (ix3 0 r l) * sc) := by
  rw [← sum_row_head h (fun ρ => ds (ix2 ρ c)) (fun r => q (ix3 0 r l) * sc) l hl]
  have e : ∀ ρ : Fin 512, qsOf q (ix2 ρ l) = if l.val / 64 = ρ.val / 128 then q (ix3 0 ⟨ρ.val % 128, Nat.mod_lt _ (by norm_num)⟩ l) * sc else 0 := fun ρ => by
    conv_lhs => rw [← row_of ρ]
    exact qsOf_at q _ _ l
  simp only [← e]
  unfold dkOf k0_pay69
  pointwise

theorem dvOf_at (d : Vec Ideal S1x128x256 .bf16) (p : FVec Ideal S512x256 .f32) (h : Fin 4) (c l : Fin 256) (hl : l.val / 64 = h.val) :
    dvOf d p (ix2 c l) = ∑ r : Fin 128, p (ix2 (row h r) c) * d (ix3 0 r l) := by
  rw [← sum_row_head h (fun ρ => p (ix2 ρ c)) (fun r => d (ix3 0 r l)) l hl]
  have e : ∀ ρ : Fin 512, dosOf d (ix2 ρ l) = if l.val / 64 = ρ.val / 128 then d (ix3 0 ⟨ρ.val % 128, Nat.mod_lt _ (by norm_num)⟩ l) else 0 := fun ρ => by
    conv_lhs => rw [← row_of ρ]
    exact dosOf_at d _ _ l
  simp only [← e]
  unfold dvOf k0_pay73
  pointwise

end Cert.KernelIdeal.Body

end
-- ==== Proof.PointVal.lean ====
/- One point of the grid at an index: where each block's window starts, and the caps, which are `⊤` where the key is within 64 of
the query and `⊥` elsewhere. -/
module

public import proofs.«01_k».proof.Proof.BlockVal

@[expose] public section

set_option maxRecDepth 16384
set_option maxHeartbeats 2000000

noncomputable section

namespace Cert.KernelIdeal.Body

open Cert.KernelIdeal.Gen
open Idealize.ShloMosaic Idealize.ShloMosaic.TcCoe

/-- The first key of the window of block `t` of a point. -/
def start (i : grid0.Coords) (t : Fin 4) : ℕ := min 768 (128 * (4 * (i 1).val + t.val) - 64)

theorem off1 : ∀ (i : grid0.Coords) (t : Fin 4), k0_off1 i (BitVec.ofNat 32 t.val) = ![0, start i t, 0] := by
  decide +kernel
theorem off2 : ∀ (i : grid0.Coords) (t : Fin 4),
    k0_off2 i (BitVec.ofNat 32 t.val) = ![(128 * (4 * (i 1).val + t.val) - start i t) / 64, 0, 0] := by
  decide +kernel
theorem start_le (i : grid0.Coords) (t : Fin 4) (c : Fin 256) : start i t + c.val < 1024 := by
  have : start i t ≤ 768 := Nat.min_le_left ..
  omega

/-- Row `r` of block `t` among the point's 512 rows. -/
def brow (t : Fin 4) (r : Fin 128) : Fin 512 := ⟨128 * t.val + r.val, by omega⟩
/-- Key `c` of a window. -/
def wkey (i : grid0.Coords) (t : Fin 4) (c : Fin 256) : Fin 1024 := ⟨start i t + c.val, start_le i t c⟩

/-! ## Loads and stores at an index -/

theorem emb_val {s : Shape} (off size : Fin s.rank → ℕ) (inb : ∀ a, off a + size a ≤ s.size a) (y : (Rect.unit off size inb).shape.Idx) (a : Fin s.rank) :
    ((Rect.unit off size inb).emb y a).val = off a + (y a).val := by
  show off a + 1 * (y a).val = _
  omega

theorem put_mem {s : Shape} {α : Type} (x : s.Idx → α) (off size : Fin s.rank → ℕ) (w : ((a : Fin s.rank) → Fin (size a)) → α) (y : s.Idx)
    (y' : (a : Fin s.rank) → Fin (size a)) (h : ∀ a, (y a).val = off a + (y' a).val) : VecWindow.put x off size w y = w y' := by
  unfold VecWindow.put
  rw [dif_pos fun a => ⟨by have := h a; omega, by have := h a; have := (y' a).isLt; omega⟩]
  congr 1
  funext a
  refine Fin.ext ?_
  show (y a).val - off a = (y' a).val
  have := h a
  omega

theorem put_not_mem {s : Shape} {α : Type} (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  unfold VecWindow.put
  rw [dif_neg fun hall => by have := hall a; omega]

variable {e : EltTy}

theorem rowsAt_at (x : Vec Ideal S1x512x256 e) (t : Fin 4) (r : Fin 128) (l : Fin 256) : rowsAt x t (ix3 0 r l) = x (ix3 0 (brow t r) l) := by
  unfold rowsAt VecWindow.window
  congr 1
  funext a
  refine Fin.ext ?_
  rw [emb_val]
  fin_cases a
  · rfl
  · rfl
  · show 0 + l.val = l.val
    omega

theorem colAt_at (x : Vec Ideal S1x512x256 e) (t h : Fin 4) (r : Fin 128) : colAt x t h (ix3 0 r 0) = x (ix3 0 (brow t r) (lane h 0)) := by
  unfold colAt VecWindow.window
  congr 1
  funext a
  refine Fin.ext ?_
  rw [emb_val]
  fin_cases a <;> rfl

theorem winAt_at (i : grid0.Coords) (x : Vec Ideal S1x1024x256 e) (t : Fin 4) (c : Fin 256) (l : Fin 256) :
    winAt i x t (ix3 0 c l) = x (ix3 0 (wkey i t c) l) := by
  unfold winAt VecWindow.window
  congr 1
  funext a
  refine Fin.ext ?_
  refine (emb_val ..).trans ((congrArg (· + _) (congrFun (off1 i t) a)).trans ?_)
  fin_cases a
  · rfl
  · rfl
  · show 0 + l.val = l.val
    omega

/-! ## The caps -/

/-- Query `i` attends key `j`. -/
def near (i j : ℕ) : Prop := i ≤ j + 64 ∧ j ≤ i + 64
instance (i j : ℕ) : Decidable (near i j) := inferInstanceAs (Decidable (_ ∧ _))

theorem low_bits : ∀ ρ : Fin 512, IntOp.andi (BitVec.ofNat 32 ρ.val) 127#32 = BitVec.ofNat 32 (ρ.val % 128) := by
  decide +kernel
theorem abs_le : ∀ n : Fin 512, IntOp.cmpi .sle (IntOp.absi (BitVec.ofNat 32 n.val - 256#32)) 64#32 = if 192 ≤ n.val ∧ n.val ≤ 320 then 1#1 else 0#1 := by
  decide +kernel

theorem gap_le (ρ : Fin 512) (c : Fin 256) (v : Fin 3) :
    IntOp.cmpi .sle (IntOp.absi (IntOp.addi (IntOp.subi (IntOp.andi (BitVec.ofNat 32 ρ.val) 127#32) (BitVec.ofNat 32 c.val)) (BitVec.ofNat 32 (64 * v.val)))) 64#32
      = if near (ρ.val % 128 + 64 * v.val) c.val then 1#1 else 0#1 := by
  have hc := c.isLt
  have hv := v.isLt
  have hn : ρ.val % 128 + 64 * v.val + 256 - c.val < 512 := by omega
  have e := abs_le ⟨ρ.val % 128 + 64 * v.val + 256 - c.val, hn⟩
  rw [low_bits]
  have e' : IntOp.addi (IntOp.subi (BitVec.ofNat 32 (ρ.val % 128)) (BitVec.ofNat 32 c.val)) (BitVec.ofNat 32 (64 * v.val))
      = BitVec.ofNat 32 (ρ.val % 128 + 64 * v.val + 256 - c.val) - 256#32 := by
    show (BitVec.ofNat 32 (ρ.val % 128) - BitVec.ofNat 32 c.val) + BitVec.ofNat 32 (64 * v.val) = _
    apply BitVec.eq_of_toNat_eq
    simp only [BitVec.toNat_add, BitVec.toNat_sub, BitVec.toNat_ofNat]
    omega
  rw [e', e]
  refine if_congr ?_ rfl rfl
  unfold near
  show 192 ≤ ρ.val % 128 + 64 * v.val + 256 - c.val ∧ ρ.val % 128 + 64 * v.val + 256 - c.val ≤ 320 ↔ _
  omega

theorem cap_value (w : BitVec 1) (p : Prop) [Decidable p] (h : w = if p then 1#1 else 0#1) :
    Scalar.select w (Ideal.ofBits .f32 2139095040#32) (Named.named (F := Ideal) (φ := .f32) κ "mask" 4048155338#32) = if p then ⊤ else ⊥ := by
  subst h
  have e1 : Ideal.ofBits .f32 2139095040#32 = ⊤ := by simp [Ideal.ofBits, Ideal.ieee]
  have e2 : (Named.named (F := Ideal) (φ := .f32) κ "mask" 4048155338#32 : EReal) = ⊥ := rfl
  rw [e1, e2]
  split <;> rfl

theorem caps_at (v : Fin 3) (ρ : Fin 512) (c : Fin 256) :
    (caps (F := Ideal)) (ix3 v ρ c) = if near (ρ.val % 128 + 64 * v.val) c.val then ⊤ else ⊥ := by
  have h3 : (k0_pay3 (F := Ideal)) (ix3 0 ρ c) = if near (ρ.val % 128 + 64 * (0 : Fin 3).val) c.val then ⊤ else ⊥ := by
    rw [← cap_value _ _ (gap_le ρ c 0)]
    unfold k0_pay3 k0_pay2
    pointwise
  have h4 : (k0_pay4 (F := Ideal)) (ix3 0 ρ c) = if near (ρ.val % 128 + 64 * (1 : Fin 3).val) c.val then ⊤ else ⊥ := by
    rw [← cap_value _ _ (gap_le ρ c 1)]
    unfold k0_pay4 k0_pay2
    pointwise
  have h5 : (k0_pay6 (F := Ideal) k0_pay5) (ix3 0 ρ c) = if near (ρ.val % 128 + 64 * (2 : Fin 3).val) c.val then ⊤ else ⊥ := by
    rw [← cap_value _ _ (gap_le ρ c 2)]
    unfold k0_pay6 k0_pay5 k0_pay2
    pointwise
  unfold caps
  obtain rfl | rfl | rfl : v = 0 ∨ v = 1 ∨ v = 2 := by omega
  · refine (put_not_mem _ _ _ _ _ 0 (Or.inl (show 0 < 2 by decide))).trans ((put_not_mem _ _ _ _ _ 0 (Or.inl (show 0 < 1 by decide))).trans ?_)
    refine Eq.trans (congrArg _ (funext fun a => ?_)) h3
    fin_cases a <;> rfl
  · refine (put_not_mem _ _ _ _ _ 0 (Or.inl (show 1 < 2 by decide))).trans ?_
    refine (put_mem (s := S3x512x256) _ ![1, 0, 0] S1x512x256.size _ (ix3 1 ρ c) (ix3 (0 : Fin 1) ρ c) fun a => ?_).trans h4
    fin_cases a
    · rfl
    · exact (Nat.zero_add _).symm
    · exact (Nat.zero_add _).symm
  · refine (put_mem (s := S3x512x256) _ ![2, 0, 0] S1x512x256.size _ (ix3 2 ρ c) (ix3 (0 : Fin 1) ρ c) fun a => ?_).trans h5
    fin_cases a
    · rfl
    · exact (Nat.zero_add _).symm
    · exact (Nat.zero_add _).symm

/-- Query `r` of block `t` of a point, -/
def qno (i : grid0.Coords) (t : Fin 4) (r : Fin 128) : Fin 1024 := ⟨512 * (i 1).val + 128 * t.val + r.val, by
  have : (i 1).val < 2 := (i 1).isLt
  omega⟩

theorem capAt_at (i : grid0.Coords) (t h : Fin 4) (r : Fin 128) (c : Fin 256) :
    capAt i (caps (F := Ideal)) t (ix3 0 (row h r) c) = if near (qno i t r).val (wkey i t c).val then ⊤ else ⊥ := by
  have hi : (i 1).val < 2 := (i 1).isLt
  have hv : (128 * (4 * (i 1).val + t.val) - start i t) / 64 < 3 := by
    unfold start
    omega
  have e : capAt i (caps (F := Ideal)) t (ix3 0 (row h r) c) = (caps (F := Ideal)) (ix3 ⟨_, hv⟩ (row h r) c) := by
    unfold capAt VecWindow.window
    congr 1
    funext a
    refine Fin.ext ?_
    refine (emb_val ..).trans ((congrArg (· + _) (congrFun (off2 i t) a)).trans ?_)
    fin_cases a
    · rfl
    · exact Nat.zero_add _
    · exact Nat.zero_add _
  rw [e, caps_at]
  refine if_congr ?_ rfl rfl
  unfold near row qno wkey start
  dsimp only
  omega

/-- A step at an index: the term that the window's key has, and nothing at another key. -/
theorem step_at (i : grid0.Coords) (t : Fin 4) (x : Vec Ideal S1x1024x256 .f32) (w : FVec Ideal S256x256 .f32) (j : Fin 1024) (l : Fin 256) :
    step x (k0_off1 i (BitVec.ofNat 32 t.val)) (k0_off1_inb i t) w (ix3 0 j l)
      = x (ix3 0 j l) + (if h : start i t ≤ j.val ∧ j.val < start i t + 256 then w (ix2 ⟨j.val - start i t, by omega⟩ l) else 0) := by
  unfold step
  have hs := start_le i t 255
  by_cases h : start i t ≤ j.val ∧ j.val < start i t + 256
  · rw [dif_pos h]
    have hc : j.val - start i t < 256 := by omega
    refine (put_mem (s := S1x1024x256) _ _ S1x256x256.size _ (ix3 0 j l) (ix3 0 ⟨j.val - start i t, hc⟩ l) fun a => ?_).trans ?_
    · refine Eq.trans ?_ (congrArg (· + _) (congrFun (off1 i t) a)).symm
      fin_cases a
      · rfl
      · show j.val = start i t + (j.val - start i t)
        omega
      · exact (Nat.zero_add _).symm
    · have e := winAt_at i x t ⟨j.val - start i t, hc⟩ l
      have ej : wkey i t ⟨j.val - start i t, hc⟩ = j := Fin.ext (by show start i t + (j.val - start i t) = j.val; omega)
      rw [ej] at e
      rw [← e]
      unfold winAt
      generalize VecWindow.window x _ _ _ = X
      unfold k0_pay79
      pointwise
  · rw [dif_neg h, add_zero]
    refine put_not_mem _ _ _ _ _ 1 ?_
    rw [congrFun (off1 i t) 1]
    show j.val < start i t ∨ start i t + 256 ≤ j.val
    omega

end Cert.KernelIdeal.Body

end
-- ==== Proof.Dense.lean ====
/- The three gradients as plain sums over all keys or all queries of a sequence: the one form that both programs are brought to.
`Q`, `K`, `U`, `D` are the queries, keys, values and the output's gradient (sequence, place, lane), `L` the log of each query's sum
and `C` what is added to the gradient of its probabilities (head, sequence, place). -/
module

public import proofs.«01_k».proof.Proof.PointVal

@[expose] public section

set_option maxRecDepth 16384

noncomputable section

namespace Cert.Dense

open Cert.KernelIdeal.Body
open Idealize.ShloMosaic

/-- The head that a lane belongs to. -/
def headOf (l : Fin 256) : Fin 4 := ⟨l.val / 64, by omega⟩

variable (Q K U D : Fin 4 → Fin 1024 → Fin 256 → EReal) (L C : Fin 4 → Fin 4 → Fin 1024 → EReal)

/-- The probability with which query `i` attends key `j`. -/
def prob (h d : Fin 4) (i j : Fin 1024) : EReal :=
  if near i.val j.val then Ideal.exp ((∑ e : Fin 64, (Q d i (lane h e) * sc) * K d j (lane h e)) - L h d i) else 0
/-- The gradient of the score of query `i` and key `j`. -/
def dscore (h d : Fin 4) (i j : Fin 1024) : EReal :=
  prob Q K L h d i j * ((∑ e : Fin 64, D d i (lane h e) * U d j (lane h e)) + C h d i)
/-- The gradient of the queries, -/
def dq (d : Fin 4) (i : Fin 1024) (l : Fin 256) : EReal := (∑ j : Fin 1024, dscore Q K U D L C (headOf l) d i j * K d j l) * sc
/-- of the keys -/
def dk (d : Fin 4) (j : Fin 1024) (l : Fin 256) : EReal := ∑ i : Fin 1024, dscore Q K U D L C (headOf l) d i j * (Q d i l * sc)
/-- and of the values. -/
def dv (d : Fin 4) (j : Fin 1024) (l : Fin 256) : EReal := ∑ i : Fin 1024, prob Q K L (headOf l) d i j * D d i l

theorem prob_far (h d : Fin 4) (i j : Fin 1024) (hn : ¬ near i.val j.val) : prob Q K L h d i j = 0 := if_neg hn
theorem dscore_far (h d : Fin 4) (i j : Fin 1024) (hn : ¬ near i.val j.val) : dscore Q K U D L C h d i j = 0 := by
  unfold dscore
  rw [prob_far _ _ _ _ _ _ _ hn, zero_mul]

end Cert.Dense

/-! ## A point of the kernel -/

namespace Cert.KernelIdeal.Body

open Cert.Dense Cert.KernelIdeal.Gen
open Idealize.ShloMosaic Idealize.ShloMosaic.TcCoe

section
variable (i : grid0.Coords) (t : Fin 4)

theorem near_window (r : Fin 128) (j : Fin 1024) (h : near (qno i t r).val j.val) : start i t ≤ j.val ∧ j.val < start i t + 256 := by
  have hi : (i 1).val < 2 := (i 1).isLt
  unfold near qno at h
  unfold start
  dsimp only at h
  omega

/-- A sum over the window is one over all keys, when the terms outside vanish. -/
theorem sum_window (r : Fin 128) (f : Fin 1024 → EReal) (hf : ∀ j : Fin 1024, ¬ near (qno i t r).val j.val → f j = 0) :
    (∑ c : Fin 256, f (wkey i t c)) = ∑ j : Fin 1024, f j := by
  refine Finset.sum_of_injOn (wkey i t) (fun x _ y _ hxy => ?_) (fun _ _ => Finset.mem_coe.2 (Finset.mem_univ _)) (fun j _ hj => ?_) (fun _ _ => rfl)
  · have := congrArg Fin.val hxy
    simp only [wkey] at this
    exact Fin.ext (by omega)
  · refine hf j fun hn => hj ?_
    have hw := near_window i t r j hn
    exact ⟨⟨j.val - start i t, by omega⟩, Finset.mem_coe.2 (Finset.mem_univ _), Fin.ext (by show start i t + (j.val - start i t) = j.val; omega)⟩

/-- Row `n` of a point's 512 queries. -/
def pq (n : Fin 512) : Fin 1024 := ⟨512 * (i 1).val + n.val, by
  have : (i 1).val < 2 := (i 1).isLt
  omega⟩

theorem pq_brow (r : Fin 128) : pq i (brow t r) = qno i t r := Fin.ext (by show 512 * (i 1).val + (128 * t.val + r.val) = 512 * (i 1).val + 128 * t.val + r.val; omega)

variable (Q K U D : Fin 4 → Fin 1024 → Fin 256 → EReal) (L C : Fin 4 → Fin 4 → Fin 1024 → EReal) (d : Fin 4)
  (x0 : Vec Ideal S1x512x256 .bf16) (x1 x2 : Vec Ideal S1x1024x256 .bf16) (x3 : Vec Ideal S1x512x256 .bf16) (x4 x5 : Vec Ideal S1x512x256 .f32)

/-- What a point loads: its rows of the queries, of the output's gradient and of the two columns, and the whole sequence of the keys and values. -/
structure Loads : Prop where
  h0 : ∀ n l, x0 (ix3 0 n l) = Q d (pq i n) l
  h1 : ∀ j l, x1 (ix3 0 j l) = K d j l
  h2 : ∀ j l, x2 (ix3 0 j l) = U d j l
  h3 : ∀ n l, x3 (ix3 0 n l) = D d (pq i n) l
  h4 : ∀ n (h : Fin 4), x4 (ix3 0 n (lane h 0)) = L h d (pq i n)
  h5 : ∀ n (h : Fin 4), x5 (ix3 0 n (lane h 0)) = C h d (pq i n)

variable {Q K U D L C d x0 x1 x2 x3 x4 x5} (H : Loads i Q K U D L C d x0 x1 x2 x3 x4 x5)
include H

theorem probAt_at (h : Fin 4) (r : Fin 128) (c : Fin 256) :
    probAt i x0 x1 x4 (caps (F := Ideal)) t (ix2 (row h r) c) = prob Q K L h d (qno i t r) (wkey i t c) := by
  unfold probAt
  rw [probOf_at _ _ _ (colAt x4 t), capAt_at, colAt_at, H.h4, pq_brow]
  simp only [rowsAt_at, winAt_at, H.h0, H.h1, pq_brow]
  unfold prob
  split
  · rw [min_eq_left le_top]
  · rw [min_eq_right bot_le, EReal.bot_sub, Ideal.exp_bot]

theorem dsAt_at (h : Fin 4) (r : Fin 128) (c : Fin 256) :
    dsAt i x0 x1 x2 x3 x4 x5 (caps (F := Ideal)) t (ix2 (row h r) c) = dscore Q K U D L C h d (qno i t r) (wkey i t c) := by
  unfold dsAt
  rw [dsOf_at _ _ _ (colAt x5 t), probAt_at i t H, colAt_at, H.h5, pq_brow]
  simp only [rowsAt_at, winAt_at, H.h2, H.h3, pq_brow]
  rfl

theorem dq_block (r : Fin 128) (l : Fin 256) :
    dqOf (winAt i x1 t) (dsAt i x0 x1 x2 x3 x4 x5 (caps (F := Ideal)) t) (ix3 0 r l) = dq Q K U D L C d (qno i t r) l := by
  rw [dqOf_at _ _ (headOf l) r l rfl]
  unfold dq
  rw [← sum_window i t r (fun j => dscore Q K U D L C (headOf l) d (qno i t r) j * K d j l) (fun j hj => by rw [dscore_far _ _ _ _ _ _ _ _ _ _ hj, zero_mul])]
  simp only [dsAt_at i t H, winAt_at, H.h1]

theorem dk_block (w : BitVec 32) (hw : w = BitVec.ofNat 32 t.val) (inb) (x : Vec Ideal S1x1024x256 .f32) (j : Fin 1024) (l : Fin 256) :
    step x (k0_off1 i w) inb (dkOf (rowsAt x0 t) (dsAt i x0 x1 x2 x3 x4 x5 (caps (F := Ideal)) t)) (ix3 0 j l)
      = x (ix3 0 j l) + ∑ r : Fin 128, dscore Q K U D L C (headOf l) d (qno i t r) j * (Q d (qno i t r) l * sc) := by
  subst hw
  rw [step_at]
  congr 1
  split
  · next h =>
    rw [dkOf_at _ _ (headOf l) _ l rfl]
    simp only [dsAt_at i t H, rowsAt_at, H.h0, pq_brow]
    have e : wkey i t ⟨j.val - start i t, by omega⟩ = j := Fin.ext (by show start i t + (j.val - start i t) = j.val; omega)
    rw [e]
  · next h =>
    refine (Finset.sum_eq_zero fun r _ => ?_).symm
    rw [dscore_far _ _ _ _ _ _ _ _ _ _ (fun hn => h (near_window i t r j hn)), zero_mul]

theorem dv_block (w : BitVec 32) (hw : w = BitVec.ofNat 32 t.val) (inb) (x : Vec Ideal S1x1024x256 .f32) (j : Fin 1024) (l : Fin 256) :
    step x (k0_off1 i w) inb (dvOf (rowsAt x3 t) (probAt i x0 x1 x4 (caps (F := Ideal)) t)) (ix3 0 j l)
      = x (ix3 0 j l) + ∑ r : Fin 128, prob Q K L (headOf l) d (qno i t r) j * D d (qno i t r) l := by
  subst hw
  rw [step_at]
  congr 1
  split
  · next h =>
    rw [dvOf_at _ _ (headOf l) _ l rfl]
    simp only [probAt_at i t H, rowsAt_at, H.h3, pq_brow]
    have e : wkey i t ⟨j.val - start i t, by omega⟩ = j := Fin.ext (by show start i t + (j.val - start i t) = j.val; omega)
    rw [e]
  · next h =>
    refine (Finset.sum_eq_zero fun r _ => ?_).symm
    rw [prob_far _ _ _ _ _ _ _ (fun hn => h (near_window i t r j hn)), zero_mul]

end

/-- Four sums over a block's rows make up the point's, after whatever stood before. -/
theorem sum_point (i : grid0.Coords) (z : EReal) (f : Fin 1024 → EReal) :
    z + (∑ r : Fin 128, f (qno i 0 r)) + (∑ r : Fin 128, f (qno i 1 r)) + (∑ r : Fin 128, f (qno i 2 r)) + (∑ r : Fin 128, f (qno i 3 r))
      = z + ∑ n : Fin 512, f (pq i n) := by
  have e : (∑ n : Fin 512, f (pq i n)) = ∑ t : Fin 4, ∑ r : Fin 128, f (qno i t r) := by
    rw [sum_row]
    exact Finset.sum_congr rfl fun t _ => Finset.sum_congr rfl fun r _ => congrArg f (pq_brow i t r)
  rw [e, Fin.sum_univ_four]
  simp only [add_assoc]

section
variable (c : Dev nD) (i : grid0.Coords) (arg2 : Memref sig .tc .vmem S1x512x256 .bf16) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x512x256 .bf16) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x1024x256 .f32) (harg9 : arg9.IsWhole) (arg10 : Memref sig .tc .vmem S1x1024x256 .f32) (harg10 : arg10.IsWhole) (arg11 : Memref sig .tc .vmem S3x512x256 .f32) (harg11 : arg11.IsWhole)
  {Q K U D : Fin 4 → Fin 1024 → Fin 256 → EReal} {L C : Fin 4 → Fin 4 → Fin 1024 → EReal} {d : Fin 4}
  {x0 : Vec Ideal S1x512x256 .bf16} {x1 x2 : Vec Ideal S1x1024x256 .bf16} {x3 : Vec Ideal S1x512x256 .bf16} {x4 x5 : Vec Ideal S1x512x256 .f32}
  (H : Loads i Q K U D L C d x0 x1 x2 x3 x4 x5) (x7 x8 : Vec Ideal S1x1024x256 .f32)
include H

theorem run_dq_at (n : Fin 512) (l : Fin 256) :
    (run c i arg2 harg2 arg3 harg3 arg4 harg4 arg5 harg5 arg6 harg6 arg7 harg7 arg8 harg8 arg9 harg9 arg10 harg10 arg11 harg11 x0 x1 x2 x3 x4 x5 x7 x8 (caps (F := Ideal))).1.1 (ix3 0 n l)
      = dq Q K U D L C d (pq i n) l := by
  rw [run_dq]
  have hn := n.isLt
  have e : ∀ t : Fin 4, ∀ (hr : n.val % 128 < 128), n.val / 128 = t.val → qno i t ⟨n.val % 128, hr⟩ = pq i n := fun t hr ht => Fin.ext (by
    show 512 * (i 1).val + 128 * t.val + n.val % 128 = 512 * (i 1).val + n.val
    omega)
  unfold rows4
  split_ifs with h0 h1 h2
  · exact (dq_block i 0 H _ l).trans (congrArg (fun p => dq Q K U D L C d p l) (e 0 _ (by change n.val < 128 at h0; show n.val / 128 = 0; omega)))
  · exact (dq_block i 1 H _ l).trans (congrArg (fun p => dq Q K U D L C d p l) (e 1 _ (by change n.val < 256 at h1; change ¬ n.val < 128 at h0; show n.val / 128 = 1; omega)))
  · exact (dq_block i 2 H _ l).trans (congrArg (fun p => dq Q K U D L C d p l) (e 2 _ (by change n.val < 384 at h2; change ¬ n.val < 256 at h1; show n.val / 128 = 2; omega)))
  · exact (dq_block i 3 H _ l).trans (congrArg (fun p => dq Q K U D L C d p l) (e 3 _ (by change ¬ n.val < 384 at h2; show n.val / 128 = 3; omega)))

theorem run_dk_at (j : Fin 1024) (l : Fin 256) :
    (run c i arg2 harg2 arg3 harg3 arg4 harg4 arg5 harg5 arg6 harg6 arg7 harg7 arg8 harg8 arg9 harg9 arg10 harg10 arg11 harg11 x0 x1 x2 x3 x4 x5 x7 x8 (caps (F := Ideal))).1.2.1 (ix3 0 j l)
      = x7 (ix3 0 j l) + ∑ n : Fin 512, dscore Q K U D L C (headOf l) d (pq i n) j * (Q d (pq i n) l * sc) := by
  rw [run_dk, ← sum_point i _ (fun p => dscore Q K U D L C (headOf l) d p j * (Q d p l * sc))]
  rw [dk_block i 3 H 3#32 rfl, dk_block i 2 H 2#32 rfl, dk_block i 1 H 1#32 rfl, dk_block i 0 H 0#32 rfl]

theorem run_dv_at (j : Fin 1024) (l : Fin 256) :
    (run c i arg2 harg2 arg3 harg3 arg4 harg4 arg5 harg5 arg6 harg6 arg7 harg7 arg8 harg8 arg9 harg9 arg10 harg10 arg11 harg11 x0 x1 x2 x3 x4 x5 x7 x8 (caps (F := Ideal))).1.2.2 (ix3 0 j l)
      = x8 (ix3 0 j l) + ∑ n : Fin 512, prob Q K L (headOf l) d (pq i n) j * D d (pq i n) l := by
  rw [run_dv, ← sum_point i _ (fun p => prob Q K L (headOf l) d p j * D d p l)]
  rw [dv_block i 3 H 3#32 rfl, dv_block i 2 H 2#32 rfl, dv_block i 1 H 1#32 rfl, dv_block i 0 H 0#32 rfl]

end

end Cert.KernelIdeal.Body

end
-- ==== Proof.Loads.lean ====
/- What each point of the grid loads of the arrays that the region finds. -/
module

public import proofs.«01_k».proof.Proof.Dense
public import proofs.«01_k».proof.Proof.Launch
public import Idealize.ShloMosaic.Lib.Pipeline.ValueKit

@[expose] public section

set_option maxRecDepth 16384
set_option maxHeartbeats 2000000

noncomputable section

namespace Cert.KernelIdeal.Body

open Cert.Dense Cert.KernelIdeal.Gen
open Idealize.ShloMosaic Idealize.ShloMosaic.TcCoe Idealize.ShloMosaic.Pipeline

variable (m : (l : Loc nD τ sig) → l.ty.Contents (Elt Ideal)) (c : Dev nD)

/-- The queries, keys, values and output's gradient that the region finds, -/
def aQ (d : Fin 4) (i : Fin 1024) (l : Fin 256) : EReal := (V m c main_arg0 : Vec Ideal S4x1024x256 .bf16) (ix3 d i l)
def aK (d : Fin 4) (i : Fin 1024) (l : Fin 256) : EReal := (V m c main_arg1 : Vec Ideal S4x1024x256 .bf16) (ix3 d i l)
def aU (d : Fin 4) (i : Fin 1024) (l : Fin 256) : EReal := (V m c main_arg2 : Vec Ideal S4x1024x256 .bf16) (ix3 d i l)
def aD (d : Fin 4) (i : Fin 1024) (l : Fin 256) : EReal := (V m c main_arg3 : Vec Ideal S4x1024x256 .bf16) (ix3 d i l)
/-- and its two columns, each head's on the head's first lane. -/
def aL (h d : Fin 4) (i : Fin 1024) : EReal := (V m c main_v85 : Vec Ideal S4x1024x256 .f32) (ix3 d i (lane h 0))
def aC (h d : Fin 4) (i : Fin 1024) : EReal := (V m c main_v89 : Vec Ideal S4x1024x256 .f32) (ix3 d i (lane h 0))

theorem index_rows : ∀ t : Fin grid0.N, win0_0.index t = ![t.val / 2, t.val % 2, 0] ∧ win0_3.index t = ![t.val / 2, t.val % 2, 0]
    ∧ win0_4.index t = ![t.val / 2, t.val % 2, 0] ∧ win0_5.index t = ![t.val / 2, t.val % 2, 0] ∧ win0_6.index t = ![t.val / 2, t.val % 2, 0] := by
  decide +kernel
theorem index_seq : ∀ t : Fin grid0.N, win0_1.index t = ![t.val / 2, 0, 0] ∧ win0_2.index t = ![t.val / 2, 0, 0]
    ∧ win0_7.index t = ![t.val / 2, 0, 0] ∧ win0_8.index t = ![t.val / 2, 0, 0] := by
  decide +kernel
theorem coords_row : ∀ t : Fin grid0.N, ((grid0.coords t) 1).val = t.val % 2 := by
  decide +kernel

/-- The sequence of a point. -/
def seqOf (t : Fin grid0.N) : Fin 4 := ⟨t.val / 2, by
  have : t.val < 8 := t.isLt
  omega⟩

theorem loads (t : Fin cfg0.N) : Loads (grid0.coords t) (aQ m c) (aK m c) (aU m c) (aD m c) (aL m c) (aC m c) (seqOf t)
    (iblk m c 0 t) (iblk m c 1 t) (iblk m c 2 t) (iblk m c 3 t) (iblk m c 4 t) (iblk m c 5 t) := by
  obtain ⟨e0, e3, e4, e5, -⟩ := index_rows t
  obtain ⟨e1, e2, -, -⟩ := index_seq t
  have ec := coords_row t
  constructor
  · intro n l
    unfold aQ pq seqOf
    simp only [ec]
    blk_ext [iblk, e0]
  · intro n l
    unfold aK seqOf
    blk_ext [iblk, e1]
  · intro n l
    unfold aU seqOf
    blk_ext [iblk, e2]
  · intro n l
    unfold aD pq seqOf
    simp only [ec]
    blk_ext [iblk, e3]
  · intro n h
    unfold aL pq seqOf
    simp only [ec]
    blk_ext [iblk, e4]
  · intro n h
    unfold aC pq seqOf
    simp only [ec]
    blk_ext [iblk, e5]

end Cert.KernelIdeal.Body

end
-- ==== Proof.Arrays.lean ====
/- The three gradients' arrays after the run, as the plain sums over the sequences: each query is written by one point, and the two
points of a sequence add up the gradients of its keys and values. -/
module

public import proofs.«01_k».proof.Proof.Loads

@[expose] public section

set_option maxRecDepth 16384
set_option maxHeartbeats 2000000

noncomputable section

namespace Cert.KernelIdeal.Body

open Cert.Dense Cert.KernelIdeal.Gen
open Idealize.ShloMosaic Idealize.ShloMosaic.TcCoe Idealize.ShloMosaic.Pipeline

variable (m : (l : Loc nD τ sig) → Buf (Elt Ideal) l) (c : Dev nD)

theorem zero7 (y) : (k0_pay7 (F := Ideal)) y = 0 := by
  show Ideal.ofBits .f32 0x00000000#32 = 0
  simp [Ideal.ofBits, Ideal.ieee]
theorem zero8 (y) : (k0_pay8 (F := Ideal)) y = 0 := zero7 y

/-- A sequence's sum is its two points' sums. -/
theorem sum_seq (t : Fin cfg0.N) (h : t.val % 2 = 1) (f : Fin 1024 → EReal) :
    (0 + ∑ n : Fin 512, f (pq (grid0.coords ⟨t.val - 1, Nat.lt_of_le_of_lt (Nat.sub_le _ _) t.isLt⟩) n)) + ∑ n : Fin 512, f (pq (grid0.coords t) n)
      = ∑ i : Fin 1024, f i := by
  rw [zero_add]
  have e := Fin.sum_univ_add (M := EReal) (a := 512) (b := 512) f
  rw [e]
  have c0 := coords_row ⟨t.val - 1, Nat.lt_of_le_of_lt (Nat.sub_le _ _) t.isLt⟩
  have c1 := coords_row t
  refine congrArg₂ _ (Finset.sum_congr rfl fun n _ => congrArg f (Fin.ext ?_)) (Finset.sum_congr rfl fun n _ => congrArg f (Fin.ext ?_))
  · show 512 * ((grid0.coords _) 1).val + n.val = n.val
    rw [c0]
    dsimp only
    omega
  · show 512 * ((grid0.coords t) 1).val + n.val = 512 + n.val
    rw [c1]
    omega

theorem after3_even (t : Fin cfg0.N) (h : t.val % 2 = 0) : after3 m c t.val t.isLt = (leaves m c t (k0_pay7 (F := Ideal)) (k0_pay8 (F := Ideal))).1 := by
  obtain ⟨n, hn⟩ := t
  cases n with
  | zero => rfl
  | succ n => show (leaves m c ⟨n + 1, hn⟩ _ _).1 = _; rw [if_pos h, if_pos h]

theorem after3_odd (t : Fin cfg0.N) (h : t.val % 2 = 1) : after3 m c t.val t.isLt
    = (leaves m c t (after3 m c (t.val - 1) (Nat.lt_of_le_of_lt (Nat.sub_le _ _) t.isLt)).2.1
      (after3 m c (t.val - 1) (Nat.lt_of_le_of_lt (Nat.sub_le _ _) t.isLt)).2.2).1 := by
  obtain ⟨n, hn⟩ := t
  have h' : ¬ n % 2 = 0 := by
    change n % 2 = 1 at h
    omega
  cases n with
  | zero => exact absurd rfl h'
  | succ n => show (leaves m c ⟨n + 1, hn⟩ _ _).1 = _; rw [if_neg h', if_neg h']; rfl

theorem after_dq (t : Fin cfg0.N) (n : Fin 512) (l : Fin 256) :
    (after3 m c t.val t.isLt).1 (ix3 0 n l) = dq (aQ m c) (aK m c) (aU m c) (aD m c) (aL m c) (aC m c) (seqOf t) (pq (grid0.coords t) n) l := by
  rcases Nat.mod_two_eq_zero_or_one t.val with h | h
  · rw [after3_even m c t h]
    exact run_dq_at c _ _ _ _ _ _ _ _ _ _ _ _ _ _ _ _ _ _ _ _ _ (loads m c t) _ _ n l
  · rw [after3_odd m c t h]
    exact run_dq_at c _ _ _ _ _ _ _ _ _ _ _ _ _ _ _ _ _ _ _ _ _ (loads m c t) _ _ n l

theorem seq_pred (t : Fin cfg0.N) (h : t.val % 2 = 1) : seqOf ⟨t.val - 1, Nat.lt_of_le_of_lt (Nat.sub_le _ _) t.isLt⟩ = seqOf t :=
  Fin.ext (by show (t.val - 1) / 2 = t.val / 2; omega)

theorem after_dk (t : Fin cfg0.N) (h : t.val % 2 = 1) (j : Fin 1024) (l : Fin 256) :
    (after3 m c t.val t.isLt).2.1 (ix3 0 j l) = dk (aQ m c) (aK m c) (aU m c) (aD m c) (aL m c) (aC m c) (seqOf t) j l := by
  rw [after3_odd m c t h]
  refine (run_dk_at c _ _ _ _ _ _ _ _ _ _ _ _ _ _ _ _ _ _ _ _ _ (loads m c t) _ _ j l).trans ?_
  have e := after3_even m c ⟨t.val - 1, Nat.lt_of_le_of_lt (Nat.sub_le _ _) t.isLt⟩ (by show (t.val - 1) % 2 = 0; omega)
  rw [show after3 m c (t.val - 1) _ = _ from e, run_dk_at c _ _ _ _ _ _ _ _ _ _ _ _ _ _ _ _ _ _ _ _ _ (loads m c _) _ _ j l, zero7, seq_pred t h]
  exact sum_seq t h fun i => dscore (aQ m c) (aK m c) (aU m c) (aD m c) (aL m c) (aC m c) (headOf l) (seqOf t) i j * (aQ m c (seqOf t) i l * sc)

theorem after_dv (t : Fin cfg0.N) (h : t.val % 2 = 1) (j : Fin 1024) (l : Fin 256) :
    (after3 m c t.val t.isLt).2.2 (ix3 0 j l) = dv (aQ m c) (aK m c) (aD m c) (aL m c) (seqOf t) j l := by
  rw [after3_odd m c t h]
  refine (run_dv_at c _ _ _ _ _ _ _ _ _ _ _ _ _ _ _ _ _ _ _ _ _ (loads m c t) _ _ j l).trans ?_
  have e := after3_even m c ⟨t.val - 1, Nat.lt_of_le_of_lt (Nat.sub_le _ _) t.isLt⟩ (by show (t.val - 1) % 2 = 0; omega)
  rw [show after3 m c (t.val - 1) _ = _ from e, run_dv_at c _ _ _ _ _ _ _ _ _ _ _ _ _ _ _ _ _ _ _ _ _ (loads m c _) _ _ j l, zero8, seq_pred t h]
  exact sum_seq t h fun i => prob (aQ m c) (aK m c) (aL m c) (headOf l) (seqOf t) i j * aD m c (seqOf t) i l

/-- A gradient as an array. -/
def asArray (f : Fin 4 → Fin 1024 → Fin 256 → EReal) : Vec Ideal S4x1024x256 .f32 := fun y => f (y 0) (y 1) (y 2)

theorem asArray_at (f : Fin 4 → Fin 1024 → Fin 256 → EReal) (y : S4x1024x256.Idx) {d : Fin 4} {i : Fin 1024} {l : Fin 256}
    (h0 : (y 0).val = d.val) (h1 : (y 1).val = i.val) (h2 : (y 2).val = l.val) : asArray f y = f d i l := by
  show f (y 0) (y 1) (y 2) = f d i l
  rw [show y 0 = d from Fin.ext h0, show y 1 = i from Fin.ext h1, show y 2 = l from Fin.ext h2]

theorem block_ix (s1 : ℕ) (y : (⟨3, ![1, s1, 256]⟩ : Shape).Idx) : ∃ (n : Fin s1) (l : Fin 256), y = ix3 0 n l := by
  refine ⟨y 1, y 2, funext fun a => ?_⟩
  fin_cases a
  · exact Subsingleton.elim (α := Fin 1) _ _
  · rfl
  · rfl

theorem arr_dq : (dats m 0 c).arrAt 6 cfg0.N = asArray (dq (aQ m c) (aK m c) (aU m c) (aD m c) (aL m c) (aC m c)) := by
  refine (dats m 0 c).arrAt_eq_of_covers 6 _ (by decide +kernel) fun t hf y => ?_
  obtain ⟨-, -, -, -, e6⟩ := index_rows t
  have ec := coords_row t
  blk_simp
  rw [after_6]
  obtain ⟨n, l, rfl⟩ := block_ix 512 y
  refine (after_dq m c t n l).trans (asArray_at _ _ ?_ ?_ ?_).symm
  · blk_simp [e6]
    rfl
  · blk_simp [e6]
    show t.val % 2 * 512 + n.val = 512 * _ + n.val
    rw [ec]
    omega
  · blk_simp [e6]

theorem arr_dk : (dats m 0 c).arrAt 7 cfg0.N = asArray (dk (aQ m c) (aK m c) (aU m c) (aD m c) (aL m c) (aC m c)) := by
  refine (dats m 0 c).arrAt_eq_of_covers 7 _ (by decide +kernel) fun t hf y => ?_
  obtain ⟨-, -, e7, -⟩ := index_seq t
  have h := (flush0_7 _).mp hf
  blk_simp
  rw [after_7]
  obtain ⟨j, l, rfl⟩ := block_ix 1024 y
  refine (after_dk m c t h j l).trans (asArray_at _ _ ?_ ?_ ?_).symm
  · blk_simp [e7]
    rfl
  · blk_simp [e7]
  · blk_simp [e7]

theorem arr_dv : (dats m 0 c).arrAt 8 cfg0.N = asArray (dv (aQ m c) (aK m c) (aD m c) (aL m c)) := by
  refine (dats m 0 c).arrAt_eq_of_covers 8 _ (by decide +kernel) fun t hf y => ?_
  obtain ⟨-, -, -, e8⟩ := index_seq t
  have h := (flush0_8 _).mp hf
  blk_simp
  rw [after_8]
  obtain ⟨j, l, rfl⟩ := block_ix 1024 y
  refine (after_dv m c t h j l).trans (asArray_at _ _ ?_ ?_ ?_).symm
  · blk_simp [e8]
    rfl
  · blk_simp [e8]
  · blk_simp [e8]

end Cert.KernelIdeal.Body

end
-- ==== Proof.HostBands.lean ====
/- The kernel's first run of host lines: the scores, the bands and the band's mask are the reference's own values. -/
module

public import proofs.«01_k».proof.Proof.Loads
public import proofs.«01_k».proof.Proof.Gen.ReferenceIdeal.Read
public import Idealize.ShloMosaic.Lib.Pointwise

@[expose] public section

set_option maxRecDepth 16384

noncomputable section

namespace Cert.KernelIdeal.Host

open Cert.Dense Cert.KernelIdeal.Gen Cert.ReferenceIdeal.Read
open Idealize.ShloMosaic Idealize.ShloMosaic.TcCoe Idealize.ShloMosaic.StableHlo

variable (V0 : Valuation τ sig (Elt Ideal))

/-- The buffers after each of the five runs of host lines. -/
def w1 : Valuation τ sig (Elt Ideal) := after hostOps0 V0
def w2 : Valuation τ sig (Elt Ideal) := after hostOps0_1 (w1 V0)
def w3 : Valuation τ sig (Elt Ideal) := after hostOps0_2 (w2 V0)
def w4 : Valuation τ sig (Elt Ideal) := after hostOps0_3 (w3 V0)
def w5 : Valuation τ sig (Elt Ideal) := after hostOps0_4 (w4 V0)

set_option maxHeartbeats 4000000 in
theorem w1_v27 : w1 V0 (no_index (Proc.devRef .tc main_v27))
    = val_main_v31 (F := Ideal) (V0 (Proc.devRef .tc main_arg0)) (V0 (Proc.devRef .tc main_arg1)) := by
  unfold w1
  simp only [hostOps0]
  after_results_simp
  try dsimp only [Matrix.cons_val]
  try after_results_simp
  try dsimp only [Matrix.cons_val]
  try after_results_simp
  rfl

set_option maxHeartbeats 4000000 in
theorem w1_v54 : w1 V0 (no_index (Proc.devRef .tc main_v54)) = val_main_v58 (F := Ideal) := by
  unfold w1
  simp only [hostOps0]
  after_results_simp
  rfl

set_option maxHeartbeats 4000000 in
theorem w1_v24 : w1 V0 (no_index (Proc.devRef .tc main_v24)) = val_main_v28 (F := Ideal) (V0 (Proc.devRef .tc main_arg2)) := by
  unfold w1
  simp only [hostOps0]
  after_results_simp
  try dsimp only [Matrix.cons_val]
  try after_results_simp
  try dsimp only [Matrix.cons_val]
  try after_results_simp
  rfl

set_option maxHeartbeats 4000000 in
theorem w1_v3 : w1 V0 (no_index (Proc.devRef .tc main_v3)) = val_main_v3 (F := Ideal) (V0 (Proc.devRef .tc main_arg3)) := by
  unfold w1
  simp only [hostOps0]
  after_results_simp
  rfl

set_option maxHeartbeats 4000000 in
theorem w1_cst_6 : w1 V0 (no_index (Proc.devRef .tc main_cst_6)) = val_main_cst_10 (F := Ideal) := by
  unfold w1
  simp only [hostOps0]
  after_results_simp
  rfl

set_option maxHeartbeats 4000000 in
theorem w1_arg4 : w1 V0 (no_index (Proc.devRef .tc main_arg4)) = V0 (Proc.devRef .tc main_arg4) := by
  unfold w1
  simp only [hostOps0]
  after_results_simp

end Cert.KernelIdeal.Host
-- ==== Proof.Host.lean ====
/- What the kernel's host lines hand the region: the row statistics and the constant column, as the reference's own values. -/
module

public import proofs.«01_k».proof.Proof.HostBands
public import Idealize.ShloMosaic.Lib.Pointwise

@[expose] public section

set_option maxRecDepth 16384

noncomputable section

namespace Cert.KernelIdeal.Host

open Cert.Dense Cert.KernelIdeal.Gen Cert.ReferenceIdeal.Read
open Idealize.ShloMosaic Idealize.ShloMosaic.TcCoe Idealize.ShloMosaic.StableHlo

variable (V0 : Valuation τ sig (Elt Ideal))

theorem w2_v24 : w2 V0 (no_index (Proc.devRef .tc main_v24)) = val_main_v28 (F := Ideal) (V0 (Proc.devRef .tc main_arg2)) := by
  unfold w2
  simp only [hostOps0_1]
  after_results_simp
  simp only [w1_v24]
theorem w2_v3 : w2 V0 (no_index (Proc.devRef .tc main_v3)) = val_main_v3 (F := Ideal) (V0 (Proc.devRef .tc main_arg3)) := by
  unfold w2
  simp only [hostOps0_1]
  after_results_simp
  simp only [w1_v3]
theorem w2_arg4 : w2 V0 (no_index (Proc.devRef .tc main_arg4)) = V0 (Proc.devRef .tc main_arg4) := by
  unfold w2
  simp only [hostOps0_1]
  after_results_simp
  simp only [w1_arg4]
theorem w2_v55 : w2 V0 (no_index (Proc.devRef .tc main_v55))
    = val_main_v59_0 (F := Ideal) (V0 (Proc.devRef .tc main_arg0)) (V0 (Proc.devRef .tc main_arg1)) := by
  unfold w2
  simp only [hostOps0_1]
  after_results_simp
  simp only [w1_cst_6, w1_v54, w1_v27]
  rfl

theorem w3_v24 : w3 V0 (no_index (Proc.devRef .tc main_v24)) = val_main_v28 (F := Ideal) (V0 (Proc.devRef .tc main_arg2)) := by
  unfold w3
  simp only [hostOps0_2]
  after_results_simp
  simp only [w2_v24]
theorem w3_v3 : w3 V0 (no_index (Proc.devRef .tc main_v3)) = val_main_v3 (F := Ideal) (V0 (Proc.devRef .tc main_arg3)) := by
  unfold w3
  simp only [hostOps0_2]
  after_results_simp
  simp only [w2_v3]
theorem w3_arg4 : w3 V0 (no_index (Proc.devRef .tc main_arg4)) = V0 (Proc.devRef .tc main_arg4) := by
  unfold w3
  simp only [hostOps0_2]
  after_results_simp
  simp only [w2_arg4]
theorem w3_v55 : w3 V0 (no_index (Proc.devRef .tc main_v55))
    = val_main_v59_0 (F := Ideal) (V0 (Proc.devRef .tc main_arg0)) (V0 (Proc.devRef .tc main_arg1)) := by
  unfold w3
  simp only [hostOps0_2]
  after_results_simp
  simp only [w2_v55]
theorem w3_v56 : w3 V0 (no_index (Proc.devRef .tc main_v56))
    = val_main_v60 (F := Ideal) (V0 (Proc.devRef .tc main_arg0)) (V0 (Proc.devRef .tc main_arg1)) := by
  unfold w3
  simp only [hostOps0_2]
  after_results_simp
  simp only [w2_v55]
  rfl
theorem w3_v59 : w3 V0 (no_index (Proc.devRef .tc main_v59))
    = val_main_v63 (F := Ideal) (V0 (Proc.devRef .tc main_arg0)) (V0 (Proc.devRef .tc main_arg1)) := by
  unfold w3
  simp only [hostOps0_2]
  after_results_simp
  simp only [w2_v55]
  rfl
theorem w3_cst_9 : w3 V0 (no_index (Proc.devRef .tc main_cst_9)) = val_main_cst_13 (F := Ideal) := by
  unfold w3
  simp only [hostOps0_2]
  after_results_simp
  rfl

theorem w4_v24 : w4 V0 (no_index (Proc.devRef .tc main_v24)) = val_main_v28 (F := Ideal) (V0 (Proc.devRef .tc main_arg2)) := by
  unfold w4
  simp only [hostOps0_3]
  after_results_simp
  simp only [w3_v24]
theorem w4_v3 : w4 V0 (no_index (Proc.devRef .tc main_v3)) = val_main_v3 (F := Ideal) (V0 (Proc.devRef .tc main_arg3)) := by
  unfold w4
  simp only [hostOps0_3]
  after_results_simp
  simp only [w3_v3]
theorem w4_arg4 : w4 V0 (no_index (Proc.devRef .tc main_arg4)) = V0 (Proc.devRef .tc main_arg4) := by
  unfold w4
  simp only [hostOps0_3]
  after_results_simp
  simp only [w3_arg4]
theorem w4_v55 : w4 V0 (no_index (Proc.devRef .tc main_v55))
    = val_main_v59_0 (F := Ideal) (V0 (Proc.devRef .tc main_arg0)) (V0 (Proc.devRef .tc main_arg1)) := by
  unfold w4
  simp only [hostOps0_3]
  after_results_simp
  simp only [w3_v55]
theorem w4_v60 : w4 V0 (no_index (Proc.devRef .tc main_v60))
    = val_main_v64 (F := Ideal) (V0 (Proc.devRef .tc main_arg0)) (V0 (Proc.devRef .tc main_arg1)) := by
  unfold w4
  simp only [hostOps0_3]
  after_results_simp
  simp only [w3_v56, w3_v59, w3_cst_9]
  unfold val_main_v64 val_main_call1_v1 val_main_call1_v0
  simp -implicitDefEqProofs only [TRef.toBuf, TRef.ofBuf, cast_eq]

/-- The output's gradient times the output, each head's summed over its lanes. -/
def summed (o : Vec Ideal S4x1024x256 .f32) : Vec Ideal S4x4x1024 .f32 :=
  Host.reduceAdd (F := Ideal) (transpose S4x4x1024x64 [2, 0, 1, 3] (shapeCast S4x1024x4x64 o shapeCasts_S4x1024x256_S4x1024x4x64) transposes_S4x1024x4x64_S4x4x1024x64_2_0_1_3)
    (constant S_ .f32 0x00000000#32) reducesTo_S4x4x1024x64_S4x4x1024_d3 h_S_

/-- A head's column spread over the head's lanes. -/
def spread (y : Vec Ideal S4x4x1024 .f32) : Vec Ideal S4x1024x256 .f32 :=
  shapeCast S4x1024x256 (transpose S4x1024x4x64 [1, 2, 0, 3] (broadcastInDim S4x4x1024x64 ![0, 1, 2, 3] bcast_S4x4x1024x1_S4x4x1024x64_0_1_2_3
    (broadcastInDim S4x4x1024x1 ![0, 1, 2] bcast_S4x4x1024_S4x4x1024x1_0_1_2 y)) transposes_S4x4x1024x64_S4x1024x4x64_1_2_0_3) shapeCasts_S4x1024x4x64_S4x1024x256

set_option maxHeartbeats 4000000 in
theorem w5_v85 : w5 V0 (no_index (Proc.devRef .tc main_v85))
    = spread (val_main_v78 (F := Ideal) (V0 (Proc.devRef .tc main_arg0)) (V0 (Proc.devRef .tc main_arg1))) := by
  unfold w5
  simp only [hostOps0_4]
  after_results_simp
  simp only [w4_v60, w4_v55]
  rfl

set_option maxHeartbeats 4000000 in
theorem w5_v89 : w5 V0 (no_index (Proc.devRef .tc main_v89))
    = spread (subf (F := Ideal) (φ := .f32) (V0 (Proc.devRef .tc main_arg4)) (summed (mulf (F := Ideal) (φ := .f32) (val_main_v3 (F := Ideal) (V0 (Proc.devRef .tc main_arg3)))
        (val_main_v80 (F := Ideal) (V0 (Proc.devRef .tc main_arg0)) (V0 (Proc.devRef .tc main_arg1)) (V0 (Proc.devRef .tc main_arg2)))))) := by
  unfold w5
  simp only [hostOps0_4]
  after_results_simp
  simp only [w4_v60, w4_v55, w4_v24, w4_v3, w4_arg4]
  rfl

/-- A spread column at the first lane of a head. -/
theorem spread_at (y : Vec Ideal S4x4x1024 .f32) (h d : Fin 4) (i : Fin 1024) :
    spread y (ix3 d i (Cert.KernelIdeal.Body.lane h 0)) = y (ix3 h d i) := by
  unfold spread
  pointwise
  exact congrArg (fun a => y (ix3 a d i)) (Fin.ext (by simp [Cert.KernelIdeal.Body.lane]))

theorem summed_at (o : Vec Ideal S4x1024x256 .f32) (h d : Fin 4) (i : Fin 1024) :
    summed o (ix3 h d i) = ∑ e : Fin 64, o (ix3 d i (Cert.KernelIdeal.Body.lane h e)) := by
  unfold summed
  pointwise
  exact Finset.sum_congr rfl fun e _ => congrArg (fun a => o (ix3 d i a)) (Fin.ext (by simp [Cert.KernelIdeal.Body.lane]; omega))

end Cert.KernelIdeal.Host
-- ==== Proof.Bands.lean ====
/- The reference's blocks and bands at an index: block `n` of the queries is the places `64 n … 64 n + 63`, and its band of keys
is the places from `64 n - 64` on, zero outside the sequence. -/
module

public import proofs.«01_k».proof.Proof.Dense
public import proofs.«01_k».proof.Proof.Gen.ReferenceIdeal.Read
public import Idealize.ShloMosaic.Lib.Pointwise

@[expose] public section

set_option maxRecDepth 16384
set_option maxHeartbeats 2000000

noncomputable section

namespace Cert.ReferenceIdeal.Band

open Cert.ReferenceIdeal Cert.ReferenceIdeal.Gen Cert.ReferenceIdeal.Read
open Cert.KernelIdeal.Body (lane sc near)
open Idealize.ShloMosaic Idealize.ShloMosaic.TcCoe

/-- Place `64 n + r` of a sequence. -/
def place (n : Fin 16) (r : Fin 64) : Fin 1024 := ⟨64 * n.val + r.val, by omega⟩

/-- Key `c` of the band of block `n`: place `64 n + c - 64` of the sequence, or zero outside it. -/
def banded (f : Fin 1024 → EReal) (n : Fin 16) (c : Fin 192) : EReal :=
  if h : 64 ≤ 64 * n.val + c.val ∧ 64 * n.val + c.val < 1088 then f ⟨64 * n.val + c.val - 64, by omega⟩ else 0

variable (x0 x1 x2 x3 : Vec Ideal S4x1024x256 .bf16)

theorem q_at (h d : Fin 4) (n : Fin 16) (r e : Fin 64) :
    val_main_v10 (F := Ideal) x0 (ix5 h d n r e) = x0 (ix3 d (place n r) (lane h e)) := by
  unfold val_main_v10 val_main_v5 val_main_v4 val_main_v0
  pointwise
  exact congrArg x0 (congrArg₂ (ix3 d) (Fin.ext (by simp [place]; omega)) (Fin.ext (by simp [lane]; omega)))

theorem do_at (h d : Fin 4) (n : Fin 16) (r e : Fin 64) :
    val_main_v84 (F := Ideal) x3 (ix5 h d n r e) = x3 (ix3 d (place n r) (lane h e)) := q_at x3 h d n r e

/-- A band of three shifted blocks is the padded sequence read from the block's first key on. -/
theorem band_cases (f : Fin 1024 → EReal) (n : Fin 16) (c : Fin 192) (z : EReal)
    (h0 : ∀ p (hp : p < 1024), p + 64 = 64 * n.val + c.val → z = f ⟨p, hp⟩)
    (h1 : 64 * n.val + c.val < 64 ∨ 1088 ≤ 64 * n.val + c.val → z = 0) : z = banded f n c := by
  unfold banded
  split
  · exact h0 _ _ (by omega)
  · exact h1 (by omega)

theorem k_at (h d : Fin 4) (n : Fin 16) (c : Fin 192) (e : Fin 64) :
    val_main_v19 (F := Ideal) x1 (ix5 h d n c e) = banded (fun j => x1 (ix3 d j (lane h e))) n c := by
  unfold val_main_v19 val_main_v16 val_main_v17 val_main_v18 val_main_v15 val_main_v12 val_main_v7 val_main_v6 val_main_v1 val_main_v11 val_main_cst
  pointwise
  have hc := c.isLt
  have hn := n.isLt
  apply band_cases
  · intro p hp e1
    split_ifs
    all_goals first
      | omega
      | exact congrArg x1 (congrArg₂ (ix3 d) (Fin.ext (by simp; omega)) (Fin.ext (by simp [lane]; omega)))
  · intro e1
    split_ifs
    all_goals first
      | rfl
      | omega

theorem v_at (h d : Fin 4) (n : Fin 16) (c : Fin 192) (e : Fin 64) :
    val_main_v28 (F := Ideal) x2 (ix5 h d n c e) = banded (fun j => x2 (ix3 d j (lane h e))) n c := k_at x2 h d n c e

theorem diff_word (n : Fin 16) (r : Fin 64) (c : Fin 192) :
    IntOp.subi (BitVec.ofNat 32 (n.val * 64 + r.val))
      (IntOp.addi (IntOp.subi (IntOp.muli (BitVec.ofNat 32 n.val) 64#32) 64#32) (BitVec.ofNat 32 c.val))
      = IntOp.subi (BitVec.ofNat 32 (r.val + 64)) (BitVec.ofNat 32 c.val) := by
  unfold IntOp.subi IntOp.addi IntOp.muli
  apply BitVec.eq_of_toNat_eq
  simp only [BitVec.toNat_sub, BitVec.toNat_add, BitVec.toNat_mul, BitVec.toNat_ofNat]
  omega

theorem range_word : ∀ (n : Fin 16) (c : Fin 192),
    IntOp.andi (IntOp.cmpi .sge (IntOp.addi (IntOp.subi (IntOp.muli (BitVec.ofNat 32 n.val) 64#32) 64#32) (BitVec.ofNat 32 c.val)) 0#32)
      (IntOp.cmpi .slt (IntOp.addi (IntOp.subi (IntOp.muli (BitVec.ofNat 32 n.val) 64#32) 64#32) (BitVec.ofNat 32 c.val)) 1024#32)
      = if 64 ≤ 64 * n.val + c.val ∧ 64 * n.val + c.val < 1088 then 1#1 else 0#1 := by
  decide +kernel

theorem near_word : ∀ (r : Fin 64) (c : Fin 192),
    IntOp.cmpi .sle (IntOp.absi (IntOp.subi (BitVec.ofNat 32 (r.val + 64)) (BitVec.ofNat 32 c.val))) 64#32
      = if r.val ≤ c.val ∧ c.val ≤ r.val + 128 then 1#1 else 0#1 := by
  decide +kernel

/-- Whether place `r` of block `n` attends key `c` of the block's band. -/
def valid (n : Fin 16) (r : Fin 64) (c : Fin 192) : Prop :=
  (64 ≤ 64 * n.val + c.val ∧ 64 * n.val + c.val < 1088) ∧ r.val ≤ c.val ∧ c.val ≤ r.val + 128

instance (n : Fin 16) (r : Fin 64) (c : Fin 192) : Decidable (valid n r c) := by unfold valid; infer_instance

theorem valid_at (n : Fin 16) (r : Fin 64) (c : Fin 192) :
    val_main_v58 (F := Ideal) (ix3 n r c) = if valid n r c then 1#1 else 0#1 := by
  unfold val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_c val_main_c_6 val_main_c_7 val_main_c_8 val_main_c_9
  pointwise
  rw [diff_word, range_word, near_word]
  by_cases h1 : 64 ≤ 64 * n.val + c.val ∧ 64 * n.val + c.val < 1088 <;> by_cases h2 : r.val ≤ c.val ∧ c.val ≤ r.val + 128
  · rw [if_pos h1, if_pos h2, if_pos (show valid n r c from ⟨h1, h2⟩)]; rfl
  · rw [if_pos h1, if_neg h2, if_neg (fun h : valid n r c => h2 h.2)]; rfl
  · rw [if_neg h1, if_pos h2, if_neg (fun h : valid n r c => h1 h.1)]; rfl
  · rw [if_neg h1, if_neg h2, if_neg (fun h : valid n r c => h1 h.1)]; rfl

end Cert.ReferenceIdeal.Band
-- ==== Proof.BandSum.lean ====
/- Sums over the bands: a function of the places that vanishes farther than 64 places from one block's row is summed by the block's
band, and by the three blocks around a place. -/
module

public import proofs.«01_k».proof.Proof.Bands

@[expose] public section

noncomputable section

namespace Cert.ReferenceIdeal.Band

open Cert.KernelIdeal.Body (lane sc near)
open Idealize.ShloMosaic

/-- A sum over the places, block by block. -/
theorem sum_places (f : Fin 1024 → EReal) : ∑ i, f i = ∑ n : Fin 16, ∑ r : Fin 64, f (place n r) := by
  rw [← (finProdFinEquiv (m := 16) (n := 64)).sum_comp, Fintype.sum_prod_type]
  exact Finset.sum_congr rfl fun n _ => Finset.sum_congr rfl fun r _ => congrArg f (Fin.ext (by simp [place, finProdFinEquiv]; omega))

/-- A sum over the blocks of what vanishes off the neighbours of block `b`. -/
theorem sum_blocks (b : Fin 16) (g : Fin 16 → EReal) (hg : ∀ n, n.val + 1 < b.val ∨ b.val + 1 < n.val → g n = 0) :
    ∑ n, g n = (if h : 1 ≤ b.val then g ⟨b.val - 1, by omega⟩ else 0) + g b + (if h : b.val + 1 < 16 then g ⟨b.val + 1, h⟩ else 0) := by
  have e : ∀ n, g n = (if n.val + 1 = b.val then g n else 0) + (if n = b then g n else 0) + (if n.val = b.val + 1 then g n else 0) := fun n => by
    rcases lt_trichotomy n.val b.val with h | h | h
    · by_cases h1 : n.val + 1 = b.val
      · rw [if_pos h1, if_neg (fun e => by subst e; omega), if_neg (by omega), add_zero, add_zero]
      · rw [if_neg h1, if_neg (fun e => by subst e; omega), if_neg (by omega), add_zero, add_zero]
        exact hg n (by omega)
    · rw [if_neg (by omega), if_pos (Fin.ext h), if_neg (by omega), zero_add, add_zero]
    · by_cases h1 : n.val = b.val + 1
      · rw [if_neg (by omega), if_neg (fun e => by subst e; omega), if_pos h1, zero_add, zero_add]
      · rw [if_neg (by omega), if_neg (fun e => by subst e; omega), if_neg h1, add_zero, add_zero]
        exact hg n (by omega)
  rw [Finset.sum_congr rfl fun n _ => e n, Finset.sum_add_distrib, Finset.sum_add_distrib, Finset.sum_ite_eq' Finset.univ b g, if_pos (Finset.mem_univ b)]
  congr 1
  · congr 1
    split
    · rename_i h
      rw [Finset.sum_eq_single (⟨b.val - 1, by omega⟩ : Fin 16) (fun n _ hn => if_neg fun h2 => hn (Fin.ext (by show n.val = b.val - 1; omega)))
        (fun h2 => absurd (Finset.mem_univ _) h2)]
      exact if_pos (by show b.val - 1 + 1 = b.val; omega)
    · exact Finset.sum_eq_zero fun n _ => if_neg (by omega)
  · split
    · rename_i h
      rw [Finset.sum_eq_single (⟨b.val + 1, h⟩ : Fin 16) (fun n _ hn => if_neg fun h2 => hn (Fin.ext h2))
        (fun h2 => absurd (Finset.mem_univ _) h2)]
      exact if_pos rfl
    · exact Finset.sum_eq_zero fun n _ => if_neg (by have := n.isLt; omega)

/-- A band's key of place `j`. -/
theorem banded_of (f : Fin 1024 → EReal) (n : Fin 16) (c : Fin 192) (m : Fin 16) (r : Fin 64)
    (h : 64 * m.val + r.val + 64 = 64 * n.val + c.val) : banded f n c = f (place m r) := by
  have := m.isLt
  have := r.isLt
  unfold banded
  rw [dif_pos (by omega)]
  exact congrArg f (Fin.ext (by show 64 * n.val + c.val - 64 = 64 * m.val + r.val; omega))

theorem banded_out (f : Fin 1024 → EReal) (n : Fin 16) (c : Fin 192) (h : 64 * n.val + c.val < 64 ∨ 1088 ≤ 64 * n.val + c.val) :
    banded f n c = 0 := dif_neg (by omega)

/-- A sum over a block's band of what vanishes off the neighbours of the block. -/
theorem sum_band (n : Fin 16) (f : Fin 1024 → EReal)
    (hf : ∀ m r, m.val + 1 < n.val ∨ n.val + 1 < m.val → f (place m r) = 0) :
    ∑ c, banded f n c = ∑ j, f j := by
  rw [sum_places, sum_blocks n (fun m => ∑ r, f (place m r)) (fun m hm => Finset.sum_eq_zero fun r _ => hf m r hm)]
  rw [Fin.sum_univ_add (a := 128) (b := 64), Fin.sum_univ_add (a := 64) (b := 64)]
  congr 1
  · congr 1
    · split
      · rename_i h
        exact Finset.sum_congr rfl fun r _ => banded_of f n _ _ r (by simp [Fin.castAdd, Fin.castLE]; omega)
      · exact Finset.sum_eq_zero fun r _ => banded_out f n _ (Or.inl (by simp [Fin.castAdd, Fin.castLE]; omega))
    · exact Finset.sum_congr rfl fun r _ => banded_of f n _ n r (by simp [Fin.castAdd, Fin.castLE, Fin.natAdd]; omega)
  · split
    · rename_i h
      exact Finset.sum_congr rfl fun r _ => banded_of f n _ _ r (by simp [Fin.natAdd]; omega)
    · exact Finset.sum_eq_zero fun r _ => banded_out f n _ (Or.inr (by simp [Fin.natAdd]; omega))

/-- What vanishes away from place `64 n + r` vanishes off the neighbours of block `n`. -/
theorem far_blocks (n m : Fin 16) (r ρ : Fin 64) (h : m.val + 1 < n.val ∨ n.val + 1 < m.val) :
    ¬ near (place n r).val (place m ρ).val := by
  unfold near place
  simp only
  omega

end Cert.ReferenceIdeal.Band
-- ==== Proof.Row.lean ====
/- One row of the softmax over the extended reals. Its largest score may be infinite: then the row's probabilities all vanish, and
so does the quotient that the reference multiplies them from. -/
module

public import Idealize.ShloMosaic.Lib.Pointwise

@[expose] public section

noncomputable section

namespace Cert.Row

open Idealize.ShloMosaic

/-- The sum of reals is the real sum. -/
theorem coe_sum {ι : Type} [Fintype ι] (w : ι → ℝ) : ((∑ k, w k : ℝ) : EReal) = ∑ k, (w k : EReal) :=
  map_sum (⟨⟨Real.toEReal, EReal.coe_zero⟩, EReal.coe_add⟩ : ℝ →+ EReal) w Finset.univ

/-- The row sum that the reference subtracts, through the probabilities' gradient, is the one the kernel subtracts, through the
output: for real probabilities `p`, values `v` and output's gradient `g`. -/
theorem corr {ι κ : Type} [Fintype ι] [Fintype κ] (p : ι → ℝ) (v : ι → κ → ℝ) (g : κ → ℝ) :
    ∑ k, -((∑ e, (g e : EReal) * (v k e : EReal)) * (p k : EReal)) = -∑ e, (g e : EReal) * ∑ k, (p k : EReal) * (v k e : EReal) := by
  have h1 : ∀ k, -((∑ e, (g e : EReal) * (v k e : EReal)) * (p k : EReal)) = ((-((∑ e, g e * v k e) * p k) : ℝ) : EReal) := fun k => by
    rw [EReal.coe_neg, EReal.coe_mul, coe_sum]
    simp only [EReal.coe_mul]
  have h2 : ∀ e, (g e : EReal) * ∑ k, (p k : EReal) * (v k e : EReal) = ((g e * ∑ k, p k * v k e : ℝ) : EReal) := fun e => by
    rw [EReal.coe_mul, coe_sum]
    simp only [EReal.coe_mul]
  rw [Finset.sum_congr rfl fun k _ => h1 k, Finset.sum_congr rfl fun e _ => h2 e, ← coe_sum, ← coe_sum, ← EReal.coe_neg]
  congr 1
  rw [Finset.sum_neg_distrib]
  congr 1
  simp only [Finset.sum_mul, Finset.mul_sum]
  rw [Finset.sum_comm]
  exact Finset.sum_congr rfl fun e _ => Finset.sum_congr rfl fun k _ => by ring

variable (s : Fin 192 → EReal)

/-- The largest score, -/
def peak : EReal := Finset.univ.fold max ⊥ s
/-- the shift of the exponentials: the largest score where it is finite, -/
def shift : EReal := if max (peak s) (-peak s) < ⊤ then peak s else 0
/-- the shifted exponentials, -/
def expo (k : Fin 192) : EReal := Ideal.exp (s k - shift s)
/-- their sum, -/
def mass : EReal := ∑ k, expo s k
/-- the logarithm of the scores' exponentials' sum, -/
def lse : EReal := Ideal.log (mass s) + shift s
/-- and the probabilities. -/
def prob (k : Fin 192) : EReal := Ideal.exp (s k - lse s)

theorem le_peak (k : Fin 192) : s k ≤ peak s :=
  (Finset.le_fold_max (s k)).mpr (Or.inr ⟨k, Finset.mem_univ _, le_rfl⟩)

theorem peak_mem : peak s = ⊥ ∨ ∃ k, s k = peak s := by
  rcases (Finset.le_fold_max (s := Finset.univ) (f := s) (b := ⊥) (peak s)).mp le_rfl with h | ⟨k, -, h⟩
  · exact Or.inl (le_bot_iff.mp h)
  · exact Or.inr ⟨k, le_antisymm (le_peak s k) h⟩

theorem expo_nonneg (k : Fin 192) : 0 ≤ expo s k := by
  unfold expo
  induction s k - shift s with
  | bot => simp
  | top => simp
  | coe x => simpa using EReal.coe_nonneg.mpr (Real.exp_nonneg x)

/-- A row whose scores are all the bottom. -/
theorem of_bot (hp : peak s = ⊥) (k : Fin 192) : expo s k = 0 ∧ prob s k = 0 := by
  have hs : ∀ j, s j = ⊥ := fun j => le_bot_iff.mp (hp ▸ le_peak s j)
  have hsh : shift s = 0 := by unfold shift; rw [hp]; simp
  have he : ∀ j, expo s j = 0 := fun j => by unfold expo; rw [hs j, hsh]; simp
  have hm : mass s = 0 := by unfold mass; simp [he]
  have hl : lse s = ⊥ := by
    unfold lse
    rw [hm, hsh, add_zero]
    show Ideal.log ((0 : ℝ) : EReal) = ⊥
    exact if_pos le_rfl
  exact ⟨he k, by unfold prob; rw [hs k, hl]; simp⟩

/-- A row whose largest score is infinite. -/
theorem of_top (hp : peak s = ⊤) (k : Fin 192) : mass s = ⊤ ∧ prob s k = 0 := by
  obtain ⟨k0, hk0⟩ := (peak_mem s).resolve_left (by rw [hp]; simp)
  have hsh : shift s = 0 := by unfold shift; rw [hp]; simp
  have h0 : expo s k0 = ⊤ := by unfold expo; rw [hk0, hp, hsh]; simp
  have hm : mass s = ⊤ := top_le_iff.mp (h0 ▸ Finset.single_le_sum (fun j _ => expo_nonneg s j) (Finset.mem_univ k0))
  have hl : lse s = ⊤ := by unfold lse; rw [hm, hsh, add_zero]; rfl
  refine ⟨hm, ?_⟩
  unfold prob
  rw [hl]
  induction s k <;> simp

/-- A row whose largest score is the real `m`. -/
theorem of_real (m : ℝ) (hp : peak s = m) : ∃ w : Fin 192 → ℝ, (∀ k, 0 ≤ w k) ∧ 0 < ∑ k, w k ∧ (∀ k, expo s k = w k)
    ∧ ∀ k, prob s k = ((w k / ∑ j, w j : ℝ) : EReal) := by
  have hsh : shift s = m := by
    unfold shift
    rw [hp, if_pos]
    exact max_lt (EReal.coe_lt_top m) (by rw [← EReal.coe_neg]; exact EReal.coe_lt_top _)
  let w : Fin 192 → ℝ := fun k => (expo s k).toReal
  have hcase : ∀ k, (s k = ⊥) ∨ ∃ x : ℝ, s k = x := fun k => by
    have := le_peak s k
    rw [hp] at this
    rcases hx : s k with _ | _ | x
    · exact Or.inl rfl
    · rw [hx] at this; exact absurd (top_le_iff.mp this) (EReal.coe_ne_top m)
    · exact Or.inr ⟨x, rfl⟩
  have hw : ∀ k, expo s k = w k := fun k => by
    show expo s k = (((expo s k).toReal : ℝ) : EReal)
    unfold expo
    rw [hsh]
    rcases hcase k with h | ⟨x, h⟩
    · rw [h]; simp
    · rw [h, ← EReal.coe_sub, Ideal.exp_coe]; rfl
  have h0 : ∀ k, 0 ≤ w k := fun k => EReal.toReal_nonneg (expo_nonneg s k)
  obtain ⟨k0, hk0⟩ := (peak_mem s).resolve_left (by rw [hp]; simp)
  have hk1 : w k0 = 1 := by
    have := hw k0
    unfold expo at this
    rw [hk0, hp, hsh, ← EReal.coe_sub, sub_self, Ideal.exp_coe, Real.exp_zero] at this
    exact (EReal.coe_injective this).symm
  have hW : 0 < ∑ k, w k := lt_of_lt_of_le (by rw [hk1]; norm_num : (0 : ℝ) < w k0) (Finset.single_le_sum (fun j _ => h0 j) (Finset.mem_univ k0))
  have hm : mass s = ((∑ k, w k : ℝ) : EReal) := by
    unfold mass
    rw [Finset.sum_congr rfl fun k _ => hw k]
    exact (coe_sum _).symm
  have hl : lse s = ((Real.log (∑ k, w k) + m : ℝ) : EReal) := by
    unfold lse
    rw [hm, hsh, EReal.coe_add]
    congr 1
    show (if (∑ k, w k) ≤ 0 then (⊥ : EReal) else (Real.log (∑ k, w k) : EReal)) = _
    rw [if_neg (not_le.mpr hW)]
  refine ⟨w, h0, hW, hw, fun k => ?_⟩
  have hwk := hw k
  unfold expo at hwk
  rw [hsh] at hwk
  unfold prob
  rw [hl]
  rcases hcase k with h | ⟨x, h⟩
  · rw [h] at hwk ⊢
    have : w k = 0 := by
      have h2 : ((0 : ℝ) : EReal) = (w k : EReal) := by simpa using hwk
      exact (EReal.coe_injective h2).symm
    rw [this]; simp
  · rw [h] at hwk ⊢
    rw [← EReal.coe_sub, Ideal.exp_coe] at hwk ⊢
    rw [← EReal.coe_injective hwk]
    congr 1
    rw [sub_add_eq_sub_sub_swap, Real.exp_sub, Real.exp_log hW]

/-- A probability is a real that is not negative, -/
theorem prob_real (k : Fin 192) : ∃ p : ℝ, 0 ≤ p ∧ prob s k = p := by
  induction hp : peak s with
  | bot => exact ⟨0, le_rfl, (of_bot s hp k).2⟩
  | top => exact ⟨0, le_rfl, (of_top s hp k).2⟩
  | coe m =>
    obtain ⟨w, h0, hW, -, h⟩ := of_real s m hp
    exact ⟨_, div_nonneg (h0 k) hW.le, h k⟩

/-- and the quotient by the sum, times the shifted exponential, is the probability times the numerator. -/
theorem div_mass (c : EReal) (k : Fin 192) : Ideal.div c (mass s) * expo s k = prob s k * c := by
  induction hp : peak s with
  | bot => rw [(of_bot s hp k).1, (of_bot s hp k).2, mul_zero, zero_mul]
  | top =>
    rw [(of_top s hp k).1, (of_top s hp k).2, zero_mul]
    unfold Ideal.div
    rw [if_neg (by simp), EReal.inv_top, mul_zero, zero_mul]
  | coe m =>
    obtain ⟨w, h0, hW, he, h⟩ := of_real s m hp
    have hm : mass s = ((∑ k, w k : ℝ) : EReal) := by
      unfold mass
      rw [Finset.sum_congr rfl fun k _ => he k]
      exact (coe_sum _).symm
    rw [hm, he k, h k]
    unfold Ideal.div
    rw [if_neg (by rw [← EReal.coe_zero]; exact fun hz => hW.ne' (EReal.coe_injective hz)), ← EReal.coe_inv, mul_assoc, ← EReal.coe_mul, mul_comm]
    congr 2
    rw [div_eq_inv_mul]

end Cert.Row
-- ==== Proof.Softmax.lean ====
/- The reference's softmax rows: the row of scores of place `64 n + r` of a head, its statistics and its probabilities. -/
module

public import proofs.«01_k».proof.Proof.BandSum
public import proofs.«01_k».proof.Proof.Row
public import proofs.«01_k».proof.Proof.Dense
public import Idealize.ShloMosaic.Lib.Pointwise

@[expose] public section

set_option maxRecDepth 16384
set_option maxHeartbeats 2000000

noncomputable section

namespace Cert.ReferenceIdeal.Band

open Cert.ReferenceIdeal Cert.ReferenceIdeal.Gen Cert.ReferenceIdeal.Read
open Cert.KernelIdeal.Body (lane sc near)
open Idealize.ShloMosaic Idealize.ShloMosaic.TcCoe

theorem sc_eq : sc = ((1 / 8 : ℝ) : EReal) := by
  simp only [Ideal.ofBits, Ideal.ieee]
  simp
  rw [← EReal.coe_mul]
  norm_num

theorem sum_mul_sc {ι : Type} [Fintype ι] (f : ι → EReal) : (∑ k, f k) * sc = ∑ k, f k * sc := by
  classical
  have : ∀ s : Finset ι, (∑ k ∈ s, f k) * sc = ∑ k ∈ s, f k * sc := fun s => by
    induction s using Finset.induction_on with
    | empty => simp
    | insert a s ha ih =>
      rw [Finset.sum_insert ha, Finset.sum_insert ha, ← ih]
      exact EReal.right_distrib_of_nonneg_of_ne_top (by rw [sc_eq]; exact EReal.coe_nonneg.mpr (by norm_num)) (by rw [sc_eq]; exact EReal.coe_ne_top _) _ _
  exact this Finset.univ

variable (x0 x1 x2 x3 : Vec Ideal S4x1024x256 .bf16)

/-- The scores of place `r` of block `n` against the block's band. -/
def scores (h d : Fin 4) (n : Fin 16) (r : Fin 64) (c : Fin 192) : EReal := val_main_v59_0 (F := Ideal) x0 x1 (ix5 h d n r c)

theorem scores_eq (h d : Fin 4) (n : Fin 16) (r : Fin 64) (c : Fin 192) : scores x0 x1 h d n r c
    = if valid n r c then (∑ e, x0 (ix3 d (place n r) (lane h e)) * banded (fun j => x1 (ix3 d j (lane h e))) n c) * sc else ⊥ := by
  unfold scores val_main_v59_0 val_main_v59_1 val_main_v31 val_main_v30 val_main_cst_5 val_main_call0_v2 val_main_call0_v0 val_main_v29 val_main_cst_10
  pointwise
  rw [valid_at, Finset.sum_congr rfl fun e _ => congrArg₂ (· * ·) (q_at x0 h d n r e) (k_at x1 h d n c e)]
  split
  · rfl
  · show Ideal.ofBits .f32 0xFF800000#32 = ⊥
    simp [Ideal.ofBits, Ideal.ieee]

theorem peak_at (h d : Fin 4) (n : Fin 16) (r : Fin 64) :
    val_main_v60 (F := Ideal) x0 x1 (ix4 h d n r) = Row.peak (scores x0 x1 h d n r) := by
  unfold val_main_v60 val_main_cst_11
  pointwise
  have e1 : Ideal.ofBits .f32 4286578688#32 = ⊥ := by simp [Ideal.ofBits, Ideal.ieee]
  rw [e1]
  rfl

theorem shift_at (h d : Fin 4) (n : Fin 16) (r : Fin 64) :
    val_main_v64 (F := Ideal) x0 x1 (ix4 h d n r) = Row.shift (scores x0 x1 h d n r) := by
  rw [val_main_v64_apply, val_main_v63_apply, val_main_v61_apply, val_main_v62_apply, val_main_cst_12_apply, val_main_call1_v1_apply,
    val_main_call1_v0_apply, val_main_cst_13_apply, peak_at]
  unfold Row.shift
  generalize Row.peak (scores x0 x1 h d n r) = p
  have e2 : FloatOps.ofBits (F := Ideal) .f32 0x7F800000#32 = (⊤ : EReal) := by
    show Ideal.ofBits .f32 0x7F800000#32 = ⊤
    simp [Ideal.ofBits, Ideal.ieee]
  have e3 : FloatOps.ofBits (F := Ideal) .f32 0x00000000#32 = (0 : EReal) := Ideal.ofBits_zero_f32
  rw [e2, e3]
  show Scalar.select (Ideal.cmp .olt (max p (-p)) ⊤) p 0 = _
  unfold Ideal.cmp Scalar.select
  by_cases h : max p (-p) < ⊤ <;> simp [h]

theorem expo_at (h d : Fin 4) (n : Fin 16) (r : Fin 64) (c : Fin 192) :
    val_main_v68 (F := Ideal) x0 x1 (ix5 h d n r c) = Row.expo (scores x0 x1 h d n r) c := by
  unfold val_main_v68 val_main_v67 val_main_v66 val_main_v65
  pointwise
  rw [shift_at]
  rfl

theorem mass_at (h d : Fin 4) (n : Fin 16) (r : Fin 64) :
    val_main_v69 (F := Ideal) x0 x1 (ix4 h d n r) = Row.mass (scores x0 x1 h d n r) := by
  unfold val_main_v69 val_main_cst_14
  pointwise
  exact Finset.sum_congr rfl fun c _ => expo_at x0 x1 h d n r c

theorem lse_at (h d : Fin 4) (n : Fin 16) (r : Fin 64) :
    val_main_v71 (F := Ideal) x0 x1 (ix4 h d n r) = Row.lse (scores x0 x1 h d n r) := by
  unfold val_main_v71 val_main_v70
  pointwise
  rw [mass_at, shift_at]
  rfl

/-- The logarithm of the row sum of a place. -/
def logsum (h d : Fin 4) (i : Fin 1024) : EReal := val_main_v78 (F := Ideal) x0 x1 (ix3 h d i)

theorem logsum_at (h d : Fin 4) (n : Fin 16) (r : Fin 64) :
    logsum x0 x1 h d (place n r) = Row.lse (scores x0 x1 h d n r) := by
  rw [← lse_at]
  unfold logsum val_main_v78
  pointwise
  exact congrArg₂ (fun a b => val_main_v71 (F := Ideal) x0 x1 (ix4 h d a b)) (Fin.ext (by simp [place]; omega)) (Fin.ext (by simp [place]))

theorem prob_at (h d : Fin 4) (n : Fin 16) (r : Fin 64) (c : Fin 192) :
    val_main_v75 (F := Ideal) x0 x1 (ix5 h d n r c) = Row.prob (scores x0 x1 h d n r) c := by
  unfold val_main_v75 val_main_v74 val_main_v73 val_main_v72
  pointwise
  rw [lse_at]
  rfl

/-- An array at its three coordinates. -/
def at3 (x : Vec Ideal S4x1024x256 .bf16) (d : Fin 4) (i : Fin 1024) (l : Fin 256) : EReal := x (ix3 d i l)

theorem near_iff (n : Fin 16) (r : Fin 64) (c : Fin 192) (h : 64 ≤ 64 * n.val + c.val ∧ 64 * n.val + c.val < 1088) :
    near (place n r).val (64 * n.val + c.val - 64) ↔ valid n r c := by
  unfold near valid place
  simp only
  omega

/-- What vanishes away from a place is, over the place's band, zero where the place does not attend. -/
theorem banded_invalid (f : Fin 1024 → EReal) (n : Fin 16) (r : Fin 64) (c : Fin 192) (hf : ∀ j : Fin 1024, ¬ near (place n r).val j.val → f j = 0)
    (h : ¬ valid n r c) : banded f n c = 0 := by
  unfold banded
  split
  · rename_i h1
    exact hf _ fun h2 => h ((near_iff n r c h1).mp h2)
  · rfl

/-- The probabilities of a row are the dense ones, read over the band. -/
theorem prob_dense (h d : Fin 4) (n : Fin 16) (r : Fin 64) (c : Fin 192) : Row.prob (scores x0 x1 h d n r) c
    = banded (fun j => Dense.prob (at3 x0) (at3 x1) (logsum x0 x1) h d (place n r) j) n c := by
  by_cases hv : valid n r c
  · have h1 : 64 ≤ 64 * n.val + c.val ∧ 64 * n.val + c.val < 1088 := hv.1
    unfold Row.prob
    rw [← logsum_at, scores_eq, if_pos hv]
    unfold banded Dense.prob
    rw [dif_pos h1]
    beta_reduce
    rw [if_pos ((near_iff n r c h1).mpr hv), sum_mul_sc]
    congr 2
    refine Finset.sum_congr rfl fun e _ => ?_
    unfold at3
    rw [dif_pos h1, mul_right_comm]
  · rw [banded_invalid _ n r c (fun j hj => Dense.prob_far _ _ _ _ _ _ _ hj) hv]
    unfold Row.prob
    rw [scores_eq, if_neg hv]
    simp

end Cert.ReferenceIdeal.Band
-- ==== Proof.RefGrad.lean ====
/- The reference's gradients of the scores are the dense ones, read over the bands. -/
module

public import proofs.«01_k».proof.Proof.Softmax

@[expose] public section

set_option maxRecDepth 16384

noncomputable section

namespace Cert.ReferenceIdeal.Band

open Cert.ReferenceIdeal Cert.ReferenceIdeal.Gen Cert.ReferenceIdeal.Read
open Cert.KernelIdeal.Body (lane sc near)
open Idealize.ShloMosaic Idealize.ShloMosaic.TcCoe

variable (x0 x1 x2 x3 : Vec Ideal S4x1024x256 .bf16) (x4 : Vec Ideal S4x4x1024 .f32)

/-- The attention's output at a place. -/
theorem out_at (h d : Fin 4) (n : Fin 16) (r : Fin 64) (e : Fin 64) : val_main_v80 (F := Ideal) x0 x1 x2 (ix3 d (place n r) (lane h e))
    = ∑ c, val_main_v75 (F := Ideal) x0 x1 (ix5 h d n r c) * val_main_v28 (F := Ideal) x2 (ix5 h d n c e) := by
  unfold val_main_v80 val_main_v79 val_main_v77 val_main_v76
  pointwise
  have eh : (⟨(lane h e).val / 64, by omega⟩ : Fin 4) = h := Fin.ext (by simp [lane]; omega)
  have ee : (⟨(lane h e).val % 64, by omega⟩ : Fin 64) = e := Fin.ext (by simp [lane])
  have en : (⟨(place n r).val / 64, by omega⟩ : Fin 16) = n := Fin.ext (by simp [place]; omega)
  have er : (⟨(place n r).val % 64, by omega⟩ : Fin 64) = r := Fin.ext (by simp [place])
  exact Finset.sum_congr rfl fun c _ => by rw [eh, ee, en, er]

/-- The part of a score's gradient that is one value per place: the row statistics' gradient, less the output's gradient times the output. -/
def corr (h d : Fin 4) (i : Fin 1024) : EReal :=
  x4 (ix3 h d i) - ∑ e, at3 x3 d i (lane h e) * val_main_v80 (F := Ideal) x0 x1 x2 (ix3 d i (lane h e))

theorem corr_at (hv : ∀ i, ∃ y : ℝ, x2 i = (y : EReal)) (hd : ∀ i, ∃ y : ℝ, x3 i = (y : EReal)) (h d : Fin 4) (n : Fin 16) (r : Fin 64) :
    val_main_v93 (F := Ideal) x0 x1 x2 x3 x4 (ix4 h d n r) = corr x0 x1 x2 x3 x4 h d (place n r) := by
  have hp := fun c => Row.prob_real (scores x0 x1 h d n r) c
  choose p _ hp using hp
  choose g hg using fun e => hd (ix3 d (place n r) (lane h e))
  have hb : ∀ (c : Fin 192) (e : Fin 64), ∃ y : ℝ, val_main_v28 (F := Ideal) x2 (ix5 h d n c e) = (y : EReal) := fun c e => by
    rw [v_at]
    unfold banded
    split
    · exact hv _
    · exact ⟨0, rfl⟩
  choose b hb using hb
  have key := Row.corr p b g
  have en : ∀ hn, (⟨n.val * 64 + r.val, hn⟩ : Fin 1024) = place n r := fun _ => Fin.ext (by show n.val * 64 + r.val = 64 * n.val + r.val; omega)
  unfold val_main_v93 val_main_v92 val_main_v91 val_main_v90 val_main_v89 val_main_v88 val_main_v87 val_main_v83 val_main_cst_15 val_main_cst_16
  pointwise
  unfold corr at3
  refine Eq.trans (congrArg₂ (· + ·) (congrArg (fun i => x4 (ix3 h d i)) (en _)) ?_) (sub_eq_add_neg _ _).symm
  rw [Fin.sum_univ_one]
  refine Eq.trans (Finset.sum_congr rfl fun c _ => ?_) (key.trans ?_)
  · rw [prob_at, hp]
    refine congrArg (fun z => -(z * (p c : EReal))) (Finset.sum_congr rfl fun e _ => ?_)
    rw [do_at, hg, hb]
  · refine congrArg (fun z => -z) (Finset.sum_congr rfl fun e _ => ?_)
    rw [out_at, hg]
    refine congrArg (fun z => (g e : EReal) * z) (Finset.sum_congr rfl fun c _ => ?_)
    rw [prob_at, hp, hb]

theorem banded_const_mul {κ : Type} [Fintype κ] (a : κ → EReal) (f : κ → Fin 1024 → EReal) (n : Fin 16) (c : Fin 192) :
    (∑ e, a e * banded (f e) n c) = banded (fun j => ∑ e, a e * f e j) n c := by
  unfold banded
  split
  · rfl
  · simp

/-- The gradient of a score over the band, times the scale. -/
theorem dscore_at (hv : ∀ i, ∃ y : ℝ, x2 i = (y : EReal)) (hd : ∀ i, ∃ y : ℝ, x3 i = (y : EReal)) (h d : Fin 4) (n : Fin 16) (r : Fin 64)
    (c : Fin 192) : val_main_v100 (F := Ideal) x0 x1 x2 x3 x4 (ix5 h d n r c)
    = banded (fun j => Dense.dscore (at3 x0) (at3 x1) (at3 x2) (at3 x3) (logsum x0 x1) (corr x0 x1 x2 x3 x4) h d (place n r) j) n c * sc := by
  unfold val_main_v100 val_main_v99 val_main_v98 val_main_v97 val_main_v96 val_main_v95 val_main_v94 val_main_v88 val_main_v87 val_main_call2_v0 val_main_call2_cst val_main_cst_17 val_main_v59_1
  pointwise
  rw [valid_at, corr_at x0 x1 x2 x3 x4 hv hd, mass_at, expo_at, prob_at, Row.div_mass]
  by_cases hc : valid n r c
  · have h1 : 64 ≤ 64 * n.val + c.val ∧ 64 * n.val + c.val < 1088 := hc.1
    rw [if_pos hc]
    refine congrArg (fun z => z * sc) ?_
    rw [Finset.sum_congr rfl fun e _ => congrArg₂ (· * ·) (do_at x3 h d n r e) (v_at x2 h d n c e), banded_const_mul, prob_dense]
    unfold banded Dense.dscore
    rw [dif_pos h1, dif_pos h1, dif_pos h1]
    obtain ⟨p, hp0, hp⟩ : ∃ p : ℝ, 0 ≤ p ∧ Dense.prob (at3 x0) (at3 x1) (logsum x0 x1) h d (place n r) ⟨64 * n.val + c.val - 64, by omega⟩ = (p : EReal) := by
      obtain ⟨p, hp0, hp⟩ := Row.prob_real (scores x0 x1 h d n r) c
      refine ⟨p, hp0, ?_⟩
      rw [prob_dense] at hp
      unfold banded at hp
      rw [dif_pos h1] at hp
      exact hp
    beta_reduce
    rw [hp, mul_comm _ (p : EReal), ← EReal.left_distrib_of_nonneg_of_ne_top (EReal.coe_nonneg.mpr hp0) (EReal.coe_ne_top p)]
    rfl
  · rw [if_neg hc, banded_invalid _ n r c (fun j hj => Dense.dscore_far _ _ _ _ _ _ _ _ _ _ hj) hc, zero_mul]
    rfl

end Cert.ReferenceIdeal.Band
-- ==== Proof.RefVal.lean ====
/- The reference's three results are the dense sums: the queries' gradient summed over a block's band, the keys' and values' over the
three blocks around a place. -/
module

public import proofs.«01_k».proof.Proof.RefGrad

@[expose] public section

set_option maxRecDepth 16384

noncomputable section

namespace Cert.ReferenceIdeal.Band

open Cert.ReferenceIdeal Cert.ReferenceIdeal.Gen Cert.ReferenceIdeal.Read
open Cert.KernelIdeal.Body (lane sc near)
open Cert.Dense (headOf)
open Idealize.ShloMosaic Idealize.ShloMosaic.TcCoe

theorem banded_mul (f g : Fin 1024 → EReal) (n : Fin 16) (c : Fin 192) : banded f n c * banded g n c = banded (fun j => f j * g j) n c := by
  unfold banded
  split
  · rfl
  · exact zero_mul _

/-- The block and the row of a place. -/
def block (i : Fin 1024) : Fin 16 := ⟨i.val / 64, by omega⟩
def rowIn (i : Fin 1024) : Fin 64 := ⟨i.val % 64, by omega⟩
theorem place_block (i : Fin 1024) : place (block i) (rowIn i) = i := Fin.ext (by simp [place, block, rowIn]; omega)
/-- A lane within its head. -/
def laneIn (l : Fin 256) : Fin 64 := ⟨l.val % 64, by omega⟩
theorem lane_head (l : Fin 256) : lane (headOf l) (laneIn l) = l := Fin.ext (by simp [lane, headOf, laneIn]; omega)

/-- The three terms that overlap at a place are the three blocks around it. -/
theorem overlap (Y : Fin 16 → Fin 192 → EReal) (f : Fin 1024 → EReal) (i : Fin 1024) (hf : ∀ j : Fin 1024, ¬ near j.val i.val → f j = 0)
    (hY : ∀ (n : Fin 16) (c : Fin 192), 64 * n.val + c.val = i.val + 64 → Y n c = ∑ r, f (place n r))
    (p1 p2 p3 : Prop) [Decidable p1] [Decidable p2] [Decidable p3] (t1 : p1 → EReal) (t2 : p2 → EReal) (t3 : p3 → EReal)
    (h1 : p1 ↔ 1 ≤ i.val / 64) (h2 : p2) (h3 : p3 ↔ i.val / 64 + 1 < 16)
    (e1 : ∀ h, ∃ n c, n.val + 1 = i.val / 64 ∧ 64 * n.val + c.val = i.val + 64 ∧ t1 h = Y n c)
    (e2 : ∀ h, ∃ n c, n.val = i.val / 64 ∧ 64 * n.val + c.val = i.val + 64 ∧ t2 h = Y n c)
    (e3 : ∀ h, ∃ n c, n.val = i.val / 64 + 1 ∧ 64 * n.val + c.val = i.val + 64 ∧ t3 h = Y n c) :
    (if h : p1 then t1 h else 0) + (if h : p2 then t2 h else 0) + (if h : p3 then t3 h else 0) = ∑ j, f j := by
  rw [sum_places, sum_blocks (block i) (fun n => ∑ r, f (place n r)) fun n hn => Finset.sum_eq_zero fun r _ => hf _ (by
    rw [← place_block i]
    exact far_blocks n (block i) r (rowIn i) (by omega))]
  refine congrArg₂ (· + ·) (congrArg₂ (· + ·) ?_ ?_) ?_
  · by_cases h : p1
    · obtain ⟨n, c, hn, hc, e⟩ := e1 h
      rw [dif_pos h, dif_pos (show 1 ≤ (block i).val from h1.mp h), e, hY n c hc]
      exact congrArg (fun n => ∑ r, f (place n r)) (Fin.ext (by show n.val = i.val / 64 - 1; omega))
    · rw [dif_neg h, dif_neg (show ¬ 1 ≤ (block i).val from fun hb => h (h1.mpr hb))]
  · obtain ⟨n, c, hn, hc, e⟩ := e2 h2
    rw [dif_pos h2, e, hY n c hc]
    exact congrArg (fun n => ∑ r, f (place n r)) (Fin.ext hn)
  · by_cases h : p3
    · obtain ⟨n, c, hn, hc, e⟩ := e3 h
      rw [dif_pos h, dif_pos (show (block i).val + 1 < 16 from h3.mp h), e, hY n c hc]
      exact congrArg (fun n => ∑ r, f (place n r)) (Fin.ext hn)
    · rw [dif_neg h, dif_neg (show ¬ (block i).val + 1 < 16 from fun hb => h (h3.mpr hb))]

theorem banded_place (f : Fin 1024 → EReal) (n : Fin 16) (c : Fin 192) (i : Fin 1024) (h : 64 * n.val + c.val = i.val + 64) : banded f n c = f i := by
  rw [← place_block i]
  exact banded_of f n c (block i) (rowIn i) (by simp [block, rowIn]; omega)

variable (x0 x1 x2 x3 : Vec Ideal S4x1024x256 .bf16) (x4 : Vec Ideal S4x4x1024 .f32)

/-- The queries' gradient. -/
theorem dq_at (hv : ∀ i, ∃ y : ℝ, x2 i = (y : EReal)) (hd : ∀ i, ∃ y : ℝ, x3 i = (y : EReal)) (d : Fin 4) (i : Fin 1024) (l : Fin 256) :
    val_main_v133 (F := Ideal) x0 x1 x2 x3 x4 (ix3 d i l)
    = Dense.dq (at3 x0) (at3 x1) (at3 x2) (at3 x3) (logsum x0 x1) (corr x0 x1 x2 x3 x4) d i l := by
  unfold val_main_v133 val_main_v132 val_main_v127 val_main_v102
  pointwise
  have key : ∀ c, val_main_v100 (F := Ideal) x0 x1 x2 x3 x4 (ix5 (headOf l) d (block i) (rowIn i) c) * val_main_v19 (F := Ideal) x1 (ix5 (headOf l) d (block i) c (laneIn l))
      = banded (fun j => Dense.dscore (at3 x0) (at3 x1) (at3 x2) (at3 x3) (logsum x0 x1) (corr x0 x1 x2 x3 x4) (headOf l) d i j * at3 x1 d j l) (block i) c * sc := fun c => by
    rw [dscore_at x0 x1 x2 x3 x4 hv hd, k_at, place_block, lane_head, mul_right_comm, banded_mul]
    rfl
  refine (Finset.sum_congr rfl fun c _ => key c).trans ?_
  unfold Dense.dq
  rw [← sum_mul_sc, sum_band]
  intro m r hm
  rw [Dense.dscore_far, zero_mul]
  rw [← place_block i]
  exact far_blocks (block i) m (rowIn i) r hm

/-- The keys' gradient. -/
theorem dk_at (hv : ∀ i, ∃ y : ℝ, x2 i = (y : EReal)) (hd : ∀ i, ∃ y : ℝ, x3 i = (y : EReal)) (d : Fin 4) (i : Fin 1024) (l : Fin 256) :
    val_main_v131 (F := Ideal) x0 x1 x2 x3 x4 (ix3 d i l)
    = Dense.dk (at3 x0) (at3 x1) (at3 x2) (at3 x3) (logsum x0 x1) (corr x0 x1 x2 x3 x4) d i l := by
  have key : ∀ (n : Fin 16) (c : Fin 192), 64 * n.val + c.val = i.val + 64 →
      val_main_v101 (F := Ideal) x0 x1 x2 x3 x4 (ix5 (headOf l) d n c (laneIn l))
      = ∑ r, Dense.dscore (at3 x0) (at3 x1) (at3 x2) (at3 x3) (logsum x0 x1) (corr x0 x1 x2 x3 x4) (headOf l) d (place n r) i * (at3 x0 d (place n r) l * sc) := fun n c hc => by
    unfold val_main_v101
    pointwise
    refine Finset.sum_congr rfl fun r _ => ?_
    rw [dscore_at x0 x1 x2 x3 x4 hv hd, q_at, lane_head, banded_place _ n c i hc, mul_assoc, mul_comm sc]
    rfl
  unfold val_main_v131 val_main_v130 val_main_v125 val_main_v123 val_main_v122 val_main_v121 val_main_v120 val_main_v119 val_main_v118 val_main_v117 val_main_v116 val_main_v115 val_main_cst_23 val_main_cst_22 val_main_cst_21
  generalize val_main_v101 (F := Ideal) x0 x1 x2 x3 x4 = y at key ⊢
  pointwise
  refine overlap (fun n c => y (ix5 (headOf l) d n c (laneIn l))) (fun j => _) i (fun j hj => ?_) key _ _ _ _ _ _ ?_ ?_ ?_ (fun h => ?_) (fun h => ?_) (fun h => ?_)
  · beta_reduce
    rw [Dense.dscore_far _ _ _ _ _ _ _ _ _ _ hj, zero_mul]
  · omega
  · omega
  · omega
  · exact ⟨_, _, by simp; omega, by simp; omega, rfl⟩
  · exact ⟨_, _, by simp, by simp; omega, rfl⟩
  · exact ⟨_, _, by simp, by simp; omega, rfl⟩

/-- The values' gradient. -/
theorem dv_at (d : Fin 4) (i : Fin 1024) (l : Fin 256) :
    val_main_v129 (F := Ideal) x0 x1 x3 (ix3 d i l) = Dense.dv (at3 x0) (at3 x1) (at3 x3) (logsum x0 x1) d i l := by
  have key : ∀ (n : Fin 16) (c : Fin 192), 64 * n.val + c.val = i.val + 64 →
      val_main_v86 (F := Ideal) x0 x1 x3 (ix5 (headOf l) d n c (laneIn l))
      = ∑ r, Dense.prob (at3 x0) (at3 x1) (logsum x0 x1) (headOf l) d (place n r) i * at3 x3 d (place n r) l := fun n c hc => by
    unfold val_main_v86 val_main_v85
    pointwise
    refine Finset.sum_congr rfl fun r _ => ?_
    rw [prob_at, prob_dense, do_at, lane_head, banded_place _ n c i hc, mul_comm]
    rfl
  unfold val_main_v129 val_main_v128 val_main_v113 val_main_v111 val_main_v110 val_main_v109 val_main_v108 val_main_v107 val_main_v106 val_main_v105 val_main_v104 val_main_v103 val_main_cst_20 val_main_cst_19 val_main_cst_18
  generalize val_main_v86 (F := Ideal) x0 x1 x3 = y at key ⊢
  pointwise
  refine overlap (fun n c => y (ix5 (headOf l) d n c (laneIn l))) (fun j => _) i (fun j hj => ?_) key _ _ _ _ _ _ ?_ ?_ ?_ (fun h => ?_) (fun h => ?_) (fun h => ?_)
  · beta_reduce
    rw [Dense.prob_far _ _ _ _ _ _ _ hj, zero_mul]
  · omega
  · omega
  · omega
  · exact ⟨_, _, by simp; omega, by simp; omega, rfl⟩
  · exact ⟨_, _, by simp, by simp; omega, rfl⟩
  · exact ⟨_, _, by simp, by simp; omega, rfl⟩

end Cert.ReferenceIdeal.Band
-- ==== Proof.Value.lean ====
/- The kernel's results are the reference's. -/
module

public import proofs.«01_k».proof.Proof.Arrays
public import proofs.«01_k».proof.Proof.Host
public import proofs.«01_k».proof.Proof.RefVal

@[expose] public section

set_option maxRecDepth 16384

noncomputable section

namespace Cert.KernelIdeal.Body

open Cert.Dense Cert.KernelIdeal.Gen Cert.KernelIdeal.Host Cert.ReferenceIdeal.Band Cert.ReferenceIdeal.Read
open Idealize.ShloMosaic Idealize.ShloMosaic.TcCoe Idealize.ShloMosaic.Pipeline

/-- Two lines of host operations one after the other. -/
theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

variable (m : (l : Loc nD τ sig) → l.ty.Contents (Elt Ideal)) (c : Dev nD)

/-- What the region finds is what the five lines of host operations leave. -/
theorem V_eq (b : Ref sig .tc) : V m c b = w5 (fun b => m (c, b)) (Proc.devRef .tc b) := by
  unfold V w5 w4 w3 w2 w1
  simp only [List.flatten_cons, List.flatten_nil, List.append_nil, after_two]

abbrev inQ : Vec Ideal S4x1024x256 .bf16 := m ((c.tc : Thread nD τ).loc main_arg0)
abbrev inK : Vec Ideal S4x1024x256 .bf16 := m ((c.tc : Thread nD τ).loc main_arg1)
abbrev inU : Vec Ideal S4x1024x256 .bf16 := m ((c.tc : Thread nD τ).loc main_arg2)
abbrev inD : Vec Ideal S4x1024x256 .bf16 := m ((c.tc : Thread nD τ).loc main_arg3)
abbrev inG : Vec Ideal S4x4x1024 .f32 := m ((c.tc : Thread nD τ).loc main_arg4)

theorem aQ_eq : aQ m c = at3 (inQ m c) := by
  funext d i l
  exact congrFun (V_main_arg0 m c) _
theorem aK_eq : aK m c = at3 (inK m c) := by
  funext d i l
  exact congrFun (V_main_arg1 m c) _
theorem aU_eq : aU m c = at3 (inU m c) := by
  funext d i l
  exact congrFun (V_main_arg2 m c) _
theorem aD_eq : aD m c = at3 (inD m c) := by
  funext d i l
  exact congrFun (V_main_arg3 m c) _

theorem aL_eq : aL m c = logsum (inQ m c) (inK m c) := by
  funext h d i
  unfold aL logsum
  rw [V_eq, w5_v85]
  exact spread_at _ h d i

theorem aC_eq : aC m c = corr (inQ m c) (inK m c) (inU m c) (inD m c) (inG m c) := by
  funext h d i
  unfold aC corr
  rw [V_eq, w5_v89]
  refine (spread_at _ h d i).trans (congrArg (fun z => (inG m c) (ix3 h d i) - z) ((summed_at _ h d i).trans ?_))
  rfl

theorem ext_at (x y : Vec Ideal S4x1024x256 .f32) (h : ∀ d i l, x (ix3 d i l) = y (ix3 d i l)) : x = y := by
  funext j
  have e : j = ix3 (j 0) (j 1) (j 2) := by
    funext a
    fin_cases a <;> rfl
  rw [e]
  exact h _ _ _

variable (hv : ∀ i, ∃ y : ℝ, inU m c i = (y : EReal)) (hd : ∀ i, ∃ y : ℝ, inD m c i = (y : EReal))
include hv hd

theorem out_dq : (dats m 0 c).arrAt 6 cfg0.N = val_main_v133 (F := Ideal) (inQ m c) (inK m c) (inU m c) (inD m c) (inG m c) := by
  rw [arr_dq, aQ_eq, aK_eq, aU_eq, aD_eq, aL_eq, aC_eq]
  exact ext_at _ _ fun d i l => (dq_at _ _ _ _ _ hv hd d i l).symm

theorem out_dk : (dats m 0 c).arrAt 7 cfg0.N = val_main_v131 (F := Ideal) (inQ m c) (inK m c) (inU m c) (inD m c) (inG m c) := by
  rw [arr_dk, aQ_eq, aK_eq, aU_eq, aD_eq, aL_eq, aC_eq]
  exact ext_at _ _ fun d i l => (dk_at _ _ _ _ _ hv hd d i l).symm

omit hv hd in
theorem out_dv : (dats m 0 c).arrAt 8 cfg0.N = val_main_v129 (F := Ideal) (inQ m c) (inK m c) (inD m c) := by
  rw [arr_dv, aQ_eq, aK_eq, aD_eq, aL_eq]
  exact ext_at _ _ fun d i l => (dv_at _ _ _ d i l).symm

end Cert.KernelIdeal.Body
-- ==== Proof.Finite.lean ====
/- The precondition: where it holds, every element of the values and of the output's gradient is a real number. -/
module

public import proofs.«01_k».proof.Proof.Gen.Pre_finite
public import Idealize.ShloMosaic.Lib.ReduceAll
public import Idealize.ShloMosaic.Lib.Pointwise

@[expose] public section

noncomputable section

namespace Cert.Finite

open Cert.Pre_finite Cert.Pre_finite.Gen
open Idealize.ShloMosaic Idealize.ShloMosaic.TcCoe

/-- A test of one array: where the conjunction over its elements holds, each is real. -/
theorem all_real (x : FVec Ideal S4x1024x256 .bf16)
    (h : Host.reduce IntOp.andi (cmpf .olt (Host.absf ((extf .f32 · bitsLt_bf16_f32) x)) (broadcastInDim S4x1024x256 ![] bcast_S_S4x1024x256 (constant (F := Ideal) S_ .f32 0x7F800000#32)))
      (constantI S_ 1 1#1) reducesTo_S4x1024x256_S_d0_1_2 h_S_ = fun _ => 1#1) (i : S4x1024x256.Idx) : ∃ y : ℝ, x i = (y : EReal) := by
  have : Subsingleton S_.Idx := ⟨fun a b => funext fun k => k.elim0⟩
  have h2 := Host.reduce_andi_all _ _ _ _ ix0 (congrFun h ix0) i
  have h3 : Ideal.cmp .olt (max (x i : EReal) (-(x i : EReal))) (Ideal.ofBits .f32 0x7F800000#32) = 1#1 := h2
  have e : Ideal.ofBits .f32 0x7F800000#32 = ⊤ := by simp [Ideal.ofBits, Ideal.ieee]
  rw [e] at h3
  unfold Ideal.cmp at h3
  have hr : ∀ z : EReal, BitVec.ofBool (decide (max z (-z) < ⊤)) = 1#1 → ∃ y : ℝ, z = (y : EReal) := fun z hz => by
    induction z with
    | bot => simp at hz
    | top => simp at hz
    | coe y => exact ⟨y, rfl⟩
  exact hr _ h3

theorem real (x0 x1 x2 x3 : FVec Ideal S4x1024x256 .bf16) (x4 : FVec Ideal S4x4x1024 .f32) (h : fn (F := Ideal) x0 x1 x2 x3 x4 = fun _ => 1#1) :
    (∀ i, ∃ y : ℝ, x2 i = (y : EReal)) ∧ ∀ i, ∃ y : ℝ, x3 i = (y : EReal) := by
  have hb : ∀ a b : BitVec 1, IntOp.andi a b = 1#1 → a = 1#1 ∧ b = 1#1 := by decide
  have h1 := fun j => hb _ _ (congrFun h j)
  exact ⟨all_real x2 (funext fun j => (h1 j).1), all_real x3 (funext fun j => (h1 j).2)⟩

end Cert.Finite
-- ==== Proof.Mlp.Rows.lean ====
/- A row of activations times a row of a transposed weight, and the squared positive part with its slope. -/
module

public import Idealize.ShloMosaic.Lib.Pointwise
public import Idealize.ShloMosaic.Lib.ValueIdx

@[expose] public section

noncomputable section

namespace Cert.Mlp

open Idealize.ShloMosaic

/-- A matrix of bfloat16 entries, read over the reals. -/
abbrev Mat (r s : ℕ) : Type := Vec Ideal ⟨2, ![r, s]⟩ .bf16

/-- Row `i` of the one matrix times row `j` of the other. -/
def rowDot {r s : ℕ} (x : Mat r 1024) (w : Mat s 1024) (i : Fin r) (j : Fin s) : EReal := ∑ k : Fin 1024, x (ix2 i k) * w (ix2 j k)

theorem rowDot_congr {r s r' s' : ℕ} {x : Mat r 1024} {w : Mat s 1024} {x' : Mat r' 1024} {w' : Mat s' 1024} {i : Fin r} {j : Fin s} {i' : Fin r'} {j' : Fin s'}
    (hx : ∀ k, x (ix2 i k) = x' (ix2 i' k)) (hw : ∀ k, w (ix2 j k) = w' (ix2 j' k)) : rowDot x w i j = rowDot x' w' i' j' :=
  Finset.sum_congr rfl fun k _ => by rw [hx k, hw k]

/-- The squared positive part, -/
def relu2 (u : EReal) : EReal := max u 0 * max u 0

/-- and its slope at `u` times a gradient. -/
def reluGrad (g u : EReal) : EReal := g * (2 * max u 0)

/-- Where `u` is not positive the slope is zero, whatever the gradient. -/
theorem reluGrad_eq (g u : EReal) : reluGrad g u = if 0 < u then g * (2 * max u 0) else 0 := by
  unfold reluGrad
  split
  · rfl
  · next h => rw [max_eq_right (not_lt.mp h), mul_zero, mul_zero]

end Cert.Mlp

end
-- ==== Proof.Mlp.Up.lean ====
/- The MLP's first product: the hidden units and their activations, entry by entry. -/
module

public import proofs.«01_k».proof.Proof.Gen.UpIdeal.Value
public import proofs.«01_k».proof.Proof.Gen.UpRefIdeal.Read
public import proofs.«01_k».proof.Proof.Mlp.Rows
public import Idealize.ShloMosaic.Lib.Pipeline.ValueKit

@[expose] public section

noncomputable section

namespace Cert.UpIdeal.Mlp

open Cert.Mlp Cert.UpIdeal Cert.UpIdeal.Gen Idealize.ShloMosaic Idealize.ShloMosaic.TcCoe Idealize.SL.Sem

theorem unit_at (v0 : Vec Ideal S256x1024 .bf16) (v1 : Vec Ideal S4096x1024 .bf16) (p : Fin 256) (q : Fin 4096) :
    k0_pay2 v0 v1 (ix2 p q) = rowDot v0 v1 p q := by
  unfold k0_pay2 k0_pay1 rowDot
  pointwise

theorem act_at (v0 : Vec Ideal S256x1024 .bf16) (v1 : Vec Ideal S4096x1024 .bf16) (p : Fin 256) (q : Fin 4096) :
    k0_pay3 v0 v1 (ix2 p q) = relu2 (rowDot v0 v1 p q) := by
  unfold k0_pay3 k0_pay1 relu2 rowDot
  pointwise

/-- A strip of 256 rows of the block is a strip of the inputs' rows times the weight's. -/
theorem strip (x0 : Vec Ideal S512x1024 .bf16) (x1 : Vec Ideal S4096x1024 .bf16) (o : ℕ) (inb) (y : S512x4096.Idx) (x : S256x4096.Idx)
    (h : ∀ a, (y a).val = (![o, 0] : Fin 2 → ℕ) a + (x a).val) :
    rowDot (View.ld x0 (Rect.unit (s := S512x1024) ![o, 0] S256x1024.size inb)) (View.ld x1 r0_1) (x 0) (x 1) = rowDot x0 x1 (y 0) (y 1) := by
  refine rowDot_congr (fun k => View.ld_unit_apply_of _ _ _ _ _ _ fun a => ?_) (fun k => View.ld_unit_apply_of _ _ _ _ _ _ fun a => ?_)
  · fin_cases a
    · exact h 0
    · exact (Nat.zero_add _).symm
  · fin_cases a
    · exact h 1
    · exact (Nat.zero_add _).symm

theorem out_unit (x0 : Vec Ideal S512x1024 .bf16) (x1 : Vec Ideal S4096x1024 .bf16) (y : S512x4096.Idx) :
    out0_2 x0 x1 y = rowDot x0 x1 (y 0) (y 1) := by
  unfold out0_2
  refine View.canon_eq_of_allAt _ _ _ (cover0_2 _ _ y) (View.allAt_cons_unit _ _ _ _ _ (fun x hx => ?_)
    (View.allAt_cons_unit _ _ _ _ _ (fun x hx => ?_) (View.allAt_nil _ _)))
  · rw [eq_ix2 x]
    exact (unit_at _ _ _ _).trans (strip x0 x1 256 _ y x hx)
  · rw [eq_ix2 x]
    exact (unit_at _ _ _ _).trans (strip x0 x1 0 _ y x hx)

theorem out_act (x0 : Vec Ideal S512x1024 .bf16) (x1 : Vec Ideal S4096x1024 .bf16) (y : S512x4096.Idx) :
    out0_3 x0 x1 y = relu2 (rowDot x0 x1 (y 0) (y 1)) := by
  unfold out0_3
  refine View.canon_eq_of_allAt _ _ _ (cover0_3 _ _ y) (View.allAt_cons_unit _ _ _ _ _ (fun x hx => ?_)
    (View.allAt_cons_unit _ _ _ _ _ (fun x hx => ?_) (View.allAt_nil _ _)))
  · rw [eq_ix2 x]
    exact (act_at _ _ _ _).trans (congrArg relu2 (strip x0 x1 256 _ y x hx))
  · rw [eq_ix2 x]
    exact (act_at _ _ _ _).trans (congrArg relu2 (strip x0 x1 0 _ y x hx))

variable (m : (l : Loc nD τ sig) → Buf (Elt Ideal) l) (c : Dev nD)

abbrev inX : Mat 4096 1024 := m ((c.tc : Thread nD τ).loc main_arg0)
abbrev inW : Mat 4096 1024 := m ((c.tc : Thread nD τ).loc main_arg1)

theorem index_at : ∀ t : Fin grid0.N, win0_0.index t = ![t.val, 0] ∧ win0_1.index t = ![0, 0] ∧ win0_2.index t = ![t.val, 0]
    ∧ win0_3.index t = ![t.val, 0] := by
  decide +kernel

/-- A row of a point's block. -/
def rowOf (t : Fin cfg0.N) (p : Fin 512) : Fin 4096 := ⟨t.val * 512 + p.val, by
  have : t.val < 8 := t.isLt
  omega⟩

/-- A point's block holds the point's rows of the product. -/
theorem block_at (t : Fin cfg0.N) (p : Fin 512) (q : Fin 4096) :
    rowDot (iblk m c 0 t : Mat 512 1024) (iblk m c 1 t : Mat 4096 1024) p q = rowDot (inX m c) (inW m c) (rowOf t p) q := by
  obtain ⟨e0, e1, -, -⟩ := index_at t
  refine rowDot_congr (fun k => Eq.trans ?_ (congrFun (V_main_arg0 m c) _)) (fun k => Eq.trans ?_ (congrFun (V_main_arg1 m c) _))
  · unfold rowOf
    blk_ext [iblk, e0]
  · blk_ext [iblk, e1]

theorem result_unit : (dats m 0 c).arrAt 2 cfg0.N = (fun i => rowDot (inX m c) (inW m c) (i 0) (i 1) : Mat 4096 4096) := by
  refine (dats m 0 c).arrAt_eq_of_covers 2 _ (by decide +kernel) fun t hf y => ?_
  obtain ⟨-, -, e2, -⟩ := index_at t
  blk_simp
  rw [after0_2]
  refine (out_unit _ _ y).trans ((block_at m c t _ _).trans (congrArg₂ (rowDot _ _) (Fin.ext ?_) (Fin.ext ?_)))
  · blk_simp [e2]
    rfl
  · blk_simp [e2]

theorem result_act : (dats m 0 c).arrAt 3 cfg0.N = (fun i => relu2 (rowDot (inX m c) (inW m c) (i 0) (i 1)) : Mat 4096 4096) := by
  refine (dats m 0 c).arrAt_eq_of_covers 3 _ (by decide +kernel) fun t hf y => ?_
  obtain ⟨-, -, -, e3⟩ := index_at t
  blk_simp
  rw [after0_3]
  refine (out_act _ _ y).trans (congrArg relu2 ((block_at m c t _ _).trans (congrArg₂ (rowDot _ _) (Fin.ext ?_) (Fin.ext ?_))))
  · blk_simp [e3]
    rfl
  · blk_simp [e3]

theorem dot_ref (x w : Mat 4096 1024) (i : S4096x4096.Idx) : Cert.UpRefIdeal.Read.val_main_v3 (F := Ideal) x w i = rowDot x w (i 0) (i 1) := by
  rw [UpRefIdeal.Read.val_main_v3_apply]
  refine Finset.sum_congr rfl fun k _ => ?_
  rw [UpRefIdeal.Read.val_main_v2_apply]
  exact congrArg₂ (· * ·) (congrArg x (funext fun a => by fin_cases a <;> rfl)) (congrArg w (funext fun a => by fin_cases a <;> rfl))

theorem reference_unit (x w : Mat 4096 1024) :
    (fun i => rowDot x w (i 0) (i 1) : Mat 4096 4096) = Cert.UpRefIdeal.Read.val_main_v4 (F := Ideal) x w :=
  funext fun i => (dot_ref x w i).symm

theorem reference_act (x w : Mat 4096 1024) :
    (fun i => relu2 (rowDot x w (i 0) (i 1)) : Mat 4096 4096) = Cert.UpRefIdeal.Read.val_main_v7 (F := Ideal) x w := by
  funext i
  have z : UpRefIdeal.Read.val_main_call0_v0 (F := Ideal) i = (0 : EReal) := by
    show Ideal.ofBits .f32 0x00000000#32 = 0
    simp [Ideal.ofBits, Ideal.ieee]
  have e : UpRefIdeal.Read.val_main_v5 (F := Ideal) x w i = max (rowDot x w (i 0) (i 1)) 0 := by
    rw [UpRefIdeal.Read.val_main_v5_apply, dot_ref, z]
    rfl
  rw [UpRefIdeal.Read.val_main_v7_apply, UpRefIdeal.Read.val_main_v6_apply, e]
  rfl

end Cert.UpIdeal.Mlp

end
-- ==== Proof.Mlp.Du.lean ====
/- The gradient of the MLP's hidden units, entry by entry. -/
module

public import proofs.«01_k».proof.Proof.Gen.DuIdeal.Value
public import proofs.«01_k».proof.Proof.Gen.DuRefIdeal.Read
public import proofs.«01_k».proof.Proof.Mlp.Rows
public import Idealize.ShloMosaic.Lib.Pipeline.ValueKit

@[expose] public section

noncomputable section

namespace Cert.DuIdeal.Mlp

open Cert.Mlp Cert.DuIdeal Cert.DuIdeal.Gen Idealize.ShloMosaic Idealize.ShloMosaic.TcCoe Idealize.SL.Sem

theorem two : Ideal.ofBits .f32 0x40000000#32 = 2 := by
  simp [Ideal.ofBits, Ideal.ieee]
  rw [← EReal.coe_mul]
  norm_num
  rfl

theorem slope_at (v0 : Vec Ideal S256x1024 .bf16) (v1 : Vec Ideal S4096x1024 .bf16) (v3 : Vec Ideal S256x4096 .bf16) (p : Fin 256) (q : Fin 4096) :
    k0_pay1 v0 v1 v3 (ix2 p q) = reluGrad (rowDot v0 v1 p q) (v3 (ix2 p q)) := by
  unfold k0_pay1 reluGrad rowDot
  pointwise
  exact congrArg (fun z => _ * (z * _)) two

/-- A strip of 256 rows of the block is a strip of the gradient's rows times the weight's. -/
theorem strip (x0 : Vec Ideal S512x1024 .bf16) (x1 : Vec Ideal S4096x1024 .bf16) (o : ℕ) (inb) (y : S512x4096.Idx) (x : S256x4096.Idx)
    (h : ∀ a, (y a).val = (![o, 0] : Fin 2 → ℕ) a + (x a).val) :
    rowDot (View.ld x0 (Rect.unit (s := S512x1024) ![o, 0] S256x1024.size inb)) (View.ld x1 r0_1) (x 0) (x 1) = rowDot x0 x1 (y 0) (y 1) := by
  refine rowDot_congr (fun k => View.ld_unit_apply_of _ _ _ _ _ _ fun a => ?_) (fun k => View.ld_unit_apply_of _ _ _ _ _ _ fun a => ?_)
  · fin_cases a
    · exact h 0
    · exact (Nat.zero_add _).symm
  · fin_cases a
    · exact h 1
    · exact (Nat.zero_add _).symm

theorem out_at (x0 : Vec Ideal S512x1024 .bf16) (x1 : Vec Ideal S4096x1024 .bf16) (x2 : Vec Ideal S512x4096 .bf16) (y : S512x4096.Idx) :
    out0_3 x0 x1 x2 y = reluGrad (rowDot x0 x1 (y 0) (y 1)) (x2 y) := by
  unfold out0_3
  refine View.canon_eq_of_allAt _ _ _ (cover0_3 _ _ y) (View.allAt_cons_unit _ _ _ _ _ (fun x hx => ?_)
    (View.allAt_cons_unit _ _ _ _ _ (fun x hx => ?_) (View.allAt_nil _ _)))
  · rw [eq_ix2 x]
    exact (slope_at _ _ _ _ _).trans (congrArg₂ reluGrad (strip x0 x1 256 _ y x hx)
      (View.ld_unit_apply_of x2 _ _ _ _ _ (by rw [← eq_ix2 x]; exact hx)))
  · rw [eq_ix2 x]
    exact (slope_at _ _ _ _ _).trans (congrArg₂ reluGrad (strip x0 x1 0 _ y x hx)
      (View.ld_unit_apply_of x2 _ _ _ _ _ (by rw [← eq_ix2 x]; exact hx)))

variable (m : (l : Loc nD τ sig) → Buf (Elt Ideal) l) (c : Dev nD)

abbrev inG : Mat 4096 1024 := m ((c.tc : Thread nD τ).loc main_arg0)
abbrev inW : Mat 4096 1024 := m ((c.tc : Thread nD τ).loc main_arg1)
abbrev inU : Mat 4096 4096 := m ((c.tc : Thread nD τ).loc main_arg2)

theorem index_at : ∀ t : Fin grid0.N, win0_0.index t = ![t.val, 0] ∧ win0_1.index t = ![0, 0] ∧ win0_2.index t = ![t.val, 0]
    ∧ win0_3.index t = ![t.val, 0] := by
  decide +kernel

/-- A row of a point's block. -/
def rowOf (t : Fin cfg0.N) (p : Fin 512) : Fin 4096 := ⟨t.val * 512 + p.val, by
  have : t.val < 8 := t.isLt
  omega⟩

/-- A point's block holds the point's rows of the product, -/
theorem block_at (t : Fin cfg0.N) (p : Fin 512) (q : Fin 4096) :
    rowDot (iblk m c 0 t : Mat 512 1024) (iblk m c 1 t : Mat 4096 1024) p q = rowDot (inG m c) (inW m c) (rowOf t p) q := by
  obtain ⟨e0, e1, -, -⟩ := index_at t
  refine rowDot_congr (fun k => Eq.trans ?_ (congrFun (V_main_arg0 m c) _)) (fun k => Eq.trans ?_ (congrFun (V_main_arg1 m c) _))
  · unfold rowOf
    blk_ext [iblk, e0]
  · blk_ext [iblk, e1]

/-- and the point's rows of the hidden units. -/
theorem units_at (t : Fin cfg0.N) (p : Fin 512) (q : Fin 4096) : (iblk m c 2 t : Mat 512 4096) (ix2 p q) = inU m c (ix2 (rowOf t p) q) := by
  obtain ⟨-, -, e2, -⟩ := index_at t
  refine Eq.trans ?_ (congrFun (V_main_arg2 m c) _)
  unfold rowOf
  blk_ext [iblk, e2]

/-- The gradient of the hidden unit `q` of the token `i`. -/
def hidden (g w : Mat 4096 1024) (u : Mat 4096 4096) (i q : Fin 4096) : EReal := reluGrad (rowDot g w i q) (u (ix2 i q))

theorem result : (dats m 0 c).arrAt 3 cfg0.N = (fun i => hidden (inG m c) (inW m c) (inU m c) (i 0) (i 1) : Mat 4096 4096) := by
  refine (dats m 0 c).arrAt_eq_of_covers 3 _ (by decide +kernel) fun t hf y => ?_
  obtain ⟨-, -, -, e3⟩ := index_at t
  blk_simp
  rw [after0_3, eq_ix2 y]
  refine (out_at _ _ _ _).trans ((congrArg₂ reluGrad (block_at m c t (y 0) (y 1)) (units_at m c t (y 0) (y 1))).trans
    (congrArg₂ (hidden _ _ _) (Fin.ext ?_) (Fin.ext ?_)))
  · blk_simp [e3]
    rfl
  · blk_simp [e3]

theorem dot_ref (g w : Mat 4096 1024) (i : S4096x4096.Idx) : Cert.DuRefIdeal.Read.val_main_v11 (F := Ideal) g w i = rowDot g w (i 0) (i 1) := by
  rw [DuRefIdeal.Read.val_main_v11_apply]
  exact Finset.sum_congr rfl fun k _ => congrArg₂ (· * ·) (congrArg g (funext fun a => by fin_cases a <;> rfl))
    (congrArg w (funext fun a => by fin_cases a <;> rfl))

theorem reference (g w : Mat 4096 1024) (u : Mat 4096 4096) :
    (fun i => hidden g w u (i 0) (i 1) : Mat 4096 4096) = Cert.DuRefIdeal.Read.val_main_v15 (F := Ideal) g w u := by
  funext i
  have z (i) : DuRefIdeal.Read.val_main_call0_v0 (F := Ideal) i = (0 : EReal) := by
    show Ideal.ofBits .f32 0x00000000#32 = 0
    simp [Ideal.ofBits, Ideal.ieee]
  have e : DuRefIdeal.Read.val_main_v3 (F := Ideal) u i = max (u i) 0 := by
    rw [DuRefIdeal.Read.val_main_v3_apply, z]
    rfl
  have e9 : DuRefIdeal.Read.val_main_v9 (F := Ideal) u i = 2 * max (u i) 0 := by
    rw [DuRefIdeal.Read.val_main_v9_apply, e]
    exact congrArg (· * max (u i) 0) two
  rw [DuRefIdeal.Read.val_main_v15_apply, DuRefIdeal.Read.val_main_v14_apply, DuRefIdeal.Read.val_main_v12_apply, dot_ref, e9]
  unfold hidden
  rw [reluGrad_eq, ← eq_ix2 i]
  have e5 : DuRefIdeal.Read.val_main_v5 (F := Ideal) u i = if 0 < u i then 1 else 0 := by
    rw [DuRefIdeal.Read.val_main_v5_apply]
    show Ideal.cmp .ogt (u i) (DuRefIdeal.Read.val_main_call0_v0 (F := Ideal) i) = _
    rw [z]
    by_cases h : 0 < u i <;> simp [Ideal.cmp, h]
  rw [e5]
  have e13 : DuRefIdeal.Read.val_main_v13 (F := Ideal) i = (0 : EReal) := z i
  rw [e13]
  by_cases h : 0 < u i
  · rw [if_pos h, if_pos h]
    rfl
  · rw [if_neg h, if_neg h]
    rfl

end Cert.DuIdeal.Mlp

end
-- ==== Proof.Weight.Sum.lean ====
/- A weight's gradient: a sum over all the tokens of products, and the same sum in two halves. -/
module

public import Idealize.ShloMosaic.Lib.Pointwise
public import Idealize.ShloMosaic.Lib.ValueIdx

@[expose] public section

noncomputable section

namespace Cert.Weight

open Idealize.ShloMosaic

theorem zero2 : (![0, 0] : Fin 2 → ℕ) = fun _ => 0 := funext fun a => by fin_cases a <;> rfl

/-- A matrix of bfloat16 entries, read over the reals. -/
abbrev Mat (r s : ℕ) : Type := Vec Ideal ⟨2, ![r, s]⟩ .bf16

variable {a b p q : ℕ}

/-- The sum over the tokens of an input's entry `i` times an output's gradient's entry `j`. -/
def along (x : Mat 4096 a) (y : Mat 4096 b) (i : Fin a) (j : Fin b) : EReal := ∑ k : Fin 4096, x (ix2 k i) * y (ix2 k j)

/-- The token that is the `k`-th of the half `h`. -/
def token (h : Fin 2) (k : Fin 2048) : Fin 4096 := ⟨h.val * 2048 + k.val, by omega⟩

/-- A block of a half of the tokens and some of the columns, the column `n` of the block being the column `i` of the whole. -/
def Half (h : Fin 2) (x : Mat 4096 a) (u : Mat 2048 p) (i : Fin a) (n : Fin p) : Prop := ∀ k, u (ix2 k n) = x (ix2 (token h k) i)

theorem along_halves (x : Mat 4096 a) (y : Mat 4096 b) (i : Fin a) (j : Fin b) (x0 x1 : Mat 2048 p) (y0 y1 : Mat 2048 q) (n : Fin p) (l : Fin q)
    (hx0 : Half 0 x x0 i n) (hy0 : Half 0 y y0 j l) (hx1 : Half 1 x x1 i n) (hy1 : Half 1 y y1 j l) :
    (∑ k : Fin 2048, x0 (ix2 k n) * y0 (ix2 k l)) + (∑ k : Fin 2048, x1 (ix2 k n) * y1 (ix2 k l)) = along x y i j := by
  unfold along
  rw [Fin.sum_univ_add (M := EReal) (a := 2048) (b := 2048) fun k => x (ix2 k i) * y (ix2 k j)]
  refine congrArg₂ _ (Finset.sum_congr rfl fun k _ => ?_) (Finset.sum_congr rfl fun k _ => ?_)
  · rw [hx0 k, hy0 k]
    have e : token 0 k = Fin.castAdd 2048 k := Fin.ext (by show 0 * 2048 + k.val = k.val; omega)
    rw [e]
  · rw [hx1 k, hy1 k]
    have e : token 1 k = Fin.natAdd 2048 k := Fin.ext (by show 1 * 2048 + k.val = 2048 + k.val; omega)
    rw [e]

/-- The sum's factors the other way round. -/
theorem along_swap (x : Mat 4096 a) (y : Mat 4096 b) (i : Fin a) (j : Fin b) : (∑ k : Fin 4096, y (ix2 k j) * x (ix2 k i)) = along x y i j :=
  Finset.sum_congr rfl fun _ _ => mul_comm _ _

end Cert.Weight

end
-- ==== Proof.Weight.Down.lean ====
/- The gradient of the MLP's second weight: what the accumulating product over the tokens leaves, as one sum over
   all the tokens. -/
module

public import proofs.«01_k».proof.Proof.Gen.GwDownIdeal.Value
public import proofs.«01_k».proof.Proof.Gen.GwDownRefIdeal.Read
public import proofs.«01_k».proof.Proof.Weight.Sum
public import Idealize.ShloMosaic.Lib.Pipeline.ValueKit

@[expose] public section

noncomputable section

namespace Cert.GwDownIdeal.Weight

open Cert.Weight Cert.GwDownIdeal Cert.GwDownIdeal.Gen Idealize.ShloMosaic Idealize.ShloMosaic.TcCoe Idealize.SL.Sem

section
variable (c : Dev nD) (i : grid0.Coords) (a3 : Memref sig .tc .vmem S2048x1024 .bf16) (h3 : a3.IsWhole) (a4 : Memref sig .tc .vmem S2048x1024 .bf16)
  (h4 : a4.IsWhole) (a5 : Memref sig .tc .vmem S1024x1024 .bf16) (h5 : a5.IsWhole) (a6 : Memref sig .tc .vmem S1024x1024 .f32) (h6 : a6.IsWhole)
  (x0 x1 : Vec Ideal S2048x1024 .bf16)

/-- The first half of the tokens: the accumulator is left at the product of the blocks. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S2048x1024) zero2]

/-- The second half: the result is the accumulator with the product of the blocks added. -/
theorem second (hc0 : ¬cond0_0 i) (hc1 : cond0_1 i) (hc2 : cond0_2 i) (acc : Vec Ideal S1024x1024 .f32) :
    out0_B_2 c i a3 h3 a4 h4 a5 h5 a6 h6 hc0 hc1 hc2 x0 x1 acc = k0_pay4 (k0_pay3 x0 x1 acc) := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero zero2]
  simp only [View.readAt_eq_ld, h3.read_unread, h4.read_unread, h6.read_unread, View.ld_unit_zero (S := S2048x1024) zero2,
    View.ld_unit_zero (S := S1024x1024) zero2, View.readCov_unit_zero (S := S1024x1024) _ zero2]
end

/-- A block's result, entry by entry. -/
theorem block_at (x0 x1 y0 y1 : Vec Ideal S2048x1024 .bf16) (p q : Fin 1024) :
    k0_pay4 (k0_pay3 y0 y1 (k0_pay2 x0 x1)) (ix2 p q)
      = (∑ k : Fin 2048, x0 (ix2 k p) * x1 (ix2 k q)) + ∑ k : Fin 2048, y0 (ix2 k p) * y1 (ix2 k q) := by
  unfold k0_pay4 k0_pay3 k0_pay2 k0_pay1
  pointwise

variable (m : (l : Loc nD τ sig) → Buf (Elt Ideal) l) (c : Dev nD)

abbrev inX : Mat 4096 4096 := m ((c.tc : Thread nD τ).loc main_arg0)
abbrev inY : Mat 4096 1024 := m ((c.tc : Thread nD τ).loc main_arg1)

theorem index_at : ∀ t : Fin grid0.N, win0_0.index t = ![t.val % 2, t.val / 2] ∧ win0_1.index t = ![t.val % 2, 0]
    ∧ win0_2.index t = ![t.val / 2, 0] := by
  decide +kernel

/-- The columns of a point's blocks. -/
def colX (t : Fin cfg0.N) (n : Fin 1024) : Fin 4096 := ⟨t.val / 2 * 1024 + n.val, by
  have : t.val < 8 := t.isLt
  omega⟩

theorem load_x (t : Fin cfg0.N) (h : Fin 2) (e : t.val % 2 = h.val) (s : Fin cfg0.N) (es : t.val / 2 = s.val / 2) (n : Fin 1024) :
    Half h (inX m c) (iblk m c 0 t) (colX s n) n := fun k => by
  obtain ⟨e0, -, -⟩ := index_at t
  refine Eq.trans ?_ (congrFun (V_main_arg0 m c) _)
  unfold token colX
  simp only [← e, ← es]
  blk_ext [iblk, e0]

theorem load_y (t : Fin cfg0.N) (h : Fin 2) (e : t.val % 2 = h.val) (l : Fin 1024) :
    Half h (inY m c) (iblk m c 1 t) l l := fun k => by
  obtain ⟨-, e1, -⟩ := index_at t
  refine Eq.trans ?_ (congrFun (V_main_arg1 m c) _)
  unfold token
  simp only [← e]
  blk_ext [iblk, e1]

theorem after_first (t : Fin cfg0.N) (h : t.val % 2 = 0) : (outsAt0 m c t.val t.isLt).2 = k0_pay2 (iblk m c 0 t) (iblk m c 1 t) := by
  have h1 : ¬t.val % 2 = 1 := by omega
  rw [outsAt0_A m c t h h1 h1]
  dsimp only
  rw [first]

theorem after_second (t : Fin cfg0.N) (h : t.val % 2 = 1) : (outsAt0 m c t.val t.isLt).1
    = k0_pay4 (k0_pay3 (iblk m c 0 t) (iblk m c 1 t) (outsAt0 m c (t.val - 1) (Nat.lt_of_le_of_lt (Nat.sub_le _ _) t.isLt)).2) := by
  have h0 : ¬t.val % 2 = 0 := by omega
  rw [outsAt0_B m c t h0 h h]
  dsimp only
  rw [second]

/-- What the odd point of a pair leaves in the result's block. -/
theorem leaves_at (t : Fin cfg0.N) (h : t.val % 2 = 1) (n l : Fin 1024) :
    (outsAt0 m c t.val t.isLt).1 (ix2 n l) = along (inX m c) (inY m c) (colX t n) l := by
  have hs := Nat.lt_of_le_of_lt (Nat.sub_le t.val 1) t.isLt
  have s0 : (t.val - 1) % 2 = 0 := by omega
  have sd : (t.val - 1) / 2 = t.val / 2 := by omega
  rw [after_second m c t h, after_first m c ⟨t.val - 1, hs⟩ s0, block_at]
  exact along_halves _ _ _ _ _ _ _ _ _ _ (load_x m c ⟨t.val - 1, hs⟩ 0 s0 t sd n) (load_y m c ⟨t.val - 1, hs⟩ 0 s0 l) (load_x m c t 1 h t rfl n)
    (load_y m c t 1 h l)

theorem result : (dats m 0 c).arrAt 2 cfg0.N = (fun i => along (inX m c) (inY m c) (i 0) (i 1) : Mat 4096 1024) := by
  refine (dats m 0 c).arrAt_eq_of_covers 2 _ (by decide +kernel) fun t hf y => ?_
  obtain ⟨-, -, e2⟩ := index_at t
  blk_simp
  rw [after0_2]
  rw [eq_ix2 y]
  refine (leaves_at m c t ((flush0_2 t).mp hf) (y 0) (y 1)).trans (congrArg₂ (along _ _) (Fin.ext ?_) (Fin.ext ?_))
  · blk_simp [e2]
    rfl
  · blk_simp [e2]

theorem reference (x : Mat 4096 4096) (y : Mat 4096 1024) :
    (fun i => along x y (i 0) (i 1) : Mat 4096 1024) = Cert.GwDownRefIdeal.Read.val_main_v6 (F := Ideal) x y := by
  funext i
  rw [GwDownRefIdeal.Read.val_main_v6_apply, GwDownRefIdeal.Read.val_main_v5_apply, GwDownRefIdeal.Read.val_main_v4_apply]
  exact (along_swap x y (i 0) (i 1)).symm.trans (Finset.sum_congr rfl fun k _ => congrArg₂ (· * ·)
    (congrArg y (funext fun a => by fin_cases a <;> rfl)) (congrArg x (funext fun a => by fin_cases a <;> rfl)))

end Cert.GwDownIdeal.Weight

end
-- ==== Proof.Weight.Up.lean ====
/- The gradient of the MLP's first weight, laid out with the outputs first: what the accumulating product over the tokens
   leaves, as one sum over all the tokens. -/
module

public import proofs.«01_k».proof.Proof.Gen.GwUpIdeal.Value
public import proofs.«01_k».proof.Proof.Gen.GwUpRefIdeal.Read
public import proofs.«01_k».proof.Proof.Weight.Sum
public import Idealize.ShloMosaic.Lib.Pipeline.ValueKit

@[expose] public section

noncomputable section

namespace Cert.GwUpIdeal.Weight

open Cert.Weight Cert.GwUpIdeal Cert.GwUpIdeal.Gen Idealize.ShloMosaic Idealize.ShloMosaic.TcCoe Idealize.SL.Sem

section
variable (c : Dev nD) (i : grid0.Coords) (a3 : Memref sig .tc .vmem S2048x512 .bf16) (h3 : a3.IsWhole) (a4 : Memref sig .tc .vmem S2048x2048 .bf16)
  (h4 : a4.IsWhole) (a5 : Memref sig .tc .vmem S2048x512 .bf16) (h5 : a5.IsWhole) (a6 : Memref sig .tc .vmem S512x2048 .f32) (h6 : a6.IsWhole)
  (x0 : Vec Ideal S2048x512 .bf16) (x1 : Vec Ideal S2048x2048 .bf16)

/-- The first half of the tokens: the accumulator is left at the product of the blocks. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S2048x512) zero2, View.ld_unit_zero (S := S2048x2048) zero2]

/-- The second half: the result is the accumulator with the product of the blocks added. -/
theorem second (hc0 : ¬cond0_0 i) (hc1 : cond0_1 i) (hc2 : cond0_2 i) (acc : Vec Ideal S512x2048 .f32) :
    out0_B_2 c i a3 h3 a4 h4 a5 h5 a6 h6 hc0 hc1 hc2 x0 x1 acc = k0_pay4 (k0_pay3 x0 x1 acc) := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero zero2]
  simp only [View.readAt_eq_ld, h3.read_unread, h4.read_unread, h6.read_unread, View.ld_unit_zero (S := S2048x512) zero2, View.ld_unit_zero (S := S2048x2048) zero2,
    View.ld_unit_zero (S := S512x2048) zero2, View.readCov_unit_zero (S := S512x2048) _ zero2]
end

/-- A block's result, entry by entry. -/
theorem block_at (x0 y0 : Vec Ideal S2048x512 .bf16) (x1 y1 : Vec Ideal S2048x2048 .bf16) (p : Fin 512) (q : Fin 2048) :
    k0_pay4 (k0_pay3 y0 y1 (k0_pay2 x0 x1)) (ix2 q p)
      = (∑ k : Fin 2048, x0 (ix2 k p) * x1 (ix2 k q)) + ∑ k : Fin 2048, y0 (ix2 k p) * y1 (ix2 k q) := by
  unfold k0_pay4 k0_pay3 k0_pay2 k0_pay1
  pointwise

variable (m : (l : Loc nD τ sig) → Buf (Elt Ideal) l) (c : Dev nD)

abbrev inX : Mat 4096 1024 := m ((c.tc : Thread nD τ).loc main_arg0)
abbrev inY : Mat 4096 4096 := m ((c.tc : Thread nD τ).loc main_arg1)

theorem index_at : ∀ t : Fin grid0.N, win0_0.index t = ![t.val % 2, t.val / 2 % 2] ∧ win0_1.index t = ![t.val % 2, t.val / 4]
    ∧ win0_2.index t = ![t.val / 4, t.val / 2 % 2] := by
  decide +kernel

/-- The columns of a point's blocks. -/
def colX (t : Fin cfg0.N) (n : Fin 512) : Fin 1024 := ⟨t.val / 2 % 2 * 512 + n.val, by omega⟩
def colY (t : Fin cfg0.N) (l : Fin 2048) : Fin 4096 := ⟨t.val / 4 * 2048 + l.val, by
  have : t.val < 8 := t.isLt
  omega⟩

theorem load_x (t : Fin cfg0.N) (h : Fin 2) (e : t.val % 2 = h.val) (s : Fin cfg0.N) (es : t.val / 2 % 2 = s.val / 2 % 2) (n : Fin 512) :
    Half h (inX m c) (iblk m c 0 t) (colX s n) n := fun k => by
  obtain ⟨e0, -, -⟩ := index_at t
  refine Eq.trans ?_ (congrFun (V_main_arg0 m c) _)
  unfold token colX
  simp only [← e, ← es]
  blk_ext [iblk, e0]

theorem load_y (t : Fin cfg0.N) (h : Fin 2) (e : t.val % 2 = h.val) (s : Fin cfg0.N) (es : t.val / 4 = s.val / 4) (l : Fin 2048) :
    Half h (inY m c) (iblk m c 1 t) (colY s l) l := fun k => by
  obtain ⟨-, e1, -⟩ := index_at t
  refine Eq.trans ?_ (congrFun (V_main_arg1 m c) _)
  unfold token colY
  simp only [← e, ← es]
  blk_ext [iblk, e1]

theorem after_first (t : Fin cfg0.N) (h : t.val % 2 = 0) : (outsAt0 m c t.val t.isLt).2 = k0_pay2 (iblk m c 0 t) (iblk m c 1 t) := by
  have h1 : ¬t.val % 2 = 1 := by omega
  rw [outsAt0_A m c t h h1 h1]
  dsimp only
  rw [first]

theorem after_second (t : Fin cfg0.N) (h : t.val % 2 = 1) : (outsAt0 m c t.val t.isLt).1
    = k0_pay4 (k0_pay3 (iblk m c 0 t) (iblk m c 1 t) (outsAt0 m c (t.val - 1) (Nat.lt_of_le_of_lt (Nat.sub_le _ _) t.isLt)).2) := by
  have h0 : ¬t.val % 2 = 0 := by omega
  rw [outsAt0_B m c t h0 h h]
  dsimp only
  rw [second]

/-- What the odd point of a pair leaves in the result's block. -/
theorem leaves_at (t : Fin cfg0.N) (h : t.val % 2 = 1) (n : Fin 512) (l : Fin 2048) :
    (outsAt0 m c t.val t.isLt).1 (ix2 l n) = along (inX m c) (inY m c) (colX t n) (colY t l) := by
  have hs := Nat.lt_of_le_of_lt (Nat.sub_le t.val 1) t.isLt
  have s0 : (t.val - 1) % 2 = 0 := by omega
  have sx : (t.val - 1) / 2 % 2 = t.val / 2 % 2 := by omega
  have sy : (t.val - 1) / 4 = t.val / 4 := by omega
  rw [after_second m c t h, after_first m c ⟨t.val - 1, hs⟩ s0, block_at]
  exact along_halves _ _ _ _ _ _ _ _ _ _ (load_x m c ⟨t.val - 1, hs⟩ 0 s0 t sx n) (load_y m c ⟨t.val - 1, hs⟩ 0 s0 t sy l)
    (load_x m c t 1 h t rfl n) (load_y m c t 1 h t rfl l)

theorem result : (dats m 0 c).arrAt 2 cfg0.N = (fun i => along (inX m c) (inY m c) (i 1) (i 0) : Mat 4096 1024) := by
  refine (dats m 0 c).arrAt_eq_of_covers 2 _ (by decide +kernel) fun t hf y => ?_
  obtain ⟨-, -, e2⟩ := index_at t
  blk_simp
  rw [after0_2]
  rw [eq_ix2 y]
  refine (leaves_at m c t ((flush0_2 t).mp hf) (y 1) (y 0)).trans (congrArg₂ (along _ _) (Fin.ext ?_) (Fin.ext ?_))
  · blk_simp [e2]
    rfl
  · blk_simp [e2]
    rfl

theorem reference (x : Mat 4096 1024) (y : Mat 4096 4096) :
    (fun i => along x y (i 1) (i 0) : Mat 4096 1024) = Cert.GwUpRefIdeal.Read.val_main_v7 (F := Ideal) x y := by
  funext i
  rw [GwUpRefIdeal.Read.val_main_v7_apply, GwUpRefIdeal.Read.val_main_v6_apply, GwUpRefIdeal.Read.val_main_v5_apply, GwUpRefIdeal.Read.val_main_v4_apply]
  exact (along_swap x y (i 1) (i 0)).symm.trans (Finset.sum_congr rfl fun k _ => congrArg₂ (· * ·)
    (congrArg y (funext fun a => by fin_cases a <;> rfl)) (congrArg x (funext fun a => by fin_cases a <;> rfl)))

end Cert.GwUpIdeal.Weight

end
-- ==== Proof.Weight.In.lean ====
/- The gradient of the projection into the mixers, laid out with the outputs first: what the accumulating product over
   the tokens leaves, as one sum over all the tokens. -/
module

public import proofs.«01_k».proof.Proof.Gen.GwInIdeal.Value
public import proofs.«01_k».proof.Proof.Gen.GwInRefIdeal.Read
public import proofs.«01_k».proof.Proof.Weight.Sum
public import Idealize.ShloMosaic.Lib.Pipeline.ValueKit

@[expose] public section

noncomputable section

namespace Cert.GwInIdeal.Weight

open Cert.Weight Cert.GwInIdeal Cert.GwInIdeal.Gen Idealize.ShloMosaic Idealize.ShloMosaic.TcCoe Idealize.SL.Sem

section
variable (c : Dev nD) (i : grid0.Coords) (a3 : Memref sig .tc .vmem S2048x512 .bf16) (h3 : a3.IsWhole) (a4 : Memref sig .tc .vmem S2048x2944 .bf16)
  (h4 : a4.IsWhole) (a5 : Memref sig .tc .vmem S2944x512 .bf16) (h5 : a5.IsWhole) (a6 : Memref sig .tc .vmem S512x2944 .f32) (h6 : a6.IsWhole)
  (x0 : Vec Ideal S2048x512 .bf16) (x1 : Vec Ideal S2048x2944 .bf16)

/-- The first half of the tokens: the accumulator is left at the product of the blocks. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S2048x512) zero2, View.ld_unit_zero (S := S2048x2944) zero2]

/-- The second half: the result is the accumulator with the product of the blocks added. -/
theorem second (hc0 : ¬cond0_0 i) (hc1 : cond0_1 i) (hc2 : cond0_2 i) (acc : Vec Ideal S512x2944 .f32) :
    out0_B_2 c i a3 h3 a4 h4 a5 h5 a6 h6 hc0 hc1 hc2 x0 x1 acc = k0_pay4 (k0_pay3 x0 x1 acc) := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero zero2]
  simp only [View.readAt_eq_ld, h3.read_unread, h4.read_unread, h6.read_unread, View.ld_unit_zero (S := S2048x512) zero2, View.ld_unit_zero (S := S2048x2944) zero2,
    View.ld_unit_zero (S := S512x2944) zero2, View.readCov_unit_zero (S := S512x2944) _ zero2]
end

/-- A block's result, entry by entry. -/
theorem block_at (x0 y0 : Vec Ideal S2048x512 .bf16) (x1 y1 : Vec Ideal S2048x2944 .bf16) (p : Fin 512) (q : Fin 2944) :
    k0_pay4 (k0_pay3 y0 y1 (k0_pay2 x0 x1)) (ix2 q p)
      = (∑ k : Fin 2048, x0 (ix2 k p) * x1 (ix2 k q)) + ∑ k : Fin 2048, y0 (ix2 k p) * y1 (ix2 k q) := by
  unfold k0_pay4 k0_pay3 k0_pay2 k0_pay1
  pointwise

variable (m : (l : Loc nD τ sig) → Buf (Elt Ideal) l) (c : Dev nD)

abbrev inX : Mat 4096 1024 := m ((c.tc : Thread nD τ).loc main_arg0)
abbrev inY : Mat 4096 5888 := m ((c.tc : Thread nD τ).loc main_arg1)

theorem index_at : ∀ t : Fin grid0.N, win0_0.index t = ![t.val % 2, t.val / 2 % 2] ∧ win0_1.index t = ![t.val % 2, t.val / 4]
    ∧ win0_2.index t = ![t.val / 4, t.val / 2 % 2] := by
  decide +kernel

/-- The columns of a point's blocks. -/
def colX (t : Fin cfg0.N) (n : Fin 512) : Fin 1024 := ⟨t.val / 2 % 2 * 512 + n.val, by omega⟩
def colY (t : Fin cfg0.N) (l : Fin 2944) : Fin 5888 := ⟨t.val / 4 * 2944 + l.val, by
  have : t.val < 8 := t.isLt
  omega⟩

theorem load_x (t : Fin cfg0.N) (h : Fin 2) (e : t.val % 2 = h.val) (s : Fin cfg0.N) (es : t.val / 2 % 2 = s.val / 2 % 2) (n : Fin 512) :
    Half h (inX m c) (iblk m c 0 t) (colX s n) n := fun k => by
  obtain ⟨e0, -, -⟩ := index_at t
  refine Eq.trans ?_ (congrFun (V_main_arg0 m c) _)
  unfold token colX
  simp only [← e, ← es]
  blk_ext [iblk, e0]

theorem load_y (t : Fin cfg0.N) (h : Fin 2) (e : t.val % 2 = h.val) (s : Fin cfg0.N) (es : t.val / 4 = s.val / 4) (l : Fin 2944) :
    Half h (inY m c) (iblk m c 1 t) (colY s l) l := fun k => by
  obtain ⟨-, e1, -⟩ := index_at t
  refine Eq.trans ?_ (congrFun (V_main_arg1 m c) _)
  unfold token colY
  simp only [← e, ← es]
  blk_ext [iblk, e1]

theorem after_first (t : Fin cfg0.N) (h : t.val % 2 = 0) : (outsAt0 m c t.val t.isLt).2 = k0_pay2 (iblk m c 0 t) (iblk m c 1 t) := by
  have h1 : ¬t.val % 2 = 1 := by omega
  rw [outsAt0_A m c t h h1 h1]
  dsimp only
  rw [first]

theorem after_second (t : Fin cfg0.N) (h : t.val % 2 = 1) : (outsAt0 m c t.val t.isLt).1
    = k0_pay4 (k0_pay3 (iblk m c 0 t) (iblk m c 1 t) (outsAt0 m c (t.val - 1) (Nat.lt_of_le_of_lt (Nat.sub_le _ _) t.isLt)).2) := by
  have h0 : ¬t.val % 2 = 0 := by omega
  rw [outsAt0_B m c t h0 h h]
  dsimp only
  rw [second]

/-- What the odd point of a pair leaves in the result's block. -/
theorem leaves_at (t : Fin cfg0.N) (h : t.val % 2 = 1) (n : Fin 512) (l : Fin 2944) :
    (outsAt0 m c t.val t.isLt).1 (ix2 l n) = along (inX m c) (inY m c) (colX t n) (colY t l) := by
  have hs := Nat.lt_of_le_of_lt (Nat.sub_le t.val 1) t.isLt
  have s0 : (t.val - 1) % 2 = 0 := by omega
  have sx : (t.val - 1) / 2 % 2 = t.val / 2 % 2 := by omega
  have sy : (t.val - 1) / 4 = t.val / 4 := by omega
  rw [after_second m c t h, after_first m c ⟨t.val - 1, hs⟩ s0, block_at]
  exact along_halves _ _ _ _ _ _ _ _ _ _ (load_x m c ⟨t.val - 1, hs⟩ 0 s0 t sx n) (load_y m c ⟨t.val - 1, hs⟩ 0 s0 t sy l)
    (load_x m c t 1 h t rfl n) (load_y m c t 1 h t rfl l)

theorem result : (dats m 0 c).arrAt 2 cfg0.N = (fun i => along (inX m c) (inY m c) (i 1) (i 0) : Mat 5888 1024) := by
  refine (dats m 0 c).arrAt_eq_of_covers 2 _ (by decide +kernel) fun t hf y => ?_
  obtain ⟨-, -, e2⟩ := index_at t
  blk_simp
  rw [after0_2]
  rw [eq_ix2 y]
  refine (leaves_at m c t ((flush0_2 t).mp hf) (y 1) (y 0)).trans (congrArg₂ (along _ _) (Fin.ext ?_) (Fin.ext ?_))
  · blk_simp [e2]
    rfl
  · blk_simp [e2]
    rfl

theorem reference (x : Mat 4096 1024) (y : Mat 4096 5888) :
    (fun i => along x y (i 1) (i 0) : Mat 5888 1024) = Cert.GwInRefIdeal.Read.val_main_v7 (F := Ideal) x y := by
  funext i
  rw [GwInRefIdeal.Read.val_main_v7_apply, GwInRefIdeal.Read.val_main_v6_apply, GwInRefIdeal.Read.val_main_v5_apply, GwInRefIdeal.Read.val_main_v4_apply]
  exact (along_swap x y (i 1) (i 0)).symm.trans (Finset.sum_congr rfl fun k _ => congrArg₂ (· * ·)
    (congrArg y (funext fun a => by fin_cases a <;> rfl)) (congrArg x (funext fun a => by fin_cases a <;> rfl)))

end Cert.GwInIdeal.Weight

end
-- ==== Proof.Weight.Out.lean ====
/- The gradient of a square weight, the output projection's or the gate's: what the accumulating product over the tokens leaves, as one sum over
   all the tokens. -/
module

public import proofs.«01_k».proof.Proof.Gen.GwOutIdeal.Value
public import proofs.«01_k».proof.Proof.Gen.GwOutRefIdeal.Read
public import proofs.«01_k».proof.Proof.Weight.Sum
public import Idealize.ShloMosaic.Lib.Pipeline.ValueKit

@[expose] public section

noncomputable section

namespace Cert.GwOutIdeal.Weight

open Cert.Weight Cert.GwOutIdeal Cert.GwOutIdeal.Gen Idealize.ShloMosaic Idealize.ShloMosaic.TcCoe Idealize.SL.Sem

section
variable (c : Dev nD) (i : grid0.Coords) (a3 : Memref sig .tc .vmem S2048x512 .bf16) (h3 : a3.IsWhole) (a4 : Memref sig .tc .vmem S2048x1024 .bf16)
  (h4 : a4.IsWhole) (a5 : Memref sig .tc .vmem S512x1024 .bf16) (h5 : a5.IsWhole) (a6 : Memref sig .tc .vmem S512x1024 .f32) (h6 : a6.IsWhole)
  (x0 : Vec Ideal S2048x512 .bf16) (x1 : Vec Ideal S2048x1024 .bf16)

/-- The first half of the tokens: the accumulator is left at the product of the blocks. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S2048x512) zero2, View.ld_unit_zero (S := S2048x1024) zero2]

/-- The second half: the result is the accumulator with the product of the blocks added. -/
theorem second (hc0 : ¬cond0_0 i) (hc1 : cond0_1 i) (hc2 : cond0_2 i) (acc : Vec Ideal S512x1024 .f32) :
    out0_B_2 c i a3 h3 a4 h4 a5 h5 a6 h6 hc0 hc1 hc2 x0 x1 acc = k0_pay4 (k0_pay3 x0 x1 acc) := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero zero2]
  simp only [View.readAt_eq_ld, h3.read_unread, h4.read_unread, h6.read_unread, View.ld_unit_zero (S := S2048x512) zero2, View.ld_unit_zero (S := S2048x1024) zero2,
    View.ld_unit_zero (S := S512x1024) zero2, View.readCov_unit_zero (S := S512x1024) _ zero2]
end

/-- A block's result, entry by entry. -/
theorem block_at (x0 y0 : Vec Ideal S2048x512 .bf16) (x1 y1 : Vec Ideal S2048x1024 .bf16) (p : Fin 512) (q : Fin 1024) :
    k0_pay4 (k0_pay3 y0 y1 (k0_pay2 x0 x1)) (ix2 p q)
      = (∑ k : Fin 2048, x0 (ix2 k p) * x1 (ix2 k q)) + ∑ k : Fin 2048, y0 (ix2 k p) * y1 (ix2 k q) := by
  unfold k0_pay4 k0_pay3 k0_pay2 k0_pay1
  pointwise

variable (m : (l : Loc nD τ sig) → Buf (Elt Ideal) l) (c : Dev nD)

abbrev inX : Mat 4096 1024 := m ((c.tc : Thread nD τ).loc main_arg0)
abbrev inY : Mat 4096 1024 := m ((c.tc : Thread nD τ).loc main_arg1)

theorem index_at : ∀ t : Fin grid0.N, win0_0.index t = ![t.val % 2, t.val / 2] ∧ win0_1.index t = ![t.val % 2, 0]
    ∧ win0_2.index t = ![t.val / 2, 0] := by
  decide +kernel

/-- The columns of a point's blocks. -/
def colX (t : Fin cfg0.N) (n : Fin 512) : Fin 1024 := ⟨t.val / 2 * 512 + n.val, by
  have : t.val < 4 := t.isLt
  omega⟩

theorem load_x (t : Fin cfg0.N) (h : Fin 2) (e : t.val % 2 = h.val) (s : Fin cfg0.N) (es : t.val / 2 = s.val / 2) (n : Fin 512) :
    Half h (inX m c) (iblk m c 0 t) (colX s n) n := fun k => by
  obtain ⟨e0, -, -⟩ := index_at t
  refine Eq.trans ?_ (congrFun (V_main_arg0 m c) _)
  unfold token colX
  simp only [← e, ← es]
  blk_ext [iblk, e0]

theorem load_y (t : Fin cfg0.N) (h : Fin 2) (e : t.val % 2 = h.val) (l : Fin 1024) :
    Half h (inY m c) (iblk m c 1 t) l l := fun k => by
  obtain ⟨-, e1, -⟩ := index_at t
  refine Eq.trans ?_ (congrFun (V_main_arg1 m c) _)
  unfold token
  simp only [← e]
  blk_ext [iblk, e1]

theorem after_first (t : Fin cfg0.N) (h : t.val % 2 = 0) : (outsAt0 m c t.val t.isLt).2 = k0_pay2 (iblk m c 0 t) (iblk m c 1 t) := by
  have h1 : ¬t.val % 2 = 1 := by omega
  rw [outsAt0_A m c t h h1 h1]
  dsimp only
  rw [first]

theorem after_second (t : Fin cfg0.N) (h : t.val % 2 = 1) : (outsAt0 m c t.val t.isLt).1
    = k0_pay4 (k0_pay3 (iblk m c 0 t) (iblk m c 1 t) (outsAt0 m c (t.val - 1) (Nat.lt_of_le_of_lt (Nat.sub_le _ _) t.isLt)).2) := by
  have h0 : ¬t.val % 2 = 0 := by omega
  rw [outsAt0_B m c t h0 h h]
  dsimp only
  rw [second]

/-- What the odd point of a pair leaves in the result's block. -/
theorem leaves_at (t : Fin cfg0.N) (h : t.val % 2 = 1) (n : Fin 512) (l : Fin 1024) :
    (outsAt0 m c t.val t.isLt).1 (ix2 n l) = along (inX m c) (inY m c) (colX t n) l := by
  have hs := Nat.lt_of_le_of_lt (Nat.sub_le t.val 1) t.isLt
  have s0 : (t.val - 1) % 2 = 0 := by omega
  have sd : (t.val - 1) / 2 = t.val / 2 := by omega
  rw [after_second m c t h, after_first m c ⟨t.val - 1, hs⟩ s0, block_at]
  exact along_halves _ _ _ _ _ _ _ _ _ _ (load_x m c ⟨t.val - 1, hs⟩ 0 s0 t sd n) (load_y m c ⟨t.val - 1, hs⟩ 0 s0 l) (load_x m c t 1 h t rfl n)
    (load_y m c t 1 h l)

theorem result : (dats m 0 c).arrAt 2 cfg0.N = (fun i => along (inX m c) (inY m c) (i 0) (i 1) : Mat 1024 1024) := by
  refine (dats m 0 c).arrAt_eq_of_covers 2 _ (by decide +kernel) fun t hf y => ?_
  obtain ⟨-, -, e2⟩ := index_at t
  blk_simp
  rw [after0_2]
  rw [eq_ix2 y]
  refine (leaves_at m c t ((flush0_2 t).mp hf) (y 0) (y 1)).trans (congrArg₂ (along _ _) (Fin.ext ?_) (Fin.ext ?_))
  · blk_simp [e2]
    rfl
  · blk_simp [e2]

theorem reference (x y : Mat 4096 1024) :
    (fun i => along x y (i 0) (i 1) : Mat 1024 1024) = Cert.GwOutRefIdeal.Read.val_main_v6 (F := Ideal) x y := by
  funext i
  rw [GwOutRefIdeal.Read.val_main_v6_apply, GwOutRefIdeal.Read.val_main_v5_apply, GwOutRefIdeal.Read.val_main_v4_apply]
  exact (along_swap x y (i 0) (i 1)).symm.trans (Finset.sum_congr rfl fun k _ => congrArg₂ (· * ·)
    (congrArg y (funext fun a => by fin_cases a <;> rfl)) (congrArg x (funext fun a => by fin_cases a <;> rfl)))

end Cert.GwOutIdeal.Weight

end
-- ==== Proof.Weight.Bna.lean ====
/- The gradient of the neighbourhood branch's weight, laid out with the outputs first: what the
   accumulating product over the tokens leaves, as one sum over all the tokens. -/
module

public import proofs.«01_k».proof.Proof.Gen.GwBnaIdeal.Value
public import proofs.«01_k».proof.Proof.Gen.GwBnaRefIdeal.Read
public import proofs.«01_k».proof.Proof.Weight.Sum
public import Idealize.ShloMosaic.Lib.Pipeline.ValueKit

@[expose] public section

noncomputable section

namespace Cert.GwBnaIdeal.Weight

open Cert.Weight Cert.GwBnaIdeal Cert.GwBnaIdeal.Gen Idealize.ShloMosaic Idealize.ShloMosaic.TcCoe Idealize.SL.Sem

section
variable (c : Dev nD) (i : grid0.Coords) (a3 : Memref sig .tc .vmem S2048x512 .bf16) (h3 : a3.IsWhole) (a4 : Memref sig .tc .vmem S2048x1024 .bf16)
  (h4 : a4.IsWhole) (a5 : Memref sig .tc .vmem S1024x512 .bf16) (h5 : a5.IsWhole) (a6 : Memref sig .tc .vmem S512x1024 .f32) (h6 : a6.IsWhole)
  (x0 : Vec Ideal S2048x512 .bf16) (x1 : Vec Ideal S2048x1024 .bf16)

/-- The first half of the tokens: the accumulator is left at the product of the blocks. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S2048x512) zero2, View.ld_unit_zero (S := S2048x1024) zero2]

/-- The second half: the result is the accumulator with the product of the blocks added. -/
theorem second (hc0 : ¬cond0_0 i) (hc1 : cond0_1 i) (hc2 : cond0_2 i) (acc : Vec Ideal S512x1024 .f32) :
    out0_B_2 c i a3 h3 a4 h4 a5 h5 a6 h6 hc0 hc1 hc2 x0 x1 acc = k0_pay4 (k0_pay3 x0 x1 acc) := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero zero2]
  simp only [View.readAt_eq_ld, h3.read_unread, h4.read_unread, h6.read_unread, View.ld_unit_zero (S := S2048x512) zero2, View.ld_unit_zero (S := S2048x1024) zero2,
    View.ld_unit_zero (S := S512x1024) zero2, View.readCov_unit_zero (S := S512x1024) _ zero2]
end

/-- A block's result, entry by entry. -/
theorem block_at (x0 y0 : Vec Ideal S2048x512 .bf16) (x1 y1 : Vec Ideal S2048x1024 .bf16) (p : Fin 512) (q : Fin 1024) :
    k0_pay4 (k0_pay3 y0 y1 (k0_pay2 x0 x1)) (ix2 q p)
      = (∑ k : Fin 2048, x0 (ix2 k p) * x1 (ix2 k q)) + ∑ k : Fin 2048, y0 (ix2 k p) * y1 (ix2 k q) := by
  unfold k0_pay4 k0_pay3 k0_pay2 k0_pay1
  pointwise

variable (m : (l : Loc nD τ sig) → Buf (Elt Ideal) l) (c : Dev nD)

abbrev inX : Mat 4096 512 := m ((c.tc : Thread nD τ).loc main_arg0)
abbrev inY : Mat 4096 1024 := m ((c.tc : Thread nD τ).loc main_arg1)

theorem index_at : ∀ t : Fin grid0.N, win0_0.index t = ![t.val, 0] ∧ win0_1.index t = ![t.val, 0] ∧ win0_2.index t = ![0, 0] := by
  decide +kernel

theorem half (t : Fin cfg0.N) : t.val % 2 = t.val := Nat.mod_eq_of_lt t.isLt

theorem load_x (t : Fin cfg0.N) (h : Fin 2) (e : t.val % 2 = h.val) (n : Fin 512) : Half h (inX m c) (iblk m c 0 t) n n := fun k => by
  obtain ⟨e0, -, -⟩ := index_at t
  refine Eq.trans ?_ (congrFun (V_main_arg0 m c) _)
  unfold token
  simp only [← e, half]
  blk_ext [iblk, e0]

theorem load_y (t : Fin cfg0.N) (h : Fin 2) (e : t.val % 2 = h.val) (l : Fin 1024) : Half h (inY m c) (iblk m c 1 t) l l := fun k => by
  obtain ⟨-, e1, -⟩ := index_at t
  refine Eq.trans ?_ (congrFun (V_main_arg1 m c) _)
  unfold token
  simp only [← e, half]
  blk_ext [iblk, e1]

theorem after_first (t : Fin cfg0.N) (h : t.val % 2 = 0) : (outsAt0 m c t.val t.isLt).2 = k0_pay2 (iblk m c 0 t) (iblk m c 1 t) := by
  have h1 : ¬t.val % 2 = 1 := by omega
  rw [outsAt0_A m c t h h1 h1]
  dsimp only
  rw [first]

theorem after_second (t : Fin cfg0.N) (h : t.val % 2 = 1) : (outsAt0 m c t.val t.isLt).1
    = k0_pay4 (k0_pay3 (iblk m c 0 t) (iblk m c 1 t) (outsAt0 m c (t.val - 1) (Nat.lt_of_le_of_lt (Nat.sub_le _ _) t.isLt)).2) := by
  have h0 : ¬t.val % 2 = 0 := by omega
  rw [outsAt0_B m c t h0 h h]
  dsimp only
  rw [second]

/-- What the second point leaves in the result. -/
theorem leaves_at (t : Fin cfg0.N) (h : t.val % 2 = 1) (n : Fin 512) (l : Fin 1024) :
    (outsAt0 m c t.val t.isLt).1 (ix2 l n) = along (inX m c) (inY m c) n l := by
  have hs := Nat.lt_of_le_of_lt (Nat.sub_le t.val 1) t.isLt
  have s0 : (t.val - 1) % 2 = 0 := by omega
  rw [after_second m c t h, after_first m c ⟨t.val - 1, hs⟩ s0, block_at]
  exact along_halves _ _ _ _ _ _ _ _ _ _ (load_x m c ⟨t.val - 1, hs⟩ 0 s0 n) (load_y m c ⟨t.val - 1, hs⟩ 0 s0 l) (load_x m c t 1 h n)
    (load_y m c t 1 h l)

theorem result : (dats m 0 c).arrAt 2 cfg0.N = (fun i => along (inX m c) (inY m c) (i 1) (i 0) : Mat 1024 512) := by
  refine (dats m 0 c).arrAt_eq_of_covers 2 _ (by decide +kernel) fun t hf y => ?_
  obtain ⟨-, -, e2⟩ := index_at t
  blk_simp
  rw [after0_2]
  rw [eq_ix2 y]
  refine (leaves_at m c t ((flush0_2 t).mp hf) (y 1) (y 0)).trans (congrArg₂ (along _ _) (Fin.ext ?_) (Fin.ext ?_))
  · blk_simp [e2]
  · blk_simp [e2]

theorem reference (x : Mat 4096 512) (y : Mat 4096 1024) :
    (fun i => along x y (i 1) (i 0) : Mat 1024 512) = Cert.GwBnaRefIdeal.Read.val_main_v7 (F := Ideal) x y := by
  funext i
  rw [GwBnaRefIdeal.Read.val_main_v7_apply, GwBnaRefIdeal.Read.val_main_v6_apply, GwBnaRefIdeal.Read.val_main_v5_apply, GwBnaRefIdeal.Read.val_main_v4_apply]
  exact (along_swap x y (i 1) (i 0)).symm.trans (Finset.sum_congr rfl fun k _ => congrArg₂ (· * ·)
    (congrArg y (funext fun a => by fin_cases a <;> rfl)) (congrArg x (funext fun a => by fin_cases a <;> rfl)))

end Cert.GwBnaIdeal.Weight

end
-- ==== Proof.Weight.Bd.lean ====
/- The gradient of the dilated branch's weight, or of the input embedding's projection, laid out with the outputs first: what the
   accumulating product over the tokens leaves, as one sum over all the tokens. -/
module

public import proofs.«01_k».proof.Proof.Gen.GwBdIdeal.Value
public import proofs.«01_k».proof.Proof.Gen.GwBdRefIdeal.Read
public import proofs.«01_k».proof.Proof.Weight.Sum
public import Idealize.ShloMosaic.Lib.Pipeline.ValueKit

@[expose] public section

noncomputable section

namespace Cert.GwBdIdeal.Weight

open Cert.Weight Cert.GwBdIdeal Cert.GwBdIdeal.Gen Idealize.ShloMosaic Idealize.ShloMosaic.TcCoe Idealize.SL.Sem

section
variable (c : Dev nD) (i : grid0.Coords) (a3 : Memref sig .tc .vmem S2048x256 .bf16) (h3 : a3.IsWhole) (a4 : Memref sig .tc .vmem S2048x1024 .bf16)
  (h4 : a4.IsWhole) (a5 : Memref sig .tc .vmem S1024x256 .bf16) (h5 : a5.IsWhole) (a6 : Memref sig .tc .vmem S256x1024 .f32) (h6 : a6.IsWhole)
  (x0 : Vec Ideal S2048x256 .bf16) (x1 : Vec Ideal S2048x1024 .bf16)

/-- The first half of the tokens: the accumulator is left at the product of the blocks. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S2048x256) zero2, View.ld_unit_zero (S := S2048x1024) zero2]

/-- The second half: the result is the accumulator with the product of the blocks added. -/
theorem second (hc0 : ¬cond0_0 i) (hc1 : cond0_1 i) (hc2 : cond0_2 i) (acc : Vec Ideal S256x1024 .f32) :
    out0_B_2 c i a3 h3 a4 h4 a5 h5 a6 h6 hc0 hc1 hc2 x0 x1 acc = k0_pay4 (k0_pay3 x0 x1 acc) := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero zero2]
  simp only [View.readAt_eq_ld, h3.read_unread, h4.read_unread, h6.read_unread, View.ld_unit_zero (S := S2048x256) zero2, View.ld_unit_zero (S := S2048x1024) zero2,
    View.ld_unit_zero (S := S256x1024) zero2, View.readCov_unit_zero (S := S256x1024) _ zero2]
end

/-- A block's result, entry by entry. -/
theorem block_at (x0 y0 : Vec Ideal S2048x256 .bf16) (x1 y1 : Vec Ideal S2048x1024 .bf16) (p : Fin 256) (q : Fin 1024) :
    k0_pay4 (k0_pay3 y0 y1 (k0_pay2 x0 x1)) (ix2 q p)
      = (∑ k : Fin 2048, x0 (ix2 k p) * x1 (ix2 k q)) + ∑ k : Fin 2048, y0 (ix2 k p) * y1 (ix2 k q) := by
  unfold k0_pay4 k0_pay3 k0_pay2 k0_pay1
  pointwise

variable (m : (l : Loc nD τ sig) → Buf (Elt Ideal) l) (c : Dev nD)

abbrev inX : Mat 4096 256 := m ((c.tc : Thread nD τ).loc main_arg0)
abbrev inY : Mat 4096 1024 := m ((c.tc : Thread nD τ).loc main_arg1)

theorem index_at : ∀ t : Fin grid0.N, win0_0.index t = ![t.val, 0] ∧ win0_1.index t = ![t.val, 0] ∧ win0_2.index t = ![0, 0] := by
  decide +kernel

theorem half (t : Fin cfg0.N) : t.val % 2 = t.val := Nat.mod_eq_of_lt t.isLt

theorem load_x (t : Fin cfg0.N) (h : Fin 2) (e : t.val % 2 = h.val) (n : Fin 256) : Half h (inX m c) (iblk m c 0 t) n n := fun k => by
  obtain ⟨e0, -, -⟩ := index_at t
  refine Eq.trans ?_ (congrFun (V_main_arg0 m c) _)
  unfold token
  simp only [← e, half]
  blk_ext [iblk, e0]

theorem load_y (t : Fin cfg0.N) (h : Fin 2) (e : t.val % 2 = h.val) (l : Fin 1024) : Half h (inY m c) (iblk m c 1 t) l l := fun k => by
  obtain ⟨-, e1, -⟩ := index_at t
  refine Eq.trans ?_ (congrFun (V_main_arg1 m c) _)
  unfold token
  simp only [← e, half]
  blk_ext [iblk, e1]

theorem after_first (t : Fin cfg0.N) (h : t.val % 2 = 0) : (outsAt0 m c t.val t.isLt).2 = k0_pay2 (iblk m c 0 t) (iblk m c 1 t) := by
  have h1 : ¬t.val % 2 = 1 := by omega
  rw [outsAt0_A m c t h h1 h1]
  dsimp only
  rw [first]

theorem after_second (t : Fin cfg0.N) (h : t.val % 2 = 1) : (outsAt0 m c t.val t.isLt).1
    = k0_pay4 (k0_pay3 (iblk m c 0 t) (iblk m c 1 t) (outsAt0 m c (t.val - 1) (Nat.lt_of_le_of_lt (Nat.sub_le _ _) t.isLt)).2) := by
  have h0 : ¬t.val % 2 = 0 := by omega
  rw [outsAt0_B m c t h0 h h]
  dsimp only
  rw [second]

/-- What the second point leaves in the result. -/
theorem leaves_at (t : Fin cfg0.N) (h : t.val % 2 = 1) (n : Fin 256) (l : Fin 1024) :
    (outsAt0 m c t.val t.isLt).1 (ix2 l n) = along (inX m c) (inY m c) n l := by
  have hs := Nat.lt_of_le_of_lt (Nat.sub_le t.val 1) t.isLt
  have s0 : (t.val - 1) % 2 = 0 := by omega
  rw [after_second m c t h, after_first m c ⟨t.val - 1, hs⟩ s0, block_at]
  exact along_halves _ _ _ _ _ _ _ _ _ _ (load_x m c ⟨t.val - 1, hs⟩ 0 s0 n) (load_y m c ⟨t.val - 1, hs⟩ 0 s0 l) (load_x m c t 1 h n)
    (load_y m c t 1 h l)

theorem result : (dats m 0 c).arrAt 2 cfg0.N = (fun i => along (inX m c) (inY m c) (i 1) (i 0) : Mat 1024 256) := by
  refine (dats m 0 c).arrAt_eq_of_covers 2 _ (by decide +kernel) fun t hf y => ?_
  obtain ⟨-, -, e2⟩ := index_at t
  blk_simp
  rw [after0_2]
  rw [eq_ix2 y]
  refine (leaves_at m c t ((flush0_2 t).mp hf) (y 1) (y 0)).trans (congrArg₂ (along _ _) (Fin.ext ?_) (Fin.ext ?_))
  · blk_simp [e2]
  · blk_simp [e2]

theorem reference (x : Mat 4096 256) (y : Mat 4096 1024) :
    (fun i => along x y (i 1) (i 0) : Mat 1024 256) = Cert.GwBdRefIdeal.Read.val_main_v7 (F := Ideal) x y := by
  funext i
  rw [GwBdRefIdeal.Read.val_main_v7_apply, GwBdRefIdeal.Read.val_main_v6_apply, GwBdRefIdeal.Read.val_main_v5_apply, GwBdRefIdeal.Read.val_main_v4_apply]
  exact (along_swap x y (i 1) (i 0)).symm.trans (Finset.sum_congr rfl fun k _ => congrArg₂ (· * ·)
    (congrArg y (funext fun a => by fin_cases a <;> rfl)) (congrArg x (funext fun a => by fin_cases a <;> rfl)))

end Cert.GwBdIdeal.Weight

end
-- ==== Proof.Rms.Norm.lean ====
/- The normalisation of a row by its root mean square, and its gradient in the two forms it is computed in. -/
module

public import Idealize.ShloMosaic.Lib.Pointwise
public import Idealize.ShloMosaic.Lib.ValueIdx

@[expose] public section

noncomputable section

namespace Cert.Rms

open Idealize.ShloMosaic

/-- The length of a row, and the number added to its mean square. -/
abbrev len : EReal := Ideal.ofBits .f32 0x44800000#32
abbrev eps : EReal := Ideal.ofBits .f32 0x358637BD#32

theorem len_eq : len = ((1024 : ℝ) : EReal) := by
  simp [len, Ideal.ofBits, Ideal.ieee]
  rw [← EReal.coe_mul]
  norm_num

theorem eps_pos : (0 : EReal) < eps := by
  simp [eps, Ideal.ofBits, Ideal.ieee]
  rw [← EReal.coe_mul, ← EReal.coe_zero, EReal.coe_lt_coe_iff]
  positivity

theorem neg_half_eq : Ideal.ofBits .f32 0xBF000000#32 = ((-(1 / 2) : ℝ) : EReal) := by
  simp [Ideal.ofBits, Ideal.ieee]
  rw [← EReal.coe_mul]
  norm_num

/-- A row of the residual stream, its mean square and the number it is multiplied by. -/
abbrev Row : Type := Fin 1024 → EReal

def meanSq (h : Row) : EReal := Ideal.div (∑ k, h k * h k) len + eps
def scale (h : Row) : EReal := Ideal.rsqrt (meanSq h)

/-- The normalised row. -/
def norm (h g : Row) (q : Fin 1024) : EReal := h q * scale h * g q

/-- The gradient of a row from the gradient `z` of its normalised row, with the gradient `d` it already has, -/
def grad (z g h : Row) (d : EReal) (q : Fin 1024) : EReal :=
  d + scale h * (z q * g q - h q * scale h * Ideal.div (∑ k, z k * g k * (h k * scale h)) len)

/-- and as the chain rule gives it: through the entry itself, and twice through the mean square, -/
def slope (z g h : Row) : EReal :=
  Ideal.div ((∑ k, h k * (z k * g k)) * (Ideal.ofBits .f32 0xBF000000#32 * Ideal.div (scale h) (meanSq h))) len
def chain (z g h : Row) (d : EReal) (q : Fin 1024) : EReal :=
  d + (z q * g q * scale h + h q * slope z g h + slope z g h * h q)

theorem sum_mul_coe {ι : Type} (s : Finset ι) (f : ι → EReal) {r : ℝ} (hr : 0 ≤ r) : (∑ k ∈ s, f k) * (r : EReal) = ∑ k ∈ s, f k * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

theorem add_self (y : EReal) : y + y = y * ((2 : ℝ) : EReal) := by
  induction y with
  | bot => rw [EReal.bot_mul_coe_of_pos (by norm_num)]; rfl
  | top => rw [EReal.top_mul_coe_of_pos (by norm_num)]; rfl
  | coe y => rw [← EReal.coe_add, ← EReal.coe_mul, mul_two]

theorem meanSq_pos (h : Row) : 0 < meanSq h := by
  unfold meanSq
  rw [len_eq, Ideal.div_coe (by norm_num)]
  have hs : (0 : EReal) ≤ (∑ k, h k * h k) * ((1 / 1024 : ℝ) : EReal) := by
    refine mul_nonneg (Finset.sum_nonneg fun k _ => ?_) (by exact_mod_cast (by norm_num : (0 : ℝ) ≤ 1 / 1024))
    rcases le_total 0 (h k) with hk | hk
    · exact mul_nonneg hk hk
    · have := mul_nonneg (EReal.neg_nonneg.mpr hk) (EReal.neg_nonneg.mpr hk)
      rwa [neg_mul, mul_neg, neg_neg] at this
  calc (0 : EReal) < eps := eps_pos
    _ = 0 + eps := (zero_add _).symm
    _ ≤ _ := add_le_add_left hs _

/-- The two forms are one. -/
theorem grad_eq (z g h : Row) (d : EReal) (q : Fin 1024) : grad z g h d q = chain z g h d q := by
  unfold grad chain slope
  refine congrArg (d + ·) ?_
  have hp := meanSq_pos h
  unfold scale
  generalize meanSq h = v at hp
  rw [len_eq, neg_half_eq]
  simp only [Ideal.div_coe (show (1024 : ℝ) ≠ 0 by norm_num)]
  induction v with
  | bot => exact absurd hp (by simp)
  | top => simp [Ideal.div]
  | coe v =>
    have hv : 0 < v := by exact_mod_cast hp
    rw [Ideal.rsqrt_coe, if_neg hv.not_gt, if_neg hv.ne', Ideal.div_coe hv.ne']
    have hr : 0 < (Real.sqrt v)⁻¹ := inv_pos.mpr (Real.sqrt_pos.mpr hv)
    have hvr : 1 / v = (Real.sqrt v)⁻¹ * (Real.sqrt v)⁻¹ := by
      rw [← mul_inv, Real.mul_self_sqrt hv.le, one_div]
    rw [hvr]
    generalize (Real.sqrt v)⁻¹ = r at hr
    have e : (∑ k, z k * g k * (h k * (r : EReal))) = (∑ k, h k * (z k * g k)) * (r : EReal) := by
      rw [sum_mul_coe _ _ hr.le]
      exact Finset.sum_congr rfl fun k _ => by rw [← mul_assoc, mul_comm (z k * g k) (h k)]
    rw [e]
    generalize (∑ k, h k * (z k * g k)) = S
    rw [mul_comm _ (h q), add_assoc, add_self, sub_eq_add_neg,
      EReal.left_distrib_of_nonneg_of_ne_top (by exact_mod_cast hr.le) (EReal.coe_ne_top r), mul_comm (r : EReal) (z q * g q)]
    refine congrArg (z q * g q * (r : EReal) + ·) ?_
    have e1 : (r : EReal) * -(h q * r * (S * r * ((1 / 1024 : ℝ) : EReal))) = h q * S * ((-(r * r * r * (1 / 1024)) : ℝ) : EReal) := by
      rw [EReal.coe_neg, mul_neg, mul_neg]
      simp only [EReal.coe_mul]
      exact congrArg Neg.neg (by ac_rfl)
    have e2 : h q * (S * (((-(1 / 2) : ℝ) : EReal) * ((r : EReal) * ((r * r : ℝ) : EReal))) * ((1 / 1024 : ℝ) : EReal)) * ((2 : ℝ) : EReal)
        = h q * S * ((-(r * r * r * (1 / 1024)) : ℝ) : EReal) := by
      have : (-(r * r * r * (1 / 1024)) : ℝ) = -(1 / 2) * (r * (r * r)) * (1 / 1024) * 2 := by ring
      rw [this]
      simp only [EReal.coe_mul, mul_assoc]
    rw [e1, e2]

end Cert.Rms

end
-- ==== Proof.Rms.Product.lean ====
/- The gradient of a row of the residual stream behind a product of matrices, and the gradient of the normalisation's gains
   summed over the tokens. -/
module

public import proofs.«01_k».proof.Proof.Rms.Norm
public import Idealize.ShloMosaic.Lib.Pipeline.ValueKit

@[expose] public section

noncomputable section

namespace Cert.Rms

open Idealize.ShloMosaic

theorem zero2 : (![0, 0] : Fin 2 → ℕ) = fun _ => 0 := funext fun a => by fin_cases a <;> rfl

/-- A matrix of bfloat16 entries, and one of float32 entries, read over the reals. -/
abbrev Mat (r s : ℕ) : Type := Vec Ideal ⟨2, ![r, s]⟩ .bf16
abbrev Mat32 (r s : ℕ) : Type := Vec Ideal ⟨2, ![r, s]⟩ .f32

variable {a b n : ℕ}

/-- A row of a matrix, and a row of a product. -/
def row (x : Mat32 a 1024) (i : Fin a) : Row := fun q => x (ix2 i q)
def dot (x : Mat a n) (w : Mat n 1024) (i : Fin a) : Row := fun q => ∑ k : Fin n, x (ix2 i k) * w (ix2 k q)

theorem row_congr {x : Mat32 a 1024} {y : Mat32 b 1024} {i : Fin a} {j : Fin b} (h : ∀ q, x (ix2 i q) = y (ix2 j q)) : row x i = row y j :=
  funext h

theorem dot_congr {x : Mat a n} {y : Mat b n} {w v : Mat n 1024} {i : Fin a} {j : Fin b} (h : ∀ k, x (ix2 i k) = y (ix2 j k))
    (hw : ∀ k q, w (ix2 k q) = v (ix2 k q)) : dot x w i = dot y v j :=
  funext fun q => Finset.sum_congr rfl fun k _ => by rw [h k, hw k q]

/-- The gradient of the residual stream at a token: the product's row, back through the normalisation, with the gradient `d` added. -/
def back (x : Mat a n) (w : Mat n 1024) (h : Mat32 a 1024) (g : Mat32 1 1024) (d : Mat32 a 1024) (i : Fin a) (q : Fin 1024) : EReal :=
  grad (dot x w i) (row g 0) (row h i) (d (ix2 i q)) q

/-- A token's part of the gradient of the gains. -/
def gainAt (x : Mat a n) (w : Mat n 1024) (h : Mat32 a 1024) (i : Fin a) (q : Fin 1024) : EReal :=
  dot x w i q * (h (ix2 i q) * scale (row h i))

section
variable (x0 : Mat 512 n) (x1 : Mat n 1024) (x2 : Mat32 512 1024) (x3 : Mat32 1 1024) (x4 : Mat32 512 1024)

/-- A strip of 256 rows of a block, at row `o`. -/
abbrev stripX (o : ℕ) (inb : ∀ a, (![o, 0] : Fin 2 → ℕ) a + (![256, n] : Fin 2 → ℕ) a ≤ (⟨2, ![512, n]⟩ : Shape).size a) : Mat 256 n :=
  View.ld x0 (Rect.unit (s := ⟨2, ![512, n]⟩) ![o, 0] ![256, n] inb)
abbrev stripH (x : Mat32 512 1024) (o : ℕ) (inb : ∀ a, (![o, 0] : Fin 2 → ℕ) a + (![256, 1024] : Fin 2 → ℕ) a ≤ (⟨2, ![512, 1024]⟩ : Shape).size a) :
    Mat32 256 1024 :=
  View.ld x (Rect.unit (s := ⟨2, ![512, 1024]⟩) ![o, 0] ![256, 1024] inb)

/-- A strip holds the block's rows. -/
theorem stripX_at (o : ℕ) (inb) (p : Fin 256) (r : Fin 512) (h : r.val = o + p.val) (k : Fin n) : stripX x0 o inb (ix2 p k) = x0 (ix2 r k) :=
  View.ld_unit_apply_of _ _ _ _ _ _ fun a => by
    fin_cases a
    · exact h
    · exact (Nat.zero_add _).symm
theorem stripH_at (x : Mat32 512 1024) (o : ℕ) (inb) (p : Fin 256) (r : Fin 512) (h : r.val = o + p.val) (q : Fin 1024) :
    stripH x o inb (ix2 p q) = x (ix2 r q) :=
  View.ld_unit_apply_of _ _ _ _ _ _ fun a => by
    fin_cases a
    · exact h
    · exact (Nat.zero_add _).symm

theorem strip_back (o : ℕ) (inb inb') (p : Fin 256) (r : Fin 512) (h : r.val = o + p.val) (q : Fin 1024) :
    back (stripX x0 o inb) x1 (stripH x2 o inb') x3 (stripH x4 o inb') p q = back x0 x1 x2 x3 x4 r q := by
  unfold back
  rw [dot_congr (stripX_at x0 o inb p r h) (fun _ _ => rfl), row_congr (stripH_at x2 o inb' p r h), stripH_at x4 o inb' p r h]

theorem strip_gain (o : ℕ) (inb inb') (p : Fin 256) (r : Fin 512) (h : r.val = o + p.val) (q : Fin 1024) :
    gainAt (stripX x0 o inb) x1 (stripH x2 o inb') p q = gainAt x0 x1 x2 r q := by
  unfold gainAt
  rw [dot_congr (stripX_at x0 o inb p r h) (fun _ _ => rfl), row_congr (stripH_at x2 o inb' p r h), stripH_at x2 o inb' p r h]

/-- A block's part of the gradient of the gains. -/
def blockGain (q : Fin 1024) : EReal :=
  (∑ p : Fin 256, gainAt x0 x1 x2 (⟨p.val, by omega⟩ : Fin 512) q) + ∑ p : Fin 256, gainAt x0 x1 x2 (⟨256 + p.val, by omega⟩ : Fin 512) q
end

/-- A sum over the first `512 (t + 1)` tokens. -/
def upTo (f : Fin 4096 → EReal) (t : ℕ) : EReal := ∑ i : Fin 4096 with i.val < 512 * (t + 1), f i

theorem upTo_last (f : Fin 4096 → EReal) : upTo f 7 = ∑ i, f i := by
  unfold upTo
  exact congrArg (Finset.sum · f) (Finset.filter_true_of_mem fun i _ => i.isLt)

/-- A block's tokens, in two strips. -/
theorem block_sum (f : Fin 4096 → EReal) (t : ℕ) (ht : t < 8) :
    (∑ p : Fin 256, f ⟨512 * t + p.val, by omega⟩) + (∑ p : Fin 256, f ⟨512 * t + 256 + p.val, by omega⟩)
      = ∑ i : Fin 4096 with 512 * t ≤ i.val ∧ i.val < 512 * (t + 1), f i := by
  have e : (Finset.univ.filter fun i : Fin 4096 => 512 * t ≤ i.val ∧ i.val < 512 * (t + 1))
      = Finset.univ.image (fun p : Fin 256 => (⟨512 * t + p.val, by omega⟩ : Fin 4096))
        ∪ Finset.univ.image (fun p : Fin 256 => (⟨512 * t + 256 + p.val, by omega⟩ : Fin 4096)) := by
    ext i
    simp only [Finset.mem_filter, Finset.mem_univ, true_and, Finset.mem_union, Finset.mem_image, Fin.ext_iff]
    constructor
    · intro h
      by_cases hi : i.val < 512 * t + 256
      · exact .inl ⟨⟨i.val - 512 * t, by omega⟩, by dsimp only; omega⟩
      · exact .inr ⟨⟨i.val - (512 * t + 256), by omega⟩, by dsimp only; omega⟩
    · rintro (⟨p, hp⟩ | ⟨p, hp⟩) <;> omega
  rw [e, Finset.sum_union, Finset.sum_image, Finset.sum_image]
  · intro p _ r _ h
    have := congrArg Fin.val h
    exact Fin.ext (by dsimp only at this; omega)
  · intro p _ r _ h
    have := congrArg Fin.val h
    exact Fin.ext (by dsimp only at this; omega)
  · rw [Finset.disjoint_left]
    intro i hi hj
    simp only [Finset.mem_image, Finset.mem_univ, true_and, Fin.ext_iff] at hi hj
    obtain ⟨p, hp⟩ := hi
    obtain ⟨r, hr⟩ := hj
    omega

theorem upTo_zero (f : Fin 4096 → EReal) : upTo f 0 = ∑ i : Fin 4096 with 512 * 0 ≤ i.val ∧ i.val < 512 * (0 + 1), f i :=
  congrArg (Finset.sum · f) (Finset.filter_congr fun i _ => by omega)

theorem upTo_succ (f : Fin 4096 → EReal) (t : ℕ) :
    upTo f (t + 1) = upTo f t + ∑ i : Fin 4096 with 512 * (t + 1) ≤ i.val ∧ i.val < 512 * (t + 1 + 1), f i := by
  unfold upTo
  rw [← Finset.sum_union]
  · refine congrArg (Finset.sum · f) ?_
    ext i
    simp only [Finset.mem_filter, Finset.mem_univ, true_and, Finset.mem_union]
    omega
  · rw [Finset.disjoint_left]
    intro i hi hj
    simp only [Finset.mem_filter, Finset.mem_univ, true_and] at hi hj
    omega

end Cert.Rms

end
-- ==== Proof.Rms.Out.lean ====
/- The residual stream after the mixers' output product, and its normalised rows, entry by entry. -/
module

public import proofs.«01_k».proof.Proof.Gen.OutIdeal.Value
public import proofs.«01_k».proof.Proof.Gen.OutRefIdeal.Read
public import proofs.«01_k».proof.Proof.Rms.Product
public import Idealize.ShloMosaic.Lib.Pipeline.ValueKit

@[expose] public section

noncomputable section

namespace Cert.OutIdeal.Rms

open Cert.Rms Cert.OutIdeal Cert.OutIdeal.Gen Idealize.ShloMosaic Idealize.ShloMosaic.TcCoe Idealize.SL.Sem

/-- A token's row of the residual stream with the product added, and the row normalised. -/
def stream {a : ℕ} (x : Mat a 1024) (w : Mat 1024 1024) (h : Mat32 a 1024) (i : Fin a) : Row := fun q => h (ix2 i q) + dot x w i q
def normed {a : ℕ} (x : Mat a 1024) (w : Mat 1024 1024) (h : Mat32 a 1024) (g : Mat32 1 1024) (i : Fin a) (q : Fin 1024) : EReal :=
  Cert.Rms.norm (stream x w h i) (row g 0) q

theorem stream_congr {a b : ℕ} {x : Mat a 1024} {y : Mat b 1024} {w v : Mat 1024 1024} {h : Mat32 a 1024} {k : Mat32 b 1024} {i : Fin a} {j : Fin b}
    (hx : ∀ r, x (ix2 i r) = y (ix2 j r)) (hw : ∀ r q, w (ix2 r q) = v (ix2 r q)) (hh : ∀ q, h (ix2 i q) = k (ix2 j q)) :
    stream x w h i = stream y v k j :=
  funext fun q => congrArg₂ (· + ·) (hh q) (congrFun (dot_congr hx hw) q)

section
variable (v0 : Vec Ideal S256x1024 .bf16) (v1 : Vec Ideal S1024x1024 .bf16) (v3 : Vec Ideal S256x1024 .f32) (v4 : Vec Ideal S1x1024 .f32) (p : Fin 256)
  (q : Fin 1024)

theorem stream_at : k0_pay2 v0 v1 v3 (ix2 p q) = stream v0 v1 v3 p q := by
  unfold k0_pay2 stream dot
  pointwise

theorem normed_at : k0_pay3 v0 v1 v3 v4 (ix2 p q) = normed v0 v1 v3 v4 p q := by
  unfold k0_pay3 k0_pay2 normed Cert.Rms.norm scale meanSq stream row dot
  pointwise

/-- The second strip has the first one's terms. -/
theorem normed_again : k0_pay1 v4 (k0_pay4 v0 v1 v3) (k0_pay5 v0 v1 v3) = k0_pay3 v0 v1 v3 v4 := rfl
end

section
variable (x0 : Vec Ideal S512x1024 .bf16) (x1 : Vec Ideal S1024x1024 .bf16) (x2 : Vec Ideal S512x1024 .f32) (x3 : Vec Ideal S1x1024 .f32)

theorem strip_stream (o : ℕ) (inb inb') (p : Fin 256) (r : Fin 512) (h : r.val = o + p.val) :
    stream (stripX x0 o inb) x1 (stripH x2 o inb') p = stream x0 x1 x2 r :=
  stream_congr (stripX_at x0 o inb p r h) (fun _ _ => rfl) (stripH_at x2 o inb' p r h)

theorem out_stream (y : S512x1024.Idx) : out0_4 x0 x1 x2 x3 y = stream x0 x1 x2 (y 0) (y 1) := by
  unfold out0_4 k0_pay6
  refine View.canon_eq_of_allAt _ _ _ (cover0_4 _ _ y) (View.allAt_cons_unit _ _ _ _ _ (fun x hx => ?_)
    (View.allAt_cons_unit _ _ _ _ _ (fun x hx => ?_) (View.allAt_nil _ _)))
  all_goals
    have e : x 1 = y 1 := Fin.ext ((Nat.zero_add _).symm.trans (hx 1).symm)
    rw [eq_ix2 x, View.ld_unit_zero (S := S1024x1024) zero2]
    exact (stream_at _ _ _ _ _).trans ((congrFun (strip_stream x0 x1 x2 _ _ _ (x 0) (y 0) (hx 0)) (x 1)).trans (congrArg (stream x0 x1 x2 (y 0)) e))

theorem out_normed (y : S512x1024.Idx) : out0_5 x0 x1 x2 x3 y = normed x0 x1 x2 x3 (y 0) (y 1) := by
  unfold out0_5 k0_pay6
  refine View.canon_eq_of_allAt _ _ _ (cover0_5 _ _ y) (View.allAt_cons_unit _ _ _ _ _ (fun x hx => ?_)
    (View.allAt_cons_unit _ _ _ _ _ (fun x hx => ?_) (View.allAt_nil _ _)))
  all_goals
    have e : x 1 = y 1 := Fin.ext ((Nat.zero_add _).symm.trans (hx 1).symm)
    rw [eq_ix2 x, View.ld_unit_zero (S := S1024x1024) zero2, View.ld_unit_zero (S := S1x1024) zero2]
    exact (normed_at _ _ _ _ _ _).trans ((congrArg (Cert.Rms.norm · (row x3 0) (x 1)) (strip_stream x0 x1 x2 _ _ _ (x 0) (y 0) (hx 0))).trans
      (congrArg (normed x0 x1 x2 x3 (y 0)) e))
end

variable (m : (l : Loc nD τ sig) → Buf (Elt Ideal) l) (c : Dev nD)

abbrev inX : Mat 4096 1024 := m ((c.tc : Thread nD τ).loc main_arg0)
abbrev inW : Mat 1024 1024 := m ((c.tc : Thread nD τ).loc main_arg1)
abbrev inH : Mat32 4096 1024 := m ((c.tc : Thread nD τ).loc main_arg2)
abbrev inG : Mat32 1 1024 := m ((c.tc : Thread nD τ).loc main_arg3)

theorem index_at : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] := by
  decide +kernel

/-- A row of a point's block. -/
def rowOf (t : Fin cfg0.N) (p : Fin 512) : Fin 4096 := ⟨t.val * 512 + p.val, by
  have : t.val < 8 := t.isLt
  omega⟩

/-- A point's block holds the point's rows. -/
theorem block_stream (t : Fin cfg0.N) (p : Fin 512) :
    stream (iblk m c 0 t : Mat 512 1024) (iblk m c 1 t) (iblk m c 2 t) p = stream (inX m c) (inW m c) (inH m c) (rowOf t p) := by
  obtain ⟨e0, e1, e2, -⟩ := index_at t
  refine stream_congr (fun k => Eq.trans ?_ (congrFun (V_main_arg0 m c) _)) (fun k q => Eq.trans ?_ (congrFun (V_main_arg1 m c) _))
    (fun q => Eq.trans ?_ (congrFun (V_main_arg2 m c) _))
  · unfold rowOf
    blk_ext [iblk, e0]
  · blk_ext [iblk, e1]
  · unfold rowOf
    blk_ext [iblk, e2]

theorem block_normed (t : Fin cfg0.N) (p : Fin 512) (q : Fin 1024) :
    normed (iblk m c 0 t : Mat 512 1024) (iblk m c 1 t) (iblk m c 2 t) (iblk m c 3 t) p q
      = normed (inX m c) (inW m c) (inH m c) (inG m c) (rowOf t p) q := by
  obtain ⟨-, -, -, e3, -⟩ := index_at t
  unfold normed
  rw [block_stream]
  refine congrArg (Cert.Rms.norm _ · q) (row_congr fun q => Eq.trans ?_ (congrFun (V_main_arg3 m c) _))
  blk_ext [iblk, e3]

theorem result_stream : (dats m 0 c).arrAt 4 cfg0.N = (fun i => stream (inX m c) (inW m c) (inH m c) (i 0) (i 1) : Mat32 4096 1024) := by
  refine (dats m 0 c).arrAt_eq_of_covers 4 _ (by decide +kernel) fun t hf y => ?_
  obtain ⟨-, -, -, -, e, -⟩ := index_at t
  blk_simp
  rw [after0_4]
  refine (out_stream _ _ _ _ y).trans ((congrFun (block_stream m c t _) _).trans (congrArg₂ (stream _ _ _) (Fin.ext ?_) (Fin.ext ?_)))
  · blk_simp [e]
    rfl
  · blk_simp [e]

theorem result_normed : (dats m 0 c).arrAt 5 cfg0.N = (fun i => normed (inX m c) (inW m c) (inH m c) (inG m c) (i 0) (i 1) : Mat 4096 1024) := by
  refine (dats m 0 c).arrAt_eq_of_covers 5 _ (by decide +kernel) fun t hf y => ?_
  obtain ⟨-, -, -, -, -, e⟩ := index_at t
  blk_simp
  rw [after0_5]
  refine (out_normed _ _ _ _ y).trans ((block_normed m c t _ _).trans (congrArg₂ (normed _ _ _ _) (Fin.ext ?_) (Fin.ext ?_)))
  · blk_simp [e]
    rfl
  · blk_simp [e]

section
variable (x : Mat 4096 1024) (w : Mat 1024 1024) (h : Mat32 4096 1024) (g : Mat32 1 1024)

open Cert.OutRefIdeal.Read

/-- The reference's results are those arrays. -/
theorem reference_stream : val_main_v3 (F := Ideal) x w h = fun i => stream x w h (i 0) (i 1) := by
  funext i
  rw [val_main_v3_apply, val_main_v2_apply]
  refine congrArg₂ (· + ·) (congrArg h (funext fun a => by fin_cases a <;> rfl)) (Finset.sum_congr rfl fun k _ => ?_)
  exact congrArg₂ (· * ·) (congrArg x (funext fun a => by fin_cases a <;> rfl)) (congrArg w (funext fun a => by fin_cases a <;> rfl))

theorem scale_ref (i : OutRefIdeal.S4096x1.Idx) : val_main_v11 (F := Ideal) x w h i = scale (stream x w h (i 0)) := by
  rw [val_main_v11_apply, val_main_v10_apply, val_main_v8_apply, val_main_v6_apply, val_main_v5_apply, val_main_v7_apply, val_main_v9_apply]
  refine congrArg (fun s => Ideal.rsqrt (Ideal.div s len + eps))
    ((congrArg (· + _) Ideal.ofBits_zero_f32).trans ((zero_add _).trans (Finset.sum_congr rfl fun k _ => ?_)))
  rw [val_main_v4_apply, reference_stream]
  rfl

theorem reference_normed : val_main_v16 (F := Ideal) x w h g = fun i => normed x w h g (i 0) (i 1) := by
  funext i
  rw [val_main_v16_apply, val_main_v15_apply, val_main_v13_apply, val_main_v12_apply, scale_ref, reference_stream, val_main_v14_apply]
  exact congrArg (stream x w h (i 0) (i 1) * scale (stream x w h (i 0)) * ·) (congrArg g (funext fun a => by fin_cases a <;> rfl))

end

end Cert.OutIdeal.Rms

end
-- ==== Proof.Rms.Dc.lean ====
/- The gradient of the residual stream before the MLP, and of the gains of its normalisation, entry by entry. -/
module

public import proofs.«01_k».proof.Proof.Gen.DcIdeal.Value
public import proofs.«01_k».proof.Proof.Gen.DcRefIdeal.Read
public import proofs.«01_k».proof.Proof.Rms.Product
public import Idealize.ShloMosaic.Lib.Pipeline.ValueKit

@[expose] public section

noncomputable section

namespace Cert.DcIdeal.Rms

open Cert.Rms Cert.DcIdeal Cert.DcIdeal.Gen Idealize.ShloMosaic Idealize.ShloMosaic.TcCoe Idealize.SL.Sem

theorem back_at (v0 : Vec Ideal S256x4096 .bf16) (v1 : Vec Ideal S4096x1024 .bf16) (v3 : Vec Ideal S256x1024 .f32) (v4 : Vec Ideal S1x1024 .f32)
    (v5 : Vec Ideal S256x1024 .f32) (p : Fin 256) (q : Fin 1024) : k0_pay5 v0 v1 v3 v4 v5 (ix2 p q) = back v0 v1 v3 v4 v5 p q := by
  unfold k0_pay5 k0_pay4 k0_pay3 k0_pay2 back grad scale meanSq row dot
  pointwise

/-- A strip's part of the gradient of the gains, -/
theorem gain_at (v0 : Vec Ideal S256x4096 .bf16) (v1 : Vec Ideal S4096x1024 .bf16) (v3 : Vec Ideal S256x1024 .f32) (q : Fin 1024) :
    k0_pay6 v0 v1 v3 (ix2 0 q) = ∑ p : Fin 256, gainAt v0 v1 v3 p q := by
  unfold k0_pay6 k0_pay4 k0_pay3 k0_pay2 gainAt scale meanSq row dot
  pointwise

/-- and a block's. -/
theorem gains_at (v31 : FVec Ideal S1x1024 .f32) (v0 : Vec Ideal S256x4096 .bf16) (v1 : Vec Ideal S4096x1024 .bf16) (v3 : Vec Ideal S256x1024 .f32)
    (q : Fin 1024) : k0_pay13 v31 v0 v1 v3 (ix2 0 q) = v31 (ix2 0 q) + k0_pay6 v0 v1 v3 (ix2 0 q) := rfl

theorem shifted (v acc : FVec Ideal S1x1024 .f32) (q : Fin 1024) : k0_pay1 v acc (ix2 0 q) = acc (ix2 0 q) + v (ix2 0 q) := by
  unfold k0_pay1
  pointwise

section
variable (x0 : Vec Ideal S512x4096 .bf16) (x1 : Vec Ideal S4096x1024 .bf16) (x2 : Vec Ideal S512x1024 .f32) (x3 : Vec Ideal S1x1024 .f32)
  (x4 : Vec Ideal S512x1024 .f32)

/-- The two stores of a block of the gradient, and what they leave. -/
def stores (φ : EltTy) (f : Vec Ideal S256x4096 .bf16 → Vec Ideal S256x1024 .f32 → Vec Ideal S256x1024 .f32 → Vec Ideal S256x1024 φ) :
    List (View.Piece (Elt Ideal) S512x1024 φ) :=
  [⟨Rect.unit (s := S512x1024) ![256, 0] S256x1024.size inb_S512x1024_S256x1024_256_0, f (stripX x0 256 inb_S512x4096_S256x4096_256_0)
      (stripH x2 256 inb_S512x1024_S256x1024_256_0) (stripH x4 256 inb_S512x1024_S256x1024_256_0)⟩,
    ⟨Rect.unit (s := S512x1024) ![0, 0] S256x1024.size inb_S512x1024_S256x1024_0_0, f (stripX x0 0 inb_S512x4096_S256x4096_0_0)
      (stripH x2 0 inb_S512x1024_S256x1024_0_0) (stripH x4 0 inb_S512x1024_S256x1024_0_0)⟩]

theorem stored (y : S512x1024.Idx) : View.canon (stores x0 x2 x4 .f32 fun u h d => k0_pay5 u x1 h x3 d) y = back x0 x1 x2 x3 x4 (y 0) (y 1) := by
  refine View.canon_eq_of_allAt _ _ _ (View.cover_of_tiledL (stores x0 x2 x4 .f32 fun u h d => k0_pay5 u x1 h x3 d) S256x1024.size (by sl_kernel_rfl) y) (View.allAt_cons_unit _ _ _ _ _ (fun x hx => ?_)
    (View.allAt_cons_unit _ _ _ _ _ (fun x hx => ?_) (View.allAt_nil _ _)))
  · have e : x 1 = y 1 := Fin.ext ((Nat.zero_add _).symm.trans (hx 1).symm)
    rw [eq_ix2 x]
    exact (back_at _ _ _ _ _ _ _).trans ((strip_back x0 x1 x2 x3 x4 256 _ _ (x 0) (y 0) (hx 0) (x 1)).trans (congrArg (back x0 x1 x2 x3 x4 (y 0)) e))
  · have e : x 1 = y 1 := Fin.ext ((Nat.zero_add _).symm.trans (hx 1).symm)
    rw [eq_ix2 x]
    exact (back_at _ _ _ _ _ _ _).trans ((strip_back x0 x1 x2 x3 x4 0 _ _ (x 0) (y 0) (hx 0) (x 1)).trans (congrArg (back x0 x1 x2 x3 x4 (y 0)) e))

theorem block_gain (q : Fin 1024) :
    k0_pay13 (k0_pay6 (stripX x0 0 inb_S512x4096_S256x4096_0_0) x1 (stripH x2 0 inb_S512x1024_S256x1024_0_0))
      (stripX x0 256 inb_S512x4096_S256x4096_256_0) x1 (stripH x2 256 inb_S512x1024_S256x1024_256_0) (ix2 0 q) = blockGain x0 x1 x2 q := by
  rw [gains_at, gain_at, gain_at]
  exact congrArg₂ (· + ·) (Finset.sum_congr rfl fun p _ => strip_gain x0 x1 x2 0 _ _ p _ (Nat.zero_add _).symm q)
    (Finset.sum_congr rfl fun p _ => strip_gain x0 x1 x2 256 _ _ p _ rfl q)
end

section
variable (c : Dev nD) (i : grid0.Coords) (a3 : Memref sig .tc .vmem S512x4096 .bf16) (h3 : a3.IsWhole) (a4 : Memref sig .tc .vmem S4096x1024 .bf16)
  (h4 : a4.IsWhole) (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .f32) (h8 : a8.IsWhole)
  (a9 : Memref sig .tc .vmem S512x1024 .bf16) (h9 : a9.IsWhole) (a10 : Memref sig .tc .vmem S1x1024 .f32) (h10 : a10.IsWhole)
  (x0 : Vec Ideal S512x4096 .bf16) (x1 : Vec Ideal S4096x1024 .bf16) (x2 : Vec Ideal S512x1024 .f32) (x3 : Vec Ideal S1x1024 .f32)
  (x4 : Vec Ideal S512x1024 .f32)

theorem back_A (hc0 : cond0_0 i) (hc1 : ¬cond0_1 i) (y : S512x1024.Idx) :
    out0_A_5 c i a3 h3 a4 h4 a5 h5 a6 h6 a7 h7 a8 h8 a9 h9 a10 h10 hc0 hc1 x0 x1 x2 x3 x4 y = back x0 x1 x2 x3 x4 (y 0) (y 1) := by
  unfold out0_A_5
  rw [View.read_writes_eq_canon _ _ _ (cover0_A_5 c i a3 h3 a4 h4 a5 h5 a6 h6 a7 h7 a8 h8 a9 h9 a10 h10 hc0 hc1 x0 x1 x2 x3 x4)]
  unfold kernelRun0_A
  dsimp only
  sl_unfold_words
  simp only [View.readAt_eq_ld, h3.read_unread, h4.read_unread, h5.read_unread, h6.read_unread, h7.read_unread,
    View.ld_unit_zero (S := S4096x1024) zero2, View.ld_unit_zero (S := S1x1024) zero2]
  exact stored x0 x1 x2 x3 x4 y

theorem copy_A (hc0 : cond0_0 i) (hc1 : ¬cond0_1 i) (y : S512x1024.Idx) :
    out0_A_6 c i a3 h3 a4 h4 a5 h5 a6 h6 a7 h7 a8 h8 a9 h9 a10 h10 hc0 hc1 x0 x1 x2 x3 x4 y = back x0 x1 x2 x3 x4 (y 0) (y 1) := by
  unfold out0_A_6
  rw [View.read_writes_eq_canon _ _ _ (cover0_A_6 c i a3 h3 a4 h4 a5 h5 a6 h6 a7 h7 a8 h8 a9 h9 a10 h10 hc0 hc1 x0 x1 x2 x3 x4)]
  unfold kernelRun0_A
  dsimp only
  sl_unfold_words
  simp only [View.readAt_eq_ld, h3.read_unread, h4.read_unread, h5.read_unread, h6.read_unread, h7.read_unread,
    View.ld_unit_zero (S := S4096x1024) zero2, View.ld_unit_zero (S := S1x1024) zero2]
  exact stored x0 x1 x2 x3 x4 y

theorem back_B (hc0 : ¬cond0_0 i) (hc1 : cond0_1 i) (acc : Vec Ideal S1x1024 .f32) (y : S512x1024.Idx) :
    out0_B_5 c i a3 h3 a4 h4 a5 h5 a6 h6 a7 h7 a8 h8 a9 h9 a10 h10 hc0 hc1 x0 x1 x2 x3 x4 acc y = back x0 x1 x2 x3 x4 (y 0) (y 1) := by
  unfold out0_B_5
  rw [View.read_writes_eq_canon _ _ _ (cover0_B_5 c i a3 h3 a4 h4 a5 h5 a6 h6 a7 h7 a8 h8 a9 h9 a10 h10 hc0 hc1 x0 x1 x2 x3 x4 acc)]
  unfold kernelRun0_B
  dsimp only
  sl_unfold_words
  simp only [View.readAt_eq_ld, h3.read_unread, h4.read_unread, h5.read_unread, h6.read_unread, h7.read_unread,
    View.ld_unit_zero (S := S4096x1024) zero2, View.ld_unit_zero (S := S1x1024) zero2]
  exact stored x0 x1 x2 x3 x4 y

theorem copy_B (hc0 : ¬cond0_0 i) (hc1 : cond0_1 i) (acc : Vec Ideal S1x1024 .f32) (y : S512x1024.Idx) :
    out0_B_6 c i a3 h3 a4 h4 a5 h5 a6 h6 a7 h7 a8 h8 a9 h9 a10 h10 hc0 hc1 x0 x1 x2 x3 x4 acc y = back x0 x1 x2 x3 x4 (y 0) (y 1) := by
  unfold out0_B_6
  rw [View.read_writes_eq_canon _ _ _ (cover0_B_6 c i a3 h3 a4 h4 a5 h5 a6 h6 a7 h7 a8 h8 a9 h9 a10 h10 hc0 hc1 x0 x1 x2 x3 x4 acc)]
  unfold kernelRun0_B
  dsimp only
  sl_unfold_words
  simp only [View.readAt_eq_ld, h3.read_unread, h4.read_unread, h5.read_unread, h6.read_unread, h7.read_unread,
    View.ld_unit_zero (S := S4096x1024) zero2, View.ld_unit_zero (S := S1x1024) zero2]
  exact stored x0 x1 x2 x3 x4 y

theorem gain_A (hc0 : cond0_0 i) (hc1 : ¬cond0_1 i) (q : Fin 1024) :
    out0_A_7 c i a3 h3 a4 h4 a5 h5 a6 h6 a7 h7 a8 h8 a9 h9 a10 h10 hc0 hc1 x0 x1 x2 x3 x4 (ix2 0 q) = blockGain x0 x1 x2 q := by
  unfold out0_A_7
  rw [View.read_writes_eq_canon _ _ _ (cover0_A_7 c i a3 h3 a4 h4 a5 h5 a6 h6 a7 h7 a8 h8 a9 h9 a10 h10 hc0 hc1 x0 x1 x2 x3 x4)]
  unfold kernelRun0_A
  dsimp only
  sl_unfold_words
  simp only [View.readAt_eq_ld, h3.read_unread, h4.read_unread, h5.read_unread, h6.read_unread, h7.read_unread,
    View.ld_unit_zero (S := S4096x1024) zero2, View.ld_unit_zero (S := S1x1024) zero2]
  rw [View.canon_unit_zero zero2]
  exact block_gain x0 x1 x2 q

theorem gain_B (hc0 : ¬cond0_0 i) (hc1 : cond0_1 i) (acc : Vec Ideal S1x1024 .f32) (q : Fin 1024) :
    out0_B_7 c i a3 h3 a4 h4 a5 h5 a6 h6 a7 h7 a8 h8 a9 h9 a10 h10 hc0 hc1 x0 x1 x2 x3 x4 acc (ix2 0 q) = acc (ix2 0 q) + blockGain x0 x1 x2 q := by
  unfold out0_B_7
  rw [View.read_writes_eq_canon _ _ _ (cover0_B_7 c i a3 h3 a4 h4 a5 h5 a6 h6 a7 h7 a8 h8 a9 h9 a10 h10 hc0 hc1 x0 x1 x2 x3 x4 acc)]
  unfold kernelRun0_B
  dsimp only
  sl_unfold_words
  simp only [View.readAt_eq_ld, h3.read_unread, h4.read_unread, h5.read_unread, h6.read_unread, h7.read_unread, h10.read_unread,
    View.ld_unit_zero (S := S4096x1024) zero2, View.ld_unit_zero (S := S1x1024) zero2]
  rw [View.canon_unit_zero zero2]
  exact (shifted _ _ _).trans (congrArg (acc (ix2 0 q) + ·) (block_gain x0 x1 x2 q))

end

variable (m : (l : Loc nD τ sig) → Buf (Elt Ideal) l) (c : Dev nD)

abbrev inX : Mat 4096 4096 := m ((c.tc : Thread nD τ).loc main_arg0)
abbrev inW : Mat 4096 1024 := m ((c.tc : Thread nD τ).loc main_arg1)
abbrev inH : Mat32 4096 1024 := m ((c.tc : Thread nD τ).loc main_arg2)
abbrev inG : Mat32 1 1024 := m ((c.tc : Thread nD τ).loc main_arg3)
abbrev inD : Mat32 4096 1024 := m ((c.tc : Thread nD τ).loc main_arg4)

theorem index_at : ∀ t : Fin grid0.N, (win0_0.index t = ![t.val, 0] ∧ win0_1.index t = ![0, 0] ∧ win0_2.index t = ![t.val, 0] ∧ win0_3.index t = ![0, 0]
    ∧ win0_4.index t = ![t.val, 0]) ∧ win0_5.index t = ![t.val, 0] ∧ win0_6.index t = ![t.val, 0] ∧ win0_7.index t = ![0, 0] := by
  decide +kernel

/-- A row of a point's block. -/
def rowOf (t : Fin cfg0.N) (p : Fin 512) : Fin 4096 := ⟨512 * t.val + p.val, by
  have : t.val < 8 := t.isLt
  omega⟩

section
variable (t : Fin cfg0.N) (p : Fin 512)

theorem load_x (k : Fin 4096) : (iblk m c 0 t : Mat 512 4096) (ix2 p k) = inX m c (ix2 (rowOf t p) k) := by
  obtain ⟨⟨e, -⟩, -⟩ := index_at t
  refine Eq.trans ?_ (congrFun (V_main_arg0 m c) _)
  unfold rowOf
  blk_ext [iblk, e]
theorem load_w (k : Fin 4096) (q : Fin 1024) : (iblk m c 1 t : Mat 4096 1024) (ix2 k q) = inW m c (ix2 k q) := by
  obtain ⟨⟨-, e, -⟩, -⟩ := index_at t
  refine Eq.trans ?_ (congrFun (V_main_arg1 m c) _)
  blk_ext [iblk, e]
theorem load_h (q : Fin 1024) : (iblk m c 2 t : Mat32 512 1024) (ix2 p q) = inH m c (ix2 (rowOf t p) q) := by
  obtain ⟨⟨-, -, e, -⟩, -⟩ := index_at t
  refine Eq.trans ?_ (congrFun (V_main_arg2 m c) _)
  unfold rowOf
  blk_ext [iblk, e]
theorem load_g (q : Fin 1024) : (iblk m c 3 t : Mat32 1 1024) (ix2 0 q) = inG m c (ix2 0 q) := by
  obtain ⟨⟨-, -, -, e, -⟩, -⟩ := index_at t
  refine Eq.trans ?_ (congrFun (V_main_arg3 m c) _)
  blk_ext [iblk, e]
theorem load_d (q : Fin 1024) : (iblk m c 4 t : Mat32 512 1024) (ix2 p q) = inD m c (ix2 (rowOf t p) q) := by
  obtain ⟨⟨-, -, -, -, e⟩, -⟩ := index_at t
  refine Eq.trans ?_ (congrFun (V_main_arg4 m c) _)
  unfold rowOf
  blk_ext [iblk, e]

/-- A point's block of the gradient is the point's rows of it, -/
theorem block_back (q : Fin 1024) : back (iblk m c 0 t : Mat 512 4096) (iblk m c 1 t) (iblk m c 2 t) (iblk m c 3 t) (iblk m c 4 t) p q
    = back (inX m c) (inW m c) (inH m c) (inG m c) (inD m c) (rowOf t p) q := by
  unfold back
  rw [dot_congr (load_x m c t p) (load_w m c t), row_congr (load_h m c t p), row_congr (load_g m c t), load_d m c t p]

theorem row_gain (q : Fin 1024) : gainAt (iblk m c 0 t : Mat 512 4096) (iblk m c 1 t) (iblk m c 2 t) p q
    = gainAt (inX m c) (inW m c) (inH m c) (rowOf t p) q := by
  unfold gainAt
  rw [dot_congr (load_x m c t p) (load_w m c t), row_congr (load_h m c t p), load_h m c t p]

/-- and its part of the gradient of the gains is the sum over the point's tokens. -/
theorem gain_of (q : Fin 1024) : blockGain (iblk m c 0 t) (iblk m c 1 t) (iblk m c 2 t) q
    = ∑ i : Fin 4096 with 512 * t.val ≤ i.val ∧ i.val < 512 * (t.val + 1), gainAt (inX m c) (inW m c) (inH m c) i q := by
  rw [← block_sum _ t.val t.isLt]
  unfold blockGain
  exact congrArg₂ (· + ·) (Finset.sum_congr rfl fun p _ => row_gain m c t _ q) (Finset.sum_congr rfl fun p _ => (row_gain m c t _ q).trans
    (congrArg (gainAt _ _ _ · q) (Fin.ext (Nat.add_assoc ..).symm)))

theorem left_back (y : S512x1024.Idx) : (outsAt0 m c t.val t.isLt).1 y
    = back (iblk m c 0 t : Mat 512 4096) (iblk m c 1 t) (iblk m c 2 t) (iblk m c 3 t) (iblk m c 4 t) (y 0) (y 1) := by
  have ht : t.val < 8 := t.isLt
  by_cases h0 : t.val % 8 = 0
  · rw [outsAt0_A m c t h0 (by omega)]
    dsimp only
    rw [back_A]
  · rw [outsAt0_B m c t h0 (by omega)]
    dsimp only
    rw [back_B]

theorem left_copy (y : S512x1024.Idx) : (outsAt0 m c t.val t.isLt).2.1 y
    = back (iblk m c 0 t : Mat 512 4096) (iblk m c 1 t) (iblk m c 2 t) (iblk m c 3 t) (iblk m c 4 t) (y 0) (y 1) := by
  have ht : t.val < 8 := t.isLt
  by_cases h0 : t.val % 8 = 0
  · rw [outsAt0_A m c t h0 (by omega)]
    dsimp only
    rw [copy_A]
  · rw [outsAt0_B m c t h0 (by omega)]
    dsimp only
    rw [copy_B]
end

/-- After a point the gains' gradient has the tokens so far. -/
theorem left_gain (q : Fin 1024) : ∀ (n : ℕ) (hn : n < cfg0.N),
    (outsAt0 m c n hn).2.2 (ix2 0 q) = upTo (fun i => gainAt (inX m c) (inW m c) (inH m c) i q) n
  | 0, hn => by
    rw [outsAt0_A m c ⟨0, hn⟩ (Nat.zero_mod 8) (Nat.not_succ_le_zero 0)]
    dsimp only
    rw [gain_A, gain_of, upTo_zero]
  | n + 1, hn => by
    have hn' : n + 1 < 8 := hn
    have h0 : ¬(n + 1) % 8 = 0 := by omega
    rw [outsAt0_B m c ⟨n + 1, hn⟩ h0 (Nat.succ_le_succ (Nat.zero_le n))]
    dsimp only
    rw [gain_B, gain_of, upTo_succ]
    exact congrArg (· + _) (left_gain q n (Nat.lt_of_succ_lt hn))

theorem left_gain_at (n : ℕ) (hn : n < cfg0.N) (y : S1x1024.Idx) :
    (outsAt0 m c n hn).2.2 y = upTo (fun i => gainAt (inX m c) (inW m c) (inH m c) i (y 1)) n := by
  rw [← left_gain m c (y 1) n hn]
  exact congrArg _ (funext fun a => by fin_cases a <;> first | exact Subsingleton.elim (α := Fin 1) _ _ | rfl)

theorem result_back : (dats m 0 c).arrAt 5 cfg0.N
    = (fun i => back (inX m c) (inW m c) (inH m c) (inG m c) (inD m c) (i 0) (i 1) : Mat32 4096 1024) := by
  refine (dats m 0 c).arrAt_eq_of_covers 5 _ (by decide +kernel) fun t hf y => ?_
  obtain ⟨-, e, -⟩ := index_at t
  blk_simp
  rw [after0_5]
  refine (left_back m c t y).trans ((block_back m c t _ _).trans (congrArg₂ (back _ _ _ _ _) (Fin.ext ?_) (Fin.ext ?_)))
  · blk_simp [e]
    exact congrArg (· + _) (Nat.mul_comm _ _)
  · blk_simp [e]

theorem result_copy : (dats m 0 c).arrAt 6 cfg0.N
    = (fun i => back (inX m c) (inW m c) (inH m c) (inG m c) (inD m c) (i 0) (i 1) : Mat 4096 1024) := by
  refine (dats m 0 c).arrAt_eq_of_covers 6 _ (by decide +kernel) fun t hf y => ?_
  obtain ⟨-, -, e, -⟩ := index_at t
  blk_simp
  rw [after0_6]
  refine (left_copy m c t y).trans ((block_back m c t _ _).trans (congrArg₂ (back _ _ _ _ _) (Fin.ext ?_) (Fin.ext ?_)))
  · blk_simp [e]
    exact congrArg (· + _) (Nat.mul_comm _ _)
  · blk_simp [e]

theorem result_gain : (dats m 0 c).arrAt 7 cfg0.N
    = (fun i => ∑ k : Fin 4096, gainAt (inX m c) (inW m c) (inH m c) k (i 1) : Mat32 1 1024) := by
  refine (dats m 0 c).arrAt_eq_of_covers 7 _ (by decide +kernel) fun t hf y => ?_
  obtain ⟨-, -, -, e⟩ := index_at t
  have h7 : t.val = 7 := by
    have := (flush0_7 t).mp hf
    have : t.val < 8 := t.isLt
    omega
  blk_simp
  rw [after0_7]
  refine (left_gain_at m c t.val t.isLt y).trans ?_
  rw [h7, upTo_last]
  refine Finset.sum_congr rfl fun k _ => congrArg (gainAt _ _ _ k) (Fin.ext ?_)
  blk_simp [e]

section
variable (x : Mat 4096 4096) (w : Mat 4096 1024) (h : Mat32 4096 1024) (g : Mat32 1 1024) (d : Mat32 4096 1024)

open Cert.DcRefIdeal.Read

theorem dot_ref (i : S4096x1024.Idx) : val_main_v19 (F := Ideal) x w i = dot x w (i 0) (i 1) := by
  rw [val_main_v19_apply]
  refine Finset.sum_congr rfl fun k _ => ?_
  rw [val_main_v1_apply]
  exact congrArg₂ (· * ·) (congrArg x (funext fun a => by fin_cases a <;> rfl)) (congrArg w (funext fun a => by fin_cases a <;> rfl))

theorem zero_bits : Ideal.ofBits .f32 0x00000000#32 = 0 := Ideal.ofBits_zero_f32

theorem meanSq_ref (i : DcRefIdeal.S4096x1.Idx) : val_main_v8 (F := Ideal) h i = meanSq (row h (i 0)) := by
  rw [val_main_v8_apply, val_main_v6_apply, val_main_v4_apply, val_main_v3_apply, val_main_v5_apply, val_main_v7_apply]
  refine congrArg (fun s => Ideal.div s len + eps) ((congrArg (· + _) zero_bits).trans ((zero_add _).trans (Finset.sum_congr rfl fun k _ => ?_)))
  exact congrArg (fun j => h j * h j) (funext fun a => by fin_cases a <;> rfl)

theorem scale_ref (i : DcRefIdeal.S4096x1.Idx) : val_main_v9 (F := Ideal) h i = scale (row h (i 0)) :=
  (val_main_v9_apply _ _).trans (congrArg Ideal.rsqrt (meanSq_ref h i))

theorem gain_ref (i : S4096x1024.Idx) : val_main_v24 (F := Ideal) x w g i = dot x w (i 0) (i 1) * row g 0 (i 1) := by
  rw [val_main_v24_apply, dot_ref, val_main_v23_apply]
  exact congrArg (dot x w (i 0) (i 1) * ·) (congrArg g (funext fun a => by fin_cases a <;> rfl))

theorem token_row (i : S4096x1024.Idx) (k : Fin 1024) : idx_main_v26 (idx_main_v27 (idx_main_v33 (idx_main_v34 i) 0)) k = (ix2 (i 0) k : S4096x1024.Idx) :=
  funext fun a => by
    fin_cases a
    · refine Fin.ext ?_
      show (i 0).val * 1 + 0 = (i 0).val
      omega
    · rfl

theorem slope_ref (i : S4096x1024.Idx) : val_main_v34 (F := Ideal) x w h g i = slope (dot x w (i 0)) (row g 0) (row h (i 0)) := by
  rw [val_main_v34_apply, val_main_v33_apply, Fin.sum_univ_one, val_main_v32_apply, val_main_v30_apply, val_main_v27_apply, val_main_v26_apply,
    val_main_v12_apply, val_main_v11_apply, val_main_v10_apply, scale_ref, meanSq_ref, val_main_v31_apply]
  refine (congrArg (· + _) zero_bits).trans ((zero_add _).trans (congrArg (Ideal.div · len) ?_))
  refine congrArg₂ (· * ·) ((congrArg (· + _) zero_bits).trans ((zero_add _).trans (Finset.sum_congr rfl fun k _ => ?_))) rfl
  rw [token_row, val_main_v25_apply, gain_ref]
  rfl

/-- The reference's results are those arrays. -/
theorem reference_back : val_main_v39 (F := Ideal) x w h g d = fun i => back x w h g d (i 0) (i 1) := by
  funext i
  refine (?_ : _ = chain _ _ _ _ _).trans (grad_eq _ _ _ _ _).symm
  rw [val_main_v39_apply, val_main_v38_apply, val_main_v36_apply, val_main_v29_apply, val_main_v35_apply, val_main_v37_apply, gain_ref, slope_ref,
    val_main_v28_apply, scale_ref]
  rw [eq_ix2 i]
  rfl

theorem reference_copy : val_main_v40 (F := Ideal) x w h g d = fun i => back x w h g d (i 0) (i 1) :=
  reference_back x w h g d

theorem reference_gain : val_main_v22 (F := Ideal) x w h = fun i => ∑ k : Fin 4096, gainAt x w h k (i 1) := by
  funext i
  rw [val_main_v22_apply, val_main_v21_apply]
  refine (congrArg (· + _) zero_bits).trans ((zero_add _).trans (Finset.sum_congr rfl fun k _ => ?_))
  have e : idx_main_v21 (idx_main_v22 i) k = (ix2 k (i 1) : S4096x1024.Idx) := funext fun a => by
    fin_cases a
    · rfl
    · exact Fin.ext (by have : (i 0).val < 1 := (i 0).isLt; show (i 0).val * 1024 + (i 1).val = (i 1).val; omega)
  rw [e, val_main_v20_apply, dot_ref, val_main_v14_apply, val_main_v13_apply, scale_ref]
  exact mul_comm _ _

end

end Cert.DcIdeal.Rms
-- ==== Proof.Rms.Da.lean ====
/- The gradient of the step's input through the mixers, and of the gains of their normalisation, entry by entry. -/
module

public import proofs.«01_k».proof.Proof.Gen.DaIdeal.Value
public import proofs.«01_k».proof.Proof.Gen.DaRefIdeal.Read
public import proofs.«01_k».proof.Proof.Rms.Product
public import Idealize.ShloMosaic.Lib.Pipeline.ValueKit

@[expose] public section

noncomputable section

namespace Cert.DaIdeal.Rms

open Cert.Rms Cert.DaIdeal Cert.DaIdeal.Gen Idealize.ShloMosaic Idealize.ShloMosaic.TcCoe Idealize.SL.Sem

theorem back_at (v0 : Vec Ideal S256x5888 .bf16) (v1 : Vec Ideal S5888x1024 .bf16) (v3 : Vec Ideal S256x1024 .f32) (v4 : Vec Ideal S1x1024 .f32)
    (v5 : Vec Ideal S256x1024 .f32) (p : Fin 256) (q : Fin 1024) : k0_pay5 v0 v1 v3 v4 v5 (ix2 p q) = back v0 v1 v3 v4 v5 p q := by
  unfold k0_pay5 k0_pay4 k0_pay3 k0_pay2 back grad scale meanSq row dot
  pointwise

/-- A strip's part of the gradient of the gains, -/
theorem gain_at (v0 : Vec Ideal S256x5888 .bf16) (v1 : Vec Ideal S5888x1024 .bf16) (v3 : Vec Ideal S256x1024 .f32) (q : Fin 1024) :
    k0_pay6 v0 v1 v3 (ix2 0 q) = ∑ p : Fin 256, gainAt v0 v1 v3 p q := by
  unfold k0_pay6 k0_pay4 k0_pay3 k0_pay2 gainAt scale meanSq row dot
  pointwise

/-- and a block's. -/
theorem gains_at (v31 : FVec Ideal S1x1024 .f32) (v0 : Vec Ideal S256x5888 .bf16) (v1 : Vec Ideal S5888x1024 .bf16) (v3 : Vec Ideal S256x1024 .f32)
    (q : Fin 1024) : k0_pay11 v31 v0 v1 v3 (ix2 0 q) = v31 (ix2 0 q) + k0_pay6 v0 v1 v3 (ix2 0 q) := rfl

theorem shifted (v acc : FVec Ideal S1x1024 .f32) (q : Fin 1024) : k0_pay1 v acc (ix2 0 q) = acc (ix2 0 q) + v (ix2 0 q) := by
  unfold k0_pay1
  pointwise

section
variable (x0 : Vec Ideal S512x5888 .bf16) (x1 : Vec Ideal S5888x1024 .bf16) (x2 : Vec Ideal S512x1024 .f32) (x3 : Vec Ideal S1x1024 .f32)
  (x4 : Vec Ideal S512x1024 .f32)

/-- The two stores of a block of the gradient, and what they leave. -/
def stores (φ : EltTy) (f : Vec Ideal S256x5888 .bf16 → Vec Ideal S256x1024 .f32 → Vec Ideal S256x1024 .f32 → Vec Ideal S256x1024 φ) :
    List (View.Piece (Elt Ideal) S512x1024 φ) :=
  [⟨Rect.unit (s := S512x1024) ![256, 0] S256x1024.size inb_S512x1024_S256x1024_256_0, f (stripX x0 256 inb_S512x5888_S256x5888_256_0)
      (stripH x2 256 inb_S512x1024_S256x1024_256_0) (stripH x4 256 inb_S512x1024_S256x1024_256_0)⟩,
    ⟨Rect.unit (s := S512x1024) ![0, 0] S256x1024.size inb_S512x1024_S256x1024_0_0, f (stripX x0 0 inb_S512x5888_S256x5888_0_0)
      (stripH x2 0 inb_S512x1024_S256x1024_0_0) (stripH x4 0 inb_S512x1024_S256x1024_0_0)⟩]

theorem stored (y : S512x1024.Idx) : View.canon (stores x0 x2 x4 .f32 fun u h d => k0_pay5 u x1 h x3 d) y = back x0 x1 x2 x3 x4 (y 0) (y 1) := by
  refine View.canon_eq_of_allAt _ _ _ (View.cover_of_tiledL (stores x0 x2 x4 .f32 fun u h d => k0_pay5 u x1 h x3 d) S256x1024.size (by sl_kernel_rfl) y) (View.allAt_cons_unit _ _ _ _ _ (fun x hx => ?_)
    (View.allAt_cons_unit _ _ _ _ _ (fun x hx => ?_) (View.allAt_nil _ _)))
  · have e : x 1 = y 1 := Fin.ext ((Nat.zero_add _).symm.trans (hx 1).symm)
    rw [eq_ix2 x]
    exact (back_at _ _ _ _ _ _ _).trans ((strip_back x0 x1 x2 x3 x4 256 _ _ (x 0) (y 0) (hx 0) (x 1)).trans (congrArg (back x0 x1 x2 x3 x4 (y 0)) e))
  · have e : x 1 = y 1 := Fin.ext ((Nat.zero_add _).symm.trans (hx 1).symm)
    rw [eq_ix2 x]
    exact (back_at _ _ _ _ _ _ _).trans ((strip_back x0 x1 x2 x3 x4 0 _ _ (x 0) (y 0) (hx 0) (x 1)).trans (congrArg (back x0 x1 x2 x3 x4 (y 0)) e))

theorem block_gain (q : Fin 1024) :
    k0_pay11 (k0_pay6 (stripX x0 0 inb_S512x5888_S256x5888_0_0) x1 (stripH x2 0 inb_S512x1024_S256x1024_0_0))
      (stripX x0 256 inb_S512x5888_S256x5888_256_0) x1 (stripH x2 256 inb_S512x1024_S256x1024_256_0) (ix2 0 q) = blockGain x0 x1 x2 q := by
  rw [gains_at, gain_at, gain_at]
  exact congrArg₂ (· + ·) (Finset.sum_congr rfl fun p _ => strip_gain x0 x1 x2 0 _ _ p _ (Nat.zero_add _).symm q)
    (Finset.sum_congr rfl fun p _ => strip_gain x0 x1 x2 256 _ _ p _ rfl q)
end

section
variable (c : Dev nD) (i : grid0.Coords) (a3 : Memref sig .tc .vmem S512x5888 .bf16) (h3 : a3.IsWhole) (a4 : Memref sig .tc .vmem S5888x1024 .bf16)
  (h4 : a4.IsWhole) (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .f32) (h8 : a8.IsWhole)
  (a9 : Memref sig .tc .vmem S1x1024 .f32) (h9 : a9.IsWhole)
  (x0 : Vec Ideal S512x5888 .bf16) (x1 : Vec Ideal S5888x1024 .bf16) (x2 : Vec Ideal S512x1024 .f32) (x3 : Vec Ideal S1x1024 .f32)
  (x4 : Vec Ideal S512x1024 .f32)

theorem back_A (hc0 : cond0_0 i) (hc1 : ¬cond0_1 i) (y : S512x1024.Idx) :
    out0_A_5 c i a3 h3 a4 h4 a5 h5 a6 h6 a7 h7 a8 h8 a9 h9 hc0 hc1 x0 x1 x2 x3 x4 y = back x0 x1 x2 x3 x4 (y 0) (y 1) := by
  unfold out0_A_5
  rw [View.read_writes_eq_canon _ _ _ (cover0_A_5 c i a3 h3 a4 h4 a5 h5 a6 h6 a7 h7 a8 h8 a9 h9 hc0 hc1 x0 x1 x2 x3 x4)]
  unfold kernelRun0_A
  dsimp only
  sl_unfold_words
  simp only [View.readAt_eq_ld, h3.read_unread, h4.read_unread, h5.read_unread, h6.read_unread, h7.read_unread,
    View.ld_unit_zero (S := S5888x1024) zero2, View.ld_unit_zero (S := S1x1024) zero2]
  exact stored x0 x1 x2 x3 x4 y

theorem back_B (hc0 : ¬cond0_0 i) (hc1 : cond0_1 i) (acc : Vec Ideal S1x1024 .f32) (y : S512x1024.Idx) :
    out0_B_5 c i a3 h3 a4 h4 a5 h5 a6 h6 a7 h7 a8 h8 a9 h9 hc0 hc1 x0 x1 x2 x3 x4 acc y = back x0 x1 x2 x3 x4 (y 0) (y 1) := by
  unfold out0_B_5
  rw [View.read_writes_eq_canon _ _ _ (cover0_B_5 c i a3 h3 a4 h4 a5 h5 a6 h6 a7 h7 a8 h8 a9 h9 hc0 hc1 x0 x1 x2 x3 x4 acc)]
  unfold kernelRun0_B
  dsimp only
  sl_unfold_words
  simp only [View.readAt_eq_ld, h3.read_unread, h4.read_unread, h5.read_unread, h6.read_unread, h7.read_unread,
    View.ld_unit_zero (S := S5888x1024) zero2, View.ld_unit_zero (S := S1x1024) zero2]
  exact stored x0 x1 x2 x3 x4 y

theorem gain_A (hc0 : cond0_0 i) (hc1 : ¬cond0_1 i) (q : Fin 1024) :
    out0_A_6 c i a3 h3 a4 h4 a5 h5 a6 h6 a7 h7 a8 h8 a9 h9 hc0 hc1 x0 x1 x2 x3 x4 (ix2 0 q) = blockGain x0 x1 x2 q := by
  unfold out0_A_6
  rw [View.read_writes_eq_canon _ _ _ (cover0_A_6 c i a3 h3 a4 h4 a5 h5 a6 h6 a7 h7 a8 h8 a9 h9 hc0 hc1 x0 x1 x2 x3 x4)]
  unfold kernelRun0_A
  dsimp only
  sl_unfold_words
  simp only [View.readAt_eq_ld, h3.read_unread, h4.read_unread, h5.read_unread, h6.read_unread, h7.read_unread,
    View.ld_unit_zero (S := S5888x1024) zero2, View.ld_unit_zero (S := S1x1024) zero2]
  rw [View.canon_unit_zero zero2]
  exact block_gain x0 x1 x2 q

theorem gain_B (hc0 : ¬cond0_0 i) (hc1 : cond0_1 i) (acc : Vec Ideal S1x1024 .f32) (q : Fin 1024) :
    out0_B_6 c i a3 h3 a4 h4 a5 h5 a6 h6 a7 h7 a8 h8 a9 h9 hc0 hc1 x0 x1 x2 x3 x4 acc (ix2 0 q) = acc (ix2 0 q) + blockGain x0 x1 x2 q := by
  unfold out0_B_6
  rw [View.read_writes_eq_canon _ _ _ (cover0_B_6 c i a3 h3 a4 h4 a5 h5 a6 h6 a7 h7 a8 h8 a9 h9 hc0 hc1 x0 x1 x2 x3 x4 acc)]
  unfold kernelRun0_B
  dsimp only
  sl_unfold_words
  simp only [View.readAt_eq_ld, h3.read_unread, h4.read_unread, h5.read_unread, h6.read_unread, h7.read_unread, h9.read_unread,
    View.ld_unit_zero (S := S5888x1024) zero2, View.ld_unit_zero (S := S1x1024) zero2]
  rw [View.canon_unit_zero zero2]
  exact (shifted _ _ _).trans (congrArg (acc (ix2 0 q) + ·) (block_gain x0 x1 x2 q))

end

variable (m : (l : Loc nD τ sig) → Buf (Elt Ideal) l) (c : Dev nD)

abbrev inX : Mat 4096 5888 := m ((c.tc : Thread nD τ).loc main_arg0)
abbrev inW : Mat 5888 1024 := m ((c.tc : Thread nD τ).loc main_arg1)
abbrev inH : Mat32 4096 1024 := m ((c.tc : Thread nD τ).loc main_arg2)
abbrev inG : Mat32 1 1024 := m ((c.tc : Thread nD τ).loc main_arg3)
abbrev inD : Mat32 4096 1024 := m ((c.tc : Thread nD τ).loc main_arg4)

theorem index_at : ∀ t : Fin grid0.N, (win0_0.index t = ![t.val, 0] ∧ win0_1.index t = ![0, 0] ∧ win0_2.index t = ![t.val, 0] ∧ win0_3.index t = ![0, 0]
    ∧ win0_4.index t = ![t.val, 0]) ∧ win0_5.index t = ![t.val, 0] ∧ win0_6.index t = ![0, 0] := by
  decide +kernel

/-- A row of a point's block. -/
def rowOf (t : Fin cfg0.N) (p : Fin 512) : Fin 4096 := ⟨512 * t.val + p.val, by
  have : t.val < 8 := t.isLt
  omega⟩

section
variable (t : Fin cfg0.N) (p : Fin 512)

theorem load_x (k : Fin 5888) : (iblk m c 0 t : Mat 512 5888) (ix2 p k) = inX m c (ix2 (rowOf t p) k) := by
  obtain ⟨⟨e, -⟩, -⟩ := index_at t
  refine Eq.trans ?_ (congrFun (V_main_arg0 m c) _)
  unfold rowOf
  blk_ext [iblk, e]
theorem load_w (k : Fin 5888) (q : Fin 1024) : (iblk m c 1 t : Mat 5888 1024) (ix2 k q) = inW m c (ix2 k q) := by
  obtain ⟨⟨-, e, -⟩, -⟩ := index_at t
  refine Eq.trans ?_ (congrFun (V_main_arg1 m c) _)
  blk_ext [iblk, e]
theorem load_h (q : Fin 1024) : (iblk m c 2 t : Mat32 512 1024) (ix2 p q) = inH m c (ix2 (rowOf t p) q) := by
  obtain ⟨⟨-, -, e, -⟩, -⟩ := index_at t
  refine Eq.trans ?_ (congrFun (V_main_arg2 m c) _)
  unfold rowOf
  blk_ext [iblk, e]
theorem load_g (q : Fin 1024) : (iblk m c 3 t : Mat32 1 1024) (ix2 0 q) = inG m c (ix2 0 q) := by
  obtain ⟨⟨-, -, -, e, -⟩, -⟩ := index_at t
  refine Eq.trans ?_ (congrFun (V_main_arg3 m c) _)
  blk_ext [iblk, e]
theorem load_d (q : Fin 1024) : (iblk m c 4 t : Mat32 512 1024) (ix2 p q) = inD m c (ix2 (rowOf t p) q) := by
  obtain ⟨⟨-, -, -, -, e⟩, -⟩ := index_at t
  refine Eq.trans ?_ (congrFun (V_main_arg4 m c) _)
  unfold rowOf
  blk_ext [iblk, e]

/-- A point's block of the gradient is the point's rows of it, -/
theorem block_back (q : Fin 1024) : back (iblk m c 0 t : Mat 512 5888) (iblk m c 1 t) (iblk m c 2 t) (iblk m c 3 t) (iblk m c 4 t) p q
    = back (inX m c) (inW m c) (inH m c) (inG m c) (inD m c) (rowOf t p) q := by
  unfold back
  rw [dot_congr (load_x m c t p) (load_w m c t), row_congr (load_h m c t p), row_congr (load_g m c t), load_d m c t p]

theorem row_gain (q : Fin 1024) : gainAt (iblk m c 0 t : Mat 512 5888) (iblk m c 1 t) (iblk m c 2 t) p q
    = gainAt (inX m c) (inW m c) (inH m c) (rowOf t p) q := by
  unfold gainAt
  rw [dot_congr (load_x m c t p) (load_w m c t), row_congr (load_h m c t p), load_h m c t p]

/-- and its part of the gradient of the gains is the sum over the point's tokens. -/
theorem gain_of (q : Fin 1024) : blockGain (iblk m c 0 t) (iblk m c 1 t) (iblk m c 2 t) q
    = ∑ i : Fin 4096 with 512 * t.val ≤ i.val ∧ i.val < 512 * (t.val + 1), gainAt (inX m c) (inW m c) (inH m c) i q := by
  rw [← block_sum _ t.val t.isLt]
  unfold blockGain
  exact congrArg₂ (· + ·) (Finset.sum_congr rfl fun p _ => row_gain m c t _ q) (Finset.sum_congr rfl fun p _ => (row_gain m c t _ q).trans
    (congrArg (gainAt _ _ _ · q) (Fin.ext (Nat.add_assoc ..).symm)))

theorem left_back (y : S512x1024.Idx) : (outsAt0 m c t.val t.isLt).1 y
    = back (iblk m c 0 t : Mat 512 5888) (iblk m c 1 t) (iblk m c 2 t) (iblk m c 3 t) (iblk m c 4 t) (y 0) (y 1) := by
  have ht : t.val < 8 := t.isLt
  by_cases h0 : t.val % 8 = 0
  · rw [outsAt0_A m c t h0 (by omega)]
    dsimp only
    rw [back_A]
  · rw [outsAt0_B m c t h0 (by omega)]
    dsimp only
    rw [back_B]
end

/-- After a point the gains' gradient has the tokens so far. -/
theorem left_gain (q : Fin 1024) : ∀ (n : ℕ) (hn : n < cfg0.N),
    (outsAt0 m c n hn).2 (ix2 0 q) = upTo (fun i => gainAt (inX m c) (inW m c) (inH m c) i q) n
  | 0, hn => by
    rw [outsAt0_A m c ⟨0, hn⟩ (Nat.zero_mod 8) (Nat.not_succ_le_zero 0)]
    dsimp only
    rw [gain_A, gain_of, upTo_zero]
  | n + 1, hn => by
    have hn' : n + 1 < 8 := hn
    have h0 : ¬(n + 1) % 8 = 0 := by omega
    rw [outsAt0_B m c ⟨n + 1, hn⟩ h0 (Nat.succ_le_succ (Nat.zero_le n))]
    dsimp only
    rw [gain_B, gain_of, upTo_succ]
    exact congrArg (· + _) (left_gain q n (Nat.lt_of_succ_lt hn))

theorem left_gain_at (n : ℕ) (hn : n < cfg0.N) (y : S1x1024.Idx) :
    (outsAt0 m c n hn).2 y = upTo (fun i => gainAt (inX m c) (inW m c) (inH m c) i (y 1)) n := by
  rw [← left_gain m c (y 1) n hn]
  exact congrArg _ (funext fun a => by fin_cases a <;> first | exact Subsingleton.elim (α := Fin 1) _ _ | rfl)

theorem result_back : (dats m 0 c).arrAt 5 cfg0.N
    = (fun i => back (inX m c) (inW m c) (inH m c) (inG m c) (inD m c) (i 0) (i 1) : Mat32 4096 1024) := by
  refine (dats m 0 c).arrAt_eq_of_covers 5 _ (by decide +kernel) fun t hf y => ?_
  obtain ⟨-, e, -⟩ := index_at t
  blk_simp
  rw [after0_5]
  refine (left_back m c t y).trans ((block_back m c t _ _).trans (congrArg₂ (back _ _ _ _ _) (Fin.ext ?_) (Fin.ext ?_)))
  · blk_simp [e]
    exact congrArg (· + _) (Nat.mul_comm _ _)
  · blk_simp [e]

theorem result_gain : (dats m 0 c).arrAt 6 cfg0.N
    = (fun i => ∑ k : Fin 4096, gainAt (inX m c) (inW m c) (inH m c) k (i 1) : Mat32 1 1024) := by
  refine (dats m 0 c).arrAt_eq_of_covers 6 _ (by decide +kernel) fun t hf y => ?_
  obtain ⟨-, -, e⟩ := index_at t
  have h7 : t.val = 7 := by
    have := (flush0_6 t).mp hf
    have : t.val < 8 := t.isLt
    omega
  blk_simp
  rw [after0_6]
  refine (left_gain_at m c t.val t.isLt y).trans ?_
  rw [h7, upTo_last]
  refine Finset.sum_congr rfl fun k _ => congrArg (gainAt _ _ _ k) (Fin.ext ?_)
  blk_simp [e]

section
variable (x : Mat 4096 5888) (w : Mat 5888 1024) (h : Mat32 4096 1024) (g : Mat32 1 1024) (d : Mat32 4096 1024)

open Cert.DaRefIdeal.Read

theorem dot_ref (i : S4096x1024.Idx) : val_main_v19 (F := Ideal) x w i = dot x w (i 0) (i 1) := by
  rw [val_main_v19_apply]
  refine Finset.sum_congr rfl fun k _ => ?_
  rw [val_main_v1_apply]
  exact congrArg₂ (· * ·) (congrArg x (funext fun a => by fin_cases a <;> rfl)) (congrArg w (funext fun a => by fin_cases a <;> rfl))

theorem zero_bits : Ideal.ofBits .f32 0x00000000#32 = 0 := Ideal.ofBits_zero_f32

theorem meanSq_ref (i : DaRefIdeal.S4096x1.Idx) : val_main_v8 (F := Ideal) h i = meanSq (row h (i 0)) := by
  rw [val_main_v8_apply, val_main_v6_apply, val_main_v4_apply, val_main_v3_apply, val_main_v5_apply, val_main_v7_apply]
  refine congrArg (fun s => Ideal.div s len + eps) ((congrArg (· + _) zero_bits).trans ((zero_add _).trans (Finset.sum_congr rfl fun k _ => ?_)))
  exact congrArg (fun j => h j * h j) (funext fun a => by fin_cases a <;> rfl)

theorem scale_ref (i : DaRefIdeal.S4096x1.Idx) : val_main_v9 (F := Ideal) h i = scale (row h (i 0)) :=
  (val_main_v9_apply _ _).trans (congrArg Ideal.rsqrt (meanSq_ref h i))

theorem gain_ref (i : S4096x1024.Idx) : val_main_v24 (F := Ideal) x w g i = dot x w (i 0) (i 1) * row g 0 (i 1) := by
  rw [val_main_v24_apply, dot_ref, val_main_v23_apply]
  exact congrArg (dot x w (i 0) (i 1) * ·) (congrArg g (funext fun a => by fin_cases a <;> rfl))

theorem token_row (i : S4096x1024.Idx) (k : Fin 1024) : idx_main_v26 (idx_main_v27 (idx_main_v33 (idx_main_v34 i) 0)) k = (ix2 (i 0) k : S4096x1024.Idx) :=
  funext fun a => by
    fin_cases a
    · refine Fin.ext ?_
      show (i 0).val * 1 + 0 = (i 0).val
      omega
    · rfl

theorem slope_ref (i : S4096x1024.Idx) : val_main_v34 (F := Ideal) x w h g i = slope (dot x w (i 0)) (row g 0) (row h (i 0)) := by
  rw [val_main_v34_apply, val_main_v33_apply, Fin.sum_univ_one, val_main_v32_apply, val_main_v30_apply, val_main_v27_apply, val_main_v26_apply,
    val_main_v12_apply, val_main_v11_apply, val_main_v10_apply, scale_ref, meanSq_ref, val_main_v31_apply]
  refine (congrArg (· + _) zero_bits).trans ((zero_add _).trans (congrArg (Ideal.div · len) ?_))
  refine congrArg₂ (· * ·) ((congrArg (· + _) zero_bits).trans ((zero_add _).trans (Finset.sum_congr rfl fun k _ => ?_))) rfl
  rw [token_row, val_main_v25_apply, gain_ref]
  rfl

/-- The reference's results are those arrays. -/
theorem reference_back : val_main_v39 (F := Ideal) x w h g d = fun i => back x w h g d (i 0) (i 1) := by
  funext i
  refine (?_ : _ = chain _ _ _ _ _).trans (grad_eq _ _ _ _ _).symm
  rw [val_main_v39_apply, val_main_v38_apply, val_main_v36_apply, val_main_v29_apply, val_main_v35_apply, val_main_v37_apply, gain_ref, slope_ref,
    val_main_v28_apply, scale_ref]
  rw [eq_ix2 i]
  rfl

theorem reference_gain : val_main_v22 (F := Ideal) x w h = fun i => ∑ k : Fin 4096, gainAt x w h k (i 1) := by
  funext i
  rw [val_main_v22_apply, val_main_v21_apply]
  refine (congrArg (· + _) zero_bits).trans ((zero_add _).trans (Finset.sum_congr rfl fun k _ => ?_))
  have e : idx_main_v21 (idx_main_v22 i) k = (ix2 k (i 1) : S4096x1024.Idx) := funext fun a => by
    fin_cases a
    · rfl
    · exact Fin.ext (by have : (i 0).val < 1 := (i 0).isLt; show (i 0).val * 1024 + (i 1).val = (i 1).val; omega)
  rw [e, val_main_v20_apply, dot_ref, val_main_v14_apply, val_main_v13_apply, scale_ref]
  exact mul_comm _ _

end

end Cert.DaIdeal.Rms
-- ==== Proof.Rms.Tail.lean ====
/- The last layer at one token, in the order of its forward pass and then of its gradients, and sums over the tokens in blocks. -/
module

public import proofs.«01_k».proof.Proof.Rms.Product

@[expose] public section

noncomputable section

namespace Cert.Rms

open Idealize.ShloMosaic

abbrev half : EReal := Ideal.ofBits .f32 0x3F000000#32

theorem half_eq : half = ((1 / 2 : ℝ) : EReal) := by
  simp [half, Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

/-- The weights of the last layer: the gate's matrix, and the gains of the normalisations before the loss and before the gate. -/
structure Layer where
  gate : Mat 1024 1024
  last : Row
  ple : Row

/-- What a token brings: its row of the residual stream, its per-layer embedding and its target. -/
structure Token where
  stream : Row
  emb : Row
  target : Row

def layerOf (w : Mat 1024 1024) (f e : Mat32 1 1024) : Layer := ⟨w, row f 0, row e 0⟩

section
variable {a b : ℕ} (x : Mat a 4096) (w : Mat 4096 1024) (h : Mat32 a 1024) (v : Mat a 256) (u : Mat 1024 256) (y : Mat32 a 1024) (i : Fin a)

/-- A token out of the arrays: the stream has the MLP's output product added, the embedding is a product by the rows of `u`. -/
def tokenAt : Token := ⟨fun q => h (ix2 i q) + dot x w i q, fun q => ∑ k : Fin 256, v (ix2 i k) * u (ix2 q k), row y i⟩

variable {x w h v u y i}

theorem tokenAt_congr {x' : Mat b 4096} {w' : Mat 4096 1024} {h' : Mat32 b 1024} {v' : Mat b 256} {u' : Mat 1024 256} {y' : Mat32 b 1024} {j : Fin b}
    (hx : ∀ k, x (ix2 i k) = x' (ix2 j k)) (hw : ∀ k q, w (ix2 k q) = w' (ix2 k q)) (hh : ∀ q, h (ix2 i q) = h' (ix2 j q))
    (hv : ∀ k, v (ix2 i k) = v' (ix2 j k)) (hu : ∀ q k, u (ix2 q k) = u' (ix2 q k)) (hy : ∀ q, y (ix2 i q) = y' (ix2 j q)) :
    tokenAt x w h v u y i = tokenAt x' w' h' v' u' y' j := by
  unfold tokenAt
  rw [dot_congr hx hw, row_congr hy]
  simp only [hh, hv, hu]
end

section
variable (L : Layer) (t : Token) (q : Fin 1024)

/-- Forward: the normalised row, the gate, the stream with the gated embedding, its distance from the target and the loss. -/
def normed : EReal := norm t.stream L.ple q
def logit : EReal := ∑ k, normed L t k * L.gate (ix2 k q)
def gate : EReal := Ideal.div 1 (1 + Ideal.exp (-(logit L t q)))
def mixed : EReal := t.stream q + gate L t q * t.emb q
def miss : EReal := norm (mixed L t) L.last q - t.target q
def loss : EReal := Ideal.div (∑ k, miss L t k * miss L t k) len

/-- Backward: the gradients of the normalised output, of the mixed stream, of the embedding, of the gate's argument, of the normalised row
    and of the stream, -/
def dOut : EReal := Ideal.div (miss L t q) len
def dMixed : EReal := grad (dOut L t) L.last (mixed L t) 0 q
def dEmb : EReal := dMixed L t q * gate L t q
def dLogit : EReal := dMixed L t q * t.emb q * gate L t q * (1 - gate L t q)
def dNormed : EReal := ∑ k, dLogit L t k * L.gate (ix2 q k)
def dStream : EReal := grad (dNormed L t) L.ple t.stream (dMixed L t q) q

/-- and the token's part of the gradients of the two rows of gains. -/
def lastPart : EReal := dOut L t q * (mixed L t q * scale (mixed L t))
def plePart : EReal := dNormed L t q * (t.stream q * scale t.stream)

/-- The gradient of the squared distance, as the chain rule gives it, -/
theorem dOut_eq : Ideal.div (half * 1) len * (Ideal.ofBits .f32 0x40000000#32 * miss L t q) = dOut L t q := by
  unfold dOut
  rw [mul_one, half_eq, two_eq, len_eq, Ideal.div_coe (by norm_num), Ideal.div_coe (by norm_num), ← mul_assoc, ← EReal.coe_mul, ← EReal.coe_mul, mul_comm]
  norm_num

/-- the gradient of the gate's argument, and a gradient that has none added yet. -/
theorem dLogit_eq : dMixed L t q * t.emb q * (gate L t q * (1 - gate L t q)) = dLogit L t q := (mul_assoc _ _ _).symm

theorem dMixed_eq : scale (mixed L t) * (dOut L t q * L.last q - mixed L t q * scale (mixed L t)
    * Ideal.div (∑ k, dOut L t k * L.last k * (mixed L t k * scale (mixed L t))) len) = dMixed L t q := (zero_add _).symm
end

/-- A token of a block of 256. -/
def tokenOf (s : ℕ) (p : Fin 256) : Fin 4096 := ⟨(256 * s + p.val) % 4096, Nat.mod_lt _ (by decide)⟩

/-- A block's part of a sum over the tokens, and the whole sum. -/
def part (f : Fin 4096 → EReal) (s : ℕ) : EReal := ∑ p, f (tokenOf s p)

theorem sum_part (f : Fin 4096 → EReal) : ∑ s ∈ Finset.range 16, part f s = ∑ i, f i := by
  rw [Finset.sum_range]
  unfold part
  rw [← Fintype.sum_prod_type' (f := fun (s : Fin 16) (p : Fin 256) => f (tokenOf s.val p))]
  refine Fintype.sum_equiv (finProdFinEquiv : Fin 16 × Fin 256 ≃ Fin 4096) _ _ fun x => congrArg f (Fin.ext ?_)
  show (256 * x.1.val + x.2.val) % 4096 = x.2.val + 256 * x.1.val
  have := x.1.isLt
  have := x.2.isLt
  omega

/-- Half of every block is half of the sum. -/
theorem sum_half (f : Fin 4096 → EReal) : ∑ s ∈ Finset.range 16, half * part f s = half * ∑ i, f i := by
  rw [← sum_part, half_eq, mul_comm, sum_mul_coe _ _ (by norm_num)]
  exact Finset.sum_congr rfl fun s _ => mul_comm _ _

end Cert.Rms

end
-- ==== Proof.Rms.TailBlock.lean ====
/- What the last layer's kernel computes for a block of 256 tokens, entry by entry. -/
module

public import proofs.«01_k».proof.Proof.Gen.TailIdeal.Skeleton
public import proofs.«01_k».proof.Proof.Rms.Tail

@[expose] public section

noncomputable section

namespace Cert.TailIdeal.Rms

open Cert.Rms Cert.TailIdeal Cert.TailIdeal.Gen Idealize.ShloMosaic

section
variable (v0 : Vec Ideal S256x4096 .bf16) (v1 : Vec Ideal S4096x1024 .bf16) (v3 : Vec Ideal S256x1024 .f32) (w : Vec Ideal S1024x1024 .bf16)
  (v22 : Vec Ideal S256x256 .bf16) (v23 : Vec Ideal S1024x256 .bf16) (v25 : Vec Ideal S256x1024 .f32) (v26 v4 : Vec Ideal S1x1024 .f32)
  (p : Fin 256) (q : Fin 1024)

/-- The block's tokens and the layer. -/
abbrev T : Fin 256 → Token := tokenAt v0 v1 v3 v22 v23 v25
abbrev Ly : Layer := layerOf w v26 v4

theorem stream_at : k0_pay5 v0 v1 v3 (ix2 p q) = (T v0 v1 v3 v22 v23 v25 p).stream q := by
  unfold k0_pay5 T tokenAt dot
  pointwise

theorem emb_at : k0_pay7 v22 v23 (ix2 p q) = (T v0 v1 v3 v22 v23 v25 p).emb q := by
  unfold k0_pay7 T tokenAt
  pointwise

theorem normed_at : k0_pay6 v0 v1 v3 v4 (ix2 p q) = normed (Ly w v26 v4) (T v0 v1 v3 v22 v23 v25 p) q := by
  unfold k0_pay6 normed Cert.Rms.norm scale meanSq Ly layerOf row
  pointwise
  simp only [stream_at v0 v1 v3 v22 v23 v25]

theorem exp_at : k0_pay8 v0 v1 v3 v4 w (ix2 p q) = Ideal.exp (-(logit (Ly w v26 v4) (T v0 v1 v3 v22 v23 v25 p) q)) := by
  unfold k0_pay8 logit
  pointwise
  simp only [normed_at v0 v1 v3 w v22 v23 v25 v26 v4]
  exact congrArg Ideal.exp (zero_sub _)
end

section
variable (L : Layer) (T : Fin 256 → Token) (k : EReal) (v5 v24 v25 v29 : FVec Ideal S256x1024 .f32) (v26 v89 : Vec Ideal S1x1024 .f32) (v87 : Vec Ideal S1024x1024 .bf16)
variable (hk : k = 1) (h5 : ∀ p q, v5 (ix2 p q) = (T p).stream q) (h24 : ∀ p q, v24 (ix2 p q) = (T p).emb q) (h25 : ∀ p q, v25 (ix2 p q) = (T p).target q)
  (h29 : ∀ p q, v29 (ix2 p q) = Ideal.exp (-(logit L (T p) q))) (h26 : ∀ q, v26 (ix2 0 q) = L.last q) (h89 : ∀ q, v89 (ix2 0 q) = L.ple q)
  (h87 : ∀ q k, v87 (ix2 q k) = L.gate (ix2 q k))
variable (p : Fin 256) (q : Fin 1024)

section
include hk h29

theorem gate_at : k0_pay9 v29 k (ix2 p q) = gate L (T p) q := by
  unfold k0_pay9 gate
  pointwise
  rw [h29, hk]

include h5 h24

theorem mixed_at : k0_pay10 v5 v24 v29 k (ix2 p q) = mixed L (T p) q := by
  unfold k0_pay10 mixed
  pointwise
  rw [gate_at L T k v29 hk h29, h5, h24]

theorem scale_at : k0_pay11 v5 v24 v29 k (ix2 p 0) = scale (mixed L (T p)) := by
  unfold k0_pay11 scale meanSq
  pointwise
  simp only [mixed_at L T k v5 v24 v29 hk h5 h24 h29]

theorem unit_at : k0_pay12 v5 v24 v29 k (ix2 p q) = mixed L (T p) q * scale (mixed L (T p)) := by
  unfold k0_pay12
  pointwise
  rw [mixed_at L T k v5 v24 v29 hk h5 h24 h29, scale_at L T k v5 v24 v29 hk h5 h24 h29]

include h25 h26

theorem miss_at : k0_pay13 v5 v24 v25 v26 v29 k (ix2 p q) = miss L (T p) q := by
  unfold k0_pay13 miss Cert.Rms.norm
  pointwise
  rw [unit_at L T k v5 v24 v29 hk h5 h24 h29, h25, h26]

theorem loss_at : k0_pay14 v5 v24 v25 v26 v29 k = half * ∑ p, loss L (T p) := by
  unfold k0_pay14 loss
  pointwise
  simp only [miss_at L T k v5 v24 v25 v29 v26 hk h5 h24 h25 h29 h26]
  exact congrArg (half * ·) (Finset.sum_congr rfl fun p _ => Fin.sum_univ_one _)

theorem dOut_at : k0_pay15 v5 v24 v25 v26 v29 k (ix2 p q) = dOut L (T p) q := by
  unfold k0_pay15 dOut
  pointwise
  rw [miss_at L T k v5 v24 v25 v29 v26 hk h5 h24 h25 h29 h26]

theorem dMixed_at : k0_pay16 v5 v24 v25 v26 v29 k (ix2 p q) = dMixed L (T p) q := by
  rw [← dMixed_eq]
  unfold k0_pay16
  pointwise
  simp only [dOut_at L T k v5 v24 v25 v29 v26 hk h5 h24 h25 h29 h26, unit_at L T k v5 v24 v29 hk h5 h24 h29, scale_at L T k v5 v24 v29 hk h5 h24 h29, h26]

theorem dEmb_at : k0_pay23 (k0_pay17 v5 v24 v25 v26 v29 k) (ix2 p q) = dEmb L (T p) q := by
  unfold k0_pay23 k0_pay17 dEmb
  pointwise
  rw [dMixed_at L T k v5 v24 v25 v29 v26 hk h5 h24 h25 h29 h26, gate_at L T k v29 hk h29]

theorem dLogit_at : k0_pay22 (k0_pay18 v5 v24 v25 v26 v29 k) (k0_pay19 v29 k) (ix2 p q) = dLogit L (T p) q := by
  unfold k0_pay22 k0_pay18 k0_pay19 dLogit
  pointwise
  rw [dMixed_at L T k v5 v24 v25 v29 v26 hk h5 h24 h25 h29 h26, gate_at L T k v29 hk h29, h24]

theorem lastPart_at : k0_pay20 (k0_pay12 v5 v24 v29 k) (k0_pay15 v5 v24 v25 v26 v29 k) (ix2 0 q) = ∑ p, lastPart L (T p) q := by
  unfold k0_pay20 lastPart
  pointwise
  simp only [dOut_at L T k v5 v24 v25 v29 v26 hk h5 h24 h25 h29 h26, unit_at L T k v5 v24 v29 hk h5 h24 h29]

include h87

theorem dNormed_at : k0_pay24 (k0_pay18 v5 v24 v25 v26 v29 k) (k0_pay19 v29 k) v87 (ix2 p q) = dNormed L (T p) q := by
  unfold k0_pay24 dNormed
  pointwise
  simp only [dLogit_at L T k v5 v24 v25 v29 v26 hk h5 h24 h25 h29 h26, h87]
end

include h5

theorem scaleIn_at : k0_pay25 v5 (ix2 p 0) = scale (T p).stream := by
  unfold k0_pay25 scale meanSq
  pointwise
  simp only [h5]

theorem unitIn_at : k0_pay26 v5 (ix2 p q) = (T p).stream q * scale (T p).stream := by
  unfold k0_pay26
  pointwise
  rw [h5, scaleIn_at T v5 h5]

include hk h24 h25 h29 h26 h87

theorem plePart_at : k0_pay28 v5 (k0_pay18 v5 v24 v25 v26 v29 k) (k0_pay19 v29 k) v87 (ix2 0 q) = ∑ p, plePart L (T p) q := by
  unfold k0_pay28 plePart
  pointwise
  simp only [dNormed_at L T k v5 v24 v25 v29 v26 v87 hk h5 h24 h25 h29 h26 h87, unitIn_at T v5 h5]

include h89

theorem dStream_at : k0_pay27 v5 (k0_pay16 v5 v24 v25 v26 v29 k) (k0_pay18 v5 v24 v25 v26 v29 k) (k0_pay19 v29 k) v87 v89 (ix2 p q)
    = dStream L (T p) q := by
  unfold k0_pay27 dStream grad
  pointwise
  simp only [dNormed_at L T k v5 v24 v25 v29 v26 v87 hk h5 h24 h25 h29 h26 h87, unitIn_at T v5 h5, scaleIn_at T v5 h5,
    dMixed_at L T k v5 v24 v25 v29 v26 hk h5 h24 h25 h29 h26, h89]
end

end Cert.TailIdeal.Rms

end
-- ==== Proof.Rms.TailKernel.lean ====
/- What the last layer's kernel leaves in its arrays: the blocks of a point, and the sums over the points so far. -/
module

public import proofs.«01_k».proof.Proof.Gen.TailIdeal.Value
public import proofs.«01_k».proof.Proof.Rms.TailBlock
public import Idealize.ShloMosaic.Lib.Pipeline.ValueKit

@[expose] public section

noncomputable section

namespace Cert.TailIdeal.Rms

open Cert.Rms Cert.TailIdeal Cert.TailIdeal.Gen Idealize.ShloMosaic Idealize.ShloMosaic.TcCoe Idealize.SL.Sem

section
variable (x0 : Vec Ideal S256x4096 .bf16) (x1 : Vec Ideal S4096x1024 .bf16) (x2 : Vec Ideal S256x1024 .f32) (x3 : Vec Ideal S1024x1024 .bf16)
  (x4 : Vec Ideal S256x256 .bf16) (x5 : Vec Ideal S1024x256 .bf16) (x6 : Vec Ideal S256x1024 .f32) (x7 x8 : Vec Ideal S1x1024 .f32)

/-- The values a block's run carries: the gate's exponential, and the products that several stores use. -/
abbrev k1 : EReal := Scalar.ofBits (F := Ideal) .f32 0x3F800000#32
abbrev w29 : FVec Ideal S256x1024 .f32 := k0_pay8 x0 x1 x2 x8 x3
abbrev w75 : FVec Ideal S256x1024 .f32 := k0_pay18 (k0_pay5 x0 x1 x2) (k0_pay7 x4 x5) x6 x7 (w29 x0 x1 x2 x3 x8) k1
abbrev w77 : FVec Ideal S256x1024 .f32 := k0_pay19 (w29 x0 x1 x2 x3 x8) k1

/-- The eight stores of a block. -/
abbrev st9 : Vec Ideal S256x1024 .bf16 := k0_pay6 x0 x1 x2 x8
abbrev st10 : Vec Ideal S256x1024 .bf16 := k0_pay23 (k0_pay17 (k0_pay5 x0 x1 x2) (k0_pay7 x4 x5) x6 x7 (w29 x0 x1 x2 x3 x8) k1)
abbrev st11 : Vec Ideal S256x1024 .bf16 := k0_pay22 (w75 x0 x1 x2 x3 x4 x5 x6 x7 x8) (w77 x0 x1 x2 x3 x8)
abbrev st12 : Vec Ideal S256x1024 .f32 := k0_pay27 (k0_pay5 x0 x1 x2)
  (k0_pay16 (k0_pay5 x0 x1 x2) (k0_pay7 x4 x5) x6 x7 (w29 x0 x1 x2 x3 x8) k1) (w75 x0 x1 x2 x3 x4 x5 x6 x7 x8) (w77 x0 x1 x2 x3 x8) x3 x8
abbrev st13 : Vec Ideal S256x1024 .bf16 := k0_pay1 (F := Ideal) (st12 x0 x1 x2 x3 x4 x5 x6 x7 x8)
abbrev st14 : Vec Ideal S1x1024 .f32 := k0_pay20 (k0_pay12 (k0_pay5 x0 x1 x2) (k0_pay7 x4 x5) (w29 x0 x1 x2 x3 x8) k1)
  (k0_pay15 (k0_pay5 x0 x1 x2) (k0_pay7 x4 x5) x6 x7 (w29 x0 x1 x2 x3 x8) k1)
abbrev st15 : Vec Ideal S1x1024 .f32 := k0_pay21 (k0_pay14 (k0_pay5 x0 x1 x2) (k0_pay7 x4 x5) x6 x7 (w29 x0 x1 x2 x3 x8) k1)
abbrev st16 : Vec Ideal S1x1024 .f32 := k0_pay28 (k0_pay5 x0 x1 x2) (w75 x0 x1 x2 x3 x4 x5 x6 x7 x8) (w77 x0 x1 x2 x3 x8) x3
end

section
variable (x0 : Vec Ideal S256x4096 .bf16) (x1 : Vec Ideal S4096x1024 .bf16) (x2 : Vec Ideal S256x1024 .f32) (x3 : Vec Ideal S1024x1024 .bf16)
  (x4 : Vec Ideal S256x256 .bf16) (x5 : Vec Ideal S1024x256 .bf16) (x6 : Vec Ideal S256x1024 .f32) (x7 x8 : Vec Ideal S1x1024 .f32) (p : Fin 256)
  (q : Fin 1024)

theorem k1_eq : k1 = 1 := Ideal.ofBits_one_f32

theorem st10_at : st10 x0 x1 x2 x3 x4 x5 x6 x7 x8 (ix2 p q) = dEmb (Ly x3 x7 x8) (T x0 x1 x2 x4 x5 x6 p) q :=
  dEmb_at _ _ _ _ _ _ _ _ k1_eq (stream_at x0 x1 x2 x4 x5 x6) (emb_at x0 x1 x2 x4 x5 x6) (fun _ _ => rfl) (exp_at x0 x1 x2 x3 x4 x5 x6 x7 x8)
    (fun _ => rfl) p q
theorem st11_at : st11 x0 x1 x2 x3 x4 x5 x6 x7 x8 (ix2 p q) = dLogit (Ly x3 x7 x8) (T x0 x1 x2 x4 x5 x6 p) q :=
  dLogit_at _ _ _ _ _ _ _ _ k1_eq (stream_at x0 x1 x2 x4 x5 x6) (emb_at x0 x1 x2 x4 x5 x6) (fun _ _ => rfl) (exp_at x0 x1 x2 x3 x4 x5 x6 x7 x8)
    (fun _ => rfl) p q
theorem st12_at : st12 x0 x1 x2 x3 x4 x5 x6 x7 x8 (ix2 p q) = dStream (Ly x3 x7 x8) (T x0 x1 x2 x4 x5 x6 p) q :=
  dStream_at _ _ _ _ _ _ _ _ _ _ k1_eq (stream_at x0 x1 x2 x4 x5 x6) (emb_at x0 x1 x2 x4 x5 x6) (fun _ _ => rfl)
    (exp_at x0 x1 x2 x3 x4 x5 x6 x7 x8) (fun _ => rfl) (fun _ => rfl) (fun _ _ => rfl) p q
theorem st14_at : st14 x0 x1 x2 x3 x4 x5 x6 x7 x8 (ix2 0 q) = ∑ p, lastPart (Ly x3 x7 x8) (T x0 x1 x2 x4 x5 x6 p) q :=
  lastPart_at _ _ _ _ _ _ _ _ k1_eq (stream_at x0 x1 x2 x4 x5 x6) (emb_at x0 x1 x2 x4 x5 x6) (fun _ _ => rfl) (exp_at x0 x1 x2 x3 x4 x5 x6 x7 x8)
    (fun _ => rfl) q
theorem st15_at : st15 x0 x1 x2 x3 x4 x5 x6 x7 x8 (ix2 0 q) = half * ∑ p, loss (Ly x3 x7 x8) (T x0 x1 x2 x4 x5 x6 p) :=
  loss_at _ _ _ _ _ _ _ _ k1_eq (stream_at x0 x1 x2 x4 x5 x6) (emb_at x0 x1 x2 x4 x5 x6) (fun _ _ => rfl) (exp_at x0 x1 x2 x3 x4 x5 x6 x7 x8)
    (fun _ => rfl)
theorem st16_at : st16 x0 x1 x2 x3 x4 x5 x6 x7 x8 (ix2 0 q) = ∑ p, plePart (Ly x3 x7 x8) (T x0 x1 x2 x4 x5 x6 p) q :=
  plePart_at _ _ _ _ _ _ _ _ _ k1_eq (stream_at x0 x1 x2 x4 x5 x6) (emb_at x0 x1 x2 x4 x5 x6) (fun _ _ => rfl) (exp_at x0 x1 x2 x3 x4 x5 x6 x7 x8)
    (fun _ => rfl) (fun _ _ => rfl) q

theorem added (v acc : FVec Ideal S1x1024 .f32) :
    k0_pay2 v acc (ix2 0 q) = acc (ix2 0 q) + v (ix2 0 q) ∧ k0_pay3 v acc (ix2 0 q) = acc (ix2 0 q) + v (ix2 0 q)
      ∧ k0_pay4 v acc (ix2 0 q) = acc (ix2 0 q) + v (ix2 0 q) := by
  unfold k0_pay2 k0_pay3 k0_pay4
  refine ⟨?_, ?_, ?_⟩ <;> pointwise
end

variable (m : (l : Loc nD τ sig) → Buf (Elt Ideal) l) (c : Dev nD)

/-- A store of a point's blocks. -/
abbrev atPoint {α : Type} (f : Vec Ideal S256x4096 .bf16 → Vec Ideal S4096x1024 .bf16 → Vec Ideal S256x1024 .f32 → Vec Ideal S1024x1024 .bf16
    → Vec Ideal S256x256 .bf16 → Vec Ideal S1024x256 .bf16 → Vec Ideal S256x1024 .f32 → Vec Ideal S1x1024 .f32 → Vec Ideal S1x1024 .f32 → α)
    (t : Fin cfg0.N) : α :=
  f (iblk m c 0 t) (iblk m c 1 t) (iblk m c 2 t) (iblk m c 3 t) (iblk m c 4 t) (iblk m c 5 t) (iblk m c 6 t) (iblk m c 7 t) (iblk m c 8 t)

/-- A point's stores into the arrays of rows, -/
abbrev rowStores (t : Fin cfg0.N) (gains : Vec Ideal S1x1024 .f32 × Vec Ideal S1x1024 .f32 × Vec Ideal S1x1024 .f32) :
    Vec Ideal S256x1024 .bf16 × Vec Ideal S256x1024 .bf16 × Vec Ideal S256x1024 .bf16 × Vec Ideal S256x1024 .f32 × Vec Ideal S256x1024 .bf16
      × Vec Ideal S1x1024 .f32 × Vec Ideal S1x1024 .f32 × Vec Ideal S1x1024 .f32 :=
  (st9 (iblk m c 0 t) (iblk m c 1 t) (iblk m c 2 t) (iblk m c 8 t), atPoint m c st10 t, atPoint m c st11 t, atPoint m c st12 t,
    atPoint m c st13 t, gains)

/-- with the first point's sums, -/
theorem left_first (t : Fin cfg0.N) (h : t.val % 16 = 0) (h' : ¬1 ≤ t.val) :
    outsAt0 m c t.val t.isLt = rowStores m c t (atPoint m c st14 t, atPoint m c st15 t, atPoint m c st16 t) := by
  rw [outsAt0_A m c t h h' h h' h h']
  refine Prod.ext ?_ (Prod.ext ?_ (Prod.ext ?_ (Prod.ext ?_ (Prod.ext ?_ (Prod.ext ?_ (Prod.ext ?_ ?_))))))
  all_goals
    dsimp only
    first
      | (unfold out0_A_9; rw [View.read_writes_eq_canon]; rotate_left; exact fun y => cover0_A_9 ..)
      | (unfold out0_A_10; rw [View.read_writes_eq_canon]; rotate_left; exact fun y => cover0_A_10 ..)
      | (unfold out0_A_11; rw [View.read_writes_eq_canon]; rotate_left; exact fun y => cover0_A_11 ..)
      | (unfold out0_A_12; rw [View.read_writes_eq_canon]; rotate_left; exact fun y => cover0_A_12 ..)
      | (unfold out0_A_13; rw [View.read_writes_eq_canon]; rotate_left; exact fun y => cover0_A_13 ..)
      | (unfold out0_A_14; rw [View.read_writes_eq_canon]; rotate_left; exact fun y => cover0_A_14 ..)
      | (unfold out0_A_15; rw [View.read_writes_eq_canon]; rotate_left; exact fun y => cover0_A_15 ..)
      | (unfold out0_A_16; rw [View.read_writes_eq_canon]; rotate_left; exact fun y => cover0_A_16 ..)
    unfold kernelRun0_A
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, View.ld_unit_zero (S := S256x4096) zero2,
      View.ld_unit_zero (S := S4096x1024) zero2, View.ld_unit_zero (S := S256x1024) zero2, View.ld_unit_zero (S := S1024x1024) zero2,
      View.ld_unit_zero (S := S256x256) zero2, View.ld_unit_zero (S := S1024x256) zero2, View.ld_unit_zero (S := S1x1024) zero2]
    rw [View.canon_unit_zero zero2]

/-- and a later point's, added to what the point before it left. -/
theorem left_later (t : Fin cfg0.N) (h : ¬t.val % 16 = 0) (h' : 1 ≤ t.val) (hp : t.val - 1 < cfg0.N) :
    outsAt0 m c t.val t.isLt = rowStores m c t (k0_pay2 (atPoint m c st14 t) (outsAt0 m c (t.val - 1) hp).2.2.2.2.2.1,
      k0_pay3 (atPoint m c st15 t) (outsAt0 m c (t.val - 1) hp).2.2.2.2.2.2.1, k0_pay4 (atPoint m c st16 t) (outsAt0 m c (t.val - 1) hp).2.2.2.2.2.2.2) := by
  rw [outsAt0_B m c t h h' h h' h h']
  refine Prod.ext ?_ (Prod.ext ?_ (Prod.ext ?_ (Prod.ext ?_ (Prod.ext ?_ (Prod.ext ?_ (Prod.ext ?_ ?_))))))
  all_goals
    dsimp only
    first
      | (unfold out0_B_9; rw [View.read_writes_eq_canon]; rotate_left; exact fun y => cover0_B_9 ..)
      | (unfold out0_B_10; rw [View.read_writes_eq_canon]; rotate_left; exact fun y => cover0_B_10 ..)
      | (unfold out0_B_11; rw [View.read_writes_eq_canon]; rotate_left; exact fun y => cover0_B_11 ..)
      | (unfold out0_B_12; rw [View.read_writes_eq_canon]; rotate_left; exact fun y => cover0_B_12 ..)
      | (unfold out0_B_13; rw [View.read_writes_eq_canon]; rotate_left; exact fun y => cover0_B_13 ..)
      | (unfold out0_B_14; rw [View.read_writes_eq_canon]; rotate_left; exact fun y => cover0_B_14 ..)
      | (unfold out0_B_15; rw [View.read_writes_eq_canon]; rotate_left; exact fun y => cover0_B_15 ..)
      | (unfold out0_B_16; rw [View.read_writes_eq_canon]; rotate_left; exact fun y => cover0_B_16 ..)
    unfold kernelRun0_B
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_14 t).read_unread, (hs0_15 t).read_unread,
      (hs0_16 t).read_unread, View.ld_unit_zero (S := S256x4096) zero2,
      View.ld_unit_zero (S := S4096x1024) zero2, View.ld_unit_zero (S := S256x1024) zero2, View.ld_unit_zero (S := S1024x1024) zero2,
      View.ld_unit_zero (S := S256x256) zero2, View.ld_unit_zero (S := S1024x256) zero2, View.ld_unit_zero (S := S1x1024) zero2]
    rw [View.canon_unit_zero zero2]

abbrev inX : Mat 4096 4096 := m ((c.tc : Thread nD τ).loc main_arg0)
abbrev inW : Mat 4096 1024 := m ((c.tc : Thread nD τ).loc main_arg1)
abbrev inH : Mat32 4096 1024 := m ((c.tc : Thread nD τ).loc main_arg2)
abbrev inGate : Mat 1024 1024 := m ((c.tc : Thread nD τ).loc main_arg3)
abbrev inP : Mat 4096 256 := m ((c.tc : Thread nD τ).loc main_arg4)
abbrev inU : Mat 1024 256 := m ((c.tc : Thread nD τ).loc main_arg5)
abbrev inY : Mat32 4096 1024 := m ((c.tc : Thread nD τ).loc main_arg6)
abbrev inLast : Mat32 1 1024 := m ((c.tc : Thread nD τ).loc main_arg7)
abbrev inPle : Mat32 1 1024 := m ((c.tc : Thread nD τ).loc main_arg8)

/-- The tokens of the arguments, and the layer. -/
abbrev tokens : Fin 4096 → Token := tokenAt (inX m c) (inW m c) (inH m c) (inP m c) (inU m c) (inY m c)
abbrev layer : Layer := layerOf (inGate m c) (inLast m c) (inPle m c)

theorem index_in : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![0, 0] ∧ win0_8.index t = ![0, 0] := by
  decide +kernel

theorem index_out : ∀ t : Fin grid0.N, win0_9.index t = ![t.val, 0] ∧ win0_10.index t = ![t.val, 0] ∧ win0_11.index t = ![t.val, 0]
    ∧ win0_12.index t = ![t.val, 0] ∧ win0_13.index t = ![t.val, 0] ∧ win0_14.index t = ![0, 0] ∧ win0_15.index t = ![0, 0]
    ∧ win0_16.index t = ![0, 0] := by
  decide +kernel

/-- A row of a point's block. -/
def rowOf (t : Fin cfg0.N) (p : Fin 256) : Fin 4096 := ⟨t.val * 256 + p.val, by
  have : t.val < 16 := t.isLt
  omega⟩

theorem token_row (t : Fin cfg0.N) (p : Fin 256) : tokenOf t.val p = rowOf t p := by
  have : t.val < 16 := t.isLt
  refine Fin.ext ?_
  show (256 * t.val + p.val) % 4096 = t.val * 256 + p.val
  omega

/-- A point's block holds the point's tokens, and the layer. -/
theorem block_token (t : Fin cfg0.N) (p : Fin 256) :
    T (iblk m c 0 t) (iblk m c 1 t) (iblk m c 2 t) (iblk m c 4 t) (iblk m c 5 t) (iblk m c 6 t) p = tokens m c (rowOf t p) := by
  obtain ⟨e0, e1, e2, -, e4, e5, e6, -⟩ := index_in t
  refine tokenAt_congr (fun k => Eq.trans ?_ (congrFun (V_main_arg0 m c) _)) (fun k q => Eq.trans ?_ (congrFun (V_main_arg1 m c) _))
    (fun q => Eq.trans ?_ (congrFun (V_main_arg2 m c) _)) (fun k => Eq.trans ?_ (congrFun (V_main_arg4 m c) _))
    (fun q k => Eq.trans ?_ (congrFun (V_main_arg5 m c) _)) (fun q => Eq.trans ?_ (congrFun (V_main_arg6 m c) _))
  · unfold rowOf
    blk_ext [iblk, e0]
  · blk_ext [iblk, e1]
  · unfold rowOf
    blk_ext [iblk, e2]
  · unfold rowOf
    blk_ext [iblk, e4]
  · blk_ext [iblk, e5]
  · unfold rowOf
    blk_ext [iblk, e6]

theorem block_layer (t : Fin cfg0.N) : Ly (iblk m c 3 t) (iblk m c 7 t) (iblk m c 8 t) = layer m c := by
  obtain ⟨-, -, -, e3, -, -, -, e7, e8⟩ := index_in t
  have g : ∀ k q, (iblk m c 3 t : Mat 1024 1024) (ix2 k q) = inGate m c (ix2 k q) := fun k q =>
    Eq.trans (by blk_ext [iblk, e3]) (congrFun (V_main_arg3 m c) _)
  have l : row (iblk m c 7 t : Mat32 1 1024) 0 = row (inLast m c) 0 := row_congr fun q =>
    Eq.trans (by blk_ext [iblk, e7]) (congrFun (V_main_arg7 m c) _)
  have e : row (iblk m c 8 t : Mat32 1 1024) 0 = row (inPle m c) 0 := row_congr fun q =>
    Eq.trans (by blk_ext [iblk, e8]) (congrFun (V_main_arg8 m c) _)
  have g' : (iblk m c 3 t : Mat 1024 1024) = inGate m c := funext fun y => by rw [eq_ix2 y]; exact g _ _
  unfold Ly layerOf
  rw [g', l, e]
  rfl

section
variable (t : Fin cfg0.N)

/-- Every point leaves its rows, -/
theorem left_rows : ∃ gains, outsAt0 m c t.val t.isLt = rowStores m c t gains := by
  have ht : t.val < 16 := t.isLt
  by_cases h : t.val % 16 = 0
  · exact ⟨_, left_first m c t h (by omega)⟩
  · exact ⟨_, left_later m c t h (by omega) (lt_of_le_of_lt (Nat.sub_le _ _) t.isLt)⟩

/-- and its sums are the point's parts of the sums over the tokens. -/
theorem part_at (f : Layer → Token → EReal) : (∑ p, f (Ly (iblk m c 3 t) (iblk m c 7 t) (iblk m c 8 t))
      (T (iblk m c 0 t) (iblk m c 1 t) (iblk m c 2 t) (iblk m c 4 t) (iblk m c 5 t) (iblk m c 6 t) p))
    = part (fun i => f (layer m c) (tokens m c i)) t.val :=
  Finset.sum_congr rfl fun p _ => by rw [block_layer, block_token, token_row]

theorem last_part (q : Fin 1024) : (atPoint m c st14 t : Vec Ideal S1x1024 .f32) (ix2 0 q)
    = part (fun i => lastPart (layer m c) (tokens m c i) q) t.val :=
  (st14_at _ _ _ _ _ _ _ _ _ q).trans (part_at m c t fun L k => lastPart L k q)
theorem loss_part (q : Fin 1024) : (atPoint m c st15 t : Vec Ideal S1x1024 .f32) (ix2 0 q)
    = half * part (fun i => loss (layer m c) (tokens m c i)) t.val :=
  (st15_at _ _ _ _ _ _ _ _ _ q).trans (congrArg (half * ·) (part_at m c t fun L k => loss L k))
theorem ple_part (q : Fin 1024) : (atPoint m c st16 t : Vec Ideal S1x1024 .f32) (ix2 0 q)
    = part (fun i => plePart (layer m c) (tokens m c i) q) t.val :=
  (st16_at _ _ _ _ _ _ _ _ _ q).trans (part_at m c t fun L k => plePart L k q)
end

/-- After a point the three sums have the blocks so far. -/
theorem left_sums (q : Fin 1024) : ∀ (n : ℕ) (hn : n < cfg0.N),
    (outsAt0 m c n hn).2.2.2.2.2.1 (ix2 0 q) = ∑ s ∈ Finset.range (n + 1), part (fun i => lastPart (layer m c) (tokens m c i) q) s
      ∧ (outsAt0 m c n hn).2.2.2.2.2.2.1 (ix2 0 q) = ∑ s ∈ Finset.range (n + 1), half * part (fun i => loss (layer m c) (tokens m c i)) s
      ∧ (outsAt0 m c n hn).2.2.2.2.2.2.2 (ix2 0 q) = ∑ s ∈ Finset.range (n + 1), part (fun i => plePart (layer m c) (tokens m c i) q) s
  | 0, hn => by
    rw [left_first m c ⟨0, hn⟩ (Nat.zero_mod 16) (Nat.not_succ_le_zero 0)]
    simp only [zero_add, Finset.sum_range_one]
    exact ⟨last_part m c ⟨0, hn⟩ q, loss_part m c ⟨0, hn⟩ q, ple_part m c ⟨0, hn⟩ q⟩
  | n + 1, hn => by
    have hn' : n + 1 < 16 := hn
    have h := left_sums q n (Nat.lt_of_succ_lt hn)
    rw [left_later m c ⟨n + 1, hn⟩ (by dsimp only; omega) (Nat.succ_le_succ (Nat.zero_le n)) (Nat.lt_of_succ_lt hn)]
    simp only [Finset.sum_range_succ _ (n + 1)]
    exact ⟨(added q _ _).1.trans (congrArg₂ (· + ·) h.1 (last_part m c ⟨n + 1, hn⟩ q)),
      (added q _ _).2.1.trans (congrArg₂ (· + ·) h.2.1 (loss_part m c ⟨n + 1, hn⟩ q)),
      (added q _ _).2.2.trans (congrArg₂ (· + ·) h.2.2 (ple_part m c ⟨n + 1, hn⟩ q))⟩

/-- The arrays after the last point: five of rows, -/
def rows (f : Layer → Token → Fin 1024 → EReal) (L : Layer) (k : Fin 4096 → Token) (i : S4096x1024.Idx) : EReal := f L (k (i 0)) (i 1)

theorem row_result (t : Fin cfg0.N) {v : S256x1024.Idx → EReal} {f : Layer → Token → Fin 1024 → EReal}
    (h : ∀ p q, v (ix2 p q) = f (Ly (iblk m c 3 t) (iblk m c 7 t) (iblk m c 8 t))
      (T (iblk m c 0 t) (iblk m c 1 t) (iblk m c 2 t) (iblk m c 4 t) (iblk m c 5 t) (iblk m c 6 t) p) q) (y : S256x1024.Idx) (i : S4096x1024.Idx)
    (h0 : (i 0).val = t.val * 256 + (y 0).val) (h1 : (i 1).val = (y 1).val) : v y = rows f (layer m c) (tokens m c) i :=
  ((congrArg v (eq_ix2 y)).trans (h (y 0) (y 1))).trans
    ((congrArg₂ (fun L k => f L k (y 1)) (block_layer m c t) (block_token m c t (y 0))).trans
      (congrArg₂ (fun i q => f (layer m c) (tokens m c i) q) (Fin.ext h0.symm) (Fin.ext h1.symm)))

theorem result_normed : (dats m 0 c).arrAt 9 cfg0.N = (rows normed (layer m c) (tokens m c) : Mat 4096 1024) := by
  refine (dats m 0 c).arrAt_eq_of_covers 9 _ (by decide +kernel) fun t hf y => ?_
  obtain ⟨e, -⟩ := index_out t
  obtain ⟨g, hg⟩ := left_rows m c t
  blk_simp
  rw [after0_9, hg]
  refine row_result m c t (fun p q => normed_at _ _ _ _ _ _ _ _ _ p q) y _ ?_ ?_ <;> blk_simp [e]

theorem result_emb : (dats m 0 c).arrAt 10 cfg0.N = (rows dEmb (layer m c) (tokens m c) : Mat 4096 1024) := by
  refine (dats m 0 c).arrAt_eq_of_covers 10 _ (by decide +kernel) fun t hf y => ?_
  obtain ⟨-, e, -⟩ := index_out t
  obtain ⟨g, hg⟩ := left_rows m c t
  blk_simp
  rw [after0_10, hg]
  refine row_result m c t (fun p q => st10_at _ _ _ _ _ _ _ _ _ p q) y _ ?_ ?_ <;> blk_simp [e]

theorem result_logit : (dats m 0 c).arrAt 11 cfg0.N = (rows dLogit (layer m c) (tokens m c) : Mat 4096 1024) := by
  refine (dats m 0 c).arrAt_eq_of_covers 11 _ (by decide +kernel) fun t hf y => ?_
  obtain ⟨-, -, e, -⟩ := index_out t
  obtain ⟨g, hg⟩ := left_rows m c t
  blk_simp
  rw [after0_11, hg]
  refine row_result m c t (fun p q => st11_at _ _ _ _ _ _ _ _ _ p q) y _ ?_ ?_ <;> blk_simp [e]

theorem result_stream : (dats m 0 c).arrAt 12 cfg0.N = (rows dStream (layer m c) (tokens m c) : Mat32 4096 1024) := by
  refine (dats m 0 c).arrAt_eq_of_covers 12 _ (by decide +kernel) fun t hf y => ?_
  obtain ⟨-, -, -, e, -⟩ := index_out t
  obtain ⟨g, hg⟩ := left_rows m c t
  blk_simp
  rw [after0_12, hg]
  refine row_result m c t (fun p q => st12_at _ _ _ _ _ _ _ _ _ p q) y _ ?_ ?_ <;> blk_simp [e]

theorem result_copy : (dats m 0 c).arrAt 13 cfg0.N = (rows dStream (layer m c) (tokens m c) : Mat 4096 1024) := by
  refine (dats m 0 c).arrAt_eq_of_covers 13 _ (by decide +kernel) fun t hf y => ?_
  obtain ⟨-, -, -, -, e, -⟩ := index_out t
  obtain ⟨g, hg⟩ := left_rows m c t
  blk_simp
  rw [after0_13, hg]
  refine row_result m c t (fun p q => st12_at _ _ _ _ _ _ _ _ _ p q) y _ ?_ ?_ <;> blk_simp [e]

/-- and three of sums. -/
theorem last_point (t : Fin cfg0.N) (h : t.val % 16 = 15) : t.val + 1 = 16 := by
  have : t.val < 16 := t.isLt
  omega

theorem sum_index (y : S1x1024.Idx) : y = ix2 0 (y 1) :=
  funext fun a => by fin_cases a <;> first | exact Subsingleton.elim (α := Fin 1) _ _ | rfl

theorem result_last : (dats m 0 c).arrAt 14 cfg0.N = (fun i => ∑ k, lastPart (layer m c) (tokens m c k) (i 1) : Mat32 1 1024) := by
  refine (dats m 0 c).arrAt_eq_of_covers 14 _ (by decide +kernel) fun t hf y => ?_
  obtain ⟨-, -, -, -, -, e, -⟩ := index_out t
  have h := last_point t ((flush0_14 t).mp hf)
  blk_simp
  rw [after0_14]
  refine (congrArg (outsAt0 m c t.val t.isLt).2.2.2.2.2.1 (sum_index y)).trans ((left_sums m c (y 1) t.val t.isLt).1.trans ?_)
  rw [h, sum_part]
  refine Finset.sum_congr rfl fun k _ => congrArg (lastPart _ _) (Fin.ext ?_)
  blk_simp [e]

theorem result_loss : (dats m 0 c).arrAt 15 cfg0.N = (fun i => half * ∑ k, loss (layer m c) (tokens m c k) : Mat32 1 1024) := by
  refine (dats m 0 c).arrAt_eq_of_covers 15 _ (by decide +kernel) fun t hf y => ?_
  obtain ⟨-, -, -, -, -, -, e, -⟩ := index_out t
  have h := last_point t ((flush0_15 t).mp hf)
  blk_simp
  rw [after0_15]
  refine (congrArg (outsAt0 m c t.val t.isLt).2.2.2.2.2.2.1 (sum_index y)).trans ((left_sums m c (y 1) t.val t.isLt).2.1.trans ?_)
  rw [h, sum_half]

theorem result_ple : (dats m 0 c).arrAt 16 cfg0.N = (fun i => ∑ k, plePart (layer m c) (tokens m c k) (i 1) : Mat32 1 1024) := by
  refine (dats m 0 c).arrAt_eq_of_covers 16 _ (by decide +kernel) fun t hf y => ?_
  obtain ⟨-, -, -, -, -, -, -, e⟩ := index_out t
  have h := last_point t ((flush0_16 t).mp hf)
  blk_simp
  rw [after0_16]
  refine (congrArg (outsAt0 m c t.val t.isLt).2.2.2.2.2.2.2 (sum_index y)).trans ((left_sums m c (y 1) t.val t.isLt).2.2.trans ?_)
  rw [h, sum_part]
  refine Finset.sum_congr rfl fun k _ => congrArg (plePart _ _) (Fin.ext ?_)
  blk_simp [e]

end Cert.TailIdeal.Rms

end
-- ==== Proof.Rms.TailRef.lean ====
/- The last layer's reference, entry by entry: each stage is the last layer's quantity at the token of its row. -/
module

public import proofs.«01_k».proof.Proof.Gen.TailRefIdeal.Read
public import proofs.«01_k».proof.Proof.Rms.TailKernel

@[expose] public section

noncomputable section

namespace Cert.TailIdeal.Rms

open Cert.Rms Cert.TailRefIdeal Cert.TailRefIdeal.Read Idealize.ShloMosaic

theorem sum_from_zero {s t : EReal} (h : s = t) : Ideal.ofBits .f32 0x00000000#32 + s = t :=
  (congrArg (· + s) Ideal.ofBits_zero_f32).trans ((zero_add s).trans h)

section
variable (x : Mat 4096 4096) (w : Mat 4096 1024) (h : Mat32 4096 1024) (a : Mat 1024 1024) (v : Mat 4096 256) (u : Mat 1024 256)
  (y : Mat32 4096 1024) (f g : Mat32 1 1024)

/-- The token of a row and the layer, out of the reference's arrays. -/
abbrev tok (r : Fin 4096) : Token := tokenAt x w h v u y r
abbrev lay : Layer := layerOf a f g

theorem stream_ref (i : S4096x1024.Idx) : val_main_v6 (F := Ideal) x w h i = (tok x w h v u y (i 0)).stream (i 1) := by
  rw [val_main_v6_apply, val_main_v5_apply]
  refine congrArg₂ (· + ·) (congrArg h (eq_ix2 i)) (Finset.sum_congr rfl fun k _ => ?_)
  rw [val_main_v3_apply, val_main_v4_apply]
  exact congrArg₂ (· * ·) (congrArg x (funext fun b => by fin_cases b <;> rfl)) (congrArg w (funext fun b => by fin_cases b <;> rfl))

theorem streamSq_ref (i : S4096x1.Idx) : val_main_v13 (F := Ideal) x w h i = meanSq (tok x w h v u y (i 0)).stream := by
  rw [val_main_v13_apply, val_main_v11_apply, val_main_v9_apply, val_main_v8_apply, val_main_v10_apply, val_main_v12_apply]
  refine congrArg (fun s => Ideal.div s len + eps) (sum_from_zero (Finset.sum_congr rfl fun k _ => ?_))
  rw [val_main_v7_apply, stream_ref x w h v u y]
  rfl

theorem streamScale_ref (i : S4096x1.Idx) : val_main_v14 (F := Ideal) x w h i = scale (tok x w h v u y (i 0)).stream :=
  (val_main_v14_apply _ _ _ _).trans (congrArg Ideal.rsqrt (streamSq_ref x w h v u y i))

theorem streamUnit_ref (i : S4096x1024.Idx) :
    val_main_v16 (F := Ideal) x w h i = (tok x w h v u y (i 0)).stream (i 1) * scale (tok x w h v u y (i 0)).stream := by
  rw [val_main_v16_apply, stream_ref x w h v u y, val_main_v15_apply, streamScale_ref x w h v u y]
  rfl

theorem normed_ref (i : S4096x1024.Idx) : val_main_v18 (F := Ideal) x w h g i = normed (lay a f g) (tok x w h v u y (i 0)) (i 1) := by
  rw [val_main_v18_apply, streamUnit_ref x w h v u y, val_main_v17_apply]
  exact congrArg (_ * ·) (congrArg g (funext fun b => by fin_cases b <;> rfl))

theorem logit_ref (i : S4096x1024.Idx) : val_main_v19 (F := Ideal) x w h a g i = logit (lay a f g) (tok x w h v u y (i 0)) (i 1) := by
  rw [val_main_v19_apply]
  refine Finset.sum_congr rfl fun k _ => ?_
  rw [normed_ref x w h a v u y f g, val_main_v0_apply]
  exact congrArg (_ * ·) (congrArg a (funext fun b => by fin_cases b <;> rfl))

theorem gate_ref (i : S4096x1024.Idx) : val_main_v27 (F := Ideal) x w h a g i = gate (lay a f g) (tok x w h v u y (i 0)) (i 1) := by
  rw [val_main_v27_apply, val_main_v26_apply, val_main_v25_apply, val_main_v24_apply, val_main_v23_apply, val_main_v22_apply,
    logit_ref x w h a v u y f g]
  exact congrArg (fun k => Ideal.div k (k + Ideal.exp (-_))) Ideal.ofBits_one_f32

theorem emb_ref (i : S4096x1024.Idx) : val_main_v21 (F := Ideal) v u i = (tok x w h v u y (i 0)).emb (i 1) := by
  rw [val_main_v21_apply]
  refine (Finset.sum_congr rfl fun k _ => ?_ : _ = ∑ k : Fin 256, v (ix2 (i 0) k) * u (ix2 (i 1) k))
  rw [val_main_v20_apply, val_main_v2_apply, val_main_v1_apply]
  exact congrArg₂ (· * ·) (congrArg v (funext fun b => by fin_cases b <;> rfl)) (congrArg u (funext fun b => by fin_cases b <;> rfl))

theorem mixed_ref (i : S4096x1024.Idx) : val_main_v32 (F := Ideal) x w h a v u g i = mixed (lay a f g) (tok x w h v u y (i 0)) (i 1) := by
  rw [val_main_v32_apply, stream_ref x w h v u y, val_main_v31_apply, gate_ref x w h a v u y f g, emb_ref x w h v u y]
  rfl

theorem mixedSq_ref (i : S4096x1.Idx) : val_main_v39 (F := Ideal) x w h a v u g i = meanSq (mixed (lay a f g) (tok x w h v u y (i 0))) := by
  rw [val_main_v39_apply, val_main_v37_apply, val_main_v35_apply, val_main_v34_apply, val_main_v36_apply, val_main_v38_apply]
  refine congrArg (fun s => Ideal.div s len + eps) (sum_from_zero (Finset.sum_congr rfl fun k _ => ?_))
  rw [val_main_v33_apply, mixed_ref x w h a v u y f g]
  rfl

theorem mixedScale_ref (i : S4096x1.Idx) : val_main_v40 (F := Ideal) x w h a v u g i = scale (mixed (lay a f g) (tok x w h v u y (i 0))) :=
  (val_main_v40_apply ..).trans (congrArg Ideal.rsqrt (mixedSq_ref x w h a v u y f g i))

theorem mixedUnit_ref (i : S4096x1024.Idx) : val_main_v45 (F := Ideal) x w h a v u g i
    = mixed (lay a f g) (tok x w h v u y (i 0)) (i 1) * scale (mixed (lay a f g) (tok x w h v u y (i 0))) := by
  rw [val_main_v45_apply, mixed_ref x w h a v u y f g, val_main_v44_apply, mixedScale_ref x w h a v u y f g]
  rfl

theorem miss_ref (i : S4096x1024.Idx) : val_main_v48 (F := Ideal) x w h a v u y f g i = miss (lay a f g) (tok x w h v u y (i 0)) (i 1) := by
  rw [val_main_v48_apply, val_main_v47_apply, mixedUnit_ref x w h a v u y f g, val_main_v46_apply]
  exact congrArg₂ (fun s t => _ * s - t) (congrArg f (funext fun b => by fin_cases b <;> rfl)) (congrArg y (eq_ix2 i))

theorem loss_ref (i : S4096.Idx) : val_main_v54 (F := Ideal) x w h a v u y f g i = loss (lay a f g) (tok x w h v u y (i 0)) := by
  rw [val_main_v54_apply, val_main_v52_apply, val_main_v53_apply]
  refine congrArg (Ideal.div · len) (sum_from_zero (Finset.sum_congr rfl fun k _ => ?_))
  rw [val_main_v49_apply, miss_ref]
  rfl

/-- The gradients: of the normalised output, -/
theorem dOut_ref (i : S4096x1024.Idx) : val_main_v62 (F := Ideal) x w h a v u y f g i = dOut (lay a f g) (tok x w h v u y (i 0)) (i 1) := by
  rw [val_main_v62_apply, val_main_v61_apply, val_main_v60_apply, val_main_v58_apply, val_main_v57_apply, val_main_v59_apply, val_main_v51_apply,
    val_main_v50_apply, miss_ref]
  exact (congrArg (fun k => Ideal.div (half * k) len * _) Ideal.ofBits_one_f32).trans (dOut_eq _ _ _)

theorem outGain_ref (i : S4096x1024.Idx) :
    val_main_v67 (F := Ideal) x w h a v u y f g i = dOut (lay a f g) (tok x w h v u y (i 0)) (i 1) * (lay a f g).last (i 1) := by
  rw [val_main_v67_apply, dOut_ref, val_main_v66_apply]
  exact congrArg (_ * ·) (congrArg f (funext fun b => by fin_cases b <;> rfl))

theorem outSlope_ref (i : S4096x1024.Idx) : val_main_v77 (F := Ideal) x w h a v u y f g i
    = slope (dOut (lay a f g) (tok x w h v u y (i 0))) (lay a f g).last (mixed (lay a f g) (tok x w h v u y (i 0))) := by
  have e (k : Fin 1024) : idx_main_v69 (idx_main_v70 (idx_main_v76 (idx_main_v77 i) 0)) k = (ix2 (i 0) k : S4096x1024.Idx) := funext fun b => by
    fin_cases b
    · exact Fin.ext (by show (i 0).val * 1 + 0 = (i 0).val; omega)
    · rfl
  rw [val_main_v77_apply, val_main_v76_apply, Fin.sum_univ_one, val_main_v75_apply, val_main_v73_apply, val_main_v70_apply, val_main_v69_apply,
    val_main_v43_apply, val_main_v42_apply, val_main_v41_apply, mixedScale_ref x w h a v u y f g, mixedSq_ref x w h a v u y f g, val_main_v74_apply]
  refine sum_from_zero (congrArg (Ideal.div · len) (congrArg₂ (· * ·) (sum_from_zero (Finset.sum_congr rfl fun k _ => ?_)) rfl))
  rw [e, val_main_v68_apply, mixed_ref x w h a v u y f g, outGain_ref]
  rfl

/-- of the mixed stream, -/
theorem dMixed_ref (i : S4096x1024.Idx) : val_main_v81 (F := Ideal) x w h a v u y f g i = dMixed (lay a f g) (tok x w h v u y (i 0)) (i 1) := by
  refine (?_ : _ = chain _ _ _ _ _).trans (grad_eq _ _ _ _ _).symm
  rw [val_main_v81_apply, val_main_v79_apply, val_main_v72_apply, val_main_v78_apply, val_main_v80_apply, outGain_ref, outSlope_ref,
    val_main_v71_apply, mixedScale_ref x w h a v u y f g, mixed_ref x w h a v u y f g]
  exact (zero_add _).symm

/-- of the gate's argument, -/
theorem dLogit_ref (i : S4096x1024.Idx) : val_main_v84 (F := Ideal) x w h a v u y f g i = dLogit (lay a f g) (tok x w h v u y (i 0)) (i 1) := by
  rw [val_main_v84_apply, val_main_v83_apply, dMixed_ref, emb_ref x w h v u y, val_main_v30_apply, val_main_v29_apply, val_main_v28_apply,
    gate_ref x w h a v u y f g]
  exact (congrArg (fun k => _ * (_ * (k - _))) Ideal.ofBits_one_f32).trans (dLogit_eq _ _ _)

/-- of the normalised row -/
theorem dNormed_ref (i : S4096x1024.Idx) : val_main_v101 (F := Ideal) x w h a v u y f g i = dNormed (lay a f g) (tok x w h v u y (i 0)) (i 1) := by
  rw [val_main_v101_apply]
  refine Finset.sum_congr rfl fun k _ => ?_
  rw [dLogit_ref, val_main_v0_apply]
  exact congrArg (_ * ·) (congrArg a (funext fun b => by fin_cases b <;> rfl))

theorem normedGain_ref (i : S4096x1024.Idx) :
    val_main_v106 (F := Ideal) x w h a v u y f g i = dNormed (lay a f g) (tok x w h v u y (i 0)) (i 1) * (lay a f g).ple (i 1) := by
  rw [val_main_v106_apply, dNormed_ref, val_main_v105_apply]
  exact congrArg (_ * ·) (congrArg g (funext fun b => by fin_cases b <;> rfl))

theorem normedSlope_ref (i : S4096x1024.Idx) : val_main_v116 (F := Ideal) x w h a v u y f g i
    = slope (dNormed (lay a f g) (tok x w h v u y (i 0))) (lay a f g).ple (tok x w h v u y (i 0)).stream := by
  have e (k : Fin 1024) : idx_main_v108 (idx_main_v109 (idx_main_v115 (idx_main_v116 i) 0)) k = (ix2 (i 0) k : S4096x1024.Idx) := funext fun b => by
    fin_cases b
    · exact Fin.ext (by show (i 0).val * 1 + 0 = (i 0).val; omega)
    · rfl
  rw [val_main_v116_apply, val_main_v115_apply, Fin.sum_univ_one, val_main_v114_apply, val_main_v112_apply, val_main_v109_apply, val_main_v108_apply,
    val_main_v95_apply, val_main_v94_apply, val_main_v93_apply, val_main_v113_apply]
  refine sum_from_zero (congrArg (Ideal.div · len) (congrArg₂ (· * ·) (sum_from_zero (Finset.sum_congr rfl fun k _ => ?_))
    (congrArg (_ * ·) (congrArg₂ Ideal.div (streamScale_ref x w h v u y _) (streamSq_ref x w h v u y _)))))
  rw [e, val_main_v107_apply, stream_ref x w h v u y, normedGain_ref]
  rfl

/-- and of the stream. -/
theorem dStream_ref (i : S4096x1024.Idx) : val_main_v121 (F := Ideal) x w h a v u y f g i = dStream (lay a f g) (tok x w h v u y (i 0)) (i 1) := by
  refine (?_ : _ = chain _ _ _ _ _).trans (grad_eq _ _ _ _ _).symm
  rw [val_main_v121_apply, val_main_v120_apply, val_main_v118_apply, val_main_v111_apply, val_main_v117_apply, val_main_v119_apply, dMixed_ref,
    normedGain_ref, normedSlope_ref, val_main_v110_apply, stream_ref x w h v u y]
  exact congrArg (fun s => _ + (_ * s + _ + _)) (streamScale_ref x w h v u y _)

/-- The reference's results are the kernel's arrays: five of rows, -/
theorem reference_normed : val_main_v122 (F := Ideal) x w h g = rows normed (lay a f g) (tok x w h v u y) :=
  funext fun i => normed_ref x w h a v u y f g i

theorem reference_emb : val_main_v123 (F := Ideal) x w h a v u y f g = rows dEmb (lay a f g) (tok x w h v u y) := by
  funext i
  rw [val_main_v123_apply, val_main_v82_apply, dMixed_ref, gate_ref x w h a v u y f g]
  exact mul_comm _ _

theorem reference_logit : val_main_v124 (F := Ideal) x w h a v u y f g = rows dLogit (lay a f g) (tok x w h v u y) :=
  funext fun i => dLogit_ref x w h a v u y f g i

theorem reference_stream : val_main_v121 (F := Ideal) x w h a v u y f g = rows dStream (lay a f g) (tok x w h v u y) :=
  funext fun i => dStream_ref x w h a v u y f g i

theorem reference_copy : val_main_v125 (F := Ideal) x w h a v u y f g = rows dStream (lay a f g) (tok x w h v u y) :=
  funext fun i => dStream_ref x w h a v u y f g i

/-- and three of sums. -/
theorem token_column (i : S1x1024.Idx) (k : Fin 4096) : idx_main_v64 (idx_main_v65 i) k = (ix2 k (i 1) : S4096x1024.Idx) := funext fun b => by
  fin_cases b
  · rfl
  · exact Fin.ext (by have : (i 0).val < 1 := (i 0).isLt; show (i 0).val * 1024 + (i 1).val = (i 1).val; omega)

theorem reference_last : val_main_v65 (F := Ideal) x w h a v u y f g = fun i => ∑ k, lastPart (lay a f g) (tok x w h v u y k) (i 1) := by
  funext i
  rw [val_main_v65_apply, val_main_v64_apply]
  refine sum_from_zero (Finset.sum_congr rfl fun k _ => ?_)
  rw [token_column, val_main_v63_apply, mixedUnit_ref x w h a v u y f g, dOut_ref]
  exact mul_comm _ _

theorem reference_loss : val_main_v126 (F := Ideal) x w h a v u y f g = fun _ => half * ∑ k, loss (lay a f g) (tok x w h v u y k) := by
  funext i
  rw [val_main_v126_apply, val_main_v56_apply, val_main_v55_apply]
  refine congrArg (half * ·) (sum_from_zero ?_)
  simp only [loss_ref]
  exact Fintype.sum_equiv (⟨fun j => j 0, fun k b => match b with | ⟨0, _⟩ => k, fun j => funext fun b => by fin_cases b; rfl, fun _ => rfl⟩ :
    S4096.Idx ≃ Fin 4096) _ _ fun _ => rfl

theorem reference_ple : val_main_v104 (F := Ideal) x w h a v u y f g = fun i => ∑ k, plePart (lay a f g) (tok x w h v u y k) (i 1) := by
  funext i
  rw [val_main_v104_apply, val_main_v103_apply]
  refine sum_from_zero (Finset.sum_congr rfl fun k _ => ?_)
  rw [show idx_main_v103 (idx_main_v104 i) k = _ from token_column i k, val_main_v102_apply, dNormed_ref]
  exact (congrArg (· * _) (streamUnit_ref x w h v u y _)).trans (mul_comm _ _)

end

end Cert.TailIdeal.Rms

end
-- ==== Proof.Weight.Same.lean ====
/- The gradients of the embedding's two weights are computed by the very programs that compute two other gradients: the gate's by that of the
   output projection, the embedding's projection's by that of the dilated branch, on other arrays. Here each pair of programs is shown to be
   one program, so that what is proved of one holds of the other. -/
module

public import proofs.«01_k».proof.Defs
public import proofs.«01_k».proof.Proof.Gen.GwOut
public import proofs.«01_k».proof.Proof.Gen.GwOutIdeal
public import proofs.«01_k».proof.Proof.Gen.GwOutRefIdeal
public import proofs.«01_k».proof.Proof.Gen.GwBd
public import proofs.«01_k».proof.Proof.Gen.GwBdIdeal
public import proofs.«01_k».proof.Proof.Gen.GwBdRefIdeal
public import proofs.«01_k».proof.Proof.Gen.GwPg
public import proofs.«01_k».proof.Proof.Gen.GwPgIdeal
public import proofs.«01_k».proof.Proof.Gen.GwPgRefIdeal
public import proofs.«01_k».proof.Proof.Gen.GwPp
public import proofs.«01_k».proof.Proof.Gen.GwPpIdeal
public import proofs.«01_k».proof.Proof.Gen.GwPpRefIdeal

@[expose] public section

noncomputable section

namespace Cert.Weight

open Idealize Idealize.ShloMosaic

/-- Tables of bodies with a single label are equal when that label's bodies are. -/
theorem table_ext {A : Fin 1 → Type} {B : (l : Fin 1) → A l → Type 1} {D E : (l : Fin 1) → (a : A l) → B l a} (h : D 0 = E 0) : D = E :=
  funext fun l => by
    obtain rfl : l = 0 := Subsingleton.elim _ _
    exact h

variable {F : FTy → Type} [FloatOps F]

/-! The gate's weight, and the output projection's. -/

theorem defs_gwPg : Cert.GwPg.defs (F := F) = Cert.GwOut.defs (F := F) :=
  congrArg (Pipeline.defs (Cert.GwOut.pcfgs (F := F)))
    (congrArg (Defs.onTc (nD := 1) (τ := Topo.v7x) (sig := Cert.GwOut.sig) (Val := Elt F) (Λ := Cert.GwOut.Λ₀)) (table_ext rfl))

theorem defs_gwPgIdeal : Cert.GwPgIdeal.defs (F := F) = Cert.GwOutIdeal.defs (F := F) :=
  congrArg (Pipeline.defs (Cert.GwOutIdeal.pcfgs (F := F)))
    (congrArg (Defs.onTc (nD := 1) (τ := Topo.v7x) (sig := Cert.GwOutIdeal.sig) (Val := Elt F) (Λ := Cert.GwOutIdeal.Λ₀)) (table_ext rfl))

theorem frame_gwPg (h : Cert.quiescent_GwOut) : Cert.quiescent_GwPg := by
  intro m g hp
  rw [defs_gwPg]
  exact h m g hp

theorem frame_gwPgIdeal (h : Cert.quiescent_GwOutIdeal) : Cert.quiescent_GwPgIdeal := by
  intro m g hp
  rw [defs_gwPgIdeal]
  exact h m g hp

theorem frame_gwPgRef (h : Cert.quiescent_GwOutRefIdeal) : Cert.quiescent_GwPgRefIdeal := h

theorem algebraic_gwPg (h : Cert.algebraic_GwOutIdeal_GwOutRefIdeal) : Cert.algebraic_GwPgIdeal_GwPgRefIdeal := by
  intro m g m' g' hp hagree
  rw [defs_gwPgIdeal]
  exact h m g m' g' hp hagree

/-! The embedding's projection, and the dilated branch's weight. -/

theorem defs_gwPp : Cert.GwPp.defs (F := F) = Cert.GwBd.defs (F := F) :=
  congrArg (Pipeline.defs (Cert.GwBd.pcfgs (F := F)))
    (congrArg (Defs.onTc (nD := 1) (τ := Topo.v7x) (sig := Cert.GwBd.sig) (Val := Elt F) (Λ := Cert.GwBd.Λ₀)) (table_ext rfl))

theorem defs_gwPpIdeal : Cert.GwPpIdeal.defs (F := F) = Cert.GwBdIdeal.defs (F := F) :=
  congrArg (Pipeline.defs (Cert.GwBdIdeal.pcfgs (F := F)))
    (congrArg (Defs.onTc (nD := 1) (τ := Topo.v7x) (sig := Cert.GwBdIdeal.sig) (Val := Elt F) (Λ := Cert.GwBdIdeal.Λ₀)) (table_ext rfl))

theorem frame_gwPp (h : Cert.quiescent_GwBd) : Cert.quiescent_GwPp := by
  intro m g hp
  rw [defs_gwPp]
  exact h m g hp

theorem frame_gwPpIdeal (h : Cert.quiescent_GwBdIdeal) : Cert.quiescent_GwPpIdeal := by
  intro m g hp
  rw [defs_gwPpIdeal]
  exact h m g hp

theorem frame_gwPpRef (h : Cert.quiescent_GwBdRefIdeal) : Cert.quiescent_GwPpRefIdeal := h

theorem algebraic_gwPp (h : Cert.algebraic_GwBdIdeal_GwBdRefIdeal) : Cert.algebraic_GwPpIdeal_GwPpRefIdeal := by
  intro m g m' g' hp hagree
  rw [defs_gwPpIdeal]
  exact h m g m' g' hp hagree

end Cert.Weight

end
-- ==== Proof.Rope.Turn.lean ====
/- A rotary embedding by blocks: a row of a product, turned by a cosine and a sine at each place, and the vector operations the kernel makes it of. -/
module

public import proofs.«01_k».proof.Proof.Gen.InIdeal.Skeleton
public import Idealize.ShloMosaic.Lib.Pointwise
public import Idealize.ShloMosaic.Lib.ValueIdx

@[expose] public section

noncomputable section

namespace Cert.Rope

open Cert.InIdeal Cert.InIdeal.Gen Idealize.ShloMosaic

/-- A matrix of real entries. -/
abbrev Mat (r s : ℕ) : Type := (⟨2, ![r, s]⟩ : Shape).Idx → EReal

/-- An entry by the numbers of its row and its column, taken again from the beginning past the end. -/
def entry {r s : ℕ} [NeZero r] [NeZero s] (x : Mat r s) (i j : ℕ) : EReal := x (ix2 (Fin.ofNat r i) (Fin.ofNat s j))

/-- Row `i` of the activations times row `n` of the weight. -/
def product {r : ℕ} [NeZero r] (x : Mat r 1024) (w : Mat 5888 1024) (i n : ℕ) : EReal := ∑ k : Fin 1024, x (ix2 (Fin.ofNat r i) k) * w (ix2 (Fin.ofNat 5888 n) k)

/-- The other of a place's pair: 32 further in the first half of a head's 64 places, 32 back in the second. -/
def swap (c : ℕ) : ℕ := if c % 64 < 32 then c + 32 else c - 32

theorem swap_lt {c : ℕ} (h : c < 128) : swap c < 128 := by
  unfold swap
  split <;> omega

theorem swap_add (c : ℕ) : swap (128 + c) = 128 + swap c := by
  unfold swap
  rw [show (128 + c) % 64 = c % 64 by omega]
  split <;> omega

/-- A row turned: each place times its cosine, and its pair's other place times its sine. -/
def turned (f C S : ℕ → EReal) (c : ℕ) : EReal := f c * C c + f (swap c) * S c

/-- A half of a block's columns with the places of each pair exchanged. -/
def exchanged (u : FVec Ideal S256x128 .f32) : FVec Ideal S256x128 .f32 :=
  select (cmpi .slt (andi (iota .tc S256x128 32 [1] iota_S256x128_d1_w32) (broadcast S256x128 63#32)) (broadcast S256x128 32#32))
    (dynamicRotate 1 (96#32) none u rotates_S256x128_d1) (dynamicRotate 1 (32#32) none u rotates_S256x128_d1)

/-- A block turned. -/
def turn (v c s : FVec Ideal S256x256 .f32) : FVec Ideal S256x256 .f32 :=
  addf (mulf v c) (mulf (concatenate S256x256 1
    [⟨S256x128, exchanged (extractStridedSlice S256x128 ![0, 0] v slices_S256x256_o0_0_S256x128)⟩,
      ⟨S256x128, exchanged (extractStridedSlice S256x128 ![0, 128] v slices_S256x256_o0_128_S256x128)⟩]
    concatenates_S256x128_S256x128_S256x256_d1) s)

theorem first_half : ∀ l : Fin 128, IntOp.cmpi .slt (IntOp.andi (BitVec.ofNat 32 l.val) 63#32) 32#32 = if l.val % 64 < 32 then 1#1 else 0#1 := by
  decide +kernel

theorem exchanged_at (u : FVec Ideal S256x128 .f32) (p : Fin 256) (l : Fin 128) :
    exchanged u (ix2 p l) = u (ix2 p ⟨swap l.val, swap_lt l.isLt⟩) := by
  unfold exchanged
  pointwise
  rw [first_half l]
  by_cases h : l.val % 64 < 32
  · rw [if_pos h]
    exact congrArg (fun j => u (ix2 p j)) (Fin.ext (show (l.val + 128 - 96) % 128 = swap l.val by unfold swap; rw [if_pos h]; omega))
  · rw [if_neg h]
    exact congrArg (fun j => u (ix2 p j)) (Fin.ext (show (l.val + 128 - 32) % 128 = swap l.val by unfold swap; rw [if_neg h]; omega))

theorem turn_at (v c s : FVec Ideal S256x256 .f32) (p q : Fin 256) (f C S : ℕ → EReal) (hf : ∀ q : Fin 256, v (ix2 p q) = f q.val)
    (hC : c (ix2 p q) = C q.val) (hS : s (ix2 p q) = S q.val) :
    turn v c s (ix2 p q) = turned f C S q.val := by
  unfold turn turned
  pointwise
  rw [hC, hS, hf]
  refine congrArg (fun x => f q.val * C q.val + x * S q.val) ?_
  split
  · next h =>
    rw [exchanged_at]
    pointwise
    exact hf _
  · next h =>
    rw [exchanged_at]
    pointwise
    refine (hf _).trans (congrArg f ?_)
    have e : q.val = 128 + (q.val - 128) := by omega
    conv_rhs => rw [e, swap_add]

/-- A chunk of 256 rows of the product with 2304 of the weight's rows. -/
theorem product_at {r : ℕ} [NeZero r] (x : Mat r 1024) (w : Mat 5888 1024) (a : FVec Ideal S256x1024 .bf16) (b : FVec Ideal S2304x1024 .bf16) (i : ℕ)
    (p : Fin 256) (q : Fin 2304) (ha : ∀ k, a (ix2 p k) = x (ix2 (Fin.ofNat r i) k)) (hb : ∀ k, b (ix2 q k) = w (ix2 (Fin.ofNat 5888 (1536 + q.val)) k)) :
    k0_pay6 (F := Ideal) a b (ix2 p q) = product x w i (1536 + q.val) := by
  unfold k0_pay6 product
  pointwise
  simp only [ha, hb]

end Cert.Rope

end
-- ==== Proof.Rope.Stage.lean ====
/- A chunk of 256 rows that is put into a scratch, each half of its columns apart, and read out again with a stride: where each row goes. -/
module

public import proofs.«01_k».proof.Proof.Rope.Turn
public import Idealize.ShloMosaic.Lib.Pipeline.ValueKit
public import Idealize.ShloMosaic.Lib.Pipeline.ReadBack

@[expose] public section

noncomputable section

namespace Cert.Rope

open Cert.InIdeal Cert.InIdeal.Gen Idealize.ShloMosaic

/-- Rows dealt out in turn to `D` groups: row `D * r + j` is row `r` of group `j`. -/
def spread (D N : ℕ) (W : ℕ → ℕ → EReal) : (⟨3, ![D, N, 256]⟩ : Shape).Idx → EReal := fun y => W (D * (y 1).val + (y 0).val) (y 2).val

/-- Rows by their numbers. -/
def flat {N c : ℕ} (W : ℕ → ℕ → EReal) : Mat N c := fun y => W (y 0).val (y 1).val

/-- The scratch holds a chunk of 256 rows of `W` from the row `r0` on, the halves of the columns apart. -/
def Stored (L : List (View.Piece (Elt Ideal) S2x256x128 .f32)) (W : ℕ → ℕ → EReal) (r0 : ℕ) : Prop :=
  ∀ y : S2x256x128.Idx, View.canon L y = W (r0 + (y 1).val) (128 * (y 0).val + (y 2).val)

/-- Stores that cover a block, each of them a part of one function, leave that function. -/
theorem of_pieces {κ : Kind} {sp : Space} {s : Shape} {e : EltTy} (v : View sig κ sp s e) (f : v.ty.Contents (Elt Ideal)) (L : List (View.Piece (Elt Ideal) s e))
    (G : s.Idx → Elt Ideal e) (hc : ∀ y, ∃ p ∈ L, y ∈ p.1.set) (h : View.PiecesOf G L) : v.read (Elt Ideal) (v.writes (Elt Ideal) f L) = G :=
  (View.read_writes_eq_canon _ _ _ hc).trans (funext fun y => View.canon_apply_of_pieces G L h.mem y (hc y))

/-- What the scratch holds after both halves of a chunk are stored, whatever was there before. -/
theorem halves {W : ℕ → ℕ → EReal} {r0 : ℕ} (w0 w1 : S1x256x128.Idx → Elt Ideal .f32) (i0 i1) (L : List (View.Piece (Elt Ideal) S2x256x128 .f32))
    (h0 : ∀ (p : Fin 256) (q : Fin 128), w0 (ix3 0 p q) = W (r0 + p.val) q.val) (h1 : ∀ (p : Fin 256) (q : Fin 128), w1 (ix3 0 p q) = W (r0 + p.val) (128 + q.val)) :
    ∀ y : S2x256x128.Idx, View.canon ((⟨Rect.unit (s := S2x256x128) ![1, 0, 0] S1x256x128.size i1, w1⟩ : View.Piece (Elt Ideal) S2x256x128 .f32)
        :: ⟨Rect.unit (s := S2x256x128) ![0, 0, 0] S1x256x128.size i0, w0⟩ :: L) y
      = W (r0 + (y 1).val) (128 * (y 0).val + (y 2).val) := by
  intro y
  have l0 : (y 0).val < 2 := (y 0).isLt
  by_cases h : (y 0).val = 1
  · have e : y = (Rect.unit (s := S2x256x128) ![1, 0, 0] S1x256x128.size i1).emb (ix3 (n0 := 1) (n1 := 256) (n2 := 128) 0 (y 1) (y 2)) := funext fun a => Fin.ext (by
      rw [Rect.emb_apply]
      fin_cases a
      · exact h
      · exact (show (y 1).val = 0 + 1 * (y 1).val by omega)
      · exact (show (y 2).val = 0 + 1 * (y 2).val by omega))
    conv_lhs => rw [e]
    rw [View.canon_cons_emb, h]
    exact h1 _ _
  · rw [View.canon_cons_of_not_mem]
    · have h' : (y 0).val = 0 := by omega
      have e : y = (Rect.unit (s := S2x256x128) ![0, 0, 0] S1x256x128.size i0).emb (ix3 (n0 := 1) (n1 := 256) (n2 := 128) 0 (y 1) (y 2)) := funext fun a => Fin.ext (by
        rw [Rect.emb_apply]
        fin_cases a
        · exact h'
        · exact (show (y 1).val = 0 + 1 * (y 1).val by omega)
        · exact (show (y 2).val = 0 + 1 * (y 2).val by omega))
      conv_lhs => rw [e]
      rw [View.canon_cons_emb, h']
      exact (h0 _ _).trans (congrArg (W _) (by rw [Nat.mul_zero, Nat.zero_add]))
    · intro hm
      exact absurd (show 1 ≤ (y 0).val from ((Rect.mem_set_unit (inb := i1)).mp hm 0).1) (by omega)

/-- The same, the halves being those of one chunk. -/
theorem stored {W : ℕ → ℕ → EReal} {r0 : ℕ} (V : FVec Ideal S256x256 .f32) (hV : ∀ p q : Fin 256, V (ix2 p q) = W (r0 + p.val) q.val) {i0 i1 h0 h1 g0 g1}
    {L : List (View.Piece (Elt Ideal) S2x256x128 .f32)} :
    Stored ((⟨Rect.unit (s := S2x256x128) ![1, 0, 0] S1x256x128.size i1,
          shapeCast (α := Ideal .f32) S1x256x128 (extractStridedSlice S256x128 ![0, 128] V h1) g1⟩ : View.Piece (Elt Ideal) S2x256x128 .f32)
        :: ⟨Rect.unit (s := S2x256x128) ![0, 0, 0] S1x256x128.size i0, shapeCast (α := Ideal .f32) S1x256x128 (extractStridedSlice S256x128 ![0, 0] V h0) g0⟩ :: L) W r0 := by
  refine halves _ _ _ _ _ (fun p q => ?_) fun p q => ?_
  · pointwise
    exact hV _ _
  · pointwise
    refine (hV _ _).trans (congrArg (W _) ?_)
    simp only [Nat.add_comm]

/-- A strided read of the scratch, rounded and stored, puts the chunk's rows where `spread` has them. -/
theorem staged {σ : RefSig} {κ : Kind} {sp : Space} {scr : View σ κ sp S2x256x128 .f32} {D N n j a h l0 r0 : ℕ} {L : List (View.Piece (Elt Ideal) S2x256x128 .f32)}
    {W : ℕ → ℕ → EReal} (hL : Stored L W r0) {inb inb' h1 h3}
    (hr : D * a = r0) (hl : l0 = 128 * h) (x : (⟨3, ![1, n, 128]⟩ : Shape).Idx) :
    shapeCast ⟨3, ![1, n, 128]⟩ (truncf (F := Ideal) (φ := .f32) .bf16 (shapeCast (α := Ideal .f32) ⟨2, ![n, 128]⟩
        (scr.readCov L ({ off := ![h, j, 0], size := ![1, n, 128], stride := ![1, D, 1], inb := inb } : LoadRect S2x256x128)) h1) (by decide)) h3 x
      = spread D N W ((Rect.unit (s := ⟨3, ![D, N, 256]⟩) ![j, a, l0] ![1, n, 128] inb').emb x) := by
  rw [eq_ix3 x, View.readCov_eq_canon']
  pointwise
  rw [hL _]
  unfold spread
  refine congrArg₂ W ?_ ?_
  · show r0 + (j + D * (x 1).val) = D * (a + 1 * (x 1).val) + (j + 1 * (x 0).val)
    have : (x 0).val < 1 := (x 0).isLt
    rw [Nat.mul_add, hr, Nat.one_mul]
    omega
  · show 128 * h + (x 2).val = l0 + 1 * (x 2).val
    omega

/-! The same for the two strides there are: 4, and 16. -/

theorem staged4 {σ : RefSig} {κ : Kind} {sp : Space} {scr : View σ κ sp S2x256x128 .f32} {j a h l0 r0 : ℕ} {L : List (View.Piece (Elt Ideal) S2x256x128 .f32)}
    {W : ℕ → ℕ → EReal} (hL : Stored L W r0) {inb inb'}
    (hr : 4 * a = r0) (hl : l0 = 128 * h) (x : S1x64x128.Idx) :
    shapeCast (α := Ideal .bf16) S1x64x128 (truncf (F := Ideal) (φ := .f32) .bf16 (shapeCast (s := S1x64x128) (α := Ideal .f32) S64x128
        (scr.readCov L ({ off := ![h, j, 0], size := S1x64x128.size, stride := ![1, 4, 1], inb := inb } : LoadRect S2x256x128))
        shapeCasts_S1x64x128_S64x128) bitsLt_bf16_f32) shapeCasts_S64x128_S1x64x128 x
      = spread 4 128 W ((Rect.unit (s := S4x128x256) ![j, a, l0] S1x64x128.size inb').emb x) :=
  staged hL hr hl x

theorem staged16 {σ : RefSig} {κ : Kind} {sp : Space} {scr : View σ κ sp S2x256x128 .f32} {j a h l0 r0 : ℕ} {L : List (View.Piece (Elt Ideal) S2x256x128 .f32)}
    {W : ℕ → ℕ → EReal} (hL : Stored L W r0) {inb inb'}
    (hr : 16 * a = r0) (hl : l0 = 128 * h) (x : S1x16x128.Idx) :
    shapeCast (α := Ideal .bf16) S1x16x128 (truncf (F := Ideal) (φ := .f32) .bf16 (shapeCast (s := S1x16x128) (α := Ideal .f32) S16x128
        (scr.readCov L ({ off := ![h, j, 0], size := S1x16x128.size, stride := ![1, 16, 1], inb := inb } : LoadRect S2x256x128))
        shapeCasts_S1x16x128_S16x128) bitsLt_bf16_f32) shapeCasts_S16x128_S1x16x128 x
      = spread 16 32 W ((Rect.unit (s := S16x32x256) ![j, a, l0] S1x16x128.size inb').emb x) :=
  staged hL hr hl x

/-- A chunk rounded and stored as it is. -/
theorem direct {V : FVec Ideal S256x256 .f32} {W : ℕ → ℕ → EReal} {r0 : ℕ} (hV : ∀ p q : Fin 256, V (ix2 p q) = W (r0 + p.val) q.val) {inb h3}
    (x : S1x256x256.Idx) :
    shapeCast (α := Ideal .bf16) S1x256x256 (truncf (F := Ideal) (φ := .f32) .bf16 V (by decide)) h3 x
      = spread 1 512 W ((Rect.unit (s := S1x512x256) ![0, r0, 0] S1x256x256.size inb).emb x) := by
  rw [eq_ix3 x]
  pointwise
  refine (hV _ _).trans (congrArg₂ W ?_ ?_)
  · show r0 + (x 1).val = 1 * (r0 + 1 * (x 1).val) + (0 + 1 * (x 0).val)
    have : (x 0).val < 1 := (x 0).isLt
    omega
  · show (x 2).val = 0 + 1 * (x 2).val
    omega

/-- A chunk of rows stored as they are in a matrix. -/
theorem rows_of {N n c : ℕ} {V : (⟨2, ![n, c]⟩ : Shape).Idx → EReal} {W : ℕ → ℕ → EReal} {r0 : ℕ} (hV : ∀ (p : Fin n) (q : Fin c), V (ix2 p q) = W (r0 + p.val) q.val)
    {inb} (x : (⟨2, ![n, c]⟩ : Shape).Idx) : V x = flat (N := N) (c := c) W ((Rect.unit (s := ⟨2, ![N, c]⟩) ![r0, 0] ![n, c] inb).emb x) := by
  rw [eq_ix2 x]
  refine (hV _ _).trans (congrArg₂ W ?_ ?_)
  · show r0 + (x 0).val = r0 + 1 * (x 0).val
    omega
  · show (x 1).val = 0 + 1 * (x 1).val
    omega

end Cert.Rope

end
-- ==== Proof.Rope.Block.lean ====
/- What a point of the input projection leaves in each of its eleven blocks, entry by entry. -/
module

public import proofs.«01_k».proof.Proof.Gen.InIdeal.Value
public import proofs.«01_k».proof.Proof.Rope.Stage

@[expose] public section

set_option maxRecDepth 16384

noncomputable section

namespace Cert.Rope

open Cert.InIdeal Cert.InIdeal.Gen Idealize.ShloMosaic Idealize.ShloMosaic.TcCoe

/-- A group of 256 columns turned, from the column `o` of the part that holds queries, keys and values; -/
def turnedOf {r : ℕ} [NeZero r] (x : Mat r 1024) (w : Mat 5888 1024) (C S : Mat r 256) (o i c : ℕ) : EReal :=
  turned (fun c => product x w i (1536 + (o + c))) (entry C i) (entry S i) c

/-- and one left as it is. -/
def plainOf {r : ℕ} [NeZero r] (x : Mat r 1024) (w : Mat 5888 1024) (o i c : ℕ) : EReal := product x w i (1536 + (o + c))

/-- The logistic function, as a quotient. -/
def gate (u : EReal) : EReal := Ideal.div 1 (1 + Ideal.exp (-u))

section
variable {arg1 : Memref sig .tc .vmem S512x1024 .bf16} (harg1 : arg1.IsWhole) {arg2 : Memref sig .tc .vmem S5888x1024 .bf16} (harg2 : arg2.IsWhole)
  {arg3 : Memref sig .tc .vmem S512x256 .f32} (harg3 : arg3.IsWhole) {arg4 : Memref sig .tc .vmem S512x256 .f32} (harg4 : arg4.IsWhole)
  (x0 : Vec Ideal S512x1024 .bf16) (x1 : Vec Ideal S5888x1024 .bf16) (x2 : Vec Ideal S512x256 .f32) (x3 : Vec Ideal S512x256 .f32)
  (r0 o : ℕ) (i1 i2 i3 i4 hs)

theorem ofNat_eq {n a : ℕ} [NeZero n] (h : a < n) : Fin.ofNat n a = ⟨a, h⟩ := Fin.ext (Nat.mod_eq_of_lt h)

/-- The chunk's rows of the activations, -/
theorem rows_at (p : Fin 256) (k : Fin 1024) :
    arg1.view.readAt (Elt Ideal) (Rect.unit (s := S512x1024) ![r0, 0] S256x1024.size i1).toLoadRect (harg1.unread x0) (ix2 p k) = x0 (ix2 (Fin.ofNat 512 (r0 + p.val)) k) := by
  have h : r0 + 256 ≤ 512 := i1 0
  rw [View.readAt_eq_ld, harg1.read_unread, ofNat_eq (show r0 + p.val < 512 by omega)]
  exact View.ld_unit_apply_of (S := S512x1024) x0 _ _ _ _ _ fun a => by
    fin_cases a
    · rfl
    · exact (Nat.zero_add _).symm

/-- and of a table. -/
theorem table_at (p q : Fin 256) :
    k0_pay7 (F := Ideal) (arg3.view.readAt (Elt Ideal) (Rect.unit (s := S512x256) ![r0, 0] S256x256.size i3).toLoadRect (harg3.unread x2)) (ix2 p q)
      = entry (r := 512) (s := 256) x2 (r0 + p.val) q.val := by
  have h : r0 + 256 ≤ 512 := i3 0
  unfold entry k0_pay7
  pointwise
  rw [View.readAt_eq_ld, harg3.read_unread, ofNat_eq (show r0 + p.val < 512 by omega), ofNat_eq q.isLt]
  exact View.ld_unit_apply_of (S := S512x256) x2 _ _ _ _ _ fun a => by
    fin_cases a
    · rfl
    · exact (Nat.zero_add _).symm

/-- The weight's rows from `n0` on. -/
theorem weight_at {m n0 : ℕ} {i2} (q : Fin m) (k : Fin 1024) :
    arg2.view.readAt (Elt Ideal) (Rect.unit (s := S5888x1024) ![n0, 0] ![m, 1024] i2).toLoadRect (harg2.unread x1) (ix2 q k) = x1 (ix2 (Fin.ofNat 5888 (n0 + q.val)) k) := by
  have h : n0 + m ≤ 5888 := i2 0
  rw [View.readAt_eq_ld, harg2.read_unread, ofNat_eq (show n0 + q.val < 5888 by omega)]
  exact View.ld_unit_apply_of (S := S5888x1024) x1 _ _ _ _ _ fun a => by
    fin_cases a
    · rfl
    · exact (Nat.zero_add _).symm

/-- A group of columns of a chunk of the product, -/
theorem plain_chunk (p q : Fin 256) :
    extractStridedSlice S256x256 ![0, o] (k0_pay6 (F := Ideal)
        (arg1.view.readAt (Elt Ideal) (Rect.unit (s := S512x1024) ![r0, 0] S256x1024.size i1).toLoadRect (harg1.unread x0))
        (arg2.view.readAt (Elt Ideal) (Rect.unit (s := S5888x1024) ![1536, 0] S2304x1024.size i2).toLoadRect (harg2.unread x1))) hs (ix2 p q)
      = plainOf (r := 512) x0 x1 o (r0 + p.val) q.val := by
  have h : o + 256 ≤ 2304 := hs.2 1
  pointwise
  refine (product_at (r := 512) x0 x1 _ _ (r0 + p.val) _ _ (rows_at harg1 x0 r0 i1 p) (weight_at harg2 x1 _)).trans ?_
  unfold plainOf
  refine congrArg (product _ _ _) ?_
  show 1536 + _ = 1536 + (o + q.val)
  simp only [Nat.add_comm]

/-- and the same turned. -/
theorem turned_chunk (p q : Fin 256) :
    turn (extractStridedSlice S256x256 ![0, o] (k0_pay6 (F := Ideal)
        (arg1.view.readAt (Elt Ideal) (Rect.unit (s := S512x1024) ![r0, 0] S256x1024.size i1).toLoadRect (harg1.unread x0))
        (arg2.view.readAt (Elt Ideal) (Rect.unit (s := S5888x1024) ![1536, 0] S2304x1024.size i2).toLoadRect (harg2.unread x1))) hs)
      (k0_pay7 (F := Ideal) (arg3.view.readAt (Elt Ideal) (Rect.unit (s := S512x256) ![r0, 0] S256x256.size i3).toLoadRect (harg3.unread x2)))
      (k0_pay8 (F := Ideal) (arg4.view.readAt (Elt Ideal) (Rect.unit (s := S512x256) ![r0, 0] S256x256.size i4).toLoadRect (harg4.unread x3))) (ix2 p q)
      = turnedOf (r := 512) x0 x1 x2 x3 o (r0 + p.val) q.val :=
  turn_at _ _ _ _ _ _ _ _ (fun q => plain_chunk harg1 harg2 x0 x1 r0 o i1 i2 hs p q) (table_at harg3 x2 r0 i3 p q) (table_at harg4 x3 r0 i4 p q)

/-- A chunk of the neighbourhood branch's columns, -/
theorem na_chunk (p : Fin 256) (q : Fin 1536) :
    k0_pay5 (F := Ideal) (arg1.view.readAt (Elt Ideal) (Rect.unit (s := S512x1024) ![r0, 0] S256x1024.size i1).toLoadRect (harg1.unread x0))
        (arg2.view.readAt (Elt Ideal) (Rect.unit (s := S5888x1024) ![0, 0] S1536x1024.size i2).toLoadRect (harg2.unread x1)) (ix2 p q)
      = product (r := 512) x0 x1 (r0 + p.val) q.val := by
  unfold k0_pay5 product
  pointwise
  simp only [rows_at harg1 x0 r0 i1, weight_at harg2 x1, Nat.zero_add]

/-- and of the gates'. -/
theorem gate_chunk (p : Fin 256) (q : Fin 2048) :
    k0_pay4 (F := Ideal) (arg1.view.readAt (Elt Ideal) (Rect.unit (s := S512x1024) ![r0, 0] S256x1024.size i1).toLoadRect (harg1.unread x0))
        (arg2.view.readAt (Elt Ideal) (Rect.unit (s := S5888x1024) ![3840, 0] S2048x1024.size i2).toLoadRect (harg2.unread x1)) (ix2 p q)
      = gate (product (r := 512) x0 x1 (r0 + p.val) (3840 + q.val)) := by
  unfold k0_pay4 gate product
  pointwise
  rw [zero_sub]
  simp only [rows_at harg1 x0 r0 i1, weight_at harg2 x1]
end

section
variable (c : Dev nD) (i : grid0.Coords) (arg1 : Memref sig .tc .vmem S512x1024 .bf16) (harg1 : arg1.IsWhole) (arg2 : Memref sig .tc .vmem S5888x1024 .bf16) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1536 .bf16) (harg5 : arg5.IsWhole) (arg6 : Memref sig .tc .vmem S512x2048 .bf16) (harg6 : arg6.IsWhole) (arg7 : Memref sig .tc .vmem S1x512x256 .bf16) (harg7 : arg7.IsWhole) (arg8 : Memref sig .tc .vmem S4x128x256 .bf16) (harg8 : arg8.IsWhole) (arg9 : Memref sig .tc .vmem S16x32x256 .bf16) (harg9 : arg9.IsWhole) (arg10 : Memref sig .tc .vmem S1x512x256 .bf16) (harg10 : arg10.IsWhole) (arg11 : Memref sig .tc .vmem S4x128x256 .bf16) (harg11 : arg11.IsWhole) (arg12 : Memref sig .tc .vmem S16x32x256 .bf16) (harg12 : arg12.IsWhole) (arg13 : Memref sig .tc .vmem S1x512x256 .bf16) (harg13 : arg13.IsWhole) (arg14 : Memref sig .tc .vmem S4x128x256 .bf16) (harg14 : arg14.IsWhole) (arg15 : Memref sig .tc .vmem S16x32x256 .bf16) (harg15 : arg15.IsWhole) (arg16 : Memref sig .tc .vmem S2x256x128 .f32) (harg16 : arg16.IsWhole)
  (x0 : Vec Ideal S512x1024 .bf16) (x1 : Vec Ideal S5888x1024 .bf16) (x2 : Vec Ideal S512x256 .f32) (x3 : Vec Ideal S512x256 .f32)

/-! What the scratch holds each time it is read: a group of columns of the first chunk, and of the second. -/

theorem stored_q4 : Stored (kernelRun0_A.sl.HS0_2 c arg1 harg1 arg2 harg2 arg3 harg3 arg4 harg4 x0 x1 x2 x3) (turnedOf (r := 512) x0 x1 x2 x3 256) 0
    ∧ Stored (kernelRun0_A.sl.HS0_14 c arg1 harg1 arg2 harg2 arg3 harg3 arg4 harg4 x0 x1 x2 x3) (turnedOf (r := 512) x0 x1 x2 x3 256) 256 :=
  ⟨stored (h0 := by decide) _ (turned_chunk harg1 harg2 harg3 harg4 x0 x1 x2 x3 0 256 inb_S512x1024_S256x1024_0_0 _ _ _ slices_S256x2304_o0_256_S256x256),
    stored (h0 := by decide) _ (turned_chunk harg1 harg2 harg3 harg4 x0 x1 x2 x3 256 256 inb_S512x1024_S256x1024_256_0 _ _ _ slices_S256x2304_o0_256_S256x256)⟩

theorem stored_q16 : Stored (kernelRun0_A.sl.HS0_4 c arg1 harg1 arg2 harg2 arg3 harg3 arg4 harg4 x0 x1 x2 x3) (turnedOf (r := 512) x0 x1 x2 x3 512) 0
    ∧ Stored (kernelRun0_A.sl.HS0_16 c arg1 harg1 arg2 harg2 arg3 harg3 arg4 harg4 x0 x1 x2 x3) (turnedOf (r := 512) x0 x1 x2 x3 512) 256 :=
  ⟨stored (h0 := by decide) _ (turned_chunk harg1 harg2 harg3 harg4 x0 x1 x2 x3 0 512 inb_S512x1024_S256x1024_0_0 _ _ _ slices_S256x2304_o0_512_S256x256),
    stored (h0 := by decide) _ (turned_chunk harg1 harg2 harg3 harg4 x0 x1 x2 x3 256 512 inb_S512x1024_S256x1024_256_0 _ _ _ slices_S256x2304_o0_512_S256x256)⟩

theorem stored_k4 : Stored (kernelRun0_A.sl.HS0_6 c arg1 harg1 arg2 harg2 arg3 harg3 arg4 harg4 x0 x1 x2 x3) (turnedOf (r := 512) x0 x1 x2 x3 1024) 0
    ∧ Stored (kernelRun0_A.sl.HS0_18 c arg1 harg1 arg2 harg2 arg3 harg3 arg4 harg4 x0 x1 x2 x3) (turnedOf (r := 512) x0 x1 x2 x3 1024) 256 :=
  ⟨stored (h0 := by decide) _ (turned_chunk harg1 harg2 harg3 harg4 x0 x1 x2 x3 0 1024 inb_S512x1024_S256x1024_0_0 _ _ _ slices_S256x2304_o0_1024_S256x256),
    stored (h0 := by decide) _ (turned_chunk harg1 harg2 harg3 harg4 x0 x1 x2 x3 256 1024 inb_S512x1024_S256x1024_256_0 _ _ _ slices_S256x2304_o0_1024_S256x256)⟩

theorem stored_k16 : Stored (kernelRun0_A.sl.HS0_8 c arg1 harg1 arg2 harg2 arg3 harg3 arg4 harg4 x0 x1 x2 x3) (turnedOf (r := 512) x0 x1 x2 x3 1280) 0
    ∧ Stored (kernelRun0_A.sl.HS0_20 c arg1 harg1 arg2 harg2 arg3 harg3 arg4 harg4 x0 x1 x2 x3) (turnedOf (r := 512) x0 x1 x2 x3 1280) 256 :=
  ⟨stored (h0 := by decide) _ (turned_chunk harg1 harg2 harg3 harg4 x0 x1 x2 x3 0 1280 inb_S512x1024_S256x1024_0_0 _ _ _ slices_S256x2304_o0_1280_S256x256),
    stored (h0 := by decide) _ (turned_chunk harg1 harg2 harg3 harg4 x0 x1 x2 x3 256 1280 inb_S512x1024_S256x1024_256_0 _ _ _ slices_S256x2304_o0_1280_S256x256)⟩

theorem stored_v4 : Stored (kernelRun0_A.sl.HS0_10 c arg1 harg1 arg2 harg2 arg3 harg3 arg4 harg4 x0 x1 x2 x3) (plainOf (r := 512) x0 x1 1792) 0
    ∧ Stored (kernelRun0_A.sl.HS0_22 c arg1 harg1 arg2 harg2 arg3 harg3 arg4 harg4 x0 x1 x2 x3) (plainOf (r := 512) x0 x1 1792) 256 :=
  ⟨stored (h0 := by decide) _ (plain_chunk harg1 harg2 x0 x1 0 1792 inb_S512x1024_S256x1024_0_0 _ slices_S256x2304_o0_1792_S256x256),
    stored (h0 := by decide) _ (plain_chunk harg1 harg2 x0 x1 256 1792 inb_S512x1024_S256x1024_256_0 _ slices_S256x2304_o0_1792_S256x256)⟩

theorem stored_v16 : Stored (kernelRun0_A.sl.HS0_12 c arg1 harg1 arg2 harg2 arg3 harg3 arg4 harg4 x0 x1 x2 x3) (plainOf (r := 512) x0 x1 2048) 0
    ∧ Stored (kernelRun0_A.sl.HS0_24 c arg1 harg1 arg2 harg2 arg3 harg3 arg4 harg4 x0 x1 x2 x3) (plainOf (r := 512) x0 x1 2048) 256 :=
  ⟨stored (h0 := by decide) _ (plain_chunk harg1 harg2 x0 x1 0 2048 inb_S512x1024_S256x1024_0_0 _ slices_S256x2304_o0_2048_S256x256),
    stored (h0 := by decide) _ (plain_chunk harg1 harg2 x0 x1 256 2048 inb_S512x1024_S256x1024_256_0 _ slices_S256x2304_o0_2048_S256x256)⟩

/-! The blocks. -/

-- The operations are compared as they stand, not unfolded.
attribute [local irreducible] shapeCast truncf View.readCov

theorem out_q1 : out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = spread 1 512 (turnedOf (r := 512) x0 x1 x2 x3 0) := by
  refine of_pieces _ _ _ _ (fun y => by apply cover0_A_6) ?_
  unfold kernelRun0_A
  dsimp only
  exact ⟨fun x => direct (inb := by decide) (turned_chunk harg1 harg2 harg3 harg4 x0 x1 x2 x3 256 0 inb_S512x1024_S256x1024_256_0 _ _ _ slices_S256x2304_o0_0_S256x256) x, fun x => direct (inb := by decide) (turned_chunk harg1 harg2 harg3 harg4 x0 x1 x2 x3 0 0 inb_S512x1024_S256x1024_0_0 _ _ _ slices_S256x2304_o0_0_S256x256) x, trivial⟩

theorem out_k1 : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = spread 1 512 (turnedOf (r := 512) x0 x1 x2 x3 768) := by
  refine of_pieces _ _ _ _ (fun y => by apply cover0_A_9) ?_
  unfold kernelRun0_A
  dsimp only
  exact ⟨fun x => direct (inb := by decide) (turned_chunk harg1 harg2 harg3 harg4 x0 x1 x2 x3 256 768 inb_S512x1024_S256x1024_256_0 _ _ _ slices_S256x2304_o0_768_S256x256) x, fun x => direct (inb := by decide) (turned_chunk harg1 harg2 harg3 harg4 x0 x1 x2 x3 0 768 inb_S512x1024_S256x1024_0_0 _ _ _ slices_S256x2304_o0_768_S256x256) x, trivial⟩

theorem out_v1 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = spread 1 512 (plainOf (r := 512) x0 x1 1536) := by
  refine of_pieces _ _ _ _ (fun y => by apply cover0_A_12) ?_
  unfold kernelRun0_A
  dsimp only
  exact ⟨fun x => direct (inb := by decide) (plain_chunk harg1 harg2 x0 x1 256 1536 inb_S512x1024_S256x1024_256_0 _ slices_S256x2304_o0_1536_S256x256) x, fun x => direct (inb := by decide) (plain_chunk harg1 harg2 x0 x1 0 1536 inb_S512x1024_S256x1024_0_0 _ slices_S256x2304_o0_1536_S256x256) x, trivial⟩

theorem out_q4 : out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = spread 4 128 (turnedOf (r := 512) x0 x1 x2 x3 256) := by
  refine of_pieces _ _ _ _ (fun y => by apply cover0_A_7) ?_
  unfold kernelRun0_A
  dsimp only
  obtain ⟨h0, h1⟩ := stored_q4 c arg1 harg1 arg2 harg2 arg3 harg3 arg4 harg4 x0 x1 x2 x3
  iterate 8 refine ⟨fun x => staged4 (inb' := by decide) h1 (by rfl) (by rfl) x, ?_⟩
  iterate 8 refine ⟨fun x => staged4 (inb' := by decide) h0 (by rfl) (by rfl) x, ?_⟩
  trivial

theorem out_q16 : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = spread 16 32 (turnedOf (r := 512) x0 x1 x2 x3 512) := by
  refine of_pieces _ _ _ _ (fun y => by apply cover0_A_8) ?_
  unfold kernelRun0_A
  dsimp only
  obtain ⟨h0, h1⟩ := stored_q16 c arg1 harg1 arg2 harg2 arg3 harg3 arg4 harg4 x0 x1 x2 x3
  iterate 32 refine ⟨fun x => staged16 (inb' := by decide) h1 (by rfl) (by rfl) x, ?_⟩
  iterate 32 refine ⟨fun x => staged16 (inb' := by decide) h0 (by rfl) (by rfl) x, ?_⟩
  trivial

theorem out_k4 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = spread 4 128 (turnedOf (r := 512) x0 x1 x2 x3 1024) := by
  refine of_pieces _ _ _ _ (fun y => by apply cover0_A_10) ?_
  unfold kernelRun0_A
  dsimp only
  obtain ⟨h0, h1⟩ := stored_k4 c arg1 harg1 arg2 harg2 arg3 harg3 arg4 harg4 x0 x1 x2 x3
  iterate 8 refine ⟨fun x => staged4 (inb' := by decide) h1 (by rfl) (by rfl) x, ?_⟩
  iterate 8 refine ⟨fun x => staged4 (inb' := by decide) h0 (by rfl) (by rfl) x, ?_⟩
  trivial

theorem out_k16 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = spread 16 32 (turnedOf (r := 512) x0 x1 x2 x3 1280) := by
  refine of_pieces _ _ _ _ (fun y => by apply cover0_A_11) ?_
  unfold kernelRun0_A
  dsimp only
  obtain ⟨h0, h1⟩ := stored_k16 c arg1 harg1 arg2 harg2 arg3 harg3 arg4 harg4 x0 x1 x2 x3
  iterate 32 refine ⟨fun x => staged16 (inb' := by decide) h1 (by rfl) (by rfl) x, ?_⟩
  iterate 32 refine ⟨fun x => staged16 (inb' := by decide) h0 (by rfl) (by rfl) x, ?_⟩
  trivial

theorem out_v4 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = spread 4 128 (plainOf (r := 512) x0 x1 1792) := by
  refine of_pieces _ _ _ _ (fun y => by apply cover0_A_13) ?_
  unfold kernelRun0_A
  dsimp only
  obtain ⟨h0, h1⟩ := stored_v4 c arg1 harg1 arg2 harg2 arg3 harg3 arg4 harg4 x0 x1 x2 x3
  iterate 8 refine ⟨fun x => staged4 (inb' := by decide) h1 (by rfl) (by rfl) x, ?_⟩
  iterate 8 refine ⟨fun x => staged4 (inb' := by decide) h0 (by rfl) (by rfl) x, ?_⟩
  trivial

theorem out_v16 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = spread 16 32 (plainOf (r := 512) x0 x1 2048) := by
  refine of_pieces _ _ _ _ (fun y => by apply cover0_A_14) ?_
  unfold kernelRun0_A
  dsimp only
  obtain ⟨h0, h1⟩ := stored_v16 c arg1 harg1 arg2 harg2 arg3 harg3 arg4 harg4 x0 x1 x2 x3
  iterate 32 refine ⟨fun x => staged16 (inb' := by decide) h1 (by rfl) (by rfl) x, ?_⟩
  iterate 32 refine ⟨fun x => staged16 (inb' := by decide) h0 (by rfl) (by rfl) x, ?_⟩
  trivial

theorem out_na : out0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = flat (product (r := 512) x0 x1) := by
  refine of_pieces _ _ _ _ (fun y => by apply cover0_A_4) ?_
  unfold kernelRun0_A
  dsimp only
  exact ⟨fun x => rows_of (inb := by decide) (na_chunk harg1 harg2 x0 x1 256 inb_S512x1024_S256x1024_256_0 _) x,
    fun x => rows_of (inb := by decide) (na_chunk harg1 harg2 x0 x1 0 inb_S512x1024_S256x1024_0_0 _) x, trivial⟩

theorem out_gates : out0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = flat (fun i n => gate (product (r := 512) x0 x1 i (3840 + n))) := by
  refine of_pieces _ _ _ _ (fun y => by apply cover0_A_5) ?_
  unfold kernelRun0_A
  dsimp only
  exact ⟨fun x => rows_of (inb := by decide) (gate_chunk harg1 harg2 x0 x1 256 inb_S512x1024_S256x1024_256_0 _) x,
    fun x => rows_of (inb := by decide) (gate_chunk harg1 harg2 x0 x1 0 inb_S512x1024_S256x1024_0_0 _) x, trivial⟩

end

end Cert.Rope

end
-- ==== Proof.Rope.Kernel.lean ====
/- The projection's results as whole arrays: each block written holds the block's rows of one function of the inputs and the two tables. -/
module

public import proofs.«01_k».proof.Proof.Rope.Block
public import Idealize.ShloMosaic.Lib.Pipeline.ValueKit

@[expose] public section

noncomputable section

namespace Cert.Rope

open Cert.InIdeal Cert.InIdeal.Gen Idealize.ShloMosaic Idealize.ShloMosaic.TcCoe Idealize.SL.Sem

/-- Groups of rows dealt out within a block are the block's part of the groups dealt out over all the rows. -/
theorem spread_block {D N M : ℕ} {W W' : ℕ → ℕ → EReal} {t : ℕ} (y : (⟨3, ![D, N, 256]⟩ : Shape).Idx) (z : (⟨3, ![D, M, 256]⟩ : Shape).Idx)
    (hW : ∀ i < D * N, ∀ c, W i c = W' (D * N * t + i) c) (h0 : (z 0).val = (y 0).val) (h1 : (z 1).val = N * t + (y 1).val) (h2 : (z 2).val = (y 2).val) :
    spread D N W y = spread D M W' z := by
  unfold spread
  rw [hW _ ?_, h0, h1, h2]
  · exact congrArg (fun i => W' i (y 2).val) (by rw [Nat.mul_add, Nat.mul_assoc, Nat.add_assoc])
  · have l0 : (y 0).val < D := (y 0).isLt
    have l1 : (y 1).val + 1 ≤ N := (y 1).isLt
    have := Nat.mul_le_mul_left D l1
    rw [Nat.mul_add, Nat.mul_one] at this
    omega

theorem flat_block {N M n : ℕ} {W W' : ℕ → ℕ → EReal} {t : ℕ} (y : (⟨2, ![N, n]⟩ : Shape).Idx) (z : (⟨2, ![M, n]⟩ : Shape).Idx)
    (hW : ∀ i < N, ∀ c, W i c = W' (N * t + i) c) (h0 : (z 0).val = N * t + (y 0).val) (h1 : (z 1).val = (y 1).val) :
    (flat W : Mat N n) y = (flat W' : Mat M n) z := by
  unfold flat
  rw [hW _ (y 0).isLt, h0, h1]

variable (m : (l : Loc nD τ sig) → Buf (Elt Ideal) l) (c : Dev nD)

abbrev inX : Mat 4096 1024 := m ((c.tc : Thread nD τ).loc main_arg0)
abbrev inW : Mat 5888 1024 := m ((c.tc : Thread nD τ).loc main_arg1)
/-- The tables the host hands the kernel: the cosines, and the sines with their signs. -/
abbrev cosines : Mat 4096 256 := V m c main_v17
abbrev sines : Mat 4096 256 := V m c main_v22

theorem index_at : ∀ t : Fin grid0.N, win0_0.index t = ![t.val, 0] ∧ win0_1.index t = ![0, 0] ∧ win0_2.index t = ![t.val, 0] ∧ win0_3.index t = ![t.val, 0] := by
  decide +kernel

theorem flat_at : ∀ t : Fin grid0.N, win0_4.index t = ![t.val, 0] ∧ win0_5.index t = ![t.val, 0] := by
  decide +kernel

theorem spread_at : ∀ t : Fin grid0.N, win0_6.index t = ![0, t.val, 0] ∧ win0_7.index t = ![0, t.val, 0] ∧ win0_8.index t = ![0, t.val, 0]
    ∧ win0_9.index t = ![0, t.val, 0] ∧ win0_10.index t = ![0, t.val, 0] ∧ win0_11.index t = ![0, t.val, 0]
    ∧ win0_12.index t = ![0, t.val, 0] ∧ win0_13.index t = ![0, t.val, 0] ∧ win0_14.index t = ![0, t.val, 0] := by
  decide +kernel

/-- A point's block of the product is the point's rows of the product, -/
theorem product_block (t : Fin cfg0.N) (i : ℕ) (hi : i < 512) (n : ℕ) :
    product (iblk m c 0 t : Mat 512 1024) (iblk m c 1 t : Mat 5888 1024) i n = product (inX m c) (inW m c) (512 * t.val + i) n := by
  obtain ⟨e0, e1, -, -⟩ := index_at t
  have ht : t.val < 8 := t.isLt
  unfold product
  rw [Nat.mul_comm 512, ofNat_eq hi, ofNat_eq (show t.val * 512 + i < 4096 by omega)]
  refine Finset.sum_congr rfl fun k _ => congrArg₂ (· * ·) (Eq.trans ?_ (congrFun (V_main_arg0 m c) _)) (Eq.trans ?_ (congrFun (V_main_arg1 m c) _))
  · blk_ext [iblk, e0]
  · blk_ext [iblk, e1]

/-- and its blocks of the tables the point's rows of the tables. -/
theorem table_block (t : Fin cfg0.N) (i : ℕ) (hi : i < 512) (n : ℕ) :
    entry (iblk m c 2 t : Mat 512 256) i n = entry (cosines m c) (512 * t.val + i) n ∧ entry (iblk m c 3 t : Mat 512 256) i n = entry (sines m c) (512 * t.val + i) n := by
  obtain ⟨-, -, e2, e3⟩ := index_at t
  have ht : t.val < 8 := t.isLt
  unfold entry
  rw [Nat.mul_comm 512, ofNat_eq hi, ofNat_eq (show t.val * 512 + i < 4096 by omega)]
  constructor
  · blk_ext [iblk, e2]
  · blk_ext [iblk, e3]

theorem turned_block (o : ℕ) (t : Fin cfg0.N) (i : ℕ) (hi : i < 512) (n : ℕ) :
    turnedOf (iblk m c 0 t : Mat 512 1024) (iblk m c 1 t : Mat 5888 1024) (iblk m c 2 t : Mat 512 256) (iblk m c 3 t : Mat 512 256) o i n
      = turnedOf (inX m c) (inW m c) (cosines m c) (sines m c) o (512 * t.val + i) n := by
  unfold turnedOf turned
  simp only [product_block m c t i hi, (table_block m c t i hi _).1, (table_block m c t i hi _).2]

theorem plain_block (o : ℕ) (t : Fin cfg0.N) (i : ℕ) (hi : i < 512) (n : ℕ) :
    plainOf (iblk m c 0 t : Mat 512 1024) (iblk m c 1 t : Mat 5888 1024) o i n = plainOf (inX m c) (inW m c) o (512 * t.val + i) n :=
  product_block m c t i hi _

theorem result_q1 : (dats m 0 c).arrAt 6 cfg0.N = spread 1 4096 (turnedOf (inX m c) (inW m c) (cosines m c) (sines m c) 0) := by
  refine (dats m 0 c).arrAt_eq_of_covers 6 _ (by decide +kernel) fun t hf y => ?_
  have e := (spread_at t).1
  blk_simp
  rw [after0_6]
  unfold outsAt0
  dsimp only
  rw [out_q1]
  refine spread_block (t := t.val) y _ (turned_block m c 0 t) ?_ ?_ ?_ <;> blk_simp [e]
  exact congrArg (· + _) (Nat.mul_comm _ _)

theorem result_q4 : (dats m 0 c).arrAt 7 cfg0.N = spread 4 1024 (turnedOf (inX m c) (inW m c) (cosines m c) (sines m c) 256) := by
  refine (dats m 0 c).arrAt_eq_of_covers 7 _ (by decide +kernel) fun t hf y => ?_
  have e := (spread_at t).2.1
  blk_simp
  rw [after0_7]
  unfold outsAt0
  dsimp only
  rw [out_q4]
  refine spread_block (t := t.val) y _ (turned_block m c 256 t) ?_ ?_ ?_ <;> blk_simp [e]
  exact congrArg (· + _) (Nat.mul_comm _ _)

theorem result_q16 : (dats m 0 c).arrAt 8 cfg0.N = spread 16 256 (turnedOf (inX m c) (inW m c) (cosines m c) (sines m c) 512) := by
  refine (dats m 0 c).arrAt_eq_of_covers 8 _ (by decide +kernel) fun t hf y => ?_
  have e := (spread_at t).2.2.1
  blk_simp
  rw [after0_8]
  unfold outsAt0
  dsimp only
  rw [out_q16]
  refine spread_block (t := t.val) y _ (turned_block m c 512 t) ?_ ?_ ?_ <;> blk_simp [e]
  exact congrArg (· + _) (Nat.mul_comm _ _)

theorem result_k1 : (dats m 0 c).arrAt 9 cfg0.N = spread 1 4096 (turnedOf (inX m c) (inW m c) (cosines m c) (sines m c) 768) := by
  refine (dats m 0 c).arrAt_eq_of_covers 9 _ (by decide +kernel) fun t hf y => ?_
  have e := (spread_at t).2.2.2.1
  blk_simp
  rw [after0_9]
  unfold outsAt0
  dsimp only
  rw [out_k1]
  refine spread_block (t := t.val) y _ (turned_block m c 768 t) ?_ ?_ ?_ <;> blk_simp [e]
  exact congrArg (· + _) (Nat.mul_comm _ _)

theorem result_k4 : (dats m 0 c).arrAt 10 cfg0.N = spread 4 1024 (turnedOf (inX m c) (inW m c) (cosines m c) (sines m c) 1024) := by
  refine (dats m 0 c).arrAt_eq_of_covers 10 _ (by decide +kernel) fun t hf y => ?_
  have e := (spread_at t).2.2.2.2.1
  blk_simp
  rw [after0_10]
  unfold outsAt0
  dsimp only
  rw [out_k4]
  refine spread_block (t := t.val) y _ (turned_block m c 1024 t) ?_ ?_ ?_ <;> blk_simp [e]
  exact congrArg (· + _) (Nat.mul_comm _ _)

theorem result_k16 : (dats m 0 c).arrAt 11 cfg0.N = spread 16 256 (turnedOf (inX m c) (inW m c) (cosines m c) (sines m c) 1280) := by
  refine (dats m 0 c).arrAt_eq_of_covers 11 _ (by decide +kernel) fun t hf y => ?_
  have e := (spread_at t).2.2.2.2.2.1
  blk_simp
  rw [after0_11]
  unfold outsAt0
  dsimp only
  rw [out_k16]
  refine spread_block (t := t.val) y _ (turned_block m c 1280 t) ?_ ?_ ?_ <;> blk_simp [e]
  exact congrArg (· + _) (Nat.mul_comm _ _)

theorem result_v1 : (dats m 0 c).arrAt 12 cfg0.N = spread 1 4096 (plainOf (inX m c) (inW m c) 1536) := by
  refine (dats m 0 c).arrAt_eq_of_covers 12 _ (by decide +kernel) fun t hf y => ?_
  have e := (spread_at t).2.2.2.2.2.2.1
  blk_simp
  rw [after0_12]
  unfold outsAt0
  dsimp only
  rw [out_v1]
  refine spread_block (t := t.val) y _ (plain_block m c 1536 t) ?_ ?_ ?_ <;> blk_simp [e]
  exact congrArg (· + _) (Nat.mul_comm _ _)

theorem result_v4 : (dats m 0 c).arrAt 13 cfg0.N = spread 4 1024 (plainOf (inX m c) (inW m c) 1792) := by
  refine (dats m 0 c).arrAt_eq_of_covers 13 _ (by decide +kernel) fun t hf y => ?_
  have e := (spread_at t).2.2.2.2.2.2.2.1
  blk_simp
  rw [after0_13]
  unfold outsAt0
  dsimp only
  rw [out_v4]
  refine spread_block (t := t.val) y _ (plain_block m c 1792 t) ?_ ?_ ?_ <;> blk_simp [e]
  exact congrArg (· + _) (Nat.mul_comm _ _)

theorem result_v16 : (dats m 0 c).arrAt 14 cfg0.N = spread 16 256 (plainOf (inX m c) (inW m c) 2048) := by
  refine (dats m 0 c).arrAt_eq_of_covers 14 _ (by decide +kernel) fun t hf y => ?_
  have e := (spread_at t).2.2.2.2.2.2.2.2
  blk_simp
  rw [after0_14]
  unfold outsAt0
  dsimp only
  rw [out_v16]
  refine spread_block (t := t.val) y _ (plain_block m c 2048 t) ?_ ?_ ?_ <;> blk_simp [e]
  exact congrArg (· + _) (Nat.mul_comm _ _)

theorem result_na : (dats m 0 c).arrAt 4 cfg0.N = (flat (product (inX m c) (inW m c)) : Mat 4096 1536) := by
  refine (dats m 0 c).arrAt_eq_of_covers 4 _ (by decide +kernel) fun t hf y => ?_
  have e := (flat_at t).1
  blk_simp
  rw [after0_4]
  unfold outsAt0
  dsimp only
  rw [out_na]
  refine flat_block (t := t.val) (W' := product (inX m c) (inW m c)) y _ (product_block m c t) ?_ ?_ <;> blk_simp [e]
  exact congrArg (· + _) (Nat.mul_comm _ _)

theorem result_gates : (dats m 0 c).arrAt 5 cfg0.N = (flat fun i n => gate (product (inX m c) (inW m c) i (3840 + n)) : Mat 4096 2048) := by
  refine (dats m 0 c).arrAt_eq_of_covers 5 _ (by decide +kernel) fun t hf y => ?_
  have e := (flat_at t).2
  blk_simp
  rw [after0_5]
  unfold outsAt0
  dsimp only
  rw [out_gates]
  refine flat_block (t := t.val) y _ (fun i hi n => congrArg gate (product_block m c t i hi _)) ?_ ?_ <;> blk_simp [e]
  exact congrArg (· + _) (Nat.mul_comm _ _)

end Cert.Rope

end
-- ==== Proof.Rope.Ref.lean ====
/- The reference's projection read at an entry, and the tables the host makes for the kernel read as the reference's cosines and sines. -/
module

public import proofs.«01_k».proof.Proof.Gen.InRefIdeal.Read
public import proofs.«01_k».proof.Proof.Rope.Block
public import Idealize.ShloMosaic.Lib.IdealHost

@[expose] public section

noncomputable section

namespace Cert.Rope

open Cert.InRefIdeal Cert.InRefIdeal.Gen Cert.InRefIdeal.Read Idealize.ShloMosaic

variable (x : Mat 4096 1024) (w : Mat 5888 1024) (p : (⟨S4096, .i32⟩ : BufTy).Contents (Elt Ideal))

theorem product_ref (i : S4096x5888.Idx) : val_main_v3 (F := Ideal) x w i = product x w (i 0).val (i 1).val := by
  rw [val_main_v3_apply]
  unfold product
  refine Finset.sum_congr rfl fun k _ => ?_
  rw [val_main_v2_apply]
  exact congrArg₂ (· * ·) (congrArg x (funext fun a => by
      fin_cases a
      · exact (Fin.ext (Nat.mod_eq_of_lt (i 0).isLt).symm)
      · rfl))
    (congrArg w (funext fun a => by
      fin_cases a
      · exact (Fin.ext (Nat.mod_eq_of_lt (i 1).isLt).symm)
      · rfl))

/-- Columns of the product as heads. -/
def Heads (u : FVec Ideal S4096x12x64 .f32) (b : ℕ) : Prop := ∀ (i : Fin 4096) (h : Fin 12) (e : Fin 64), u (ix3 i h e) = product x w i.val (b + (64 * h.val + e.val))

theorem heads_q : Heads x w (val_main_v5 (F := Ideal) x w) 1536 := by
  intro i h e
  rw [val_main_v5_apply, val_main_v4_apply, product_ref]
  refine congrArg₂ (product x w) ?_ ?_
  · show ((i.val * 12 + h.val) * 64 + e.val) / 768 = i.val
    omega
  · show 1536 + ((i.val * 12 + h.val) * 64 + e.val) % 768 = _
    omega

theorem heads_k : Heads x w (val_main_v7 (F := Ideal) x w) 2304 := by
  intro i h e
  rw [val_main_v7_apply, val_main_v6_apply, product_ref]
  refine congrArg₂ (product x w) ?_ ?_
  · show ((i.val * 12 + h.val) * 64 + e.val) / 768 = i.val
    omega
  · show 2304 + ((i.val * 12 + h.val) * 64 + e.val) % 768 = _
    omega

theorem heads_v : Heads x w (val_main_v9 (F := Ideal) x w) 3072 := by
  intro i h e
  rw [val_main_v9_apply, val_main_v8_apply, product_ref]
  refine congrArg₂ (product x w) ?_ ?_
  · show ((i.val * 12 + h.val) * 64 + e.val) / 768 = i.val
    omega
  · show 3072 + ((i.val * 12 + h.val) * 64 + e.val) % 768 = _
    omega

/-- The rotary embedding of an array of heads. -/
def rotated (u : FVec Ideal S4096x12x64 .f32) (c s : FVec Ideal S4096x1x32 .f32) : FVec Ideal S4096x12x64 .f32 :=
  concatenate S4096x12x64 2
    [⟨S4096x12x32, subf (mulf (extractStridedSlice S4096x12x32 ![0, 0, 0] u slices_S4096x12x64_S4096x12x32_0_0_0) (broadcastInDim S4096x12x32 ![0, 1, 2] bcast_S4096x1x32_S4096x12x32_0_1_2 c))
        (mulf (extractStridedSlice S4096x12x32 ![0, 0, 32] u slices_S4096x12x64_S4096x12x32_0_0_32) (broadcastInDim S4096x12x32 ![0, 1, 2] bcast_S4096x1x32_S4096x12x32_0_1_2 s))⟩,
      ⟨S4096x12x32, addf (mulf (extractStridedSlice S4096x12x32 ![0, 0, 32] u slices_S4096x12x64_S4096x12x32_0_0_32) (broadcastInDim S4096x12x32 ![0, 1, 2] bcast_S4096x1x32_S4096x12x32_0_1_2 c))
        (mulf (extractStridedSlice S4096x12x32 ![0, 0, 0] u slices_S4096x12x64_S4096x12x32_0_0_0) (broadcastInDim S4096x12x32 ![0, 1, 2] bcast_S4096x1x32_S4096x12x32_0_1_2 s))⟩]
    concatenates_S4096x12x32_S4096x12x32_S4096x12x64_d2

theorem rotated_q : val_main_v36 (F := Ideal) x w p = rotated (val_main_v5 (F := Ideal) x w) (val_main_v22 (F := Ideal) p) (val_main_v23 (F := Ideal) p) := rfl

theorem rotated_k : val_main_v63 (F := Ideal) x w p = rotated (val_main_v7 (F := Ideal) x w) (val_main_v22 (F := Ideal) p) (val_main_v23 (F := Ideal) p) := rfl

/-- The kernel's tables hold the cosines, and the sines with their signs, of the reference's angles: one head's 64 places over and over. -/
structure Tables (C S : Mat 4096 256) (cs sn : FVec Ideal S4096x1x32 .f32) : Prop where
  cos : ∀ (i : Fin 4096) (c : Fin 256), C (ix2 i c) = cs (ix3 i 0 ⟨c.val % 32, Nat.mod_lt _ (by decide)⟩)
  sin : ∀ (i : Fin 4096) (c : Fin 256), S (ix2 i c) = if c.val % 64 < 32 then -sn (ix3 i 0 ⟨c.val % 32, Nat.mod_lt _ (by decide)⟩)
    else sn (ix3 i 0 ⟨c.val % 32, Nat.mod_lt _ (by decide)⟩)

variable {x w} in
/-- A group of turned columns is a group of the reference's rotated heads. -/
theorem rotated_at {u : FVec Ideal S4096x12x64 .f32} {C S : Mat 4096 256} {cs sn : FVec Ideal S4096x1x32 .f32} {b o : ℕ} (hu : Heads x w u b) (hT : Tables C S cs sn)
    (i : Fin 4096) (h : Fin 12) (e : Fin 64) (c : Fin 256) (ho : 1536 + (o + c.val) = b + (64 * h.val + e.val)) (hc : c.val % 64 = e.val) :
    rotated u cs sn (ix3 i h e) = turnedOf x w C S o i.val c.val := by
  unfold rotated turnedOf turned entry swap
  pointwise
  rw [show Fin.ofNat 4096 i.val = i from Fin.ext (Nat.mod_eq_of_lt i.isLt), show Fin.ofNat 256 c.val = c from Fin.ext (Nat.mod_eq_of_lt c.isLt), hT.cos, hT.sin, hc]
  by_cases l : e.val < 32
  · rw [dif_pos l, if_pos l, if_pos l, hu, hu, sub_eq_add_neg, ← mul_neg]
    have r : (⟨c.val % 32, Nat.mod_lt _ (by decide)⟩ : Fin 32) = ⟨e.val, l⟩ := Fin.ext (show c.val % 32 = e.val by omega)
    rw [r]
    refine congrArg₂ (· + ·) (congrArg (· * _) (congrArg (product x w i.val) ?_)) (congrArg (· * _) (congrArg (product x w i.val) ?_))
    · omega
    · show b + (64 * h.val + (32 + e.val)) = _
      omega
  · rw [dif_neg l, if_neg l, if_neg l, hu, hu]
    have r : (⟨c.val % 32, Nat.mod_lt _ (by decide)⟩ : Fin 32) = ⟨e.val - 32, by omega⟩ := Fin.ext (show c.val % 32 = e.val - 32 by omega)
    rw [r]
    refine congrArg₂ (· + ·) (congrArg (· * _) (congrArg (product x w i.val) ?_)) (congrArg (· * _) (congrArg (product x w i.val) ?_))
    · show b + (64 * h.val + (32 + (e.val - 32))) = _
      omega
    · show b + (64 * h.val + (e.val - 32)) = _
      omega

/-- Four of the twelve heads, from the head `g` on, with their rows dealt out, are the function `W` dealt out, where it is the heads' entries. -/
def Dealt (u : FVec Ideal S4096x12x64 .f32) (g : ℕ) (W : ℕ → ℕ → EReal) : Prop :=
  ∀ (i : Fin 4096) (c : Fin 256) (h : Fin 12) (e : Fin 64), h.val = g + c.val / 64 → e.val = c.val % 64 → u (ix3 i h e) = W i.val c.val

theorem dealt1 {u : FVec Ideal S4096x12x64 .f32} {g : ℕ} {W : ℕ → ℕ → EReal} (hW : Dealt u g W) (hs : S4096x12x64.Slices ![0, g, 0] S4096x4x64) :
    spread 1 4096 W = transpose S1x4096x256 [1, 0, 2] (shapeCast S4096x1x256 (extractStridedSlice S4096x4x64 ![0, g, 0] u hs) shapeCasts_S4096x4x64_S4096x1x256)
      transposes_S4096x1x256_S1x4096x256_1_0_2 := by
  funext y
  rw [eq_ix3 y]
  generalize (y 0 : Fin 1) = i
  generalize (y 1 : Fin 4096) = j
  generalize (y 2 : Fin 256) = k
  pointwise
  refine ((hW _ k _ _ ?_ ?_).trans (congrArg (W · k.val) ?_)).symm
  · rfl
  · rfl
  · have hi : i.val < 1 := i.isLt
    show _ = 1 * j.val + i.val
    omega

theorem dealt4 {u : FVec Ideal S4096x12x64 .f32} {g : ℕ} {W : ℕ → ℕ → EReal} (hW : Dealt u g W) (hs : S4096x12x64.Slices ![0, g, 0] S4096x4x64) :
    spread 4 1024 W = transpose S4x1024x256 [1, 0, 2] (shapeCast S1024x4x256 (extractStridedSlice S4096x4x64 ![0, g, 0] u hs) shapeCasts_S4096x4x64_S1024x4x256)
      transposes_S1024x4x256_S4x1024x256_1_0_2 := by
  funext y
  rw [eq_ix3 y]
  generalize (y 0 : Fin 4) = i
  generalize (y 1 : Fin 1024) = j
  generalize (y 2 : Fin 256) = k
  pointwise
  refine ((hW _ k _ _ ?_ ?_).trans (congrArg (W · k.val) ?_)).symm
  · rfl
  · rfl
  · show j.val * 4 + i.val = 4 * j.val + i.val
    omega

theorem dealt16 {u : FVec Ideal S4096x12x64 .f32} {g : ℕ} {W : ℕ → ℕ → EReal} (hW : Dealt u g W) (hs : S4096x12x64.Slices ![0, g, 0] S4096x4x64) :
    spread 16 256 W = transpose S16x256x256 [1, 0, 2] (shapeCast S256x16x256 (extractStridedSlice S4096x4x64 ![0, g, 0] u hs) shapeCasts_S4096x4x64_S256x16x256)
      transposes_S256x16x256_S16x256x256_1_0_2 := by
  funext y
  rw [eq_ix3 y]
  generalize (y 0 : Fin 16) = i
  generalize (y 1 : Fin 256) = j
  generalize (y 2 : Fin 256) = k
  pointwise
  refine ((hW _ k _ _ ?_ ?_).trans (congrArg (W · k.val) ?_)).symm
  · rfl
  · rfl
  · show j.val * 16 + i.val = 16 * j.val + i.val
    omega

variable {x w} in
theorem dealt_rotated {u : FVec Ideal S4096x12x64 .f32} {C S : Mat 4096 256} {cs sn : FVec Ideal S4096x1x32 .f32} {b o g : ℕ} (hu : Heads x w u b) (hT : Tables C S cs sn)
    (ho : 1536 + o = b + 64 * g) : Dealt (rotated u cs sn) g (turnedOf x w C S o) := by
  intro i c h e hh he
  exact rotated_at hu hT i h e c (by omega) he.symm

variable {x w} in
theorem dealt_plain {u : FVec Ideal S4096x12x64 .f32} {b o g : ℕ} (hu : Heads x w u b) (ho : 1536 + o = b + 64 * g) : Dealt u g (plainOf x w o) := by
  intro i c h e hh he
  exact (hu i h e).trans (congrArg (product x w i.val) (by omega))

section
variable {C S : Mat 4096 256} (hT : Tables C S (val_main_v22 (F := Ideal) p) (val_main_v23 (F := Ideal) p))
include hT

theorem reference_q1 : spread 1 4096 (turnedOf x w C S 0) = val_main_v101 (F := Ideal) x w p := by
  show _ = val_main_v66 (F := Ideal) x w p
  unfold val_main_v66 val_main_v65 val_main_v64
  rw [rotated_q]
  exact dealt1 (dealt_rotated (heads_q x w) hT (by decide)) _

theorem reference_q4 : spread 4 1024 (turnedOf x w C S 256) = val_main_v102 (F := Ideal) x w p := by
  show _ = val_main_v69 (F := Ideal) x w p
  unfold val_main_v69 val_main_v68 val_main_v67
  rw [rotated_q]
  exact dealt4 (dealt_rotated (heads_q x w) hT (by decide)) _

theorem reference_q16 : spread 16 256 (turnedOf x w C S 512) = val_main_v103 (F := Ideal) x w p := by
  show _ = val_main_v72 (F := Ideal) x w p
  unfold val_main_v72 val_main_v71 val_main_v70
  rw [rotated_q]
  exact dealt16 (dealt_rotated (heads_q x w) hT (by decide)) _

theorem reference_k1 : spread 1 4096 (turnedOf x w C S 768) = val_main_v104 (F := Ideal) x w p := by
  show _ = val_main_v75 (F := Ideal) x w p
  unfold val_main_v75 val_main_v74 val_main_v73
  rw [rotated_k]
  exact dealt1 (dealt_rotated (heads_k x w) hT (by decide)) _

theorem reference_k4 : spread 4 1024 (turnedOf x w C S 1024) = val_main_v105 (F := Ideal) x w p := by
  show _ = val_main_v78 (F := Ideal) x w p
  unfold val_main_v78 val_main_v77 val_main_v76
  rw [rotated_k]
  exact dealt4 (dealt_rotated (heads_k x w) hT (by decide)) _

theorem reference_k16 : spread 16 256 (turnedOf x w C S 1280) = val_main_v106 (F := Ideal) x w p := by
  show _ = val_main_v81 (F := Ideal) x w p
  unfold val_main_v81 val_main_v80 val_main_v79
  rw [rotated_k]
  exact dealt16 (dealt_rotated (heads_k x w) hT (by decide)) _

end

theorem reference_v1 : spread 1 4096 (plainOf x w 1536) = val_main_v107 (F := Ideal) x w := by
  show _ = val_main_v84 (F := Ideal) x w
  unfold val_main_v84 val_main_v83 val_main_v82
  exact dealt1 (dealt_plain (heads_v x w) (by decide)) _

theorem reference_v4 : spread 4 1024 (plainOf x w 1792) = val_main_v108 (F := Ideal) x w := by
  show _ = val_main_v87 (F := Ideal) x w
  unfold val_main_v87 val_main_v86 val_main_v85
  exact dealt4 (dealt_plain (heads_v x w) (by decide)) _

theorem reference_v16 : spread 16 256 (plainOf x w 2048) = val_main_v109 (F := Ideal) x w := by
  show _ = val_main_v90 (F := Ideal) x w
  unfold val_main_v90 val_main_v89 val_main_v88
  exact dealt16 (dealt_plain (heads_v x w) (by decide)) _

theorem reference_na : (flat (product x w) : Mat 4096 1536) = val_main_v99 (F := Ideal) x w := by
  funext y
  refine Eq.trans ?_ (Eq.symm (val_main_v91_apply (F := Ideal) x w y))
  rw [product_ref]
  exact congrArg (product x w (y 0).val) (by show (y 1).val = (y 1).val; rfl)

theorem reference_gates : (flat fun i n => gate (product x w i (3840 + n)) : Mat 4096 2048) = val_main_v100 (F := Ideal) x w := by
  funext y
  refine Eq.trans ?_ (Eq.symm (val_main_v98_apply (F := Ideal) x w y))
  rw [val_main_v96_apply, val_main_v94_apply, val_main_v93_apply, val_main_v92_apply, product_ref, val_main_v95_apply, val_main_v97_apply]
  show gate _ = Ideal.div (Ideal.ofBits .f32 0x3F800000#32) (Ideal.ofBits .f32 0x3F800000#32 + Ideal.exp (-product x w (y 0).val (3840 + (y 1).val)))
  rw [Ideal.ofBits_one_f32]
  rfl

end Cert.Rope

end
-- ==== Proof.Rope.Angles.lean ====
/- The tables of the rotary embedding: what the host hands the kernel are the reference's cosines and sines. -/
module

public import proofs.«01_k».proof.Proof.Rope.Kernel
public import proofs.«01_k».proof.Proof.Rope.Ref
public import Idealize.ShloMosaic.Lib.Pointwise

@[expose] public section

set_option maxRecDepth 16384

noncomputable section

namespace Cert.Rope

open Cert.InIdeal Cert.InIdeal.Gen Idealize.ShloMosaic Idealize.ShloMosaic.TcCoe Idealize.ShloMosaic.StableHlo
open Cert.InRefIdeal.Read (val_main_v17 val_main_v21 val_main_v22 val_main_v23)

/-- The angles: a token's position times a frequency. -/
def angles (p : (⟨S4096, .i32⟩ : BufTy).Contents (Elt Ideal)) : FVec Ideal S4096x32 .f32 :=
  mulf (broadcastInDim S4096x32 ![0, 1] bcast_S4096x1_S4096x32_0_1 (broadcastInDim S4096x1 ![0] bcast_S4096_S4096x1_0 (sitofp .f32 p)))
    (broadcastInDim S4096x32 ![0, 1] bcast_S1x32_S4096x32_0_1 (broadcastInDim S1x32 ![1] bcast_S32_S1x32_1 (val_main_v17 (F := Ideal))))

/-- One head's places over and over. -/
def repeated (u : FVec Ideal S4096x64 .f32) : FVec Ideal S4096x256 .f32 :=
  shapeCast S4096x256 (broadcastInDim S1x4096x4x64 ![0, 1, 2, 3] bcast_S1x4096x1x64_S1x4096x4x64_0_1_2_3 (shapeCast S1x4096x1x64 u shapeCasts_S4096x64_S1x4096x1x64))
    shapeCasts_S1x4096x4x64_S4096x256

/-- Two halves of a head side by side. -/
def beside (u v : FVec Ideal S4096x32 .f32) : FVec Ideal S4096x64 .f32 :=
  concatenate S4096x64 1 [⟨S4096x32, u⟩, ⟨S4096x32, v⟩] concatenates_S4096x32_S4096x32_S4096x64_d1

theorem host_cosines (V0 : Valuation τ sig (Elt Ideal)) :
    after hostOps0 V0 (no_index (Proc.devRef .tc main_v17)) = repeated (beside (Host.cos (angles (V0 (Proc.devRef .tc main_arg2)))) (Host.cos (angles (V0 (Proc.devRef .tc main_arg2))))) := by
  simp only [hostOps0]
  after_results_simp
  rfl

theorem host_sines (V0 : Valuation τ sig (Elt Ideal)) :
    after hostOps0 V0 (no_index (Proc.devRef .tc main_v22))
      = repeated (beside (Host.negf (Host.sin (angles (V0 (Proc.devRef .tc main_arg2))))) (Host.sin (angles (V0 (Proc.devRef .tc main_arg2))))) := by
  simp only [hostOps0]
  after_results_simp
  rfl

variable (p : (⟨S4096, .i32⟩ : BufTy).Contents (Elt Ideal))

theorem angle_at (i : Fin 4096) (e : Fin 32) : angles p (ix2 i e) = val_main_v21 (F := Ideal) p (ix3 i 0 e) := by
  unfold angles Cert.InRefIdeal.Read.val_main_v21 Cert.InRefIdeal.Read.val_main_v19 Cert.InRefIdeal.Read.val_main_v20 Cert.InRefIdeal.Read.val_main_v11 Cert.InRefIdeal.Read.val_main_v18 Cert.InRefIdeal.Read.val_main_v10
  pointwise

theorem repeated_at (u v : FVec Ideal S4096x32 .f32) (i : Fin 4096) (c : Fin 256) : repeated (beside u v) (ix2 i c)
    = if c.val % 64 < 32 then u (ix2 i ⟨c.val % 32, Nat.mod_lt _ (by decide)⟩) else v (ix2 i ⟨c.val % 32, Nat.mod_lt _ (by decide)⟩) := by
  unfold repeated beside
  pointwise
  split
  · exact congrArg (fun j => u (ix2 i j)) (Fin.ext (show c.val % 64 = c.val % 32 by omega))
  · exact congrArg (fun j => v (ix2 i j)) (Fin.ext (show c.val % 64 - 32 = c.val % 32 by omega))

theorem cos_at (i : Fin 4096) (e : Fin 32) : Host.cos (angles p) (ix2 i e) = val_main_v22 (F := Ideal) p (ix3 i 0 e) :=
  (congrArg (FloatOps.hostUnary (F := Ideal) (φ := .f32) .cos) (angle_at p i e)).trans (Cert.InRefIdeal.Read.val_main_v22_apply (F := Ideal) p _).symm

theorem sin_at (i : Fin 4096) (e : Fin 32) : Host.sin (angles p) (ix2 i e) = val_main_v23 (F := Ideal) p (ix3 i 0 e) :=
  (congrArg (FloatOps.hostUnary (F := Ideal) (φ := .f32) .sin) (angle_at p i e)).trans (Cert.InRefIdeal.Read.val_main_v23_apply (F := Ideal) p _).symm

variable (m : (l : Loc nD τ sig) → Buf (Elt Ideal) l) (c : Dev nD)

abbrev inP : (⟨S4096, .i32⟩ : BufTy).Contents (Elt Ideal) := m ((c.tc : Thread nD τ).loc main_arg2)

theorem tables : Tables (cosines m c) (sines m c) (val_main_v22 (F := Ideal) (inP m c)) (val_main_v23 (F := Ideal) (inP m c)) where
  cos i n := by
    refine (congrFun (host_cosines fun b => m (c, b)) (ix2 i n)).trans ((repeated_at _ _ i n).trans ?_)
    split <;> exact cos_at _ i _
  sin i n := by
    refine (congrFun (host_sines fun b => m (c, b)) (ix2 i n)).trans ((repeated_at _ _ i n).trans ?_)
    split
    · exact congrArg Neg.neg (sin_at _ i _)
    · exact sin_at _ i _

end Cert.Rope

end
-- ==== Proof.Rope.Result.lean ====
/- The projection: every result of the kernel is the reference's. -/
module

public import proofs.«01_k».proof.Defs
public import proofs.«01_k».proof.Proof.Gen.InRefIdeal.Run
public import proofs.«01_k».proof.Proof.Rope.Angles

@[expose] public section

set_option maxHeartbeats 4000000

noncomputable section

namespace Cert.Rope

open Cert.InIdeal Cert.InIdeal.Gen Idealize.ShloMosaic Idealize.ShloMosaic.TcCoe Idealize.SL.Sem
open Cert.InRefIdeal.Read (val_main_v99 val_main_v100 val_main_v101 val_main_v102 val_main_v103 val_main_v104 val_main_v105 val_main_v106 val_main_v107 val_main_v108 val_main_v109)

section
variable (m : (l : Loc nD τ sig) → Buf (Elt Ideal) l) (c : Dev nD)

theorem final_na : (dats m 0 c).arrAt 4 cfg0.N = val_main_v99 (F := Ideal) (inX m c) (inW m c) := (result_na m c).trans (reference_na _ _)
theorem final_gates : (dats m 0 c).arrAt 5 cfg0.N = val_main_v100 (F := Ideal) (inX m c) (inW m c) := (result_gates m c).trans (reference_gates _ _)
theorem final_q1 : (dats m 0 c).arrAt 6 cfg0.N = val_main_v101 (F := Ideal) (inX m c) (inW m c) (inP m c) := (result_q1 m c).trans (reference_q1 _ _ _ (tables m c))
theorem final_q4 : (dats m 0 c).arrAt 7 cfg0.N = val_main_v102 (F := Ideal) (inX m c) (inW m c) (inP m c) := (result_q4 m c).trans (reference_q4 _ _ _ (tables m c))
theorem final_q16 : (dats m 0 c).arrAt 8 cfg0.N = val_main_v103 (F := Ideal) (inX m c) (inW m c) (inP m c) := (result_q16 m c).trans (reference_q16 _ _ _ (tables m c))
theorem final_k1 : (dats m 0 c).arrAt 9 cfg0.N = val_main_v104 (F := Ideal) (inX m c) (inW m c) (inP m c) := (result_k1 m c).trans (reference_k1 _ _ _ (tables m c))
theorem final_k4 : (dats m 0 c).arrAt 10 cfg0.N = val_main_v105 (F := Ideal) (inX m c) (inW m c) (inP m c) := (result_k4 m c).trans (reference_k4 _ _ _ (tables m c))
theorem final_k16 : (dats m 0 c).arrAt 11 cfg0.N = val_main_v106 (F := Ideal) (inX m c) (inW m c) (inP m c) := (result_k16 m c).trans (reference_k16 _ _ _ (tables m c))
theorem final_v1 : (dats m 0 c).arrAt 12 cfg0.N = val_main_v107 (F := Ideal) (inX m c) (inW m c) := (result_v1 m c).trans (reference_v1 _ _)
theorem final_v4 : (dats m 0 c).arrAt 13 cfg0.N = val_main_v108 (F := Ideal) (inX m c) (inW m c) := (result_v4 m c).trans (reference_v4 _ _)
theorem final_v16 : (dats m 0 c).arrAt 14 cfg0.N = val_main_v109 (F := Ideal) (inX m c) (inW m c) := (result_v16 m c).trans (reference_v16 _ _)
end

theorem frame_inRef : Cert.quiescent_InRefIdeal := fun m ρ _ =>
  (θ_run Cert.InRefIdeal.defs _ _).mono (fun r h => ⟨fun c => (h c).2.2.2.2.2.2.2.2.2.2.2, Idealize.ShloMosaic.sem_eq_zero_of_no_sems (by decide) r.2⟩)
    (Cert.InRefIdeal.Value.run (F := Ideal) m ρ)

/-- What the kernel computes as the projected neighbourhood, gates, and the rotated and dealt out queries, keys and values is what the reference does. -/
theorem algebraic_in : Cert.algebraic_InIdeal_InRefIdeal := by
  intro m g m' g' _ hagree
  refine ⟨_, _, _, _, _, _, _, _, _, _, _, (θ_run Cert.InIdeal.defs _ _).mono (fun r h c => ⟨(h c).1.trans (final_na m c),
      (h c).2.1.trans (final_gates m c),
      (h c).2.2.1.trans (final_q1 m c),
      (h c).2.2.2.1.trans (final_q4 m c),
      (h c).2.2.2.2.1.trans (final_q16 m c),
      (h c).2.2.2.2.2.1.trans (final_k1 m c),
      (h c).2.2.2.2.2.2.1.trans (final_k4 m c),
      (h c).2.2.2.2.2.2.2.1.trans (final_k16 m c),
      (h c).2.2.2.2.2.2.2.2.1.trans (final_v1 m c),
      (h c).2.2.2.2.2.2.2.2.2.1.trans (final_v4 m c),
      (h c).2.2.2.2.2.2.2.2.2.2.1.trans (final_v16 m c),
      (h c).2.2.2.2.2.2.2.2.2.2.2⟩) (Cert.InIdeal.Value.run_blocks m g), ?_⟩
  refine (θ_run Cert.InRefIdeal.defs _ _).mono (fun r h c => ?_) (Cert.InRefIdeal.Value.run (F := Ideal) m' g')
  obtain ⟨a0, a1, a2⟩ := hagree c
  refine ⟨((h c).1.trans (Cert.InRefIdeal.Read.val_main_v99_eq ..)).trans (congr (congrArg (val_main_v99 (F := Ideal)) a0) a1),
    ((h c).2.1.trans (Cert.InRefIdeal.Read.val_main_v100_eq ..)).trans (congr (congrArg (val_main_v100 (F := Ideal)) a0) a1),
    ((h c).2.2.1.trans (Cert.InRefIdeal.Read.val_main_v101_eq ..)).trans (congr (congr (congrArg (val_main_v101 (F := Ideal)) a0) a1) a2),
    ((h c).2.2.2.1.trans (Cert.InRefIdeal.Read.val_main_v102_eq ..)).trans (congr (congr (congrArg (val_main_v102 (F := Ideal)) a0) a1) a2),
    ((h c).2.2.2.2.1.trans (Cert.InRefIdeal.Read.val_main_v103_eq ..)).trans (congr (congr (congrArg (val_main_v103 (F := Ideal)) a0) a1) a2),
    ((h c).2.2.2.2.2.1.trans (Cert.InRefIdeal.Read.val_main_v104_eq ..)).trans (congr (congr (congrArg (val_main_v104 (F := Ideal)) a0) a1) a2),
    ((h c).2.2.2.2.2.2.1.trans (Cert.InRefIdeal.Read.val_main_v105_eq ..)).trans (congr (congr (congrArg (val_main_v105 (F := Ideal)) a0) a1) a2),
    ((h c).2.2.2.2.2.2.2.1.trans (Cert.InRefIdeal.Read.val_main_v106_eq ..)).trans (congr (congr (congrArg (val_main_v106 (F := Ideal)) a0) a1) a2),
    ((h c).2.2.2.2.2.2.2.2.1.trans (Cert.InRefIdeal.Read.val_main_v107_eq ..)).trans (congr (congrArg (val_main_v107 (F := Ideal)) a0) a1),
    ((h c).2.2.2.2.2.2.2.2.2.1.trans (Cert.InRefIdeal.Read.val_main_v108_eq ..)).trans (congr (congrArg (val_main_v108 (F := Ideal)) a0) a1),
    ((h c).2.2.2.2.2.2.2.2.2.2.1.trans (Cert.InRefIdeal.Read.val_main_v109_eq ..)).trans (congr (congrArg (val_main_v109 (F := Ideal)) a0) a1),
    (h c).2.2.2.2.2.2.2.2.2.2.2⟩

end Cert.Rope

end
-- ==== Proof.Mix.Rows.lean ====
/- The gradient through the mixing of the branches, a row at a time: each row of the results is one function of the row's activations and of the weights. -/
module

public import proofs.«01_k».proof.Proof.Rope.Block

@[expose] public section

noncomputable section

namespace Cert.Mix

open Idealize.ShloMosaic

/-- What is read, by rows and columns: the output's gradient `dh`, the output projection `wo`, the two gates `sn` and `sd`, the gated branches `bn` and `bd`,
their two projections `wn` and `wd`, the mixed output `y`, and the log-sums of the three groups. -/
structure Rows where
  dh : ℕ → ℕ → EReal
  wo : ℕ → ℕ → EReal
  sn : ℕ → ℕ → EReal
  sd : ℕ → ℕ → EReal
  bn : ℕ → ℕ → EReal
  bd : ℕ → ℕ → EReal
  wn : ℕ → ℕ → EReal
  wd : ℕ → ℕ → EReal
  y : ℕ → ℕ → EReal
  l1 : ℕ → ℕ → EReal
  l4 : ℕ → ℕ → EReal
  l16 : ℕ → ℕ → EReal

/-- The share of the log-sum `l` among `a`, `b` and `c`. -/
def part (l a b c : EReal) : EReal :=
  Ideal.exp (l - max (max a b) c) * Ideal.div 1 (Ideal.exp (a - max (max a b) c) + Ideal.exp (b - max (max a b) c) + Ideal.exp (c - max (max a b) c))

namespace Rows

variable (R : Rows) (i c : ℕ)

/-- The gradient of the gated branches' sum, -/
def dm : EReal := ∑ k : Fin 1024, R.dh i k * R.wo c k
/-- of the two branches, -/
def dbn : EReal := R.dm i c * R.sn i c
def dbd : EReal := R.dm i c * R.sd i c
/-- of the gates' arguments, -/
def dgn : EReal := R.dm i c * R.bn i c * R.sn i c * (1 - R.sn i c)
def dgd : EReal := R.dm i c * R.bd i c * R.sd i c * (1 - R.sd i c)
/-- of the neighbourhood's output and of the mixed one. -/
def dyna : EReal := ∑ k : Fin 1024, R.dbn i k * R.wn k c
def dy : EReal := ∑ k : Fin 1024, R.dbd i k * R.wd k c
/-- The three groups' shares, -/
def w1 : EReal := part (R.l1 i c) (R.l1 i c) (R.l4 i c) (R.l16 i c)
def w4 : EReal := part (R.l4 i c) (R.l1 i c) (R.l4 i c) (R.l16 i c)
def w16 : EReal := part (R.l16 i c) (R.l1 i c) (R.l4 i c) (R.l16 i c)
/-- the gradients of their outputs, -/
def o1 : EReal := R.w1 i c * R.dy i c
def o4 : EReal := R.w4 i c * R.dy i c
def o16 : EReal := R.w16 i c * R.dy i c
/-- and the row sums that the softmax's gradient subtracts: sums over the 64 places of a head. -/
def sums : EReal := ∑ k : Fin 256, R.dy i k * R.y i k * (if k.val / 64 = c / 64 then 1 else 0)
def c1 : EReal := (0 - R.w1 i c) * R.sums i c
def c4 : EReal := (0 - R.w4 i c) * R.sums i c
def c16 : EReal := (0 - R.w16 i c) * R.sums i c

/-- One row, everywhere. The results of row `i` are those of row `0` of this, by definition. -/
def row : Rows where
  dh _ := R.dh i
  wo := R.wo
  sn _ := R.sn i
  sd _ := R.sd i
  bn _ := R.bn i
  bd _ := R.bd i
  wn := R.wn
  wd := R.wd
  y _ := R.y i
  l1 _ := R.l1 i
  l4 _ := R.l4 i
  l16 _ := R.l16 i

/-- The same row of two, if what is read of them is the same. -/
theorem row_eq {R R' : Rows} {i j : ℕ} (h0 : R.dh i = R'.dh j) (h1 : R.wo = R'.wo) (h2 : R.sn i = R'.sn j) (h3 : R.sd i = R'.sd j) (h4 : R.bn i = R'.bn j) (h5 : R.bd i = R'.bd j)
    (h6 : R.wn = R'.wn) (h7 : R.wd = R'.wd) (h8 : R.y i = R'.y j) (h9 : R.l1 i = R'.l1 j) (h10 : R.l4 i = R'.l4 j) (h11 : R.l16 i = R'.l16 j) : R.row i = R'.row j := by
  unfold row
  rw [h0, h1, h2, h3, h4, h5, h6, h7, h8, h9, h10, h11]

end Rows

/-- An array whose rows were dealt out in turn to `D` groups, by the rows' numbers. -/
def gathered (D N : ℕ) [NeZero D] [NeZero N] (x : (⟨3, ![D, N, 256]⟩ : Shape).Idx → EReal) (i c : ℕ) : EReal :=
  x (ix3 (Fin.ofNat D (i % D)) (Fin.ofNat N (i / D)) (Fin.ofNat 256 c))

end Cert.Mix

end
-- ==== Proof.Mix.Stage.lean ====
/- The scratch of the gradient through the mixing: a chunk of 256 rows is put into it with a stride, or half by half, and read out again. -/
module

public import proofs.«01_k».proof.Proof.Mix.Rows
public import proofs.«01_k».proof.Proof.Gen.MixBwdIdeal.Value

@[expose] public section

noncomputable section

namespace Cert.Mix

open Cert.MixBwdIdeal Cert.MixBwdIdeal.Gen Idealize.ShloMosaic Idealize.ShloMosaic.TcCoe
open Cert.Rope (spread flat Stored Mat entry ofNat_eq)

/-- Stores that cover a block, each of them a part of one function, leave that function. -/
theorem of_pieces {κ : Kind} {sp : Space} {s : Shape} {e : EltTy} (v : View sig κ sp s e) (f : v.ty.Contents (Elt Ideal)) (L : List (View.Piece (Elt Ideal) s e))
    (G : s.Idx → Elt Ideal e) (hc : ∀ y, ∃ p ∈ L, y ∈ p.1.set) (h : View.PiecesOf G L) : v.read (Elt Ideal) (v.writes (Elt Ideal) f L) = G :=
  (View.read_writes_eq_canon _ _ _ hc).trans (funext fun y => View.canon_apply_of_pieces G L h.mem y (hc y))

/-- The rows of a chunk that the first `k` strided stores put into the scratch are there: `D` groups of rows, the halves of the columns apart. -/
def Filled (D k : ℕ) (L : List (View.Piece (Elt Ideal) S2x256x128 .f32)) (W : ℕ → ℕ → EReal) (r0 : ℕ) : Prop :=
  ∀ y : S2x256x128.Idx, 2 * ((y 1).val % D) + (y 0).val < k → View.canon L y = W (r0 + (y 1).val) (128 * (y 0).val + (y 2).val)

theorem filled_zero {D r0 : ℕ} {L : List (View.Piece (Elt Ideal) S2x256x128 .f32)} {W : ℕ → ℕ → EReal} : Filled D 0 L W r0 :=
  fun _ h => absurd h (Nat.not_lt_zero _)

theorem stored_of_filled {D r0 : ℕ} (hD : 0 < D) {L : List (View.Piece (Elt Ideal) S2x256x128 .f32)} {W : ℕ → ℕ → EReal} (h : Filled D (2 * D) L W r0) : Stored L W r0 := by
  intro y
  refine h y ?_
  have l0 : (y 0).val < 2 := (y 0).isLt
  have := Nat.mod_lt (y 1).val hD
  omega

/-- One more strided store. -/
theorem filled_step {D n j h k r0 : ℕ} {L : List (View.Piece (Elt Ideal) S2x256x128 .f32)} {W : ℕ → ℕ → EReal} {w : (⟨3, ![1, n, 128]⟩ : Shape).Idx → Elt Ideal .f32}
    {inb hs} (hD : D * n = 256) (hj : j < D) (hh : h < 2) (hk : k = 2 * j + h)
    (hw : ∀ (r : Fin n) (q : Fin 128), w (ix3 0 r q) = W (r0 + (j + D * r.val)) (128 * h + q.val)) (hL : Filled D k L W r0) :
    Filled D (k + 1) ((⟨({ off := ![h, j, 0], size := ![1, n, 128], stride := ![1, D, 1], inb := inb, stride_pos := hs } : Rect S2x256x128), w⟩
      : View.Piece (Elt Ideal) S2x256x128 .f32) :: L) W r0 := by
  intro y hy
  have l1 : (y 1).val < 256 := (y 1).isLt
  have l0 : (y 0).val < 2 := (y 0).isLt
  by_cases hm : (y 0).val = h ∧ (y 1).val % D = j
  · have hr : (y 1).val / D < n := Nat.div_lt_of_lt_mul (by omega)
    have hd : j + D * ((y 1).val / D) = (y 1).val := by rw [← hm.2]; exact Nat.mod_add_div _ _
    have e : y = (({ off := ![h, j, 0], size := ![1, n, 128], stride := ![1, D, 1], inb := inb, stride_pos := hs } : Rect S2x256x128)).emb
        (ix3 (n0 := 1) (n1 := n) (n2 := 128) 0 ⟨(y 1).val / D, hr⟩ (y 2)) := funext fun a => Fin.ext (by
      rw [Rect.emb_apply]
      fin_cases a
      · exact hm.1
      · exact hd.symm
      · exact (show (y 2).val = 0 + 1 * (y 2).val by omega))
    conv_lhs => rw [e]
    rw [View.canon_cons_emb, hm.1]
    refine (hw _ _).trans ?_
    show W (r0 + (j + D * ((y 1).val / D))) _ = _
    rw [hd]
  · rw [View.canon_cons_of_not_mem]
    · refine hL y ?_
      generalize (y 1).val % D = b at *
      omega
    · intro hs'
      have h0 := (LoadRect.mem_set _).mp hs' 0
      have h1 := (LoadRect.mem_set _).mp hs' 1
      obtain ⟨u, hu, eu⟩ := h0
      obtain ⟨v, hv, ev⟩ := h1
      refine hm ⟨?_, ?_⟩
      · have hu' : u < 1 := hu
        have eu' : (y 0).val = h + 1 * u := eu
        omega
      · have ev' : (y 1).val = j + D * v := ev
        rw [ev', Nat.add_mul_mod_self_left, Nat.mod_eq_of_lt hj]

/-- A strided store of a group's rows as they come from an array of groups. -/
theorem gather {D N n j a h l0 r0 k : ℕ} [NeZero D] [NeZero N] {arg : Memref sig .tc .vmem ⟨3, ![D, N, 256]⟩ .f32} (harg : arg.IsWhole)
    (x : Vec Ideal ⟨3, ![D, N, 256]⟩ .f32) {L : List (View.Piece (Elt Ideal) S2x256x128 .f32)} {inb inb' hs h1 h3}
    (hD : D * n = 256) (hj : j < D) (hh : h < 2) (hr : D * a = r0) (hl : l0 = 128 * h) (hk : k = 2 * j + h) (hL : Filled D k L (gathered D N x) r0) :
    Filled D (k + 1) ((⟨({ off := ![h, j, 0], size := ![1, n, 128], stride := ![1, D, 1], inb := inb, stride_pos := hs } : Rect S2x256x128),
      shapeCast (α := Ideal .f32) ⟨3, ![1, n, 128]⟩ (shapeCast (s := ⟨3, ![1, n, 128]⟩) (α := Ideal .f32) ⟨2, ![n, 128]⟩
        (arg.view.readAt (Elt Ideal) (Rect.unit (s := ⟨3, ![D, N, 256]⟩) ![j, a, l0] ![1, n, 128] inb').toLoadRect (harg.unread x)) h1) h3⟩
      : View.Piece (Elt Ideal) S2x256x128 .f32) :: L) (gathered D N x) r0 := by
  refine filled_step hD hj hh hk (fun r q => ?_) hL
  have b1 : a + n ≤ N := inb' 1
  have b2 : l0 + 128 ≤ 256 := inb' 2
  pointwise
  unfold gathered
  have e : r0 + (j + D * r.val) = j + D * (a + r.val) := by rw [Nat.mul_add, hr]; omega
  rw [View.readAt_eq_ld, harg.read_unread, e, Nat.add_mul_mod_self_left, Nat.mod_eq_of_lt hj, Nat.add_mul_div_left _ _ (Nat.pos_of_ne_zero (NeZero.ne D)),
    Nat.div_eq_of_lt hj, Nat.zero_add, ofNat_eq hj, ofNat_eq (show a + r.val < N by omega), ofNat_eq (show 128 * h + q.val < 256 by omega)]
  exact View.ld_unit_apply_of (S := ⟨3, ![D, N, 256]⟩) x _ _ _ _ _ fun b => by
    fin_cases b
    · rfl
    · rfl
    · exact (show 128 * h + q.val = l0 + q.val by omega)

/-! The same for the two strides there are: 4, and 16. -/

theorem gather4 {j a h l0 r0 k : ℕ} {arg : Memref sig .tc .vmem S4x128x256 .f32} (harg : arg.IsWhole)
    (x : Vec Ideal S4x128x256 .f32) {L : List (View.Piece (Elt Ideal) S2x256x128 .f32)} {inb inb' hs}
    (hj : j < 4) (hh : h < 2) (hr : 4 * a = r0) (hl : l0 = 128 * h) (hk : k = 2 * j + h) (hL : Filled 4 k L (gathered 4 128 x) r0) :
    Filled 4 (k + 1) ((⟨({ off := ![h, j, 0], size := S1x64x128.size, stride := ![1, 4, 1], inb := inb, stride_pos := hs } : Rect S2x256x128),
      shapeCast (α := Ideal .f32) S1x64x128 (shapeCast (s := S1x64x128) (α := Ideal .f32) S64x128
        (arg.view.readAt (Elt Ideal) (Rect.unit (s := S4x128x256) ![j, a, l0] S1x64x128.size inb').toLoadRect (harg.unread x)) shapeCasts_S1x64x128_S64x128)
        shapeCasts_S64x128_S1x64x128⟩
      : View.Piece (Elt Ideal) S2x256x128 .f32) :: L) (gathered 4 128 x) r0 :=
  gather harg x rfl hj hh hr hl hk hL

theorem gather16 {j a h l0 r0 k : ℕ} {arg : Memref sig .tc .vmem S16x32x256 .f32} (harg : arg.IsWhole)
    (x : Vec Ideal S16x32x256 .f32) {L : List (View.Piece (Elt Ideal) S2x256x128 .f32)} {inb inb' hs}
    (hj : j < 16) (hh : h < 2) (hr : 16 * a = r0) (hl : l0 = 128 * h) (hk : k = 2 * j + h) (hL : Filled 16 k L (gathered 16 32 x) r0) :
    Filled 16 (k + 1) ((⟨({ off := ![h, j, 0], size := S1x16x128.size, stride := ![1, 16, 1], inb := inb, stride_pos := hs } : Rect S2x256x128),
      shapeCast (α := Ideal .f32) S1x16x128 (shapeCast (s := S1x16x128) (α := Ideal .f32) S16x128
        (arg.view.readAt (Elt Ideal) (Rect.unit (s := S16x32x256) ![j, a, l0] S1x16x128.size inb').toLoadRect (harg.unread x)) shapeCasts_S1x16x128_S16x128)
        shapeCasts_S16x128_S1x16x128⟩
      : View.Piece (Elt Ideal) S2x256x128 .f32) :: L) (gathered 16 32 x) r0 :=
  gather harg x rfl hj hh hr hl hk hL

/-- The scratch read back, its halves side by side. -/
def joined (scr : Memref sig .tc .vmem S2x256x128 .f32) (L : List (View.Piece (Elt Ideal) S2x256x128 .f32)) : FVec Ideal S256x256 .f32 :=
  k0_pay24 (F := Ideal) (scr.view.readCov L (Rect.unit (s := S2x256x128) ![0, 0, 0] S1x256x128.size inb_S2x256x128_S1x256x128_0_0_0).toLoadRect)
    (scr.view.readCov L (Rect.unit (s := S2x256x128) ![1, 0, 0] S1x256x128.size inb_S2x256x128_S1x256x128_1_0_0).toLoadRect)

theorem joined_at (scr : Memref sig .tc .vmem S2x256x128 .f32) {L : List (View.Piece (Elt Ideal) S2x256x128 .f32)} {W : ℕ → ℕ → EReal} {r0 : ℕ} (hL : Stored L W r0)
    (p q : Fin 256) : joined scr L (ix2 p q) = W (r0 + p.val) q.val := by
  unfold joined k0_pay24
  rw [View.readCov_eq_canon', View.readCov_eq_canon']
  pointwise
  split
  · refine (hL _).trans (congrArg₂ W ?_ ?_)
    · rfl
    · show 128 * 0 + q.val = q.val
      omega
  · refine (hL _).trans (congrArg₂ W ?_ ?_)
    · rfl
    · show 128 * 1 + (q.val - 128) = q.val
      omega

/-- A strided read of the scratch, stored as it is, puts the chunk's rows where `spread` has them. -/
theorem staged {σ : RefSig} {κ : Kind} {sp : Space} {scr : View σ κ sp S2x256x128 .f32} {D N n j a h l0 r0 : ℕ} {L : List (View.Piece (Elt Ideal) S2x256x128 .f32)}
    {W : ℕ → ℕ → EReal} (hL : Stored L W r0) {inb inb' h1 h3}
    (hr : D * a = r0) (hl : l0 = 128 * h) (x : (⟨3, ![1, n, 128]⟩ : Shape).Idx) :
    shapeCast (α := Ideal .f32) ⟨3, ![1, n, 128]⟩ (shapeCast (α := Ideal .f32) ⟨2, ![n, 128]⟩
        (scr.readCov L ({ off := ![h, j, 0], size := ![1, n, 128], stride := ![1, D, 1], inb := inb } : LoadRect S2x256x128)) h1) h3 x
      = spread D N W ((Rect.unit (s := ⟨3, ![D, N, 256]⟩) ![j, a, l0] ![1, n, 128] inb').emb x) :=
  Eq.trans (by rw [eq_ix3 x]; pointwise) (Cert.Rope.staged (scr := scr) (h1 := h1) (h3 := h3) hL hr hl x)

theorem staged4 {σ : RefSig} {κ : Kind} {sp : Space} {scr : View σ κ sp S2x256x128 .f32} {j a h l0 r0 : ℕ} {L : List (View.Piece (Elt Ideal) S2x256x128 .f32)}
    {W : ℕ → ℕ → EReal} (hL : Stored L W r0) {inb inb'}
    (hr : 4 * a = r0) (hl : l0 = 128 * h) (x : S1x64x128.Idx) :
    shapeCast (α := Ideal .f32) S1x64x128 (shapeCast (s := S1x64x128) (α := Ideal .f32) S64x128
        (scr.readCov L ({ off := ![h, j, 0], size := S1x64x128.size, stride := ![1, 4, 1], inb := inb } : LoadRect S2x256x128))
        shapeCasts_S1x64x128_S64x128) shapeCasts_S64x128_S1x64x128 x
      = spread 4 128 W ((Rect.unit (s := S4x128x256) ![j, a, l0] S1x64x128.size inb').emb x) :=
  staged hL hr hl x

theorem staged16 {σ : RefSig} {κ : Kind} {sp : Space} {scr : View σ κ sp S2x256x128 .f32} {j a h l0 r0 : ℕ} {L : List (View.Piece (Elt Ideal) S2x256x128 .f32)}
    {W : ℕ → ℕ → EReal} (hL : Stored L W r0) {inb inb'}
    (hr : 16 * a = r0) (hl : l0 = 128 * h) (x : S1x16x128.Idx) :
    shapeCast (α := Ideal .f32) S1x16x128 (shapeCast (s := S1x16x128) (α := Ideal .f32) S16x128
        (scr.readCov L ({ off := ![h, j, 0], size := S1x16x128.size, stride := ![1, 16, 1], inb := inb } : LoadRect S2x256x128))
        shapeCasts_S1x16x128_S16x128) shapeCasts_S16x128_S1x16x128 x
      = spread 16 32 W ((Rect.unit (s := S16x32x256) ![j, a, l0] S1x16x128.size inb').emb x) :=
  staged hL hr hl x

/-- A chunk stored as it is. -/
theorem direct {V : FVec Ideal S256x256 .f32} {W : ℕ → ℕ → EReal} {r0 : ℕ} (hV : ∀ p q : Fin 256, V (ix2 p q) = W (r0 + p.val) q.val) {inb h3}
    (x : S1x256x256.Idx) :
    shapeCast (α := Ideal .f32) S1x256x256 V h3 x = spread 1 512 W ((Rect.unit (s := S1x512x256) ![0, r0, 0] S1x256x256.size inb).emb x) :=
  Eq.trans (by rw [eq_ix3 x]; pointwise) (Cert.Rope.direct (h3 := h3) hV x)

end Cert.Mix

end
-- ==== Proof.Mix.Block.lean ====
/- What a point of the gradient through the mixing leaves in each of its eleven blocks, entry by entry. -/
module

public import proofs.«01_k».proof.Proof.Mix.Stage
public import Idealize.ShloMosaic.Lib.IdealHost

@[expose] public section

set_option maxRecDepth 16384

noncomputable section

namespace Cert.Mix

open Cert.MixBwdIdeal Cert.MixBwdIdeal.Gen Idealize.ShloMosaic Idealize.ShloMosaic.TcCoe
open Cert.Rope (spread flat Stored Mat entry ofNat_eq stored rows_of)

/-! The operations on a chunk of 256 rows. -/

/-- The share of the log-sums `l` among `a`, `b` and `d`; -/
def weigh (l a b d : FVec Ideal S256x256 .f32) : FVec Ideal S256x256 .f32 :=
  mulf (exp (subf l (maximumf (maximumf a b) d)))
    (divf (broadcast S256x256 (Scalar.ofBits (F := Ideal) .f32 0x3F800000#32))
      (addf (addf (exp (subf a (maximumf (maximumf a b) d))) (exp (subf b (maximumf (maximumf a b) d)))) (exp (subf d (maximumf (maximumf a b) d)))))

/-- what the softmax's gradient subtracts. -/
def corrected (w g y : FVec Ideal S256x256 .f32) : FVec Ideal S256x256 .f32 :=
  mulf (subf (broadcast S256x256 (Scalar.ofBits (F := Ideal) .f32 0x00000000#32)) w) (k0_pay67 (F := Ideal) k0_pay5 g y)

theorem weigh_at {l a b d : FVec Ideal S256x256 .f32} {L A B D : EReal} {p q : Fin 256} (hl : l (ix2 p q) = L) (ha : a (ix2 p q) = A) (hb : b (ix2 p q) = B)
    (hd : d (ix2 p q) = D) : weigh l a b d (ix2 p q) = part L A B D := by
  unfold weigh part
  pointwise
  rw [hl, ha, hb, hd]

/-- The 64 places of a head, among 256. -/
theorem mask_at (k c : Fin 256) : k0_pay5 (F := Ideal) (ix2 k c) = if k.val / 64 = c.val / 64 then 1 else 0 := by
  unfold k0_pay5
  pointwise
  have hs : ∀ a : Fin 256, IntOp.shrsi .vector (BitVec.ofNat 32 a.val) 6#32 = BitVec.ofNat 32 (a.val / 64) := by decide +kernel
  have hc : ∀ a b : Fin 4, IntOp.cmpi .eq (BitVec.ofNat 32 a.val) (BitVec.ofNat 32 b.val) = if a.val = b.val then 1#1 else 0#1 := by decide
  rw [hs, hs, hc ⟨k.val / 64, by omega⟩ ⟨c.val / 64, by omega⟩]
  by_cases h : k.val / 64 = c.val / 64 <;> simp [Scalar.select, h]

theorem corrected_at {w g y : FVec Ideal S256x256 .f32} {W : EReal} {G Y : ℕ → EReal} {p q : Fin 256} (hw : w (ix2 p q) = W) (hg : ∀ k : Fin 256, g (ix2 p k) = G k.val)
    (hy : ∀ k : Fin 256, y (ix2 p k) = Y k.val) :
    corrected w g y (ix2 p q) = (0 - W) * ∑ k : Fin 256, G k.val * Y k.val * (if k.val / 64 = q.val / 64 then 1 else 0) := by
  unfold corrected k0_pay67
  pointwise
  rw [hw]
  refine congrArg (_ * ·) (Finset.sum_congr rfl fun k _ => ?_)
  rw [hg, hy, mask_at]

/-- A chunk's rows of a block. -/
theorem rows_at {r s n r0 : ℕ} [NeZero r] [NeZero s] {e : EltTy} {arg : Memref sig .tc .vmem ⟨2, ![r, s]⟩ e} (harg : arg.IsWhole) (x : Vec Ideal ⟨2, ![r, s]⟩ e)
    {i1} (p : Fin n) (k : Fin s) :
    arg.view.readAt (Elt Ideal) (Rect.unit (s := ⟨2, ![r, s]⟩) ![r0, 0] ![n, s] i1).toLoadRect (harg.unread x) (ix2 p k)
      = x (ix2 (Fin.ofNat r (r0 + p.val)) (Fin.ofNat s k.val)) := by
  have h : r0 + n ≤ r := i1 0
  rw [View.readAt_eq_ld, harg.read_unread, ofNat_eq (show r0 + p.val < r by omega), ofNat_eq k.isLt]
  exact View.ld_unit_apply_of (S := ⟨2, ![r, s]⟩) x _ _ _ _ _ fun a => by
    fin_cases a
    · rfl
    · exact (Nat.zero_add _).symm

/-- What is read, by rows and columns, from a point's blocks. -/
def blockRows (x0 : Vec Ideal S512x1024 .bf16) (x1 : Vec Ideal S1024x1024 .bf16) (x2 x3 x4 x5 : Vec Ideal S512x1024 .bf16) (x6 : Vec Ideal S1024x512 .bf16)
    (x7 : Vec Ideal S1024x256 .bf16) (x8 : Vec Ideal S512x256 .f32) (x9 : Vec Ideal S1x512x256 .f32) (x10 : Vec Ideal S4x128x256 .f32) (x11 : Vec Ideal S16x32x256 .f32) : Rows where
  dh := entry (r := 512) (s := 1024) x0
  wo := entry (r := 1024) (s := 1024) x1
  sn := entry (r := 512) (s := 1024) x2
  sd := entry (r := 512) (s := 1024) x3
  bn := entry (r := 512) (s := 1024) x4
  bd := entry (r := 512) (s := 1024) x5
  wn := entry (r := 1024) (s := 512) x6
  wd := entry (r := 1024) (s := 256) x7
  y := entry (r := 512) (s := 256) x8
  l1 := gathered 1 512 x9
  l4 := gathered 4 128 x10
  l16 := gathered 16 32 x11

section
variable {arg1 : Memref sig .tc .vmem S512x1024 .bf16} (harg1 : arg1.IsWhole) {arg2 : Memref sig .tc .vmem S1024x1024 .bf16} (harg2 : arg2.IsWhole) {arg3 : Memref sig .tc .vmem S512x1024 .bf16} (harg3 : arg3.IsWhole) {arg4 : Memref sig .tc .vmem S512x1024 .bf16} (harg4 : arg4.IsWhole) {arg5 : Memref sig .tc .vmem S512x1024 .bf16} (harg5 : arg5.IsWhole) {arg6 : Memref sig .tc .vmem S512x1024 .bf16} (harg6 : arg6.IsWhole) {arg7 : Memref sig .tc .vmem S1024x512 .bf16} (harg7 : arg7.IsWhole) {arg8 : Memref sig .tc .vmem S1024x256 .bf16} (harg8 : arg8.IsWhole) {arg9 : Memref sig .tc .vmem S512x256 .f32} (harg9 : arg9.IsWhole) {arg10 : Memref sig .tc .vmem S1x512x256 .f32} (harg10 : arg10.IsWhole) {arg11 : Memref sig .tc .vmem S4x128x256 .f32} (harg11 : arg11.IsWhole) {arg12 : Memref sig .tc .vmem S16x32x256 .f32} (harg12 : arg12.IsWhole)
  (x0 : Vec Ideal S512x1024 .bf16) (x1 : Vec Ideal S1024x1024 .bf16) (x2 : Vec Ideal S512x1024 .bf16) (x3 : Vec Ideal S512x1024 .bf16) (x4 : Vec Ideal S512x1024 .bf16) (x5 : Vec Ideal S512x1024 .bf16) (x6 : Vec Ideal S1024x512 .bf16) (x7 : Vec Ideal S1024x256 .bf16) (x8 : Vec Ideal S512x256 .f32) (x9 : Vec Ideal S1x512x256 .f32) (x10 : Vec Ideal S4x128x256 .f32) (x11 : Vec Ideal S16x32x256 .f32)
  (r0 : ℕ) (i1 : ∀ a, (![r0, 0] : Fin 2 → ℕ) a + S256x1024.size a ≤ S512x1024.size a) (i9 : ∀ a, (![r0, 0] : Fin 2 → ℕ) a + S256x256.size a ≤ S512x256.size a)
  (i10 : ∀ a, (![0, r0, 0] : Fin 3 → ℕ) a + S1x256x256.size a ≤ S1x512x256.size a)

/-! A chunk from the row `r0` on: the gradients of the branches and of the gates' arguments, -/

theorem dm_chunk (p : Fin 256) (q : Fin 1024) :
    k0_pay6 (F := Ideal) (arg1.view.readAt (Elt Ideal) (Rect.unit (s := S512x1024) ![r0, 0] S256x1024.size i1).toLoadRect (harg1.unread x0))
        (arg2.view.readAt (Elt Ideal) (Rect.unit (s := S1024x1024) ![0, 0] S1024x1024.size inb_S1024x1024_S1024x1024_0_0).toLoadRect (harg2.unread x1)) (ix2 p q) = (blockRows x0 x1 x2 x3 x4 x5 x6 x7 x8 x9 x10 x11).dm (r0 + p.val) q.val := by
  unfold k0_pay6
  pointwise
  refine Finset.sum_congr rfl fun k _ => congrArg₂ (· * ·) (rows_at harg1 x0 p k) ((rows_at harg2 x1 q k).trans ?_)
  rw [Nat.zero_add]
  rfl

theorem dbn_chunk (p : Fin 256) (q : Fin 1024) :
    k0_pay9 (F := Ideal) (arg1.view.readAt (Elt Ideal) (Rect.unit (s := S512x1024) ![r0, 0] S256x1024.size i1).toLoadRect (harg1.unread x0))
        (arg2.view.readAt (Elt Ideal) (Rect.unit (s := S1024x1024) ![0, 0] S1024x1024.size inb_S1024x1024_S1024x1024_0_0).toLoadRect (harg2.unread x1))
        (arg3.view.readAt (Elt Ideal) (Rect.unit (s := S512x1024) ![r0, 0] S256x1024.size i1).toLoadRect (harg3.unread x2)) (ix2 p q) = (blockRows x0 x1 x2 x3 x4 x5 x6 x7 x8 x9 x10 x11).dbn (r0 + p.val) q.val := by
  unfold k0_pay9 k0_pay7
  pointwise
  exact congrArg₂ (· * ·) (dm_chunk harg1 harg2 x0 x1 x2 x3 x4 x5 x6 x7 x8 x9 x10 x11 r0 i1 p q) (rows_at harg3 x2 p q)

theorem dbd_chunk (p : Fin 256) (q : Fin 1024) :
    k0_pay10 (F := Ideal) (arg1.view.readAt (Elt Ideal) (Rect.unit (s := S512x1024) ![r0, 0] S256x1024.size i1).toLoadRect (harg1.unread x0))
        (arg2.view.readAt (Elt Ideal) (Rect.unit (s := S1024x1024) ![0, 0] S1024x1024.size inb_S1024x1024_S1024x1024_0_0).toLoadRect (harg2.unread x1))
        (arg4.view.readAt (Elt Ideal) (Rect.unit (s := S512x1024) ![r0, 0] S256x1024.size i1).toLoadRect (harg4.unread x3)) (ix2 p q) = (blockRows x0 x1 x2 x3 x4 x5 x6 x7 x8 x9 x10 x11).dbd (r0 + p.val) q.val := by
  unfold k0_pay10 k0_pay8
  pointwise
  exact congrArg₂ (· * ·) (dm_chunk harg1 harg2 x0 x1 x2 x3 x4 x5 x6 x7 x8 x9 x10 x11 r0 i1 p q) (rows_at harg4 x3 p q)

theorem dgn_chunk (p : Fin 256) (q : Fin 1024) :
    k0_pay11 (F := Ideal) (arg1.view.readAt (Elt Ideal) (Rect.unit (s := S512x1024) ![r0, 0] S256x1024.size i1).toLoadRect (harg1.unread x0))
        (arg2.view.readAt (Elt Ideal) (Rect.unit (s := S1024x1024) ![0, 0] S1024x1024.size inb_S1024x1024_S1024x1024_0_0).toLoadRect (harg2.unread x1))
        (arg3.view.readAt (Elt Ideal) (Rect.unit (s := S512x1024) ![r0, 0] S256x1024.size i1).toLoadRect (harg3.unread x2))
        (arg5.view.readAt (Elt Ideal) (Rect.unit (s := S512x1024) ![r0, 0] S256x1024.size i1).toLoadRect (harg5.unread x4)) (ix2 p q) = (blockRows x0 x1 x2 x3 x4 x5 x6 x7 x8 x9 x10 x11).dgn (r0 + p.val) q.val := by
  unfold k0_pay11 k0_pay7
  pointwise
  exact congrArg₂ (· * ·) (congrArg₂ (· * ·) (congrArg₂ (· * ·) (dm_chunk harg1 harg2 x0 x1 x2 x3 x4 x5 x6 x7 x8 x9 x10 x11 r0 i1 p q) (rows_at harg5 x4 p q)) (rows_at harg3 x2 p q))
    (congrArg (1 - ·) (rows_at harg3 x2 p q))

theorem dgd_chunk (p : Fin 256) (q : Fin 1024) :
    k0_pay12 (F := Ideal) (arg1.view.readAt (Elt Ideal) (Rect.unit (s := S512x1024) ![r0, 0] S256x1024.size i1).toLoadRect (harg1.unread x0))
        (arg2.view.readAt (Elt Ideal) (Rect.unit (s := S1024x1024) ![0, 0] S1024x1024.size inb_S1024x1024_S1024x1024_0_0).toLoadRect (harg2.unread x1))
        (arg4.view.readAt (Elt Ideal) (Rect.unit (s := S512x1024) ![r0, 0] S256x1024.size i1).toLoadRect (harg4.unread x3))
        (arg6.view.readAt (Elt Ideal) (Rect.unit (s := S512x1024) ![r0, 0] S256x1024.size i1).toLoadRect (harg6.unread x5)) (ix2 p q) = (blockRows x0 x1 x2 x3 x4 x5 x6 x7 x8 x9 x10 x11).dgd (r0 + p.val) q.val := by
  unfold k0_pay12 k0_pay8
  pointwise
  exact congrArg₂ (· * ·) (congrArg₂ (· * ·) (congrArg₂ (· * ·) (dm_chunk harg1 harg2 x0 x1 x2 x3 x4 x5 x6 x7 x8 x9 x10 x11 r0 i1 p q) (rows_at harg6 x5 p q)) (rows_at harg4 x3 p q))
    (congrArg (1 - ·) (rows_at harg4 x3 p q))

/-! of the two outputs, -/

theorem dyna_chunk (p : Fin 256) (q : Fin 512) :
    k0_pay13 (F := Ideal) (k0_pay9 (F := Ideal) (arg1.view.readAt (Elt Ideal) (Rect.unit (s := S512x1024) ![r0, 0] S256x1024.size i1).toLoadRect (harg1.unread x0))
        (arg2.view.readAt (Elt Ideal) (Rect.unit (s := S1024x1024) ![0, 0] S1024x1024.size inb_S1024x1024_S1024x1024_0_0).toLoadRect (harg2.unread x1))
        (arg3.view.readAt (Elt Ideal) (Rect.unit (s := S512x1024) ![r0, 0] S256x1024.size i1).toLoadRect (harg3.unread x2)))
        (arg7.view.readAt (Elt Ideal) (Rect.unit (s := S1024x512) ![0, 0] S1024x512.size inb_S1024x512_S1024x512_0_0).toLoadRect (harg7.unread x6)) (ix2 p q) = (blockRows x0 x1 x2 x3 x4 x5 x6 x7 x8 x9 x10 x11).dyna (r0 + p.val) q.val := by
  unfold k0_pay13
  pointwise
  refine Finset.sum_congr rfl fun k _ => congrArg₂ (· * ·) (dbn_chunk harg1 harg2 harg3 x0 x1 x2 x3 x4 x5 x6 x7 x8 x9 x10 x11 r0 i1 p k) ((rows_at harg7 x6 k q).trans ?_)
  rw [Nat.zero_add]
  rfl

theorem dy_chunk (p : Fin 256) (q : Fin 256) :
    (k0_pay14 (F := Ideal) (k0_pay10 (F := Ideal) (arg1.view.readAt (Elt Ideal) (Rect.unit (s := S512x1024) ![r0, 0] S256x1024.size i1).toLoadRect (harg1.unread x0))
        (arg2.view.readAt (Elt Ideal) (Rect.unit (s := S1024x1024) ![0, 0] S1024x1024.size inb_S1024x1024_S1024x1024_0_0).toLoadRect (harg2.unread x1))
        (arg4.view.readAt (Elt Ideal) (Rect.unit (s := S512x1024) ![r0, 0] S256x1024.size i1).toLoadRect (harg4.unread x3)))
        (arg8.view.readAt (Elt Ideal) (Rect.unit (s := S1024x256) ![0, 0] S1024x256.size inb_S1024x256_S1024x256_0_0).toLoadRect (harg8.unread x7))) (ix2 p q) = (blockRows x0 x1 x2 x3 x4 x5 x6 x7 x8 x9 x10 x11).dy (r0 + p.val) q.val := by
  unfold k0_pay14
  pointwise
  refine Finset.sum_congr rfl fun k _ => congrArg₂ (· * ·) (dbd_chunk harg1 harg2 harg4 x0 x1 x2 x3 x4 x5 x6 x7 x8 x9 x10 x11 r0 i1 p k) ((rows_at harg8 x7 k q).trans ?_)
  rw [Nat.zero_add]
  rfl

/-! the first log-sums as they are read, -/

theorem lse_chunk (p q : Fin 256) : (k0_pay15 (F := Ideal) (arg10.view.readAt (Elt Ideal) (Rect.unit (s := S1x512x256) ![0, r0, 0] S1x256x256.size i10).toLoadRect (harg10.unread x9))) (ix2 p q) = (blockRows x0 x1 x2 x3 x4 x5 x6 x7 x8 x9 x10 x11).l1 (r0 + p.val) q.val := by
  have h : r0 + 256 ≤ 512 := i10 1
  unfold k0_pay15
  show _ = gathered 1 512 x9 (r0 + p.val) q.val
  unfold gathered
  pointwise
  rw [View.readAt_eq_ld, harg10.read_unread, ofNat_eq (show r0 + p.val < 512 by omega), ofNat_eq q.isLt]
  exact View.ld_unit_apply_of (S := S1x512x256) x9 _ _ _ _ _ fun a => by
    fin_cases a
    · rfl
    · rfl
    · exact (Nat.zero_add _).symm

variable (arg24 : Memref sig .tc .vmem S2x256x128 .f32) {L4 L16 : List (View.Piece (Elt Ideal) S2x256x128 .f32)} (h4 : Stored L4 (gathered 4 128 x10) r0)
  (h16 : Stored L16 (gathered 16 32 x11) r0)
include h4 h16

/-! and, the others being in the scratch, the gradients of the three groups' outputs and what is subtracted. -/

theorem o1_chunk (p q : Fin 256) : mulf (weigh (k0_pay15 (F := Ideal) (arg10.view.readAt (Elt Ideal) (Rect.unit (s := S1x512x256) ![0, r0, 0] S1x256x256.size i10).toLoadRect (harg10.unread x9))) (k0_pay15 (F := Ideal) (arg10.view.readAt (Elt Ideal) (Rect.unit (s := S1x512x256) ![0, r0, 0] S1x256x256.size i10).toLoadRect (harg10.unread x9)))
        (joined arg24 L4) (joined arg24 L16))
      (k0_pay14 (F := Ideal) (k0_pay10 (F := Ideal) (arg1.view.readAt (Elt Ideal) (Rect.unit (s := S512x1024) ![r0, 0] S256x1024.size i1).toLoadRect (harg1.unread x0))
        (arg2.view.readAt (Elt Ideal) (Rect.unit (s := S1024x1024) ![0, 0] S1024x1024.size inb_S1024x1024_S1024x1024_0_0).toLoadRect (harg2.unread x1))
        (arg4.view.readAt (Elt Ideal) (Rect.unit (s := S512x1024) ![r0, 0] S256x1024.size i1).toLoadRect (harg4.unread x3)))
        (arg8.view.readAt (Elt Ideal) (Rect.unit (s := S1024x256) ![0, 0] S1024x256.size inb_S1024x256_S1024x256_0_0).toLoadRect (harg8.unread x7))) (ix2 p q) = (blockRows x0 x1 x2 x3 x4 x5 x6 x7 x8 x9 x10 x11).o1 (r0 + p.val) q.val := by
  pointwise
  exact congrArg₂ (· * ·) (weigh_at (lse_chunk harg10 x0 x1 x2 x3 x4 x5 x6 x7 x8 x9 x10 x11 r0 i10 p q) (lse_chunk harg10 x0 x1 x2 x3 x4 x5 x6 x7 x8 x9 x10 x11 r0 i10 p q) (joined_at arg24 h4 p q) (joined_at arg24 h16 p q)) (dy_chunk harg1 harg2 harg4 harg8 x0 x1 x2 x3 x4 x5 x6 x7 x8 x9 x10 x11 r0 i1 p q)

theorem c1_chunk (p q : Fin 256) : corrected (weigh (k0_pay15 (F := Ideal) (arg10.view.readAt (Elt Ideal) (Rect.unit (s := S1x512x256) ![0, r0, 0] S1x256x256.size i10).toLoadRect (harg10.unread x9))) (k0_pay15 (F := Ideal) (arg10.view.readAt (Elt Ideal) (Rect.unit (s := S1x512x256) ![0, r0, 0] S1x256x256.size i10).toLoadRect (harg10.unread x9)))
        (joined arg24 L4) (joined arg24 L16))
      (k0_pay14 (F := Ideal) (k0_pay10 (F := Ideal) (arg1.view.readAt (Elt Ideal) (Rect.unit (s := S512x1024) ![r0, 0] S256x1024.size i1).toLoadRect (harg1.unread x0))
        (arg2.view.readAt (Elt Ideal) (Rect.unit (s := S1024x1024) ![0, 0] S1024x1024.size inb_S1024x1024_S1024x1024_0_0).toLoadRect (harg2.unread x1))
        (arg4.view.readAt (Elt Ideal) (Rect.unit (s := S512x1024) ![r0, 0] S256x1024.size i1).toLoadRect (harg4.unread x3)))
        (arg8.view.readAt (Elt Ideal) (Rect.unit (s := S1024x256) ![0, 0] S1024x256.size inb_S1024x256_S1024x256_0_0).toLoadRect (harg8.unread x7)))
      (arg9.view.readAt (Elt Ideal) (Rect.unit (s := S512x256) ![r0, 0] S256x256.size i9).toLoadRect (harg9.unread x8)) (ix2 p q) = (blockRows x0 x1 x2 x3 x4 x5 x6 x7 x8 x9 x10 x11).c1 (r0 + p.val) q.val :=
  corrected_at (G := (blockRows x0 x1 x2 x3 x4 x5 x6 x7 x8 x9 x10 x11).dy (r0 + p.val)) (Y := (blockRows x0 x1 x2 x3 x4 x5 x6 x7 x8 x9 x10 x11).y (r0 + p.val)) (weigh_at (lse_chunk harg10 x0 x1 x2 x3 x4 x5 x6 x7 x8 x9 x10 x11 r0 i10 p q) (lse_chunk harg10 x0 x1 x2 x3 x4 x5 x6 x7 x8 x9 x10 x11 r0 i10 p q) (joined_at arg24 h4 p q) (joined_at arg24 h16 p q)) (fun k => dy_chunk harg1 harg2 harg4 harg8 x0 x1 x2 x3 x4 x5 x6 x7 x8 x9 x10 x11 r0 i1 p k) fun k => rows_at harg9 x8 p k

theorem o4_chunk (p q : Fin 256) : mulf (weigh (joined arg24 L4) (k0_pay15 (F := Ideal) (arg10.view.readAt (Elt Ideal) (Rect.unit (s := S1x512x256) ![0, r0, 0] S1x256x256.size i10).toLoadRect (harg10.unread x9)))
        (joined arg24 L4) (joined arg24 L16))
      (k0_pay14 (F := Ideal) (k0_pay10 (F := Ideal) (arg1.view.readAt (Elt Ideal) (Rect.unit (s := S512x1024) ![r0, 0] S256x1024.size i1).toLoadRect (harg1.unread x0))
        (arg2.view.readAt (Elt Ideal) (Rect.unit (s := S1024x1024) ![0, 0] S1024x1024.size inb_S1024x1024_S1024x1024_0_0).toLoadRect (harg2.unread x1))
        (arg4.view.readAt (Elt Ideal) (Rect.unit (s := S512x1024) ![r0, 0] S256x1024.size i1).toLoadRect (harg4.unread x3)))
        (arg8.view.readAt (Elt Ideal) (Rect.unit (s := S1024x256) ![0, 0] S1024x256.size inb_S1024x256_S1024x256_0_0).toLoadRect (harg8.unread x7))) (ix2 p q) = (blockRows x0 x1 x2 x3 x4 x5 x6 x7 x8 x9 x10 x11).o4 (r0 + p.val) q.val := by
  pointwise
  exact congrArg₂ (· * ·) (weigh_at (joined_at arg24 h4 p q) (lse_chunk harg10 x0 x1 x2 x3 x4 x5 x6 x7 x8 x9 x10 x11 r0 i10 p q) (joined_at arg24 h4 p q) (joined_at arg24 h16 p q)) (dy_chunk harg1 harg2 harg4 harg8 x0 x1 x2 x3 x4 x5 x6 x7 x8 x9 x10 x11 r0 i1 p q)

theorem c4_chunk (p q : Fin 256) : corrected (weigh (joined arg24 L4) (k0_pay15 (F := Ideal) (arg10.view.readAt (Elt Ideal) (Rect.unit (s := S1x512x256) ![0, r0, 0] S1x256x256.size i10).toLoadRect (harg10.unread x9)))
        (joined arg24 L4) (joined arg24 L16))
      (k0_pay14 (F := Ideal) (k0_pay10 (F := Ideal) (arg1.view.readAt (Elt Ideal) (Rect.unit (s := S512x1024) ![r0, 0] S256x1024.size i1).toLoadRect (harg1.unread x0))
        (arg2.view.readAt (Elt Ideal) (Rect.unit (s := S1024x1024) ![0, 0] S1024x1024.size inb_S1024x1024_S1024x1024_0_0).toLoadRect (harg2.unread x1))
        (arg4.view.readAt (Elt Ideal) (Rect.unit (s := S512x1024) ![r0, 0] S256x1024.size i1).toLoadRect (harg4.unread x3)))
        (arg8.view.readAt (Elt Ideal) (Rect.unit (s := S1024x256) ![0, 0] S1024x256.size inb_S1024x256_S1024x256_0_0).toLoadRect (harg8.unread x7)))
      (arg9.view.readAt (Elt Ideal) (Rect.unit (s := S512x256) ![r0, 0] S256x256.size i9).toLoadRect (harg9.unread x8)) (ix2 p q) = (blockRows x0 x1 x2 x3 x4 x5 x6 x7 x8 x9 x10 x11).c4 (r0 + p.val) q.val :=
  corrected_at (G := (blockRows x0 x1 x2 x3 x4 x5 x6 x7 x8 x9 x10 x11).dy (r0 + p.val)) (Y := (blockRows x0 x1 x2 x3 x4 x5 x6 x7 x8 x9 x10 x11).y (r0 + p.val)) (weigh_at (joined_at arg24 h4 p q) (lse_chunk harg10 x0 x1 x2 x3 x4 x5 x6 x7 x8 x9 x10 x11 r0 i10 p q) (joined_at arg24 h4 p q) (joined_at arg24 h16 p q)) (fun k => dy_chunk harg1 harg2 harg4 harg8 x0 x1 x2 x3 x4 x5 x6 x7 x8 x9 x10 x11 r0 i1 p k) fun k => rows_at harg9 x8 p k

theorem o16_chunk (p q : Fin 256) : mulf (weigh (joined arg24 L16) (k0_pay15 (F := Ideal) (arg10.view.readAt (Elt Ideal) (Rect.unit (s := S1x512x256) ![0, r0, 0] S1x256x256.size i10).toLoadRect (harg10.unread x9)))
        (joined arg24 L4) (joined arg24 L16))
      (k0_pay14 (F := Ideal) (k0_pay10 (F := Ideal) (arg1.view.readAt (Elt Ideal) (Rect.unit (s := S512x1024) ![r0, 0] S256x1024.size i1).toLoadRect (harg1.unread x0))
        (arg2.view.readAt (Elt Ideal) (Rect.unit (s := S1024x1024) ![0, 0] S1024x1024.size inb_S1024x1024_S1024x1024_0_0).toLoadRect (harg2.unread x1))
        (arg4.view.readAt (Elt Ideal) (Rect.unit (s := S512x1024) ![r0, 0] S256x1024.size i1).toLoadRect (harg4.unread x3)))
        (arg8.view.readAt (Elt Ideal) (Rect.unit (s := S1024x256) ![0, 0] S1024x256.size inb_S1024x256_S1024x256_0_0).toLoadRect (harg8.unread x7))) (ix2 p q) = (blockRows x0 x1 x2 x3 x4 x5 x6 x7 x8 x9 x10 x11).o16 (r0 + p.val) q.val := by
  pointwise
  exact congrArg₂ (· * ·) (weigh_at (joined_at arg24 h16 p q) (lse_chunk harg10 x0 x1 x2 x3 x4 x5 x6 x7 x8 x9 x10 x11 r0 i10 p q) (joined_at arg24 h4 p q) (joined_at arg24 h16 p q)) (dy_chunk harg1 harg2 harg4 harg8 x0 x1 x2 x3 x4 x5 x6 x7 x8 x9 x10 x11 r0 i1 p q)

theorem c16_chunk (p q : Fin 256) : corrected (weigh (joined arg24 L16) (k0_pay15 (F := Ideal) (arg10.view.readAt (Elt Ideal) (Rect.unit (s := S1x512x256) ![0, r0, 0] S1x256x256.size i10).toLoadRect (harg10.unread x9)))
        (joined arg24 L4) (joined arg24 L16))
      (k0_pay14 (F := Ideal) (k0_pay10 (F := Ideal) (arg1.view.readAt (Elt Ideal) (Rect.unit (s := S512x1024) ![r0, 0] S256x1024.size i1).toLoadRect (harg1.unread x0))
        (arg2.view.readAt (Elt Ideal) (Rect.unit (s := S1024x1024) ![0, 0] S1024x1024.size inb_S1024x1024_S1024x1024_0_0).toLoadRect (harg2.unread x1))
        (arg4.view.readAt (Elt Ideal) (Rect.unit (s := S512x1024) ![r0, 0] S256x1024.size i1).toLoadRect (harg4.unread x3)))
        (arg8.view.readAt (Elt Ideal) (Rect.unit (s := S1024x256) ![0, 0] S1024x256.size inb_S1024x256_S1024x256_0_0).toLoadRect (harg8.unread x7)))
      (arg9.view.readAt (Elt Ideal) (Rect.unit (s := S512x256) ![r0, 0] S256x256.size i9).toLoadRect (harg9.unread x8)) (ix2 p q) = (blockRows x0 x1 x2 x3 x4 x5 x6 x7 x8 x9 x10 x11).c16 (r0 + p.val) q.val :=
  corrected_at (G := (blockRows x0 x1 x2 x3 x4 x5 x6 x7 x8 x9 x10 x11).dy (r0 + p.val)) (Y := (blockRows x0 x1 x2 x3 x4 x5 x6 x7 x8 x9 x10 x11).y (r0 + p.val)) (weigh_at (joined_at arg24 h16 p q) (lse_chunk harg10 x0 x1 x2 x3 x4 x5 x6 x7 x8 x9 x10 x11 r0 i10 p q) (joined_at arg24 h4 p q) (joined_at arg24 h16 p q)) (fun k => dy_chunk harg1 harg2 harg4 harg8 x0 x1 x2 x3 x4 x5 x6 x7 x8 x9 x10 x11 r0 i1 p k) fun k => rows_at harg9 x8 p k

end

section
variable (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x512 .bf16) (harg7 : arg7.IsWhole) (arg8 : Memref sig .tc .vmem S1024x256 .bf16) (harg8 : arg8.IsWhole) (arg9 : Memref sig .tc .vmem S512x256 .f32) (harg9 : arg9.IsWhole) (arg10 : Memref sig .tc .vmem S1x512x256 .f32) (harg10 : arg10.IsWhole) (arg11 : Memref sig .tc .vmem S4x128x256 .f32) (harg11 : arg11.IsWhole) (arg12 : Memref sig .tc .vmem S16x32x256 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x512 .bf16) (harg17 : arg17.IsWhole) (arg18 : Memref sig .tc .vmem S1x512x256 .bf16) (harg18 : arg18.IsWhole) (arg19 : Memref sig .tc .vmem S4x128x256 .bf16) (harg19 : arg19.IsWhole) (arg20 : Memref sig .tc .vmem S16x32x256 .bf16) (harg20 : arg20.IsWhole) (arg21 : Memref sig .tc .vmem S1x512x256 .f32) (harg21 : arg21.IsWhole) (arg22 : Memref sig .tc .vmem S4x128x256 .f32) (harg22 : arg22.IsWhole) (arg23 : Memref sig .tc .vmem S16x32x256 .f32) (harg23 : arg23.IsWhole) (arg24 : Memref sig .tc .vmem S2x256x128 .f32) (harg24 : arg24.IsWhole)
  (x0 : Vec Ideal S512x1024 .bf16) (x1 : Vec Ideal S1024x1024 .bf16) (x2 : Vec Ideal S512x1024 .bf16) (x3 : Vec Ideal S512x1024 .bf16) (x4 : Vec Ideal S512x1024 .bf16) (x5 : Vec Ideal S512x1024 .bf16) (x6 : Vec Ideal S1024x512 .bf16) (x7 : Vec Ideal S1024x256 .bf16) (x8 : Vec Ideal S512x256 .f32) (x9 : Vec Ideal S1x512x256 .f32) (x10 : Vec Ideal S4x128x256 .f32) (x11 : Vec Ideal S16x32x256 .f32)

attribute [local irreducible] shapeCast truncf View.readCov

/-! What the scratch holds, in the order it is used: the log-sums of the second and of the third group, then each gradient before it is written by groups; for either chunk. -/

theorem stored_8 : Stored (kernelRun0_A.sl.HS0_8 c arg11 harg11 x10) (gathered 4 128 x10) 0 := by
  refine stored_of_filled (D := 4) (by decide) (show Filled 4 8 _ _ _ from ?_)
  iterate 8 refine gather4 harg11 x10 (by decide) (by decide) (by rfl) (by rfl) (by rfl) ?_
  exact filled_zero

theorem stored_40 : Stored (kernelRun0_A.sl.HS0_40 c arg11 harg11 arg12 harg12 x10 x11) (gathered 16 32 x11) 0 := by
  refine stored_of_filled (D := 16) (by decide) (show Filled 16 32 _ _ _ from ?_)
  iterate 32 refine gather16 harg12 x11 (by decide) (by decide) (by rfl) (by rfl) (by rfl) ?_
  exact filled_zero

theorem stored_42 (x2 x4 x5 : Vec Ideal S512x1024 .bf16) (x6 : Vec Ideal S1024x512 .bf16) (x8 : Vec Ideal S512x256 .f32) : Stored (kernelRun0_A.sl.HS0_42 c arg1 harg1 arg2 harg2 arg4 harg4 arg8 harg8 arg10 harg10 arg11 harg11 arg12 harg12 arg24 x0 x1 x3 x7 x9 x10 x11) (blockRows x0 x1 x2 x3 x4 x5 x6 x7 x8 x9 x10 x11).o4 0 :=
  stored (h0 := by decide) _ (o4_chunk harg1 harg2 harg4 harg8 harg10 x0 x1 x2 x3 x4 x5 x6 x7 x8 x9 x10 x11 0 inb_S512x1024_S256x1024_0_0 inb_S1x512x256_S1x256x256_0_0_0 arg24 (stored_8 c arg11 harg11 x10) (stored_40 c arg11 harg11 arg12 harg12 x10 x11))

theorem stored_44 (x2 x4 x5 : Vec Ideal S512x1024 .bf16) (x6 : Vec Ideal S1024x512 .bf16) : Stored (kernelRun0_A.sl.HS0_44 c arg1 harg1 arg2 harg2 arg4 harg4 arg8 harg8 arg9 harg9 arg10 harg10 arg11 harg11 arg12 harg12 arg24 x0 x1 x3 x7 x8 x9 x10 x11) (blockRows x0 x1 x2 x3 x4 x5 x6 x7 x8 x9 x10 x11).c4 0 :=
  stored (h0 := by decide) _ (c4_chunk harg1 harg2 harg4 harg8 harg9 harg10 x0 x1 x2 x3 x4 x5 x6 x7 x8 x9 x10 x11 0 inb_S512x1024_S256x1024_0_0 inb_S512x256_S256x256_0_0 inb_S1x512x256_S1x256x256_0_0_0 arg24 (stored_8 c arg11 harg11 x10) (stored_40 c arg11 harg11 arg12 harg12 x10 x11))

theorem stored_46 (x2 x4 x5 : Vec Ideal S512x1024 .bf16) (x6 : Vec Ideal S1024x512 .bf16) : Stored (kernelRun0_A.sl.HS0_46 c arg1 harg1 arg2 harg2 arg4 harg4 arg8 harg8 arg9 harg9 arg10 harg10 arg11 harg11 arg12 harg12 arg24 x0 x1 x3 x7 x8 x9 x10 x11) (blockRows x0 x1 x2 x3 x4 x5 x6 x7 x8 x9 x10 x11).o16 0 :=
  stored (h0 := by decide) _ (o16_chunk harg1 harg2 harg4 harg8 harg10 x0 x1 x2 x3 x4 x5 x6 x7 x8 x9 x10 x11 0 inb_S512x1024_S256x1024_0_0 inb_S1x512x256_S1x256x256_0_0_0 arg24 (stored_8 c arg11 harg11 x10) (stored_40 c arg11 harg11 arg12 harg12 x10 x11))

theorem stored_48 (x2 x4 x5 : Vec Ideal S512x1024 .bf16) (x6 : Vec Ideal S1024x512 .bf16) : Stored (kernelRun0_A.sl.HS0_48 c arg1 harg1 arg2 harg2 arg4 harg4 arg8 harg8 arg9 harg9 arg10 harg10 arg11 harg11 arg12 harg12 arg24 x0 x1 x3 x7 x8 x9 x10 x11) (blockRows x0 x1 x2 x3 x4 x5 x6 x7 x8 x9 x10 x11).c16 0 :=
  stored (h0 := by decide) _ (c16_chunk harg1 harg2 harg4 harg8 harg9 harg10 x0 x1 x2 x3 x4 x5 x6 x7 x8 x9 x10 x11 0 inb_S512x1024_S256x1024_0_0 inb_S512x256_S256x256_0_0 inb_S1x512x256_S1x256x256_0_0_0 arg24 (stored_8 c arg11 harg11 x10) (stored_40 c arg11 harg11 arg12 harg12 x10 x11))

theorem stored_56 : Stored (kernelRun0_A.sl.HS0_56 c arg1 harg1 arg2 harg2 arg4 harg4 arg8 harg8 arg9 harg9 arg10 harg10 arg11 harg11 arg12 harg12 arg24 x0 x1 x3 x7 x8 x9 x10 x11) (gathered 4 128 x10) 256 := by
  refine stored_of_filled (D := 4) (by decide) (show Filled 4 8 _ _ _ from ?_)
  iterate 8 refine gather4 harg11 x10 (by decide) (by decide) (by rfl) (by rfl) (by rfl) ?_
  exact filled_zero

theorem stored_88 : Stored (kernelRun0_A.sl.HS0_88 c arg1 harg1 arg2 harg2 arg4 harg4 arg8 harg8 arg9 harg9 arg10 harg10 arg11 harg11 arg12 harg12 arg24 x0 x1 x3 x7 x8 x9 x10 x11) (gathered 16 32 x11) 256 := by
  refine stored_of_filled (D := 16) (by decide) (show Filled 16 32 _ _ _ from ?_)
  iterate 32 refine gather16 harg12 x11 (by decide) (by decide) (by rfl) (by rfl) (by rfl) ?_
  exact filled_zero

theorem stored_90 (x2 x4 x5 : Vec Ideal S512x1024 .bf16) (x6 : Vec Ideal S1024x512 .bf16) : Stored (kernelRun0_A.sl.HS0_90 c arg1 harg1 arg2 harg2 arg4 harg4 arg8 harg8 arg9 harg9 arg10 harg10 arg11 harg11 arg12 harg12 arg24 x0 x1 x3 x7 x8 x9 x10 x11) (blockRows x0 x1 x2 x3 x4 x5 x6 x7 x8 x9 x10 x11).o4 256 :=
  stored (h0 := by decide) _ (o4_chunk harg1 harg2 harg4 harg8 harg10 x0 x1 x2 x3 x4 x5 x6 x7 x8 x9 x10 x11 256 inb_S512x1024_S256x1024_256_0 inb_S1x512x256_S1x256x256_0_256_0 arg24 (stored_56 c arg1 harg1 arg2 harg2 arg4 harg4 arg8 harg8 arg9 harg9 arg10 harg10 arg11 harg11 arg12 harg12 arg24 x0 x1 x3 x7 x8 x9 x10 x11) (stored_88 c arg1 harg1 arg2 harg2 arg4 harg4 arg8 harg8 arg9 harg9 arg10 harg10 arg11 harg11 arg12 harg12 arg24 x0 x1 x3 x7 x8 x9 x10 x11))

theorem stored_92 (x2 x4 x5 : Vec Ideal S512x1024 .bf16) (x6 : Vec Ideal S1024x512 .bf16) : Stored (kernelRun0_A.sl.HS0_92 c arg1 harg1 arg2 harg2 arg4 harg4 arg8 harg8 arg9 harg9 arg10 harg10 arg11 harg11 arg12 harg12 arg24 x0 x1 x3 x7 x8 x9 x10 x11) (blockRows x0 x1 x2 x3 x4 x5 x6 x7 x8 x9 x10 x11).c4 256 :=
  stored (h0 := by decide) _ (c4_chunk harg1 harg2 harg4 harg8 harg9 harg10 x0 x1 x2 x3 x4 x5 x6 x7 x8 x9 x10 x11 256 inb_S512x1024_S256x1024_256_0 inb_S512x256_S256x256_256_0 inb_S1x512x256_S1x256x256_0_256_0 arg24 (stored_56 c arg1 harg1 arg2 harg2 arg4 harg4 arg8 harg8 arg9 harg9 arg10 harg10 arg11 harg11 arg12 harg12 arg24 x0 x1 x3 x7 x8 x9 x10 x11) (stored_88 c arg1 harg1 arg2 harg2 arg4 harg4 arg8 harg8 arg9 harg9 arg10 harg10 arg11 harg11 arg12 harg12 arg24 x0 x1 x3 x7 x8 x9 x10 x11))

theorem stored_94 (x2 x4 x5 : Vec Ideal S512x1024 .bf16) (x6 : Vec Ideal S1024x512 .bf16) : Stored (kernelRun0_A.sl.HS0_94 c arg1 harg1 arg2 harg2 arg4 harg4 arg8 harg8 arg9 harg9 arg10 harg10 arg11 harg11 arg12 harg12 arg24 x0 x1 x3 x7 x8 x9 x10 x11) (blockRows x0 x1 x2 x3 x4 x5 x6 x7 x8 x9 x10 x11).o16 256 :=
  stored (h0 := by decide) _ (o16_chunk harg1 harg2 harg4 harg8 harg10 x0 x1 x2 x3 x4 x5 x6 x7 x8 x9 x10 x11 256 inb_S512x1024_S256x1024_256_0 inb_S1x512x256_S1x256x256_0_256_0 arg24 (stored_56 c arg1 harg1 arg2 harg2 arg4 harg4 arg8 harg8 arg9 harg9 arg10 harg10 arg11 harg11 arg12 harg12 arg24 x0 x1 x3 x7 x8 x9 x10 x11) (stored_88 c arg1 harg1 arg2 harg2 arg4 harg4 arg8 harg8 arg9 harg9 arg10 harg10 arg11 harg11 arg12 harg12 arg24 x0 x1 x3 x7 x8 x9 x10 x11))

theorem stored_96 (x2 x4 x5 : Vec Ideal S512x1024 .bf16) (x6 : Vec Ideal S1024x512 .bf16) : Stored (kernelRun0_A.sl.HS0_96 c arg1 harg1 arg2 harg2 arg4 harg4 arg8 harg8 arg9 harg9 arg10 harg10 arg11 harg11 arg12 harg12 arg24 x0 x1 x3 x7 x8 x9 x10 x11) (blockRows x0 x1 x2 x3 x4 x5 x6 x7 x8 x9 x10 x11).c16 256 :=
  stored (h0 := by decide) _ (c16_chunk harg1 harg2 harg4 harg8 harg9 harg10 x0 x1 x2 x3 x4 x5 x6 x7 x8 x9 x10 x11 256 inb_S512x1024_S256x1024_256_0 inb_S512x256_S256x256_256_0 inb_S1x512x256_S1x256x256_0_256_0 arg24 (stored_56 c arg1 harg1 arg2 harg2 arg4 harg4 arg8 harg8 arg9 harg9 arg10 harg10 arg11 harg11 arg12 harg12 arg24 x0 x1 x3 x7 x8 x9 x10 x11) (stored_88 c arg1 harg1 arg2 harg2 arg4 harg4 arg8 harg8 arg9 harg9 arg10 harg10 arg11 harg11 arg12 harg12 arg24 x0 x1 x3 x7 x8 x9 x10 x11))

/-! The eleven blocks a point leaves. -/

theorem out_dbn : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11
    = flat (blockRows x0 x1 x2 x3 x4 x5 x6 x7 x8 x9 x10 x11).dbn := by
  refine of_pieces _ _ _ _ (fun y => by apply cover0_A_12) ?_
  unfold kernelRun0_A
  dsimp only
  exact ⟨fun x => rows_of (inb := by decide) (dbn_chunk harg1 harg2 harg3 x0 x1 x2 x3 x4 x5 x6 x7 x8 x9 x10 x11 256 inb_S512x1024_S256x1024_256_0) x,
    fun x => rows_of (inb := by decide) (dbn_chunk harg1 harg2 harg3 x0 x1 x2 x3 x4 x5 x6 x7 x8 x9 x10 x11 0 inb_S512x1024_S256x1024_0_0) x, trivial⟩

theorem out_dbd : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11
    = flat (blockRows x0 x1 x2 x3 x4 x5 x6 x7 x8 x9 x10 x11).dbd := by
  refine of_pieces _ _ _ _ (fun y => by apply cover0_A_13) ?_
  unfold kernelRun0_A
  dsimp only
  exact ⟨fun x => rows_of (inb := by decide) (dbd_chunk harg1 harg2 harg4 x0 x1 x2 x3 x4 x5 x6 x7 x8 x9 x10 x11 256 inb_S512x1024_S256x1024_256_0) x,
    fun x => rows_of (inb := by decide) (dbd_chunk harg1 harg2 harg4 x0 x1 x2 x3 x4 x5 x6 x7 x8 x9 x10 x11 0 inb_S512x1024_S256x1024_0_0) x, trivial⟩

theorem out_dgn : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11
    = flat (blockRows x0 x1 x2 x3 x4 x5 x6 x7 x8 x9 x10 x11).dgn := by
  refine of_pieces _ _ _ _ (fun y => by apply cover0_A_14) ?_
  unfold kernelRun0_A
  dsimp only
  exact ⟨fun x => rows_of (inb := by decide) (dgn_chunk harg1 harg2 harg3 harg5 x0 x1 x2 x3 x4 x5 x6 x7 x8 x9 x10 x11 256 inb_S512x1024_S256x1024_256_0) x,
    fun x => rows_of (inb := by decide) (dgn_chunk harg1 harg2 harg3 harg5 x0 x1 x2 x3 x4 x5 x6 x7 x8 x9 x10 x11 0 inb_S512x1024_S256x1024_0_0) x, trivial⟩

theorem out_dgd : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11
    = flat (blockRows x0 x1 x2 x3 x4 x5 x6 x7 x8 x9 x10 x11).dgd := by
  refine of_pieces _ _ _ _ (fun y => by apply cover0_A_15) ?_
  unfold kernelRun0_A
  dsimp only
  exact ⟨fun x => rows_of (inb := by decide) (dgd_chunk harg1 harg2 harg4 harg6 x0 x1 x2 x3 x4 x5 x6 x7 x8 x9 x10 x11 256 inb_S512x1024_S256x1024_256_0) x,
    fun x => rows_of (inb := by decide) (dgd_chunk harg1 harg2 harg4 harg6 x0 x1 x2 x3 x4 x5 x6 x7 x8 x9 x10 x11 0 inb_S512x1024_S256x1024_0_0) x, trivial⟩

theorem out_dyna : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11
    = flat (blockRows x0 x1 x2 x3 x4 x5 x6 x7 x8 x9 x10 x11).dyna := by
  refine of_pieces _ _ _ _ (fun y => by apply cover0_A_16) ?_
  unfold kernelRun0_A
  dsimp only
  exact ⟨fun x => rows_of (inb := by decide) (dyna_chunk harg1 harg2 harg3 harg7 x0 x1 x2 x3 x4 x5 x6 x7 x8 x9 x10 x11 256 inb_S512x1024_S256x1024_256_0) x,
    fun x => rows_of (inb := by decide) (dyna_chunk harg1 harg2 harg3 harg7 x0 x1 x2 x3 x4 x5 x6 x7 x8 x9 x10 x11 0 inb_S512x1024_S256x1024_0_0) x, trivial⟩

theorem out_o1 : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11
    = spread 1 512 (blockRows x0 x1 x2 x3 x4 x5 x6 x7 x8 x9 x10 x11).o1 := by
  refine of_pieces _ _ _ _ (fun y => by apply cover0_A_17) ?_
  unfold kernelRun0_A
  dsimp only
  exact ⟨fun x => Cert.Rope.direct (inb := by decide) (o1_chunk harg1 harg2 harg4 harg8 harg10 x0 x1 x2 x3 x4 x5 x6 x7 x8 x9 x10 x11 256 inb_S512x1024_S256x1024_256_0 inb_S1x512x256_S1x256x256_0_256_0 arg24 (stored_56 c arg1 harg1 arg2 harg2 arg4 harg4 arg8 harg8 arg9 harg9 arg10 harg10 arg11 harg11 arg12 harg12 arg24 x0 x1 x3 x7 x8 x9 x10 x11)
      (stored_88 c arg1 harg1 arg2 harg2 arg4 harg4 arg8 harg8 arg9 harg9 arg10 harg10 arg11 harg11 arg12 harg12 arg24 x0 x1 x3 x7 x8 x9 x10 x11)) x,
    fun x => Cert.Rope.direct (inb := by decide) (o1_chunk harg1 harg2 harg4 harg8 harg10 x0 x1 x2 x3 x4 x5 x6 x7 x8 x9 x10 x11 0 inb_S512x1024_S256x1024_0_0 inb_S1x512x256_S1x256x256_0_0_0 arg24 (stored_8 c arg11 harg11 x10)
      (stored_40 c arg11 harg11 arg12 harg12 x10 x11)) x, trivial⟩

theorem out_c1 : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11
    = spread 1 512 (blockRows x0 x1 x2 x3 x4 x5 x6 x7 x8 x9 x10 x11).c1 := by
  refine of_pieces _ _ _ _ (fun y => by apply cover0_A_20) ?_
  unfold kernelRun0_A
  dsimp only
  exact ⟨fun x => direct (inb := by decide) (c1_chunk harg1 harg2 harg4 harg8 harg9 harg10 x0 x1 x2 x3 x4 x5 x6 x7 x8 x9 x10 x11 256 inb_S512x1024_S256x1024_256_0 inb_S512x256_S256x256_256_0 inb_S1x512x256_S1x256x256_0_256_0 arg24 (stored_56 c arg1 harg1 arg2 harg2 arg4 harg4 arg8 harg8 arg9 harg9 arg10 harg10 arg11 harg11 arg12 harg12 arg24 x0 x1 x3 x7 x8 x9 x10 x11)
      (stored_88 c arg1 harg1 arg2 harg2 arg4 harg4 arg8 harg8 arg9 harg9 arg10 harg10 arg11 harg11 arg12 harg12 arg24 x0 x1 x3 x7 x8 x9 x10 x11)) x,
    fun x => direct (inb := by decide) (c1_chunk harg1 harg2 harg4 harg8 harg9 harg10 x0 x1 x2 x3 x4 x5 x6 x7 x8 x9 x10 x11 0 inb_S512x1024_S256x1024_0_0 inb_S512x256_S256x256_0_0 inb_S1x512x256_S1x256x256_0_0_0 arg24 (stored_8 c arg11 harg11 x10)
      (stored_40 c arg11 harg11 arg12 harg12 x10 x11)) x, trivial⟩

theorem out_o4 : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11
    = spread 4 128 (blockRows x0 x1 x2 x3 x4 x5 x6 x7 x8 x9 x10 x11).o4 := by
  refine of_pieces _ _ _ _ (fun y => by apply cover0_A_18) ?_
  unfold kernelRun0_A
  dsimp only
  have h0 := stored_42 c arg1 harg1 arg2 harg2 arg4 harg4 arg8 harg8 arg10 harg10 arg11 harg11 arg12 harg12 arg24 x0 x1 x3 x7 x9 x10 x11 x2 x4 x5 x6 x8
  have h1 := stored_90 c arg1 harg1 arg2 harg2 arg4 harg4 arg8 harg8 arg9 harg9 arg10 harg10 arg11 harg11 arg12 harg12 arg24 x0 x1 x3 x7 x8 x9 x10 x11 x2 x4 x5 x6
  iterate 8 refine ⟨fun x => Cert.Rope.staged4 (inb' := by decide) h1 (by rfl) (by rfl) x, ?_⟩
  iterate 8 refine ⟨fun x => Cert.Rope.staged4 (inb' := by decide) h0 (by rfl) (by rfl) x, ?_⟩
  trivial

theorem out_o16 : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11
    = spread 16 32 (blockRows x0 x1 x2 x3 x4 x5 x6 x7 x8 x9 x10 x11).o16 := by
  refine of_pieces _ _ _ _ (fun y => by apply cover0_A_19) ?_
  unfold kernelRun0_A
  dsimp only
  have h0 := stored_46 c arg1 harg1 arg2 harg2 arg4 harg4 arg8 harg8 arg9 harg9 arg10 harg10 arg11 harg11 arg12 harg12 arg24 x0 x1 x3 x7 x8 x9 x10 x11 x2 x4 x5 x6
  have h1 := stored_94 c arg1 harg1 arg2 harg2 arg4 harg4 arg8 harg8 arg9 harg9 arg10 harg10 arg11 harg11 arg12 harg12 arg24 x0 x1 x3 x7 x8 x9 x10 x11 x2 x4 x5 x6
  iterate 32 refine ⟨fun x => Cert.Rope.staged16 (inb' := by decide) h1 (by rfl) (by rfl) x, ?_⟩
  iterate 32 refine ⟨fun x => Cert.Rope.staged16 (inb' := by decide) h0 (by rfl) (by rfl) x, ?_⟩
  trivial

theorem out_c4 : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11
    = spread 4 128 (blockRows x0 x1 x2 x3 x4 x5 x6 x7 x8 x9 x10 x11).c4 := by
  refine of_pieces _ _ _ _ (fun y => by apply cover0_A_21) ?_
  unfold kernelRun0_A
  dsimp only
  have h0 := stored_44 c arg1 harg1 arg2 harg2 arg4 harg4 arg8 harg8 arg9 harg9 arg10 harg10 arg11 harg11 arg12 harg12 arg24 x0 x1 x3 x7 x8 x9 x10 x11 x2 x4 x5 x6
  have h1 := stored_92 c arg1 harg1 arg2 harg2 arg4 harg4 arg8 harg8 arg9 harg9 arg10 harg10 arg11 harg11 arg12 harg12 arg24 x0 x1 x3 x7 x8 x9 x10 x11 x2 x4 x5 x6
  iterate 8 refine ⟨fun x => staged4 (inb' := by decide) h1 (by rfl) (by rfl) x, ?_⟩
  iterate 8 refine ⟨fun x => staged4 (inb' := by decide) h0 (by rfl) (by rfl) x, ?_⟩
  trivial

theorem out_c16 : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11
    = spread 16 32 (blockRows x0 x1 x2 x3 x4 x5 x6 x7 x8 x9 x10 x11).c16 := by
  refine of_pieces _ _ _ _ (fun y => by apply cover0_A_22) ?_
  unfold kernelRun0_A
  dsimp only
  have h0 := stored_48 c arg1 harg1 arg2 harg2 arg4 harg4 arg8 harg8 arg9 harg9 arg10 harg10 arg11 harg11 arg12 harg12 arg24 x0 x1 x3 x7 x8 x9 x10 x11 x2 x4 x5 x6
  have h1 := stored_96 c arg1 harg1 arg2 harg2 arg4 harg4 arg8 harg8 arg9 harg9 arg10 harg10 arg11 harg11 arg12 harg12 arg24 x0 x1 x3 x7 x8 x9 x10 x11 x2 x4 x5 x6
  iterate 32 refine ⟨fun x => staged16 (inb' := by decide) h1 (by rfl) (by rfl) x, ?_⟩
  iterate 32 refine ⟨fun x => staged16 (inb' := by decide) h0 (by rfl) (by rfl) x, ?_⟩
  trivial

end

end Cert.Mix

end
-- ==== Proof.Mix.Ref.lean ====
/- The reference's gradient through the mixing, read at an entry. -/
module

public import proofs.«01_k».proof.Proof.Gen.MixBwdRefIdeal.Read
public import proofs.«01_k».proof.Proof.Mix.Rows
public import Idealize.ShloMosaic.Lib.IdealHost

@[expose] public section

noncomputable section

namespace Cert.Mix

open Cert.MixBwdRefIdeal Cert.MixBwdRefIdeal.Gen Cert.MixBwdRefIdeal.Read Idealize.ShloMosaic
open Cert.Rope (spread flat Mat entry gate ofNat_eq)

variable (x0 : Mat 4096 1024) (x1 : Mat 1024 1024) (x2 : Mat 4096 2048) (x3 x4 : Mat 4096 1024) (x5 : Mat 1024 512) (x6 : Mat 1024 256) (x7 : Mat 4096 256)
  (x8 : FVec Ideal S1x4096x256 .f32) (x9 : FVec Ideal S4x1024x256 .f32) (x10 : FVec Ideal S16x256x256 .f32)

/-- What is read, by rows and columns, from the arguments: the two gates are the logistic function of the two halves of their arguments' columns. -/
def wholeRows : Rows where
  dh := entry x0
  wo := entry x1
  sn i n := gate (entry x2 i (n % 1024))
  sd i n := gate (entry x2 i (1024 + n % 1024))
  bn := entry x3
  bd := entry x4
  wn := entry x5
  wd := entry x6
  y := entry x7
  l1 := gathered 1 4096 x8
  l4 := gathered 4 1024 x9
  l16 := gathered 16 256 x10

/-- An element of a matrix is an entry of it. -/
theorem entry_eq {r s : ℕ} [NeZero r] [NeZero s] (x : Mat r s) (k : (⟨2, ![r, s]⟩ : Shape).Idx) : x k = entry x (k 0).val (k 1).val := by
  refine congrArg x (funext fun a => ?_)
  fin_cases a
  · exact Fin.ext (Nat.mod_eq_of_lt (k 0).isLt).symm
  · exact Fin.ext (Nat.mod_eq_of_lt (k 1).isLt).symm

theorem gate_n (i : S4096x1024.Idx) : val_main_v14 (F := Ideal) x2 i = gate (entry x2 (i 0).val ((i 1).val % 1024)) := by
  rw [val_main_v14_apply, val_main_v13_apply, val_main_v12_apply, val_main_v11_apply, val_main_v10_apply, val_main_v9_apply, val_main_v7_apply, val_main_v2_apply]
  show Ideal.div (Ideal.ofBits .f32 0x3F800000#32) (Ideal.ofBits .f32 0x3F800000#32 + Ideal.exp (-x2 (idx_main_v7 i))) = _
  rw [Ideal.ofBits_one_f32, entry_eq x2 (idx_main_v7 i), Nat.mod_eq_of_lt (show (i 1).val < 1024 from (i 1).isLt)]
  rfl

theorem gate_d (i : S4096x1024.Idx) : val_main_v24 (F := Ideal) x2 i = gate (entry x2 (i 0).val (1024 + (i 1).val % 1024)) := by
  rw [val_main_v24_apply, val_main_v23_apply, val_main_v22_apply, val_main_v21_apply, val_main_v20_apply, val_main_v19_apply, val_main_v8_apply, val_main_v2_apply]
  show Ideal.div (Ideal.ofBits .f32 0x3F800000#32) (Ideal.ofBits .f32 0x3F800000#32 + Ideal.exp (-x2 (idx_main_v8 i))) = _
  rw [Ideal.ofBits_one_f32, entry_eq x2 (idx_main_v8 i), Nat.mod_eq_of_lt (show (i 1).val < 1024 from (i 1).isLt)]
  rfl

theorem dm_ref (i : S4096x1024.Idx) : val_main_v31 (F := Ideal) x0 x1 i = (wholeRows x0 x1 x2 x3 x4 x5 x6 x7 x8 x9 x10).dm (i 0).val (i 1).val := by
  rw [val_main_v31_apply]
  exact Finset.sum_congr rfl fun k _ => congrArg₂ (· * ·) (entry_eq x0 _) (entry_eq x1 _)

theorem dbn_ref (i : S4096x1024.Idx) : val_main_v35 (F := Ideal) x0 x1 x2 i = (wholeRows x0 x1 x2 x3 x4 x5 x6 x7 x8 x9 x10).dbn (i 0).val (i 1).val := by
  rw [val_main_v35_apply, gate_n, dm_ref x0 x1 x2 x3 x4 x5 x6 x7 x8 x9 x10]
  exact mul_comm _ _

theorem dbd_ref (i : S4096x1024.Idx) : val_main_v32 (F := Ideal) x0 x1 x2 i = (wholeRows x0 x1 x2 x3 x4 x5 x6 x7 x8 x9 x10).dbd (i 0).val (i 1).val := by
  rw [val_main_v32_apply, gate_d, dm_ref x0 x1 x2 x3 x4 x5 x6 x7 x8 x9 x10]
  exact mul_comm _ _

theorem dgn_ref (i : S4096x1024.Idx) : val_main_v37 (F := Ideal) x0 x1 x2 x3 i = (wholeRows x0 x1 x2 x3 x4 x5 x6 x7 x8 x9 x10).dgn (i 0).val (i 1).val := by
  rw [val_main_v37_apply, val_main_v36_apply, val_main_v17_apply, val_main_v16_apply, val_main_v15_apply, val_main_v3_apply, gate_n,
    dm_ref x0 x1 x2 x3 x4 x5 x6 x7 x8 x9 x10]
  show _ * x3 i * (_ * (Ideal.ofBits .f32 0x3F800000#32 - _)) = _
  rw [Ideal.ofBits_one_f32, entry_eq x3 i]
  exact (mul_assoc _ _ _).symm

theorem dgd_ref (i : S4096x1024.Idx) : val_main_v34 (F := Ideal) x0 x1 x2 x4 i = (wholeRows x0 x1 x2 x3 x4 x5 x6 x7 x8 x9 x10).dgd (i 0).val (i 1).val := by
  rw [val_main_v34_apply, val_main_v33_apply, val_main_v27_apply, val_main_v26_apply, val_main_v25_apply, val_main_v4_apply, gate_d,
    dm_ref x0 x1 x2 x3 x4 x5 x6 x7 x8 x9 x10]
  show _ * x4 i * (_ * (Ideal.ofBits .f32 0x3F800000#32 - _)) = _
  rw [Ideal.ofBits_one_f32, entry_eq x4 i]
  exact (mul_assoc _ _ _).symm

theorem dyna_ref (i : S4096x512.Idx) : val_main_v41 (F := Ideal) x0 x1 x2 x5 i = (wholeRows x0 x1 x2 x3 x4 x5 x6 x7 x8 x9 x10).dyna (i 0).val (i 1).val := by
  rw [val_main_v41_apply]
  refine Finset.sum_congr rfl fun k _ => congrArg₂ (· * ·) (dbn_ref x0 x1 x2 x3 x4 x5 x6 x7 x8 x9 x10 _) ?_
  rw [val_main_v39_apply, val_main_v5_apply]
  exact entry_eq x5 _

theorem dy_ref (i : S4096x256.Idx) : val_main_v44 (F := Ideal) x0 x1 x2 x6 i = (wholeRows x0 x1 x2 x3 x4 x5 x6 x7 x8 x9 x10).dy (i 0).val (i 1).val := by
  rw [val_main_v44_apply]
  refine Finset.sum_congr rfl fun k _ => congrArg₂ (· * ·) (dbd_ref x0 x1 x2 x3 x4 x5 x6 x7 x8 x9 x10 _) ?_
  rw [val_main_v42_apply, val_main_v6_apply]
  exact entry_eq x6 _

/-- Of the 256 products only those of the column's own head are kept: a sum over the head's 64 places. -/
theorem head_sum (f : ℕ → EReal) {c : ℕ} (hc : c < 256) :
    ∑ k : Fin 256, f k.val * (if k.val / 64 = c / 64 then 1 else 0) = ∑ e : Fin 64, f (64 * (c / 64) + e.val) := by
  rw [← Fintype.sum_equiv (finProdFinEquiv (m := 4) (n := 64)) (fun p => f (p.2.val + 64 * p.1.val) * (if (p.2.val + 64 * p.1.val) / 64 = c / 64 then 1 else 0))
    (fun k => f k.val * (if k.val / 64 = c / 64 then 1 else 0)) (fun _ => rfl), Fintype.sum_prod_type]
  rw [Finset.sum_eq_single (⟨c / 64, by omega⟩ : Fin 4)]
  · refine Finset.sum_congr rfl fun e _ => ?_
    have he : e.val < 64 := e.isLt
    rw [if_pos (by show (e.val + 64 * (c / 64)) / 64 = c / 64; omega), mul_one, Nat.add_comm]
  · intro b _ hb
    refine Finset.sum_eq_zero fun e _ => ?_
    have he : e.val < 64 := e.isLt
    rw [if_neg (fun h => hb (Fin.ext (by show b.val = c / 64; change (e.val + 64 * b.val) / 64 = c / 64 at h; omega))), mul_zero]
  · intro h
    exact absurd (Finset.mem_univ _) h

theorem sums_ref (i : S4096x256.Idx) : val_main_v70 (F := Ideal) x0 x1 x2 x6 x7 i = (wholeRows x0 x1 x2 x3 x4 x5 x6 x7 x8 x9 x10).sums (i 0).val (i 1).val := by
  have l1 : (i 1).val < 256 := (i 1).isLt
  rw [val_main_v70_apply, val_main_v69_apply, val_main_v68_apply]
  unfold Rows.sums
  rw [head_sum (fun k => (wholeRows x0 x1 x2 x3 x4 x5 x6 x7 x8 x9 x10).dy (i 0).val k * (wholeRows x0 x1 x2 x3 x4 x5 x6 x7 x8 x9 x10).y (i 0).val k) l1]
  show Ideal.ofBits .f32 0x00000000#32 + _ = _
  rw [Ideal.ofBits_zero_f32, zero_add]
  refine Finset.sum_congr rfl fun e _ => ?_
  rw [val_main_v67_apply, val_main_v66_apply, dy_ref x0 x1 x2 x3 x4 x5 x6 x7 x8 x9 x10, entry_eq x7]
  have he : e.val < 64 := e.isLt
  refine congrArg₂ (fun a b => (wholeRows x0 x1 x2 x3 x4 x5 x6 x7 x8 x9 x10).dy a b * (wholeRows x0 x1 x2 x3 x4 x5 x6 x7 x8 x9 x10).y a b) ?_ ?_
  · simp only [idx_main_v67, idx_main_v68, idx_main_v69, idx_main_v70]
    omega
  · simp only [idx_main_v67, idx_main_v68, idx_main_v69, idx_main_v70]
    omega

theorem lse_1 (i : Fin 4096) (c : Fin 256) : val_main_v54 (F := Ideal) x8 x9 x10 (ix3 0 i c) = gathered 1 4096 x8 i.val c.val := by
  unfold val_main_v54 val_main_v51 val_main_v46 val_main_v45 gathered
  pointwise
  rw [ofNat_eq i.isLt, ofNat_eq c.isLt]
  rfl

theorem lse_4 (i : Fin 4096) (c : Fin 256) : val_main_v54 (F := Ideal) x8 x9 x10 (ix3 1 i c) = gathered 4 1024 x9 i.val c.val := by
  unfold val_main_v54 val_main_v52 val_main_v48 val_main_v47 gathered
  pointwise
  rw [ofNat_eq (show i.val % 4 < 4 by omega), ofNat_eq (show i.val / 4 < 1024 by omega), ofNat_eq c.isLt]

theorem lse_16 (i : Fin 4096) (c : Fin 256) : val_main_v54 (F := Ideal) x8 x9 x10 (ix3 2 i c) = gathered 16 256 x10 i.val c.val := by
  unfold val_main_v54 val_main_v53 val_main_v50 val_main_v49 gathered
  pointwise
  rw [ofNat_eq (show i.val % 16 < 16 by omega), ofNat_eq (show i.val / 16 < 256 by omega), ofNat_eq c.isLt]

theorem fold_three (f : Fin 3 → EReal) : Finset.univ.fold max ⊥ f = max (max (f 0) (f 1)) (f 2) := by
  rw [show (Finset.univ : Finset (Fin 3)) = {0, 1, 2} from rfl, Finset.fold_insert (by decide), Finset.fold_insert (by decide), Finset.fold_singleton, max_bot_right, max_assoc]

theorem max_three (y : FVec Ideal S3x4096x256 .f32) (i : Fin 4096) (c : Fin 256) :
    Host.reduce FloatOps.maximumf y (constant (F := Ideal) S_ .f32 0xFF800000#32) reducesTo_S3x4096x256_S4096x256_d0 h_S_ (ix2 i c)
      = max (max (y (ix3 0 i c)) (y (ix3 1 i c))) (y (ix3 2 i c)) := by
  have e1 : Ideal.ofBits .f32 0xFF800000#32 = ⊥ := by simp [Ideal.ofBits, Ideal.ieee]
  refine (Host.reduce_eq_fold_single (max : EReal → EReal → EReal) y _ _ (by decide) _ _).trans ?_
  rw [show constant (F := Ideal) S_ .f32 0xFF800000#32 (Shape.Idx.first h_S_) = (⊥ : EReal) from e1]
  refine (fold_three _).trans ?_
  refine congrArg₂ max (congrArg₂ max (congrArg y ?_) (congrArg y ?_)) (congrArg y ?_) <;>
    exact funext fun a => Fin.ext (by match a with | ⟨0, _⟩ => rfl | ⟨1, _⟩ => rfl | ⟨2, _⟩ => rfl)

/-- The largest of a place's three log-sums, -/
def top (i : Fin 4096) (c : Fin 256) : EReal := max (max (gathered 1 4096 x8 i.val c.val) (gathered 4 1024 x9 i.val c.val)) (gathered 16 256 x10 i.val c.val)

theorem top_ref (i : Fin 4096) (c : Fin 256) : val_main_v57 (F := Ideal) x8 x9 x10 (ix2 i c) = top x8 x9 x10 i c := by
  have e1 : Ideal.ofBits .f32 0xFF800000#32 = ⊥ := by simp [Ideal.ofBits, Ideal.ieee]
  rw [val_main_v57_apply, val_main_v56_apply, val_main_cst_7_apply]
  show max (Ideal.ofBits .f32 0xFF800000#32) _ = _
  rw [e1, max_bot_left]
  refine (max_three _ i c).trans ?_
  rw [lse_1, lse_4, lse_16]
  rfl

/-- an exponential, shifted by it, -/
theorem expo_ref (g : Fin 3) (i : Fin 4096) (c : Fin 256) : val_main_v61 (F := Ideal) x8 x9 x10 (ix3 g i c)
    = Ideal.exp (val_main_v54 (F := Ideal) x8 x9 x10 (ix3 g i c) - top x8 x9 x10 i c) := by
  rw [← top_ref]
  exact congrArg (fun j => Ideal.exp (val_main_v54 (F := Ideal) x8 x9 x10 (ix3 g i c) - val_main_v57 (F := Ideal) x8 x9 x10 j))
    (funext fun a => by match a with | ⟨0, _⟩ => rfl | ⟨1, _⟩ => rfl)

/-- and the three exponentials' sum. -/
def mass (i : Fin 4096) (c : Fin 256) : EReal := Ideal.exp (gathered 1 4096 x8 i.val c.val - top x8 x9 x10 i c)
  + Ideal.exp (gathered 4 1024 x9 i.val c.val - top x8 x9 x10 i c) + Ideal.exp (gathered 16 256 x10 i.val c.val - top x8 x9 x10 i c)

theorem mass_ref (i : Fin 4096) (c : Fin 256) : val_main_v62 (F := Ideal) x8 x9 x10 (ix2 i c) = mass x8 x9 x10 i c := by
  rw [val_main_v62_apply]
  show Ideal.ofBits .f32 0x00000000#32 + _ = _
  rw [Ideal.ofBits_zero_f32, zero_add, Fin.sum_univ_three]
  unfold mass
  rw [← lse_1 x8 x9 x10, ← lse_4 x8 x9 x10, ← lse_16 x8 x9 x10, ← expo_ref, ← expo_ref, ← expo_ref]
  refine congrArg₂ (· + ·) (congrArg₂ (· + ·) (congrArg _ ?_) (congrArg _ ?_)) (congrArg _ ?_) <;>
    exact funext fun a => by match a with | ⟨0, _⟩ => rfl | ⟨1, _⟩ => rfl | ⟨2, _⟩ => rfl

theorem quotient_ref (g : Fin 3) (i : Fin 4096) (c : Fin 256) : val_main_v65 (F := Ideal) x8 x9 x10 (ix3 g i c)
    = Ideal.div (Ideal.exp (val_main_v54 (F := Ideal) x8 x9 x10 (ix3 g i c) - top x8 x9 x10 i c)) (mass x8 x9 x10 i c) := by
  rw [← expo_ref, ← mass_ref]
  exact congrArg (fun j => Ideal.div (val_main_v61 (F := Ideal) x8 x9 x10 (ix3 g i c)) (val_main_v62 (F := Ideal) x8 x9 x10 j))
    (funext fun a => by match a with | ⟨0, _⟩ => rfl | ⟨1, _⟩ => rfl)

/-- Real log-sums. -/
def Real₃ : Prop := (∀ j, ∃ r : ℝ, x8 j = (r : EReal)) ∧ (∀ j, ∃ r : ℝ, x9 j = (r : EReal)) ∧ ∀ j, ∃ r : ℝ, x10 j = (r : EReal)

variable {x8 x9 x10} in
/-- Of real log-sums the exponentials' sum is positive, -/
theorem mass_ne (h : Real₃ x8 x9 x10) (i : Fin 4096) (c : Fin 256) : mass x8 x9 x10 i c ≠ 0 := by
  unfold mass top gathered
  obtain ⟨a, ha⟩ := h.1 (ix3 (Fin.ofNat 1 (i.val % 1)) (Fin.ofNat 4096 (i.val / 1)) (Fin.ofNat 256 c.val))
  obtain ⟨b, hb⟩ := h.2.1 (ix3 (Fin.ofNat 4 (i.val % 4)) (Fin.ofNat 1024 (i.val / 4)) (Fin.ofNat 256 c.val))
  obtain ⟨d, hd⟩ := h.2.2 (ix3 (Fin.ofNat 16 (i.val % 16)) (Fin.ofNat 256 (i.val / 16)) (Fin.ofNat 256 c.val))
  rw [ha, hb, hd, ← EReal.coe_strictMono.monotone.map_max, ← EReal.coe_strictMono.monotone.map_max, ← EReal.coe_sub, ← EReal.coe_sub, ← EReal.coe_sub]
  generalize max (max a b) d = t
  show ((Real.exp (a - t) : ℝ) : EReal) + ((Real.exp (b - t) : ℝ) : EReal) + ((Real.exp (d - t) : ℝ) : EReal) ≠ 0
  rw [← EReal.coe_add, ← EReal.coe_add]
  exact EReal.coe_ne_zero.mpr (by positivity)

/-- so to divide by it is to multiply by its inverse. -/
theorem quotient_eq {e s : EReal} (h : s ≠ 0) : Ideal.div e s = e * Ideal.div 1 s := by
  unfold Ideal.div
  rw [if_neg h, if_neg h, one_mul]

section
variable {x8 x9 x10} (hr : Real₃ x8 x9 x10)
include hr

theorem w1_ref (i : Fin 4096) (c : Fin 256) : val_main_v65 (F := Ideal) x8 x9 x10 (ix3 0 i c) = (wholeRows x0 x1 x2 x3 x4 x5 x6 x7 x8 x9 x10).w1 i.val c.val := by
  rw [quotient_ref, lse_1, quotient_eq (mass_ne hr i c)]
  rfl

theorem w4_ref (i : Fin 4096) (c : Fin 256) : val_main_v65 (F := Ideal) x8 x9 x10 (ix3 1 i c) = (wholeRows x0 x1 x2 x3 x4 x5 x6 x7 x8 x9 x10).w4 i.val c.val := by
  rw [quotient_ref, lse_4, quotient_eq (mass_ne hr i c)]
  rfl

theorem w16_ref (i : Fin 4096) (c : Fin 256) : val_main_v65 (F := Ideal) x8 x9 x10 (ix3 2 i c) = (wholeRows x0 x1 x2 x3 x4 x5 x6 x7 x8 x9 x10).w16 i.val c.val := by
  rw [quotient_ref, lse_16, quotient_eq (mass_ne hr i c)]
  rfl

theorem o1_ref (i : Fin 4096) (c : Fin 256) : val_main_v78 (F := Ideal) x0 x1 x2 x6 x8 x9 x10 (ix2 i c) = (wholeRows x0 x1 x2 x3 x4 x5 x6 x7 x8 x9 x10).o1 i.val c.val := by
  rw [val_main_v78_apply, dy_ref x0 x1 x2 x3 x4 x5 x6 x7 x8 x9 x10]
  unfold val_main_v77 val_main_v76
  pointwise
  rw [w1_ref x0 x1 x2 x3 x4 x5 x6 x7 hr]
  rfl

theorem o4_ref (i : Fin 4096) (c : Fin 256) : val_main_v84 (F := Ideal) x0 x1 x2 x6 x8 x9 x10 (ix2 i c) = (wholeRows x0 x1 x2 x3 x4 x5 x6 x7 x8 x9 x10).o4 i.val c.val := by
  rw [val_main_v84_apply, dy_ref x0 x1 x2 x3 x4 x5 x6 x7 x8 x9 x10]
  unfold val_main_v83 val_main_v82
  pointwise
  rw [w4_ref x0 x1 x2 x3 x4 x5 x6 x7 hr]
  rfl

theorem o16_ref (i : Fin 4096) (c : Fin 256) : val_main_v90 (F := Ideal) x0 x1 x2 x6 x8 x9 x10 (ix2 i c) = (wholeRows x0 x1 x2 x3 x4 x5 x6 x7 x8 x9 x10).o16 i.val c.val := by
  rw [val_main_v90_apply, dy_ref x0 x1 x2 x3 x4 x5 x6 x7 x8 x9 x10]
  unfold val_main_v89 val_main_v88
  pointwise
  rw [w16_ref x0 x1 x2 x3 x4 x5 x6 x7 hr]
  rfl

theorem c1_ref (i : Fin 4096) (c : Fin 256) : val_main_v97 (F := Ideal) x0 x1 x2 x6 x7 x8 x9 x10 (ix2 i c) = (wholeRows x0 x1 x2 x3 x4 x5 x6 x7 x8 x9 x10).c1 i.val c.val := by
  rw [val_main_v97_apply, sums_ref x0 x1 x2 x3 x4 x5 x6 x7 x8 x9 x10, val_main_v96_apply]
  unfold val_main_v95 val_main_v94
  pointwise
  rw [w1_ref x0 x1 x2 x3 x4 x5 x6 x7 hr]
  exact congrArg (· * _) (zero_sub _).symm

theorem c4_ref (i : Fin 4096) (c : Fin 256) : val_main_v103 (F := Ideal) x0 x1 x2 x6 x7 x8 x9 x10 (ix2 i c) = (wholeRows x0 x1 x2 x3 x4 x5 x6 x7 x8 x9 x10).c4 i.val c.val := by
  rw [val_main_v103_apply, sums_ref x0 x1 x2 x3 x4 x5 x6 x7 x8 x9 x10, val_main_v102_apply]
  unfold val_main_v101 val_main_v100
  pointwise
  rw [w4_ref x0 x1 x2 x3 x4 x5 x6 x7 hr]
  exact congrArg (· * _) (zero_sub _).symm

theorem c16_ref (i : Fin 4096) (c : Fin 256) : val_main_v109 (F := Ideal) x0 x1 x2 x6 x7 x8 x9 x10 (ix2 i c) = (wholeRows x0 x1 x2 x3 x4 x5 x6 x7 x8 x9 x10).c16 i.val c.val := by
  rw [val_main_v109_apply, sums_ref x0 x1 x2 x3 x4 x5 x6 x7 x8 x9 x10, val_main_v108_apply]
  unfold val_main_v107 val_main_v106
  pointwise
  rw [w16_ref x0 x1 x2 x3 x4 x5 x6 x7 hr]
  exact congrArg (· * _) (zero_sub _).symm

end

/-! Rows of 256 columns dealt out in turn to 1, 4 or 16 groups. -/

theorem dealt1 {u : FVec Ideal S4096x256 .f32} {W : ℕ → ℕ → EReal} (hW : ∀ (i : Fin 4096) (c : Fin 256), u (ix2 i c) = W i.val c.val) :
    spread 1 4096 W = transpose S1x4096x256 [1, 0, 2] (shapeCast S4096x1x256 u shapeCasts_S4096x256_S4096x1x256) transposes_S4096x1x256_S1x4096x256_1_0_2 := by
  funext y
  rw [eq_ix3 y]
  generalize (y 0 : Fin 1) = i
  generalize (y 1 : Fin 4096) = j
  generalize (y 2 : Fin 256) = k
  pointwise
  refine ((hW _ k).trans (congrArg (W · k.val) ?_)).symm
  have hi : i.val < 1 := i.isLt
  show _ = 1 * j.val + i.val
  omega

theorem dealt4 {u : FVec Ideal S4096x256 .f32} {W : ℕ → ℕ → EReal} (hW : ∀ (i : Fin 4096) (c : Fin 256), u (ix2 i c) = W i.val c.val) :
    spread 4 1024 W = transpose S4x1024x256 [1, 0, 2] (shapeCast S1024x4x256 u shapeCasts_S4096x256_S1024x4x256) transposes_S1024x4x256_S4x1024x256_1_0_2 := by
  funext y
  rw [eq_ix3 y]
  generalize (y 0 : Fin 4) = i
  generalize (y 1 : Fin 1024) = j
  generalize (y 2 : Fin 256) = k
  pointwise
  refine ((hW _ k).trans (congrArg (W · k.val) ?_)).symm
  show j.val * 4 + i.val = 4 * j.val + i.val
  omega

theorem dealt16 {u : FVec Ideal S4096x256 .f32} {W : ℕ → ℕ → EReal} (hW : ∀ (i : Fin 4096) (c : Fin 256), u (ix2 i c) = W i.val c.val) :
    spread 16 256 W = transpose S16x256x256 [1, 0, 2] (shapeCast S256x16x256 u shapeCasts_S4096x256_S256x16x256) transposes_S256x16x256_S16x256x256_1_0_2 := by
  funext y
  rw [eq_ix3 y]
  generalize (y 0 : Fin 16) = i
  generalize (y 1 : Fin 256) = j
  generalize (y 2 : Fin 256) = k
  pointwise
  refine ((hW _ k).trans (congrArg (W · k.val) ?_)).symm
  show j.val * 16 + i.val = 16 * j.val + i.val
  omega

/-! The results. -/

theorem reference_dbn : (flat (wholeRows x0 x1 x2 x3 x4 x5 x6 x7 x8 x9 x10).dbn : Mat 4096 1024) = val_main_v71 (F := Ideal) x0 x1 x2 :=
  funext fun y => (dbn_ref x0 x1 x2 x3 x4 x5 x6 x7 x8 x9 x10 y).symm

theorem reference_dbd : (flat (wholeRows x0 x1 x2 x3 x4 x5 x6 x7 x8 x9 x10).dbd : Mat 4096 1024) = val_main_v72 (F := Ideal) x0 x1 x2 :=
  funext fun y => (dbd_ref x0 x1 x2 x3 x4 x5 x6 x7 x8 x9 x10 y).symm

theorem reference_dgn : (flat (wholeRows x0 x1 x2 x3 x4 x5 x6 x7 x8 x9 x10).dgn : Mat 4096 1024) = val_main_v73 (F := Ideal) x0 x1 x2 x3 :=
  funext fun y => (dgn_ref x0 x1 x2 x3 x4 x5 x6 x7 x8 x9 x10 y).symm

theorem reference_dgd : (flat (wholeRows x0 x1 x2 x3 x4 x5 x6 x7 x8 x9 x10).dgd : Mat 4096 1024) = val_main_v74 (F := Ideal) x0 x1 x2 x4 :=
  funext fun y => (dgd_ref x0 x1 x2 x3 x4 x5 x6 x7 x8 x9 x10 y).symm

theorem reference_dyna : (flat (wholeRows x0 x1 x2 x3 x4 x5 x6 x7 x8 x9 x10).dyna : Mat 4096 512) = val_main_v75 (F := Ideal) x0 x1 x2 x5 :=
  funext fun y => (dyna_ref x0 x1 x2 x3 x4 x5 x6 x7 x8 x9 x10 y).symm

section
variable {x8 x9 x10} (hr : Real₃ x8 x9 x10)
include hr

theorem reference_o1 : spread 1 4096 (wholeRows x0 x1 x2 x3 x4 x5 x6 x7 x8 x9 x10).o1 = val_main_v81 (F := Ideal) x0 x1 x2 x6 x8 x9 x10 := by
  show _ = val_main_v80 (F := Ideal) x0 x1 x2 x6 x8 x9 x10
  unfold val_main_v80 val_main_v79
  exact dealt1 (o1_ref x0 x1 x2 x3 x4 x5 x6 x7 hr)

theorem reference_o4 : spread 4 1024 (wholeRows x0 x1 x2 x3 x4 x5 x6 x7 x8 x9 x10).o4 = val_main_v87 (F := Ideal) x0 x1 x2 x6 x8 x9 x10 := by
  show _ = val_main_v86 (F := Ideal) x0 x1 x2 x6 x8 x9 x10
  unfold val_main_v86 val_main_v85
  exact dealt4 (o4_ref x0 x1 x2 x3 x4 x5 x6 x7 hr)

theorem reference_o16 : spread 16 256 (wholeRows x0 x1 x2 x3 x4 x5 x6 x7 x8 x9 x10).o16 = val_main_v93 (F := Ideal) x0 x1 x2 x6 x8 x9 x10 := by
  show _ = val_main_v92 (F := Ideal) x0 x1 x2 x6 x8 x9 x10
  unfold val_main_v92 val_main_v91
  exact dealt16 (o16_ref x0 x1 x2 x3 x4 x5 x6 x7 hr)

theorem reference_c1 : spread 1 4096 (wholeRows x0 x1 x2 x3 x4 x5 x6 x7 x8 x9 x10).c1 = val_main_v99 (F := Ideal) x0 x1 x2 x6 x7 x8 x9 x10 := by
  unfold val_main_v99 val_main_v98
  exact dealt1 (c1_ref x0 x1 x2 x3 x4 x5 x6 x7 hr)

theorem reference_c4 : spread 4 1024 (wholeRows x0 x1 x2 x3 x4 x5 x6 x7 x8 x9 x10).c4 = val_main_v105 (F := Ideal) x0 x1 x2 x6 x7 x8 x9 x10 := by
  unfold val_main_v105 val_main_v104
  exact dealt4 (c4_ref x0 x1 x2 x3 x4 x5 x6 x7 hr)

theorem reference_c16 : spread 16 256 (wholeRows x0 x1 x2 x3 x4 x5 x6 x7 x8 x9 x10).c16 = val_main_v111 (F := Ideal) x0 x1 x2 x6 x7 x8 x9 x10 := by
  unfold val_main_v111 val_main_v110
  exact dealt16 (c16_ref x0 x1 x2 x3 x4 x5 x6 x7 hr)

end

end Cert.Mix

end
-- ==== Proof.Mix.Kernel.lean ====
/- The gradients through the mixing as whole arrays: each block written holds the block's rows of one function of the arguments. -/
module

public import proofs.«01_k».proof.Proof.Mix.Block
public import proofs.«01_k».proof.Proof.Mix.Ref
public import proofs.«01_k».proof.Proof.Rope.Kernel

@[expose] public section

set_option maxHeartbeats 4000000

noncomputable section

namespace Cert.Mix

open Cert.MixBwdIdeal Cert.MixBwdIdeal.Gen Idealize.ShloMosaic Idealize.ShloMosaic.TcCoe Idealize.SL.Sem Idealize.ShloMosaic.StableHlo
open Cert.Rope (spread flat Mat entry gate ofNat_eq spread_block flat_block)

/-- The gates, which the host computes before the call. -/
theorem host_gates (V0 : Valuation τ sig (Elt Ideal)) :
    after hostOps0 V0 (no_index (Proc.devRef .tc main_v7))
      = truncf .bf16 (Host.divf (broadcastInDim S4096x2048 ![] bcast_S_S4096x2048 (constant (F := Ideal) S_ .f32 0x3F800000#32))
        (addf (broadcastInDim S4096x2048 ![] bcast_S_S4096x2048 (constant (F := Ideal) S_ .f32 0x3F800000#32))
          (Host.exp (Host.negf (extf .f32 (V0 (Proc.devRef .tc main_arg2)) bitsLt_bf16_f32))))) bitsLt_bf16_f32 := by
  simp only [hostOps0]
  after_results_simp

variable (m : (l : Loc nD τ sig) → Buf (Elt Ideal) l) (c : Dev nD)

abbrev in0 : Mat 4096 1024 := m ((c.tc : Thread nD τ).loc main_arg0)
abbrev in1 : Mat 1024 1024 := m ((c.tc : Thread nD τ).loc main_arg1)
abbrev in2 : Mat 4096 2048 := m ((c.tc : Thread nD τ).loc main_arg2)
abbrev in3 : Mat 4096 1024 := m ((c.tc : Thread nD τ).loc main_arg3)
abbrev in4 : Mat 4096 1024 := m ((c.tc : Thread nD τ).loc main_arg4)
abbrev in5 : Mat 1024 512 := m ((c.tc : Thread nD τ).loc main_arg5)
abbrev in6 : Mat 1024 256 := m ((c.tc : Thread nD τ).loc main_arg6)
abbrev in7 : Mat 4096 256 := m ((c.tc : Thread nD τ).loc main_arg7)
abbrev in8 : FVec Ideal S1x4096x256 .f32 := m ((c.tc : Thread nD τ).loc main_arg8)
abbrev in9 : FVec Ideal S4x1024x256 .f32 := m ((c.tc : Thread nD τ).loc main_arg9)
abbrev in10 : FVec Ideal S16x256x256 .f32 := m ((c.tc : Thread nD τ).loc main_arg10)

theorem gates_at (a : Fin 4096) (b : Fin 2048) : (V m c main_v7 : Mat 4096 2048) (ix2 a b) = gate (in2 m c (ix2 a b)) := by
  refine (congrFun (host_gates fun b => m (c, b)) (ix2 a b)).trans ?_
  show Ideal.div (Ideal.ofBits .f32 0x3F800000#32) (Ideal.ofBits .f32 0x3F800000#32 + Ideal.exp (-(in2 m c (ix2 a b)))) = _
  rw [Ideal.ofBits_one_f32]
  rfl

/-- What is read from the arguments. -/
abbrev whole : Rows := wholeRows (in0 m c) (in1 m c) (in2 m c) (in3 m c) (in4 m c) (in5 m c) (in6 m c) (in7 m c) (in8 m c) (in9 m c) (in10 m c)

theorem rows_in : ∀ t : Fin grid0.N, win0_0.index t = ![t.val, 0] ∧ win0_1.index t = ![0, 0] ∧ win0_2.index t = ![t.val, 0] ∧ win0_3.index t = ![t.val, 1]
    ∧ win0_4.index t = ![t.val, 0] ∧ win0_5.index t = ![t.val, 0] ∧ win0_6.index t = ![0, 0] ∧ win0_7.index t = ![0, 0] ∧ win0_8.index t = ![t.val, 0]
    ∧ win0_9.index t = ![0, t.val, 0] ∧ win0_10.index t = ![0, t.val, 0] ∧ win0_11.index t = ![0, t.val, 0] := by
  decide +kernel

theorem flat_at : ∀ t : Fin grid0.N, win0_12.index t = ![t.val, 0] ∧ win0_13.index t = ![t.val, 0] ∧ win0_14.index t = ![t.val, 0] ∧ win0_15.index t = ![t.val, 0]
    ∧ win0_16.index t = ![t.val, 0] := by
  decide +kernel

theorem spread_at : ∀ t : Fin grid0.N, win0_17.index t = ![0, t.val, 0] ∧ win0_18.index t = ![0, t.val, 0] ∧ win0_19.index t = ![0, t.val, 0]
    ∧ win0_20.index t = ![0, t.val, 0] ∧ win0_21.index t = ![0, t.val, 0] ∧ win0_22.index t = ![0, t.val, 0] := by
  decide +kernel

/-- A row of a point's blocks is a row of the arguments. -/
theorem row_block (t : Fin cfg0.N) (i : ℕ) (hi : i < 512) :
    (blockRows (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).row i = (whole m c).row (512 * t.val + i) := by
  obtain ⟨e0, e1, e2, e3, e4, e5, e6, e7, e8, e9, e10, e11⟩ := rows_in t
  have ht : t.val < 8 := t.isLt
  apply Rows.row_eq
  · funext n
    show entry (iblk m c 0 t : Mat 512 1024) i n = entry (in0 m c) (512 * t.val + i) n
    unfold entry
    rw [Nat.mul_comm 512, ofNat_eq hi, ofNat_eq (show t.val * 512 + i < 4096 by omega)]
    refine Eq.trans ?_ (congrFun (V_main_arg0 m c) _)
    blk_ext [iblk, e0]
  · funext k n
    show entry (iblk m c 1 t : Mat 1024 1024) k n = entry (in1 m c) k n
    refine Eq.trans ?_ (congrFun (V_main_arg1 m c) _)
    unfold entry
    blk_ext [iblk, e1]
  · funext n
    show entry (iblk m c 2 t : Mat 512 1024) i n = gate (entry (in2 m c) (512 * t.val + i) (n % 1024))
    unfold entry
    rw [Nat.mul_comm 512, ofNat_eq hi, ofNat_eq (show t.val * 512 + i < 4096 by omega), ofNat_eq (show n % 1024 < 2048 by omega)]
    refine Eq.trans ?_ (gates_at m c _ _)
    blk_ext [iblk, e2]
    rfl
  · funext n
    show entry (iblk m c 3 t : Mat 512 1024) i n = gate (entry (in2 m c) (512 * t.val + i) (1024 + n % 1024))
    unfold entry
    rw [Nat.mul_comm 512, ofNat_eq hi, ofNat_eq (show t.val * 512 + i < 4096 by omega), ofNat_eq (show 1024 + n % 1024 < 2048 by omega)]
    refine Eq.trans ?_ (gates_at m c _ _)
    blk_ext [iblk, e3]
    rfl
  · funext n
    show entry (iblk m c 4 t : Mat 512 1024) i n = entry (in3 m c) (512 * t.val + i) n
    unfold entry
    rw [Nat.mul_comm 512, ofNat_eq hi, ofNat_eq (show t.val * 512 + i < 4096 by omega)]
    refine Eq.trans ?_ (congrFun (V_main_arg3 m c) _)
    blk_ext [iblk, e4]
  · funext n
    show entry (iblk m c 5 t : Mat 512 1024) i n = entry (in4 m c) (512 * t.val + i) n
    unfold entry
    rw [Nat.mul_comm 512, ofNat_eq hi, ofNat_eq (show t.val * 512 + i < 4096 by omega)]
    refine Eq.trans ?_ (congrFun (V_main_arg4 m c) _)
    blk_ext [iblk, e5]
  · funext k n
    show entry (iblk m c 6 t : Mat 1024 512) k n = entry (in5 m c) k n
    refine Eq.trans ?_ (congrFun (V_main_arg5 m c) _)
    unfold entry
    blk_ext [iblk, e6]
  · funext k n
    show entry (iblk m c 7 t : Mat 1024 256) k n = entry (in6 m c) k n
    refine Eq.trans ?_ (congrFun (V_main_arg6 m c) _)
    unfold entry
    blk_ext [iblk, e7]
  · funext n
    show entry (iblk m c 8 t : Mat 512 256) i n = entry (in7 m c) (512 * t.val + i) n
    unfold entry
    rw [Nat.mul_comm 512, ofNat_eq hi, ofNat_eq (show t.val * 512 + i < 4096 by omega)]
    refine Eq.trans ?_ (congrFun (V_main_arg7 m c) _)
    blk_ext [iblk, e8]
  · funext n
    show gathered 1 512 (iblk m c 9 t) i n = gathered 1 4096 (in8 m c) (512 * t.val + i) n
    unfold gathered
    rw [show (512 * t.val + i) % 1 = i % 1 by omega, show (512 * t.val + i) / 1 = t.val * 512 + i / 1 by omega, ofNat_eq (show i / 1 < 512 by omega),
      ofNat_eq (show t.val * 512 + i / 1 < 4096 by omega)]
    refine Eq.trans ?_ (congrFun (V_main_arg8 m c) _)
    blk_ext [iblk, e9]
  · funext n
    show gathered 4 128 (iblk m c 10 t) i n = gathered 4 1024 (in9 m c) (512 * t.val + i) n
    unfold gathered
    rw [show (512 * t.val + i) % 4 = i % 4 by omega, show (512 * t.val + i) / 4 = t.val * 128 + i / 4 by omega, ofNat_eq (show i / 4 < 128 by omega),
      ofNat_eq (show t.val * 128 + i / 4 < 1024 by omega)]
    refine Eq.trans ?_ (congrFun (V_main_arg9 m c) _)
    blk_ext [iblk, e10]
  · funext n
    show gathered 16 32 (iblk m c 11 t) i n = gathered 16 256 (in10 m c) (512 * t.val + i) n
    unfold gathered
    rw [show (512 * t.val + i) % 16 = i % 16 by omega, show (512 * t.val + i) / 16 = t.val * 32 + i / 16 by omega, ofNat_eq (show i / 16 < 32 by omega),
      ofNat_eq (show t.val * 32 + i / 16 < 256 by omega)]
    refine Eq.trans ?_ (congrFun (V_main_arg10 m c) _)
    blk_ext [iblk, e11]

/-! The results. -/

theorem result_dbn : (dats m 0 c).arrAt 12 cfg0.N = (flat (whole m c).dbn : Mat 4096 1024) := by
  refine (dats m 0 c).arrAt_eq_of_covers 12 _ (by decide +kernel) fun t hf y => ?_
  have e := (flat_at t).1
  blk_simp
  rw [after0_12]
  unfold outsAt0
  dsimp only
  rw [out_dbn]
  refine flat_block (t := t.val) y _ (fun i hi n => congrArg (fun R => R.dbn 0 n) (row_block m c t i hi)) ?_ ?_ <;> blk_simp [e]
  exact congrArg (· + _) (Nat.mul_comm _ _)

theorem result_dbd : (dats m 0 c).arrAt 13 cfg0.N = (flat (whole m c).dbd : Mat 4096 1024) := by
  refine (dats m 0 c).arrAt_eq_of_covers 13 _ (by decide +kernel) fun t hf y => ?_
  have e := (flat_at t).2.1
  blk_simp
  rw [after0_13]
  unfold outsAt0
  dsimp only
  rw [out_dbd]
  refine flat_block (t := t.val) y _ (fun i hi n => congrArg (fun R => R.dbd 0 n) (row_block m c t i hi)) ?_ ?_ <;> blk_simp [e]
  exact congrArg (· + _) (Nat.mul_comm _ _)

theorem result_dgn : (dats m 0 c).arrAt 14 cfg0.N = (flat (whole m c).dgn : Mat 4096 1024) := by
  refine (dats m 0 c).arrAt_eq_of_covers 14 _ (by decide +kernel) fun t hf y => ?_
  have e := (flat_at t).2.2.1
  blk_simp
  rw [after0_14]
  unfold outsAt0
  dsimp only
  rw [out_dgn]
  refine flat_block (t := t.val) y _ (fun i hi n => congrArg (fun R => R.dgn 0 n) (row_block m c t i hi)) ?_ ?_ <;> blk_simp [e]
  exact congrArg (· + _) (Nat.mul_comm _ _)

theorem result_dgd : (dats m 0 c).arrAt 15 cfg0.N = (flat (whole m c).dgd : Mat 4096 1024) := by
  refine (dats m 0 c).arrAt_eq_of_covers 15 _ (by decide +kernel) fun t hf y => ?_
  have e := (flat_at t).2.2.2.1
  blk_simp
  rw [after0_15]
  unfold outsAt0
  dsimp only
  rw [out_dgd]
  refine flat_block (t := t.val) y _ (fun i hi n => congrArg (fun R => R.dgd 0 n) (row_block m c t i hi)) ?_ ?_ <;> blk_simp [e]
  exact congrArg (· + _) (Nat.mul_comm _ _)

theorem result_dyna : (dats m 0 c).arrAt 16 cfg0.N = (flat (whole m c).dyna : Mat 4096 512) := by
  refine (dats m 0 c).arrAt_eq_of_covers 16 _ (by decide +kernel) fun t hf y => ?_
  have e := (flat_at t).2.2.2.2
  blk_simp
  rw [after0_16]
  unfold outsAt0
  dsimp only
  rw [out_dyna]
  refine flat_block (t := t.val) y _ (fun i hi n => congrArg (fun R => R.dyna 0 n) (row_block m c t i hi)) ?_ ?_ <;> blk_simp [e]
  exact congrArg (· + _) (Nat.mul_comm _ _)

theorem result_o1 : (dats m 0 c).arrAt 17 cfg0.N = spread 1 4096 (whole m c).o1 := by
  refine (dats m 0 c).arrAt_eq_of_covers 17 _ (by decide +kernel) fun t hf y => ?_
  have e := (spread_at t).1
  blk_simp
  rw [after0_17]
  unfold outsAt0
  dsimp only
  rw [out_o1]
  refine spread_block (t := t.val) y _ (fun i hi n => congrArg (fun R => R.o1 0 n) (row_block m c t i hi)) ?_ ?_ ?_ <;> blk_simp [e]
  exact congrArg (· + _) (Nat.mul_comm _ _)

theorem result_o4 : (dats m 0 c).arrAt 18 cfg0.N = spread 4 1024 (whole m c).o4 := by
  refine (dats m 0 c).arrAt_eq_of_covers 18 _ (by decide +kernel) fun t hf y => ?_
  have e := (spread_at t).2.1
  blk_simp
  rw [after0_18]
  unfold outsAt0
  dsimp only
  rw [out_o4]
  refine spread_block (t := t.val) y _ (fun i hi n => congrArg (fun R => R.o4 0 n) (row_block m c t i hi)) ?_ ?_ ?_ <;> blk_simp [e]
  exact congrArg (· + _) (Nat.mul_comm _ _)

theorem result_o16 : (dats m 0 c).arrAt 19 cfg0.N = spread 16 256 (whole m c).o16 := by
  refine (dats m 0 c).arrAt_eq_of_covers 19 _ (by decide +kernel) fun t hf y => ?_
  have e := (spread_at t).2.2.1
  blk_simp
  rw [after0_19]
  unfold outsAt0
  dsimp only
  rw [out_o16]
  refine spread_block (t := t.val) y _ (fun i hi n => congrArg (fun R => R.o16 0 n) (row_block m c t i hi)) ?_ ?_ ?_ <;> blk_simp [e]
  exact congrArg (· + _) (Nat.mul_comm _ _)

theorem result_c1 : (dats m 0 c).arrAt 20 cfg0.N = spread 1 4096 (whole m c).c1 := by
  refine (dats m 0 c).arrAt_eq_of_covers 20 _ (by decide +kernel) fun t hf y => ?_
  have e := (spread_at t).2.2.2.1
  blk_simp
  rw [after0_20]
  unfold outsAt0
  dsimp only
  rw [out_c1]
  refine spread_block (t := t.val) y _ (fun i hi n => congrArg (fun R => R.c1 0 n) (row_block m c t i hi)) ?_ ?_ ?_ <;> blk_simp [e]
  exact congrArg (· + _) (Nat.mul_comm _ _)

theorem result_c4 : (dats m 0 c).arrAt 21 cfg0.N = spread 4 1024 (whole m c).c4 := by
  refine (dats m 0 c).arrAt_eq_of_covers 21 _ (by decide +kernel) fun t hf y => ?_
  have e := (spread_at t).2.2.2.2.1
  blk_simp
  rw [after0_21]
  unfold outsAt0
  dsimp only
  rw [out_c4]
  refine spread_block (t := t.val) y _ (fun i hi n => congrArg (fun R => R.c4 0 n) (row_block m c t i hi)) ?_ ?_ ?_ <;> blk_simp [e]
  exact congrArg (· + _) (Nat.mul_comm _ _)

theorem result_c16 : (dats m 0 c).arrAt 22 cfg0.N = spread 16 256 (whole m c).c16 := by
  refine (dats m 0 c).arrAt_eq_of_covers 22 _ (by decide +kernel) fun t hf y => ?_
  have e := (spread_at t).2.2.2.2.2
  blk_simp
  rw [after0_22]
  unfold outsAt0
  dsimp only
  rw [out_c16]
  refine spread_block (t := t.val) y _ (fun i hi n => congrArg (fun R => R.c16 0 n) (row_block m c t i hi)) ?_ ?_ ?_ <;> blk_simp [e]
  exact congrArg (· + _) (Nat.mul_comm _ _)

end Cert.Mix

end
-- ==== Proof.Mix.Finite.lean ====
/- The precondition: where it holds, every log-sum is a real number. -/
module

public import proofs.«01_k».proof.Proof.Mix.Ref
public import proofs.«01_k».proof.Proof.Gen.Pre_finite_logsums
public import Idealize.ShloMosaic.Lib.ReduceAll
public import Idealize.ShloMosaic.Lib.Pointwise

@[expose] public section

noncomputable section

namespace Cert.Mix

open Cert.Pre_finite_logsums Cert.Pre_finite_logsums.Gen
open Idealize.ShloMosaic Idealize.ShloMosaic.TcCoe

/-- A test of one array: where the conjunction over its elements holds, each is real. -/
theorem all_real {s : Shape} {b : S_.BroadcastsInDim s (![] : Fin 0 → Fin s.rank)} {axes : List (Fin s.rank)} {hr : s.ReducesTo axes S_} (x : FVec Ideal s .f32)
    (h : Host.reduce IntOp.andi (cmpf .olt (Host.absf x) (broadcastInDim s ![] b (constant (F := Ideal) S_ .f32 0x7F800000#32)))
      (constantI S_ 1 1#1) hr h_S_ = fun _ => 1#1) (i : s.Idx) : ∃ y : ℝ, x i = (y : EReal) := by
  have : Subsingleton S_.Idx := ⟨fun a b => funext fun k => k.elim0⟩
  have h2 := Host.reduce_andi_all _ _ _ _ ix0 (congrFun h ix0) i
  have h3 : Ideal.cmp .olt (max (x i : EReal) (-(x i : EReal))) (Ideal.ofBits .f32 0x7F800000#32) = 1#1 := h2
  have e : Ideal.ofBits .f32 0x7F800000#32 = ⊤ := by simp [Ideal.ofBits, Ideal.ieee]
  rw [e] at h3
  unfold Ideal.cmp at h3
  have hr : ∀ z : EReal, BitVec.ofBool (decide (max z (-z) < ⊤)) = 1#1 → ∃ y : ℝ, z = (y : EReal) := fun z hz => by
    induction z with
    | bot => simp at hz
    | top => simp at hz
    | coe y => exact ⟨y, rfl⟩
  exact hr _ h3

/-- Where the precondition holds, the three groups' log-sums are real. -/
theorem real (x0 : FVec Ideal S4096x1024 .bf16) (x1 : FVec Ideal S1024x1024 .bf16) (x2 : FVec Ideal S4096x2048 .bf16) (x3 x4 : FVec Ideal S4096x1024 .bf16)
    (x5 : FVec Ideal S1024x512 .bf16) (x6 : FVec Ideal S1024x256 .bf16) (x7 : FVec Ideal S4096x256 .f32) (x8 : FVec Ideal S1x4096x256 .f32)
    (x9 : FVec Ideal S4x1024x256 .f32) (x10 : FVec Ideal S16x256x256 .f32) (h : fn (F := Ideal) x0 x1 x2 x3 x4 x5 x6 x7 x8 x9 x10 = fun _ => 1#1) : Real₃ x8 x9 x10 := by
  have hb : ∀ a b : BitVec 1, IntOp.andi a b = 1#1 → a = 1#1 ∧ b = 1#1 := by decide
  have h1 := fun j => hb _ _ (congrFun h j)
  have h2 := fun j => hb _ _ (h1 j).1
  exact ⟨all_real x8 (funext fun j => (h2 j).1), all_real x9 (funext fun j => (h2 j).2), all_real x10 (funext fun j => (h1 j).2)⟩

end Cert.Mix

end
-- ==== Proof.Mix.Result.lean ====
/- The gradient through the mixing: every result of the kernel is the reference's. -/
module

public import proofs.«01_k».proof.Defs
public import proofs.«01_k».proof.Proof.Gen.MixBwdRefIdeal.Run
public import proofs.«01_k».proof.Proof.Mix.Kernel
public import proofs.«01_k».proof.Proof.Mix.Finite

@[expose] public section

set_option maxHeartbeats 4000000

noncomputable section

namespace Cert.Mix

open Cert.MixBwdIdeal Cert.MixBwdIdeal.Gen Idealize.ShloMosaic Idealize.ShloMosaic.TcCoe Idealize.SL.Sem
open Cert.MixBwdRefIdeal.Read (val_main_v71 val_main_v72 val_main_v73 val_main_v74 val_main_v75 val_main_v81 val_main_v87 val_main_v93 val_main_v99 val_main_v105 val_main_v111)

section
variable (m : (l : Loc nD τ sig) → Buf (Elt Ideal) l) (c : Dev nD)

theorem final_dbn : (dats m 0 c).arrAt 12 cfg0.N = val_main_v71 (F := Ideal) (in0 m c) (in1 m c) (in2 m c) :=
  (result_dbn m c).trans (reference_dbn (in0 m c) (in1 m c) (in2 m c) (in3 m c) (in4 m c) (in5 m c) (in6 m c) (in7 m c) (in8 m c) (in9 m c) (in10 m c))
theorem final_dbd : (dats m 0 c).arrAt 13 cfg0.N = val_main_v72 (F := Ideal) (in0 m c) (in1 m c) (in2 m c) :=
  (result_dbd m c).trans (reference_dbd (in0 m c) (in1 m c) (in2 m c) (in3 m c) (in4 m c) (in5 m c) (in6 m c) (in7 m c) (in8 m c) (in9 m c) (in10 m c))
theorem final_dgn : (dats m 0 c).arrAt 14 cfg0.N = val_main_v73 (F := Ideal) (in0 m c) (in1 m c) (in2 m c) (in3 m c) :=
  (result_dgn m c).trans (reference_dgn (in0 m c) (in1 m c) (in2 m c) (in3 m c) (in4 m c) (in5 m c) (in6 m c) (in7 m c) (in8 m c) (in9 m c) (in10 m c))
theorem final_dgd : (dats m 0 c).arrAt 15 cfg0.N = val_main_v74 (F := Ideal) (in0 m c) (in1 m c) (in2 m c) (in4 m c) :=
  (result_dgd m c).trans (reference_dgd (in0 m c) (in1 m c) (in2 m c) (in3 m c) (in4 m c) (in5 m c) (in6 m c) (in7 m c) (in8 m c) (in9 m c) (in10 m c))
theorem final_dyna : (dats m 0 c).arrAt 16 cfg0.N = val_main_v75 (F := Ideal) (in0 m c) (in1 m c) (in2 m c) (in5 m c) :=
  (result_dyna m c).trans (reference_dyna (in0 m c) (in1 m c) (in2 m c) (in3 m c) (in4 m c) (in5 m c) (in6 m c) (in7 m c) (in8 m c) (in9 m c) (in10 m c))
theorem final_o1 (h : Real₃ (in8 m c) (in9 m c) (in10 m c)) : (dats m 0 c).arrAt 17 cfg0.N = val_main_v81 (F := Ideal) (in0 m c) (in1 m c) (in2 m c) (in6 m c) (in8 m c) (in9 m c) (in10 m c) :=
  (result_o1 m c).trans (reference_o1 (in0 m c) (in1 m c) (in2 m c) (in3 m c) (in4 m c) (in5 m c) (in6 m c) (in7 m c) h)
theorem final_o4 (h : Real₃ (in8 m c) (in9 m c) (in10 m c)) : (dats m 0 c).arrAt 18 cfg0.N = val_main_v87 (F := Ideal) (in0 m c) (in1 m c) (in2 m c) (in6 m c) (in8 m c) (in9 m c) (in10 m c) :=
  (result_o4 m c).trans (reference_o4 (in0 m c) (in1 m c) (in2 m c) (in3 m c) (in4 m c) (in5 m c) (in6 m c) (in7 m c) h)
theorem final_o16 (h : Real₃ (in8 m c) (in9 m c) (in10 m c)) : (dats m 0 c).arrAt 19 cfg0.N = val_main_v93 (F := Ideal) (in0 m c) (in1 m c) (in2 m c) (in6 m c) (in8 m c) (in9 m c) (in10 m c) :=
  (result_o16 m c).trans (reference_o16 (in0 m c) (in1 m c) (in2 m c) (in3 m c) (in4 m c) (in5 m c) (in6 m c) (in7 m c) h)
theorem final_c1 (h : Real₃ (in8 m c) (in9 m c) (in10 m c)) : (dats m 0 c).arrAt 20 cfg0.N = val_main_v99 (F := Ideal) (in0 m c) (in1 m c) (in2 m c) (in6 m c) (in7 m c) (in8 m c) (in9 m c) (in10 m c) :=
  (result_c1 m c).trans (reference_c1 (in0 m c) (in1 m c) (in2 m c) (in3 m c) (in4 m c) (in5 m c) (in6 m c) (in7 m c) h)
theorem final_c4 (h : Real₃ (in8 m c) (in9 m c) (in10 m c)) : (dats m 0 c).arrAt 21 cfg0.N = val_main_v105 (F := Ideal) (in0 m c) (in1 m c) (in2 m c) (in6 m c) (in7 m c) (in8 m c) (in9 m c) (in10 m c) :=
  (result_c4 m c).trans (reference_c4 (in0 m c) (in1 m c) (in2 m c) (in3 m c) (in4 m c) (in5 m c) (in6 m c) (in7 m c) h)
theorem final_c16 (h : Real₃ (in8 m c) (in9 m c) (in10 m c)) : (dats m 0 c).arrAt 22 cfg0.N = val_main_v111 (F := Ideal) (in0 m c) (in1 m c) (in2 m c) (in6 m c) (in7 m c) (in8 m c) (in9 m c) (in10 m c) :=
  (result_c16 m c).trans (reference_c16 (in0 m c) (in1 m c) (in2 m c) (in3 m c) (in4 m c) (in5 m c) (in6 m c) (in7 m c) h)
end

theorem frame_mixBwdRef : Cert.quiescent_MixBwdRefIdeal := fun m ρ _ =>
  (θ_run Cert.MixBwdRefIdeal.defs _ _).mono (fun r h => ⟨fun c => (h c).2.2.2.2.2.2.2.2.2.2.2, Idealize.ShloMosaic.sem_eq_zero_of_no_sems (by decide) r.2⟩)
    (Cert.MixBwdRefIdeal.Value.run (F := Ideal) m ρ)

/-- Where the log-sums are finite, what the kernel computes as the gradients of the branches, of the gates' arguments, of the neighbourhood's output and of the three
groups' outputs, and as the row sums of the softmax's gradient, is what the reference does. -/
theorem algebraic_mixBwd : Cert.algebraic_MixBwdIdeal_MixBwdRefIdeal_pre_finite_logsums := by
  intro m g m' g' hpre hagree
  have hr : ∀ c : Dev nD, Real₃ (in8 m c) (in9 m c) (in10 m c) := fun c => real _ _ _ _ _ _ _ _ _ _ _ (hpre c)
  refine ⟨_, _, _, _, _, _, _, _, _, _, _, (θ_run Cert.MixBwdIdeal.defs _ _).mono (fun r h c => ⟨(h c).1.trans (final_dbn m c),
      (h c).2.1.trans (final_dbd m c),
      (h c).2.2.1.trans (final_dgn m c),
      (h c).2.2.2.1.trans (final_dgd m c),
      (h c).2.2.2.2.1.trans (final_dyna m c),
      (h c).2.2.2.2.2.1.trans (final_o1 m c (hr c)),
      (h c).2.2.2.2.2.2.1.trans (final_o4 m c (hr c)),
      (h c).2.2.2.2.2.2.2.1.trans (final_o16 m c (hr c)),
      (h c).2.2.2.2.2.2.2.2.1.trans (final_c1 m c (hr c)),
      (h c).2.2.2.2.2.2.2.2.2.1.trans (final_c4 m c (hr c)),
      (h c).2.2.2.2.2.2.2.2.2.2.1.trans (final_c16 m c (hr c)),
      (h c).2.2.2.2.2.2.2.2.2.2.2⟩) (Cert.MixBwdIdeal.Value.run_blocks m g), ?_⟩
  refine (θ_run Cert.MixBwdRefIdeal.defs _ _).mono (fun r h c => ?_) (Cert.MixBwdRefIdeal.Value.run (F := Ideal) m' g')
  obtain ⟨a0, a1, a2, a3, a4, a5, a6, a7, a8, a9, a10⟩ := hagree c
  refine ⟨((h c).1.trans (Cert.MixBwdRefIdeal.Read.val_main_v71_eq ..)).trans (congr (congr (congrArg (val_main_v71 (F := Ideal)) a0) a1) a2),
    ((h c).2.1.trans (Cert.MixBwdRefIdeal.Read.val_main_v72_eq ..)).trans (congr (congr (congrArg (val_main_v72 (F := Ideal)) a0) a1) a2),
    ((h c).2.2.1.trans (Cert.MixBwdRefIdeal.Read.val_main_v73_eq ..)).trans (congr (congr (congr (congrArg (val_main_v73 (F := Ideal)) a0) a1) a2) a3),
    ((h c).2.2.2.1.trans (Cert.MixBwdRefIdeal.Read.val_main_v74_eq ..)).trans (congr (congr (congr (congrArg (val_main_v74 (F := Ideal)) a0) a1) a2) a4),
    ((h c).2.2.2.2.1.trans (Cert.MixBwdRefIdeal.Read.val_main_v75_eq ..)).trans (congr (congr (congr (congrArg (val_main_v75 (F := Ideal)) a0) a1) a2) a5),
    ((h c).2.2.2.2.2.1.trans (Cert.MixBwdRefIdeal.Read.val_main_v81_eq ..)).trans (congr (congr (congr (congr (congr (congr (congrArg (val_main_v81 (F := Ideal)) a0) a1) a2) a6) a8) a9) a10),
    ((h c).2.2.2.2.2.2.1.trans (Cert.MixBwdRefIdeal.Read.val_main_v87_eq ..)).trans (congr (congr (congr (congr (congr (congr (congrArg (val_main_v87 (F := Ideal)) a0) a1) a2) a6) a8) a9) a10),
    ((h c).2.2.2.2.2.2.2.1.trans (Cert.MixBwdRefIdeal.Read.val_main_v93_eq ..)).trans (congr (congr (congr (congr (congr (congr (congrArg (val_main_v93 (F := Ideal)) a0) a1) a2) a6) a8) a9) a10),
    ((h c).2.2.2.2.2.2.2.2.1.trans (Cert.MixBwdRefIdeal.Read.val_main_v99_eq ..)).trans (congr (congr (congr (congr (congr (congr (congr (congrArg (val_main_v99 (F := Ideal)) a0) a1) a2) a6) a7) a8) a9) a10),
    ((h c).2.2.2.2.2.2.2.2.2.1.trans (Cert.MixBwdRefIdeal.Read.val_main_v105_eq ..)).trans (congr (congr (congr (congr (congr (congr (congr (congrArg (val_main_v105 (F := Ideal)) a0) a1) a2) a6) a7) a8) a9) a10),
    ((h c).2.2.2.2.2.2.2.2.2.2.1.trans (Cert.MixBwdRefIdeal.Read.val_main_v111_eq ..)).trans (congr (congr (congr (congr (congr (congr (congr (congrArg (val_main_v111 (F := Ideal)) a0) a1) a2) a6) a7) a8) a9) a10),
    (h c).2.2.2.2.2.2.2.2.2.2.2⟩

end Cert.Mix

end
-- ==== Proof.lean ====
/- The certificate of the dilated attention's backward kernel against the gradient of the attention as
   plain mathematics. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.BitsLaunch
public import proofs.«01_k».proof.Proof.Launch
public import proofs.«01_k».proof.Proof.Value
public import proofs.«01_k».proof.Proof.Finite
public import proofs.«01_k».proof.Proof.Gen.Up.Frame
public import proofs.«01_k».proof.Proof.Mlp.Up
public import proofs.«01_k».proof.Proof.Gen.UpRefIdeal.Run
public import proofs.«01_k».proof.Proof.Gen.Du.Frame
public import proofs.«01_k».proof.Proof.Mlp.Du
public import proofs.«01_k».proof.Proof.Gen.DuRefIdeal.Run
public import proofs.«01_k».proof.Proof.Gen.GwDown.Frame
public import proofs.«01_k».proof.Proof.Weight.Down
public import proofs.«01_k».proof.Proof.Gen.GwDownRefIdeal.Run
public import proofs.«01_k».proof.Proof.Gen.GwUp.Frame
public import proofs.«01_k».proof.Proof.Weight.Up
public import proofs.«01_k».proof.Proof.Gen.GwUpRefIdeal.Run
public import proofs.«01_k».proof.Proof.Gen.GwIn.Frame
public import proofs.«01_k».proof.Proof.Weight.In
public import proofs.«01_k».proof.Proof.Weight.Out
public import proofs.«01_k».proof.Proof.Weight.Bna
public import proofs.«01_k».proof.Proof.Weight.Bd
public import proofs.«01_k».proof.Proof.Rms.Out
public import proofs.«01_k».proof.Proof.Rms.Dc
public import proofs.«01_k».proof.Proof.Rms.Da
public import proofs.«01_k».proof.Proof.Rms.TailRef
public import proofs.«01_k».proof.Proof.Gen.GwInRefIdeal.Run
public import proofs.«01_k».proof.Proof.Gen.GwOut.Frame
public import proofs.«01_k».proof.Proof.Gen.GwOutRefIdeal.Run
public import proofs.«01_k».proof.Proof.Gen.GwBna.Frame
public import proofs.«01_k».proof.Proof.Gen.GwBnaRefIdeal.Run
public import proofs.«01_k».proof.Proof.Gen.GwBd.Frame
public import proofs.«01_k».proof.Proof.Gen.GwBdRefIdeal.Run
public import proofs.«01_k».proof.Proof.Gen.Out.Frame
public import proofs.«01_k».proof.Proof.Gen.OutRefIdeal.Run
public import proofs.«01_k».proof.Proof.Gen.Dc.Frame
public import proofs.«01_k».proof.Proof.Gen.DcRefIdeal.Run
public import proofs.«01_k».proof.Proof.Gen.Da.Frame
public import proofs.«01_k».proof.Proof.Gen.DaRefIdeal.Run
public import proofs.«01_k».proof.Proof.Gen.TailRefIdeal.Run
public import proofs.«01_k».proof.Proof.Gen.Tail.Frame
public import proofs.«01_k».proof.Proof.Weight.Same
public import proofs.«01_k».proof.Proof.Gen.In.Frame
public import proofs.«01_k».proof.Proof.Rope.Result
public import proofs.«01_k».proof.Proof.Gen.InRefIdeal.Run
public import proofs.«01_k».proof.Proof.Gen.MixBwd.Frame
public import proofs.«01_k».proof.Proof.Gen.MixBwdIdeal.Value
public import proofs.«01_k».proof.Proof.Gen.MixBwdRefIdeal.Run
public import proofs.«01_k».proof.Proof.Gen.MixBwdRefIdeal.Read
public import proofs.«01_k».proof.Proof.Gen.Pre_finite_logsums
public import proofs.«01_k».proof.Proof.Mix.Result
public import Idealize.ShloMosaic.Adequacy
public import Idealize.ShloMosaic.Init

@[expose] public section

noncomputable section

namespace Cert.Proof

open Idealize.ShloMosaic Idealize.SL.Sem

/-- The kernel as compiled runs, keeps its arguments and ends with every counter at zero. -/
theorem frame_kernel : Cert.quiescent_Kernel := fun m ρ _ => Cert.Kernel.Body.frame (F := Bits) m ρ

/-- So does the idealized kernel. -/
theorem frame_kernelIdeal : Cert.quiescent_KernelIdeal := fun m ρ _ => Cert.KernelIdeal.Body.frame (F := Ideal) m ρ

/-- The reference is a straight line of host operations without a semaphore. -/
theorem frame_referenceIdeal : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The idealized kernel is the kernel with its mask constant read as −∞. -/
theorem preserves : Cert.preserves_Kernel_KernelIdeal :=
  IdealRules.named_const.statement Cert.KernelIdeal.κ "mask" .f32 0xF149F2CA#32 ⊥ rfl

open Cert.KernelIdeal.Body in
/-- Where the values and the output's gradient are finite, the idealized kernel's three gradients are the reference's. -/
theorem algebraic : Cert.algebraic_KernelIdeal_ReferenceIdeal_pre_finite := by
  intro m g m' g' hpre hagree
  have hfin := fun c => Cert.Finite.real _ _ _ _ _ (hpre c)
  refine ⟨_, _, _, (θ_run Cert.KernelIdeal.defs _ _).mono (fun r h c => ⟨(h.1.out_eq c 6).trans (out_dq m c (hfin c).1 (hfin c).2),
    (h.1.out_eq c 7).trans (out_dk m c (hfin c).1 (hfin c).2), (h.1.out_eq c 8).trans (out_dv m c), h.2 c⟩)
    (θ_run_and (run_main m g) (Cert.KernelIdeal.Gen.frame_of m g (dats m) (A_eq m) (run_main m g))), ?_⟩
  refine (θ_run Cert.ReferenceIdeal.defs _ _).mono (fun r h c => ?_) (Cert.ReferenceIdeal.Value.run (F := Ideal) m' g')
  obtain ⟨h0, h1, h2, h3⟩ := h c
  obtain ⟨a0, a1, a2, a3, a4⟩ := hagree c
  refine ⟨(h0.trans (Cert.ReferenceIdeal.Read.val_main_v133_eq _)).trans ?_, (h1.trans (Cert.ReferenceIdeal.Read.val_main_v131_eq _)).trans ?_,
    (h2.trans (Cert.ReferenceIdeal.Read.val_main_v129_eq _)).trans ?_, h3⟩
  · exact congr (congr (congr (congr (congrArg (Cert.ReferenceIdeal.Read.val_main_v133 (F := Ideal)) a0) a1) a2) a3) a4
  · exact congr (congr (congr (congr (congrArg (Cert.ReferenceIdeal.Read.val_main_v131 (F := Ideal)) a0) a1) a2) a3) a4
  · exact congr (congr (congrArg (Cert.ReferenceIdeal.Read.val_main_v129 (F := Ideal)) a0) a1) a3

/-! ## The MLP's products and the weights' gradients

Products of matrices over blocks, with the squared positive part or its slope applied to a finished block. -/

theorem frame_upRef : Cert.quiescent_UpRefIdeal := fun m ρ _ =>
  (θ_run Cert.UpRefIdeal.defs _ _).mono (fun r h => ⟨fun c => (h c).2.2, Idealize.ShloMosaic.sem_eq_zero_of_no_sems (by decide) r.2⟩)
    (Cert.UpRefIdeal.Value.run (F := Ideal) m ρ)

/-- What the kernel computes as the hidden units and their activations is what the reference does. -/
theorem algebraic_up : Cert.algebraic_UpIdeal_UpRefIdeal := by
  intro m g m' g' _ hagree
  refine ⟨_, _, (θ_run Cert.UpIdeal.defs _ _).mono (fun r h c => ⟨(h c).1.trans ((Cert.UpIdeal.Mlp.result_unit m c).trans (Cert.UpIdeal.Mlp.reference_unit ..)), (h c).2.1.trans ((Cert.UpIdeal.Mlp.result_act m c).trans (Cert.UpIdeal.Mlp.reference_act ..)), (h c).2.2⟩)
    (Cert.UpIdeal.Value.run_blocks m g), ?_⟩
  refine (θ_run Cert.UpRefIdeal.defs _ _).mono (fun r h c => ?_) (Cert.UpRefIdeal.Value.run (F := Ideal) m' g')
  obtain ⟨a0, a1⟩ := hagree c
  refine ⟨((h c).1.trans (Cert.UpRefIdeal.Read.val_main_v4_eq ..)).trans (congr (congrArg (Cert.UpRefIdeal.Read.val_main_v4 (F := Ideal)) a0) a1), ((h c).2.1.trans (Cert.UpRefIdeal.Read.val_main_v7_eq ..)).trans (congr (congrArg (Cert.UpRefIdeal.Read.val_main_v7 (F := Ideal)) a0) a1), (h c).2.2⟩

theorem frame_duRef : Cert.quiescent_DuRefIdeal := fun m ρ _ =>
  (θ_run Cert.DuRefIdeal.defs _ _).mono (fun r h => ⟨fun c => (h c).2, Idealize.ShloMosaic.sem_eq_zero_of_no_sems (by decide) r.2⟩)
    (Cert.DuRefIdeal.Value.run (F := Ideal) m ρ)

/-- What the kernel computes as the gradient of the hidden units is what the reference does. -/
theorem algebraic_du : Cert.algebraic_DuIdeal_DuRefIdeal := by
  intro m g m' g' _ hagree
  refine ⟨_, (θ_run Cert.DuIdeal.defs _ _).mono (fun r h c => ⟨(h c).1.trans ((Cert.DuIdeal.Mlp.result m c).trans (Cert.DuIdeal.Mlp.reference ..)), (h c).2⟩)
    (Cert.DuIdeal.Value.run_blocks m g), ?_⟩
  refine (θ_run Cert.DuRefIdeal.defs _ _).mono (fun r h c => ?_) (Cert.DuRefIdeal.Value.run (F := Ideal) m' g')
  obtain ⟨a0, a1, a2⟩ := hagree c
  refine ⟨((h c).1.trans (Cert.DuRefIdeal.Read.val_main_v15_eq ..)).trans (congr (congr (congrArg (Cert.DuRefIdeal.Read.val_main_v15 (F := Ideal)) a0) a1) a2), (h c).2⟩

theorem frame_gwDownRef : Cert.quiescent_GwDownRefIdeal := fun m ρ _ =>
  (θ_run Cert.GwDownRefIdeal.defs _ _).mono (fun r h => ⟨fun c => (h c).2, Idealize.ShloMosaic.sem_eq_zero_of_no_sems (by decide) r.2⟩)
    (Cert.GwDownRefIdeal.Value.run (F := Ideal) m ρ)

/-- What the kernel computes as the gradient of the second weight of the MLP is what the reference does. -/
theorem algebraic_gwDown : Cert.algebraic_GwDownIdeal_GwDownRefIdeal := by
  intro m g m' g' _ hagree
  refine ⟨_, (θ_run Cert.GwDownIdeal.defs _ _).mono (fun r h c => ⟨(h c).1.trans ((Cert.GwDownIdeal.Weight.result m c).trans (Cert.GwDownIdeal.Weight.reference ..)), (h c).2⟩)
    (Cert.GwDownIdeal.Value.run_blocks m g), ?_⟩
  refine (θ_run Cert.GwDownRefIdeal.defs _ _).mono (fun r h c => ?_) (Cert.GwDownRefIdeal.Value.run (F := Ideal) m' g')
  obtain ⟨a0, a1⟩ := hagree c
  refine ⟨((h c).1.trans (Cert.GwDownRefIdeal.Read.val_main_v6_eq ..)).trans (congr (congrArg (Cert.GwDownRefIdeal.Read.val_main_v6 (F := Ideal)) a0) a1), (h c).2⟩

theorem frame_gwUpRef : Cert.quiescent_GwUpRefIdeal := fun m ρ _ =>
  (θ_run Cert.GwUpRefIdeal.defs _ _).mono (fun r h => ⟨fun c => (h c).2, Idealize.ShloMosaic.sem_eq_zero_of_no_sems (by decide) r.2⟩)
    (Cert.GwUpRefIdeal.Value.run (F := Ideal) m ρ)

/-- What the kernel computes as the gradient of the first weight of the MLP is what the reference does. -/
theorem algebraic_gwUp : Cert.algebraic_GwUpIdeal_GwUpRefIdeal := by
  intro m g m' g' _ hagree
  refine ⟨_, (θ_run Cert.GwUpIdeal.defs _ _).mono (fun r h c => ⟨(h c).1.trans ((Cert.GwUpIdeal.Weight.result m c).trans (Cert.GwUpIdeal.Weight.reference ..)), (h c).2⟩)
    (Cert.GwUpIdeal.Value.run_blocks m g), ?_⟩
  refine (θ_run Cert.GwUpRefIdeal.defs _ _).mono (fun r h c => ?_) (Cert.GwUpRefIdeal.Value.run (F := Ideal) m' g')
  obtain ⟨a0, a1⟩ := hagree c
  refine ⟨((h c).1.trans (Cert.GwUpRefIdeal.Read.val_main_v7_eq ..)).trans (congr (congrArg (Cert.GwUpRefIdeal.Read.val_main_v7 (F := Ideal)) a0) a1), (h c).2⟩

theorem frame_gwInRef : Cert.quiescent_GwInRefIdeal := fun m ρ _ =>
  (θ_run Cert.GwInRefIdeal.defs _ _).mono (fun r h => ⟨fun c => (h c).2, Idealize.ShloMosaic.sem_eq_zero_of_no_sems (by decide) r.2⟩)
    (Cert.GwInRefIdeal.Value.run (F := Ideal) m ρ)

/-- What the kernel computes as the gradient of the projection into the mixers is what the reference does. -/
theorem algebraic_gwIn : Cert.algebraic_GwInIdeal_GwInRefIdeal := by
  intro m g m' g' _ hagree
  refine ⟨_, (θ_run Cert.GwInIdeal.defs _ _).mono (fun r h c => ⟨(h c).1.trans ((Cert.GwInIdeal.Weight.result m c).trans (Cert.GwInIdeal.Weight.reference ..)), (h c).2⟩)
    (Cert.GwInIdeal.Value.run_blocks m g), ?_⟩
  refine (θ_run Cert.GwInRefIdeal.defs _ _).mono (fun r h c => ?_) (Cert.GwInRefIdeal.Value.run (F := Ideal) m' g')
  obtain ⟨a0, a1⟩ := hagree c
  refine ⟨((h c).1.trans (Cert.GwInRefIdeal.Read.val_main_v7_eq ..)).trans (congr (congrArg (Cert.GwInRefIdeal.Read.val_main_v7 (F := Ideal)) a0) a1), (h c).2⟩

theorem frame_gwOutRef : Cert.quiescent_GwOutRefIdeal := fun m ρ _ =>
  (θ_run Cert.GwOutRefIdeal.defs _ _).mono (fun r h => ⟨fun c => (h c).2, Idealize.ShloMosaic.sem_eq_zero_of_no_sems (by decide) r.2⟩)
    (Cert.GwOutRefIdeal.Value.run (F := Ideal) m ρ)

/-- What the kernel computes as the gradient of the mixers' output weight is what the reference does. -/
theorem algebraic_gwOut : Cert.algebraic_GwOutIdeal_GwOutRefIdeal := by
  intro m g m' g' _ hagree
  refine ⟨_, (θ_run Cert.GwOutIdeal.defs _ _).mono (fun r h c => ⟨(h c).1.trans ((Cert.GwOutIdeal.Weight.result m c).trans (Cert.GwOutIdeal.Weight.reference ..)), (h c).2⟩)
    (Cert.GwOutIdeal.Value.run_blocks m g), ?_⟩
  refine (θ_run Cert.GwOutRefIdeal.defs _ _).mono (fun r h c => ?_) (Cert.GwOutRefIdeal.Value.run (F := Ideal) m' g')
  obtain ⟨a0, a1⟩ := hagree c
  refine ⟨((h c).1.trans (Cert.GwOutRefIdeal.Read.val_main_v6_eq ..)).trans (congr (congrArg (Cert.GwOutRefIdeal.Read.val_main_v6 (F := Ideal)) a0) a1), (h c).2⟩

theorem frame_gwBnaRef : Cert.quiescent_GwBnaRefIdeal := fun m ρ _ =>
  (θ_run Cert.GwBnaRefIdeal.defs _ _).mono (fun r h => ⟨fun c => (h c).2, Idealize.ShloMosaic.sem_eq_zero_of_no_sems (by decide) r.2⟩)
    (Cert.GwBnaRefIdeal.Value.run (F := Ideal) m ρ)

/-- What the kernel computes as the gradient of the neighbourhood branch's weight is what the reference does. -/
theorem algebraic_gwBna : Cert.algebraic_GwBnaIdeal_GwBnaRefIdeal := by
  intro m g m' g' _ hagree
  refine ⟨_, (θ_run Cert.GwBnaIdeal.defs _ _).mono (fun r h c => ⟨(h c).1.trans ((Cert.GwBnaIdeal.Weight.result m c).trans (Cert.GwBnaIdeal.Weight.reference ..)), (h c).2⟩)
    (Cert.GwBnaIdeal.Value.run_blocks m g), ?_⟩
  refine (θ_run Cert.GwBnaRefIdeal.defs _ _).mono (fun r h c => ?_) (Cert.GwBnaRefIdeal.Value.run (F := Ideal) m' g')
  obtain ⟨a0, a1⟩ := hagree c
  refine ⟨((h c).1.trans (Cert.GwBnaRefIdeal.Read.val_main_v7_eq ..)).trans (congr (congrArg (Cert.GwBnaRefIdeal.Read.val_main_v7 (F := Ideal)) a0) a1), (h c).2⟩

theorem frame_gwBdRef : Cert.quiescent_GwBdRefIdeal := fun m ρ _ =>
  (θ_run Cert.GwBdRefIdeal.defs _ _).mono (fun r h => ⟨fun c => (h c).2, Idealize.ShloMosaic.sem_eq_zero_of_no_sems (by decide) r.2⟩)
    (Cert.GwBdRefIdeal.Value.run (F := Ideal) m ρ)

/-- What the kernel computes as the gradient of the dilated branch's weight is what the reference does. -/
theorem algebraic_gwBd : Cert.algebraic_GwBdIdeal_GwBdRefIdeal := by
  intro m g m' g' _ hagree
  refine ⟨_, (θ_run Cert.GwBdIdeal.defs _ _).mono (fun r h c => ⟨(h c).1.trans ((Cert.GwBdIdeal.Weight.result m c).trans (Cert.GwBdIdeal.Weight.reference ..)), (h c).2⟩)
    (Cert.GwBdIdeal.Value.run_blocks m g), ?_⟩
  refine (θ_run Cert.GwBdRefIdeal.defs _ _).mono (fun r h c => ?_) (Cert.GwBdRefIdeal.Value.run (F := Ideal) m' g')
  obtain ⟨a0, a1⟩ := hagree c
  refine ⟨((h c).1.trans (Cert.GwBdRefIdeal.Read.val_main_v7_eq ..)).trans (congr (congrArg (Cert.GwBdRefIdeal.Read.val_main_v7 (F := Ideal)) a0) a1), (h c).2⟩

theorem frame_outRef : Cert.quiescent_OutRefIdeal := fun m ρ _ =>
  (θ_run Cert.OutRefIdeal.defs _ _).mono (fun r h => ⟨fun c => (h c).2.2, Idealize.ShloMosaic.sem_eq_zero_of_no_sems (by decide) r.2⟩)
    (Cert.OutRefIdeal.Value.run (F := Ideal) m ρ)

/-- What the kernel computes as the residual stream after the mixers and its normalisation is what the reference does. -/
theorem algebraic_out : Cert.algebraic_OutIdeal_OutRefIdeal := by
  intro m g m' g' _ hagree
  refine ⟨_, _, (θ_run Cert.OutIdeal.defs _ _).mono (fun r h c => ⟨(h c).1.trans ((Cert.OutIdeal.Rms.result_stream m c).trans (Cert.OutIdeal.Rms.reference_stream ..).symm), (h c).2.1.trans ((Cert.OutIdeal.Rms.result_normed m c).trans (Cert.OutIdeal.Rms.reference_normed ..).symm), (h c).2.2⟩)
    (Cert.OutIdeal.Value.run_blocks m g), ?_⟩
  refine (θ_run Cert.OutRefIdeal.defs _ _).mono (fun r h c => ?_) (Cert.OutRefIdeal.Value.run (F := Ideal) m' g')
  obtain ⟨a0, a1, a2, a3⟩ := hagree c
  refine ⟨((h c).1.trans (Cert.OutRefIdeal.Read.val_main_v3_eq ..)).trans (congr (congr (congrArg (Cert.OutRefIdeal.Read.val_main_v3 (F := Ideal)) a0) a1) a2), ((h c).2.1.trans (Cert.OutRefIdeal.Read.val_main_v16_eq ..)).trans (congr (congr (congr (congrArg (Cert.OutRefIdeal.Read.val_main_v16 (F := Ideal)) a0) a1) a2) a3), (h c).2.2⟩

theorem frame_dcRef : Cert.quiescent_DcRefIdeal := fun m ρ _ =>
  (θ_run Cert.DcRefIdeal.defs _ _).mono (fun r h => ⟨fun c => (h c).2.2.2, Idealize.ShloMosaic.sem_eq_zero_of_no_sems (by decide) r.2⟩)
    (Cert.DcRefIdeal.Value.run (F := Ideal) m ρ)

/-- What the kernel computes as the gradients of the residual stream before the MLP and of the gains there is what the reference does. -/
theorem algebraic_dc : Cert.algebraic_DcIdeal_DcRefIdeal := by
  intro m g m' g' _ hagree
  refine ⟨_, _, _, (θ_run Cert.DcIdeal.defs _ _).mono (fun r h c => ⟨(h c).1.trans ((Cert.DcIdeal.Rms.result_back m c).trans (Cert.DcIdeal.Rms.reference_back ..).symm), (h c).2.1.trans ((Cert.DcIdeal.Rms.result_copy m c).trans (Cert.DcIdeal.Rms.reference_copy ..).symm), (h c).2.2.1.trans ((Cert.DcIdeal.Rms.result_gain m c).trans (Cert.DcIdeal.Rms.reference_gain ..).symm), (h c).2.2.2⟩)
    (Cert.DcIdeal.Value.run_blocks m g), ?_⟩
  refine (θ_run Cert.DcRefIdeal.defs _ _).mono (fun r h c => ?_) (Cert.DcRefIdeal.Value.run (F := Ideal) m' g')
  obtain ⟨a0, a1, a2, a3, a4⟩ := hagree c
  refine ⟨((h c).1.trans (Cert.DcRefIdeal.Read.val_main_v39_eq ..)).trans (congr (congr (congr (congr (congrArg (Cert.DcRefIdeal.Read.val_main_v39 (F := Ideal)) a0) a1) a2) a3) a4), ((h c).2.1.trans (Cert.DcRefIdeal.Read.val_main_v40_eq ..)).trans (congr (congr (congr (congr (congrArg (Cert.DcRefIdeal.Read.val_main_v40 (F := Ideal)) a0) a1) a2) a3) a4), ((h c).2.2.1.trans (Cert.DcRefIdeal.Read.val_main_v22_eq ..)).trans (congr (congr (congrArg (Cert.DcRefIdeal.Read.val_main_v22 (F := Ideal)) a0) a1) a2), (h c).2.2.2⟩

theorem frame_daRef : Cert.quiescent_DaRefIdeal := fun m ρ _ =>
  (θ_run Cert.DaRefIdeal.defs _ _).mono (fun r h => ⟨fun c => (h c).2.2, Idealize.ShloMosaic.sem_eq_zero_of_no_sems (by decide) r.2⟩)
    (Cert.DaRefIdeal.Value.run (F := Ideal) m ρ)

/-- What the kernel computes as the gradients of the step's input and of the gains of its normalisation is what the reference does. -/
theorem algebraic_da : Cert.algebraic_DaIdeal_DaRefIdeal := by
  intro m g m' g' _ hagree
  refine ⟨_, _, (θ_run Cert.DaIdeal.defs _ _).mono (fun r h c => ⟨(h c).1.trans ((Cert.DaIdeal.Rms.result_back m c).trans (Cert.DaIdeal.Rms.reference_back ..).symm), (h c).2.1.trans ((Cert.DaIdeal.Rms.result_gain m c).trans (Cert.DaIdeal.Rms.reference_gain ..).symm), (h c).2.2⟩)
    (Cert.DaIdeal.Value.run_blocks m g), ?_⟩
  refine (θ_run Cert.DaRefIdeal.defs _ _).mono (fun r h c => ?_) (Cert.DaRefIdeal.Value.run (F := Ideal) m' g')
  obtain ⟨a0, a1, a2, a3, a4⟩ := hagree c
  refine ⟨((h c).1.trans (Cert.DaRefIdeal.Read.val_main_v39_eq ..)).trans (congr (congr (congr (congr (congrArg (Cert.DaRefIdeal.Read.val_main_v39 (F := Ideal)) a0) a1) a2) a3) a4), ((h c).2.1.trans (Cert.DaRefIdeal.Read.val_main_v22_eq ..)).trans (congr (congr (congrArg (Cert.DaRefIdeal.Read.val_main_v22 (F := Ideal)) a0) a1) a2), (h c).2.2⟩

theorem frame_tailRef : Cert.quiescent_TailRefIdeal := fun m ρ _ =>
  (θ_run Cert.TailRefIdeal.defs _ _).mono (fun r h => ⟨fun c => (h c).2.2.2.2.2.2.2.2, Idealize.ShloMosaic.sem_eq_zero_of_no_sems (by decide) r.2⟩)
    (Cert.TailRefIdeal.Value.run (F := Ideal) m ρ)

/-- What the kernel computes as the last layer's loss and gradients is what the reference does. -/
theorem algebraic_tail : Cert.algebraic_TailIdeal_TailRefIdeal := by
  intro m g m' g' _ hagree
  refine ⟨_, _, _, _, _, _, _, _, (θ_run Cert.TailIdeal.defs _ _).mono (fun r h c => ⟨(h c).1.trans ((Cert.TailIdeal.Rms.result_normed m c).trans (Cert.TailIdeal.Rms.reference_normed ..).symm),
      (h c).2.1.trans ((Cert.TailIdeal.Rms.result_emb m c).trans (Cert.TailIdeal.Rms.reference_emb ..).symm),
      (h c).2.2.1.trans ((Cert.TailIdeal.Rms.result_logit m c).trans (Cert.TailIdeal.Rms.reference_logit ..).symm),
      (h c).2.2.2.1.trans ((Cert.TailIdeal.Rms.result_stream m c).trans (Cert.TailIdeal.Rms.reference_stream ..).symm),
      (h c).2.2.2.2.1.trans ((Cert.TailIdeal.Rms.result_copy m c).trans (Cert.TailIdeal.Rms.reference_copy ..).symm),
      (h c).2.2.2.2.2.1.trans ((Cert.TailIdeal.Rms.result_last m c).trans (Cert.TailIdeal.Rms.reference_last ..).symm),
      (h c).2.2.2.2.2.2.1.trans ((Cert.TailIdeal.Rms.result_loss m c).trans (Cert.TailIdeal.Rms.reference_loss ..).symm),
      (h c).2.2.2.2.2.2.2.1.trans ((Cert.TailIdeal.Rms.result_ple m c).trans (Cert.TailIdeal.Rms.reference_ple ..).symm), (h c).2.2.2.2.2.2.2.2⟩)
    (Cert.TailIdeal.Value.run_blocks m g), ?_⟩
  refine (θ_run Cert.TailRefIdeal.defs _ _).mono (fun r h c => ?_) (Cert.TailRefIdeal.Value.run (F := Ideal) m' g')
  obtain ⟨a0, a1, a2, a3, a4, a5, a6, a7, a8⟩ := hagree c
  refine ⟨((h c).1.trans (Cert.TailRefIdeal.Read.val_main_v122_eq ..)).trans (congr (congr (congr (congrArg (Cert.TailRefIdeal.Read.val_main_v122 (F := Ideal)) a0) a1) a2) a8),
    ((h c).2.1.trans (Cert.TailRefIdeal.Read.val_main_v123_eq ..)).trans (congr (congr (congr (congr (congr (congr (congr (congr (congrArg (Cert.TailRefIdeal.Read.val_main_v123 (F := Ideal)) a0) a1) a2) a3) a4) a5) a6) a7) a8),
    ((h c).2.2.1.trans (Cert.TailRefIdeal.Read.val_main_v124_eq ..)).trans (congr (congr (congr (congr (congr (congr (congr (congr (congrArg (Cert.TailRefIdeal.Read.val_main_v124 (F := Ideal)) a0) a1) a2) a3) a4) a5) a6) a7) a8),
    ((h c).2.2.2.1.trans (Cert.TailRefIdeal.Read.val_main_v121_eq ..)).trans (congr (congr (congr (congr (congr (congr (congr (congr (congrArg (Cert.TailRefIdeal.Read.val_main_v121 (F := Ideal)) a0) a1) a2) a3) a4) a5) a6) a7) a8),
    ((h c).2.2.2.2.1.trans (Cert.TailRefIdeal.Read.val_main_v125_eq ..)).trans (congr (congr (congr (congr (congr (congr (congr (congr (congrArg (Cert.TailRefIdeal.Read.val_main_v125 (F := Ideal)) a0) a1) a2) a3) a4) a5) a6) a7) a8),
    ((h c).2.2.2.2.2.1.trans (Cert.TailRefIdeal.Read.val_main_v65_eq ..)).trans (congr (congr (congr (congr (congr (congr (congr (congr (congrArg (Cert.TailRefIdeal.Read.val_main_v65 (F := Ideal)) a0) a1) a2) a3) a4) a5) a6) a7) a8),
    ((h c).2.2.2.2.2.2.1.trans (Cert.TailRefIdeal.Read.val_main_v126_eq ..)).trans (congr (congr (congr (congr (congr (congr (congr (congr (congrArg (Cert.TailRefIdeal.Read.val_main_v126 (F := Ideal)) a0) a1) a2) a3) a4) a5) a6) a7) a8),
    ((h c).2.2.2.2.2.2.2.1.trans (Cert.TailRefIdeal.Read.val_main_v104_eq ..)).trans (congr (congr (congr (congr (congr (congr (congr (congr (congrArg (Cert.TailRefIdeal.Read.val_main_v104 (F := Ideal)) a0) a1) a2) a3) a4) a5) a6) a7) a8), (h c).2.2.2.2.2.2.2.2⟩

theorem claim : Cert.Claim := ⟨Cert.Kernel.Gen.facts, Cert.KernelIdeal.Gen.facts, Cert.ReferenceIdeal.Gen.facts,
  Cert.Up.Gen.facts, Cert.UpIdeal.Gen.facts, Cert.UpRefIdeal.Gen.facts,
  Cert.Du.Gen.facts, Cert.DuIdeal.Gen.facts, Cert.DuRefIdeal.Gen.facts,
  Cert.GwDown.Gen.facts, Cert.GwDownIdeal.Gen.facts, Cert.GwDownRefIdeal.Gen.facts,
  Cert.GwUp.Gen.facts, Cert.GwUpIdeal.Gen.facts, Cert.GwUpRefIdeal.Gen.facts,
  Cert.GwIn.Gen.facts, Cert.GwInIdeal.Gen.facts, Cert.GwInRefIdeal.Gen.facts,
  Cert.GwOut.Gen.facts, Cert.GwOutIdeal.Gen.facts, Cert.GwOutRefIdeal.Gen.facts,
  Cert.GwBna.Gen.facts, Cert.GwBnaIdeal.Gen.facts, Cert.GwBnaRefIdeal.Gen.facts,
  Cert.GwBd.Gen.facts, Cert.GwBdIdeal.Gen.facts, Cert.GwBdRefIdeal.Gen.facts,
  Cert.Out.Gen.facts, Cert.OutIdeal.Gen.facts, Cert.OutRefIdeal.Gen.facts,
  Cert.Dc.Gen.facts, Cert.DcIdeal.Gen.facts, Cert.DcRefIdeal.Gen.facts,
  Cert.Da.Gen.facts, Cert.DaIdeal.Gen.facts, Cert.DaRefIdeal.Gen.facts,
  Cert.Tail.Gen.facts, Cert.TailIdeal.Gen.facts, Cert.TailRefIdeal.Gen.facts,
  Cert.GwPg.Gen.facts, Cert.GwPgIdeal.Gen.facts, Cert.GwPgRefIdeal.Gen.facts,
  Cert.GwPp.Gen.facts, Cert.GwPpIdeal.Gen.facts, Cert.GwPpRefIdeal.Gen.facts,
  Cert.In.Gen.facts, Cert.InIdeal.Gen.facts, Cert.InRefIdeal.Gen.facts,
  Cert.MixBwd.Gen.facts, Cert.MixBwdIdeal.Gen.facts, Cert.MixBwdRefIdeal.Gen.facts,
  Cert.Pre_finite.Gen.facts, Cert.Pre_finite_logsums.Gen.facts,
  frame_kernel, frame_kernelIdeal, fun m ρ _ => Cert.KernelIdeal.Body.frame (F := Ideal) m ρ, frame_referenceIdeal,
  fun m ρ _ => frame_referenceIdeal m ρ trivial,
  fun m ρ _ => Cert.Up.Gen.frame (F := Bits) m ρ, fun m ρ _ => Cert.UpIdeal.Gen.frame (F := Ideal) m ρ, frame_upRef,
  fun m ρ _ => Cert.Du.Gen.frame (F := Bits) m ρ, fun m ρ _ => Cert.DuIdeal.Gen.frame (F := Ideal) m ρ, frame_duRef,
  fun m ρ _ => Cert.GwDown.Gen.frame (F := Bits) m ρ, fun m ρ _ => Cert.GwDownIdeal.Gen.frame (F := Ideal) m ρ, frame_gwDownRef,
  fun m ρ _ => Cert.GwUp.Gen.frame (F := Bits) m ρ, fun m ρ _ => Cert.GwUpIdeal.Gen.frame (F := Ideal) m ρ, frame_gwUpRef,
  fun m ρ _ => Cert.GwIn.Gen.frame (F := Bits) m ρ, fun m ρ _ => Cert.GwInIdeal.Gen.frame (F := Ideal) m ρ, frame_gwInRef,
  fun m ρ _ => Cert.GwOut.Gen.frame (F := Bits) m ρ, fun m ρ _ => Cert.GwOutIdeal.Gen.frame (F := Ideal) m ρ, frame_gwOutRef,
  fun m ρ _ => Cert.GwBna.Gen.frame (F := Bits) m ρ, fun m ρ _ => Cert.GwBnaIdeal.Gen.frame (F := Ideal) m ρ, frame_gwBnaRef,
  fun m ρ _ => Cert.GwBd.Gen.frame (F := Bits) m ρ, fun m ρ _ => Cert.GwBdIdeal.Gen.frame (F := Ideal) m ρ, frame_gwBdRef,
  fun m ρ _ => Cert.Out.Gen.frame (F := Bits) m ρ, fun m ρ _ => Cert.OutIdeal.Gen.frame (F := Ideal) m ρ, frame_outRef,
  fun m ρ _ => Cert.Dc.Gen.frame (F := Bits) m ρ, fun m ρ _ => Cert.DcIdeal.Gen.frame (F := Ideal) m ρ, frame_dcRef,
  fun m ρ _ => Cert.Da.Gen.frame (F := Bits) m ρ, fun m ρ _ => Cert.DaIdeal.Gen.frame (F := Ideal) m ρ, frame_daRef,
  fun m ρ _ => Cert.Tail.Gen.frame (F := Bits) m ρ, fun m ρ _ => Cert.TailIdeal.Gen.frame (F := Ideal) m ρ, frame_tailRef,
  Cert.Weight.frame_gwPg fun m ρ _ => Cert.GwOut.Gen.frame (F := Bits) m ρ,
  Cert.Weight.frame_gwPgIdeal fun m ρ _ => Cert.GwOutIdeal.Gen.frame (F := Ideal) m ρ, Cert.Weight.frame_gwPgRef frame_gwOutRef,
  Cert.Weight.frame_gwPp fun m ρ _ => Cert.GwBd.Gen.frame (F := Bits) m ρ,
  Cert.Weight.frame_gwPpIdeal fun m ρ _ => Cert.GwBdIdeal.Gen.frame (F := Ideal) m ρ, Cert.Weight.frame_gwPpRef frame_gwBdRef,
  fun m ρ _ => Cert.In.Gen.frame (F := Bits) m ρ, fun m ρ _ => Cert.InIdeal.Gen.frame (F := Ideal) m ρ, Cert.Rope.frame_inRef,
  fun m ρ _ => Cert.MixBwd.Gen.frame (F := Bits) m ρ, fun m ρ _ => Cert.MixBwdIdeal.Gen.frame (F := Ideal) m ρ,
  fun m ρ _ => Cert.MixBwdIdeal.Gen.frame (F := Ideal) m ρ, Cert.Mix.frame_mixBwdRef, fun m ρ _ => Cert.Mix.frame_mixBwdRef m ρ trivial,
  preserves, algebraic,
  trivial, algebraic_up, trivial, algebraic_du, trivial, algebraic_gwDown,
  trivial, algebraic_gwUp, trivial, algebraic_gwIn, trivial, algebraic_gwOut,
  trivial, algebraic_gwBna, trivial, algebraic_gwBd, trivial, algebraic_out,
  trivial, algebraic_dc, trivial, algebraic_da, trivial, algebraic_tail,
  trivial, Cert.Weight.algebraic_gwPg algebraic_gwOut, trivial, Cert.Weight.algebraic_gwPp algebraic_gwBd,
  trivial, Cert.Rope.algebraic_in, trivial, Cert.Mix.algebraic_mixBwd⟩

end Cert.Proof

end
